-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.2.2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.2.2.2.2.2.2.2.2.2 = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11))).1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11))).2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11))).2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11))).2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11))).2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11))).2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11))).2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11))).2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11))).2.2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11))).2.2.2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11))).2.2.2.2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11))).2.2.2.2.2.2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_proj_finite [hPre_proj_finite : Cert.Pre_proj_finite.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_proj_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10))).1 = (fun _ => 1#1)
    ∧ (Cert.Pre_proj_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10))).2.1 = (fun _ => 1#1)
    ∧ (Cert.Pre_proj_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10))).2.2.1 = (fun _ => 1#1)
    ∧ (Cert.Pre_proj_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10))).2.2.2 = (fun _ => 1#1)

def Pre_MixFwdReferenceIdeal (m : (ℓ : Loc Cert.MixFwdReferenceIdeal.nD Cert.MixFwdReferenceIdeal.τ Cert.MixFwdReferenceIdeal.sig) → Buf (Elt Ideal) ℓ) : Prop :=
  True

def Pre_MixFwdReferenceIdeal_proj_finite [hPre_proj_finite : Cert.Pre_proj_finite.Facts] (m : (ℓ : Loc Cert.MixFwdReferenceIdeal.nD Cert.MixFwdReferenceIdeal.τ Cert.MixFwdReferenceIdeal.sig) → Buf (Elt Ideal) ℓ) : Prop :=
  ∀ c : Dev Cert.MixFwdReferenceIdeal.nD,
    (Cert.Pre_proj_finite.fn (F := Ideal) (m ((c.tc : Thread Cert.MixFwdReferenceIdeal.nD Cert.MixFwdReferenceIdeal.τ).loc Cert.MixFwdReferenceIdeal.main_arg0)) (m ((c.tc : Thread Cert.MixFwdReferenceIdeal.nD Cert.MixFwdReferenceIdeal.τ).loc Cert.MixFwdReferenceIdeal.main_arg1)) (m ((c.tc : Thread Cert.MixFwdReferenceIdeal.nD Cert.MixFwdReferenceIdeal.τ).loc Cert.MixFwdReferenceIdeal.main_arg2)) (m ((c.tc : Thread Cert.MixFwdReferenceIdeal.nD Cert.MixFwdReferenceIdeal.τ).loc Cert.MixFwdReferenceIdeal.main_arg3)) (m ((c.tc : Thread Cert.MixFwdReferenceIdeal.nD Cert.MixFwdReferenceIdeal.τ).loc Cert.MixFwdReferenceIdeal.main_arg4)) (m ((c.tc : Thread Cert.MixFwdReferenceIdeal.nD Cert.MixFwdReferenceIdeal.τ).loc Cert.MixFwdReferenceIdeal.main_arg5)) (m ((c.tc : Thread Cert.MixFwdReferenceIdeal.nD Cert.MixFwdReferenceIdeal.τ).loc Cert.MixFwdReferenceIdeal.main_arg6)) (m ((c.tc : Thread Cert.MixFwdReferenceIdeal.nD Cert.MixFwdReferenceIdeal.τ).loc Cert.MixFwdReferenceIdeal.main_arg7)) (m ((c.tc : Thread Cert.MixFwdReferenceIdeal.nD Cert.MixFwdReferenceIdeal.τ).loc Cert.MixFwdReferenceIdeal.main_arg8)) (m ((c.tc : Thread Cert.MixFwdReferenceIdeal.nD Cert.MixFwdReferenceIdeal.τ).loc Cert.MixFwdReferenceIdeal.main_arg9)) (m ((c.tc : Thread Cert.MixFwdReferenceIdeal.nD Cert.MixFwdReferenceIdeal.τ).loc Cert.MixFwdReferenceIdeal.main_arg10))).1 = (fun _ => 1#1)
    ∧ (Cert.Pre_proj_finite.fn (F := Ideal) (m ((c.tc : Thread Cert.MixFwdReferenceIdeal.nD Cert.MixFwdReferenceIdeal.τ).loc Cert.MixFwdReferenceIdeal.main_arg0)) (m ((c.tc : Thread Cert.MixFwdReferenceIdeal.nD Cert.MixFwdReferenceIdeal.τ).loc Cert.MixFwdReferenceIdeal.main_arg1)) (m ((c.tc : Thread Cert.MixFwdReferenceIdeal.nD Cert.MixFwdReferenceIdeal.τ).loc Cert.MixFwdReferenceIdeal.main_arg2)) (m ((c.tc : Thread Cert.MixFwdReferenceIdeal.nD Cert.MixFwdReferenceIdeal.τ).loc Cert.MixFwdReferenceIdeal.main_arg3)) (m ((c.tc : Thread Cert.MixFwdReferenceIdeal.nD Cert.MixFwdReferenceIdeal.τ).loc Cert.MixFwdReferenceIdeal.main_arg4)) (m ((c.tc : Thread Cert.MixFwdReferenceIdeal.nD Cert.MixFwdReferenceIdeal.τ).loc Cert.MixFwdReferenceIdeal.main_arg5)) (m ((c.tc : Thread Cert.MixFwdReferenceIdeal.nD Cert.MixFwdReferenceIdeal.τ).loc Cert.MixFwdReferenceIdeal.main_arg6)) (m ((c.tc : Thread Cert.MixFwdReferenceIdeal.nD Cert.MixFwdReferenceIdeal.τ).loc Cert.MixFwdReferenceIdeal.main_arg7)) (m ((c.tc : Thread Cert.MixFwdReferenceIdeal.nD Cert.MixFwdReferenceIdeal.τ).loc Cert.MixFwdReferenceIdeal.main_arg8)) (m ((c.tc : Thread Cert.MixFwdReferenceIdeal.nD Cert.MixFwdReferenceIdeal.τ).loc Cert.MixFwdReferenceIdeal.main_arg9)) (m ((c.tc : Thread Cert.MixFwdReferenceIdeal.nD Cert.MixFwdReferenceIdeal.τ).loc Cert.MixFwdReferenceIdeal.main_arg10))).2.1 = (fun _ => 1#1)
    ∧ (Cert.Pre_proj_finite.fn (F := Ideal) (m ((c.tc : Thread Cert.MixFwdReferenceIdeal.nD Cert.MixFwdReferenceIdeal.τ).loc Cert.MixFwdReferenceIdeal.main_arg0)) (m ((c.tc : Thread Cert.MixFwdReferenceIdeal.nD Cert.MixFwdReferenceIdeal.τ).loc Cert.MixFwdReferenceIdeal.main_arg1)) (m ((c.tc : Thread Cert.MixFwdReferenceIdeal.nD Cert.MixFwdReferenceIdeal.τ).loc Cert.MixFwdReferenceIdeal.main_arg2)) (m ((c.tc : Thread Cert.MixFwdReferenceIdeal.nD Cert.MixFwdReferenceIdeal.τ).loc Cert.MixFwdReferenceIdeal.main_arg3)) (m ((c.tc : Thread Cert.MixFwdReferenceIdeal.nD Cert.MixFwdReferenceIdeal.τ).loc Cert.MixFwdReferenceIdeal.main_arg4)) (m ((c.tc : Thread Cert.MixFwdReferenceIdeal.nD Cert.MixFwdReferenceIdeal.τ).loc Cert.MixFwdReferenceIdeal.main_arg5)) (m ((c.tc : Thread Cert.MixFwdReferenceIdeal.nD Cert.MixFwdReferenceIdeal.τ).loc Cert.MixFwdReferenceIdeal.main_arg6)) (m ((c.tc : Thread Cert.MixFwdReferenceIdeal.nD Cert.MixFwdReferenceIdeal.τ).loc Cert.MixFwdReferenceIdeal.main_arg7)) (m ((c.tc : Thread Cert.MixFwdReferenceIdeal.nD Cert.MixFwdReferenceIdeal.τ).loc Cert.MixFwdReferenceIdeal.main_arg8)) (m ((c.tc : Thread Cert.MixFwdReferenceIdeal.nD Cert.MixFwdReferenceIdeal.τ).loc Cert.MixFwdReferenceIdeal.main_arg9)) (m ((c.tc : Thread Cert.MixFwdReferenceIdeal.nD Cert.MixFwdReferenceIdeal.τ).loc Cert.MixFwdReferenceIdeal.main_arg10))).2.2.1 = (fun _ => 1#1)
    ∧ (Cert.Pre_proj_finite.fn (F := Ideal) (m ((c.tc : Thread Cert.MixFwdReferenceIdeal.nD Cert.MixFwdReferenceIdeal.τ).loc Cert.MixFwdReferenceIdeal.main_arg0)) (m ((c.tc : Thread Cert.MixFwdReferenceIdeal.nD Cert.MixFwdReferenceIdeal.τ).loc Cert.MixFwdReferenceIdeal.main_arg1)) (m ((c.tc : Thread Cert.MixFwdReferenceIdeal.nD Cert.MixFwdReferenceIdeal.τ).loc Cert.MixFwdReferenceIdeal.main_arg2)) (m ((c.tc : Thread Cert.MixFwdReferenceIdeal.nD Cert.MixFwdReferenceIdeal.τ).loc Cert.MixFwdReferenceIdeal.main_arg3)) (m ((c.tc : Thread Cert.MixFwdReferenceIdeal.nD Cert.MixFwdReferenceIdeal.τ).loc Cert.MixFwdReferenceIdeal.main_arg4)) (m ((c.tc : Thread Cert.MixFwdReferenceIdeal.nD Cert.MixFwdReferenceIdeal.τ).loc Cert.MixFwdReferenceIdeal.main_arg5)) (m ((c.tc : Thread Cert.MixFwdReferenceIdeal.nD Cert.MixFwdReferenceIdeal.τ).loc Cert.MixFwdReferenceIdeal.main_arg6)) (m ((c.tc : Thread Cert.MixFwdReferenceIdeal.nD Cert.MixFwdReferenceIdeal.τ).loc Cert.MixFwdReferenceIdeal.main_arg7)) (m ((c.tc : Thread Cert.MixFwdReferenceIdeal.nD Cert.MixFwdReferenceIdeal.τ).loc Cert.MixFwdReferenceIdeal.main_arg8)) (m ((c.tc : Thread Cert.MixFwdReferenceIdeal.nD Cert.MixFwdReferenceIdeal.τ).loc Cert.MixFwdReferenceIdeal.main_arg9)) (m ((c.tc : Thread Cert.MixFwdReferenceIdeal.nD Cert.MixFwdReferenceIdeal.τ).loc Cert.MixFwdReferenceIdeal.main_arg10))).2.2.2 = (fun _ => 1#1)

def Pre_Wup (m : (ℓ : Loc Cert.Wup.nD Cert.Wup.τ Cert.Wup.sig) → Buf (Elt Bits) ℓ) : Prop :=
  True

def Pre_WupIdeal (m : (ℓ : Loc Cert.WupIdeal.nD Cert.WupIdeal.τ Cert.WupIdeal.sig) → Buf (Elt Ideal) ℓ) : Prop :=
  True

def Pre_WupReferenceIdeal (m : (ℓ : Loc Cert.WupReferenceIdeal.nD Cert.WupReferenceIdeal.τ Cert.WupReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ r.2.sem = fun _ => 0)

def quiescent_MixFwdIdeal_pre_proj_finite [hMixFwdIdeal : Cert.MixFwdIdeal.Facts] [hPre_proj_finite : Cert.Pre_proj_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_proj_finite m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ r.2.sem = fun _ => 0)

def quiescent_MixFwdReferenceIdeal [hMixFwdReferenceIdeal : Cert.MixFwdReferenceIdeal.Facts] : Prop :=
  ∀ (m : (ℓ : Loc Cert.MixFwdReferenceIdeal.nD Cert.MixFwdReferenceIdeal.τ Cert.MixFwdReferenceIdeal.sig) → Buf (Elt Ideal) ℓ) (g : Dev Cert.MixFwdReferenceIdeal.nD → PrngReg), Pre_MixFwdReferenceIdeal m →
    θ_run (Cert.MixFwdReferenceIdeal.defs (F := Ideal)) (onTc (τ := Cert.MixFwdReferenceIdeal.τ) (Cert.MixFwdReferenceIdeal.main (F := Ideal))) ⟨m, fun _ => 0, g⟩ (fun r => (∀ c : Dev Cert.MixFwdReferenceIdeal.nD,
      r.2.mem ((c.tc : Thread Cert.MixFwdReferenceIdeal.nD Cert.MixFwdReferenceIdeal.τ).loc Cert.MixFwdReferenceIdeal.main_arg0) = m ((c.tc : Thread Cert.MixFwdReferenceIdeal.nD Cert.MixFwdReferenceIdeal.τ).loc Cert.MixFwdReferenceIdeal.main_arg0)
      ∧ r.2.mem ((c.tc : Thread Cert.MixFwdReferenceIdeal.nD Cert.MixFwdReferenceIdeal.τ).loc Cert.MixFwdReferenceIdeal.main_arg1) = m ((c.tc : Thread Cert.MixFwdReferenceIdeal.nD Cert.MixFwdReferenceIdeal.τ).loc Cert.MixFwdReferenceIdeal.main_arg1)
      ∧ r.2.mem ((c.tc : Thread Cert.MixFwdReferenceIdeal.nD Cert.MixFwdReferenceIdeal.τ).loc Cert.MixFwdReferenceIdeal.main_arg2) = m ((c.tc : Thread Cert.MixFwdReferenceIdeal.nD Cert.MixFwdReferenceIdeal.τ).loc Cert.MixFwdReferenceIdeal.main_arg2)
      ∧ r.2.mem ((c.tc : Thread Cert.MixFwdReferenceIdeal.nD Cert.MixFwdReferenceIdeal.τ).loc Cert.MixFwdReferenceIdeal.main_arg3) = m ((c.tc : Thread Cert.MixFwdReferenceIdeal.nD Cert.MixFwdReferenceIdeal.τ).loc Cert.MixFwdReferenceIdeal.main_arg3)
      ∧ r.2.mem ((c.tc : Thread Cert.MixFwdReferenceIdeal.nD Cert.MixFwdReferenceIdeal.τ).loc Cert.MixFwdReferenceIdeal.main_arg4) = m ((c.tc : Thread Cert.MixFwdReferenceIdeal.nD Cert.MixFwdReferenceIdeal.τ).loc Cert.MixFwdReferenceIdeal.main_arg4)
      ∧ r.2.mem ((c.tc : Thread Cert.MixFwdReferenceIdeal.nD Cert.MixFwdReferenceIdeal.τ).loc Cert.MixFwdReferenceIdeal.main_arg5) = m ((c.tc : Thread Cert.MixFwdReferenceIdeal.nD Cert.MixFwdReferenceIdeal.τ).loc Cert.MixFwdReferenceIdeal.main_arg5)
      ∧ r.2.mem ((c.tc : Thread Cert.MixFwdReferenceIdeal.nD Cert.MixFwdReferenceIdeal.τ).loc Cert.MixFwdReferenceIdeal.main_arg6) = m ((c.tc : Thread Cert.MixFwdReferenceIdeal.nD Cert.MixFwdReferenceIdeal.τ).loc Cert.MixFwdReferenceIdeal.main_arg6)
      ∧ r.2.mem ((c.tc : Thread Cert.MixFwdReferenceIdeal.nD Cert.MixFwdReferenceIdeal.τ).loc Cert.MixFwdReferenceIdeal.main_arg7) = m ((c.tc : Thread Cert.MixFwdReferenceIdeal.nD Cert.MixFwdReferenceIdeal.τ).loc Cert.MixFwdReferenceIdeal.main_arg7)
      ∧ r.2.mem ((c.tc : Thread Cert.MixFwdReferenceIdeal.nD Cert.MixFwdReferenceIdeal.τ).loc Cert.MixFwdReferenceIdeal.main_arg8) = m ((c.tc : Thread Cert.MixFwdReferenceIdeal.nD Cert.MixFwdReferenceIdeal.τ).loc Cert.MixFwdReferenceIdeal.main_arg8)
      ∧ r.2.mem ((c.tc : Thread Cert.MixFwdReferenceIdeal.nD Cert.MixFwdReferenceIdeal.τ).loc Cert.MixFwdReferenceIdeal.main_arg9) = m ((c.tc : Thread Cert.MixFwdReferenceIdeal.nD Cert.MixFwdReferenceIdeal.τ).loc Cert.MixFwdReferenceIdeal.main_arg9)
      ∧ r.2.mem ((c.tc : Thread Cert.MixFwdReferenceIdeal.nD Cert.MixFwdReferenceIdeal.τ).loc Cert.MixFwdReferenceIdeal.main_arg10) = m ((c.tc : Thread Cert.MixFwdReferenceIdeal.nD Cert.MixFwdReferenceIdeal.τ).loc Cert.MixFwdReferenceIdeal.main_arg10))
      ∧ r.2.sem = fun _ => 0)

def quiescent_MixFwdReferenceIdeal_pre_proj_finite [hMixFwdReferenceIdeal : Cert.MixFwdReferenceIdeal.Facts] [hPre_proj_finite : Cert.Pre_proj_finite.Facts] : Prop :=
  ∀ (m : (ℓ : Loc Cert.MixFwdReferenceIdeal.nD Cert.MixFwdReferenceIdeal.τ Cert.MixFwdReferenceIdeal.sig) → Buf (Elt Ideal) ℓ) (g : Dev Cert.MixFwdReferenceIdeal.nD → PrngReg), Pre_MixFwdReferenceIdeal_proj_finite m →
    θ_run (Cert.MixFwdReferenceIdeal.defs (F := Ideal)) (onTc (τ := Cert.MixFwdReferenceIdeal.τ) (Cert.MixFwdReferenceIdeal.main (F := Ideal))) ⟨m, fun _ => 0, g⟩ (fun r => (∀ c : Dev Cert.MixFwdReferenceIdeal.nD,
      r.2.mem ((c.tc : Thread Cert.MixFwdReferenceIdeal.nD Cert.MixFwdReferenceIdeal.τ).loc Cert.MixFwdReferenceIdeal.main_arg0) = m ((c.tc : Thread Cert.MixFwdReferenceIdeal.nD Cert.MixFwdReferenceIdeal.τ).loc Cert.MixFwdReferenceIdeal.main_arg0)
      ∧ r.2.mem ((c.tc : Thread Cert.MixFwdReferenceIdeal.nD Cert.MixFwdReferenceIdeal.τ).loc Cert.MixFwdReferenceIdeal.main_arg1) = m ((c.tc : Thread Cert.MixFwdReferenceIdeal.nD Cert.MixFwdReferenceIdeal.τ).loc Cert.MixFwdReferenceIdeal.main_arg1)
      ∧ r.2.mem ((c.tc : Thread Cert.MixFwdReferenceIdeal.nD Cert.MixFwdReferenceIdeal.τ).loc Cert.MixFwdReferenceIdeal.main_arg2) = m ((c.tc : Thread Cert.MixFwdReferenceIdeal.nD Cert.MixFwdReferenceIdeal.τ).loc Cert.MixFwdReferenceIdeal.main_arg2)
      ∧ r.2.mem ((c.tc : Thread Cert.MixFwdReferenceIdeal.nD Cert.MixFwdReferenceIdeal.τ).loc Cert.MixFwdReferenceIdeal.main_arg3) = m ((c.tc : Thread Cert.MixFwdReferenceIdeal.nD Cert.MixFwdReferenceIdeal.τ).loc Cert.MixFwdReferenceIdeal.main_arg3)
      ∧ r.2.mem ((c.tc : Thread Cert.MixFwdReferenceIdeal.nD Cert.MixFwdReferenceIdeal.τ).loc Cert.MixFwdReferenceIdeal.main_arg4) = m ((c.tc : Thread Cert.MixFwdReferenceIdeal.nD Cert.MixFwdReferenceIdeal.τ).loc Cert.MixFwdReferenceIdeal.main_arg4)
      ∧ r.2.mem ((c.tc : Thread Cert.MixFwdReferenceIdeal.nD Cert.MixFwdReferenceIdeal.τ).loc Cert.MixFwdReferenceIdeal.main_arg5) = m ((c.tc : Thread Cert.MixFwdReferenceIdeal.nD Cert.MixFwdReferenceIdeal.τ).loc Cert.MixFwdReferenceIdeal.main_arg5)
      ∧ r.2.mem ((c.tc : Thread Cert.MixFwdReferenceIdeal.nD Cert.MixFwdReferenceIdeal.τ).loc Cert.MixFwdReferenceIdeal.main_arg6) = m ((c.tc : Thread Cert.MixFwdReferenceIdeal.nD Cert.MixFwdReferenceIdeal.τ).loc Cert.MixFwdReferenceIdeal.main_arg6)
      ∧ r.2.mem ((c.tc : Thread Cert.MixFwdReferenceIdeal.nD Cert.MixFwdReferenceIdeal.τ).loc Cert.MixFwdReferenceIdeal.main_arg7) = m ((c.tc : Thread Cert.MixFwdReferenceIdeal.nD Cert.MixFwdReferenceIdeal.τ).loc Cert.MixFwdReferenceIdeal.main_arg7)
      ∧ r.2.mem ((c.tc : Thread Cert.MixFwdReferenceIdeal.nD Cert.MixFwdReferenceIdeal.τ).loc Cert.MixFwdReferenceIdeal.main_arg8) = m ((c.tc : Thread Cert.MixFwdReferenceIdeal.nD Cert.MixFwdReferenceIdeal.τ).loc Cert.MixFwdReferenceIdeal.main_arg8)
      ∧ r.2.mem ((c.tc : Thread Cert.MixFwdReferenceIdeal.nD Cert.MixFwdReferenceIdeal.τ).loc Cert.MixFwdReferenceIdeal.main_arg9) = m ((c.tc : Thread Cert.MixFwdReferenceIdeal.nD Cert.MixFwdReferenceIdeal.τ).loc Cert.MixFwdReferenceIdeal.main_arg9)
      ∧ r.2.mem ((c.tc : Thread Cert.MixFwdReferenceIdeal.nD Cert.MixFwdReferenceIdeal.τ).loc Cert.MixFwdReferenceIdeal.main_arg10) = m ((c.tc : Thread Cert.MixFwdReferenceIdeal.nD Cert.MixFwdReferenceIdeal.τ).loc Cert.MixFwdReferenceIdeal.main_arg10))
      ∧ r.2.sem = fun _ => 0)

def quiescent_Wup [hWup : Cert.Wup.Facts] : Prop :=
  ∀ (m : (ℓ : Loc Cert.Wup.nD Cert.Wup.τ Cert.Wup.sig) → Buf (Elt Bits) ℓ) (g : Dev Cert.Wup.nD → PrngReg), Pre_Wup m →
    θ_run (Cert.Wup.defs (F := Bits)) (onTc (τ := Cert.Wup.τ) (Cert.Wup.main (F := Bits))) ⟨m, fun _ => 0, g⟩ (fun r => (∀ c : Dev Cert.Wup.nD,
      r.2.mem ((c.tc : Thread Cert.Wup.nD Cert.Wup.τ).loc Cert.Wup.main_arg0) = m ((c.tc : Thread Cert.Wup.nD Cert.Wup.τ).loc Cert.Wup.main_arg0)
      ∧ r.2.mem ((c.tc : Thread Cert.Wup.nD Cert.Wup.τ).loc Cert.Wup.main_arg1) = m ((c.tc : Thread Cert.Wup.nD Cert.Wup.τ).loc Cert.Wup.main_arg1))
      ∧ r.2.sem = fun _ => 0)

def quiescent_WupIdeal [hWupIdeal : Cert.WupIdeal.Facts] : Prop :=
  ∀ (m : (ℓ : Loc Cert.WupIdeal.nD Cert.WupIdeal.τ Cert.WupIdeal.sig) → Buf (Elt Ideal) ℓ) (g : Dev Cert.WupIdeal.nD → PrngReg), Pre_WupIdeal m →
    θ_run (Cert.WupIdeal.defs (F := Ideal)) (onTc (τ := Cert.WupIdeal.τ) (Cert.WupIdeal.main (F := Ideal))) ⟨m, fun _ => 0, g⟩ (fun r => (∀ c : Dev Cert.WupIdeal.nD,
      r.2.mem ((c.tc : Thread Cert.WupIdeal.nD Cert.WupIdeal.τ).loc Cert.WupIdeal.main_arg0) = m ((c.tc : Thread Cert.WupIdeal.nD Cert.WupIdeal.τ).loc Cert.WupIdeal.main_arg0)
      ∧ r.2.mem ((c.tc : Thread Cert.WupIdeal.nD Cert.WupIdeal.τ).loc Cert.WupIdeal.main_arg1) = m ((c.tc : Thread Cert.WupIdeal.nD Cert.WupIdeal.τ).loc Cert.WupIdeal.main_arg1))
      ∧ r.2.sem = fun _ => 0)

def quiescent_WupReferenceIdeal [hWupReferenceIdeal : Cert.WupReferenceIdeal.Facts] : Prop :=
  ∀ (m : (ℓ : Loc Cert.WupReferenceIdeal.nD Cert.WupReferenceIdeal.τ Cert.WupReferenceIdeal.sig) → Buf (Elt Ideal) ℓ) (g : Dev Cert.WupReferenceIdeal.nD → PrngReg), Pre_WupReferenceIdeal m →
    θ_run (Cert.WupReferenceIdeal.defs (F := Ideal)) (onTc (τ := Cert.WupReferenceIdeal.τ) (Cert.WupReferenceIdeal.main (F := Ideal))) ⟨m, fun _ => 0, g⟩ (fun r => (∀ c : Dev Cert.WupReferenceIdeal.nD,
      r.2.mem ((c.tc : Thread Cert.WupReferenceIdeal.nD Cert.WupReferenceIdeal.τ).loc Cert.WupReferenceIdeal.main_arg0) = m ((c.tc : Thread Cert.WupReferenceIdeal.nD Cert.WupReferenceIdeal.τ).loc Cert.WupReferenceIdeal.main_arg0)
      ∧ r.2.mem ((c.tc : Thread Cert.WupReferenceIdeal.nD Cert.WupReferenceIdeal.τ).loc Cert.WupReferenceIdeal.main_arg1) = m ((c.tc : Thread Cert.WupReferenceIdeal.nD Cert.WupReferenceIdeal.τ).loc Cert.WupReferenceIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)) (v2 : (c : Dev Cert.KernelIdeal.nD) → Buf (Elt Ideal) ((c.tc : Thread Cert.KernelIdeal.nD Cert.KernelIdeal.τ).loc Cert.KernelIdeal.main_v64_2)) (v3 : (c : Dev Cert.KernelIdeal.nD) → Buf (Elt Ideal) ((c.tc : Thread Cert.KernelIdeal.nD Cert.KernelIdeal.τ).loc Cert.KernelIdeal.main_v64_3)) (v4 : (c : Dev Cert.KernelIdeal.nD) → Buf (Elt Ideal) ((c.tc : Thread Cert.KernelIdeal.nD Cert.KernelIdeal.τ).loc Cert.KernelIdeal.main_v64_4)) (v5 : (c : Dev Cert.KernelIdeal.nD) → Buf (Elt Ideal) ((c.tc : Thread Cert.KernelIdeal.nD Cert.KernelIdeal.τ).loc Cert.KernelIdeal.main_v64_5)) (v6 : (c : Dev Cert.KernelIdeal.nD) → Buf (Elt Ideal) ((c.tc : Thread Cert.KernelIdeal.nD Cert.KernelIdeal.τ).loc Cert.KernelIdeal.main_v64_6)) (v7 : (c : Dev Cert.KernelIdeal.nD) → Buf (Elt Ideal) ((c.tc : Thread Cert.KernelIdeal.nD Cert.KernelIdeal.τ).loc Cert.KernelIdeal.main_v64_7)) (v8 : (c : Dev Cert.KernelIdeal.nD) → Buf (Elt Ideal) ((c.tc : Thread Cert.KernelIdeal.nD Cert.KernelIdeal.τ).loc Cert.KernelIdeal.main_v64_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_v64_2) = v2 c
          ∧ r.2.mem ((c.tc : Thread Cert.KernelIdeal.nD Cert.KernelIdeal.τ).loc Cert.KernelIdeal.main_v64_3) = v3 c
          ∧ r.2.mem ((c.tc : Thread Cert.KernelIdeal.nD Cert.KernelIdeal.τ).loc Cert.KernelIdeal.main_v64_4) = v4 c
          ∧ r.2.mem ((c.tc : Thread Cert.KernelIdeal.nD Cert.KernelIdeal.τ).loc Cert.KernelIdeal.main_v64_5) = v5 c
          ∧ r.2.mem ((c.tc : Thread Cert.KernelIdeal.nD Cert.KernelIdeal.τ).loc Cert.KernelIdeal.main_v64_6) = v6 c
          ∧ r.2.mem ((c.tc : Thread Cert.KernelIdeal.nD Cert.KernelIdeal.τ).loc Cert.KernelIdeal.main_v64_7) = v7 c
          ∧ r.2.mem ((c.tc : Thread Cert.KernelIdeal.nD Cert.KernelIdeal.τ).loc Cert.KernelIdeal.main_v64_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_v178) = v2 c
          ∧ r.2.mem ((c.tc : Thread Cert.ReferenceIdeal.nD Cert.ReferenceIdeal.τ).loc Cert.ReferenceIdeal.main_v179) = v3 c
          ∧ r.2.mem ((c.tc : Thread Cert.ReferenceIdeal.nD Cert.ReferenceIdeal.τ).loc Cert.ReferenceIdeal.main_v180) = v4 c
          ∧ r.2.mem ((c.tc : Thread Cert.ReferenceIdeal.nD Cert.ReferenceIdeal.τ).loc Cert.ReferenceIdeal.main_v157) = v5 c
          ∧ r.2.mem ((c.tc : Thread Cert.ReferenceIdeal.nD Cert.ReferenceIdeal.τ).loc Cert.ReferenceIdeal.main_v88) = v6 c
          ∧ r.2.mem ((c.tc : Thread Cert.ReferenceIdeal.nD Cert.ReferenceIdeal.τ).loc Cert.ReferenceIdeal.main_v181) = v7 c
          ∧ r.2.mem ((c.tc : Thread Cert.ReferenceIdeal.nD Cert.ReferenceIdeal.τ).loc Cert.ReferenceIdeal.main_v183) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Mix_MixIdeal : Prop :=
  IdealRules.named_const.Statement Cert.MixIdeal.κ "gelu_slope" .f32 0x3D5B33B6#32 ((241015141496493 / 4503599627370496 : ℝ) : EReal)

def algebraic_MixIdeal_MixReferenceIdeal_pre_mix_finite [hMixIdeal : Cert.MixIdeal.Facts] [hMixReferenceIdeal : Cert.MixReferenceIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal_mix_finite m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v162_0)) (v1 : (c : Dev Cert.MixIdeal.nD) → Buf (Elt Ideal) ((c.tc : Thread Cert.MixIdeal.nD Cert.MixIdeal.τ).loc Cert.MixIdeal.main_v162_1)) (v2 : (c : Dev Cert.MixIdeal.nD) → Buf (Elt Ideal) ((c.tc : Thread Cert.MixIdeal.nD Cert.MixIdeal.τ).loc Cert.MixIdeal.main_v162_2)) (v3 : (c : Dev Cert.MixIdeal.nD) → Buf (Elt Ideal) ((c.tc : Thread Cert.MixIdeal.nD Cert.MixIdeal.τ).loc Cert.MixIdeal.main_v162_3)) (v4 : (c : Dev Cert.MixIdeal.nD) → Buf (Elt Ideal) ((c.tc : Thread Cert.MixIdeal.nD Cert.MixIdeal.τ).loc Cert.MixIdeal.main_v162_4)) (v5 : (c : Dev Cert.MixIdeal.nD) → Buf (Elt Ideal) ((c.tc : Thread Cert.MixIdeal.nD Cert.MixIdeal.τ).loc Cert.MixIdeal.main_v162_5)) (v6 : (c : Dev Cert.MixIdeal.nD) → Buf (Elt Ideal) ((c.tc : Thread Cert.MixIdeal.nD Cert.MixIdeal.τ).loc Cert.MixIdeal.main_v162_6)) (v7 : (c : Dev Cert.MixIdeal.nD) → Buf (Elt Ideal) ((c.tc : Thread Cert.MixIdeal.nD Cert.MixIdeal.τ).loc Cert.MixIdeal.main_v162_7)) (v8 : (c : Dev Cert.MixIdeal.nD) → Buf (Elt Ideal) ((c.tc : Thread Cert.MixIdeal.nD Cert.MixIdeal.τ).loc Cert.MixIdeal.main_v162_8)) (v9 : (c : Dev Cert.MixIdeal.nD) → Buf (Elt Ideal) ((c.tc : Thread Cert.MixIdeal.nD Cert.MixIdeal.τ).loc Cert.MixIdeal.main_v162_9)) (v10 : (c : Dev Cert.MixIdeal.nD) → Buf (Elt Ideal) ((c.tc : Thread Cert.MixIdeal.nD Cert.MixIdeal.τ).loc Cert.MixIdeal.main_v162_10)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v162_0) = v0 c
          ∧ r.2.mem ((c.tc : Thread Cert.MixIdeal.nD Cert.MixIdeal.τ).loc Cert.MixIdeal.main_v162_1) = v1 c
          ∧ r.2.mem ((c.tc : Thread Cert.MixIdeal.nD Cert.MixIdeal.τ).loc Cert.MixIdeal.main_v162_2) = v2 c
          ∧ r.2.mem ((c.tc : Thread Cert.MixIdeal.nD Cert.MixIdeal.τ).loc Cert.MixIdeal.main_v162_3) = v3 c
          ∧ r.2.mem ((c.tc : Thread Cert.MixIdeal.nD Cert.MixIdeal.τ).loc Cert.MixIdeal.main_v162_4) = v4 c
          ∧ r.2.mem ((c.tc : Thread Cert.MixIdeal.nD Cert.MixIdeal.τ).loc Cert.MixIdeal.main_v162_5) = v5 c
          ∧ r.2.mem ((c.tc : Thread Cert.MixIdeal.nD Cert.MixIdeal.τ).loc Cert.MixIdeal.main_v162_6) = v6 c
          ∧ r.2.mem ((c.tc : Thread Cert.MixIdeal.nD Cert.MixIdeal.τ).loc Cert.MixIdeal.main_v162_7) = v7 c
          ∧ r.2.mem ((c.tc : Thread Cert.MixIdeal.nD Cert.MixIdeal.τ).loc Cert.MixIdeal.main_v162_8) = v8 c
          ∧ r.2.mem ((c.tc : Thread Cert.MixIdeal.nD Cert.MixIdeal.τ).loc Cert.MixIdeal.main_v162_9) = v9 c
          ∧ r.2.mem ((c.tc : Thread Cert.MixIdeal.nD Cert.MixIdeal.τ).loc Cert.MixIdeal.main_v162_10) = v10 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v378) = v0 c
          ∧ r.2.mem ((c.tc : Thread Cert.MixReferenceIdeal.nD Cert.MixReferenceIdeal.τ).loc Cert.MixReferenceIdeal.main_v379) = v1 c
          ∧ r.2.mem ((c.tc : Thread Cert.MixReferenceIdeal.nD Cert.MixReferenceIdeal.τ).loc Cert.MixReferenceIdeal.main_v219) = v2 c
          ∧ r.2.mem ((c.tc : Thread Cert.MixReferenceIdeal.nD Cert.MixReferenceIdeal.τ).loc Cert.MixReferenceIdeal.main_v380) = v3 c
          ∧ r.2.mem ((c.tc : Thread Cert.MixReferenceIdeal.nD Cert.MixReferenceIdeal.τ).loc Cert.MixReferenceIdeal.main_v361) = v4 c
          ∧ r.2.mem ((c.tc : Thread Cert.MixReferenceIdeal.nD Cert.MixReferenceIdeal.τ).loc Cert.MixReferenceIdeal.main_v201) = v5 c
          ∧ r.2.mem ((c.tc : Thread Cert.MixReferenceIdeal.nD Cert.MixReferenceIdeal.τ).loc Cert.MixReferenceIdeal.main_v330) = v6 c
          ∧ r.2.mem ((c.tc : Thread Cert.MixReferenceIdeal.nD Cert.MixReferenceIdeal.τ).loc Cert.MixReferenceIdeal.main_v310) = v7 c
          ∧ r.2.mem ((c.tc : Thread Cert.MixReferenceIdeal.nD Cert.MixReferenceIdeal.τ).loc Cert.MixReferenceIdeal.main_v381) = v8 c
          ∧ r.2.mem ((c.tc : Thread Cert.MixReferenceIdeal.nD Cert.MixReferenceIdeal.τ).loc Cert.MixReferenceIdeal.main_v233) = v9 c
          ∧ r.2.mem ((c.tc : Thread Cert.MixReferenceIdeal.nD Cert.MixReferenceIdeal.τ).loc Cert.MixReferenceIdeal.main_v225) = v10 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v8_1)) (v2 : (c : Dev Cert.FfnIdeal.nD) → Buf (Elt Ideal) ((c.tc : Thread Cert.FfnIdeal.nD Cert.FfnIdeal.τ).loc Cert.FfnIdeal.main_v8_2)) (v3 : (c : Dev Cert.FfnIdeal.nD) → Buf (Elt Ideal) ((c.tc : Thread Cert.FfnIdeal.nD Cert.FfnIdeal.τ).loc Cert.FfnIdeal.main_v8_3)) (v4 : (c : Dev Cert.FfnIdeal.nD) → Buf (Elt Ideal) ((c.tc : Thread Cert.FfnIdeal.nD Cert.FfnIdeal.τ).loc Cert.FfnIdeal.main_v8_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8_0) = v0 c
          ∧ r.2.mem ((c.tc : Thread Cert.FfnIdeal.nD Cert.FfnIdeal.τ).loc Cert.FfnIdeal.main_v8_1) = v1 c
          ∧ r.2.mem ((c.tc : Thread Cert.FfnIdeal.nD Cert.FfnIdeal.τ).loc Cert.FfnIdeal.main_v8_2) = v2 c
          ∧ r.2.mem ((c.tc : Thread Cert.FfnIdeal.nD Cert.FfnIdeal.τ).loc Cert.FfnIdeal.main_v8_3) = v3 c
          ∧ r.2.mem ((c.tc : Thread Cert.FfnIdeal.nD Cert.FfnIdeal.τ).loc Cert.FfnIdeal.main_v8_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v85) = v0 c
          ∧ r.2.mem ((c.tc : Thread Cert.FfnReferenceIdeal.nD Cert.FfnReferenceIdeal.τ).loc Cert.FfnReferenceIdeal.main_v88) = v1 c
          ∧ r.2.mem ((c.tc : Thread Cert.FfnReferenceIdeal.nD Cert.FfnReferenceIdeal.τ).loc Cert.FfnReferenceIdeal.main_v53) = v2 c
          ∧ r.2.mem ((c.tc : Thread Cert.FfnReferenceIdeal.nD Cert.FfnReferenceIdeal.τ).loc Cert.FfnReferenceIdeal.main_v83) = v3 c
          ∧ r.2.mem ((c.tc : Thread Cert.FfnReferenceIdeal.nD Cert.FfnReferenceIdeal.τ).loc Cert.FfnReferenceIdeal.main_v92) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_MixFwd_MixFwdIdeal : Prop :=
  True

def algebraic_MixFwdIdeal_MixFwdReferenceIdeal_pre_proj_finite [hMixFwdIdeal : Cert.MixFwdIdeal.Facts] [hMixFwdReferenceIdeal : Cert.MixFwdReferenceIdeal.Facts] [hPre_proj_finite : Cert.Pre_proj_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdReferenceIdeal.nD Cert.MixFwdReferenceIdeal.τ Cert.MixFwdReferenceIdeal.sig) → Buf (Elt Ideal) ℓ) (g' : Dev Cert.MixFwdReferenceIdeal.nD → PrngReg), Pre_MixFwdIdeal_proj_finite m →
    (∀ c : Dev Cert.MixFwdIdeal.nD,
      m' ((c.tc : Thread Cert.MixFwdReferenceIdeal.nD Cert.MixFwdReferenceIdeal.τ).loc Cert.MixFwdReferenceIdeal.main_arg0) = m ((c.tc : Thread Cert.MixFwdIdeal.nD Cert.MixFwdIdeal.τ).loc Cert.MixFwdIdeal.main_arg0)
      ∧ m' ((c.tc : Thread Cert.MixFwdReferenceIdeal.nD Cert.MixFwdReferenceIdeal.τ).loc Cert.MixFwdReferenceIdeal.main_arg1) = m ((c.tc : Thread Cert.MixFwdIdeal.nD Cert.MixFwdIdeal.τ).loc Cert.MixFwdIdeal.main_arg1)
      ∧ m' ((c.tc : Thread Cert.MixFwdReferenceIdeal.nD Cert.MixFwdReferenceIdeal.τ).loc Cert.MixFwdReferenceIdeal.main_arg2) = m ((c.tc : Thread Cert.MixFwdIdeal.nD Cert.MixFwdIdeal.τ).loc Cert.MixFwdIdeal.main_arg2)
      ∧ m' ((c.tc : Thread Cert.MixFwdReferenceIdeal.nD Cert.MixFwdReferenceIdeal.τ).loc Cert.MixFwdReferenceIdeal.main_arg3) = m ((c.tc : Thread Cert.MixFwdIdeal.nD Cert.MixFwdIdeal.τ).loc Cert.MixFwdIdeal.main_arg3)
      ∧ m' ((c.tc : Thread Cert.MixFwdReferenceIdeal.nD Cert.MixFwdReferenceIdeal.τ).loc Cert.MixFwdReferenceIdeal.main_arg4) = m ((c.tc : Thread Cert.MixFwdIdeal.nD Cert.MixFwdIdeal.τ).loc Cert.MixFwdIdeal.main_arg4)
      ∧ m' ((c.tc : Thread Cert.MixFwdReferenceIdeal.nD Cert.MixFwdReferenceIdeal.τ).loc Cert.MixFwdReferenceIdeal.main_arg5) = m ((c.tc : Thread Cert.MixFwdIdeal.nD Cert.MixFwdIdeal.τ).loc Cert.MixFwdIdeal.main_arg5)
      ∧ m' ((c.tc : Thread Cert.MixFwdReferenceIdeal.nD Cert.MixFwdReferenceIdeal.τ).loc Cert.MixFwdReferenceIdeal.main_arg6) = m ((c.tc : Thread Cert.MixFwdIdeal.nD Cert.MixFwdIdeal.τ).loc Cert.MixFwdIdeal.main_arg6)
      ∧ m' ((c.tc : Thread Cert.MixFwdReferenceIdeal.nD Cert.MixFwdReferenceIdeal.τ).loc Cert.MixFwdReferenceIdeal.main_arg7) = m ((c.tc : Thread Cert.MixFwdIdeal.nD Cert.MixFwdIdeal.τ).loc Cert.MixFwdIdeal.main_arg7)
      ∧ m' ((c.tc : Thread Cert.MixFwdReferenceIdeal.nD Cert.MixFwdReferenceIdeal.τ).loc Cert.MixFwdReferenceIdeal.main_arg8) = m ((c.tc : Thread Cert.MixFwdIdeal.nD Cert.MixFwdIdeal.τ).loc Cert.MixFwdIdeal.main_arg8)
      ∧ m' ((c.tc : Thread Cert.MixFwdReferenceIdeal.nD Cert.MixFwdReferenceIdeal.τ).loc Cert.MixFwdReferenceIdeal.main_arg9) = m ((c.tc : Thread Cert.MixFwdIdeal.nD Cert.MixFwdIdeal.τ).loc Cert.MixFwdIdeal.main_arg9)
      ∧ m' ((c.tc : Thread Cert.MixFwdReferenceIdeal.nD Cert.MixFwdReferenceIdeal.τ).loc Cert.MixFwdReferenceIdeal.main_arg10) = m ((c.tc : Thread Cert.MixFwdIdeal.nD Cert.MixFwdIdeal.τ).loc Cert.MixFwdIdeal.main_arg10)) →
    ∃ (v0 : (c : Dev Cert.MixFwdIdeal.nD) → Buf (Elt Ideal) ((c.tc : Thread Cert.MixFwdIdeal.nD Cert.MixFwdIdeal.τ).loc Cert.MixFwdIdeal.main_v5_0)) (v1 : (c : Dev Cert.MixFwdIdeal.nD) → Buf (Elt Ideal) ((c.tc : Thread Cert.MixFwdIdeal.nD Cert.MixFwdIdeal.τ).loc Cert.MixFwdIdeal.main_v5_1)) (v2 : (c : Dev Cert.MixFwdIdeal.nD) → Buf (Elt Ideal) ((c.tc : Thread Cert.MixFwdIdeal.nD Cert.MixFwdIdeal.τ).loc Cert.MixFwdIdeal.main_v5_2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v5_0) = v0 c
          ∧ r.2.mem ((c.tc : Thread Cert.MixFwdIdeal.nD Cert.MixFwdIdeal.τ).loc Cert.MixFwdIdeal.main_v5_1) = v1 c
          ∧ r.2.mem ((c.tc : Thread Cert.MixFwdIdeal.nD Cert.MixFwdIdeal.τ).loc Cert.MixFwdIdeal.main_v5_2) = v2 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ θ_run (Cert.MixFwdReferenceIdeal.defs (F := Ideal)) (onTc (τ := Cert.MixFwdReferenceIdeal.τ) (Cert.MixFwdReferenceIdeal.main (F := Ideal))) ⟨m', fun _ => 0, g'⟩ (fun r => ∀ c : Dev Cert.MixFwdReferenceIdeal.nD,
          r.2.mem ((c.tc : Thread Cert.MixFwdReferenceIdeal.nD Cert.MixFwdReferenceIdeal.τ).loc Cert.MixFwdReferenceIdeal.main_v171) = v0 c
          ∧ r.2.mem ((c.tc : Thread Cert.MixFwdReferenceIdeal.nD Cert.MixFwdReferenceIdeal.τ).loc Cert.MixFwdReferenceIdeal.main_v24) = v1 c
          ∧ r.2.mem ((c.tc : Thread Cert.MixFwdReferenceIdeal.nD Cert.MixFwdReferenceIdeal.τ).loc Cert.MixFwdReferenceIdeal.main_v156) = v2 c
          ∧ r.2.mem ((c.tc : Thread Cert.MixFwdReferenceIdeal.nD Cert.MixFwdReferenceIdeal.τ).loc Cert.MixFwdReferenceIdeal.main_arg0) = m' ((c.tc : Thread Cert.MixFwdReferenceIdeal.nD Cert.MixFwdReferenceIdeal.τ).loc Cert.MixFwdReferenceIdeal.main_arg0)
          ∧ r.2.mem ((c.tc : Thread Cert.MixFwdReferenceIdeal.nD Cert.MixFwdReferenceIdeal.τ).loc Cert.MixFwdReferenceIdeal.main_arg1) = m' ((c.tc : Thread Cert.MixFwdReferenceIdeal.nD Cert.MixFwdReferenceIdeal.τ).loc Cert.MixFwdReferenceIdeal.main_arg1)
          ∧ r.2.mem ((c.tc : Thread Cert.MixFwdReferenceIdeal.nD Cert.MixFwdReferenceIdeal.τ).loc Cert.MixFwdReferenceIdeal.main_arg2) = m' ((c.tc : Thread Cert.MixFwdReferenceIdeal.nD Cert.MixFwdReferenceIdeal.τ).loc Cert.MixFwdReferenceIdeal.main_arg2)
          ∧ r.2.mem ((c.tc : Thread Cert.MixFwdReferenceIdeal.nD Cert.MixFwdReferenceIdeal.τ).loc Cert.MixFwdReferenceIdeal.main_arg3) = m' ((c.tc : Thread Cert.MixFwdReferenceIdeal.nD Cert.MixFwdReferenceIdeal.τ).loc Cert.MixFwdReferenceIdeal.main_arg3)
          ∧ r.2.mem ((c.tc : Thread Cert.MixFwdReferenceIdeal.nD Cert.MixFwdReferenceIdeal.τ).loc Cert.MixFwdReferenceIdeal.main_arg4) = m' ((c.tc : Thread Cert.MixFwdReferenceIdeal.nD Cert.MixFwdReferenceIdeal.τ).loc Cert.MixFwdReferenceIdeal.main_arg4)
          ∧ r.2.mem ((c.tc : Thread Cert.MixFwdReferenceIdeal.nD Cert.MixFwdReferenceIdeal.τ).loc Cert.MixFwdReferenceIdeal.main_arg5) = m' ((c.tc : Thread Cert.MixFwdReferenceIdeal.nD Cert.MixFwdReferenceIdeal.τ).loc Cert.MixFwdReferenceIdeal.main_arg5)
          ∧ r.2.mem ((c.tc : Thread Cert.MixFwdReferenceIdeal.nD Cert.MixFwdReferenceIdeal.τ).loc Cert.MixFwdReferenceIdeal.main_arg6) = m' ((c.tc : Thread Cert.MixFwdReferenceIdeal.nD Cert.MixFwdReferenceIdeal.τ).loc Cert.MixFwdReferenceIdeal.main_arg6)
          ∧ r.2.mem ((c.tc : Thread Cert.MixFwdReferenceIdeal.nD Cert.MixFwdReferenceIdeal.τ).loc Cert.MixFwdReferenceIdeal.main_arg7) = m' ((c.tc : Thread Cert.MixFwdReferenceIdeal.nD Cert.MixFwdReferenceIdeal.τ).loc Cert.MixFwdReferenceIdeal.main_arg7)
          ∧ r.2.mem ((c.tc : Thread Cert.MixFwdReferenceIdeal.nD Cert.MixFwdReferenceIdeal.τ).loc Cert.MixFwdReferenceIdeal.main_arg8) = m' ((c.tc : Thread Cert.MixFwdReferenceIdeal.nD Cert.MixFwdReferenceIdeal.τ).loc Cert.MixFwdReferenceIdeal.main_arg8)
          ∧ r.2.mem ((c.tc : Thread Cert.MixFwdReferenceIdeal.nD Cert.MixFwdReferenceIdeal.τ).loc Cert.MixFwdReferenceIdeal.main_arg9) = m' ((c.tc : Thread Cert.MixFwdReferenceIdeal.nD Cert.MixFwdReferenceIdeal.τ).loc Cert.MixFwdReferenceIdeal.main_arg9)
          ∧ r.2.mem ((c.tc : Thread Cert.MixFwdReferenceIdeal.nD Cert.MixFwdReferenceIdeal.τ).loc Cert.MixFwdReferenceIdeal.main_arg10) = m' ((c.tc : Thread Cert.MixFwdReferenceIdeal.nD Cert.MixFwdReferenceIdeal.τ).loc Cert.MixFwdReferenceIdeal.main_arg10))

def preserves_Wup_WupIdeal : Prop :=
  True

def algebraic_WupIdeal_WupReferenceIdeal [hWupIdeal : Cert.WupIdeal.Facts] [hWupReferenceIdeal : Cert.WupReferenceIdeal.Facts] : Prop :=
  ∀ (m : (ℓ : Loc Cert.WupIdeal.nD Cert.WupIdeal.τ Cert.WupIdeal.sig) → Buf (Elt Ideal) ℓ) (g : Dev Cert.WupIdeal.nD → PrngReg)
    (m' : (ℓ : Loc Cert.WupReferenceIdeal.nD Cert.WupReferenceIdeal.τ Cert.WupReferenceIdeal.sig) → Buf (Elt Ideal) ℓ) (g' : Dev Cert.WupReferenceIdeal.nD → PrngReg), Pre_WupIdeal m →
    (∀ c : Dev Cert.WupIdeal.nD,
      m' ((c.tc : Thread Cert.WupReferenceIdeal.nD Cert.WupReferenceIdeal.τ).loc Cert.WupReferenceIdeal.main_arg0) = m ((c.tc : Thread Cert.WupIdeal.nD Cert.WupIdeal.τ).loc Cert.WupIdeal.main_arg0)
      ∧ m' ((c.tc : Thread Cert.WupReferenceIdeal.nD Cert.WupReferenceIdeal.τ).loc Cert.WupReferenceIdeal.main_arg1) = m ((c.tc : Thread Cert.WupIdeal.nD Cert.WupIdeal.τ).loc Cert.WupIdeal.main_arg1)) →
    ∃ (v0 : (c : Dev Cert.WupIdeal.nD) → Buf (Elt Ideal) ((c.tc : Thread Cert.WupIdeal.nD Cert.WupIdeal.τ).loc Cert.WupIdeal.main_v2)),
      θ_run (Cert.WupIdeal.defs (F := Ideal)) (onTc (τ := Cert.WupIdeal.τ) (Cert.WupIdeal.main (F := Ideal))) ⟨m, fun _ => 0, g⟩ (fun r => ∀ c : Dev Cert.WupIdeal.nD,
          r.2.mem ((c.tc : Thread Cert.WupIdeal.nD Cert.WupIdeal.τ).loc Cert.WupIdeal.main_v2) = v0 c
          ∧ r.2.mem ((c.tc : Thread Cert.WupIdeal.nD Cert.WupIdeal.τ).loc Cert.WupIdeal.main_arg0) = m ((c.tc : Thread Cert.WupIdeal.nD Cert.WupIdeal.τ).loc Cert.WupIdeal.main_arg0)
          ∧ r.2.mem ((c.tc : Thread Cert.WupIdeal.nD Cert.WupIdeal.τ).loc Cert.WupIdeal.main_arg1) = m ((c.tc : Thread Cert.WupIdeal.nD Cert.WupIdeal.τ).loc Cert.WupIdeal.main_arg1))
      ∧ θ_run (Cert.WupReferenceIdeal.defs (F := Ideal)) (onTc (τ := Cert.WupReferenceIdeal.τ) (Cert.WupReferenceIdeal.main (F := Ideal))) ⟨m', fun _ => 0, g'⟩ (fun r => ∀ c : Dev Cert.WupReferenceIdeal.nD,
          r.2.mem ((c.tc : Thread Cert.WupReferenceIdeal.nD Cert.WupReferenceIdeal.τ).loc Cert.WupReferenceIdeal.main_v7) = v0 c
          ∧ r.2.mem ((c.tc : Thread Cert.WupReferenceIdeal.nD Cert.WupReferenceIdeal.τ).loc Cert.WupReferenceIdeal.main_arg0) = m' ((c.tc : Thread Cert.WupReferenceIdeal.nD Cert.WupReferenceIdeal.τ).loc Cert.WupReferenceIdeal.main_arg0)
          ∧ r.2.mem ((c.tc : Thread Cert.WupReferenceIdeal.nD Cert.WupReferenceIdeal.τ).loc Cert.WupReferenceIdeal.main_arg1) = m' ((c.tc : Thread Cert.WupReferenceIdeal.nD Cert.WupReferenceIdeal.τ).loc Cert.WupReferenceIdeal.main_arg1))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0_0)) (v1 : (c : Dev Cert.AdaIdeal.nD) → Buf (Elt Ideal) ((c.tc : Thread Cert.AdaIdeal.nD Cert.AdaIdeal.τ).loc Cert.AdaIdeal.main_v0_1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0_0) = v0 c
          ∧ r.2.mem ((c.tc : Thread Cert.AdaIdeal.nD Cert.AdaIdeal.τ).loc Cert.AdaIdeal.main_v0_1) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v4) = v0 c
          ∧ r.2.mem ((c.tc : Thread Cert.AdaReferenceIdeal.nD Cert.AdaReferenceIdeal.τ).loc Cert.AdaReferenceIdeal.main_v6) = v1 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def Claim : Prop :=
  ∃ (hKernel : Cert.Kernel.Facts) (hKernelIdeal : Cert.KernelIdeal.Facts) (hReferenceIdeal : Cert.ReferenceIdeal.Facts) (hMix : Cert.Mix.Facts) (hMixIdeal : Cert.MixIdeal.Facts) (hMixReferenceIdeal : Cert.MixReferenceIdeal.Facts) (hFfn : Cert.Ffn.Facts) (hFfnIdeal : Cert.FfnIdeal.Facts) (hFfnReferenceIdeal : Cert.FfnReferenceIdeal.Facts) (hMixFwd : Cert.MixFwd.Facts) (hMixFwdIdeal : Cert.MixFwdIdeal.Facts) (hMixFwdReferenceIdeal : Cert.MixFwdReferenceIdeal.Facts) (hWup : Cert.Wup.Facts) (hWupIdeal : Cert.WupIdeal.Facts) (hWupReferenceIdeal : Cert.WupReferenceIdeal.Facts) (hAda : Cert.Ada.Facts) (hAdaIdeal : Cert.AdaIdeal.Facts) (hAdaReferenceIdeal : Cert.AdaReferenceIdeal.Facts) (hPre_all_finite : Cert.Pre_all_finite.Facts) (hPre_mix_finite : Cert.Pre_mix_finite.Facts) (hPre_proj_finite : Cert.Pre_proj_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_MixFwd (hMixFwd := hMixFwd)
    ∧ quiescent_MixFwdIdeal (hMixFwdIdeal := hMixFwdIdeal)
    ∧ quiescent_MixFwdIdeal_pre_proj_finite (hMixFwdIdeal := hMixFwdIdeal) (hPre_proj_finite := hPre_proj_finite)
    ∧ quiescent_MixFwdReferenceIdeal (hMixFwdReferenceIdeal := hMixFwdReferenceIdeal)
    ∧ quiescent_MixFwdReferenceIdeal_pre_proj_finite (hMixFwdReferenceIdeal := hMixFwdReferenceIdeal) (hPre_proj_finite := hPre_proj_finite)
    ∧ quiescent_Wup (hWup := hWup)
    ∧ quiescent_WupIdeal (hWupIdeal := hWupIdeal)
    ∧ quiescent_WupReferenceIdeal (hWupReferenceIdeal := hWupReferenceIdeal)
    ∧ quiescent_Ada (hAda := hAda)
    ∧ quiescent_AdaIdeal (hAdaIdeal := hAdaIdeal)
    ∧ quiescent_AdaReferenceIdeal (hAdaReferenceIdeal := hAdaReferenceIdeal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Mix_MixIdeal
    ∧ algebraic_MixIdeal_MixReferenceIdeal_pre_mix_finite (hMixIdeal := hMixIdeal) (hMixReferenceIdeal := hMixReferenceIdeal) (hPre_mix_finite := hPre_mix_finite)
    ∧ preserves_Ffn_FfnIdeal
    ∧ algebraic_FfnIdeal_FfnReferenceIdeal (hFfnIdeal := hFfnIdeal) (hFfnReferenceIdeal := hFfnReferenceIdeal)
    ∧ preserves_MixFwd_MixFwdIdeal
    ∧ algebraic_MixFwdIdeal_MixFwdReferenceIdeal_pre_proj_finite (hMixFwdIdeal := hMixFwdIdeal) (hMixFwdReferenceIdeal := hMixFwdReferenceIdeal) (hPre_proj_finite := hPre_proj_finite)
    ∧ preserves_Wup_WupIdeal
    ∧ algebraic_WupIdeal_WupReferenceIdeal (hWupIdeal := hWupIdeal) (hWupReferenceIdeal := hWupReferenceIdeal)
    ∧ preserves_Ada_AdaIdeal
    ∧ algebraic_AdaIdeal_AdaReferenceIdeal (hAdaIdeal := hAdaIdeal) (hAdaReferenceIdeal := hAdaReferenceIdeal)
-- ==== Pre_all_finite.lean ====
abbrev S8192x1024 : Shape := ⟨2, ![8192, 1024]⟩
abbrev S1x6144 : Shape := ⟨2, ![1, 6144]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x6144 : S_.BroadcastsInDim S1x6144 (![] : Fin 0 → Fin S1x6144.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S2816x1024 : S_.BroadcastsInDim S2816x1024 (![] : Fin 0 → Fin S2816x1024.rank)

variable [Facts]

def fn_part1 {F : FTy → Type} [FloatOps F] (main_arg6 : FVec F S3x5632 .f32) (main_arg7 : FVec F S1x5632 .f32) (main_arg8 : FVec F S2816x1024 .f32) (main_v2 : IVec S8192x1024 1) (main_v5 : IVec S8192x1024 1) (main_v8 : IVec S1x6144 1) (main_v11 : IVec S1x1024 1) (main_v14 : IVec S1x1024 1) (main_v17 : IVec S1024x5632 1) : IVec S8192x1024 1 × IVec S8192x1024 1 × IVec S1x6144 1 × IVec S1x1024 1 × IVec S1x1024 1 × IVec S1024x5632 1 × IVec S3x5632 1 × IVec S1x5632 1 × IVec S2816x1024 1 :=
  let main_v18 : FVec F S3x5632 .f32 := Host.absf main_arg6
  let main_cst_5 : FVec F S_ .f32 := constant S_ .f32 0x7F800000#32
  let main_v19 : FVec F S3x5632 .f32 := broadcastInDim S3x5632 ![] bcast_S_S3x5632 main_cst_5
  let main_v20 : IVec S3x5632 1 := cmpf .olt main_v18 main_v19
  let main_v21 : FVec F S1x5632 .f32 := Host.absf main_arg7
  let main_cst_6 : FVec F S_ .f32 := constant S_ .f32 0x7F800000#32
  let main_v22 : FVec F S1x5632 .f32 := broadcastInDim S1x5632 ![] bcast_S_S1x5632 main_cst_6
  let main_v23 : IVec S1x5632 1 := cmpf .olt main_v21 main_v22
  let main_v24 : FVec F S2816x1024 .f32 := Host.absf main_arg8
  let main_cst_7 : FVec F S_ .f32 := constant S_ .f32 0x7F800000#32
  let main_v25 : FVec F S2816x1024 .f32 := broadcastInDim S2816x1024 ![] bcast_S_S2816x1024 main_cst_7
  let main_v26 : IVec S2816x1024 1 := cmpf .olt main_v24 main_v25
  (main_v2, main_v5, main_v8, main_v11, main_v14, main_v17, main_v20, main_v23, main_v26)

def fn {F : FTy → Type} [FloatOps F] (main_arg0 : FVec F S8192x1024 .f32) (main_arg1 : FVec F S8192x1024 .f32) (main_arg2 : FVec F S1x6144 .f32) (main_arg3 : FVec F S1x1024 .f32) (main_arg4 : FVec F S1x1024 .f32) (main_arg5 : FVec F S1024x5632 .f32) (main_arg6 : FVec F S3x5632 .f32) (main_arg7 : FVec F S1x5632 .f32) (main_arg8 : FVec F S2816x1024 .f32) : IVec S8192x1024 1 × IVec S8192x1024 1 × IVec S1x6144 1 × IVec S1x1024 1 × IVec S1x1024 1 × IVec S1024x5632 1 × IVec S3x5632 1 × IVec S1x5632 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x6144 .f32 := Host.absf main_arg2
  let main_cst_1 : FVec F S_ .f32 := constant S_ .f32 0x7F800000#32
  let main_v7 : FVec F S1x6144 .f32 := broadcastInDim S1x6144 ![] bcast_S_S1x6144 main_cst_1
  let main_v8 : IVec S1x6144 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1024x5632 .f32 := Host.absf main_arg5
  let main_cst_4 : FVec F S_ .f32 := constant S_ .f32 0x7F800000#32
  let main_v16 : FVec F S1024x5632 .f32 := broadcastInDim S1024x5632 ![] bcast_S_S1024x5632 main_cst_4
  let main_v17 : IVec S1024x5632 1 := cmpf .olt main_v15 main_v16
  fn_part1 (F := F) main_arg6 main_arg7 main_arg8 main_v2 main_v5 main_v8 main_v11 main_v14 main_v17
-- ==== Pre_mix_finite.lean ====
abbrev S8192x1024 : Shape := ⟨2, ![8192, 1024]⟩
abbrev S1x6144 : Shape := ⟨2, ![1, 6144]⟩
abbrev S1x1024 : Shape := ⟨2, ![1, 1024]⟩
abbrev S1024x1536 : Shape := ⟨2, ![1024, 1536]⟩
abbrev S4x128 : Shape := ⟨2, ![4, 128]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1x6144 : S_.BroadcastsInDim S1x6144 (![] : Fin 0 → Fin S1x6144.rank)
  bcast_S_S1x1024 : S_.BroadcastsInDim S1x1024 (![] : Fin 0 → Fin S1x1024.rank)
  bcast_S_S1024x1536 : S_.BroadcastsInDim S1024x1536 (![] : Fin 0 → Fin S1024x1536.rank)
  bcast_S_S4x128 : S_.BroadcastsInDim S4x128 (![] : Fin 0 → Fin S4x128.rank)
  bcast_S_S4x128x128 : S_.BroadcastsInDim S4x128x128 (![] : Fin 0 → Fin S4x128x128.rank)
  bcast_S_S1x512 : S_.BroadcastsInDim S1x512 (![] : Fin 0 → Fin S1x512.rank)
  bcast_S_S1024x1024 : S_.BroadcastsInDim S1024x1024 (![] : Fin 0 → Fin S1024x1024.rank)

variable [Facts]

def fn_part1 {F : FTy → Type} [FloatOps F] (main_arg6 : FVec F S4x128 .f32) (main_arg7 : FVec F S4x128x128 .f32) (main_arg8 : FVec F S4x128 .f32) (main_arg9 : FVec F S4x128x128 .f32) (main_arg10 : FVec F S1x512 .f32) (main_arg11 : FVec F S1024x1024 .f32) (main_v2 : IVec S8192x1024 1) (main_v5 : IVec S8192x1024 1) (main_v8 : IVec S1x6144 1) (main_v11 : IVec S1x1024 1) (main_v14 : IVec S1x1024 1) (main_v17 : IVec S1024x1536 1) : IVec S8192x1024 1 × IVec S8192x1024 1 × IVec S1x6144 1 × IVec S1x1024 1 × IVec S1x1024 1 × IVec S1024x1536 1 × IVec S4x128 1 × IVec S4x128x128 1 × IVec S4x128 1 × IVec S4x128x128 1 × IVec S1x512 1 × IVec S1024x1024 1 :=
  let main_v18 : FVec F S4x128 .f32 := Host.absf main_arg6
  let main_cst_5 : FVec F S_ .f32 := constant S_ .f32 0x7F800000#32
  let main_v19 : FVec F S4x128 .f32 := broadcastInDim S4x128 ![] bcast_S_S4x128 main_cst_5
  let main_v20 : IVec S4x128 1 := cmpf .olt main_v18 main_v19
  let main_v21 : FVec F S4x128x128 .f32 := Host.absf main_arg7
  let main_cst_6 : FVec F S_ .f32 := constant S_ .f32 0x7F800000#32
  let main_v22 : FVec F S4x128x128 .f32 := broadcastInDim S4x128x128 ![] bcast_S_S4x128x128 main_cst_6
  let main_v23 : IVec S4x128x128 1 := cmpf .olt main_v21 main_v22
  let main_v24 : FVec F S4x128 .f32 := Host.absf main_arg8
  let main_cst_7 : FVec F S_ .f32 := constant S_ .f32 0x7F800000#32
  let main_v25 : FVec F S4x128 .f32 := broadcastInDim S4x128 ![] bcast_S_S4x128 main_cst_7
  let main_v26 : IVec S4x128 1 := cmpf .olt main_v24 main_v25
  let main_v27 : FVec F S4x128x128 .f32 := Host.absf main_arg9
  let main_cst_8 : FVec F S_ .f32 := constant S_ .f32 0x7F800000#32
  let main_v28 : FVec F S4x128x128 .f32 := broadcastInDim S4x128x128 ![] bcast_S_S4x128x128 main_cst_8
  let main_v29 : IVec S4x128x128 1 := cmpf .olt main_v27 main_v28
  let main_v30 : FVec F S1x512 .f32 := Host.absf main_arg10
  let main_cst_9 : FVec F S_ .f32 := constant S_ .f32 0x7F800000#32
  let main_v31 : FVec F S1x512 .f32 := broadcastInDim S1x512 ![] bcast_S_S1x512 main_cst_9
  let main_v32 : IVec S1x512 1 := cmpf .olt main_v30 main_v31
  let main_v33 : FVec F S1024x1024 .f32 := Host.absf main_arg11
  let main_cst_10 : FVec F S_ .f32 := constant S_ .f32 0x7F800000#32
  let main_v34 : FVec F S1024x1024 .f32 := broadcastInDim S1024x1024 ![] bcast_S_S1024x1024 main_cst_10
  let main_v35 : IVec S1024x1024 1 := cmpf .olt main_v33 main_v34
  (main_v2, main_v5, main_v8, main_v11, main_v14, main_v17, main_v20, main_v23, main_v26, main_v29, main_v32, main_v35)

def fn {F : FTy → Type} [FloatOps F] (main_arg0 : FVec F S8192x1024 .f32) (main_arg1 : FVec F S8192x1024 .f32) (main_arg2 : FVec F S1x6144 .f32) (main_arg3 : FVec F S1x1024 .f32) (main_arg4 : FVec F S1x1024 .f32) (main_arg5 : FVec F S1024x1536 .f32) (main_arg6 : FVec F S4x128 .f32) (main_arg7 : FVec F S4x128x128 .f32) (main_arg8 : FVec F S4x128 .f32) (main_arg9 : FVec F S4x128x128 .f32) (main_arg10 : FVec F S1x512 .f32) (main_arg11 : FVec F S1024x1024 .f32) : IVec S8192x1024 1 × IVec S8192x1024 1 × IVec S1x6144 1 × IVec S1x1024 1 × IVec S1x1024 1 × IVec S1024x1536 1 × IVec S4x128 1 × IVec S4x128x128 1 × IVec S4x128 1 × IVec S4x128x128 1 × IVec S1x512 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x6144 .f32 := Host.absf main_arg2
  let main_cst_1 : FVec F S_ .f32 := constant S_ .f32 0x7F800000#32
  let main_v7 : FVec F S1x6144 .f32 := broadcastInDim S1x6144 ![] bcast_S_S1x6144 main_cst_1
  let main_v8 : IVec S1x6144 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1024x1536 .f32 := Host.absf main_arg5
  let main_cst_4 : FVec F S_ .f32 := constant S_ .f32 0x7F800000#32
  let main_v16 : FVec F S1024x1536 .f32 := broadcastInDim S1024x1536 ![] bcast_S_S1024x1536 main_cst_4
  let main_v17 : IVec S1024x1536 1 := cmpf .olt main_v15 main_v16
  fn_part1 (F := F) main_arg6 main_arg7 main_arg8 main_arg9 main_arg10 main_arg11 main_v2 main_v5 main_v8 main_v11 main_v14 main_v17
-- ==== Pre_proj_finite.lean ====
abbrev S8192x1024 : Shape := ⟨2, ![8192, 1024]⟩
abbrev S1x6144 : Shape := ⟨2, ![1, 6144]⟩
abbrev S1x1024 : Shape := ⟨2, ![1, 1024]⟩
abbrev S1024x1536 : Shape := ⟨2, ![1024, 1536]⟩
abbrev S4x128 : Shape := ⟨2, ![4, 128]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1x6144 : S_.BroadcastsInDim S1x6144 (![] : Fin 0 → Fin S1x6144.rank)
  bcast_S_S1x1024 : S_.BroadcastsInDim S1x1024 (![] : Fin 0 → Fin S1x1024.rank)
  bcast_S_S1024x1536 : S_.BroadcastsInDim S1024x1536 (![] : Fin 0 → Fin S1024x1536.rank)

variable [Facts]

def fn {F : FTy → Type} [FloatOps F] (main_arg0 : FVec F S8192x1024 .f32) (main_arg1 : FVec F S1x6144 .f32) (main_arg2 : FVec F S1x1024 .f32) (main_arg3 : FVec F S1x1024 .f32) (main_arg4 : FVec F S1024x1536 .f32) (main_arg5 : FVec F S4x128 .f32) (main_arg6 : FVec F S4x128x128 .f32) (main_arg7 : FVec F S4x128 .f32) (main_arg8 : FVec F S4x128x128 .f32) (main_arg9 : FVec F S1x512 .f32) (main_arg10 : FVec F S1024x1024 .f32) : IVec S8192x1024 1 × IVec S1x6144 1 × IVec S1x1024 1 × IVec S1024x1536 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x6144 .f32 := Host.absf main_arg1
  let main_cst_0 : FVec F S_ .f32 := constant S_ .f32 0x7F800000#32
  let main_v4 : FVec F S1x6144 .f32 := broadcastInDim S1x6144 ![] bcast_S_S1x6144 main_cst_0
  let main_v5 : IVec S1x6144 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x1536 .f32 := Host.absf main_arg4
  let main_cst_2 : FVec F S_ .f32 := constant S_ .f32 0x7F800000#32
  let main_v10 : FVec F S1024x1536 .f32 := broadcastInDim S1024x1536 ![] bcast_S_S1024x1536 main_cst_2
  let main_v11 : IVec S1024x1536 1 := cmpf .olt main_v9 main_v10
  (main_v2, main_v5, main_v8, main_v11)
-- ==== Kernel.lean ====
abbrev S8192x1024 : Shape := ⟨2, ![8192, 1024]⟩
abbrev S1x6144 : Shape := ⟨2, ![1, 6144]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S8192x8x704 : Shape := ⟨3, ![8192, 8, 704]⟩
abbrev S8x8192x704 : Shape := ⟨3, ![8, 8192, 704]⟩
abbrev S6x1024 : Shape := ⟨2, ![6, 1024]⟩
abbrev S1024x8x704 : Shape := ⟨3, ![1024, 8, 704]⟩
abbrev S8x1024x704 : Shape := ⟨3, ![8, 1024, 704]⟩
abbrev S3x8x704 : Shape := ⟨3, ![3, 8, 704]⟩
abbrev S8x3x704 : Shape := ⟨3, ![8, 3, 704]⟩
abbrev S8x704 : Shape := ⟨2, ![8, 704]⟩
abbrev S3x1024 : Shape := ⟨2, ![3, 1024]⟩
abbrev S256x1024 : Shape := ⟨2, ![256, 1024]⟩
abbrev S8x256x704 : Shape := ⟨3, ![8, 256, 704]⟩
abbrev S8x8x704 : Shape := ⟨3, ![8, 8, 704]⟩
abbrev S256 : Shape := ⟨1, ![256]⟩
abbrev S256x1 : Shape := ⟨2, ![256, 1]⟩
abbrev S1024 : Shape := ⟨1, ![1024]⟩
abbrev S704x1024 : Shape := ⟨2, ![704, 1024]⟩
abbrev S256x704 : Shape := ⟨2, ![256, 704]⟩
abbrev S1x8x704 : Shape := ⟨3, ![1, 8, 704]⟩
abbrev S1x256x704 : Shape := ⟨3, ![1, 256, 704]⟩
abbrev S1x3x704 : Shape := ⟨3, ![1, 3, 704]⟩
abbrev S3x704 : Shape := ⟨2, ![3, 704]⟩
abbrev S1x704 : Shape := ⟨2, ![1, 704]⟩
abbrev S248x704 : Shape := ⟨2, ![248, 704]⟩
abbrev S704 : Shape := ⟨1, ![704]⟩
abbrev S1x1x704 : Shape := ⟨3, ![1, 1, 704]⟩
abbrev S1x1024x704 : Shape := ⟨3, ![1, 1024, 704]⟩
abbrev S1024x704 : Shape := ⟨2, ![1024, 704]⟩

abbrev nBuf : Space → Nat
  | .hbm => 95
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x6144, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S3x5632, .f32⟩
  | .hbm, ⟨7, _⟩ => ⟨S1x5632, .f32⟩
  | .hbm, ⟨8, _⟩ => ⟨S2816x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x5632, .f32⟩
  | .hbm, ⟨38, _⟩ => ⟨S_, .f32⟩
  | .hbm, ⟨39, _⟩ => ⟨S2x5632, .f32⟩
  | .hbm, ⟨40, _⟩ => ⟨S8194x5632, .f32⟩
  | .hbm, ⟨41, _⟩ => ⟨S8192x5632, .f32⟩
  | .hbm, ⟨42, _⟩ => ⟨S1x5632, .f32⟩
  | .hbm, ⟨43, _⟩ => ⟨S5632, .f32⟩
  | .hbm, ⟨44, _⟩ => ⟨S1x5632, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S1x5632, .f32⟩
  | .hbm, ⟨51, _⟩ => ⟨S5632, .f32⟩
  | .hbm, ⟨52, _⟩ => ⟨S1x5632, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S1x5632, .f32⟩
  | .hbm, ⟨58, _⟩ => ⟨S5632, .f32⟩
  | .hbm, ⟨59, _⟩ => ⟨S1x5632, .f32⟩
  | .hbm, ⟨60, _⟩ => ⟨S8192x5632, .f32⟩
  | .hbm, ⟨61, _⟩ => ⟨S8192x5632, .f32⟩
  | .hbm, ⟨62, _⟩ => ⟨S8192x5632, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S_, .f32⟩
  | .hbm, ⟨68, _⟩ => ⟨S8192x2816, .f32⟩
  | .hbm, ⟨69, _⟩ => ⟨S8192x2816, .f32⟩
  | .hbm, ⟨70, _⟩ => ⟨S_, .f32⟩
  | .hbm, ⟨71, _⟩ => ⟨S8192x2816, .f32⟩
  | .hbm, ⟨72, _⟩ => ⟨S8192x2816, .f32⟩
  | .hbm, ⟨73, _⟩ => ⟨S8192x2816, .f32⟩
  | .hbm, ⟨74, _⟩ => ⟨S8192x2816, .f32⟩
  | .hbm, ⟨75, _⟩ => ⟨S8192x1024, .f32⟩
  | .hbm, ⟨76, _⟩ => ⟨S8192x8x704, .f32⟩
  | .hbm, ⟨77, _⟩ => ⟨S8x8192x704, .f32⟩
  | .hbm, ⟨78, _⟩ => ⟨S6x1024, .f32⟩
  | .hbm, ⟨79, _⟩ => ⟨S1024x8x704, .f32⟩
  | .hbm, ⟨80, _⟩ => ⟨S8x1024x704, .f32⟩
  | .hbm, ⟨81, _⟩ => ⟨S8x1024x704, .bf16⟩
  | .hbm, ⟨82, _⟩ => ⟨S3x8x704, .f32⟩
  | .hbm, ⟨83, _⟩ => ⟨S8x3x704, .f32⟩
  | .hbm, ⟨84, _⟩ => ⟨S8x704, .f32⟩
  | .hbm, ⟨85, _⟩ => ⟨S2816x1024, .bf16⟩
  | .hbm, ⟨86, _⟩ => ⟨S8192x1024, .f32⟩
  | .hbm, ⟨87, _⟩ => ⟨S8x8192x704, .bf16⟩
  | .hbm, ⟨88, _⟩ => ⟨S8192x1024, .bf16⟩
  | .hbm, ⟨89, _⟩ => ⟨S8192x1024, .bf16⟩
  | .hbm, ⟨90, _⟩ => ⟨S3x1024, .f32⟩
  | .hbm, ⟨91, _⟩ => ⟨S1x1024, .f32⟩
  | .hbm, ⟨92, _⟩ => ⟨S1x1024, .f32⟩
  | .hbm, ⟨93, _⟩ => ⟨S8x704, .f32⟩
  | .hbm, ⟨94, _⟩ => ⟨S8x3x704, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x256x704, .f32⟩
  | .local _ .vmem, ⟨7, _⟩ => ⟨S8x256x704, .f32⟩
  | .local _ .vmem, ⟨8, _⟩ => ⟨S8x8x704, .f32⟩
  | .local _ .vmem, ⟨9, _⟩ => ⟨S8x8x704, .f32⟩
  | .local _ .vmem, ⟨10, _⟩ => ⟨S6x1024, .f32⟩
  | .local _ .vmem, ⟨11, _⟩ => ⟨S1x1024, .f32⟩
  | .local _ .vmem, ⟨12, _⟩ => ⟨S1x1024, .f32⟩
  | .local _ .vmem, ⟨13, _⟩ => ⟨S8x1024x704, .bf16⟩
  | .local _ .vmem, ⟨14, _⟩ => ⟨S8x3x704, .f32⟩
  | .local _ .vmem, ⟨15, _⟩ => ⟨S8x704, .f32⟩
  | .local _ .vmem, ⟨16, _⟩ => ⟨S2816x1024, .bf16⟩
  | .local _ .vmem, ⟨17, _⟩ => ⟨S256x1024, .f32⟩
  | .local _ .vmem, ⟨18, _⟩ => ⟨S256x1024, .f32⟩
  | .local _ .vmem, ⟨19, _⟩ => ⟨S8x256x704, .bf16⟩
  | .local _ .vmem, ⟨20, _⟩ => ⟨S8x256x704, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S3x1024, .f32⟩
  | .local _ .vmem, ⟨26, _⟩ => ⟨S1x1024, .f32⟩
  | .local _ .vmem, ⟨27, _⟩ => ⟨S1x1024, .f32⟩
  | .local _ .vmem, ⟨28, _⟩ => ⟨S8x704, .f32⟩
  | .local _ .vmem, ⟨29, _⟩ => ⟨S8x3x704, .f32⟩
  | .local _ .vmem, ⟨30, _⟩ => ⟨S8x8x704, .f32⟩
  | .local _ .vmem, ⟨31, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64_0 : Ref sig .tc := ⟨.hbm, 86, rfl⟩
abbrev main_v64_1 : Ref sig .tc := ⟨.hbm, 87, rfl⟩
abbrev main_v64_2 : Ref sig .tc := ⟨.hbm, 88, rfl⟩
abbrev main_v64_3 : Ref sig .tc := ⟨.hbm, 89, rfl⟩
abbrev main_v64_4 : Ref sig .tc := ⟨.hbm, 90, rfl⟩
abbrev main_v64_5 : Ref sig .tc := ⟨.hbm, 91, rfl⟩
abbrev main_v64_6 : Ref sig .tc := ⟨.hbm, 92, rfl⟩
abbrev main_v64_7 : Ref sig .tc := ⟨.hbm, 93, rfl⟩
abbrev main_v64_8 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, v3.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024x704 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x3x704 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x704 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x256x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S3x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x704 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x3x704 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S8192x1024 : Shape := ⟨2, ![8192, 1024]⟩
abbrev S1x6144 : Shape := ⟨2, ![1, 6144]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S1024 : Shape := ⟨1, ![1024]⟩
abbrev S8192x8x704 : Shape := ⟨3, ![8192, 8, 704]⟩
abbrev S8x8192x704 : Shape := ⟨3, ![8, 8192, 704]⟩
abbrev S3x1024 : Shape := ⟨2, ![3, 1024]⟩
abbrev S8x704 : Shape := ⟨2, ![8, 704]⟩
abbrev S3x8x704 : Shape := ⟨3, ![3, 8, 704]⟩
abbrev S8x3x704 : Shape := ⟨3, ![8, 3, 704]⟩

abbrev nBuf : Space → Nat
  | .hbm => 247
  | .vmem => 0
  | .smem => 0
  | _ => 0

abbrev hbmTy0_0 (i : Nat) : BufTy := match i % 128 with
  | 0 => ⟨S8192x1024, .f32⟩
  | 1 => ⟨S8192x1024, .f32⟩
  | 2 => ⟨S1x6144, .f32⟩
  | 3 => ⟨S1x1024, .f32⟩
  | 4 => ⟨S1x1024, .f32⟩
  | 5 => ⟨S1024x5632, .f32⟩
  | 6 => ⟨S3x5632, .f32⟩
  | 7 => ⟨S1x5632, .f32⟩
  | 8 => ⟨S2816x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S_, .f32⟩
  | 16 => ⟨S8192x5632, .f32⟩
  | 17 => ⟨S_, .f32⟩
  | 18 => ⟨S8192x1024, .f32⟩
  | 19 => ⟨S8192x1024, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192x1, .f32⟩
  | 28 => ⟨S8192x1, .f32⟩
  | 29 => ⟨S8192x1, .f32⟩
  | 30 => ⟨S8192x1, .f32⟩
  | 31 => ⟨S_, .f32⟩
  | 32 => ⟨S8192x1, .f32⟩
  | 33 => ⟨S8192x1, .f32⟩
  | 34 => ⟨S8192x1024, .f32⟩
  | 35 => ⟨S8192x1024, .f32⟩
  | 36 => ⟨S8192x1024, .f32⟩
  | 37 => ⟨S8192x1024, .f32⟩
  | 38 => ⟨S_, .f32⟩
  | 39 => ⟨S1x1024, .f32⟩
  | 40 => ⟨S1x1024, .f32⟩
  | 41 => ⟨S8192x1024, .f32⟩
  | 42 => ⟨S8192x1024, .f32⟩
  | 43 => ⟨S8192x1024, .f32⟩
  | 44 => ⟨S8192x1024, .f32⟩
  | 45 => ⟨S8192x5632, .f32⟩
  | 46 => ⟨S8192x5632, .f32⟩
  | 47 => ⟨S_, .f32⟩
  | 48 => ⟨S2x5632, .f32⟩
  | 49 => ⟨S8194x5632, .f32⟩
  | 50 => ⟨S_, .f32⟩
  | 51 => ⟨S2x5632, .f32⟩
  | 52 => ⟨S8192x5632, .f32⟩
  | 53 => ⟨S1x5632, .f32⟩
  | 54 => ⟨S5632, .f32⟩
  | 55 => ⟨S1x5632, .f32⟩
  | 56 => ⟨S8192x5632, .f32⟩
  | 57 => ⟨S8192x5632, .f32⟩
  | 58 => ⟨S8192x5632, .f32⟩
  | 59 => ⟨S8192x5632, .f32⟩
  | 60 => ⟨S8192x5632, .f32⟩
  | 61 => ⟨S1x5632, .f32⟩
  | 62 => ⟨S5632, .f32⟩
  | 63 => ⟨S1x5632, .f32⟩
  | 64 => ⟨S8192x5632, .f32⟩
  | 65 => ⟨S8192x5632, .f32⟩
  | 66 => ⟨S8192x5632, .f32⟩
  | 67 => ⟨S8192x5632, .f32⟩
  | 68 => ⟨S1x5632, .f32⟩
  | 69 => ⟨S5632, .f32⟩
  | 70 => ⟨S1x5632, .f32⟩
  | 71 => ⟨S8192x5632, .f32⟩
  | 72 => ⟨S8192x5632, .f32⟩
  | 73 => ⟨S8192x5632, .f32⟩
  | 74 => ⟨S8192x2816, .f32⟩
  | 75 => ⟨S8192x2816, .f32⟩
  | 76 => ⟨S8192x2816, .f32⟩
  | 77 => ⟨S8192x2816, .f32⟩
  | 78 => ⟨S_, .f32⟩
  | 79 => ⟨S8192x2816, .f32⟩
  | 80 => ⟨S8192x2816, .f32⟩
  | 81 => ⟨S_, .f32⟩
  | 82 => ⟨S8192x2816, .f32⟩
  | 83 => ⟨S8192x2816, .f32⟩
  | 84 => ⟨S_, .f32⟩
  | 85 => ⟨S8192x2816, .f32⟩
  | 86 => ⟨S8192x2816, .f32⟩
  | 87 => ⟨S8192x2816, .f32⟩
  | 88 => ⟨S8192x2816, .f32⟩
  | 89 => ⟨S8192x2816, .f32⟩
  | 90 => ⟨S8192x1024, .f32⟩
  | 91 => ⟨S8192x1024, .f32⟩
  | 92 => ⟨S8192x1024, .f32⟩
  | 93 => ⟨S_, .f32⟩
  | 94 => ⟨S8192, .f32⟩
  | 95 => ⟨S8192x1, .f32⟩
  | 96 => ⟨S_, .f32⟩
  | 97 => ⟨S8192x1, .f32⟩
  | 98 => ⟨S8192x1, .f32⟩
  | 99 => ⟨S_, .f32⟩
  | 100 => ⟨S8192x1, .f32⟩
  | 101 => ⟨S8192x1, .f32⟩
  | 102 => ⟨S8192x1, .f32⟩
  | 103 => ⟨S8192x1, .f32⟩
  | 104 => ⟨S_, .f32⟩
  | 105 => ⟨S8192x1, .f32⟩
  | 106 => ⟨S8192x1, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S_, .f32⟩
  | 119 => ⟨S1024, .f32⟩
  | 120 => ⟨S1x1024, .f32⟩
  | 121 => ⟨S8192x1024, .f32⟩
  | 122 => ⟨S_, .f32⟩
  | 123 => ⟨S1024, .f32⟩
  | 124 => ⟨S1x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S8192, .f32⟩
  | 2 => ⟨S8192x1, .f32⟩
  | 3 => ⟨S8192x1024, .f32⟩
  | 4 => ⟨S8192x1024, .f32⟩
  | 5 => ⟨S8192x1, .f32⟩
  | 6 => ⟨S_, .f32⟩
  | 7 => ⟨S8192x1, .f32⟩
  | 8 => ⟨S8192x1, .f32⟩
  | 9 => ⟨S_, .f32⟩
  | 10 => ⟨S8192, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x2816, .f32⟩
  | 17 => ⟨S8192x2816, .f32⟩
  | 18 => ⟨S8192x2816, .f32⟩
  | 19 => ⟨S8192x2816, .f32⟩
  | 20 => ⟨S8192x2816, .f32⟩
  | 21 => ⟨S8192x2816, .f32⟩
  | 22 => ⟨S8192x2816, .f32⟩
  | 23 => ⟨S_, .f32⟩
  | 24 => ⟨S8192x5632, .f32⟩
  | 25 => ⟨S_, .f32⟩
  | 26 => ⟨S8192x5632, .f32⟩
  | 27 => ⟨S8192x5632, .f32⟩
  | 28 => ⟨S8192x5632, .f32⟩
  | 29 => ⟨S_, .f32⟩
  | 30 => ⟨S5632, .f32⟩
  | 31 => ⟨S1x5632, .f32⟩
  | 32 => ⟨S8192x5632, .f32⟩
  | 33 => ⟨S8192x5632, .f32⟩
  | 34 => ⟨S_, .f32⟩
  | 35 => ⟨S5632, .f32⟩
  | 36 => ⟨S1x5632, .f32⟩
  | 37 => ⟨S_, .f32⟩
  | 38 => ⟨S3x5632, .f32⟩
  | 39 => ⟨S_, .f32⟩
  | 40 => ⟨S8194x5632, .f32⟩
  | 41 => ⟨S8192x5632, .f32⟩
  | 42 => ⟨S_, .f32⟩
  | 43 => ⟨S5632, .f32⟩
  | 44 => ⟨S1x5632, .f32⟩
  | 45 => ⟨S8192x5632, .f32⟩
  | 46 => ⟨S8192x5632, .f32⟩
  | 47 => ⟨S_, .f32⟩
  | 48 => ⟨S5632, .f32⟩
  | 49 => ⟨S1x5632, .f32⟩
  | 50 => ⟨S_, .f32⟩
  | 51 => ⟨S3x5632, .f32⟩
  | 52 => ⟨S3x5632, .f32⟩
  | 53 => ⟨S_, .f32⟩
  | 54 => ⟨S8194x5632, .f32⟩
  | 55 => ⟨S8194x5632, .f32⟩
  | 56 => ⟨S_, .f32⟩
  | 57 => ⟨S5632, .f32⟩
  | 58 => ⟨S1x5632, .f32⟩
  | 59 => ⟨S8192x5632, .f32⟩
  | 60 => ⟨S_, .f32⟩
  | 61 => ⟨S5632, .f32⟩
  | 62 => ⟨S1x5632, .f32⟩
  | 63 => ⟨S8192x5632, .f32⟩
  | 64 => ⟨S8192x5632, .f32⟩
  | 65 => ⟨S_, .f32⟩
  | 66 => ⟨S5632, .f32⟩
  | 67 => ⟨S1x5632, .f32⟩
  | 68 => ⟨S_, .f32⟩
  | 69 => ⟨S3x5632, .f32⟩
  | 70 => ⟨S3x5632, .f32⟩
  | 71 => ⟨S_, .f32⟩
  | 72 => ⟨S8194x5632, .f32⟩
  | 73 => ⟨S8194x5632, .f32⟩
  | 74 => ⟨S2x5632, .f32⟩
  | 75 => ⟨S8192x5632, .f32⟩
  | 76 => ⟨S8192x1024, .f32⟩
  | 77 => ⟨S_, .f32⟩
  | 78 => ⟨S1024, .f32⟩
  | 79 => ⟨S1x1024, .f32⟩
  | 80 => ⟨S8192x1024, .f32⟩
  | 81 => ⟨S_, .f32⟩
  | 82 => ⟨S1024, .f32⟩
  | 83 => ⟨S1x1024, .f32⟩
  | 84 => ⟨S8192x1024, .f32⟩
  | 85 => ⟨S8192x1024, .f32⟩
  | 86 => ⟨S8192x1024, .f32⟩
  | 87 => ⟨S_, .f32⟩
  | 88 => ⟨S1024, .f32⟩
  | 89 => ⟨S1x1024, .f32⟩
  | 90 => ⟨S8192x1024, .f32⟩
  | 91 => ⟨S8192x1024, .f32⟩
  | 92 => ⟨S8192x1024, .f32⟩
  | 93 => ⟨S_, .f32⟩
  | 94 => ⟨S8192, .f32⟩
  | 95 => ⟨S8192x1, .f32⟩
  | 96 => ⟨S8192x1024, .f32⟩
  | 97 => ⟨S8192x1024, .f32⟩
  | 98 => ⟨S8192x1024, .f32⟩
  | 99 => ⟨S8192x1, .f32⟩
  | 100 => ⟨S_, .f32⟩
  | 101 => ⟨S8192x1, .f32⟩
  | 102 => ⟨S8192x1, .f32⟩
  | 103 => ⟨S_, .f32⟩
  | 104 => ⟨S8192, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x8x704, .f32⟩
  | 111 => ⟨S8x8192x704, .f32⟩
  | 112 => ⟨S8x8192x704, .bf16⟩
  | 113 => ⟨S8192x1024, .bf16⟩
  | 114 => ⟨S8192x1024, .bf16⟩
  | 115 => ⟨S3x1024, .f32⟩
  | 116 => ⟨S8x704, .f32⟩
  | 117 => ⟨S3x8x704, .f32⟩
  | 118 => ⟨S8x3x704, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_v58_2 : Ref sig .tc := ⟨.hbm, 83, rfl⟩
abbrev main_call0_cst_1 : Ref sig .tc := ⟨.hbm, 84, rfl⟩
abbrev main_call0_v6 : Ref sig .tc := ⟨.hbm, 85, rfl⟩
abbrev main_call0_v7 : Ref sig .tc := ⟨.hbm, 86, rfl⟩
abbrev main_v58_1 : Ref sig .tc := ⟨.hbm, 87, rfl⟩
abbrev main_v58_0 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_8 : Ref sig .tc := ⟨.hbm, 93, rfl⟩
abbrev main_v63 : Ref sig .tc := ⟨.hbm, 94, rfl⟩
abbrev main_v64 : Ref sig .tc := ⟨.hbm, 95, rfl⟩
abbrev main_cst_9 : Ref sig .tc := ⟨.hbm, 96, rfl⟩
abbrev main_v65 : Ref sig .tc := ⟨.hbm, 97, rfl⟩
abbrev main_v66 : Ref sig .tc := ⟨.hbm, 98, rfl⟩
abbrev main_cst_10 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_11 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_12 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_13 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_14 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_15 : Ref sig .tc := ⟨.hbm, 134, rfl⟩
abbrev main_v97 : Ref sig .tc := ⟨.hbm, 135, rfl⟩
abbrev main_v98 : Ref sig .tc := ⟨.hbm, 136, rfl⟩
abbrev main_cst_16 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_call1_v0 : Ref sig .tc := ⟨.hbm, 147, rfl⟩
abbrev main_call1_v1 : Ref sig .tc := ⟨.hbm, 148, rfl⟩
abbrev main_call1_v2 : Ref sig .tc := ⟨.hbm, 149, rfl⟩
abbrev main_v108 : Ref sig .tc := ⟨.hbm, 150, rfl⟩
abbrev main_cst_17 : Ref sig .tc := ⟨.hbm, 151, rfl⟩
abbrev main_v109 : Ref sig .tc := ⟨.hbm, 152, rfl⟩
abbrev main_cst_18 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_19 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_20 : Ref sig .tc := ⟨.hbm, 162, rfl⟩
abbrev main_v117 : Ref sig .tc := ⟨.hbm, 163, rfl⟩
abbrev main_v118 : Ref sig .tc := ⟨.hbm, 164, rfl⟩
abbrev main_cst_21 : Ref sig .tc := ⟨.hbm, 165, rfl⟩
abbrev main_v119 : Ref sig .tc := ⟨.hbm, 166, rfl⟩
abbrev main_cst_22 : Ref sig .tc := ⟨.hbm, 167, rfl⟩
abbrev main_v120 : Ref sig .tc := ⟨.hbm, 168, rfl⟩
abbrev main_v121 : Ref sig .tc := ⟨.hbm, 169, rfl⟩
abbrev main_cst_23 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_cst_24 : Ref sig .tc := ⟨.hbm, 175, rfl⟩
abbrev main_v126 : Ref sig .tc := ⟨.hbm, 176, rfl⟩
abbrev main_v127 : Ref sig .tc := ⟨.hbm, 177, rfl⟩
abbrev main_cst_25 : Ref sig .tc := ⟨.hbm, 178, rfl⟩
abbrev main_v128 : Ref sig .tc := ⟨.hbm, 179, rfl⟩
abbrev main_v129 : Ref sig .tc := ⟨.hbm, 180, rfl⟩
abbrev main_cst_26 : Ref sig .tc := ⟨.hbm, 181, rfl⟩
abbrev main_v130 : Ref sig .tc := ⟨.hbm, 182, rfl⟩
abbrev main_v131 : Ref sig .tc := ⟨.hbm, 183, rfl⟩
abbrev main_cst_27 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_28 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_cst_29 : Ref sig .tc := ⟨.hbm, 193, rfl⟩
abbrev main_v139 : Ref sig .tc := ⟨.hbm, 194, rfl⟩
abbrev main_v140 : Ref sig .tc := ⟨.hbm, 195, rfl⟩
abbrev main_cst_30 : Ref sig .tc := ⟨.hbm, 196, rfl⟩
abbrev main_v141 : Ref sig .tc := ⟨.hbm, 197, rfl⟩
abbrev main_v142 : Ref sig .tc := ⟨.hbm, 198, rfl⟩
abbrev main_cst_31 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_cst_32 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_cst_33 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_cst_34 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_cst_35 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_cst_36 : Ref sig .tc := ⟨.hbm, 228, rfl⟩
abbrev main_v167 : Ref sig .tc := ⟨.hbm, 229, rfl⟩
abbrev main_v168 : Ref sig .tc := ⟨.hbm, 230, rfl⟩
abbrev main_cst_37 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩

abbrev nD : Nat := 1
abbrev τ : Topo := Topo.v7x

variable {F : FTy → Type} [FloatOps F]
-- ==== Mix.lean ====
abbrev S8192x1024 : Shape := ⟨2, ![8192, 1024]⟩
abbrev S1x6144 : Shape := ⟨2, ![1, 6144]⟩
abbrev S1x1024 : Shape := ⟨2, ![1, 1024]⟩
abbrev S1024x1536 : Shape := ⟨2, ![1024, 1536]⟩
abbrev S4x128 : Shape := ⟨2, ![4, 128]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩
abbrev S8192x512 : Shape := ⟨2, ![8192, 512]⟩
abbrev S64x128x4x128 : Shape := ⟨4, ![64, 128, 4, 128]⟩
abbrev S1x1x4x128 : Shape := ⟨4, ![1, 1, 4, 128]⟩
abbrev S64x128x4 : Shape := ⟨3, ![64, 128, 4]⟩
abbrev S64x128x4x1 : Shape := ⟨4, ![64, 128, 4, 1]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S8192x4x128 : Shape := ⟨3, ![8192, 4, 128]⟩
abbrev S8192x1x128 : Shape := ⟨3, ![8192, 1, 128]⟩
abbrev S8192x128 : Shape := ⟨2, ![8192, 128]⟩
abbrev S2x128 : Shape := ⟨2, ![2, 128]⟩
abbrev S8194x128 : Shape := ⟨2, ![8194, 128]⟩
abbrev S8196x128 : Shape := ⟨2, ![8196, 128]⟩
abbrev S8x128 : Shape := ⟨2, ![8, 128]⟩
abbrev S8200x128 : Shape := ⟨2, ![8200, 128]⟩
abbrev S16x128 : Shape := ⟨2, ![16, 128]⟩
abbrev S8208x128 : Shape := ⟨2, ![8208, 128]⟩
abbrev S4x128x8192 : Shape := ⟨3, ![4, 128, 8192]⟩
abbrev S6x1024 : Shape := ⟨2, ![6, 1024]⟩
abbrev S1536x1024 : Shape := ⟨2, ![1536, 1024]⟩
abbrev S3x1024 : Shape := ⟨2, ![3, 1024]⟩
abbrev S512x1024 : Shape := ⟨2, ![512, 1024]⟩
abbrev S512x1536 : Shape := ⟨2, ![512, 1536]⟩
abbrev S16x512 : Shape := ⟨2, ![16, 512]⟩
abbrev S528x512 : Shape := ⟨2, ![528, 512]⟩
abbrev S512 : Shape := ⟨1, ![512]⟩
abbrev S512x1 : Shape := ⟨2, ![512, 1]⟩
abbrev S1024 : Shape := ⟨1, ![1024]⟩
abbrev S512x128 : Shape := ⟨2, ![512, 128]⟩
abbrev S512x512 : Shape := ⟨2, ![512, 512]⟩
abbrev S528x128 : Shape := ⟨2, ![528, 128]⟩

abbrev nBuf : Space → Nat
  | .hbm => 252
  | .vmem => 37
  | .smem => 0
  | _ => 0

abbrev hbmTy0_0 (i : Nat) : BufTy := match i % 128 with
  | 0 => ⟨S8192x1024, .f32⟩
  | 1 => ⟨S8192x1024, .f32⟩
  | 2 => ⟨S1x6144, .f32⟩
  | 3 => ⟨S1x1024, .f32⟩
  | 4 => ⟨S1x1024, .f32⟩
  | 5 => ⟨S1024x1536, .f32⟩
  | 6 => ⟨S4x128, .f32⟩
  | 7 => ⟨S4x128x128, .f32⟩
  | 8 => ⟨S4x128, .f32⟩
  | 9 => ⟨S4x128x128, .f32⟩
  | 10 => ⟨S1x512, .f32⟩
  | 11 => ⟨S1024x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S8192x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1, .f32⟩
  | 29 => ⟨S8192x1024, .f32⟩
  | 30 => ⟨S8192x1024, .f32⟩
  | 31 => ⟨S8192x1024, .f32⟩
  | 32 => ⟨S8192x1024, .f32⟩
  | 33 => ⟨S_, .f32⟩
  | 34 => ⟨S1x1024, .f32⟩
  | 35 => ⟨S1x1024, .f32⟩
  | 36 => ⟨S8192x1024, .f32⟩
  | 37 => ⟨S8192x1024, .f32⟩
  | 38 => ⟨S8192x1024, .f32⟩
  | 39 => ⟨S8192x1024, .f32⟩
  | 40 => ⟨S8192x1536, .f32⟩
  | 41 => ⟨S8192x1024, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S8192x1024, .f32⟩
  | 59 => ⟨S8192x512, .f32⟩
  | 60 => ⟨S8192x512, .f32⟩
  | 61 => ⟨S64x128x4x128, .f32⟩
  | 62 => ⟨S1x1x4x128, .f32⟩
  | 63 => ⟨S64x128x4x128, .f32⟩
  | 64 => ⟨S_, .f32⟩
  | 65 => ⟨S64x128x4, .f32⟩
  | 66 => ⟨S64x128x4x1, .f32⟩
  | 67 => ⟨S_, .f32⟩
  | 68 => ⟨S64x128x4x1, .f32⟩
  | 69 => ⟨S64x128x4x1, .f32⟩
  | 70 => ⟨S_, .f32⟩
  | 71 => ⟨S64x128x4x1, .f32⟩
  | 72 => ⟨S64x128x4x1, .f32⟩
  | 73 => ⟨S64x128x4x1, .f32⟩
  | 74 => ⟨S64x128x4x128, .f32⟩
  | 75 => ⟨S64x128x4x128, .f32⟩
  | 76 => ⟨S64x128x4x128, .f32⟩
  | 77 => ⟨S64x128x4x128, .f32⟩
  | 78 => ⟨S128, .i32⟩
  | 79 => ⟨S1x128, .i32⟩
  | 80 => ⟨S_, .i32⟩
  | 81 => ⟨S_, .i32⟩
  | 82 => ⟨S1x128, .i32⟩
  | 83 => ⟨S1x128, .i32⟩
  | 84 => ⟨S1x128, .i32⟩
  | 85 => ⟨S_, .i32⟩
  | 86 => ⟨S1x128, .i32⟩
  | 87 => ⟨S1x128, .i1⟩
  | 88 => ⟨S1x128, .i32⟩
  | 89 => ⟨S1x128, .i32⟩
  | 90 => ⟨S_, .i32⟩
  | 91 => ⟨S1x128, .i32⟩
  | 92 => ⟨S1x128, .i1⟩
  | 93 => ⟨S1x128, .i1⟩
  | 94 => ⟨S_, .i32⟩
  | 95 => ⟨S1x128, .i32⟩
  | 96 => ⟨S1x128, .i32⟩
  | 97 => ⟨S1x128, .i32⟩
  | 98 => ⟨S128x1, .i32⟩
  | 99 => ⟨S_, .i32⟩
  | 100 => ⟨S_, .i32⟩
  | 101 => ⟨S128x1, .i32⟩
  | 102 => ⟨S128x1, .i32⟩
  | 103 => ⟨S128x1, .i32⟩
  | 104 => ⟨S_, .i32⟩
  | 105 => ⟨S128x1, .i32⟩
  | 106 => ⟨S128x1, .i1⟩
  | 107 => ⟨S128x1, .i32⟩
  | 108 => ⟨S128x1, .i32⟩
  | 109 => ⟨S_, .i32⟩
  | 110 => ⟨S128x1, .i32⟩
  | 111 => ⟨S128x1, .i1⟩
  | 112 => ⟨S128x1, .i1⟩
  | 113 => ⟨S_, .i32⟩
  | 114 => ⟨S128x1, .i32⟩
  | 115 => ⟨S128x1, .i32⟩
  | 116 => ⟨S128x1, .i32⟩
  | 117 => ⟨S128x128, .i32⟩
  | 118 => ⟨S128x128, .i32⟩
  | 119 => ⟨S128x128, .i1⟩
  | 120 => ⟨S1x128x128, .i1⟩
  | 121 => ⟨S_, .f32⟩
  | 122 => ⟨S4x128x128, .f32⟩
  | 123 => ⟨S4x128x128, .i1⟩
  | 124 => ⟨S4x128x128, .f32⟩
  | 125 => ⟨S4x64x128x128, .f32⟩
  | 126 => ⟨S64x128x4x128, .f32⟩
  | 127 => ⟨S128x4, .f32⟩
  | _ => ⟨S8192x1024, .f32⟩

abbrev hbmTy0_1 (i : Nat) : BufTy := match i % 128 with
  | 0 => ⟨S1x128x4x1, .f32⟩
  | 1 => ⟨S64x128x4x128, .f32⟩
  | 2 => ⟨S64x128x4x128, .f32⟩
  | 3 => ⟨S8192x512, .f32⟩
  | 4 => ⟨S8192x512, .f32⟩
  | 5 => ⟨S8192x512, .f32⟩
  | 6 => ⟨S8192x4x128, .f32⟩
  | 7 => ⟨S8192, .i32⟩
  | 8 => ⟨S8192x1x128, .f32⟩
  | 9 => ⟨S8192x128, .f32⟩
  | 10 => ⟨S_, .f32⟩
  | 11 => ⟨S_, .f32⟩
  | 12 => ⟨S8192x128, .f32⟩
  | 13 => ⟨S_, .f32⟩
  | 14 => ⟨S2x128, .f32⟩
  | 15 => ⟨S8194x128, .f32⟩
  | 16 => ⟨S8192x128, .f32⟩
  | 17 => ⟨S8192x128, .f32⟩
  | 18 => ⟨S8192x128, .f32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S8192, .f32⟩
  | 26 => ⟨S8192x1, .f32⟩
  | 27 => ⟨S8192x128, .f32⟩
  | 28 => ⟨S8192x128, .f32⟩
  | 29 => ⟨S8192x128, .f32⟩
  | 30 => ⟨S8192x1x128, .f32⟩
  | 31 => ⟨S8192x128, .f32⟩
  | 32 => ⟨S_, .f32⟩
  | 33 => ⟨S_, .f32⟩
  | 34 => ⟨S8192x128, .f32⟩
  | 35 => ⟨S_, .f32⟩
  | 36 => ⟨S4x128, .f32⟩
  | 37 => ⟨S8196x128, .f32⟩
  | 38 => ⟨S8192x128, .f32⟩
  | 39 => ⟨S8192x128, .f32⟩
  | 40 => ⟨S8192x128, .f32⟩
  | 41 => ⟨S_, .i32⟩
  | 42 => ⟨S8192, .i32⟩
  | 43 => ⟨S8192, .i32⟩
  | 44 => ⟨S_, .i32⟩
  | 45 => ⟨S8192, .i32⟩
  | 46 => ⟨S8192, .i32⟩
  | 47 => ⟨S8192, .f32⟩
  | 48 => ⟨S8192x1, .f32⟩
  | 49 => ⟨S8192x128, .f32⟩
  | 50 => ⟨S8192x128, .f32⟩
  | 51 => ⟨S8192x128, .f32⟩
  | 52 => ⟨S8192x1x128, .f32⟩
  | 53 => ⟨S8192x128, .f32⟩
  | 54 => ⟨S_, .f32⟩
  | 55 => ⟨S_, .f32⟩
  | 56 => ⟨S8192x128, .f32⟩
  | 57 => ⟨S_, .f32⟩
  | 58 => ⟨S8x128, .f32⟩
  | 59 => ⟨S8200x128, .f32⟩
  | 60 => ⟨S8192x128, .f32⟩
  | 61 => ⟨S8192x128, .f32⟩
  | 62 => ⟨S8192x128, .f32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S8192, .f32⟩
  | 70 => ⟨S8192x1, .f32⟩
  | 71 => ⟨S8192x128, .f32⟩
  | 72 => ⟨S8192x128, .f32⟩
  | 73 => ⟨S8192x128, .f32⟩
  | 74 => ⟨S8192x1x128, .f32⟩
  | 75 => ⟨S8192x128, .f32⟩
  | 76 => ⟨S_, .f32⟩
  | 77 => ⟨S_, .f32⟩
  | 78 => ⟨S8192x128, .f32⟩
  | 79 => ⟨S_, .f32⟩
  | 80 => ⟨S16x128, .f32⟩
  | 81 => ⟨S8208x128, .f32⟩
  | 82 => ⟨S8192x128, .f32⟩
  | 83 => ⟨S8192x128, .f32⟩
  | 84 => ⟨S8192x128, .f32⟩
  | 85 => ⟨S_, .i32⟩
  | 86 => ⟨S8192, .i32⟩
  | 87 => ⟨S8192, .i32⟩
  | 88 => ⟨S_, .i32⟩
  | 89 => ⟨S8192, .i32⟩
  | 90 => ⟨S8192, .i32⟩
  | 91 => ⟨S8192, .f32⟩
  | 92 => ⟨S8192x1, .f32⟩
  | 93 => ⟨S8192x128, .f32⟩
  | 94 => ⟨S8192x128, .f32⟩
  | 95 => ⟨S8192x128, .f32⟩
  | 96 => ⟨S8192x1x128, .f32⟩
  | 97 => ⟨S8192x1x128, .f32⟩
  | 98 => ⟨S8192x1x128, .f32⟩
  | 99 => ⟨S8192x1x128, .f32⟩
  | 100 => ⟨S8192x4x128, .f32⟩
  | 101 => ⟨S4x128x8192, .f32⟩
  | 102 => ⟨S8192x4x128, .f32⟩
  | 103 => ⟨S8192x512, .f32⟩
  | 104 => ⟨S8192x512, .f32⟩
  | 105 => ⟨S8192x512, .f32⟩
  | 106 => ⟨S8192x1024, .f32⟩
  | 107 => ⟨S8192x1024, .f32⟩
  | 108 => ⟨S6x1024, .f32⟩
  | 109 => ⟨S1536x1024, .f32⟩
  | 110 => ⟨S1536x1024, .bf16⟩
  | 111 => ⟨S128x4, .f32⟩
  | 112 => ⟨S1024x1024, .bf16⟩
  | 113 => ⟨S8192x1024, .f32⟩
  | 114 => ⟨S1536x1024, .f32⟩
  | 115 => ⟨S1024x1024, .f32⟩
  | 116 => ⟨S3x1024, .f32⟩
  | 117 => ⟨S1x1024, .f32⟩
  | 118 => ⟨S1x1024, .f32⟩
  | 119 => ⟨S4x128, .f32⟩
  | 120 => ⟨S4x128x128, .f32⟩
  | 121 => ⟨S128x4, .f32⟩
  | 122 => ⟨S4x128x128, .f32⟩
  | 123 => ⟨S1x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1536, .f32⟩
  | .local _ .vmem, ⟨5, _⟩ => ⟨S512x1536, .f32⟩
  | .local _ .vmem, ⟨6, _⟩ => ⟨S16x512, .f32⟩
  | .local _ .vmem, ⟨7, _⟩ => ⟨S16x512, .f32⟩
  | .local _ .vmem, ⟨8, _⟩ => ⟨S512x1024, .f32⟩
  | .local _ .vmem, ⟨9, _⟩ => ⟨S512x1024, .f32⟩
  | .local _ .vmem, ⟨10, _⟩ => ⟨S6x1024, .f32⟩
  | .local _ .vmem, ⟨11, _⟩ => ⟨S1x1024, .f32⟩
  | .local _ .vmem, ⟨12, _⟩ => ⟨S1x1024, .f32⟩
  | .local _ .vmem, ⟨13, _⟩ => ⟨S1536x1024, .bf16⟩
  | .local _ .vmem, ⟨14, _⟩ => ⟨S4x128, .f32⟩
  | .local _ .vmem, ⟨15, _⟩ => ⟨S4x128x128, .f32⟩
  | .local _ .vmem, ⟨16, _⟩ => ⟨S128x4, .f32⟩
  | .local _ .vmem, ⟨17, _⟩ => ⟨S4x128x128, .f32⟩
  | .local _ .vmem, ⟨18, _⟩ => ⟨S1x512, .f32⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S1536x1024, .f32⟩
  | .local _ .vmem, ⟨23, _⟩ => ⟨S1024x1024, .f32⟩
  | .local _ .vmem, ⟨24, _⟩ => ⟨S3x1024, .f32⟩
  | .local _ .vmem, ⟨25, _⟩ => ⟨S1x1024, .f32⟩
  | .local _ .vmem, ⟨26, _⟩ => ⟨S1x1024, .f32⟩
  | .local _ .vmem, ⟨27, _⟩ => ⟨S4x128, .f32⟩
  | .local _ .vmem, ⟨28, _⟩ => ⟨S4x128x128, .f32⟩
  | .local _ .vmem, ⟨29, _⟩ => ⟨S128x4, .f32⟩
  | .local _ .vmem, ⟨30, _⟩ => ⟨S4x128x128, .f32⟩
  | .local _ .vmem, ⟨31, _⟩ => ⟨S1x512, .f32⟩
  | .local _ .vmem, ⟨32, _⟩ => ⟨S528x512, .f32⟩
  | .local _ .vmem, ⟨33, _⟩ => ⟨S528x512, .f32⟩
  | .local _ .vmem, ⟨34, _⟩ => ⟨S512x1024, .bf16⟩
  | .local _ .vmem, ⟨35, _⟩ => ⟨S512x1536, .bf16⟩
  | .local _ .vmem, ⟨36, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_v8 : Ref sig .tc := ⟨.hbm, 89, rfl⟩
abbrev main_call0_c : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_call0_c_0 : Ref sig .tc := ⟨.hbm, 94, rfl⟩
abbrev main_call0_v12 : Ref sig .tc := ⟨.hbm, 95, rfl⟩
abbrev main_call0_v13 : Ref sig .tc := ⟨.hbm, 96, rfl⟩
abbrev main_v57 : Ref sig .tc := ⟨.hbm, 97, rfl⟩
abbrev main_v58 : Ref sig .tc := ⟨.hbm, 98, rfl⟩
abbrev main_c_10 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_v7 : Ref sig .tc := ⟨.hbm, 107, rfl⟩
abbrev main_call1_v8 : Ref sig .tc := ⟨.hbm, 108, rfl⟩
abbrev main_call1_c : Ref sig .tc := ⟨.hbm, 109, rfl⟩
abbrev main_call1_v9 : Ref sig .tc := ⟨.hbm, 110, rfl⟩
abbrev main_call1_v10 : Ref sig .tc := ⟨.hbm, 111, rfl⟩
abbrev main_call1_v11 : Ref sig .tc := ⟨.hbm, 112, rfl⟩
abbrev main_call1_c_0 : Ref sig .tc := ⟨.hbm, 113, rfl⟩
abbrev main_call1_v12 : Ref sig .tc := ⟨.hbm, 114, rfl⟩
abbrev main_call1_v13 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_cst_11 : Ref sig .tc := ⟨.hbm, 121, rfl⟩
abbrev main_v64 : Ref sig .tc := ⟨.hbm, 122, rfl⟩
abbrev main_call2_v0 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_call3_call0_cst : Ref sig .tc := ⟨.hbm, 138, rfl⟩
abbrev main_call3_call0_v0 : Ref sig .tc := ⟨.hbm, 139, rfl⟩
abbrev main_v79 : Ref sig .tc := ⟨.hbm, 140, rfl⟩
abbrev main_cst_12 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_c_13 : Ref sig .tc := ⟨.hbm, 147, rfl⟩
abbrev main_v85 : Ref sig .tc := ⟨.hbm, 148, rfl⟩
abbrev main_v86 : Ref sig .tc := ⟨.hbm, 149, rfl⟩
abbrev main_c_14 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_call4_call0_cst : Ref sig .tc := ⟨.hbm, 160, rfl⟩
abbrev main_call4_call0_v0 : Ref sig .tc := ⟨.hbm, 161, rfl⟩
abbrev main_v96 : Ref sig .tc := ⟨.hbm, 162, rfl⟩
abbrev main_cst_15 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_c_16 : Ref sig .tc := ⟨.hbm, 169, rfl⟩
abbrev main_v102 : Ref sig .tc := ⟨.hbm, 170, rfl⟩
abbrev main_v103 : Ref sig .tc := ⟨.hbm, 171, rfl⟩
abbrev main_c_17 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_call5_call0_cst : Ref sig .tc := ⟨.hbm, 182, rfl⟩
abbrev main_call5_call0_v0 : Ref sig .tc := ⟨.hbm, 183, rfl⟩
abbrev main_v113 : Ref sig .tc := ⟨.hbm, 184, rfl⟩
abbrev main_cst_18 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_c_19 : Ref sig .tc := ⟨.hbm, 191, rfl⟩
abbrev main_v119 : Ref sig .tc := ⟨.hbm, 192, rfl⟩
abbrev main_v120 : Ref sig .tc := ⟨.hbm, 193, rfl⟩
abbrev main_c_20 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_call6_call0_cst : Ref sig .tc := ⟨.hbm, 204, rfl⟩
abbrev main_call6_call0_v0 : Ref sig .tc := ⟨.hbm, 205, rfl⟩
abbrev main_v130 : Ref sig .tc := ⟨.hbm, 206, rfl⟩
abbrev main_cst_21 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_c_22 : Ref sig .tc := ⟨.hbm, 213, rfl⟩
abbrev main_v136 : Ref sig .tc := ⟨.hbm, 214, rfl⟩
abbrev main_v137 : Ref sig .tc := ⟨.hbm, 215, rfl⟩
abbrev main_c_23 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162_0 : Ref sig .tc := ⟨.hbm, 241, rfl⟩
abbrev main_v162_1 : Ref sig .tc := ⟨.hbm, 242, rfl⟩
abbrev main_v162_2 : Ref sig .tc := ⟨.hbm, 243, rfl⟩
abbrev main_v162_3 : Ref sig .tc := ⟨.hbm, 244, rfl⟩
abbrev main_v162_4 : Ref sig .tc := ⟨.hbm, 245, rfl⟩
abbrev main_v162_5 : Ref sig .tc := ⟨.hbm, 246, rfl⟩
abbrev main_v162_6 : Ref sig .tc := ⟨.hbm, 247, rfl⟩
abbrev main_v162_7 : Ref sig .tc := ⟨.hbm, 248, rfl⟩
abbrev main_v162_8 : Ref sig .tc := ⟨.hbm, 249, rfl⟩
abbrev main_v162_9 : Ref sig .tc := ⟨.hbm, 250, rfl⟩
abbrev main_v162_10 : Ref sig .tc := ⟨.hbm, 251, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem25_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1536x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x4 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S4x128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== MixIdeal.lean ====
variable {F : FTy → Type} [FloatOps F] [Named F]
def κ : String → Option EReal := fun
  | "gelu_slope" => some ((241015141496493 / 4503599627370496 : ℝ) : EReal)
  | _ => none
-- ==== MixReferenceIdeal.lean ====
abbrev S8192x1024 : Shape := ⟨2, ![8192, 1024]⟩
abbrev S1x6144 : Shape := ⟨2, ![1, 6144]⟩
abbrev S1x1024 : Shape := ⟨2, ![1, 1024]⟩
abbrev S1024x1536 : Shape := ⟨2, ![1024, 1536]⟩
abbrev S4x128 : Shape := ⟨2, ![4, 128]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩
abbrev S8192x512 : Shape := ⟨2, ![8192, 512]⟩
abbrev S64x128x4x128 : Shape := ⟨4, ![64, 128, 4, 128]⟩
abbrev S1x1x4x128 : Shape := ⟨4, ![1, 1, 4, 128]⟩
abbrev S64x128x4 : Shape := ⟨3, ![64, 128, 4]⟩
abbrev S64x128x4x1 : Shape := ⟨4, ![64, 128, 4, 1]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S8192x4x128 : Shape := ⟨3, ![8192, 4, 128]⟩
abbrev S8192x1x128 : Shape := ⟨3, ![8192, 1, 128]⟩
abbrev S8192x128 : Shape := ⟨2, ![8192, 128]⟩
abbrev S2x128 : Shape := ⟨2, ![2, 128]⟩
abbrev S8194x128 : Shape := ⟨2, ![8194, 128]⟩
abbrev S8196x128 : Shape := ⟨2, ![8196, 128]⟩
abbrev S8x128 : Shape := ⟨2, ![8, 128]⟩
abbrev S8200x128 : Shape := ⟨2, ![8200, 128]⟩
abbrev S16x128 : Shape := ⟨2, ![16, 128]⟩
abbrev S8208x128 : Shape := ⟨2, ![8208, 128]⟩
abbrev S4x128x8192 : Shape := ⟨3, ![4, 128, 8192]⟩
abbrev S1024 : Shape := ⟨1, ![1024]⟩
abbrev S512 : Shape := ⟨1, ![512]⟩
abbrev S4x8192x128 : Shape := ⟨3, ![4, 8192, 128]⟩
abbrev S1536x1024 : Shape := ⟨2, ![1536, 1024]⟩
abbrev S3x1024 : Shape := ⟨2, ![3, 1024]⟩

abbrev nBuf : Space → Nat
  | .hbm => 524
  | .vmem => 0
  | .smem => 0
  | _ => 0

abbrev hbmTy0_0 (i : Nat) : BufTy := match i % 128 with
  | 0 => ⟨S8192x1024, .f32⟩
  | 1 => ⟨S8192x1024, .f32⟩
  | 2 => ⟨S1x6144, .f32⟩
  | 3 => ⟨S1x1024, .f32⟩
  | 4 => ⟨S1x1024, .f32⟩
  | 5 => ⟨S1024x1536, .f32⟩
  | 6 => ⟨S4x128, .f32⟩
  | 7 => ⟨S4x128x128, .f32⟩
  | 8 => ⟨S4x128, .f32⟩
  | 9 => ⟨S4x128x128, .f32⟩
  | 10 => ⟨S1x512, .f32⟩
  | 11 => ⟨S1024x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S8192x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1, .f32⟩
  | 29 => ⟨S8192x1, .f32⟩
  | 30 => ⟨S_, .f32⟩
  | 31 => ⟨S8192x1, .f32⟩
  | 32 => ⟨S8192x1, .f32⟩
  | 33 => ⟨S8192x1024, .f32⟩
  | 34 => ⟨S8192x1024, .f32⟩
  | 35 => ⟨S8192x1024, .f32⟩
  | 36 => ⟨S8192x1024, .f32⟩
  | 37 => ⟨S_, .f32⟩
  | 38 => ⟨S1x1024, .f32⟩
  | 39 => ⟨S1x1024, .f32⟩
  | 40 => ⟨S8192x1024, .f32⟩
  | 41 => ⟨S8192x1024, .f32⟩
  | 42 => ⟨S8192x1024, .f32⟩
  | 43 => ⟨S8192x1024, .f32⟩
  | 44 => ⟨S8192x1536, .f32⟩
  | 45 => ⟨S8192x1024, .f32⟩
  | 46 => ⟨S8192x1024, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S8192x1024, .f32⟩
  | 56 => ⟨S_, .f32⟩
  | 57 => ⟨S8192x1024, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S8192x1024, .f32⟩
  | 74 => ⟨S8192x512, .f32⟩
  | 75 => ⟨S8192x512, .f32⟩
  | 76 => ⟨S64x128x4x128, .f32⟩
  | 77 => ⟨S1x1x4x128, .f32⟩
  | 78 => ⟨S64x128x4x128, .f32⟩
  | 79 => ⟨S_, .f32⟩
  | 80 => ⟨S64x128x4, .f32⟩
  | 81 => ⟨S64x128x4x1, .f32⟩
  | 82 => ⟨S_, .f32⟩
  | 83 => ⟨S64x128x4x1, .f32⟩
  | 84 => ⟨S64x128x4x1, .f32⟩
  | 85 => ⟨S_, .f32⟩
  | 86 => ⟨S64x128x4x1, .f32⟩
  | 87 => ⟨S64x128x4x1, .f32⟩
  | 88 => ⟨S64x128x4x1, .f32⟩
  | 89 => ⟨S64x128x4x1, .f32⟩
  | 90 => ⟨S_, .f32⟩
  | 91 => ⟨S64x128x4x1, .f32⟩
  | 92 => ⟨S64x128x4x1, .f32⟩
  | 93 => ⟨S64x128x4x128, .f32⟩
  | 94 => ⟨S64x128x4x128, .f32⟩
  | 95 => ⟨S64x128x4x128, .f32⟩
  | 96 => ⟨S64x128x4x128, .f32⟩
  | 97 => ⟨S128, .i32⟩
  | 98 => ⟨S1x128, .i32⟩
  | 99 => ⟨S_, .i32⟩
  | 100 => ⟨S_, .i32⟩
  | 101 => ⟨S1x128, .i32⟩
  | 102 => ⟨S1x128, .i32⟩
  | 103 => ⟨S1x128, .i32⟩
  | 104 => ⟨S_, .i32⟩
  | 105 => ⟨S1x128, .i32⟩
  | 106 => ⟨S1x128, .i1⟩
  | 107 => ⟨S1x128, .i32⟩
  | 108 => ⟨S1x128, .i32⟩
  | 109 => ⟨S_, .i32⟩
  | 110 => ⟨S1x128, .i32⟩
  | 111 => ⟨S1x128, .i1⟩
  | 112 => ⟨S1x128, .i1⟩
  | 113 => ⟨S_, .i32⟩
  | 114 => ⟨S1x128, .i32⟩
  | 115 => ⟨S1x128, .i32⟩
  | 116 => ⟨S1x128, .i32⟩
  | 117 => ⟨S128x1, .i32⟩
  | 118 => ⟨S_, .i32⟩
  | 119 => ⟨S_, .i32⟩
  | 120 => ⟨S128x1, .i32⟩
  | 121 => ⟨S128x1, .i32⟩
  | 122 => ⟨S128x1, .i32⟩
  | 123 => ⟨S_, .i32⟩
  | 124 => ⟨S128x1, .i32⟩
  | 125 => ⟨S128x1, .i1⟩
  | 126 => ⟨S128x1, .i32⟩
  | 127 => ⟨S128x1, .i32⟩
  | _ => ⟨S8192x1024, .f32⟩

abbrev hbmTy0_1 (i : Nat) : BufTy := match i % 128 with
  | 0 => ⟨S_, .i32⟩
  | 1 => ⟨S128x1, .i32⟩
  | 2 => ⟨S128x1, .i1⟩
  | 3 => ⟨S128x1, .i1⟩
  | 4 => ⟨S_, .i32⟩
  | 5 => ⟨S128x1, .i32⟩
  | 6 => ⟨S128x1, .i32⟩
  | 7 => ⟨S128x1, .i32⟩
  | 8 => ⟨S128x128, .i32⟩
  | 9 => ⟨S128x128, .i32⟩
  | 10 => ⟨S128x128, .i1⟩
  | 11 => ⟨S1x128x128, .i1⟩
  | 12 => ⟨S_, .f32⟩
  | 13 => ⟨S4x128x128, .f32⟩
  | 14 => ⟨S4x128x128, .i1⟩
  | 15 => ⟨S4x128x128, .f32⟩
  | 16 => ⟨S_, .f32⟩
  | 17 => ⟨S4x128x128, .f32⟩
  | 18 => ⟨S4x64x128x128, .f32⟩
  | 19 => ⟨S64x128x4x128, .f32⟩
  | 20 => ⟨S128x4, .f32⟩
  | 21 => ⟨S1x128x4x1, .f32⟩
  | 22 => ⟨S64x128x4x128, .f32⟩
  | 23 => ⟨S64x128x4x128, .f32⟩
  | 24 => ⟨S8192x512, .f32⟩
  | 25 => ⟨S8192x512, .f32⟩
  | 26 => ⟨S8192x512, .f32⟩
  | 27 => ⟨S8192x4x128, .f32⟩
  | 28 => ⟨S8192, .i32⟩
  | 29 => ⟨S8192x1x128, .f32⟩
  | 30 => ⟨S8192x128, .f32⟩
  | 31 => ⟨S_, .f32⟩
  | 32 => ⟨S_, .f32⟩
  | 33 => ⟨S8192x128, .f32⟩
  | 34 => ⟨S_, .f32⟩
  | 35 => ⟨S2x128, .f32⟩
  | 36 => ⟨S8194x128, .f32⟩
  | 37 => ⟨S_, .f32⟩
  | 38 => ⟨S2x128, .f32⟩
  | 39 => ⟨S8192x128, .f32⟩
  | 40 => ⟨S8192x128, .f32⟩
  | 41 => ⟨S8192x128, .f32⟩
  | 42 => ⟨S_, .i32⟩
  | 43 => ⟨S8192, .i32⟩
  | 44 => ⟨S8192, .i32⟩
  | 45 => ⟨S_, .i32⟩
  | 46 => ⟨S8192, .i32⟩
  | 47 => ⟨S8192, .i32⟩
  | 48 => ⟨S8192, .f32⟩
  | 49 => ⟨S8192x1, .f32⟩
  | 50 => ⟨S8192x128, .f32⟩
  | 51 => ⟨S8192x128, .f32⟩
  | 52 => ⟨S8192x128, .f32⟩
  | 53 => ⟨S8192x1x128, .f32⟩
  | 54 => ⟨S8192x128, .f32⟩
  | 55 => ⟨S_, .f32⟩
  | 56 => ⟨S_, .f32⟩
  | 57 => ⟨S8192x128, .f32⟩
  | 58 => ⟨S_, .f32⟩
  | 59 => ⟨S4x128, .f32⟩
  | 60 => ⟨S8196x128, .f32⟩
  | 61 => ⟨S_, .f32⟩
  | 62 => ⟨S4x128, .f32⟩
  | 63 => ⟨S8192x128, .f32⟩
  | 64 => ⟨S8192x128, .f32⟩
  | 65 => ⟨S8192x128, .f32⟩
  | 66 => ⟨S_, .i32⟩
  | 67 => ⟨S8192, .i32⟩
  | 68 => ⟨S8192, .i32⟩
  | 69 => ⟨S_, .i32⟩
  | 70 => ⟨S8192, .i32⟩
  | 71 => ⟨S8192, .i32⟩
  | 72 => ⟨S8192, .f32⟩
  | 73 => ⟨S8192x1, .f32⟩
  | 74 => ⟨S8192x128, .f32⟩
  | 75 => ⟨S8192x128, .f32⟩
  | 76 => ⟨S8192x128, .f32⟩
  | 77 => ⟨S8192x1x128, .f32⟩
  | 78 => ⟨S8192x128, .f32⟩
  | 79 => ⟨S_, .f32⟩
  | 80 => ⟨S_, .f32⟩
  | 81 => ⟨S8192x128, .f32⟩
  | 82 => ⟨S_, .f32⟩
  | 83 => ⟨S8x128, .f32⟩
  | 84 => ⟨S8200x128, .f32⟩
  | 85 => ⟨S_, .f32⟩
  | 86 => ⟨S8x128, .f32⟩
  | 87 => ⟨S8192x128, .f32⟩
  | 88 => ⟨S8192x128, .f32⟩
  | 89 => ⟨S8192x128, .f32⟩
  | 90 => ⟨S_, .i32⟩
  | 91 => ⟨S8192, .i32⟩
  | 92 => ⟨S8192, .i32⟩
  | 93 => ⟨S_, .i32⟩
  | 94 => ⟨S8192, .i32⟩
  | 95 => ⟨S8192, .i32⟩
  | 96 => ⟨S8192, .f32⟩
  | 97 => ⟨S8192x1, .f32⟩
  | 98 => ⟨S8192x128, .f32⟩
  | 99 => ⟨S8192x128, .f32⟩
  | 100 => ⟨S8192x128, .f32⟩
  | 101 => ⟨S8192x1x128, .f32⟩
  | 102 => ⟨S8192x128, .f32⟩
  | 103 => ⟨S_, .f32⟩
  | 104 => ⟨S_, .f32⟩
  | 105 => ⟨S8192x128, .f32⟩
  | 106 => ⟨S_, .f32⟩
  | 107 => ⟨S16x128, .f32⟩
  | 108 => ⟨S8208x128, .f32⟩
  | 109 => ⟨S_, .f32⟩
  | 110 => ⟨S16x128, .f32⟩
  | 111 => ⟨S8192x128, .f32⟩
  | 112 => ⟨S8192x128, .f32⟩
  | 113 => ⟨S8192x128, .f32⟩
  | 114 => ⟨S_, .i32⟩
  | 115 => ⟨S8192, .i32⟩
  | 116 => ⟨S8192, .i32⟩
  | 117 => ⟨S_, .i32⟩
  | 118 => ⟨S8192, .i32⟩
  | 119 => ⟨S8192, .i32⟩
  | 120 => ⟨S8192, .f32⟩
  | 121 => ⟨S8192x1, .f32⟩
  | 122 => ⟨S8192x128, .f32⟩
  | 123 => ⟨S8192x128, .f32⟩
  | 124 => ⟨S8192x128, .f32⟩
  | 125 => ⟨S8192x1x128, .f32⟩
  | 126 => ⟨S8192x1x128, .f32⟩
  | 127 => ⟨S8192x1x128, .f32⟩
  | _ => ⟨S8192x1024, .f32⟩

abbrev hbmTy0_2 (i : Nat) : BufTy := match i % 128 with
  | 0 => ⟨S8192x1x128, .f32⟩
  | 1 => ⟨S8192x4x128, .f32⟩
  | 2 => ⟨S4x128x8192, .f32⟩
  | 3 => ⟨S8192x4x128, .f32⟩
  | 4 => ⟨S8192x512, .f32⟩
  | 5 => ⟨S8192x512, .f32⟩
  | 6 => ⟨S8192x512, .f32⟩
  | 7 => ⟨S8192x1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S_, .f32⟩
  | 36 => ⟨S1024, .f32⟩
  | 37 => ⟨S1x1024, .f32⟩
  | 38 => ⟨S8192x1024, .f32⟩
  | 39 => ⟨S_, .f32⟩
  | 40 => ⟨S1024, .f32⟩
  | 41 => ⟨S1x1024, .f32⟩
  | 42 => ⟨S8192x1024, .f32⟩
  | 43 => ⟨S8192x1024, .f32⟩
  | 44 => ⟨S8192x1024, .f32⟩
  | 45 => ⟨S_, .f32⟩
  | 46 => ⟨S8192, .f32⟩
  | 47 => ⟨S8192x1, .f32⟩
  | 48 => ⟨S8192x1024, .f32⟩
  | 49 => ⟨S8192x1024, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S1024x1024, .f32⟩
  | 62 => ⟨S1024x1024, .f32⟩
  | 63 => ⟨S8192x1024, .f32⟩
  | 64 => ⟨S8192x512, .f32⟩
  | 65 => ⟨S8192x512, .f32⟩
  | 66 => ⟨S8192x512, .f32⟩
  | 67 => ⟨S_, .f32⟩
  | 68 => ⟨S512, .f32⟩
  | 69 => ⟨S1x512, .f32⟩
  | 70 => ⟨S8192x512, .f32⟩
  | 71 => ⟨S8192x512, .f32⟩
  | 72 => ⟨S8192x4x128, .f32⟩
  | 73 => ⟨S4x128x8192, .f32⟩
  | 74 => ⟨S4x8192x128, .f32⟩
  | 75 => ⟨S8192x4x128, .f32⟩
  | 76 => ⟨S4x128x128, .f32⟩
  | 77 => ⟨S4x128x128, .f32⟩
  | 78 => ⟨S8192x1x128, .f32⟩
  | 79 => ⟨S8192x128, .f32⟩
  | 80 => ⟨S8192x1x128, .f32⟩
  | 81 => ⟨S8192x128, .f32⟩
  | 82 => ⟨S8192x1x128, .f32⟩
  | 83 => ⟨S8192x128, .f32⟩
  | 84 => ⟨S8192x1x128, .f32⟩
  | 85 => ⟨S8192x128, .f32⟩
  | 86 => ⟨S8192x128, .f32⟩
  | 87 => ⟨S8192x128, .f32⟩
  | 88 => ⟨S8192x128, .f32⟩
  | 89 => ⟨S8192x128, .f32⟩
  | 90 => ⟨S_, .f32⟩
  | 91 => ⟨S8208x128, .f32⟩
  | 92 => ⟨S_, .f32⟩
  | 93 => ⟨S8208x128, .f32⟩
  | 94 => ⟨S8208x128, .f32⟩
  | 95 => ⟨S16x128, .f32⟩
  | 96 => ⟨S8192x128, .f32⟩
  | 97 => ⟨S_, .f32⟩
  | 98 => ⟨S_, .f32⟩
  | 99 => ⟨S8192x128, .f32⟩
  | 100 => ⟨S8192x128, .f32⟩
  | 101 => ⟨S8192x1x128, .f32⟩
  | 102 => ⟨S_, .f32⟩
  | 103 => ⟨S8192x4x128, .f32⟩
  | 104 => ⟨S8192x128, .f32⟩
  | 105 => ⟨S8192x128, .f32⟩
  | 106 => ⟨S8192x128, .f32⟩
  | 107 => ⟨S8192x128, .f32⟩
  | 108 => ⟨S_, .f32⟩
  | 109 => ⟨S8200x128, .f32⟩
  | 110 => ⟨S_, .f32⟩
  | 111 => ⟨S8200x128, .f32⟩
  | 112 => ⟨S8200x128, .f32⟩
  | 113 => ⟨S8x128, .f32⟩
  | 114 => ⟨S8192x128, .f32⟩
  | 115 => ⟨S_, .f32⟩
  | 116 => ⟨S_, .f32⟩
  | 117 => ⟨S8192x128, .f32⟩
  | 118 => ⟨S8192x128, .f32⟩
  | 119 => ⟨S8192x1x128, .f32⟩
  | 120 => ⟨S_, .f32⟩
  | 121 => ⟨S8192x4x128, .f32⟩
  | 122 => ⟨S8192x4x128, .f32⟩
  | 123 => ⟨S8192x128, .f32⟩
  | 124 => ⟨S8192x128, .f32⟩
  | 125 => ⟨S8192x128, .f32⟩
  | 126 => ⟨S8192x128, .f32⟩
  | 127 => ⟨S_, .f32⟩
  | _ => ⟨S8192x1024, .f32⟩

abbrev hbmTy0_3 (i : Nat) : BufTy := match i % 128 with
  | 0 => ⟨S8196x128, .f32⟩
  | 1 => ⟨S_, .f32⟩
  | 2 => ⟨S8196x128, .f32⟩
  | 3 => ⟨S8196x128, .f32⟩
  | 4 => ⟨S4x128, .f32⟩
  | 5 => ⟨S8192x128, .f32⟩
  | 6 => ⟨S_, .f32⟩
  | 7 => ⟨S_, .f32⟩
  | 8 => ⟨S8192x128, .f32⟩
  | 9 => ⟨S8192x128, .f32⟩
  | 10 => ⟨S8192x1x128, .f32⟩
  | 11 => ⟨S_, .f32⟩
  | 12 => ⟨S8192x4x128, .f32⟩
  | 13 => ⟨S8192x4x128, .f32⟩
  | 14 => ⟨S8192x128, .f32⟩
  | 15 => ⟨S8192x128, .f32⟩
  | 16 => ⟨S8192x128, .f32⟩
  | 17 => ⟨S8192x128, .f32⟩
  | 18 => ⟨S_, .f32⟩
  | 19 => ⟨S8194x128, .f32⟩
  | 20 => ⟨S_, .f32⟩
  | 21 => ⟨S8194x128, .f32⟩
  | 22 => ⟨S8194x128, .f32⟩
  | 23 => ⟨S2x128, .f32⟩
  | 24 => ⟨S8192x128, .f32⟩
  | 25 => ⟨S_, .f32⟩
  | 26 => ⟨S_, .f32⟩
  | 27 => ⟨S8192x128, .f32⟩
  | 28 => ⟨S8192x128, .f32⟩
  | 29 => ⟨S8192x1x128, .f32⟩
  | 30 => ⟨S_, .f32⟩
  | 31 => ⟨S8192x4x128, .f32⟩
  | 32 => ⟨S8192x4x128, .f32⟩
  | 33 => ⟨S8192x512, .f32⟩
  | 34 => ⟨S_, .f32⟩
  | 35 => ⟨S8192x1536, .f32⟩
  | 36 => ⟨S8192x512, .f32⟩
  | 37 => ⟨S8192x512, .f32⟩
  | 38 => ⟨S64x128x4x128, .f32⟩
  | 39 => ⟨S_, .f32⟩
  | 40 => ⟨S128x4, .f32⟩
  | 41 => ⟨S1x128x4x1, .f32⟩
  | 42 => ⟨S_, .f32⟩
  | 43 => ⟨S128x4, .f32⟩
  | 44 => ⟨S4x128, .f32⟩
  | 45 => ⟨S4x64x128x128, .f32⟩
  | 46 => ⟨S4x128x128, .f32⟩
  | 47 => ⟨S4x64x128x128, .f32⟩
  | 48 => ⟨S64x128x4x128, .f32⟩
  | 49 => ⟨S_, .f32⟩
  | 50 => ⟨S4x128x128, .f32⟩
  | 51 => ⟨S4x128x128, .f32⟩
  | 52 => ⟨S64x128x4x128, .f32⟩
  | 53 => ⟨S_, .f32⟩
  | 54 => ⟨S4x128, .f32⟩
  | 55 => ⟨S1x1x4x128, .f32⟩
  | 56 => ⟨S64x128x4x128, .f32⟩
  | 57 => ⟨S64x128x4x128, .f32⟩
  | 58 => ⟨S64x128x4x128, .f32⟩
  | 59 => ⟨S_, .f32⟩
  | 60 => ⟨S64x128x4, .f32⟩
  | 61 => ⟨S64x128x4x1, .f32⟩
  | 62 => ⟨S64x128x4x128, .f32⟩
  | 63 => ⟨S64x128x4x128, .f32⟩
  | 64 => ⟨S64x128x4x1, .f32⟩
  | 65 => ⟨S_, .f32⟩
  | 66 => ⟨S64x128x4x1, .f32⟩
  | 67 => ⟨S64x128x4x1, .f32⟩
  | 68 => ⟨S_, .f32⟩
  | 69 => ⟨S64x128x4, .f32⟩
  | 70 => ⟨S64x128x4x128, .f32⟩
  | 71 => ⟨S64x128x4x128, .f32⟩
  | 72 => ⟨S64x128x4x128, .f32⟩
  | 73 => ⟨S64x128x4x128, .f32⟩
  | 74 => ⟨S64x128x4x128, .f32⟩
  | 75 => ⟨S_, .f32⟩
  | 76 => ⟨S4x128, .f32⟩
  | 77 => ⟨S8192x512, .f32⟩
  | 78 => ⟨S_, .f32⟩
  | 79 => ⟨S8192x1024, .f32⟩
  | 80 => ⟨S_, .f32⟩
  | 81 => ⟨S8192x1024, .f32⟩
  | 82 => ⟨S8192x1024, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S8192x1024, .f32⟩
  | 89 => ⟨S_, .f32⟩
  | 90 => ⟨S8192x1024, .f32⟩
  | 91 => ⟨S8192x1024, .f32⟩
  | 92 => ⟨S8192x1024, .f32⟩
  | 93 => ⟨S_, .f32⟩
  | 94 => ⟨S8192x1024, .f32⟩
  | 95 => ⟨S8192x1024, .f32⟩
  | 96 => ⟨S8192x1024, .f32⟩
  | 97 => ⟨S8192x1024, .f32⟩
  | 98 => ⟨S_, .f32⟩
  | 99 => ⟨S8192x1536, .f32⟩
  | 100 => ⟨S8192x1536, .f32⟩
  | 101 => ⟨S1536x1024, .f32⟩
  | 102 => ⟨S1024x1536, .f32⟩
  | 103 => ⟨S8192x1024, .f32⟩
  | 104 => ⟨S_, .f32⟩
  | 105 => ⟨S1024, .f32⟩
  | 106 => ⟨S1x1024, .f32⟩
  | 107 => ⟨S8192x1024, .f32⟩
  | 108 => ⟨S_, .f32⟩
  | 109 => ⟨S1024, .f32⟩
  | 110 => ⟨S1x1024, .f32⟩
  | 111 => ⟨S8192x1024, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S8192x1024, .f32⟩
  | 120 => ⟨S_, .f32⟩
  | 121 => ⟨S8192, .f32⟩
  | 122 => ⟨S8192x1, .f32⟩
  | 123 => ⟨S8192x1024, .f32⟩
  | 124 => ⟨S8192x1024, .f32⟩
  | 125 => ⟨S8192x1024, .f32⟩
  | 126 => ⟨S8192x1, .f32⟩
  | 127 => ⟨S_, .f32⟩
  | _ => ⟨S8192x1024, .f32⟩

abbrev hbmTy0_4 (i : Nat) : BufTy := match i % 128 with
  | 0 => ⟨S8192x1, .f32⟩
  | 1 => ⟨S8192x1, .f32⟩
  | 2 => ⟨S_, .f32⟩
  | 3 => ⟨S8192, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S1536x1024, .f32⟩
  | 10 => ⟨S3x1024, .f32⟩
  | 11 => ⟨S128x4, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_v5 : Ref sig .tc := ⟨.hbm, 105, rfl⟩
abbrev main_call0_v6 : Ref sig .tc := ⟨.hbm, 106, rfl⟩
abbrev main_call0_v7 : Ref sig .tc := ⟨.hbm, 107, rfl⟩
abbrev main_call0_v8 : Ref sig .tc := ⟨.hbm, 108, rfl⟩
abbrev main_call0_c : Ref sig .tc := ⟨.hbm, 109, rfl⟩
abbrev main_call0_v9 : Ref sig .tc := ⟨.hbm, 110, rfl⟩
abbrev main_call0_v10 : Ref sig .tc := ⟨.hbm, 111, rfl⟩
abbrev main_call0_v11 : Ref sig .tc := ⟨.hbm, 112, rfl⟩
abbrev main_call0_c_0 : Ref sig .tc := ⟨.hbm, 113, rfl⟩
abbrev main_call0_v12 : Ref sig .tc := ⟨.hbm, 114, rfl⟩
abbrev main_call0_v13 : Ref sig .tc := ⟨.hbm, 115, rfl⟩
abbrev main_v71 : Ref sig .tc := ⟨.hbm, 116, rfl⟩
abbrev main_v72 : Ref sig .tc := ⟨.hbm, 117, rfl⟩
abbrev main_c_15 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_call1_v5 : Ref sig .tc := ⟨.hbm, 124, rfl⟩
abbrev main_call1_v6 : Ref sig .tc := ⟨.hbm, 125, rfl⟩
abbrev main_call1_v7 : Ref sig .tc := ⟨.hbm, 126, rfl⟩
abbrev main_call1_v8 : Ref sig .tc := ⟨.hbm, 127, rfl⟩
abbrev main_call1_c : Ref sig .tc := ⟨.hbm, 128, rfl⟩
abbrev main_call1_v9 : Ref sig .tc := ⟨.hbm, 129, rfl⟩
abbrev main_call1_v10 : Ref sig .tc := ⟨.hbm, 130, rfl⟩
abbrev main_call1_v11 : Ref sig .tc := ⟨.hbm, 131, rfl⟩
abbrev main_call1_c_0 : Ref sig .tc := ⟨.hbm, 132, rfl⟩
abbrev main_call1_v12 : Ref sig .tc := ⟨.hbm, 133, rfl⟩
abbrev main_call1_v13 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_cst_16 : Ref sig .tc := ⟨.hbm, 140, rfl⟩
abbrev main_v78 : Ref sig .tc := ⟨.hbm, 141, rfl⟩
abbrev main_v79_1 : Ref sig .tc := ⟨.hbm, 142, rfl⟩
abbrev main_v79_0 : Ref sig .tc := ⟨.hbm, 143, rfl⟩
abbrev main_call2_cst : Ref sig .tc := ⟨.hbm, 144, rfl⟩
abbrev main_v79_2 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_call3_call0_cst : Ref sig .tc := ⟨.hbm, 159, rfl⟩
abbrev main_call3_call0_v0 : Ref sig .tc := ⟨.hbm, 160, rfl⟩
abbrev main_v93 : Ref sig .tc := ⟨.hbm, 161, rfl⟩
abbrev main_cst_17 : Ref sig .tc := ⟨.hbm, 162, rfl⟩
abbrev main_v94 : Ref sig .tc := ⟨.hbm, 163, rfl⟩
abbrev main_v95 : Ref sig .tc := ⟨.hbm, 164, rfl⟩
abbrev main_cst_18 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_c_19 : Ref sig .tc := ⟨.hbm, 170, rfl⟩
abbrev main_v100 : Ref sig .tc := ⟨.hbm, 171, rfl⟩
abbrev main_v101 : Ref sig .tc := ⟨.hbm, 172, rfl⟩
abbrev main_c_20 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_call4_call0_cst : Ref sig .tc := ⟨.hbm, 183, rfl⟩
abbrev main_call4_call0_v0 : Ref sig .tc := ⟨.hbm, 184, rfl⟩
abbrev main_v111 : Ref sig .tc := ⟨.hbm, 185, rfl⟩
abbrev main_cst_21 : Ref sig .tc := ⟨.hbm, 186, rfl⟩
abbrev main_v112 : Ref sig .tc := ⟨.hbm, 187, rfl⟩
abbrev main_v113 : Ref sig .tc := ⟨.hbm, 188, rfl⟩
abbrev main_cst_22 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_c_23 : Ref sig .tc := ⟨.hbm, 194, rfl⟩
abbrev main_v118 : Ref sig .tc := ⟨.hbm, 195, rfl⟩
abbrev main_v119 : Ref sig .tc := ⟨.hbm, 196, rfl⟩
abbrev main_c_24 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_call5_call0_cst : Ref sig .tc := ⟨.hbm, 207, rfl⟩
abbrev main_call5_call0_v0 : Ref sig .tc := ⟨.hbm, 208, rfl⟩
abbrev main_v129 : Ref sig .tc := ⟨.hbm, 209, rfl⟩
abbrev main_cst_25 : Ref sig .tc := ⟨.hbm, 210, rfl⟩
abbrev main_v130 : Ref sig .tc := ⟨.hbm, 211, rfl⟩
abbrev main_v131 : Ref sig .tc := ⟨.hbm, 212, rfl⟩
abbrev main_cst_26 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_c_27 : Ref sig .tc := ⟨.hbm, 218, rfl⟩
abbrev main_v136 : Ref sig .tc := ⟨.hbm, 219, rfl⟩
abbrev main_v137 : Ref sig .tc := ⟨.hbm, 220, rfl⟩
abbrev main_c_28 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_call6_call0_cst : Ref sig .tc := ⟨.hbm, 231, rfl⟩
abbrev main_call6_call0_v0 : Ref sig .tc := ⟨.hbm, 232, rfl⟩
abbrev main_v147 : Ref sig .tc := ⟨.hbm, 233, rfl⟩
abbrev main_cst_29 : Ref sig .tc := ⟨.hbm, 234, rfl⟩
abbrev main_v148 : Ref sig .tc := ⟨.hbm, 235, rfl⟩
abbrev main_v149 : Ref sig .tc := ⟨.hbm, 236, rfl⟩
abbrev main_cst_30 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_c_31 : Ref sig .tc := ⟨.hbm, 242, rfl⟩
abbrev main_v154 : Ref sig .tc := ⟨.hbm, 243, rfl⟩
abbrev main_v155 : Ref sig .tc := ⟨.hbm, 244, rfl⟩
abbrev main_c_32 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_cst_33 : Ref sig .tc := ⟨.hbm, 266, rfl⟩
abbrev main_v176 : Ref sig .tc := ⟨.hbm, 267, rfl⟩
abbrev main_v177 : Ref sig .tc := ⟨.hbm, 268, rfl⟩
abbrev main_cst_34 : Ref sig .tc := ⟨.hbm, 269, rfl⟩
abbrev main_v178 : Ref sig .tc := ⟨.hbm, 270, rfl⟩
abbrev main_v179 : Ref sig .tc := ⟨.hbm, 271, rfl⟩
abbrev main_cst_35 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_cst_36 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_cst_37 : Ref sig .tc := ⟨.hbm, 291, rfl⟩
abbrev main_v197 : Ref sig .tc := ⟨.hbm, 292, rfl⟩
abbrev main_v198 : Ref sig .tc := ⟨.hbm, 293, rfl⟩
abbrev main_v199 : Ref sig .tc := ⟨.hbm, 294, rfl⟩
abbrev main_cst_38 : Ref sig .tc := ⟨.hbm, 295, rfl⟩
abbrev main_v200 : Ref sig .tc := ⟨.hbm, 296, rfl⟩
abbrev main_v201 : Ref sig .tc := ⟨.hbm, 297, rfl⟩
abbrev main_v202 : Ref sig .tc := ⟨.hbm, 298, rfl⟩
abbrev main_v203 : Ref sig .tc := ⟨.hbm, 299, rfl⟩
abbrev main_v204 : Ref sig .tc := ⟨.hbm, 300, rfl⟩
abbrev main_cst_39 : Ref sig .tc := ⟨.hbm, 301, rfl⟩
abbrev main_v205 : Ref sig .tc := ⟨.hbm, 302, rfl⟩
abbrev main_v206 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_cst_40 : Ref sig .tc := ⟨.hbm, 307, rfl⟩
abbrev main_v210 : Ref sig .tc := ⟨.hbm, 308, rfl⟩
abbrev main_v211 : Ref sig .tc := ⟨.hbm, 309, rfl⟩
abbrev main_cst_41 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_v221 : Ref sig .tc := ⟨.hbm, 320, rfl⟩
abbrev main_v222 : Ref sig .tc := ⟨.hbm, 321, rfl⟩
abbrev main_v223 : Ref sig .tc := ⟨.hbm, 322, rfl⟩
abbrev main_cst_42 : Ref sig .tc := ⟨.hbm, 323, rfl⟩
abbrev main_v224 : Ref sig .tc := ⟨.hbm, 324, rfl⟩
abbrev main_v225 : Ref sig .tc := ⟨.hbm, 325, rfl⟩
abbrev main_v226 : Ref sig .tc := ⟨.hbm, 326, rfl⟩
abbrev main_v227 : Ref sig .tc := ⟨.hbm, 327, rfl⟩
abbrev main_v228 : Ref sig .tc := ⟨.hbm, 328, rfl⟩
abbrev main_v229 : Ref sig .tc := ⟨.hbm, 329, rfl⟩
abbrev main_v230 : Ref sig .tc := ⟨.hbm, 330, rfl⟩
abbrev main_v231 : Ref sig .tc := ⟨.hbm, 331, rfl⟩
abbrev main_v232 : Ref sig .tc := ⟨.hbm, 332, rfl⟩
abbrev main_v233 : Ref sig .tc := ⟨.hbm, 333, rfl⟩
abbrev main_v234 : Ref sig .tc := ⟨.hbm, 334, rfl⟩
abbrev main_v235 : Ref sig .tc := ⟨.hbm, 335, rfl⟩
abbrev main_v236 : Ref sig .tc := ⟨.hbm, 336, rfl⟩
abbrev main_v237 : Ref sig .tc := ⟨.hbm, 337, rfl⟩
abbrev main_v238 : Ref sig .tc := ⟨.hbm, 338, rfl⟩
abbrev main_v239 : Ref sig .tc := ⟨.hbm, 339, rfl⟩
abbrev main_v240 : Ref sig .tc := ⟨.hbm, 340, rfl⟩
abbrev main_v241 : Ref sig .tc := ⟨.hbm, 341, rfl⟩
abbrev main_v242 : Ref sig .tc := ⟨.hbm, 342, rfl⟩
abbrev main_v243 : Ref sig .tc := ⟨.hbm, 343, rfl⟩
abbrev main_v244 : Ref sig .tc := ⟨.hbm, 344, rfl⟩
abbrev main_v245 : Ref sig .tc := ⟨.hbm, 345, rfl⟩
abbrev main_cst_43 : Ref sig .tc := ⟨.hbm, 346, rfl⟩
abbrev main_v246 : Ref sig .tc := ⟨.hbm, 347, rfl⟩
abbrev main_cst_44 : Ref sig .tc := ⟨.hbm, 348, rfl⟩
abbrev main_v247 : Ref sig .tc := ⟨.hbm, 349, rfl⟩
abbrev main_v248 : Ref sig .tc := ⟨.hbm, 350, rfl⟩
abbrev main_v249 : Ref sig .tc := ⟨.hbm, 351, rfl⟩
abbrev main_v250 : Ref sig .tc := ⟨.hbm, 352, rfl⟩
abbrev main_call7_call0_cst : Ref sig .tc := ⟨.hbm, 353, rfl⟩
abbrev main_call7_call0_v0 : Ref sig .tc := ⟨.hbm, 354, rfl⟩
abbrev main_v251 : Ref sig .tc := ⟨.hbm, 355, rfl⟩
abbrev main_v252 : Ref sig .tc := ⟨.hbm, 356, rfl⟩
abbrev main_v253 : Ref sig .tc := ⟨.hbm, 357, rfl⟩
abbrev main_cst_45 : Ref sig .tc := ⟨.hbm, 358, rfl⟩
abbrev main_v254 : Ref sig .tc := ⟨.hbm, 359, rfl⟩
abbrev main_v255 : Ref sig .tc := ⟨.hbm, 360, rfl⟩
abbrev main_v256 : Ref sig .tc := ⟨.hbm, 361, rfl⟩
abbrev main_v257 : Ref sig .tc := ⟨.hbm, 362, rfl⟩
abbrev main_v258 : Ref sig .tc := ⟨.hbm, 363, rfl⟩
abbrev main_cst_46 : Ref sig .tc := ⟨.hbm, 364, rfl⟩
abbrev main_v259 : Ref sig .tc := ⟨.hbm, 365, rfl⟩
abbrev main_cst_47 : Ref sig .tc := ⟨.hbm, 366, rfl⟩
abbrev main_v260 : Ref sig .tc := ⟨.hbm, 367, rfl⟩
abbrev main_v261 : Ref sig .tc := ⟨.hbm, 368, rfl⟩
abbrev main_v262 : Ref sig .tc := ⟨.hbm, 369, rfl⟩
abbrev main_v263 : Ref sig .tc := ⟨.hbm, 370, rfl⟩
abbrev main_call8_call0_cst : Ref sig .tc := ⟨.hbm, 371, rfl⟩
abbrev main_call8_call0_v0 : Ref sig .tc := ⟨.hbm, 372, rfl⟩
abbrev main_v264 : Ref sig .tc := ⟨.hbm, 373, rfl⟩
abbrev main_v265 : Ref sig .tc := ⟨.hbm, 374, rfl⟩
abbrev main_v266 : Ref sig .tc := ⟨.hbm, 375, rfl⟩
abbrev main_cst_48 : Ref sig .tc := ⟨.hbm, 376, rfl⟩
abbrev main_v267 : Ref sig .tc := ⟨.hbm, 377, rfl⟩
abbrev main_v268 : Ref sig .tc := ⟨.hbm, 378, rfl⟩
abbrev main_v269 : Ref sig .tc := ⟨.hbm, 379, rfl⟩
abbrev main_v270 : Ref sig .tc := ⟨.hbm, 380, rfl⟩
abbrev main_v271 : Ref sig .tc := ⟨.hbm, 381, rfl⟩
abbrev main_v272 : Ref sig .tc := ⟨.hbm, 382, rfl⟩
abbrev main_cst_49 : Ref sig .tc := ⟨.hbm, 383, rfl⟩
abbrev main_v273 : Ref sig .tc := ⟨.hbm, 384, rfl⟩
abbrev main_cst_50 : Ref sig .tc := ⟨.hbm, 385, rfl⟩
abbrev main_v274 : Ref sig .tc := ⟨.hbm, 386, rfl⟩
abbrev main_v275 : Ref sig .tc := ⟨.hbm, 387, rfl⟩
abbrev main_v276 : Ref sig .tc := ⟨.hbm, 388, rfl⟩
abbrev main_v277 : Ref sig .tc := ⟨.hbm, 389, rfl⟩
abbrev main_call9_call0_cst : Ref sig .tc := ⟨.hbm, 390, rfl⟩
abbrev main_call9_call0_v0 : Ref sig .tc := ⟨.hbm, 391, rfl⟩
abbrev main_v278 : Ref sig .tc := ⟨.hbm, 392, rfl⟩
abbrev main_v279 : Ref sig .tc := ⟨.hbm, 393, rfl⟩
abbrev main_v280 : Ref sig .tc := ⟨.hbm, 394, rfl⟩
abbrev main_cst_51 : Ref sig .tc := ⟨.hbm, 395, rfl⟩
abbrev main_v281 : Ref sig .tc := ⟨.hbm, 396, rfl⟩
abbrev main_v282 : Ref sig .tc := ⟨.hbm, 397, rfl⟩
abbrev main_v283 : Ref sig .tc := ⟨.hbm, 398, rfl⟩
abbrev main_v284 : Ref sig .tc := ⟨.hbm, 399, rfl⟩
abbrev main_v285 : Ref sig .tc := ⟨.hbm, 400, rfl⟩
abbrev main_v286 : Ref sig .tc := ⟨.hbm, 401, rfl⟩
abbrev main_cst_52 : Ref sig .tc := ⟨.hbm, 402, rfl⟩
abbrev main_v287 : Ref sig .tc := ⟨.hbm, 403, rfl⟩
abbrev main_cst_53 : Ref sig .tc := ⟨.hbm, 404, rfl⟩
abbrev main_v288 : Ref sig .tc := ⟨.hbm, 405, rfl⟩
abbrev main_v289 : Ref sig .tc := ⟨.hbm, 406, rfl⟩
abbrev main_v290 : Ref sig .tc := ⟨.hbm, 407, rfl⟩
abbrev main_v291 : Ref sig .tc := ⟨.hbm, 408, rfl⟩
abbrev main_call10_call0_cst : Ref sig .tc := ⟨.hbm, 409, rfl⟩
abbrev main_call10_call0_v0 : Ref sig .tc := ⟨.hbm, 410, rfl⟩
abbrev main_v292 : Ref sig .tc := ⟨.hbm, 411, rfl⟩
abbrev main_v293 : Ref sig .tc := ⟨.hbm, 412, rfl⟩
abbrev main_v294 : Ref sig .tc := ⟨.hbm, 413, rfl⟩
abbrev main_cst_54 : Ref sig .tc := ⟨.hbm, 414, rfl⟩
abbrev main_v295 : Ref sig .tc := ⟨.hbm, 415, rfl⟩
abbrev main_v296 : Ref sig .tc := ⟨.hbm, 416, rfl⟩
abbrev main_v297 : Ref sig .tc := ⟨.hbm, 417, rfl⟩
abbrev main_cst_55 : Ref sig .tc := ⟨.hbm, 418, rfl⟩
abbrev main_v298 : Ref sig .tc := ⟨.hbm, 419, rfl⟩
abbrev main_v299 : Ref sig .tc := ⟨.hbm, 420, rfl⟩
abbrev main_v300 : Ref sig .tc := ⟨.hbm, 421, rfl⟩
abbrev main_v301 : Ref sig .tc := ⟨.hbm, 422, rfl⟩
abbrev main_cst_56 : Ref sig .tc := ⟨.hbm, 423, rfl⟩
abbrev main_v302 : Ref sig .tc := ⟨.hbm, 424, rfl⟩
abbrev main_v303 : Ref sig .tc := ⟨.hbm, 425, rfl⟩
abbrev main_cst_57 : Ref sig .tc := ⟨.hbm, 426, rfl⟩
abbrev main_v304 : Ref sig .tc := ⟨.hbm, 427, rfl⟩
abbrev main_v305 : Ref sig .tc := ⟨.hbm, 428, rfl⟩
abbrev main_v306 : Ref sig .tc := ⟨.hbm, 429, rfl⟩
abbrev main_v307 : Ref sig .tc := ⟨.hbm, 430, rfl⟩
abbrev main_v308 : Ref sig .tc := ⟨.hbm, 431, rfl⟩
abbrev main_v309 : Ref sig .tc := ⟨.hbm, 432, rfl⟩
abbrev main_call11_cst : Ref sig .tc := ⟨.hbm, 433, rfl⟩
abbrev main_call11_v0 : Ref sig .tc := ⟨.hbm, 434, rfl⟩
abbrev main_v310 : Ref sig .tc := ⟨.hbm, 435, rfl⟩
abbrev main_v311 : Ref sig .tc := ⟨.hbm, 436, rfl⟩
abbrev main_cst_58 : Ref sig .tc := ⟨.hbm, 437, rfl⟩
abbrev main_v312 : Ref sig .tc := ⟨.hbm, 438, rfl⟩
abbrev main_v313 : Ref sig .tc := ⟨.hbm, 439, rfl⟩
abbrev main_v314 : Ref sig .tc := ⟨.hbm, 440, rfl⟩
abbrev main_v315 : Ref sig .tc := ⟨.hbm, 441, rfl⟩
abbrev main_v316 : Ref sig .tc := ⟨.hbm, 442, rfl⟩
abbrev main_cst_59 : Ref sig .tc := ⟨.hbm, 443, rfl⟩
abbrev main_v317 : Ref sig .tc := ⟨.hbm, 444, rfl⟩
abbrev main_v318 : Ref sig .tc := ⟨.hbm, 445, rfl⟩
abbrev main_v319 : Ref sig .tc := ⟨.hbm, 446, rfl⟩
abbrev main_v320 : Ref sig .tc := ⟨.hbm, 447, rfl⟩
abbrev main_v321 : Ref sig .tc := ⟨.hbm, 448, rfl⟩
abbrev main_cst_60 : Ref sig .tc := ⟨.hbm, 449, rfl⟩
abbrev main_v322 : Ref sig .tc := ⟨.hbm, 450, rfl⟩
abbrev main_v323 : Ref sig .tc := ⟨.hbm, 451, rfl⟩
abbrev main_cst_61 : Ref sig .tc := ⟨.hbm, 452, rfl⟩
abbrev main_v324 : Ref sig .tc := ⟨.hbm, 453, rfl⟩
abbrev main_v325 : Ref sig .tc := ⟨.hbm, 454, rfl⟩
abbrev main_v326 : Ref sig .tc := ⟨.hbm, 455, rfl⟩
abbrev main_v327 : Ref sig .tc := ⟨.hbm, 456, rfl⟩
abbrev main_v328 : Ref sig .tc := ⟨.hbm, 457, rfl⟩
abbrev main_v329 : Ref sig .tc := ⟨.hbm, 458, rfl⟩
abbrev main_cst_62 : Ref sig .tc := ⟨.hbm, 459, rfl⟩
abbrev main_v330 : Ref sig .tc := ⟨.hbm, 460, rfl⟩
abbrev main_v331 : Ref sig .tc := ⟨.hbm, 461, rfl⟩
abbrev main_cst_63 : Ref sig .tc := ⟨.hbm, 462, rfl⟩
abbrev main_v332 : Ref sig .tc := ⟨.hbm, 463, rfl⟩
abbrev main_cst_64 : Ref sig .tc := ⟨.hbm, 464, rfl⟩
abbrev main_v333 : Ref sig .tc := ⟨.hbm, 465, rfl⟩
abbrev main_v334 : Ref sig .tc := ⟨.hbm, 466, rfl⟩
abbrev main_v335 : Ref sig .tc := ⟨.hbm, 467, rfl⟩
abbrev main_v336 : Ref sig .tc := ⟨.hbm, 468, rfl⟩
abbrev main_cst_65 : Ref sig .tc := ⟨.hbm, 469, rfl⟩
abbrev main_v337 : Ref sig .tc := ⟨.hbm, 470, rfl⟩
abbrev main_v338 : Ref sig .tc := ⟨.hbm, 471, rfl⟩
abbrev main_v339 : Ref sig .tc := ⟨.hbm, 472, rfl⟩
abbrev main_cst_66 : Ref sig .tc := ⟨.hbm, 473, rfl⟩
abbrev main_v340 : Ref sig .tc := ⟨.hbm, 474, rfl⟩
abbrev main_v341 : Ref sig .tc := ⟨.hbm, 475, rfl⟩
abbrev main_v342 : Ref sig .tc := ⟨.hbm, 476, rfl⟩
abbrev main_cst_67 : Ref sig .tc := ⟨.hbm, 477, rfl⟩
abbrev main_v343 : Ref sig .tc := ⟨.hbm, 478, rfl⟩
abbrev main_v344 : Ref sig .tc := ⟨.hbm, 479, rfl⟩
abbrev main_v345 : Ref sig .tc := ⟨.hbm, 480, rfl⟩
abbrev main_v346 : Ref sig .tc := ⟨.hbm, 481, rfl⟩
abbrev main_cst_68 : Ref sig .tc := ⟨.hbm, 482, rfl⟩
abbrev main_v347 : Ref sig .tc := ⟨.hbm, 483, rfl⟩
abbrev main_v348 : Ref sig .tc := ⟨.hbm, 484, rfl⟩
abbrev main_v349 : Ref sig .tc := ⟨.hbm, 485, rfl⟩
abbrev main_v350 : Ref sig .tc := ⟨.hbm, 486, rfl⟩
abbrev main_v351 : Ref sig .tc := ⟨.hbm, 487, rfl⟩
abbrev main_cst_69 : Ref sig .tc := ⟨.hbm, 488, rfl⟩
abbrev main_v352 : Ref sig .tc := ⟨.hbm, 489, rfl⟩
abbrev main_v353 : Ref sig .tc := ⟨.hbm, 490, rfl⟩
abbrev main_v354 : Ref sig .tc := ⟨.hbm, 491, rfl⟩
abbrev main_cst_70 : Ref sig .tc := ⟨.hbm, 492, rfl⟩
abbrev main_v355 : Ref sig .tc := ⟨.hbm, 493, rfl⟩
abbrev main_v356 : Ref sig .tc := ⟨.hbm, 494, rfl⟩
abbrev main_v357 : Ref sig .tc := ⟨.hbm, 495, rfl⟩
abbrev main_v358 : Ref sig .tc := ⟨.hbm, 496, rfl⟩
abbrev main_v359 : Ref sig .tc := ⟨.hbm, 497, rfl⟩
abbrev main_cst_71 : Ref sig .tc := ⟨.hbm, 498, rfl⟩
abbrev main_v360 : Ref sig .tc := ⟨.hbm, 499, rfl⟩
abbrev main_v361 : Ref sig .tc := ⟨.hbm, 500, rfl⟩
abbrev main_v362 : Ref sig .tc := ⟨.hbm, 501, rfl⟩
abbrev main_v363 : Ref sig .tc := ⟨.hbm, 502, rfl⟩
abbrev main_v364 : Ref sig .tc := ⟨.hbm, 503, rfl⟩
abbrev main_cst_72 : Ref sig .tc := ⟨.hbm, 504, rfl⟩
abbrev main_v365 : Ref sig .tc := ⟨.hbm, 505, rfl⟩
abbrev main_v366 : Ref sig .tc := ⟨.hbm, 506, rfl⟩
abbrev main_v367 : Ref sig .tc := ⟨.hbm, 507, rfl⟩
abbrev main_v368 : Ref sig .tc := ⟨.hbm, 508, rfl⟩
abbrev main_v369 : Ref sig .tc := ⟨.hbm, 509, rfl⟩
abbrev main_v370 : Ref sig .tc := ⟨.hbm, 510, rfl⟩
abbrev main_cst_73 : Ref sig .tc := ⟨.hbm, 511, rfl⟩
abbrev main_v371 : Ref sig .tc := ⟨.hbm, 512, rfl⟩
abbrev main_v372 : Ref sig .tc := ⟨.hbm, 513, rfl⟩
abbrev main_cst_74 : Ref sig .tc := ⟨.hbm, 514, rfl⟩
abbrev main_v373 : Ref sig .tc := ⟨.hbm, 515, rfl⟩
abbrev main_v374 : Ref sig .tc := ⟨.hbm, 516, rfl⟩
abbrev main_v375 : Ref sig .tc := ⟨.hbm, 517, rfl⟩
abbrev main_v376 : Ref sig .tc := ⟨.hbm, 518, rfl⟩
abbrev main_v377 : Ref sig .tc := ⟨.hbm, 519, rfl⟩
abbrev main_v378 : Ref sig .tc := ⟨.hbm, 520, rfl⟩
abbrev main_v379 : Ref sig .tc := ⟨.hbm, 521, rfl⟩
abbrev main_v380 : Ref sig .tc := ⟨.hbm, 522, rfl⟩
abbrev main_v381 : Ref sig .tc := ⟨.hbm, 523, rfl⟩

abbrev nD : Nat := 1
abbrev τ : Topo := Topo.v7x

variable {F : FTy → Type} [FloatOps F]
-- ==== Ffn.lean ====
abbrev S8192x1024 : Shape := ⟨2, ![8192, 1024]⟩
abbrev S1x6144 : Shape := ⟨2, ![1, 6144]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S6x1024 : Shape := ⟨2, ![6, 1024]⟩
abbrev S1024x8x704 : Shape := ⟨3, ![1024, 8, 704]⟩
abbrev S8x1024x704 : Shape := ⟨3, ![8, 1024, 704]⟩
abbrev S3x8x704 : Shape := ⟨3, ![3, 8, 704]⟩
abbrev S8x3x704 : Shape := ⟨3, ![8, 3, 704]⟩
abbrev S8x704 : Shape := ⟨2, ![8, 704]⟩
abbrev S8x8192x704 : Shape := ⟨3, ![8, 8192, 704]⟩
abbrev S4x8192x704 : Shape := ⟨3, ![4, 8192, 704]⟩
abbrev S256x1024 : Shape := ⟨2, ![256, 1024]⟩
abbrev S8x256x704 : Shape := ⟨3, ![8, 256, 704]⟩
abbrev S4x256x704 : Shape := ⟨3, ![4, 256, 704]⟩
abbrev S8x8x704 : Shape := ⟨3, ![8, 8, 704]⟩
abbrev S256 : Shape := ⟨1, ![256]⟩
abbrev S256x1 : Shape := ⟨2, ![256, 1]⟩
abbrev S1x1024x704 : Shape := ⟨3, ![1, 1024, 704]⟩
abbrev S1024x704 : Shape := ⟨2, ![1024, 704]⟩
abbrev S256x704 : Shape := ⟨2, ![256, 704]⟩
abbrev S1x256x704 : Shape := ⟨3, ![1, 256, 704]⟩
abbrev S1x8x704 : Shape := ⟨3, ![1, 8, 704]⟩
abbrev S1x3x704 : Shape := ⟨3, ![1, 3, 704]⟩
abbrev S3x704 : Shape := ⟨2, ![3, 704]⟩
abbrev S1x704 : Shape := ⟨2, ![1, 704]⟩
abbrev S248x704 : Shape := ⟨2, ![248, 704]⟩
abbrev S704x1024 : Shape := ⟨2, ![704, 1024]⟩
abbrev S1024 : Shape := ⟨1, ![1024]⟩

abbrev nBuf : Space → Nat
  | .hbm => 22
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x6144, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S3x5632, .f32⟩
  | .hbm, ⟨7, _⟩ => ⟨S1x5632, .f32⟩
  | .hbm, ⟨8, _⟩ => ⟨S2816x1024, .f32⟩
  | .hbm, ⟨9, _⟩ => ⟨S6x1024, .f32⟩
  | .hbm, ⟨10, _⟩ => ⟨S1024x8x704, .f32⟩
  | .hbm, ⟨11, _⟩ => ⟨S8x1024x704, .f32⟩
  | .hbm, ⟨12, _⟩ => ⟨S8x1024x704, .bf16⟩
  | .hbm, ⟨13, _⟩ => ⟨S3x8x704, .f32⟩
  | .hbm, ⟨14, _⟩ => ⟨S8x3x704, .f32⟩
  | .hbm, ⟨15, _⟩ => ⟨S8x704, .f32⟩
  | .hbm, ⟨16, _⟩ => ⟨S2816x1024, .bf16⟩
  | .hbm, ⟨17, _⟩ => ⟨S8x8192x704, .f32⟩
  | .hbm, ⟨18, _⟩ => ⟨S4x8192x704, .bf16⟩
  | .hbm, ⟨19, _⟩ => ⟨S8192x1024, .f32⟩
  | .hbm, ⟨20, _⟩ => ⟨S8192x1024, .f32⟩
  | .hbm, ⟨21, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S6x1024, .f32⟩
  | .local _ .vmem, ⟨5, _⟩ => ⟨S1x1024, .f32⟩
  | .local _ .vmem, ⟨6, _⟩ => ⟨S1x1024, .f32⟩
  | .local _ .vmem, ⟨7, _⟩ => ⟨S8x1024x704, .bf16⟩
  | .local _ .vmem, ⟨8, _⟩ => ⟨S8x3x704, .f32⟩
  | .local _ .vmem, ⟨9, _⟩ => ⟨S8x704, .f32⟩
  | .local _ .vmem, ⟨10, _⟩ => ⟨S2816x1024, .bf16⟩
  | .local _ .vmem, ⟨11, _⟩ => ⟨S8x256x704, .f32⟩
  | .local _ .vmem, ⟨12, _⟩ => ⟨S8x256x704, .f32⟩
  | .local _ .vmem, ⟨13, _⟩ => ⟨S4x256x704, .bf16⟩
  | .local _ .vmem, ⟨14, _⟩ => ⟨S4x256x704, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S8x8x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnReferenceIdeal.lean ====
abbrev S8192x1024 : Shape := ⟨2, ![8192, 1024]⟩
abbrev S1x6144 : Shape := ⟨2, ![1, 6144]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S8192x8x704 : Shape := ⟨3, ![8192, 8, 704]⟩
abbrev S8x8192x704 : Shape := ⟨3, ![8, 8192, 704]⟩
abbrev S8192x4x704 : Shape := ⟨3, ![8192, 4, 704]⟩
abbrev S4x8192x704 : Shape := ⟨3, ![4, 8192, 704]⟩
abbrev S1024 : Shape := ⟨1, ![1024]⟩

abbrev nBuf : Space → Nat
  | .hbm => 127
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x6144, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S3x5632, .f32⟩
  | .hbm, ⟨7, _⟩ => ⟨S1x5632, .f32⟩
  | .hbm, ⟨8, _⟩ => ⟨S2816x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x5632, .f32⟩
  | .hbm, ⟨38, _⟩ => ⟨S_, .f32⟩
  | .hbm, ⟨39, _⟩ => ⟨S2x5632, .f32⟩
  | .hbm, ⟨40, _⟩ => ⟨S8194x5632, .f32⟩
  | .hbm, ⟨41, _⟩ => ⟨S8192x5632, .f32⟩
  | .hbm, ⟨42, _⟩ => ⟨S1x5632, .f32⟩
  | .hbm, ⟨43, _⟩ => ⟨S5632, .f32⟩
  | .hbm, ⟨44, _⟩ => ⟨S1x5632, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S1x5632, .f32⟩
  | .hbm, ⟨51, _⟩ => ⟨S5632, .f32⟩
  | .hbm, ⟨52, _⟩ => ⟨S1x5632, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S1x5632, .f32⟩
  | .hbm, ⟨58, _⟩ => ⟨S5632, .f32⟩
  | .hbm, ⟨59, _⟩ => ⟨S1x5632, .f32⟩
  | .hbm, ⟨60, _⟩ => ⟨S8192x5632, .f32⟩
  | .hbm, ⟨61, _⟩ => ⟨S8192x5632, .f32⟩
  | .hbm, ⟨62, _⟩ => ⟨S8192x5632, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S_, .f32⟩
  | .hbm, ⟨68, _⟩ => ⟨S8192x2816, .f32⟩
  | .hbm, ⟨69, _⟩ => ⟨S8192x2816, .f32⟩
  | .hbm, ⟨70, _⟩ => ⟨S_, .f32⟩
  | .hbm, ⟨71, _⟩ => ⟨S8192x2816, .f32⟩
  | .hbm, ⟨72, _⟩ => ⟨S8192x2816, .f32⟩
  | .hbm, ⟨73, _⟩ => ⟨S8192x2816, .f32⟩
  | .hbm, ⟨74, _⟩ => ⟨S8192x2816, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S8192, .f32⟩
  | .hbm, ⟨101, _⟩ => ⟨S_, .f32⟩
  | .hbm, ⟨102, _⟩ => ⟨S8192, .f32⟩
  | .hbm, ⟨103, _⟩ => ⟨S8192, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S8192, .f32⟩
  | .hbm, ⟨112, _⟩ => ⟨S_, .f32⟩
  | .hbm, ⟨113, _⟩ => ⟨S8192, .f32⟩
  | .hbm, ⟨114, _⟩ => ⟨S8192, .f32⟩
  | .hbm, ⟨115, _⟩ => ⟨S8192x1024, .f32⟩
  | .hbm, ⟨116, _⟩ => ⟨S8192x1024, .f32⟩
  | .hbm, ⟨117, _⟩ => ⟨S8192x8x704, .f32⟩
  | .hbm, ⟨118, _⟩ => ⟨S8x8192x704, .f32⟩
  | .hbm, ⟨119, _⟩ => ⟨S8192x4x704, .f32⟩
  | .hbm, ⟨120, _⟩ => ⟨S4x8192x704, .f32⟩
  | .hbm, ⟨121, _⟩ => ⟨S4x8192x704, .bf16⟩
  | .hbm, ⟨122, _⟩ => ⟨S8192x1024, .f32⟩
  | .hbm, ⟨123, _⟩ => ⟨S8192x1024, .f32⟩
  | .hbm, ⟨124, _⟩ => ⟨S_, .f32⟩
  | .hbm, ⟨125, _⟩ => ⟨S1024, .f32⟩
  | .hbm, ⟨126, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_4 : Ref sig .tc := ⟨.hbm, 77, rfl⟩
abbrev main_v55 : Ref sig .tc := ⟨.hbm, 78, rfl⟩
abbrev main_v56 : Ref sig .tc := ⟨.hbm, 79, rfl⟩
abbrev main_cst_5 : Ref sig .tc := ⟨.hbm, 80, rfl⟩
abbrev main_v57 : Ref sig .tc := ⟨.hbm, 81, rfl⟩
abbrev main_v58 : Ref sig .tc := ⟨.hbm, 82, rfl⟩
abbrev main_cst_6 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_7 : Ref sig .tc := ⟨.hbm, 96, rfl⟩
abbrev main_v71 : Ref sig .tc := ⟨.hbm, 97, rfl⟩
abbrev main_v72 : Ref sig .tc := ⟨.hbm, 98, rfl⟩
abbrev main_cst_8 : Ref sig .tc := ⟨.hbm, 99, rfl⟩
abbrev main_v73 : Ref sig .tc := ⟨.hbm, 100, rfl⟩
abbrev main_cst_9 : Ref sig .tc := ⟨.hbm, 101, rfl⟩
abbrev main_v74 : Ref sig .tc := ⟨.hbm, 102, rfl⟩
abbrev main_v75 : Ref sig .tc := ⟨.hbm, 103, rfl⟩
abbrev main_cst_10 : Ref sig .tc := ⟨.hbm, 104, rfl⟩
abbrev main_v76 : Ref sig .tc := ⟨.hbm, 105, rfl⟩
abbrev main_cst_11 : Ref sig .tc := ⟨.hbm, 106, rfl⟩
abbrev main_v77 : Ref sig .tc := ⟨.hbm, 107, rfl⟩
abbrev main_cst_12 : Ref sig .tc := ⟨.hbm, 108, rfl⟩
abbrev main_cst_13 : Ref sig .tc := ⟨.hbm, 109, rfl⟩
abbrev main_v78 : Ref sig .tc := ⟨.hbm, 110, rfl⟩
abbrev main_v79 : Ref sig .tc := ⟨.hbm, 111, rfl⟩
abbrev main_cst_14 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_15 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]
-- ==== MixFwd.lean ====
abbrev S8192x1024 : Shape := ⟨2, ![8192, 1024]⟩
abbrev S1x6144 : Shape := ⟨2, ![1, 6144]⟩
abbrev S1x1024 : Shape := ⟨2, ![1, 1024]⟩
abbrev S1024x1536 : Shape := ⟨2, ![1024, 1536]⟩
abbrev S4x128 : Shape := ⟨2, ![4, 128]⟩
abbrev S4x128x128 : Shape := ⟨3, ![4, 128, 128]⟩
abbrev S1x512 : Shape := ⟨2, ![1, 512]⟩
abbrev S1024x1024 : Shape := ⟨2, ![1024, 1024]⟩
abbrev S6x1024 : Shape := ⟨2, ![6, 1024]⟩
abbrev S1536x1024 : Shape := ⟨2, ![1536, 1024]⟩
abbrev S128x4 : Shape := ⟨2, ![128, 4]⟩
abbrev S8192x1536 : Shape := ⟨2, ![8192, 1536]⟩
abbrev S512x1024 : Shape := ⟨2, ![512, 1024]⟩
abbrev S512x1536 : Shape := ⟨2, ![512, 1536]⟩
abbrev S528x512 : Shape := ⟨2, ![528, 512]⟩
abbrev S16x512 : Shape := ⟨2, ![16, 512]⟩
abbrev S512 : Shape := ⟨1, ![512]⟩
abbrev S512x1 : Shape := ⟨2, ![512, 1]⟩
abbrev S512x512 : Shape := ⟨2, ![512, 512]⟩
abbrev S128x128 : Shape := ⟨2, ![128, 128]⟩
abbrev S512x128 : Shape := ⟨2, ![512, 128]⟩
abbrev S1x128 : Shape := ⟨2, ![1, 128]⟩
abbrev S1x128x128 : Shape := ⟨3, ![1, 128, 128]⟩
abbrev S128x1 : Shape := ⟨2, ![128, 1]⟩
abbrev S528x128 : Shape := ⟨2, ![528, 128]⟩

abbrev nBuf : Space → Nat
  | .hbm => 19
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x6144, .f32⟩
  | .hbm, ⟨2, _⟩ => ⟨S1x1024, .f32⟩
  | .hbm, ⟨3, _⟩ => ⟨S1x1024, .f32⟩
  | .hbm, ⟨4, _⟩ => ⟨S1024x1536, .f32⟩
  | .hbm, ⟨5, _⟩ => ⟨S4x128, .f32⟩
  | .hbm, ⟨6, _⟩ => ⟨S4x128x128, .f32⟩
  | .hbm, ⟨7, _⟩ => ⟨S4x128, .f32⟩
  | .hbm, ⟨8, _⟩ => ⟨S4x128x128, .f32⟩
  | .hbm, ⟨9, _⟩ => ⟨S1x512, .f32⟩
  | .hbm, ⟨10, _⟩ => ⟨S1024x1024, .f32⟩
  | .hbm, ⟨11, _⟩ => ⟨S6x1024, .f32⟩
  | .hbm, ⟨12, _⟩ => ⟨S1536x1024, .f32⟩
  | .hbm, ⟨13, _⟩ => ⟨S1536x1024, .bf16⟩
  | .hbm, ⟨14, _⟩ => ⟨S128x4, .f32⟩
  | .hbm, ⟨15, _⟩ => ⟨S1024x1024, .bf16⟩
  | .hbm, ⟨16, _⟩ => ⟨S8192x1024, .f32⟩
  | .hbm, ⟨17, _⟩ => ⟨S8192x1536, .f32⟩
  | .hbm, ⟨18, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S6x1024, .f32⟩
  | .local _ .vmem, ⟨3, _⟩ => ⟨S1x1024, .f32⟩
  | .local _ .vmem, ⟨4, _⟩ => ⟨S1x1024, .f32⟩
  | .local _ .vmem, ⟨5, _⟩ => ⟨S1536x1024, .bf16⟩
  | .local _ .vmem, ⟨6, _⟩ => ⟨S4x128, .f32⟩
  | .local _ .vmem, ⟨7, _⟩ => ⟨S4x128x128, .f32⟩
  | .local _ .vmem, ⟨8, _⟩ => ⟨S128x4, .f32⟩
  | .local _ .vmem, ⟨9, _⟩ => ⟨S4x128x128, .f32⟩
  | .local _ .vmem, ⟨10, _⟩ => ⟨S1x512, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1536, .f32⟩
  | .local _ .vmem, ⟨15, _⟩ => ⟨S512x1536, .f32⟩
  | .local _ .vmem, ⟨16, _⟩ => ⟨S512x1024, .f32⟩
  | .local _ .vmem, ⟨17, _⟩ => ⟨S512x1024, .f32⟩
  | .local _ .vmem, ⟨18, _⟩ => ⟨S528x512, .f32⟩
  | .local _ .vmem, ⟨19, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixFwdReferenceIdeal.lean ====
abbrev S8192x1024 : Shape := ⟨2, ![8192, 1024]⟩
abbrev S1x6144 : Shape := ⟨2, ![1, 6144]⟩
abbrev S1x1024 : Shape := ⟨2, ![1, 1024]⟩
abbrev S1024x1536 : Shape := ⟨2, ![1024, 1536]⟩
abbrev S4x128 : Shape := ⟨2, ![4, 128]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩
abbrev S8192x512 : Shape := ⟨2, ![8192, 512]⟩
abbrev S64x128x4x128 : Shape := ⟨4, ![64, 128, 4, 128]⟩
abbrev S1x1x4x128 : Shape := ⟨4, ![1, 1, 4, 128]⟩
abbrev S64x128x4 : Shape := ⟨3, ![64, 128, 4]⟩
abbrev S64x128x4x1 : Shape := ⟨4, ![64, 128, 4, 1]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S8192x4x128 : Shape := ⟨3, ![8192, 4, 128]⟩
abbrev S8192x1x128 : Shape := ⟨3, ![8192, 1, 128]⟩
abbrev S8192x128 : Shape := ⟨2, ![8192, 128]⟩
abbrev S2x128 : Shape := ⟨2, ![2, 128]⟩
abbrev S8194x128 : Shape := ⟨2, ![8194, 128]⟩
abbrev S8196x128 : Shape := ⟨2, ![8196, 128]⟩
abbrev S8x128 : Shape := ⟨2, ![8, 128]⟩
abbrev S8200x128 : Shape := ⟨2, ![8200, 128]⟩
abbrev S16x128 : Shape := ⟨2, ![16, 128]⟩
abbrev S8208x128 : Shape := ⟨2, ![8208, 128]⟩
abbrev S4x128x8192 : Shape := ⟨3, ![4, 128, 8192]⟩

abbrev nBuf : Space → Nat
  | .hbm => 253
  | .vmem => 0
  | .smem => 0
  | _ => 0

abbrev hbmTy0_0 (i : Nat) : BufTy := match i % 128 with
  | 0 => ⟨S8192x1024, .f32⟩
  | 1 => ⟨S1x6144, .f32⟩
  | 2 => ⟨S1x1024, .f32⟩
  | 3 => ⟨S1x1024, .f32⟩
  | 4 => ⟨S1024x1536, .f32⟩
  | 5 => ⟨S4x128, .f32⟩
  | 6 => ⟨S4x128x128, .f32⟩
  | 7 => ⟨S4x128, .f32⟩
  | 8 => ⟨S4x128x128, .f32⟩
  | 9 => ⟨S1x512, .f32⟩
  | 10 => ⟨S1024x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S8192x1024, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1, .f32⟩
  | 28 => ⟨S8192x1024, .f32⟩
  | 29 => ⟨S8192x1024, .f32⟩
  | 30 => ⟨S8192x1024, .f32⟩
  | 31 => ⟨S8192x1024, .f32⟩
  | 32 => ⟨S_, .f32⟩
  | 33 => ⟨S1x1024, .f32⟩
  | 34 => ⟨S1x1024, .f32⟩
  | 35 => ⟨S8192x1024, .f32⟩
  | 36 => ⟨S8192x1024, .f32⟩
  | 37 => ⟨S8192x1024, .f32⟩
  | 38 => ⟨S8192x1024, .f32⟩
  | 39 => ⟨S8192x1536, .f32⟩
  | 40 => ⟨S8192x1024, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S8192x1024, .f32⟩
  | 58 => ⟨S8192x512, .f32⟩
  | 59 => ⟨S8192x512, .f32⟩
  | 60 => ⟨S64x128x4x128, .f32⟩
  | 61 => ⟨S1x1x4x128, .f32⟩
  | 62 => ⟨S64x128x4x128, .f32⟩
  | 63 => ⟨S_, .f32⟩
  | 64 => ⟨S64x128x4, .f32⟩
  | 65 => ⟨S64x128x4x1, .f32⟩
  | 66 => ⟨S_, .f32⟩
  | 67 => ⟨S64x128x4x1, .f32⟩
  | 68 => ⟨S64x128x4x1, .f32⟩
  | 69 => ⟨S_, .f32⟩
  | 70 => ⟨S64x128x4x1, .f32⟩
  | 71 => ⟨S64x128x4x1, .f32⟩
  | 72 => ⟨S64x128x4x1, .f32⟩
  | 73 => ⟨S64x128x4x128, .f32⟩
  | 74 => ⟨S64x128x4x128, .f32⟩
  | 75 => ⟨S64x128x4x128, .f32⟩
  | 76 => ⟨S64x128x4x128, .f32⟩
  | 77 => ⟨S128, .i32⟩
  | 78 => ⟨S1x128, .i32⟩
  | 79 => ⟨S_, .i32⟩
  | 80 => ⟨S_, .i32⟩
  | 81 => ⟨S1x128, .i32⟩
  | 82 => ⟨S1x128, .i32⟩
  | 83 => ⟨S1x128, .i32⟩
  | 84 => ⟨S_, .i32⟩
  | 85 => ⟨S1x128, .i32⟩
  | 86 => ⟨S1x128, .i1⟩
  | 87 => ⟨S1x128, .i32⟩
  | 88 => ⟨S1x128, .i32⟩
  | 89 => ⟨S_, .i32⟩
  | 90 => ⟨S1x128, .i32⟩
  | 91 => ⟨S1x128, .i1⟩
  | 92 => ⟨S1x128, .i1⟩
  | 93 => ⟨S_, .i32⟩
  | 94 => ⟨S1x128, .i32⟩
  | 95 => ⟨S1x128, .i32⟩
  | 96 => ⟨S1x128, .i32⟩
  | 97 => ⟨S128x1, .i32⟩
  | 98 => ⟨S_, .i32⟩
  | 99 => ⟨S_, .i32⟩
  | 100 => ⟨S128x1, .i32⟩
  | 101 => ⟨S128x1, .i32⟩
  | 102 => ⟨S128x1, .i32⟩
  | 103 => ⟨S_, .i32⟩
  | 104 => ⟨S128x1, .i32⟩
  | 105 => ⟨S128x1, .i1⟩
  | 106 => ⟨S128x1, .i32⟩
  | 107 => ⟨S128x1, .i32⟩
  | 108 => ⟨S_, .i32⟩
  | 109 => ⟨S128x1, .i32⟩
  | 110 => ⟨S128x1, .i1⟩
  | 111 => ⟨S128x1, .i1⟩
  | 112 => ⟨S_, .i32⟩
  | 113 => ⟨S128x1, .i32⟩
  | 114 => ⟨S128x1, .i32⟩
  | 115 => ⟨S128x1, .i32⟩
  | 116 => ⟨S128x128, .i32⟩
  | 117 => ⟨S128x128, .i32⟩
  | 118 => ⟨S128x128, .i1⟩
  | 119 => ⟨S1x128x128, .i1⟩
  | 120 => ⟨S_, .f32⟩
  | 121 => ⟨S4x128x128, .f32⟩
  | 122 => ⟨S4x128x128, .i1⟩
  | 123 => ⟨S4x128x128, .f32⟩
  | 124 => ⟨S4x64x128x128, .f32⟩
  | 125 => ⟨S64x128x4x128, .f32⟩
  | 126 => ⟨S128x4, .f32⟩
  | 127 => ⟨S1x128x4x1, .f32⟩
  | _ => ⟨S8192x1024, .f32⟩

abbrev hbmTy0_1 (i : Nat) : BufTy := match i % 128 with
  | 0 => ⟨S64x128x4x128, .f32⟩
  | 1 => ⟨S64x128x4x128, .f32⟩
  | 2 => ⟨S8192x512, .f32⟩
  | 3 => ⟨S8192x512, .f32⟩
  | 4 => ⟨S8192x512, .f32⟩
  | 5 => ⟨S8192x4x128, .f32⟩
  | 6 => ⟨S8192, .i32⟩
  | 7 => ⟨S8192x1x128, .f32⟩
  | 8 => ⟨S8192x128, .f32⟩
  | 9 => ⟨S_, .f32⟩
  | 10 => ⟨S_, .f32⟩
  | 11 => ⟨S8192x128, .f32⟩
  | 12 => ⟨S_, .f32⟩
  | 13 => ⟨S2x128, .f32⟩
  | 14 => ⟨S8194x128, .f32⟩
  | 15 => ⟨S8192x128, .f32⟩
  | 16 => ⟨S8192x128, .f32⟩
  | 17 => ⟨S8192x128, .f32⟩
  | 18 => ⟨S_, .i32⟩
  | 19 => ⟨S8192, .i32⟩
  | 20 => ⟨S8192, .i32⟩
  | 21 => ⟨S_, .i32⟩
  | 22 => ⟨S8192, .i32⟩
  | 23 => ⟨S8192, .i32⟩
  | 24 => ⟨S8192, .f32⟩
  | 25 => ⟨S8192x1, .f32⟩
  | 26 => ⟨S8192x128, .f32⟩
  | 27 => ⟨S8192x128, .f32⟩
  | 28 => ⟨S8192x128, .f32⟩
  | 29 => ⟨S8192x1x128, .f32⟩
  | 30 => ⟨S8192x128, .f32⟩
  | 31 => ⟨S_, .f32⟩
  | 32 => ⟨S_, .f32⟩
  | 33 => ⟨S8192x128, .f32⟩
  | 34 => ⟨S_, .f32⟩
  | 35 => ⟨S4x128, .f32⟩
  | 36 => ⟨S8196x128, .f32⟩
  | 37 => ⟨S8192x128, .f32⟩
  | 38 => ⟨S8192x128, .f32⟩
  | 39 => ⟨S8192x128, .f32⟩
  | 40 => ⟨S_, .i32⟩
  | 41 => ⟨S8192, .i32⟩
  | 42 => ⟨S8192, .i32⟩
  | 43 => ⟨S_, .i32⟩
  | 44 => ⟨S8192, .i32⟩
  | 45 => ⟨S8192, .i32⟩
  | 46 => ⟨S8192, .f32⟩
  | 47 => ⟨S8192x1, .f32⟩
  | 48 => ⟨S8192x128, .f32⟩
  | 49 => ⟨S8192x128, .f32⟩
  | 50 => ⟨S8192x128, .f32⟩
  | 51 => ⟨S8192x1x128, .f32⟩
  | 52 => ⟨S8192x128, .f32⟩
  | 53 => ⟨S_, .f32⟩
  | 54 => ⟨S_, .f32⟩
  | 55 => ⟨S8192x128, .f32⟩
  | 56 => ⟨S_, .f32⟩
  | 57 => ⟨S8x128, .f32⟩
  | 58 => ⟨S8200x128, .f32⟩
  | 59 => ⟨S8192x128, .f32⟩
  | 60 => ⟨S8192x128, .f32⟩
  | 61 => ⟨S8192x128, .f32⟩
  | 62 => ⟨S_, .i32⟩
  | 63 => ⟨S8192, .i32⟩
  | 64 => ⟨S8192, .i32⟩
  | 65 => ⟨S_, .i32⟩
  | 66 => ⟨S8192, .i32⟩
  | 67 => ⟨S8192, .i32⟩
  | 68 => ⟨S8192, .f32⟩
  | 69 => ⟨S8192x1, .f32⟩
  | 70 => ⟨S8192x128, .f32⟩
  | 71 => ⟨S8192x128, .f32⟩
  | 72 => ⟨S8192x128, .f32⟩
  | 73 => ⟨S8192x1x128, .f32⟩
  | 74 => ⟨S8192x128, .f32⟩
  | 75 => ⟨S_, .f32⟩
  | 76 => ⟨S_, .f32⟩
  | 77 => ⟨S8192x128, .f32⟩
  | 78 => ⟨S_, .f32⟩
  | 79 => ⟨S16x128, .f32⟩
  | 80 => ⟨S8208x128, .f32⟩
  | 81 => ⟨S8192x128, .f32⟩
  | 82 => ⟨S8192x128, .f32⟩
  | 83 => ⟨S8192x128, .f32⟩
  | 84 => ⟨S_, .i32⟩
  | 85 => ⟨S8192, .i32⟩
  | 86 => ⟨S8192, .i32⟩
  | 87 => ⟨S_, .i32⟩
  | 88 => ⟨S8192, .i32⟩
  | 89 => ⟨S8192, .i32⟩
  | 90 => ⟨S8192, .f32⟩
  | 91 => ⟨S8192x1, .f32⟩
  | 92 => ⟨S8192x128, .f32⟩
  | 93 => ⟨S8192x128, .f32⟩
  | 94 => ⟨S8192x128, .f32⟩
  | 95 => ⟨S8192x1x128, .f32⟩
  | 96 => ⟨S8192x1x128, .f32⟩
  | 97 => ⟨S8192x1x128, .f32⟩
  | 98 => ⟨S8192x1x128, .f32⟩
  | 99 => ⟨S8192x4x128, .f32⟩
  | 100 => ⟨S4x128x8192, .f32⟩
  | 101 => ⟨S8192x4x128, .f32⟩
  | 102 => ⟨S8192x512, .f32⟩
  | 103 => ⟨S8192x512, .f32⟩
  | 104 => ⟨S8192x512, .f32⟩
  | 105 => ⟨S8192x1024, .f32⟩
  | 106 => ⟨S8192x1024, .f32⟩
  | 107 => ⟨S8192x1024, .f32⟩
  | 108 => ⟨S_, .f32⟩
  | 109 => ⟨S8192, .f32⟩
  | 110 => ⟨S8192x1, .f32⟩
  | 111 => ⟨S_, .f32⟩
  | 112 => ⟨S8192x1, .f32⟩
  | 113 => ⟨S8192x1, .f32⟩
  | 114 => ⟨S_, .f32⟩
  | 115 => ⟨S8192x1, .f32⟩
  | 116 => ⟨S8192x1, .f32⟩
  | 117 => ⟨S8192x1, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_c : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_c_0 : Ref sig .tc := ⟨.hbm, 93, rfl⟩
abbrev main_call0_v12 : Ref sig .tc := ⟨.hbm, 94, rfl⟩
abbrev main_call0_v13 : Ref sig .tc := ⟨.hbm, 95, rfl⟩
abbrev main_v57 : Ref sig .tc := ⟨.hbm, 96, rfl⟩
abbrev main_v58 : Ref sig .tc := ⟨.hbm, 97, rfl⟩
abbrev main_c_10 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_v7 : Ref sig .tc := ⟨.hbm, 106, rfl⟩
abbrev main_call1_v8 : Ref sig .tc := ⟨.hbm, 107, rfl⟩
abbrev main_call1_c : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_c_0 : Ref sig .tc := ⟨.hbm, 112, rfl⟩
abbrev main_call1_v12 : Ref sig .tc := ⟨.hbm, 113, rfl⟩
abbrev main_call1_v13 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_11 : Ref sig .tc := ⟨.hbm, 120, rfl⟩
abbrev main_v64 : Ref sig .tc := ⟨.hbm, 121, rfl⟩
abbrev main_call2_v0 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_call3_call0_cst : Ref sig .tc := ⟨.hbm, 137, rfl⟩
abbrev main_call3_call0_v0 : Ref sig .tc := ⟨.hbm, 138, rfl⟩
abbrev main_v79 : Ref sig .tc := ⟨.hbm, 139, rfl⟩
abbrev main_cst_12 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_c_13 : Ref sig .tc := ⟨.hbm, 146, rfl⟩
abbrev main_v85 : Ref sig .tc := ⟨.hbm, 147, rfl⟩
abbrev main_v86 : Ref sig .tc := ⟨.hbm, 148, rfl⟩
abbrev main_c_14 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_call4_call0_cst : Ref sig .tc := ⟨.hbm, 159, rfl⟩
abbrev main_call4_call0_v0 : Ref sig .tc := ⟨.hbm, 160, rfl⟩
abbrev main_v96 : Ref sig .tc := ⟨.hbm, 161, rfl⟩
abbrev main_cst_15 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_c_16 : Ref sig .tc := ⟨.hbm, 168, rfl⟩
abbrev main_v102 : Ref sig .tc := ⟨.hbm, 169, rfl⟩
abbrev main_v103 : Ref sig .tc := ⟨.hbm, 170, rfl⟩
abbrev main_c_17 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_call5_call0_cst : Ref sig .tc := ⟨.hbm, 181, rfl⟩
abbrev main_call5_call0_v0 : Ref sig .tc := ⟨.hbm, 182, rfl⟩
abbrev main_v113 : Ref sig .tc := ⟨.hbm, 183, rfl⟩
abbrev main_cst_18 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_c_19 : Ref sig .tc := ⟨.hbm, 190, rfl⟩
abbrev main_v119 : Ref sig .tc := ⟨.hbm, 191, rfl⟩
abbrev main_v120 : Ref sig .tc := ⟨.hbm, 192, rfl⟩
abbrev main_c_20 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_call6_call0_cst : Ref sig .tc := ⟨.hbm, 203, rfl⟩
abbrev main_call6_call0_v0 : Ref sig .tc := ⟨.hbm, 204, rfl⟩
abbrev main_v130 : Ref sig .tc := ⟨.hbm, 205, rfl⟩
abbrev main_cst_21 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_c_22 : Ref sig .tc := ⟨.hbm, 212, rfl⟩
abbrev main_v136 : Ref sig .tc := ⟨.hbm, 213, rfl⟩
abbrev main_v137 : Ref sig .tc := ⟨.hbm, 214, rfl⟩
abbrev main_c_23 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_cst_24 : Ref sig .tc := ⟨.hbm, 236, rfl⟩
abbrev main_v158 : Ref sig .tc := ⟨.hbm, 237, rfl⟩
abbrev main_v159 : Ref sig .tc := ⟨.hbm, 238, rfl⟩
abbrev main_cst_25 : Ref sig .tc := ⟨.hbm, 239, rfl⟩
abbrev main_v160 : Ref sig .tc := ⟨.hbm, 240, rfl⟩
abbrev main_v161 : Ref sig .tc := ⟨.hbm, 241, rfl⟩
abbrev main_cst_26 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩

abbrev nD : Nat := 1
abbrev τ : Topo := Topo.v7x

variable {F : FTy → Type} [FloatOps F]
-- ==== Wup.lean ====
abbrev S8192x1024 : Shape := ⟨2, ![8192, 1024]⟩
abbrev S8192x5632 : Shape := ⟨2, ![8192, 5632]⟩
abbrev S8192x8x704 : Shape := ⟨3, ![8192, 8, 704]⟩
abbrev S8x8192x704 : Shape := ⟨3, ![8, 8192, 704]⟩
abbrev S8x704x1024 : Shape := ⟨3, ![8, 704, 1024]⟩
abbrev S1024x1024 : Shape := ⟨2, ![1024, 1024]⟩
abbrev S4x1024x704 : Shape := ⟨3, ![4, 1024, 704]⟩
abbrev S4x704x1024 : Shape := ⟨3, ![4, 704, 1024]⟩
abbrev S1x704x1024 : Shape := ⟨3, ![1, 704, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x8x704, .bf16⟩
  | .hbm, ⟨3, _⟩ => ⟨S8x8192x704, .bf16⟩
  | .hbm, ⟨4, _⟩ => ⟨S8x704x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1024x704, .bf16⟩
  | .local _ .vmem, ⟨3, _⟩ => ⟨S4x1024x704, .bf16⟩
  | .local _ .vmem, ⟨4, _⟩ => ⟨S4x704x1024, .f32⟩
  | .local _ .vmem, ⟨5, _⟩ => ⟨S4x704x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WupReferenceIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S8x704x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Ada.lean ====
abbrev S8x1024 : Shape := ⟨2, ![8, 1024]⟩
abbrev S1024x768 : Shape := ⟨2, ![1024, 768]⟩
abbrev S1x768 : Shape := ⟨2, ![1, 768]⟩
abbrev S8x1x768 : Shape := ⟨3, ![8, 1, 768]⟩
abbrev S16x1024 : Shape := ⟨2, ![16, 1024]⟩
abbrev S8x1x1024 : Shape := ⟨3, ![8, 1, 1024]⟩
abbrev S1x1024 : Shape := ⟨2, ![1, 1024]⟩
abbrev S1x1x1024 : Shape := ⟨3, ![1, 1, 1024]⟩
abbrev S16x768 : Shape := ⟨2, ![16, 768]⟩
abbrev S1x1x768 : Shape := ⟨3, ![1, 1, 768]⟩

abbrev nBuf : Space → Nat
  | .hbm => 5
  | .vmem => 6
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x1x768, .f32⟩
  | .hbm, ⟨4, _⟩ => ⟨S16x1024, .f32⟩
  | .local _ .vmem, ⟨0, _⟩ => ⟨S8x1024, .f32⟩
  | .local _ .vmem, ⟨1, _⟩ => ⟨S1024x768, .f32⟩
  | .local _ .vmem, ⟨2, _⟩ => ⟨S1x768, .f32⟩
  | .local _ .vmem, ⟨3, _⟩ => ⟨S8x1x768, .f32⟩
  | .local _ .vmem, ⟨4, _⟩ => ⟨S16x1024, .f32⟩
  | .local _ .vmem, ⟨5, _⟩ => ⟨S8x1x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== AdaReferenceIdeal.lean ====
abbrev S8x1024 : Shape := ⟨2, ![8, 1024]⟩
abbrev S1024x768 : Shape := ⟨2, ![1024, 768]⟩
abbrev S1x768 : Shape := ⟨2, ![1, 768]⟩
abbrev S_ : Shape := ⟨0, ![]⟩
abbrev S8x768 : Shape := ⟨2, ![8, 768]⟩
abbrev S8x1x768 : Shape := ⟨3, ![8, 1, 768]⟩
abbrev S16x1024 : Shape := ⟨2, ![16, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S8x768, .f32⟩
  | .hbm, ⟨14, _⟩ => ⟨S8x768, .f32⟩
  | .hbm, ⟨15, _⟩ => ⟨S8x1x768, .f32⟩
  | .hbm, ⟨16, _⟩ => ⟨S_, .f32⟩
  | .hbm, ⟨17, _⟩ => ⟨S8x1024, .f32⟩
  | .hbm, ⟨18, _⟩ => ⟨S16x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Proof.MixLeft.lean ====
/-
  What one grid point of the mixing half's backward kernel leaves in its output buffers and in the scratch it carries.

  The first point (`A`) starts the running sums and the carried rows from zero; every later point (`B`) continues from what
  the point before left.
-/
module

public import proofs.«01_k».proof.Proof.Gen.MixIdeal.Frame.RunB

@[expose] public section

-- the covers are checked coordinate by coordinate over axes of the problem's own extents
set_option maxRecDepth 16384

noncomputable section

namespace Cert.MixIdeal.Own

open Cert.MixIdeal Cert.MixIdeal.Gen
open Idealize.ShloMosaic Idealize.ShloMosaic.TcCoe Idealize.ShloMosaic.Tactic

variable {F : FTy → Type} [FloatOps F] [Named F]
variable (m : (ℓ : Loc nD τ sig) → Buf (Elt F) ℓ)

/-- The contents one point leaves: eleven results' buffers, then the carried scratch. -/
structure Left (F : FTy → Type) [FloatOps F] where
  /-- gradient of the input rows -/
  gx : Vec F S512x1024 .f32
  /-- running sum for the first product's matrix, transposed -/
  dwin : Vec F S1536x1024 .f32
  /-- running sum for the last product's matrix -/
  dwout : Vec F S1024x1024 .f32
  /-- running sums for the three modulation rows -/
  dmod : Vec F S3x1024 .f32
  /-- running sum for the first gain -/
  dg1 : Vec F S1x1024 .f32
  /-- running sum for the second gain -/
  dg2 : Vec F S1x1024 .f32
  /-- running sums for the heads' gains -/
  dsgn : Vec F S4x128 .f32
  /-- running sums for the heads' mixing matrices -/
  dws : Vec F S4x128x128 .f32
  /-- running sums for the heads' offsets, by column -/
  dbst : Vec F S128x4 .f32
  /-- running sums for the pools' matrices -/
  dwp : Vec F S4x128x128 .f32
  /-- running sum for the pools' scales -/
  dps : Vec F S1x512 .f32
  /-- the pools' cotangents, the tile's rows and then the first rows again -/
  win : Vec F S528x512 .f32

/-- The first point's run, at that point's buffers and input blocks. -/
abbrev runA (c : Dev nD) (t : Fin cfg0.N) (h0 : t.val % 16 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t)
    scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- A later point's run, over what the point before left. -/
abbrev runB (c : Dev nD) (t : Fin cfg0.N) (h0 : ¬t.val % 16 = 0) (p : Left F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t)
    scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    p.dwin p.dwout p.dmod p.dg1 p.dg2 p.dsgn p.dws p.dbst p.dwp p.dps p.win

/-- The pieces of a list reach every index. -/
def Cov {s : Shape} {e : EltTy} (L : List (View.Piece (Elt F) s e)) : Prop := ∀ y, ∃ pc ∈ L, y ∈ pc.1.set

section
variable (c : Dev nD) (t : Fin cfg0.N) (h0 : t.val % 16 = 0)
theorem covA_gx : Cov (runA m c t h0).1 := View.cover_of_tiledL _ S512x1024.size (by sl_kernel_rfl)
theorem covA_dwin : Cov (runA m c t h0).2.1 := View.cover_of_tiledL _ S1536x1024.size (by sl_kernel_rfl)
theorem covA_dwout : Cov (runA m c t h0).2.2.1 := View.cover_of_tiledL _ S1024x1024.size (by sl_kernel_rfl)
theorem covA_dmod : Cov (runA m c t h0).2.2.2.1 := View.cover_of_tiledBy _ ![1, 1024] (by sl_kernel_rfl)
theorem covA_dg1 : Cov (runA m c t h0).2.2.2.2.1 := View.cover_of_tiledL _ S1x1024.size (by sl_kernel_rfl)
theorem covA_dg2 : Cov (runA m c t h0).2.2.2.2.2.1 := View.cover_of_tiledL _ S1x1024.size (by sl_kernel_rfl)
theorem covA_dsgn : Cov (runA m c t h0).2.2.2.2.2.2.1 := View.cover_of_tiledBy _ ![1, 128] (by sl_kernel_rfl)
theorem covA_dws : Cov (runA m c t h0).2.2.2.2.2.2.2.1 := View.cover_of_tiledBy _ ![1, 128, 128] (by sl_kernel_rfl)
theorem covA_dbst : Cov (runA m c t h0).2.2.2.2.2.2.2.2.1 := View.cover_of_tiledBy _ ![128, 1] (by sl_kernel_rfl)
theorem covA_dwp : Cov (runA m c t h0).2.2.2.2.2.2.2.2.2.1 := View.cover_of_tiledBy _ ![1, 128, 128] (by sl_kernel_rfl)
theorem covA_dps : Cov (runA m c t h0).2.2.2.2.2.2.2.2.2.2.1 := View.cover_of_tiledBy _ ![1, 128] (by sl_kernel_rfl)
theorem covA_win : Cov (runA m c t h0).2.2.2.2.2.2.2.2.2.2.2.1 := View.cover_of_tiledBy _ ![16, 128] (by sl_kernel_rfl)
end

/-- What the first point leaves. -/
def leftA (c : Dev nD) (t : Fin cfg0.N) (h0 : t.val % 16 = 0) : Left F where
  gx := View.canon (runA m c t h0).1
  dwin := View.canon (runA m c t h0).2.1
  dwout := View.canon (runA m c t h0).2.2.1
  dmod := View.canon (runA m c t h0).2.2.2.1
  dg1 := View.canon (runA m c t h0).2.2.2.2.1
  dg2 := View.canon (runA m c t h0).2.2.2.2.2.1
  dsgn := View.canon (runA m c t h0).2.2.2.2.2.2.1
  dws := View.canon (runA m c t h0).2.2.2.2.2.2.2.1
  dbst := View.canon (runA m c t h0).2.2.2.2.2.2.2.2.1
  dwp := View.canon (runA m c t h0).2.2.2.2.2.2.2.2.2.1
  dps := View.canon (runA m c t h0).2.2.2.2.2.2.2.2.2.2.1
  win := View.canon (runA m c t h0).2.2.2.2.2.2.2.2.2.2.2.1

section
variable (c : Dev nD) (t : Fin cfg0.N) (h0 : ¬t.val % 16 = 0) (p : Left F)
theorem covB_gx : Cov (runB m c t h0 p).1 := View.cover_of_tiledL _ S512x1024.size (by sl_kernel_rfl)
theorem covB_dwin : Cov (runB m c t h0 p).2.1 := View.cover_of_tiledL _ S1536x1024.size (by sl_kernel_rfl)
theorem covB_dwout : Cov (runB m c t h0 p).2.2.1 := View.cover_of_tiledL _ S1024x1024.size (by sl_kernel_rfl)
theorem covB_dmod : Cov (runB m c t h0 p).2.2.2.1 := View.cover_of_tiledL _ S1x1024.size (by sl_kernel_rfl)
theorem covB_dg1 : Cov (runB m c t h0 p).2.2.2.2.1 := View.cover_of_tiledL _ S1x1024.size (by sl_kernel_rfl)
theorem covB_dg2 : Cov (runB m c t h0 p).2.2.2.2.2.1 := View.cover_of_tiledL _ S1x1024.size (by sl_kernel_rfl)
theorem covB_dsgn : Cov (runB m c t h0 p).2.2.2.2.2.2.1 := View.cover_of_tiledL _ S1x128.size (by sl_kernel_rfl)
theorem covB_dws : Cov (runB m c t h0 p).2.2.2.2.2.2.2.1 := View.cover_of_tiledL _ S1x128x128.size (by sl_kernel_rfl)
theorem covB_dbst : Cov (runB m c t h0 p).2.2.2.2.2.2.2.2.1 := View.cover_of_tiledL _ S128x1.size (by sl_kernel_rfl)
theorem covB_dwp : Cov (runB m c t h0 p).2.2.2.2.2.2.2.2.2.1 := View.cover_of_tiledL _ S1x128x128.size (by sl_kernel_rfl)
theorem covB_dps : Cov (runB m c t h0 p).2.2.2.2.2.2.2.2.2.2.1 := View.cover_of_tiledL _ S1x128.size (by sl_kernel_rfl)
theorem covB_win : Cov (runB m c t h0 p).2.2.2.2.2.2.2.2.2.2.2.1 := View.cover_of_tiledBy _ ![16, 128] (by sl_kernel_rfl)
end

/-- What a later point leaves. -/
def leftB (c : Dev nD) (t : Fin cfg0.N) (h0 : ¬t.val % 16 = 0) (p : Left F) : Left F where
  gx := View.canon (runB m c t h0 p).1
  dwin := View.canon (runB m c t h0 p).2.1
  dwout := View.canon (runB m c t h0 p).2.2.1
  dmod := View.canon (runB m c t h0 p).2.2.2.1
  dg1 := View.canon (runB m c t h0 p).2.2.2.2.1
  dg2 := View.canon (runB m c t h0 p).2.2.2.2.2.1
  dsgn := View.canon (runB m c t h0 p).2.2.2.2.2.2.1
  dws := View.canon (runB m c t h0 p).2.2.2.2.2.2.2.1
  dbst := View.canon (runB m c t h0 p).2.2.2.2.2.2.2.2.1
  dwp := View.canon (runB m c t h0 p).2.2.2.2.2.2.2.2.2.1
  dps := View.canon (runB m c t h0 p).2.2.2.2.2.2.2.2.2.2.1
  win := View.canon (runB m c t h0 p).2.2.2.2.2.2.2.2.2.2.2.1

/-- What the point numbered `n` leaves. -/
def left (c : Dev nD) : (n : ℕ) → n < cfg0.N → Left F
  | 0, hn => leftA m c ⟨0, hn⟩ (Nat.zero_mod _)
  | n + 1, hn =>
    if h0 : (n + 1) % 16 = 0 then leftA m c ⟨n + 1, hn⟩ h0
    else leftB m c ⟨n + 1, hn⟩ h0 (left c n (Nat.lt_of_succ_lt hn))

/-- What the point before `t` leaves. -/
abbrev prev (c : Dev nD) (t : Fin cfg0.N) : Left F := left m c (t.val - 1) (Nat.lt_of_le_of_lt (Nat.sub_le _ _) t.isLt)

theorem left_A (c : Dev nD) (t : Fin cfg0.N) (h0 : t.val % 16 = 0) : left m c t.val t.isLt = leftA m c t h0 := by
  obtain ⟨n, hn⟩ := t
  cases n with
  | zero => rfl
  | succ n => exact dif_pos h0

theorem left_B (c : Dev nD) (t : Fin cfg0.N) (h0 : ¬t.val % 16 = 0) : left m c t.val t.isLt = leftB m c t h0 (prev m c t) := by
  obtain ⟨n, hn⟩ := t
  cases n with
  | zero => exact absurd (Nat.zero_mod _) h0
  | succ n => exact dif_neg h0

end Cert.MixIdeal.Own

end
-- ==== Proof.MixStep.lean ====
/-
  One grid point's step: the body takes the buffers from what they hold to the contents of MixLeft.lean.
-/
module

public import proofs.«01_k».proof.Proof.MixLeft
public import Idealize.ShloMosaic.Lib.Claim

@[expose] public section

set_option maxRecDepth 16384

noncomputable section

namespace Cert.MixIdeal.Own

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A buffer of the device's core, holding `v`. -/
abbrev has (c : Dev nD) {sh : Shape} {e : EltTy} (mr : Memref sig .tc .vmem sh e) (v : sh.Idx → Elt F e) : sProp 𝕄 :=
  owns (c : Thread nD τ) mr fullShare v

/-- A buffer written piece by piece, all of it, holds the pieces' contents. -/
theorem put {c : Dev nD} {sh : Shape} {e : EltTy} {mr : Memref sig .tc .vmem sh e} {L : List (View.Piece (Elt F) sh e)} (h : Cov L) :
    iprop(∃ f, mr.view.loc (c : Thread nD τ) ↦[mr.view.set]{fullShare} mr.view.writes (Elt F) f L)
      ⊢ (has c mr (View.canon L) : sProp 𝕄) := by
  iintro ⟨%f, H⟩
  unfold has owns
  iexists _
  isplitr
  swap; · iexact H
  ipureintro
  exact View.read_writes_eq_canon _ _ _ h

/-- A buffer written to in any way is a buffer holding something. -/
theorem put_any {c : Dev nD} {sh : Shape} {e : EltTy} {mr : Memref sig .tc .vmem sh e} {L : List (View.Piece (Elt F) sh e)} :
    iprop(∃ f, mr.view.loc (c : Thread nD τ) ↦[mr.view.set]{fullShare} mr.view.writes (Elt F) f L)
      ⊢ (iprop(∃ d, has c mr d) : sProp 𝕄) := by
  iintro ⟨%f, H⟩
  unfold has owns
  iexists _
  iexists _
  isplitr
  swap; · iexact H
  ipureintro
  rfl

/-- The input buffers at a point's blocks. -/
def ins (c : Dev nD) (t : Fin cfg0.N) : sProp 𝕄 :=
  iprop(has c (ms0_0 t) (iblk m c 0 t)
    ∗ has c (ms0_1 t) (iblk m c 1 t)
    ∗ has c (ms0_2 t) (iblk m c 2 t)
    ∗ has c (ms0_3 t) (iblk m c 3 t)
    ∗ has c (ms0_4 t) (iblk m c 4 t)
    ∗ has c (ms0_5 t) (iblk m c 5 t)
    ∗ has c (ms0_6 t) (iblk m c 6 t)
    ∗ has c (ms0_7 t) (iblk m c 7 t)
    ∗ has c (ms0_8 t) (iblk m c 8 t)
    ∗ has c (ms0_9 t) (iblk m c 9 t)
    ∗ has c (ms0_10 t) (iblk m c 10 t)
    ∗ has c (ms0_11 t) (iblk m c 11 t)
    ∗ has c (ms0_12 t) (iblk m c 12 t)
    ∗ has c (ms0_13 t) (iblk m c 13 t)
    ∗ has c (ms0_14 t) (iblk m c 14 t))

/-- The result buffers at what a point leaves. -/
def results (c : Dev nD) (t : Fin cfg0.N) (p : Left F) : sProp 𝕄 :=
  iprop(has c (ms0_15 t) p.gx
    ∗ has c (ms0_16 t) p.dwin
    ∗ has c (ms0_17 t) p.dwout
    ∗ has c (ms0_18 t) p.dmod
    ∗ has c (ms0_19 t) p.dg1
    ∗ has c (ms0_20 t) p.dg2
    ∗ has c (ms0_21 t) p.dsgn
    ∗ has c (ms0_22 t) p.dws
    ∗ has c (ms0_23 t) p.dbst
    ∗ has c (ms0_24 t) p.dwp
    ∗ has c (ms0_25 t) p.dps)

/-- The ten running sums' buffers at what a point left. -/
def runSums (c : Dev nD) (t : Fin cfg0.N) (p : Left F) : sProp 𝕄 :=
  iprop(has c (ms0_16 t) p.dwin
    ∗ has c (ms0_17 t) p.dwout
    ∗ has c (ms0_18 t) p.dmod
    ∗ has c (ms0_19 t) p.dg1
    ∗ has c (ms0_20 t) p.dg2
    ∗ has c (ms0_21 t) p.dsgn
    ∗ has c (ms0_22 t) p.dws
    ∗ has c (ms0_23 t) p.dbst
    ∗ has c (ms0_24 t) p.dwp
    ∗ has c (ms0_25 t) p.dps)

/-- The same buffers at anything. -/
def sums_any (c : Dev nD) (t : Fin cfg0.N) : sProp 𝕄 :=
  iprop((∃ d, has c (ms0_16 t) d)
    ∗ (∃ d, has c (ms0_17 t) d)
    ∗ (∃ d, has c (ms0_18 t) d)
    ∗ (∃ d, has c (ms0_19 t) d)
    ∗ (∃ d, has c (ms0_20 t) d)
    ∗ (∃ d, has c (ms0_21 t) d)
    ∗ (∃ d, has c (ms0_22 t) d)
    ∗ (∃ d, has c (ms0_23 t) d)
    ∗ (∃ d, has c (ms0_24 t) d)
    ∗ (∃ d, has c (ms0_25 t) d))

/-- The scratch that a point does not carry, at anything. -/
def spare (c : Dev nD) : sProp 𝕄 :=
  iprop((∃ d, has c scM0_0 d) ∗ (∃ d, has c scM0_2 d) ∗ (∃ d, has c scM0_3 d) ∗ (∃ d, has c scM0_4 d))

/-- The scratch a point carries to the next. -/
def carried (c : Dev nD) (p : Left F) : sProp 𝕄 :=
  iprop(has c scM0_1 p.win ∗ spare c)

/-- The scratch at anything. -/
def carried_any (c : Dev nD) : sProp 𝕄 :=
  iprop((∃ d, has c scM0_1 d) ∗ spare c)

set_option maxHeartbeats 8000000 in
/-- The first point's body. -/
theorem stepA (c : Dev nD) (t : Fin cfg0.N) (h0 : t.val % 16 = 0) :
    iprop(ins m c t ∗ (∃ d, has c (ms0_15 t) d) ∗ sums_any c t ∗ carried_any c)
      ⊢ wp frame (wpE (defs₀ (F := F)) Variants.none c none) Set.univ (bodyAt0 t)
          (fun _ => iprop(ins m c t ∗ results c t (leftA m c t h0) ∗ carried c (leftA m c t h0))) := by
  unfold ins sums_any carried_any carried spare results leftA bodyAt0
  dsimp only
  iintro ⟨⟨H0, H1, H2, H3, H4, H5, H6, H7, H8, H9, H10, H11, H12, H13, H14⟩, H15, ⟨H16, H17, H18, H19, H20, H21, H22, H23, H24, H25⟩, S1, S0, S2, S3, S4⟩
  iapply ((runA m c t h0).2.2.2.2.2.2.2.2.2.2.2.2.2.2.2.2 Set.univ _)
  iframe
  iintro ⟨H0, H1, H2, H3, H4, H5, H6, H7, H8, H9, H10, H11, H12, H13, H14, H15, H16, H17, H18, H19, H20, H21, H22, H23, H24, H25, S0, S1, S2, S3, S4⟩
  iframe H0 H1 H2 H3 H4 H5 H6 H7 H8 H9 H10 H11 H12 H13 H14
  isplitr [S0 S1 S2 S3 S4]
  · isplitl [H15]; · iapply (put (covA_gx m c t h0)); iexact H15
    isplitl [H16]; · iapply (put (covA_dwin m c t h0)); iexact H16
    isplitl [H17]; · iapply (put (covA_dwout m c t h0)); iexact H17
    isplitl [H18]; · iapply (put (covA_dmod m c t h0)); iexact H18
    isplitl [H19]; · iapply (put (covA_dg1 m c t h0)); iexact H19
    isplitl [H20]; · iapply (put (covA_dg2 m c t h0)); iexact H20
    isplitl [H21]; · iapply (put (covA_dsgn m c t h0)); iexact H21
    isplitl [H22]; · iapply (put (covA_dws m c t h0)); iexact H22
    isplitl [H23]; · iapply (put (covA_dbst m c t h0)); iexact H23
    isplitl [H24]; · iapply (put (covA_dwp m c t h0)); iexact H24
    iapply (put (covA_dps m c t h0)); iexact H25
  isplitl [S1]; · iapply (put (covA_win m c t h0)); iexact S1
  isplitl [S0]; · iapply put_any; iexact S0
  isplitl [S2]; · iapply put_any; iexact S2
  isplitl [S3]; · iapply put_any; iexact S3
  iapply put_any; iexact S4

set_option maxHeartbeats 8000000 in
/-- A later point's body. -/
theorem stepB (c : Dev nD) (t : Fin cfg0.N) (h0 : ¬t.val % 16 = 0) (p : Left F) :
    iprop(ins m c t ∗ (∃ d, has c (ms0_15 t) d) ∗ runSums c t p ∗ carried c p)
      ⊢ wp frame (wpE (defs₀ (F := F)) Variants.none c none) Set.univ (bodyAt0 t)
          (fun _ => iprop(ins m c t ∗ results c t (leftB m c t h0 p) ∗ carried c (leftB m c t h0 p))) := by
  unfold ins runSums carried spare results leftB bodyAt0
  dsimp only
  iintro ⟨⟨H0, H1, H2, H3, H4, H5, H6, H7, H8, H9, H10, H11, H12, H13, H14⟩, H15, ⟨H16, H17, H18, H19, H20, H21, H22, H23, H24, H25⟩, S1, S0, S2, S3, S4⟩
  iapply ((runB m c t h0 p).2.2.2.2.2.2.2.2.2.2.2.2.2.2.2.2 Set.univ _)
  iframe
  iintro ⟨H0, H1, H2, H3, H4, H5, H6, H7, H8, H9, H10, H11, H12, H13, H14, H15, H16, H17, H18, H19, H20, H21, H22, H23, H24, H25, S0, S1, S2, S3, S4⟩
  iframe H0 H1 H2 H3 H4 H5 H6 H7 H8 H9 H10 H11 H12 H13 H14
  isplitr [S0 S1 S2 S3 S4]
  · isplitl [H15]; · iapply (put (covB_gx m c t h0 p)); iexact H15
    isplitl [H16]; · iapply (put (covB_dwin m c t h0 p)); iexact H16
    isplitl [H17]; · iapply (put (covB_dwout m c t h0 p)); iexact H17
    isplitl [H18]; · iapply (put (covB_dmod m c t h0 p)); iexact H18
    isplitl [H19]; · iapply (put (covB_dg1 m c t h0 p)); iexact H19
    isplitl [H20]; · iapply (put (covB_dg2 m c t h0 p)); iexact H20
    isplitl [H21]; · iapply (put (covB_dsgn m c t h0 p)); iexact H21
    isplitl [H22]; · iapply (put (covB_dws m c t h0 p)); iexact H22
    isplitl [H23]; · iapply (put (covB_dbst m c t h0 p)); iexact H23
    isplitl [H24]; · iapply (put (covB_dwp m c t h0 p)); iexact H24
    iapply (put (covB_dps m c t h0 p)); iexact H25
  isplitl [S1]; · iapply (put (covB_win m c t h0 p)); iexact S1
  isplitl [S0]; · iapply put_any; iexact S0
  isplitl [S2]; · iapply put_any; iexact S2
  isplitl [S3]; · iapply put_any; iexact S3
  iapply put_any; iexact S4

end Cert.MixIdeal.Own

end
-- ==== Proof.MixRun.lean ====
/-
  The run of the whole program and its frame: the library's pipeline argument over one point's step.
-/
module

public import proofs.«01_k».proof.Proof.MixStep
public import Idealize.ShloMosaic.Lib.Claim

@[expose] public section

set_option maxRecDepth 16384

noncomputable section

namespace Cert.MixIdeal.Own

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What is held between points: the launch's scratch before the first, then what the last point carried; and the generator
    register. -/
def between (c : Dev nD) : (n : ℕ) → n ≤ cfg0.N → sProp 𝕄
  | 0, _ => Pipeline.ΦA spec0 c
  | n + 1, hn => iprop(carried c (left m c n hn) ∗ (∃ r, prngReg c r))

theorem between_pos (c : Dev nD) (n : ℕ) (h : n ≤ cfg0.N) (hz : n ≠ 0) :
    between m c n h = iprop(carried c (left m c (n - 1) (by omega)) ∗ (∃ r, prngReg c r)) := by
  cases n with
  | zero => exact absurd rfl hz
  | succ n => rfl

/-- The pipeline's contents: the arrays as the region finds them, each input's buffer at its block, each result's buffer at
    what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (left m c t.val t.isLt).gx
    | ⟨16, _⟩ => (left m c t.val t.isLt).dwin
    | ⟨17, _⟩ => (left m c t.val t.isLt).dwout
    | ⟨18, _⟩ => (left m c t.val t.isLt).dmod
    | ⟨19, _⟩ => (left m c t.val t.isLt).dg1
    | ⟨20, _⟩ => (left m c t.val t.isLt).dg2
    | ⟨21, _⟩ => (left m c t.val t.isLt).dsgn
    | ⟨22, _⟩ => (left m c t.val t.isLt).dws
    | ⟨23, _⟩ => (left m c t.val t.isLt).dbst
    | ⟨24, _⟩ => (left m c t.val t.isLt).dwp
    | ⟨25, _⟩ => (left m c t.val t.isLt).dps
    | ⟨_ + 26, h⟩ => absurd h (Nat.not_lt.2 (Nat.le_add_left _ _))
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

/-- A running sum's buffer is written back only at the last point, so a later point finds in it what the point before left. -/
theorem kept (c : Dev nD) (t : Fin cfg0.N) (h0 : ¬t.val % 16 = 0) (w : Fin cfg0.W) (hw : (cfg0.win w).isOut = true)
    (hf : ∀ s : Fin cfg0.N, (cfg0.win w).flush s = true → s.val % 16 = 15) (hlive : ∀ i, cfg0.idle w i = false)
    (hclip : ∀ (i : cfg0.grid.Coords) a, (cfg0.win w).clip i a = none) (d) :
    (dats m 0 c).before w t d = (dats m 0 c).after w ⟨t.val - 1, Nat.lt_of_le_of_lt (Nat.sub_le _ _) t.isLt⟩ := by
  have hN : t.val < 16 := lt_of_lt_of_eq t.isLt N_0
  exact Dat.before_out_kept _ w hw t (by omega)
    (Bool.eq_false_iff.mpr fun h => by have := hf _ h; dsimp only at this; omega) hlive hclip d

section
variable (c : Dev nD) (t : Fin cfg0.N) (h0 : ¬t.val % 16 = 0)
include h0
theorem kept_16 (d) : (dats m 0 c).before 16 t d = (prev m c t).dwin :=
  (kept m c t h0 16 rfl (fun s => (flush0_16 s).mp) (fun _ => rfl) (fun _ _ => rfl) d).trans (by dsimp only [dats])
theorem kept_17 (d) : (dats m 0 c).before 17 t d = (prev m c t).dwout :=
  (kept m c t h0 17 rfl (fun s => (flush0_17 s).mp) (fun _ => rfl) (fun _ _ => rfl) d).trans (by dsimp only [dats])
theorem kept_18 (d) : (dats m 0 c).before 18 t d = (prev m c t).dmod :=
  (kept m c t h0 18 rfl (fun s => (flush0_18 s).mp) (fun _ => rfl) (fun _ _ => rfl) d).trans (by dsimp only [dats])
theorem kept_19 (d) : (dats m 0 c).before 19 t d = (prev m c t).dg1 :=
  (kept m c t h0 19 rfl (fun s => (flush0_19 s).mp) (fun _ => rfl) (fun _ _ => rfl) d).trans (by dsimp only [dats])
theorem kept_20 (d) : (dats m 0 c).before 20 t d = (prev m c t).dg2 :=
  (kept m c t h0 20 rfl (fun s => (flush0_20 s).mp) (fun _ => rfl) (fun _ _ => rfl) d).trans (by dsimp only [dats])
theorem kept_21 (d) : (dats m 0 c).before 21 t d = (prev m c t).dsgn :=
  (kept m c t h0 21 rfl (fun s => (flush0_21 s).mp) (fun _ => rfl) (fun _ _ => rfl) d).trans (by dsimp only [dats])
theorem kept_22 (d) : (dats m 0 c).before 22 t d = (prev m c t).dws :=
  (kept m c t h0 22 rfl (fun s => (flush0_22 s).mp) (fun _ => rfl) (fun _ _ => rfl) d).trans (by dsimp only [dats])
theorem kept_23 (d) : (dats m 0 c).before 23 t d = (prev m c t).dbst :=
  (kept m c t h0 23 rfl (fun s => (flush0_23 s).mp) (fun _ => rfl) (fun _ _ => rfl) d).trans (by dsimp only [dats])
theorem kept_24 (d) : (dats m 0 c).before 24 t d = (prev m c t).dwp :=
  (kept m c t h0 24 rfl (fun s => (flush0_24 s).mp) (fun _ => rfl) (fun _ _ => rfl) d).trans (by dsimp only [dats])
theorem kept_25 (d) : (dats m 0 c).before 25 t d = (prev m c t).dps :=
  (kept m c t h0 25 rfl (fun s => (flush0_25 s).mp) (fun _ => rfl) (fun _ _ => rfl) d).trans (by dsimp only [dats])
end

/-- What a point's body is given, buffer by buffer. -/
def given (c : Dev nD) (t : Fin cfg0.N) : sProp 𝕄 :=
  iprop((dats m 0 c).Φ t.castSucc ∗ (dats m 0 c).owesAt () t.castSucc
    ∗ (∃ d, has c (ms0_0 t) ((dats m 0 c).before 0 t d))
    ∗ (∃ d, has c (ms0_1 t) ((dats m 0 c).before 1 t d))
    ∗ (∃ d, has c (ms0_2 t) ((dats m 0 c).before 2 t d))
    ∗ (∃ d, has c (ms0_3 t) ((dats m 0 c).before 3 t d))
    ∗ (∃ d, has c (ms0_4 t) ((dats m 0 c).before 4 t d))
    ∗ (∃ d, has c (ms0_5 t) ((dats m 0 c).before 5 t d))
    ∗ (∃ d, has c (ms0_6 t) ((dats m 0 c).before 6 t d))
    ∗ (∃ d, has c (ms0_7 t) ((dats m 0 c).before 7 t d))
    ∗ (∃ d, has c (ms0_8 t) ((dats m 0 c).before 8 t d))
    ∗ (∃ d, has c (ms0_9 t) ((dats m 0 c).before 9 t d))
    ∗ (∃ d, has c (ms0_10 t) ((dats m 0 c).before 10 t d))
    ∗ (∃ d, has c (ms0_11 t) ((dats m 0 c).before 11 t d))
    ∗ (∃ d, has c (ms0_12 t) ((dats m 0 c).before 12 t d))
    ∗ (∃ d, has c (ms0_13 t) ((dats m 0 c).before 13 t d))
    ∗ (∃ d, has c (ms0_14 t) ((dats m 0 c).before 14 t d))
    ∗ (∃ d, has c (ms0_15 t) ((dats m 0 c).before 15 t d))
    ∗ (∃ d, has c (ms0_16 t) ((dats m 0 c).before 16 t d))
    ∗ (∃ d, has c (ms0_17 t) ((dats m 0 c).before 17 t d))
    ∗ (∃ d, has c (ms0_18 t) ((dats m 0 c).before 18 t d))
    ∗ (∃ d, has c (ms0_19 t) ((dats m 0 c).before 19 t d))
    ∗ (∃ d, has c (ms0_20 t) ((dats m 0 c).before 20 t d))
    ∗ (∃ d, has c (ms0_21 t) ((dats m 0 c).before 21 t d))
    ∗ (∃ d, has c (ms0_22 t) ((dats m 0 c).before 22 t d))
    ∗ (∃ d, has c (ms0_23 t) ((dats m 0 c).before 23 t d))
    ∗ (∃ d, has c (ms0_24 t) ((dats m 0 c).before 24 t d))
    ∗ (∃ d, has c (ms0_25 t) ((dats m 0 c).before 25 t d)))

/-- What it gives back. -/
def handed (c : Dev nD) (t : Fin cfg0.N) : sProp 𝕄 :=
  iprop((dats m 0 c).Φ t.succ ∗ (dats m 0 c).owesAt () t.succ
    ∗ has c (ms0_0 t) ((dats m 0 c).after 0 t)
    ∗ has c (ms0_1 t) ((dats m 0 c).after 1 t)
    ∗ has c (ms0_2 t) ((dats m 0 c).after 2 t)
    ∗ has c (ms0_3 t) ((dats m 0 c).after 3 t)
    ∗ has c (ms0_4 t) ((dats m 0 c).after 4 t)
    ∗ has c (ms0_5 t) ((dats m 0 c).after 5 t)
    ∗ has c (ms0_6 t) ((dats m 0 c).after 6 t)
    ∗ has c (ms0_7 t) ((dats m 0 c).after 7 t)
    ∗ has c (ms0_8 t) ((dats m 0 c).after 8 t)
    ∗ has c (ms0_9 t) ((dats m 0 c).after 9 t)
    ∗ has c (ms0_10 t) ((dats m 0 c).after 10 t)
    ∗ has c (ms0_11 t) ((dats m 0 c).after 11 t)
    ∗ has c (ms0_12 t) ((dats m 0 c).after 12 t)
    ∗ has c (ms0_13 t) ((dats m 0 c).after 13 t)
    ∗ has c (ms0_14 t) ((dats m 0 c).after 14 t)
    ∗ has c (ms0_15 t) ((dats m 0 c).after 15 t)
    ∗ has c (ms0_16 t) ((dats m 0 c).after 16 t)
    ∗ has c (ms0_17 t) ((dats m 0 c).after 17 t)
    ∗ has c (ms0_18 t) ((dats m 0 c).after 18 t)
    ∗ has c (ms0_19 t) ((dats m 0 c).after 19 t)
    ∗ has c (ms0_20 t) ((dats m 0 c).after 20 t)
    ∗ has c (ms0_21 t) ((dats m 0 c).after 21 t)
    ∗ has c (ms0_22 t) ((dats m 0 c).after 22 t)
    ∗ has c (ms0_23 t) ((dats m 0 c).after 23 t)
    ∗ has c (ms0_24 t) ((dats m 0 c).after 24 t)
    ∗ has c (ms0_25 t) ((dats m 0 c).after 25 t))

/-- A step's results are what a point gives back. -/
theorem gives_back (c : Dev nD) (t : Fin cfg0.N) :
    iprop((ins m c t ∗ results c t (left m c t.val t.isLt) ∗ carried c (left m c t.val t.isLt))
      ∗ (dats m 0 c).owesAt () t.castSucc ∗ (∃ r, prngReg c r)) ⊢ (handed m c t : sProp 𝕄) := by
  unfold handed
  rw [show (dats m 0 c).owesAt () t.succ = (dats m 0 c).owesAt () t.castSucc from rfl,
    show (dats m 0 c).Φ t.succ = iprop(carried c (left m c t.val t.isLt) ∗ (∃ r, prngReg c r)) from rfl]
  dsimp only [dats]
  unfold ins results
  iintro ⟨⟨⟨H0, H1, H2, H3, H4, H5, H6, H7, H8, H9, H10, H11, H12, H13, H14⟩, ⟨H15, H16, H17, H18, H19, H20, H21, H22, H23, H24, H25⟩, S⟩, Ho, Hg⟩
  iframe

set_option maxHeartbeats 8000000 in
/-- A grid point takes what it is given to what it gives back. -/
theorem sound (c : Dev nD) (t : Fin cfg0.N) :
    given m c t ⊢ wp frame (wpE (defs₀ (F := F)) Variants.none c none) Set.univ (bodyAt0 t) (fun _ => handed m c t) := by
  have hN : t.val < 16 := lt_of_lt_of_eq t.isLt N_0
  unfold given
  simp only [before0_0_of m (dats m 0 c) (A_eq m c 0) (fun _ => by dsimp only [dats]),
    before0_1_of m (dats m 0 c) (A_eq m c 1) (fun _ => by dsimp only [dats]),
    before0_2_of m (dats m 0 c) (A_eq m c 2) (fun _ => by dsimp only [dats]),
    before0_3_of m (dats m 0 c) (A_eq m c 3) (fun _ => by dsimp only [dats]),
    before0_4_of m (dats m 0 c) (A_eq m c 4) (fun _ => by dsimp only [dats]),
    before0_5_of m (dats m 0 c) (A_eq m c 5) (fun _ => by dsimp only [dats]),
    before0_6_of m (dats m 0 c) (A_eq m c 6) (fun _ => by dsimp only [dats]),
    before0_7_of m (dats m 0 c) (A_eq m c 7) (fun _ => by dsimp only [dats]),
    before0_8_of m (dats m 0 c) (A_eq m c 8) (fun _ => by dsimp only [dats]),
    before0_9_of m (dats m 0 c) (A_eq m c 9) (fun _ => by dsimp only [dats]),
    before0_10_of m (dats m 0 c) (A_eq m c 10) (fun _ => by dsimp only [dats]),
    before0_11_of m (dats m 0 c) (A_eq m c 11) (fun _ => by dsimp only [dats]),
    before0_12_of m (dats m 0 c) (A_eq m c 12) (fun _ => by dsimp only [dats]),
    before0_13_of m (dats m 0 c) (A_eq m c 13) (fun _ => by dsimp only [dats]),
    before0_14_of m (dats m 0 c) (A_eq m c 14) (fun _ => by dsimp only [dats])]
  rw [show (dats m 0 c).Φ t.castSucc = between m c t.val (Nat.le_of_lt t.isLt) by
    dsimp only [dats]; exact Pipeline.Dat.Φ_castSucc (between m c) t]
  by_cases h0 : t.val % 16 = 0
  · have hz : t.val = 0 := by omega
    have hb : between m c t.val (Nat.le_of_lt t.isLt) = Pipeline.ΦA spec0 c := by
      generalize_proofs hp
      revert hp
      rw [hz]
      exact fun _ => rfl
    have hw := stepA m c t h0
    rw [← left_A m c t h0] at hw
    rw [hb, PhiA0_eq]
    iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply (wp_mono _ _ _ fun _ => gives_back m c t)
    iapply (wp_frame_r _ _ _)
    isplitr [Ho Hg]
    swap; · iframe
    iapply hw
    unfold ins sums_any carried_any spare
    iframe
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact H25
  · have hz : t.val ≠ 0 := fun h => h0 (by rw [h])
    have hw := stepB m c t h0 (prev m c t)
    rw [← left_B m c t h0] at hw
    rw [between_pos m c _ _ hz]
    simp only [kept_16 m c t h0, kept_17 m c t h0, kept_18 m c t h0, kept_19 m c t h0, kept_20 m c t h0, kept_21 m c t h0, kept_22 m c t h0, kept_23 m c t h0, kept_24 m c t h0, kept_25 m c t h0]
    iintro ⟨⟨S, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply (wp_mono _ _ _ fun _ => gives_back m c t)
    iapply (wp_frame_r _ _ _)
    isplitr [Ho Hg]
    swap; · iframe
    iapply hw
    unfold ins runSums
    iframe
    iexists _; iexact H15

/-- The library's body obligation. -/
theorem body (c : Dev nD) : BodyObligation (dats (F := F) m 0 c) (defs₀ (F := F)) Variants.none () Set.univ := fun t => by
  rw [bigSep_W0, bigSep_W0,
    show defs₀ (F := F) .tc cfg0.body (cfg0.bodyArgs t (cfg0.slots t)) = bodyAt0 t by unfold defs₀; rw [Defs.onTc_tc]]
  exact triple_restated (sound m c t) rfl .rfl fun _ => .rfl

theorem enter (c : Dev nD) : Pipeline.ΦA spec0 c ⊢ (dats m 0 c).Φ 0 := .rfl

theorem leave (c : Dev nD) : (dats m 0 c).Φ (Fin.last cfg0.N) ⊢ Pipeline.ΦA spec0 c := by
  rw [show (dats m 0 c).Φ (Fin.last cfg0.N) = between m c cfg0.N le_rfl from rfl,
    between_pos m c _ _ (by rw [show cfg0.N = 16 from N_0]; decide), PhiA0_eq]
  unfold carried
  unfold spare
  iintro ⟨⟨S1, S0, S2, S3, S4⟩, Hg⟩
  iframe
  iexists _; iexact S1

set_option backward.isDefEq.respectTransparency.types false in
/-- The run: every array of the pipeline ends at what the contents above compute, every other buffer as the region found it,
    and every counter at zero. -/
theorem run : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body m c).loose) (hq := fun _ _ _ => rfl) (howed := fun _ _ => rfl) (V := V m)
    (hmain := hmain m Variants.none) (hA := A_eq m) (hin := enter m) (hout := leave m)

/-- The arguments' arrays end as they began. -/
def Kept (c : Dev nD) (r : PUnit × MemSt nD τ sig (Elt F)) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)

/-- The frame. -/
theorem frame : θ_run defs (onTc (τ := τ) (main (F := F))) ⟨m, fun _ => 0, ρ⟩
    (fun r => (∀ c : Dev nD, Kept m c r) ∧ r.2.sem = fun _ => 0) :=
  θ_run_and (frame_of m ρ (dats m) (A_eq m) ((θ_run defs _ _).mono (fun _ h => h.1) (run m ρ)))
    ((θ_run defs _ _).mono (fun _ h => h.2) (run m ρ))

end Cert.MixIdeal.Own

end
-- ==== Proof.MixFrame.lean ====
/-
  The frames of the mixing half's programs. `Mix` and `MixIdeal` differ in one constant, which `MixIdeal` names: its run,
  proved at any float values and any reading of names, is `Mix`'s where a name reads as its own word.
-/
module

public import proofs.«01_k».proof.Defs
public import proofs.«01_k».proof.Proof.MixRun
public import proofs.«01_k».proof.Proof.Gen.Mix
public import proofs.«01_k».proof.Proof.Gen.MixReferenceIdeal
public import proofs.«01_k».proof.Proof.Gen.MixReferenceIdeal.Run
public import Idealize.ShloMosaic.Lib.Tactic
public import Idealize.ShloMosaic.Lib.Claim

@[expose] public section

noncomputable section

namespace Cert.MixPair

open Idealize.ShloMosaic Idealize.ShloMosaic.TcCoe Idealize.SL.Sem

instance facts : Cert.Pre_mix_finite.Facts := by constructor <;> decide

/-- A named constant read as the word it was printed from. -/
@[reducible] def ownWord : Named Bits := ⟨fun _ _ _ bits => FloatOps.ofBits _ bits⟩

theorem run_eq (m : (ℓ : Loc Cert.Mix.nD Cert.Mix.τ Cert.Mix.sig) → Buf (Elt Bits) ℓ) (g : Dev Cert.Mix.nD → PrngReg)
    (Q : PUnit × MemSt Cert.Mix.nD Cert.Mix.τ Cert.Mix.sig (Elt Bits) → Prop) :
    (θ_run (Cert.Mix.defs (F := Bits)) (onTc (τ := Cert.Mix.τ) (Cert.Mix.main (F := Bits))) ⟨m, fun _ => 0, g⟩ Q)
      = (letI := ownWord; (θ_run (Cert.MixIdeal.defs (F := Bits)) (onTc (τ := Cert.MixIdeal.τ) (Cert.MixIdeal.main (F := Bits))) ⟨m, fun _ => 0, g⟩ Q)) := by
  sl_kernel_rfl

theorem frame_p : Cert.quiescent_Mix := fun m ρ _ =>
  (run_eq m ρ _).mpr (letI := ownWord; Cert.MixIdeal.Own.frame m ρ)

theorem frame_pi : Cert.quiescent_MixIdeal := fun m ρ _ => Cert.MixIdeal.Own.frame m ρ

theorem frame_pi_pre : Cert.quiescent_MixIdeal_pre_mix_finite := fun m ρ _ => frame_pi m ρ trivial

theorem frame_ri : Cert.quiescent_MixReferenceIdeal := fun m ρ _ =>
  (θ_run Cert.MixReferenceIdeal.defs _ _).mono (fun r h => ⟨fun c => (h c).2.2.2.2.2.2.2.2.2.2.2, sem_eq_zero_of_no_sems (by decide) r.2⟩)
    (Cert.MixReferenceIdeal.Value.run (F := Ideal) m ρ)

theorem frame_ri_pre : Cert.quiescent_MixReferenceIdeal_pre_mix_finite := fun m ρ _ => frame_ri m ρ trivial

theorem preserves : Cert.preserves_Mix_MixIdeal :=
  IdealRules.named_const.statement _ _ _ _ _ rfl

end Cert.MixPair

end
-- ==== Proof.MixVoc.lean ====
/-
  The arithmetic of one grid point of the mixing half's kernel, named: rows normalised and their gradient, one head of
  the spatial gate, one group of the pooling, and the sums over a tile's rows.

  A tile is 512 rows, four blocks of 128. A head or a group is 128 columns; of the 1536 projected columns 512 gate, 512 are
  gated, and 512 are pooled.
-/
module

public import proofs.«01_k».proof.Proof.MixLeft

@[expose] public section

set_option maxRecDepth 16384

noncomputable section

namespace Cert.MixIdeal.Own

open Cert.MixIdeal Cert.MixIdeal.Gen
open Idealize.ShloMosaic Idealize.ShloMosaic.TcCoe Idealize.ShloMosaic.Tactic

variable {F : FTy → Type} [FloatOps F] [Named F]

/-- The tiles: rows by features, one row of features, rows by a head's columns, a block, one row of a head's columns. -/
abbrev Rows (F : FTy → Type) [FloatOps F] := FVec F S512x1024 .f32
abbrev Row (F : FTy → Type) [FloatOps F] := FVec F S1x1024 .f32
abbrev Head (F : FTy → Type) [FloatOps F] := FVec F S512x128 .f32
abbrev Block (F : FTy → Type) [FloatOps F] := FVec F S128x128 .f32
abbrev Line (F : FTy → Type) [FloatOps F] := FVec F S1x128 .f32
abbrev Tall (F : FTy → Type) [FloatOps F] := FVec F S528x128 .f32

/-- Each row's mean, over all features and over a head's columns. -/
def rowMean (v : Rows F) : FVec F S512x1 .f32 :=
  divf (shapeCast S512x1 (multiReduction .add [1] S512 v 0x00000000#32 reduces_S512x1024_S512 (.inl rfl) rfl) shapeCasts_S512_S512x1)
    (broadcast S512x1 (Scalar.ofBits .f32 0x44800000#32))
def headMean (v : Head F) : FVec F S512x1 .f32 :=
  divf (shapeCast S512x1 (multiReduction .add [1] S512 v 0x00000000#32 reduces_S512x128_S512 (.inl rfl) rfl) shapeCasts_S512_S512x1)
    (broadcast S512x1 (Scalar.ofBits .f32 0x43000000#32))

/-- One over each row's root mean square. -/
def rowScale (v : Rows F) : FVec F S512x1 .f32 :=
  rsqrt (addf (rowMean (mulf v v)) (broadcast S512x1 (Scalar.ofBits .f32 0x358637BD#32)))
def headScale (v : Head F) : FVec F S512x1 .f32 :=
  rsqrt (addf (headMean (mulf v v)) (broadcast S512x1 (Scalar.ofBits .f32 0x358637BD#32)))

/-- A column over all features or a head's columns, a row over all the tile's rows. -/
abbrev wide (v : FVec F S512x1 .f32) : Rows F := broadcastTo S512x1024 v broadcasts_S512x1_S512x1024
abbrev wideH (v : FVec F S512x1 .f32) : Head F := broadcastTo S512x128 v broadcasts_S512x1_S512x128
abbrev tall (v : Row F) : Rows F := broadcastTo S512x1024 v broadcasts_S1x1024_S512x1024
abbrev tallH (v : Line F) : Head F := broadcastTo S512x128 v broadcasts_S1x128_S512x128

/-- Each row over its root mean square. -/
def normed (v : Rows F) : Rows F := mulf v (wide (rowScale v))
def normedH (v : Head F) : Head F := mulf v (wideH (headScale v))

/-- The gradient through that, of a cotangent `u`. -/
def normBack (v u : Rows F) : Rows F :=
  mulf (wide (rowScale v)) (subf u (mulf (normed v) (wide (rowMean (mulf u (normed v))))))
def normBackH (v u : Head F) : Head F :=
  mulf (wideH (headScale v)) (subf u (mulf (normedH v) (wideH (headMean (mulf u (normedH v))))))

/-- The sum over a tile's rows, per feature and per column of a head. -/
def overRows (v : Rows F) : Row F :=
  shapeCast S1x1024 (multiReduction .add [0] S1024 v 0x00000000#32 reduces_S512x1024_S1024 (.inl rfl) rfl) shapeCasts_S1024_S1x1024
def overRowsH (v : Head F) : Line F :=
  shapeCast S1x128 (multiReduction .add [0] S128 v 0x00000000#32 reduces_S512x128_S128 (.inl rfl) rfl) shapeCasts_S128_S1x128

/-- The sum of a block over its columns. -/
def overCols (v : Block F) : FVec F S128x1 .f32 :=
  shapeCast S128x1 (multiReduction .add [1] S128 v 0x00000000#32 reduces_S128x128_S128 (.inl rfl) rfl) shapeCasts_S128_S128x1

/-- One plus a row. -/
def onePlus (v : Row F) : Row F := addf (broadcast S1x1024 (Scalar.ofBits .f32 0x3F800000#32)) v

/-- The gelu's tangent, its factor, its value and its slope. -/
def geluTanh (x : Head F) : Head F :=
  tanh (mulf (broadcast S512x128 (Scalar.ofBits .f32 0x3F4C422A#32))
    (addf x (mulf (broadcast S512x128 (Scalar.ofBits .f32 0x3D372713#32)) (mulf x (mulf x x)))))
def geluCdf (x : Head F) : Head F :=
  addf (mulf (broadcast S512x128 (Scalar.ofBits .f32 0x3F000000#32)) (geluTanh x)) (broadcast S512x128 (Scalar.ofBits .f32 0x3F000000#32))
def gelu (x : Head F) : Head F := mulf x (geluCdf x)
def geluSlope (x : Head F) : Head F :=
  addf (geluCdf x) (mulf (mulf x (subf (broadcast S512x128 (Scalar.ofBits .f32 0x3F800000#32)) (mulf (geluTanh x) (geluTanh x))))
    (addf (broadcast S512x128 (Scalar.ofBits .f32 0x3ECC422A#32))
      (mulf (broadcast S512x128 (Named.named κ "gelu_slope" 0x3D5B33B6#32)) (mulf x x))))

/-- Which chunk of 64 a position lies in. -/
def chunkOf (v : IVec S128x128 32) : IVec S128x128 32 :=
  select (andi
      (cmpi .ne (subi (extui 32 (cmpi .sgt v (broadcast S128x128 0#32)) natLt_1_32) (extui 32 (cmpi .slt v (broadcast S128x128 0#32)) natLt_1_32))
        (broadcast S128x128 (Scalar.subi (Scalar.extui (Scalar.cmpi .sgt 64#32 0#32)) (Scalar.extui (Scalar.cmpi .slt 64#32 0#32)))))
      (cmpi .ne (remsi v (broadcast S128x128 64#32)) (broadcast S128x128 0#32)))
    (subi (divsi v (broadcast S128x128 64#32)) (broadcast S128x128 1#32)) (divsi v (broadcast S128x128 64#32))

/-- Whether a column's chunk does not come after a row's. -/
def mask : IVec S128x128 1 :=
  cmpi .sle (chunkOf (iota .tc S128x128 32 [1] iota_S128x128_d1_w32)) (chunkOf (iota .tc S128x128 32 [0] iota_S128x128_d0_w32))

/-- A block under that mask. -/
abbrev masked (v : Block F) : Block F := select mask v (broadcast S128x128 (Scalar.ofBits .f32 0x00000000#32))

/-- Block `b` of a tile lies inside it. -/
theorem inT (b : Fin 4) : S512x128.Slices ![b.val * 128, 0] S128x128 := by revert b; decide

/-- Block `b` of a tile. -/
abbrev blk {φ : FTy} (v : FVec F S512x128 φ) (b : Fin 4) : FVec F S128x128 φ := extractStridedSlice S128x128 ![b.val * 128, 0] v (inT b)

/-- The products of blocks: `A B`, `A Bᵀ`, `Aᵀ B`. -/
abbrev mulNN (a b : FVec F S128x128 .bf16) : Block F := matmul dot_S128x128_S128x128_S128x128_1_0_0_1_n_n none a b (constant S128x128 .f32 0x00000000#32)
abbrev mulNT (a b : FVec F S128x128 .bf16) : Block F := matmul dot_S128x128_S128x128_S128x128_1_1_0_0_n_n none a b (constant S128x128 .f32 0x00000000#32)
abbrev mulTN (a b : FVec F S128x128 .bf16) : Block F := matmul dot_S128x128_S128x128_S128x128_0_0_1_1_n_n none a b (constant S128x128 .f32 0x00000000#32)

/-- Sums of rows and the rows before (after) them, in steps that double. -/
def sums (ks : List (BitVec 32)) (v : Tall F) : Tall F :=
  match ks with
  | [] => v
  | k :: ks => sums ks (addf v (dynamicRotate 0 k none v rotates_S528x128_d0))
/-- The steps of group `g`, backwards and forwards. -/
def backSteps : Fin 4 → List (BitVec 32) := ![[1#32], [1#32, 2#32], [1#32, 2#32, 4#32], [1#32, 2#32, 4#32, 8#32]]
def foreSteps : Fin 4 → List (BitVec 32) := ![[527#32], [527#32, 526#32], [527#32, 526#32, 524#32], [527#32, 526#32, 524#32, 520#32]]

/-- The window of group `g`. -/
def widthW : Fin 4 → BitVec 32 := ![2#32, 4#32, 8#32, 16#32]

/-- What a point loads from its inputs. -/
structure Loads (F : FTy → Type) [FloatOps F] where
  x : Rows F
  e : Rows F
  mx : Rows F
  sh : Row F
  sc : Row F
  gm : Row F
  g1 : Row F
  g2 : Row F
  win : FVec F S1536x1024 .bf16
  wout : FVec F S1024x1024 .bf16
  u : Fin 4 → Head F
  v : Fin 4 → Head F
  p : FVec F S512x512 .f32
  halo : FVec F S16x512 .f32
  sgn : Fin 4 → Line F
  ws : Fin 4 → FVec F S1x128x128 .f32
  bs : Fin 4 → FVec F S128x1 .f32
  wp : Fin 4 → FVec F S1x128x128 .f32
  ps : Fin 4 → Line F
  /-- the tile's number -/
  r : BitVec 32

/-- What it loads from buffers it has filled: a block and a group of the cotangent of the mixed columns, a group's columns
with the rows before them, and the same group's spread cotangent with the rows after them. -/
structure Mid (F : FTy → Type) [FloatOps F] where
  da : Fin 4 → Fin 4 → Block F
  dob : Fin 4 → Head F
  ext : Fin 4 → Tall F

namespace Loads

variable (I : Loads F) (M : Mid F)

abbrev mm : Rows F := shapeCast S512x1024 I.mx shapeCasts_S512x1024_S512x1024
abbrev shr : Row F := shapeCast S1x1024 I.sh shapeCasts_S1x1024_S1x1024
abbrev scr : Row F := shapeCast S1x1024 I.sc shapeCasts_S1x1024_S1x1024
abbrev gmr : Row F := shapeCast S1x1024 I.gm shapeCasts_S1x1024_S1x1024

/-- The cotangent of the normed mixture, before and after its gain. -/
def dr : Rows F := mulf I.e (tall I.gmr)
def dmh : Rows F := mulf I.dr (tall I.g2)
/-- The cotangent of the mixture. -/
def dm : FVec F S512x1024 .bf16 := truncf .bf16 (normBack I.mm I.dmh) bitsLt_bf16_f32
/-- The cotangent of the mixed columns. -/
def dcat : Rows F :=
  matmul dot_S512x1024_S1024x1024_S512x1024_1_1_0_0_n_n none I.dm (shapeCast S1024x1024 I.wout shapeCasts_S1024x1024_S1024x1024)
    (constant S512x1024 .f32 0x00000000#32)

/-! #### A head -/
abbrev uu (h : Fin 4) : Head F := shapeCast S512x128 (I.u h) shapeCasts_S512x128_S512x128
abbrev vv (h : Fin 4) : Head F := shapeCast S512x128 (I.v h) shapeCasts_S512x128_S512x128
/-- The gelus. -/
def ug (h : Fin 4) : Head F := gelu (I.uu h)
def vg (h : Fin 4) : Head F := gelu (I.vv h)
/-- The normed columns, with their gain. -/
def vn (h : Fin 4) : FVec F S512x128 .bf16 := truncf .bf16 (mulf (normedH (I.vg h)) (tallH (I.sgn h))) bitsLt_bf16_f32
/-- The masked weight. -/
def wm (h : Fin 4) : FVec F S128x128 .bf16 := truncf .bf16 (masked (shapeCast S128x128 (I.ws h) shapeCasts_S1x128x128_S128x128)) bitsLt_bf16_f32
/-- The gate of a block. -/
def z (h b : Fin 4) : Block F :=
  addf (mulNN (I.wm h) (blk (I.vn h) b)) (broadcastTo S128x128 (shapeCast S128x1 (I.bs h) shapeCasts_S128x1_S128x1) broadcasts_S128x1_S128x128)
/-- The gated block. -/
def gated (h b : Fin 4) : FVec F S128x128 .bf16 := truncf .bf16 (mulf (blk (I.ug h) b) (I.z h b)) bitsLt_bf16_f32
/-- The cotangent of the gate. -/
def dz (h b : Fin 4) : Block F := mulf (M.da h b) (blk (I.ug h) b)
def dzb (h b : Fin 4) : FVec F S128x128 .bf16 := truncf .bf16 (I.dz M h b) bitsLt_bf16_f32
def dzSum (h : Fin 4) : Block F :=
  addf (addf (addf (addf (broadcast S128x128 (Scalar.ofBits .f32 0x00000000#32)) (I.dz M h 0)) (I.dz M h 1)) (I.dz M h 2)) (I.dz M h 3)
/-- The cotangent of the weight, before its mask. -/
def dwm (h : Fin 4) : Block F :=
  addf (addf (addf (addf (broadcast S128x128 (Scalar.ofBits .f32 0x00000000#32)) (mulNT (I.dzb M h 0) (blk (I.vn h) 0)))
    (mulNT (I.dzb M h 1) (blk (I.vn h) 1))) (mulNT (I.dzb M h 2) (blk (I.vn h) 2))) (mulNT (I.dzb M h 3) (blk (I.vn h) 3))
/-- The cotangent of the normed columns. -/
def dvnB (h b : Fin 4) : Block F := mulTN (I.wm h) (I.dzb M h b)
def dvn (h : Fin 4) : Head F :=
  concatenate S512x128 0 [⟨S128x128, I.dvnB M h 0⟩, ⟨S128x128, I.dvnB M h 1⟩, ⟨S128x128, I.dvnB M h 2⟩, ⟨S128x128, I.dvnB M h 3⟩]
    concatenates_S128x128_S128x128_S128x128_S128x128_S512x128_d0
/-- The cotangents of the projected columns. -/
def du (h b : Fin 4) : FVec F S128x128 .bf16 :=
  truncf .bf16 (mulf (mulf (M.da h b) (I.z h b)) (blk (geluSlope (I.uu h)) b)) bitsLt_bf16_f32
def dv (h : Fin 4) : FVec F S512x128 .bf16 :=
  truncf .bf16 (mulf (normBackH (I.vg h) (mulf (I.dvn M h) (tallH (I.sgn h)))) (geluSlope (I.vv h))) bitsLt_bf16_f32
/-- The terms of the running sums. -/
def tsgn (h : Fin 4) : Line F := overRowsH (mulf (I.dvn M h) (normedH (I.vg h)))
def tws (h : Fin 4) : Block F := masked (I.dwm M h)
def tbs (h : Fin 4) : FVec F S128x1 .f32 := overCols (I.dzSum M h)

/-! #### A group -/
/-- One where a tile is not the first of the sequence, else zero. -/
def keep : F .f32 := Scalar.select (Scalar.cmpi .sgt I.r 0#32) (Scalar.ofBits .f32 0x3F800000#32) (Scalar.ofBits .f32 0x00000000#32)
/-- The rows before the tile. -/
def before : FVec F S16x512 .f32 := mulf (shapeCast S16x512 I.halo shapeCasts_S16x512_S16x512) (broadcast S16x512 I.keep)
/-- One over the number of rows in a row's window. -/
def inv (g : Fin 4) : FVec F S512x1 .f32 :=
  divf (broadcast S512x1 (Scalar.ofBits .f32 0x3F800000#32)) (sitofp .f32
    (minsi (addi (addi (broadcast S512x1 (Scalar.muli I.r 512#32)) (iota .tc S512x1 32 [0] iota_S512x1_d0_w32)) (broadcast S512x1 1#32))
      (broadcast S512x1 (widthW g))))
/-- The window's mean less the row. -/
def pooled (g : Fin 4) : FVec F S512x128 .bf16 :=
  truncf .bf16 (subf (mulf (extractStridedSlice S512x128 ![16, 0] (sums (backSteps g) (M.ext g)) slices_S528x128_o16_0_S512x128) (wideH (I.inv g)))
    (extractStridedSlice S512x128 ![16, 0] (M.ext g) slices_S528x128_o16_0_S512x128)) bitsLt_bf16_f32
def wpg (g : Fin 4) : FVec F S128x128 .bf16 := truncf .bf16 (shapeCast S128x128 (I.wp g) shapeCasts_S1x128x128_S128x128) bitsLt_bf16_f32
def y (g : Fin 4) : Head F := matmul dot_S512x128_S128x128_S512x128_1_0_0_1_n_n none (I.pooled M g) (I.wpg g) (constant S512x128 .f32 0x00000000#32)
def scaled (g : Fin 4) : FVec F S512x128 .bf16 := truncf .bf16 (mulf (I.y M g) (tallH (I.ps g))) bitsLt_bf16_f32
def dy (g : Fin 4) : FVec F S512x128 .bf16 := truncf .bf16 (mulf (M.dob g) (tallH (I.ps g))) bitsLt_bf16_f32
/-- The cotangent of the pooled columns, and over the count. -/
def dpooled (g : Fin 4) : Head F :=
  matmul dot_S512x128_S128x128_S512x128_1_1_0_0_n_n none (I.dy M g) (I.wpg g) (constant S512x128 .f32 0x00000000#32)
def spread (g : Fin 4) : Head F := mulf (I.dpooled M g) (wideH (I.inv g))
/-- The cotangent of the projected columns, from the spread cotangent with the rows after it. -/
def dp (w : Fin 4 → Tall F) (g : Fin 4) : FVec F S512x128 .bf16 :=
  truncf .bf16 (subf (extractStridedSlice S512x128 ![0, 0] (sums (foreSteps g) (w g)) slices_S528x128_o0_0_S512x128) (I.dpooled M g)) bitsLt_bf16_f32
/-- The terms of the running sums. -/
def tps (g : Fin 4) : Line F := overRowsH (mulf (M.dob g) (I.y M g))
def twp (g : Fin 4) : Block F :=
  matmul dot_S512x128_S512x128_S128x128_0_0_1_1_n_n none (I.pooled M g) (I.dy M g) (constant S128x128 .f32 0x00000000#32)

/-! #### The rows -/
def n1 : Rows F := mulf (normed I.x) (tall I.g1)
def h : FVec F S512x1024 .bf16 := truncf .bf16 (addf (mulf I.n1 (tall (onePlus I.scr))) (tall I.shr)) bitsLt_bf16_f32
/-- Given the cotangent `q` of the projected columns and the mixed columns `k`. -/
def twin (q : FVec F S512x1536 .bf16) : FVec F S1536x1024 .f32 :=
  matmul dot_S512x1536_S512x1024_S1536x1024_0_0_1_1_n_n none q I.h (constant S1536x1024 .f32 0x00000000#32)
def twout (k : FVec F S512x1024 .bf16) : FVec F S1024x1024 .f32 :=
  matmul dot_S512x1024_S512x1024_S1024x1024_0_0_1_1_n_n none k I.dm (constant S1024x1024 .f32 0x00000000#32)
def dh (q : FVec F S512x1536 .bf16) : Rows F :=
  matmul dot_S512x1536_S1536x1024_S512x1024_1_0_0_1_n_n none q (shapeCast S1536x1024 I.win shapeCasts_S1536x1024_S1536x1024)
    (constant S512x1024 .f32 0x00000000#32)
def dn1 (q : FVec F S512x1536 .bf16) : Rows F := mulf (I.dh q) (tall (onePlus I.scr))
def gx (q : FVec F S512x1536 .bf16) : Rows F := addf I.e (normBack I.x (mulf (I.dn1 q) (tall I.g1)))
def tmod (q : FVec F S512x1536 .bf16) : Fin 3 → Row F
  | 0 => overRows (I.dh q)
  | 1 => overRows (mulf (I.dh q) I.n1)
  | 2 => overRows (mulf I.e (mulf (normed I.mm) (tall I.g2)))
def tg1 (q : FVec F S512x1536 .bf16) : Row F := overRows (mulf (I.dn1 q) (normed I.x))
def tg2 : Row F := overRows (mulf I.dr (normed I.mm))

end Loads

/-- What a running sum becomes. -/
abbrev addRow (v t : Row F) : Row F := addf (shapeCast S1x1024 v shapeCasts_S1x1024_S1x1024) t
abbrev addLine (v t : Line F) : Line F := addf (shapeCast S1x128 v shapeCasts_S1x128_S1x128) t
abbrev addCol (v t : FVec F S128x1 .f32) : FVec F S128x1 .f32 := addf (shapeCast S128x1 v shapeCasts_S128x1_S128x1) t
abbrev addBlock (v : FVec F S1x128x128 .f32) (t : Block F) : FVec F S1x128x128 .f32 :=
  shapeCast S1x128x128 (addf (shapeCast S128x128 v shapeCasts_S1x128x128_S128x128) t) shapeCasts_S128x128_S1x128x128
abbrev addIn (v t : FVec F S1536x1024 .f32) : FVec F S1536x1024 .f32 := addf (shapeCast S1536x1024 v shapeCasts_S1536x1024_S1536x1024) t
abbrev addOut (v t : FVec F S1024x1024 .f32) : FVec F S1024x1024 .f32 := addf (shapeCast S1024x1024 v shapeCasts_S1024x1024_S1024x1024) t

end Cert.MixIdeal.Own

end
-- ==== Proof.MixBridge.lean ====
/-
  The stores of one grid point of the mixing half, as the arithmetic of MixVoc.lean over what the point loads.
-/
module

public import proofs.«01_k».proof.Proof.MixVoc

@[expose] public section

set_option maxRecDepth 16384

noncomputable section

namespace Cert.MixIdeal.Own

open Cert.MixIdeal Cert.MixIdeal.Gen
open Idealize.ShloMosaic Idealize.ShloMosaic.TcCoe Idealize.ShloMosaic.Tactic

variable {F : FTy → Type} [FloatOps F] [Named F]
variable (m : (ℓ : Loc nD τ sig) → Buf (Elt F) ℓ)

/-- A group of 128 columns, a block of 128 rows, a row, and a matrix of a stack lie inside their arrays. -/
theorem inbC {n k a : ℕ} (i : Fin k) : ∀ d, (![0, i.val * 128] : Fin 2 → ℕ) d + (![a, 128] : Fin 2 → ℕ) d ≤ (![a, k * 128] : Fin 2 → ℕ) d := by
  intro d; have := i.isLt; fin_cases d <;> simp <;> omega
theorem inbB {n k : ℕ} (b : Fin n) (i : Fin k) :
    ∀ d, (![b.val * 128, i.val * 128] : Fin 2 → ℕ) d + (![128, 128] : Fin 2 → ℕ) d ≤ (![n * 128, k * 128] : Fin 2 → ℕ) d := by
  intro d; have := i.isLt; have := b.isLt; fin_cases d <;> simp <;> omega
theorem inbR {n b : ℕ} (k : Fin n) : ∀ d, (![k.val, 0] : Fin 2 → ℕ) d + (![1, b] : Fin 2 → ℕ) d ≤ (![n, b] : Fin 2 → ℕ) d := by
  intro d; have := k.isLt; fin_cases d <;> simp <;> omega
theorem inbK {n b : ℕ} (k : Fin n) : ∀ d, (![0, k.val] : Fin 2 → ℕ) d + (![b, 1] : Fin 2 → ℕ) d ≤ (![b, n] : Fin 2 → ℕ) d := by
  intro d; have := k.isLt; fin_cases d <;> simp <;> omega
theorem inbM {n a b : ℕ} (k : Fin n) : ∀ d, (![k.val, 0, 0] : Fin 3 → ℕ) d + (![1, a, b] : Fin 3 → ℕ) d ≤ (![n, a, b] : Fin 3 → ℕ) d := by
  intro d; have := k.isLt; fin_cases d <;> simp <;> omega
theorem inbS (g : Fin 4) : ∀ d, (![0, g.val * 128] : Fin 2 → ℕ) d + (![512, 128] : Fin 2 → ℕ) d ≤ (![528, 512] : Fin 2 → ℕ) d := by
  intro d; have := g.isLt; fin_cases d <;> simp <;> omega

/-- The rectangles: a group of columns of the projected, the mixed, and the pooled rows with sixteen more; a block of such a
group; the sixteen rows; a row; a column; a matrix of a stack; whole blocks. -/
abbrev rProj (k : Fin 12) : Rect S512x1536 := Rect.unit ![0, k.val * 128] S512x128.size (inbC (n := 0) k)
abbrev rProjB (b : Fin 4) (k : Fin 12) : Rect S512x1536 := Rect.unit ![b.val * 128, k.val * 128] S128x128.size (inbB b k)
abbrev rCat (k : Fin 8) : Rect S512x1024 := Rect.unit ![0, k.val * 128] S512x128.size (inbC (n := 0) k)
abbrev rCatB (b : Fin 4) (k : Fin 8) : Rect S512x1024 := Rect.unit ![b.val * 128, k.val * 128] S128x128.size (inbB b k)
abbrev rTall (g : Fin 4) : Rect S528x512 := Rect.unit ![0, g.val * 128] S528x128.size (inbC (n := 0) g)
abbrev rUpper (g : Fin 4) : Rect S528x512 := Rect.unit ![0, g.val * 128] S512x128.size (inbS g)
abbrev rFirst : Rect S528x512 := Rect.unit ![0, 0] S16x512.size inb_S528x512_S16x512_0_0
abbrev rLast : Rect S528x512 := Rect.unit ![512, 0] S16x512.size inb_S528x512_S16x512_512_0
abbrev rBody : Rect S528x512 := Rect.unit ![16, 0] S512x512.size inb_S528x512_S512x512_16_0
abbrev rPool : Rect S512x1536 := Rect.unit ![0, 1024] S512x512.size inb_S512x1536_S512x512_0_1024
abbrev rMod (k : Fin 6) : Rect S6x1024 := Rect.unit ![k.val, 0] S1x1024.size (inbR k)
abbrev rDmod (k : Fin 3) : Rect S3x1024 := Rect.unit ![k.val, 0] S1x1024.size (inbR k)
abbrev rSgn (h : Fin 4) : Rect S4x128 := Rect.unit ![h.val, 0] S1x128.size (inbR h)
abbrev rBs (h : Fin 4) : Rect S128x4 := Rect.unit ![0, h.val] S128x1.size (inbK h)
abbrev rStack (h : Fin 4) : Rect S4x128x128 := Rect.unit ![h.val, 0, 0] S1x128x128.size (inbM h)
abbrev rPs (g : Fin 4) : Rect S1x512 := Rect.unit ![0, g.val * 128] S1x128.size (inbC (n := 0) g)
abbrev rRows : Rect S512x1024 := Rect.unit ![0, 0] S512x1024.size inb_S512x1024_S512x1024_0_0
abbrev rRow : Rect S1x1024 := Rect.unit ![0, 0] S1x1024.size inb_S1x1024_S1x1024_0_0
abbrev rIn : Rect S1536x1024 := Rect.unit ![0, 0] S1536x1024.size inb_S1536x1024_S1536x1024_0_0
abbrev rOut : Rect S1024x1024 := Rect.unit ![0, 0] S1024x1024.size inb_S1024x1024_S1024x1024_0_0
abbrev rAll : Rect S512x1536 := Rect.unit ![0, 0] S512x1536.size inb_S512x1536_S512x1536_0_0
abbrev rSixteen : Rect S16x512 := Rect.unit ![0, 0] S16x512.size inb_S16x512_S16x512_0_0

/-- The groups of columns: the gating ones, the gated ones, the pooled ones; and among the mixed columns. -/
abbrev colU (h : Fin 4) : Fin 12 := ⟨h.val, by omega⟩
abbrev colV (h : Fin 4) : Fin 12 := ⟨4 + h.val, by omega⟩
abbrev colP (g : Fin 4) : Fin 12 := ⟨8 + g.val, by omega⟩
abbrev colA (h : Fin 4) : Fin 8 := ⟨h.val, by omega⟩
abbrev colB (g : Fin 4) : Fin 8 := ⟨4 + g.val, by omega⟩

/-- What point `t` loads. -/
def loads (c : Dev nD) (t : Fin cfg0.N) : Loads F where
  e := View.readAt (Elt F) (ms0_0 t).view rRows.toLoadRect ((hs0_0 t).unread (iblk m c 0 t))
  x := View.readAt (Elt F) (ms0_1 t).view rRows.toLoadRect ((hs0_1 t).unread (iblk m c 1 t))
  mx := View.readAt (Elt F) (ms0_4 t).view rRows.toLoadRect ((hs0_4 t).unread (iblk m c 4 t))
  sh := View.readAt (Elt F) (ms0_5 t).view (rMod 0).toLoadRect ((hs0_5 t).unread (iblk m c 5 t))
  sc := View.readAt (Elt F) (ms0_5 t).view (rMod 1).toLoadRect ((hs0_5 t).unread (iblk m c 5 t))
  gm := View.readAt (Elt F) (ms0_5 t).view (rMod 2).toLoadRect ((hs0_5 t).unread (iblk m c 5 t))
  g1 := View.readAt (Elt F) (ms0_6 t).view rRow.toLoadRect ((hs0_6 t).unread (iblk m c 6 t))
  g2 := View.readAt (Elt F) (ms0_7 t).view rRow.toLoadRect ((hs0_7 t).unread (iblk m c 7 t))
  win := View.readAt (Elt F) (ms0_8 t).view rIn.toLoadRect ((hs0_8 t).unread (iblk m c 8 t))
  wout := View.readAt (Elt F) (ms0_14 t).view rOut.toLoadRect ((hs0_14 t).unread (iblk m c 14 t))
  u h := View.readAt (Elt F) (ms0_2 t).view (rProj (colU h)).toLoadRect ((hs0_2 t).unread (iblk m c 2 t))
  v h := View.readAt (Elt F) (ms0_2 t).view (rProj (colV h)).toLoadRect ((hs0_2 t).unread (iblk m c 2 t))
  p := View.readAt (Elt F) (ms0_2 t).view rPool.toLoadRect ((hs0_2 t).unread (iblk m c 2 t))
  halo := View.readAt (Elt F) (ms0_3 t).view rSixteen.toLoadRect ((hs0_3 t).unread (iblk m c 3 t))
  sgn h := View.readAt (Elt F) (ms0_9 t).view (rSgn h).toLoadRect ((hs0_9 t).unread (iblk m c 9 t))
  ws h := View.readAt (Elt F) (ms0_10 t).view (rStack h).toLoadRect ((hs0_10 t).unread (iblk m c 10 t))
  bs h := View.readAt (Elt F) (ms0_11 t).view (rBs h).toLoadRect ((hs0_11 t).unread (iblk m c 11 t))
  wp g := View.readAt (Elt F) (ms0_12 t).view (rStack g).toLoadRect ((hs0_12 t).unread (iblk m c 12 t))
  ps g := View.readAt (Elt F) (ms0_13 t).view (rPs g).toLoadRect ((hs0_13 t).unread (iblk m c 13 t))
  r := Scalar.subi 15#32 (BitVec.ofNat 32 (grid0.coords t 0).val)

section stores
variable (I : Loads F)

/-- The stores of the mixed columns' cotangent, and of the pooled columns after the rows before them. -/
def dcatL : List (View.Piece (Elt F) S512x1024 .f32) := [⟨rRows, shapeCast S512x1024 I.dcat shapeCasts_S512x1024_S512x1024⟩]
def poolL : List (View.Piece (Elt F) S528x512 .f32) :=
  [⟨rBody, shapeCast S512x512 (shapeCast S512x512 I.p shapeCasts_S512x512_S512x512) shapeCasts_S512x512_S512x512⟩,
   ⟨rFirst, shapeCast S16x512 I.before shapeCasts_S16x512_S16x512⟩]

/-- What is loaded of them. -/
def mid : Mid F where
  da h b := View.readCov (Val := Elt F) scM0_4.view (dcatL I) (rCatB b (colA h)).toLoadRect
  dob g := View.readCov (Val := Elt F) scM0_4.view (dcatL I) (rCat (colB g)).toLoadRect
  ext g := View.readCov (Val := Elt F) scM0_0.view (poolL I) (rTall g).toLoadRect

/-- The blocks of the heads, and the groups, as they are stored, the last first. -/
def back : List (Fin 4) := [3, 2, 1, 0]
def catL : List (View.Piece (Elt F) S512x1024 .bf16) :=
  (back.map fun g => ⟨rCat (colB g), shapeCast S512x128 (I.scaled (mid I) g) shapeCasts_S512x128_S512x128⟩)
    ++ back.flatMap fun h => back.map fun b => ⟨rCatB b (colA h), shapeCast S128x128 (I.gated h b) shapeCasts_S128x128_S128x128⟩
def projL (w : Fin 4 → Tall F) : List (View.Piece (Elt F) S512x1536 .bf16) :=
  (back.map fun g => ⟨rProj (colP g), shapeCast S512x128 (I.dp (mid I) w g) shapeCasts_S512x128_S512x128⟩)
    ++ back.flatMap fun h => ⟨rProj (colV h), shapeCast S512x128 (I.dv (mid I) h) shapeCasts_S512x128_S512x128⟩
      :: back.map fun b => ⟨rProjB b (colU h), shapeCast S128x128 (I.du (mid I) h b) shapeCasts_S128x128_S128x128⟩
/-- The mixed columns, and the projected columns' cotangent, as they are loaded. -/
def catV : FVec F S512x1024 .bf16 := View.readCov (Val := Elt F) scM0_2.view (catL I) rRows.toLoadRect
def projV (w : Fin 4 → Tall F) : FVec F S512x1536 .bf16 := View.readCov (Val := Elt F) scM0_3.view (projL I w) rAll.toLoadRect

/-- The spread cotangents of the groups up to `g`. -/
def spreadL (l : List (Fin 4)) : List (View.Piece (Elt F) S528x512 .f32) :=
  l.map fun g => ⟨rUpper g, shapeCast S512x128 (I.spread (mid I) g) shapeCasts_S512x128_S512x128⟩
/-- The groups up to `g`, the last first. -/
def upTo (g : Fin 4) : List (Fin 4) := back.dropWhile (· ≠ g)
end stores

section later
variable (c : Dev nD) (t : Fin cfg0.N) (h0 : ¬t.val % 16 = 0) (p : Left F)

/-- A group's spread cotangent with the rows after it, as a later point loads it. -/
def spreadB (g : Fin 4) : Tall F :=
  View.readAt (Elt F) scM0_1.view (rTall g).toLoadRect
    (View.writes scM0_1.view (Elt F) ((Memref.isWhole_whole _).unread p.win) (spreadL (loads m c t) (upTo g)))

/-- The projected columns' cotangent at a later point. -/
def projB : FVec F S512x1536 .bf16 := projV (loads m c t) (spreadB m c t p)

theorem leftB_gx : (leftB m c t h0 p).gx = View.canon (Val := Elt F) [⟨rRows, (loads m c t).gx (projB m c t p)⟩] := by
  sl_kernel_rfl
theorem leftB_dwin : (leftB m c t h0 p).dwin = View.canon (Val := Elt F) [⟨rIn, addIn
    (View.readAt (Elt F) (ms0_16 t).view rIn.toLoadRect ((hs0_16 t).unread p.dwin)) ((loads m c t).twin (projB m c t p))⟩] := by
  sl_kernel_rfl
theorem leftB_dwout : (leftB m c t h0 p).dwout = View.canon (Val := Elt F) [⟨rOut, addOut
    (View.readAt (Elt F) (ms0_17 t).view rOut.toLoadRect ((hs0_17 t).unread p.dwout)) ((loads m c t).twout (catV (loads m c t)))⟩] := by
  sl_kernel_rfl
theorem leftB_dmod : (leftB m c t h0 p).dmod = View.canon (Val := Elt F) ([1, 0, 2].map fun k => ⟨rDmod k, addRow
    (View.readAt (Elt F) (ms0_18 t).view (rDmod k).toLoadRect ((hs0_18 t).unread p.dmod)) ((loads m c t).tmod (projB m c t p) k)⟩) := by
  sl_kernel_rfl
theorem leftB_dg1 : (leftB m c t h0 p).dg1 = View.canon (Val := Elt F) [⟨rRow, addRow
    (View.readAt (Elt F) (ms0_19 t).view rRow.toLoadRect ((hs0_19 t).unread p.dg1)) ((loads m c t).tg1 (projB m c t p))⟩] := by
  sl_kernel_rfl
theorem leftB_dg2 : (leftB m c t h0 p).dg2 = View.canon (Val := Elt F) [⟨rRow, addRow
    (View.readAt (Elt F) (ms0_20 t).view rRow.toLoadRect ((hs0_20 t).unread p.dg2)) (loads m c t).tg2⟩] := by
  sl_kernel_rfl
theorem leftB_dsgn : (leftB m c t h0 p).dsgn = View.canon (Val := Elt F) (back.map fun h => ⟨rSgn h, addLine
    (View.readAt (Elt F) (ms0_21 t).view (rSgn h).toLoadRect ((hs0_21 t).unread p.dsgn)) ((loads m c t).tsgn (mid (loads m c t)) h)⟩) := by
  sl_kernel_rfl
theorem leftB_dws : (leftB m c t h0 p).dws = View.canon (Val := Elt F) (back.map fun h => ⟨rStack h, addBlock
    (View.readAt (Elt F) (ms0_22 t).view (rStack h).toLoadRect ((hs0_22 t).unread p.dws)) ((loads m c t).tws (mid (loads m c t)) h)⟩) := by
  sl_kernel_rfl
theorem leftB_dbst : (leftB m c t h0 p).dbst = View.canon (Val := Elt F) (back.map fun h => ⟨rBs h, addCol
    (View.readAt (Elt F) (ms0_23 t).view (rBs h).toLoadRect ((hs0_23 t).unread p.dbst)) ((loads m c t).tbs (mid (loads m c t)) h)⟩) := by
  sl_kernel_rfl
theorem leftB_dwp : (leftB m c t h0 p).dwp = View.canon (Val := Elt F) (back.map fun g => ⟨rStack g, addBlock
    (View.readAt (Elt F) (ms0_24 t).view (rStack g).toLoadRect ((hs0_24 t).unread p.dwp)) ((loads m c t).twp (mid (loads m c t)) g)⟩) := by
  sl_kernel_rfl
theorem leftB_dps : (leftB m c t h0 p).dps = View.canon (Val := Elt F) (back.map fun g => ⟨rPs g, addLine
    (View.readAt (Elt F) (ms0_25 t).view (rPs g).toLoadRect ((hs0_25 t).unread p.dps)) ((loads m c t).tps (mid (loads m c t)) g)⟩) := by
  sl_kernel_rfl
theorem leftB_win : (leftB m c t h0 p).win = View.canon (Val := Elt F) (⟨rLast, shapeCast S16x512
    (View.readCov (Val := Elt F) scM0_1.view (spreadL (loads m c t) back) rFirst.toLoadRect) shapeCasts_S16x512_S16x512⟩
      :: spreadL (loads m c t) back) := by
  sl_kernel_rfl
end later

section first
variable (c : Dev nD) (t : Fin cfg0.N) (h0 : t.val % 16 = 0)

/-- Zero over a whole buffer. -/
abbrev zero (s : Shape) : FVec F s .f32 := broadcast s (Scalar.ofBits .f32 0x00000000#32)

/-- A running sum at the first point: zero, then part by part what was there and this tile's term. -/
def sumL {s : Shape} {κ : Type} {k : Kind} {sp : Space} (v : View sig k sp s .f32) (Z : View.Piece (Elt F) s .f32) (r : κ → Rect s)
    (f : ∀ k, ((r k).shape.Idx → Elt F .f32) → (r k).shape.Idx → Elt F .f32) : List κ → List (View.Piece (Elt F) s .f32)
  | [] => [Z]
  | k :: l => ⟨r k, f k (View.readCov (Val := Elt F) v (sumL v Z r f l) (r k).toLoadRect)⟩ :: sumL v Z r f l

/-- The zero rows after the last tile. -/
abbrev lastL : List (View.Piece (Elt F) S528x512 .f32) := [⟨rLast, shapeCast S16x512 (zero S16x512) shapeCasts_S16x512_S16x512⟩]
/-- A group's spread cotangent with the rows after it, as the first point loads it. -/
def spreadA (g : Fin 4) : Tall F :=
  View.readCov (Val := Elt F) scM0_1.view (spreadL (loads m c t) (upTo g) ++ lastL) (rTall g).toLoadRect
def projA : FVec F S512x1536 .bf16 := projV (loads m c t) (spreadA m c t)

abbrev zRow : View.Piece (Elt F) S1x1024 .f32 := ⟨rRow, zero S1x1024⟩
abbrev zIn : View.Piece (Elt F) S1536x1024 .f32 := ⟨rIn, zero S1536x1024⟩
abbrev zOut : View.Piece (Elt F) S1024x1024 .f32 := ⟨rOut, zero S1024x1024⟩
abbrev zMod : View.Piece (Elt F) S3x1024 .f32 := ⟨Rect.unit ![0, 0] S3x1024.size inb_S3x1024_S3x1024_0_0, zero S3x1024⟩
abbrev zSgn : View.Piece (Elt F) S4x128 .f32 := ⟨Rect.unit ![0, 0] S4x128.size inb_S4x128_S4x128_0_0, zero S4x128⟩
abbrev zStack : View.Piece (Elt F) S4x128x128 .f32 := ⟨Rect.unit ![0, 0, 0] S4x128x128.size inb_S4x128x128_S4x128x128_0_0_0, zero S4x128x128⟩
abbrev zBs : View.Piece (Elt F) S128x4 .f32 := ⟨Rect.unit ![0, 0] S128x4.size inb_S128x4_S128x4_0_0, zero S128x4⟩
abbrev zPs : View.Piece (Elt F) S1x512 .f32 := ⟨Rect.unit ![0, 0] S1x512.size inb_S1x512_S1x512_0_0, zero S1x512⟩

theorem leftA_gx : (leftA m c t h0).gx = View.canon (Val := Elt F) [⟨rRows, (loads m c t).gx (projA m c t)⟩] := by
  sl_kernel_rfl
theorem leftA_dwin : (leftA m c t h0).dwin = View.canon (Val := Elt F) [⟨rIn, addIn
    (View.readCov (Val := Elt F) (ms0_16 t).view [zIn] rIn.toLoadRect) ((loads m c t).twin (projA m c t))⟩, zIn] := by
  sl_kernel_rfl
theorem leftA_dwout : (leftA m c t h0).dwout = View.canon (Val := Elt F) [⟨rOut, addOut
    (View.readCov (Val := Elt F) (ms0_17 t).view [zOut] rOut.toLoadRect) ((loads m c t).twout (catV (loads m c t)))⟩, zOut] := by
  sl_kernel_rfl
theorem leftA_dmod : (leftA m c t h0).dmod = View.canon (Val := Elt F) (sumL (ms0_18 t).view zMod rDmod
    (fun k v => addRow v ((loads m c t).tmod (projA m c t) k)) [1, 0, 2]) := by
  sl_kernel_rfl
theorem leftA_dg1 : (leftA m c t h0).dg1 = View.canon (Val := Elt F) [⟨rRow, addRow
    (View.readCov (Val := Elt F) (ms0_19 t).view [zRow] rRow.toLoadRect) ((loads m c t).tg1 (projA m c t))⟩, zRow] := by
  sl_kernel_rfl
theorem leftA_dg2 : (leftA m c t h0).dg2 = View.canon (Val := Elt F) [⟨rRow, addRow
    (View.readCov (Val := Elt F) (ms0_20 t).view [zRow] rRow.toLoadRect) (loads m c t).tg2⟩, zRow] := by
  sl_kernel_rfl
theorem leftA_dsgn : (leftA m c t h0).dsgn = View.canon (Val := Elt F) (sumL (ms0_21 t).view zSgn rSgn
    (fun h v => addLine v ((loads m c t).tsgn (mid (loads m c t)) h)) back) := by
  sl_kernel_rfl
theorem leftA_dws : (leftA m c t h0).dws = View.canon (Val := Elt F) (sumL (ms0_22 t).view zStack rStack
    (fun h v => addBlock v ((loads m c t).tws (mid (loads m c t)) h)) back) := by
  sl_kernel_rfl
theorem leftA_dbst : (leftA m c t h0).dbst = View.canon (Val := Elt F) (sumL (ms0_23 t).view zBs rBs
    (fun h v => addCol v ((loads m c t).tbs (mid (loads m c t)) h)) back) := by
  sl_kernel_rfl
theorem leftA_dwp : (leftA m c t h0).dwp = View.canon (Val := Elt F) (sumL (ms0_24 t).view zStack rStack
    (fun g v => addBlock v ((loads m c t).twp (mid (loads m c t)) g)) back) := by
  sl_kernel_rfl
theorem leftA_dps : (leftA m c t h0).dps = View.canon (Val := Elt F) (sumL (ms0_25 t).view zPs rPs
    (fun g v => addLine v ((loads m c t).tps (mid (loads m c t)) g)) back) := by
  sl_kernel_rfl
theorem leftA_win : (leftA m c t h0).win = View.canon (Val := Elt F) (⟨rLast, shapeCast S16x512
    (View.readCov (Val := Elt F) scM0_1.view (spreadL (loads m c t) back ++ lastL) rFirst.toLoadRect) shapeCasts_S16x512_S16x512⟩
      :: (spreadL (loads m c t) back ++ lastL)) := by
  sl_kernel_rfl
end first

end Cert.MixIdeal.Own

end
-- ==== Proof.Spec.lean ====
/-
  The channel half of the training step over the real numbers: the forward values a row at a time, and the gradient of
  every one of its inputs. Nothing here mentions a program: both programs are shown to compute these functions.

  Rows are tokens (`Fin 8192`), features `Fin 1024`, hidden columns `Fin 5632` (the gate's 2816, then the value's).
-/
module

public import Idealize.ShloMosaic.Lib.Pointwise

@[expose] public section

noncomputable section

namespace Cert.Spec

open Idealize.ShloMosaic

/-- The small constant under the square root of a norm, as the program rounds it. -/
def eps : ℝ := (Ideal.ofBits .f32 0x358637BD#32).toReal

/-- What the two programs are given. -/
structure Inp where
  x : Fin 8192 → Fin 1024 → ℝ
  dx : Fin 8192 → Fin 1024 → ℝ
  md : Fin 6144 → ℝ
  g3 : Fin 1024 → ℝ
  g4 : Fin 1024 → ℝ
  W : Fin 1024 → Fin 5632 → ℝ
  cw : Fin 3 → Fin 5632 → ℝ
  cb : Fin 5632 → ℝ
  Wd : Fin 2816 → Fin 1024 → ℝ

/-- The gate's column for the value's column `k`, and the value's. -/
def lo (k : Fin 2816) : Fin 5632 := ⟨k.val, by omega⟩
def hi (k : Fin 2816) : Fin 5632 := ⟨k.val + 2816, by omega⟩

/-- Column `c` of `v` moved down by `k` tokens, zeros entering at the top. -/
def down (k : ℕ) (v : Fin 8192 → ℝ) (i : Fin 8192) : ℝ := if h : k ≤ i.val then v ⟨i.val - k, by omega⟩ else 0
/-- Column `c` of `v` moved up by `k` tokens, zeros entering at the bottom. -/
def up' (k : ℕ) (v : Fin 8192 → ℝ) (i : Fin 8192) : ℝ := if h : i.val + k < 8192 then v ⟨i.val + k, h⟩ else 0

namespace Inp

variable (I : Inp)

def sh (d : Fin 1024) : ℝ := I.md ⟨3072 + d.val, by omega⟩
def sc (d : Fin 1024) : ℝ := I.md ⟨4096 + d.val, by omega⟩
def gf (d : Fin 1024) : ℝ := I.md ⟨5120 + d.val, by omega⟩

/-! ### Forward -/

/-- Mean square of a row of `x`, plus the constant. -/
def ms3 (i : Fin 8192) : ℝ := (∑ d, I.x i d * I.x i d) / 1024 + eps
def r3 (i : Fin 8192) : ℝ := (Real.sqrt (I.ms3 i))⁻¹
def xh (i : Fin 8192) (d : Fin 1024) : ℝ := I.x i d * I.r3 i
def n3 (i : Fin 8192) (d : Fin 1024) : ℝ := I.xh i d * I.g3 d
def h (i : Fin 8192) (d : Fin 1024) : ℝ := I.n3 i d * (1 + I.sc d) + I.sh d
def up (i : Fin 8192) (c : Fin 5632) : ℝ := ∑ d, I.h i d * I.W d c
/-- The causal three-tap convolution. -/
def y (i : Fin 8192) (c : Fin 5632) : ℝ :=
  I.cb c + down 2 (fun i => I.up i c) i * I.cw 0 c + down 1 (fun i => I.up i c) i * I.cw 1 c + I.up i c * I.cw 2 c
def sg (i : Fin 8192) (k : Fin 2816) : ℝ := (1 + Real.exp (-I.y i (lo k)))⁻¹
def silu (i : Fin 8192) (k : Fin 2816) : ℝ := I.y i (lo k) * I.sg i k
def act (i : Fin 8192) (k : Fin 2816) : ℝ := I.silu i k * I.y i (hi k)
def f (i : Fin 8192) (d : Fin 1024) : ℝ := ∑ k, I.act i k * I.Wd k d
def ms4 (i : Fin 8192) : ℝ := (∑ d, I.f i d * I.f i d) / 1024 + eps
def r4 (i : Fin 8192) : ℝ := (Real.sqrt (I.ms4 i))⁻¹
def fh (i : Fin 8192) (d : Fin 1024) : ℝ := I.f i d * I.r4 i

/-! ### Backward -/

def dr (i : Fin 8192) (d : Fin 1024) : ℝ := I.dx i d * I.gf d
def dfh (i : Fin 8192) (d : Fin 1024) : ℝ := I.dr i d * I.g4 d
def df (i : Fin 8192) (d : Fin 1024) : ℝ := I.r4 i * (I.dfh i d - I.fh i d * ((∑ e, I.dfh i e * I.fh i e) / 1024))
def dact (i : Fin 8192) (k : Fin 2816) : ℝ := ∑ d, I.df i d * I.Wd k d
def dyg (i : Fin 8192) (k : Fin 2816) : ℝ :=
  I.dact i k * I.y i (hi k) * (I.sg i k + I.silu i k * (1 - I.sg i k))
def dyv (i : Fin 8192) (k : Fin 2816) : ℝ := I.dact i k * I.silu i k
def dy (i : Fin 8192) (c : Fin 5632) : ℝ :=
  if h : c.val < 2816 then I.dyg i ⟨c.val, h⟩ else I.dyv i ⟨c.val - 2816, by omega⟩
def dy1 (i : Fin 8192) (c : Fin 5632) : ℝ := up' 1 (fun i => I.dy i c) i
def dy2 (i : Fin 8192) (c : Fin 5632) : ℝ := up' 2 (fun i => I.dy i c) i
def dup (i : Fin 8192) (c : Fin 5632) : ℝ :=
  I.dy i c * I.cw 2 c + I.dy1 i c * I.cw 1 c + I.dy2 i c * I.cw 0 c
def dh (i : Fin 8192) (d : Fin 1024) : ℝ := ∑ c, I.dup i c * I.W d c
def dn3 (i : Fin 8192) (d : Fin 1024) : ℝ := I.dh i d * (1 + I.sc d)
def dxh (i : Fin 8192) (d : Fin 1024) : ℝ := I.dn3 i d * I.g3 d
def dx1 (i : Fin 8192) (d : Fin 1024) : ℝ :=
  I.dx i d + I.r3 i * (I.dxh i d - I.xh i d * ((∑ e, I.dxh i e * I.xh i e) / 1024))

/-! ### Sums over the tokens: what one token adds -/

def tsh (i : Fin 8192) (d : Fin 1024) : ℝ := I.dh i d
def tsc (i : Fin 8192) (d : Fin 1024) : ℝ := I.dh i d * I.n3 i d
def tg (i : Fin 8192) (d : Fin 1024) : ℝ := I.dx i d * (I.fh i d * I.g4 d)
/-- The three rows of the modulation's gradient. -/
def tmod (a : Fin 3) (i : Fin 8192) (d : Fin 1024) : ℝ := ![I.tsh i d, I.tsc i d, I.tg i d] a
def tg3 (i : Fin 8192) (d : Fin 1024) : ℝ := I.dn3 i d * I.xh i d
def tg4 (i : Fin 8192) (d : Fin 1024) : ℝ := I.dr i d * I.fh i d
def tcw (a : Fin 3) (i : Fin 8192) (c : Fin 5632) : ℝ := ![I.dy2 i c * I.up i c, I.dy1 i c * I.up i c, I.dy i c * I.up i c] a

end Inp

end Cert.Spec

end
-- ==== Proof.Fold.lean ====
/-
  Reading extended-real expressions whose leaves are real numbers as real numbers: sums, quotients, reciprocal square
  roots, and the constants the programs write as bit patterns. Also the real identities the gradients need.
-/
module

public import proofs.«01_k».proof.Proof.Spec

@[expose] public section

noncomputable section

namespace Cert.Spec

open Idealize.ShloMosaic

theorem coe_sum {ι : Type*} [Fintype ι] (f : ι → ℝ) : (∑ i, ((f i : ℝ) : EReal)) = ((∑ i, f i : ℝ) : EReal) := by
  have h : ∀ s : Finset ι, (∑ i ∈ s, ((f i : ℝ) : EReal)) = ((∑ i ∈ s, f i : ℝ) : EReal) := by
    classical
    intro s
    induction s using Finset.induction_on with
    | empty => simp
    | insert a s ha ih => rw [Finset.sum_insert ha, Finset.sum_insert ha, ih, EReal.coe_add]
  exact h Finset.univ

theorem div_coe_coe (a b : ℝ) (hb : b ≠ 0) : Ideal.div (a : EReal) (b : EReal) = ((a / b : ℝ) : EReal) := by
  rw [Ideal.div_coe hb, ← EReal.coe_mul, mul_one_div]

theorem rsqrt_of_pos (a : ℝ) (ha : 0 < a) : Ideal.rsqrt (a : EReal) = (((Real.sqrt a)⁻¹ : ℝ) : EReal) := by
  rw [Ideal.rsqrt_coe, if_neg (not_lt.mpr ha.le), if_neg ha.ne']

theorem c_zero : Ideal.ofBits .f32 0x00000000#32 = ((0 : ℝ) : EReal) := by
  simp [Ideal.ofBits, Ideal.ieee, -EReal.coe_mul]
theorem c_one : Ideal.ofBits .f32 0x3F800000#32 = ((1 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_neg_half : Ideal.ofBits .f32 0xBF000000#32 = ((-(1 / 2) : ℝ) : EReal) := by
  simp [Ideal.ofBits, Ideal.ieee, -EReal.coe_mul]; norm_num
theorem c_eps_pos : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num
theorem c_eps : Ideal.ofBits .f32 0x358637BD#32 = (eps : EReal) := by
  obtain ⟨e, _, he⟩ := c_eps_pos
  rw [eps, he, EReal.toReal_coe]
theorem eps_pos : 0 < eps := by
  obtain ⟨e, h, he⟩ := c_eps_pos
  rw [eps, he, EReal.toReal_coe]; exact h

theorem ms_pos (s : Fin 1024 → ℝ) : 0 < (∑ d, s d * s d) / 1024 + eps := by
  have h : 0 ≤ ∑ d, s d * s d := Finset.sum_nonneg fun d _ => mul_self_nonneg _
  have := eps_pos
  positivity

namespace Inp
variable (I : Inp)
theorem ms3_pos (i : Fin 8192) : 0 < I.ms3 i := ms_pos _
theorem ms4_pos (i : Fin 8192) : 0 < I.ms4 i := ms_pos _
end Inp

/-- `1/√v` divided by `v` is its cube. -/
theorem inv_sqrt_div (v : ℝ) (hv : 0 < v) : (Real.sqrt v)⁻¹ / v = (Real.sqrt v)⁻¹ ^ 3 := by
  have h := Real.sqrt_pos.mpr hv
  have e : v = Real.sqrt v ^ 2 := (Real.sq_sqrt hv.le).symm
  rw [div_eq_mul_inv]
  conv_lhs => rw [show v⁻¹ = (Real.sqrt v ^ 2)⁻¹ from by rw [← e]]
  field_simp

/-- The two spellings of the logistic function. -/
theorem half_tanh (y : ℝ) : 1 / 2 * Real.tanh (1 / 2 * y) + 1 / 2 = (1 + Real.exp (-y))⁻¹ := by
  rw [Real.tanh_eq_sinh_div_cosh, Real.sinh_eq, Real.cosh_eq]
  have h1 : 0 < Real.exp (1 / 2 * y) := Real.exp_pos _
  have h2 : 0 < Real.exp (-(1 / 2 * y)) := Real.exp_pos _
  have e : Real.exp (-y) = Real.exp (-(1 / 2 * y)) / Real.exp (1 / 2 * y) := by
    rw [← Real.exp_sub]; congr 1; ring
  rw [e]
  field_simp
  ring

/-- The gradient of a row's norm, in the two ways it is written. -/
theorem norm_grad (x d r s n : ℝ) (hn : n = 1024) (hr : s = -(1 / 2) * r ^ 3) (S : ℝ) :
    d * r + x * (S * s / n) + S * s / n * x = r * (d - x * r * (S * r / 1024)) := by
  subst hn hr; ring

end Cert.Spec

end
-- ==== Proof.MixSpec.lean ====
/-
  The mixing half of the training step over the real numbers: the forward values a row at a time, and the gradient of every
  one of its inputs. Nothing here mentions a program: both programs are shown to compute these functions.

  Rows are tokens (`Fin 8192`), features `Fin 1024`. Of the 1536 projected columns 512 gate, 512 are gated and 512 are pooled;
  each of the three is four heads (groups) of 128. The spatial gate mixes the 128 rows of a block.
-/
module

public import proofs.«01_k».proof.Proof.Fold

@[expose] public section

noncomputable section

namespace Cert.MixSpec

open Idealize.ShloMosaic Cert.Spec

/-- The two constants of the gelu, as the programs round them. -/
def gC : ℝ := (Ideal.ofBits .f32 0x3D372713#32).toReal
def gK : ℝ := (Ideal.ofBits .f32 0x3F4C422A#32).toReal

/-- The gelu's tangent, factor, value and slope. -/
def gth (p : ℝ) : ℝ := Real.tanh (gK * (p + gC * (p * (p * p))))
def gcdf (p : ℝ) : ℝ := 1 / 2 * gth p + 1 / 2
def gel (p : ℝ) : ℝ := p * gcdf p
def gslope (p : ℝ) : ℝ := gcdf p + p * (1 - gth p * gth p) * (1 / 2 * gK + 3 / 2 * gC * gK * (p * p))

/-- What the two programs are given. -/
structure Inp where
  x : Fin 8192 → Fin 1024 → ℝ
  e : Fin 8192 → Fin 1024 → ℝ
  md : Fin 6144 → ℝ
  g1 : Fin 1024 → ℝ
  g2 : Fin 1024 → ℝ
  W : Fin 1024 → Fin 1536 → ℝ
  sgn : Fin 4 → Fin 128 → ℝ
  ws : Fin 4 → Fin 128 → Fin 128 → ℝ
  bs : Fin 4 → Fin 128 → ℝ
  wp : Fin 4 → Fin 128 → Fin 128 → ℝ
  ps : Fin 512 → ℝ
  Wo : Fin 1024 → Fin 1024 → ℝ

/-- Lane `c` of head `h`: among 512 columns, among the projected columns (gating, gated, pooled), among the mixed ones. -/
def lane (h : Fin 4) (c : Fin 128) : Fin 512 := ⟨h.val * 128 + c.val, by omega⟩
def cu (h : Fin 4) (c : Fin 128) : Fin 1536 := ⟨h.val * 128 + c.val, by omega⟩
def cv (h : Fin 4) (c : Fin 128) : Fin 1536 := ⟨512 + (h.val * 128 + c.val), by omega⟩
def cp (h : Fin 4) (c : Fin 128) : Fin 1536 := ⟨1024 + (h.val * 128 + c.val), by omega⟩
def ka (h : Fin 4) (c : Fin 128) : Fin 1024 := ⟨h.val * 128 + c.val, by omega⟩
def kb (h : Fin 4) (c : Fin 128) : Fin 1024 := ⟨512 + (h.val * 128 + c.val), by omega⟩
/-- The head and the lane of a column. -/
def hd (k : ℕ) : Fin 4 := ⟨k % 512 / 128, by omega⟩
def ln (k : ℕ) : Fin 128 := ⟨k % 128, by omega⟩

/-- A row's place in its block, and the row at place `j` of the same block. -/
def pos (n : Fin 8192) : Fin 128 := ⟨n.val % 128, by omega⟩
def mate (n : Fin 8192) (j : Fin 128) : Fin 8192 := ⟨n.val / 128 * 128 + j.val, by omega⟩

/-- The windows of the groups. -/
def width : Fin 4 → ℕ := ![2, 4, 8, 16]

/-- Whether place `j` may be seen from place `i`. -/
abbrev seen (i j : Fin 128) : Prop := j.val / 64 ≤ i.val / 64

namespace Inp

variable (I : Inp)

def sh (d : Fin 1024) : ℝ := I.md ⟨d.val, by omega⟩
def sc (d : Fin 1024) : ℝ := I.md ⟨1024 + d.val, by omega⟩
def gm (d : Fin 1024) : ℝ := I.md ⟨2048 + d.val, by omega⟩

/-! ### Forward -/

def ms1 (n : Fin 8192) : ℝ := (∑ d, I.x n d * I.x n d) / 1024 + eps
def r1 (n : Fin 8192) : ℝ := (Real.sqrt (I.ms1 n))⁻¹
def xh (n : Fin 8192) (d : Fin 1024) : ℝ := I.x n d * I.r1 n
def n1 (n : Fin 8192) (d : Fin 1024) : ℝ := I.xh n d * I.g1 d
def h (n : Fin 8192) (d : Fin 1024) : ℝ := I.n1 n d * (1 + I.sc d) + I.sh d
/-- The projected columns. -/
def P (n : Fin 8192) (k : Fin 1536) : ℝ := ∑ d, I.h n d * I.W d k

def ug (n : Fin 8192) (h : Fin 4) (c : Fin 128) : ℝ := gel (I.P n (cu h c))
def vg (n : Fin 8192) (h : Fin 4) (c : Fin 128) : ℝ := gel (I.P n (cv h c))
def msv (n : Fin 8192) (h : Fin 4) : ℝ := (∑ c, I.vg n h c * I.vg n h c) / 128 + eps
def rv (n : Fin 8192) (h : Fin 4) : ℝ := (Real.sqrt (I.msv n h))⁻¹
def vh (n : Fin 8192) (h : Fin 4) (c : Fin 128) : ℝ := I.vg n h c * I.rv n h
def vn (n : Fin 8192) (h : Fin 4) (c : Fin 128) : ℝ := I.vh n h c * I.sgn h c
def wm (h : Fin 4) (i j : Fin 128) : ℝ := if seen i j then I.ws h i j else 0
def z (n : Fin 8192) (h : Fin 4) (c : Fin 128) : ℝ := ∑ j, I.wm h (pos n) j * I.vn (mate n j) h c + I.bs h (pos n)
def gated (n : Fin 8192) (h : Fin 4) (c : Fin 128) : ℝ := I.ug n h c * I.z n h c

def cnt (n : Fin 8192) (g : Fin 4) : ℝ := (min (n.val + 1) (width g) : ℕ)
def win (n : Fin 8192) (g : Fin 4) (c : Fin 128) : ℝ :=
  ∑ k ∈ Finset.range (width g), if k ≤ n.val then I.P ⟨n.val - k, by omega⟩ (cp g c) else 0
def pooled (n : Fin 8192) (g : Fin 4) (c : Fin 128) : ℝ := I.win n g c / cnt n g - I.P n (cp g c)
def y (n : Fin 8192) (g : Fin 4) (d : Fin 128) : ℝ := ∑ c, I.pooled n g c * I.wp g c d
def scaled (n : Fin 8192) (g : Fin 4) (d : Fin 128) : ℝ := I.y n g d * I.ps (lane g d)

/-- The mixed columns, and the mixture. -/
def cat (n : Fin 8192) (k : Fin 1024) : ℝ := if k.val < 512 then I.gated n (hd k.val) (ln k.val) else I.scaled n (hd k.val) (ln k.val)
def M (n : Fin 8192) (d : Fin 1024) : ℝ := ∑ k, I.cat n k * I.Wo k d
def ms2 (n : Fin 8192) : ℝ := (∑ d, I.M n d * I.M n d) / 1024 + eps
def r2 (n : Fin 8192) : ℝ := (Real.sqrt (I.ms2 n))⁻¹
def mh (n : Fin 8192) (d : Fin 1024) : ℝ := I.M n d * I.r2 n

/-! ### Backward -/

def dr (n : Fin 8192) (d : Fin 1024) : ℝ := I.e n d * I.gm d
def dmh (n : Fin 8192) (d : Fin 1024) : ℝ := I.dr n d * I.g2 d
def dm (n : Fin 8192) (d : Fin 1024) : ℝ := I.r2 n * (I.dmh n d - I.mh n d * ((∑ a, I.dmh n a * I.mh n a) / 1024))
def dcat (n : Fin 8192) (k : Fin 1024) : ℝ := ∑ d, I.dm n d * I.Wo k d

def dz (n : Fin 8192) (h : Fin 4) (c : Fin 128) : ℝ := I.dcat n (ka h c) * I.ug n h c
def dvn (n : Fin 8192) (h : Fin 4) (c : Fin 128) : ℝ := ∑ i, I.wm h i (pos n) * I.dz (mate n i) h c
def dvh (n : Fin 8192) (h : Fin 4) (c : Fin 128) : ℝ := I.dvn n h c * I.sgn h c
def dvg (n : Fin 8192) (h : Fin 4) (c : Fin 128) : ℝ :=
  I.rv n h * (I.dvh n h c - I.vh n h c * ((∑ a, I.dvh n h a * I.vh n h a) / 128))
def du (n : Fin 8192) (h : Fin 4) (c : Fin 128) : ℝ := I.dcat n (ka h c) * I.z n h c * gslope (I.P n (cu h c))
def dv (n : Fin 8192) (h : Fin 4) (c : Fin 128) : ℝ := I.dvg n h c * gslope (I.P n (cv h c))

def dy (n : Fin 8192) (g : Fin 4) (d : Fin 128) : ℝ := I.dcat n (kb g d) * I.ps (lane g d)
def dpooled (n : Fin 8192) (g : Fin 4) (c : Fin 128) : ℝ := ∑ d, I.dy n g d * I.wp g c d
def spread (n : Fin 8192) (g : Fin 4) (c : Fin 128) : ℝ := I.dpooled n g c * (1 / cnt n g)
/-- Row `n` of it, zero past the end. -/
def spreadPast (n : ℕ) (g : Fin 4) (c : Fin 128) : ℝ := if h : n < 8192 then I.spread ⟨n, h⟩ g c else 0
def dp (n : Fin 8192) (g : Fin 4) (c : Fin 128) : ℝ := ∑ k ∈ Finset.range (width g), I.spreadPast (n.val + k) g c - I.dpooled n g c

/-- The cotangent of the projected columns. -/
def dproj (n : Fin 8192) (k : Fin 1536) : ℝ :=
  if k.val < 512 then I.du n (hd k.val) (ln k.val) else if k.val < 1024 then I.dv n (hd k.val) (ln k.val) else I.dp n (hd k.val) (ln k.val)
def dh (n : Fin 8192) (d : Fin 1024) : ℝ := ∑ k, I.dproj n k * I.W d k
def dn1 (n : Fin 8192) (d : Fin 1024) : ℝ := I.dh n d * (1 + I.sc d)
def dxh (n : Fin 8192) (d : Fin 1024) : ℝ := I.dn1 n d * I.g1 d
def gx (n : Fin 8192) (d : Fin 1024) : ℝ := I.e n d + I.r1 n * (I.dxh n d - I.xh n d * ((∑ a, I.dxh n a * I.xh n a) / 1024))

/-! ### Sums over the tokens: what one token adds -/

def tmod (a : Fin 3) (n : Fin 8192) (d : Fin 1024) : ℝ := ![I.dh n d, I.dh n d * I.n1 n d, I.e n d * (I.mh n d * I.g2 d)] a
def tg1 (n : Fin 8192) (d : Fin 1024) : ℝ := I.dn1 n d * I.xh n d
def tg2 (n : Fin 8192) (d : Fin 1024) : ℝ := I.dr n d * I.mh n d
def twin (k : Fin 1536) (n : Fin 8192) (d : Fin 1024) : ℝ := I.dproj n k * I.h n d
def twout (k : Fin 1024) (n : Fin 8192) (d : Fin 1024) : ℝ := I.cat n k * I.dm n d
def tsgn (n : Fin 8192) (h : Fin 4) (c : Fin 128) : ℝ := I.dvn n h c * I.vh n h c
def tps (n : Fin 8192) (g : Fin 4) (d : Fin 128) : ℝ := I.dcat n (kb g d) * I.y n g d
def twp (n : Fin 8192) (g : Fin 4) (c d : Fin 128) : ℝ := I.pooled n g c * I.dy n g d

/-! ### Sums over the blocks: what block `b` adds -/

/-- Row `i` of block `b`. -/
def inBlock (b : Fin 64) (i : Fin 128) : Fin 8192 := ⟨b.val * 128 + i.val, by omega⟩
def tws (b : Fin 64) (h : Fin 4) (i j : Fin 128) : ℝ :=
  if seen i j then ∑ c, I.dz (inBlock b i) h c * I.vn (inBlock b j) h c else 0
def tbs (b : Fin 64) (h : Fin 4) (i : Fin 128) : ℝ := ∑ c, I.dz (inBlock b i) h c

theorem msv_pos (n : Fin 8192) (h : Fin 4) : 0 < I.msv n h := by
  have h1 : 0 ≤ ∑ c, I.vg n h c * I.vg n h c := Finset.sum_nonneg fun c _ => mul_self_nonneg _
  have := eps_pos
  unfold msv
  positivity
theorem ms1_pos (n : Fin 8192) : 0 < I.ms1 n := ms_pos _
theorem ms2_pos (n : Fin 8192) : 0 < I.ms2 n := ms_pos _
theorem cnt_pos (n : Fin 8192) (g : Fin 4) : 0 < cnt n g := by
  have h : ∀ g : Fin 4, 0 < width g := by decide
  unfold cnt
  exact_mod_cast Nat.lt_min.mpr ⟨Nat.succ_pos _, h g⟩

end Inp

/-! ### Columns and their head and lane -/

theorem hd_lane (h : Fin 4) (c : Fin 128) (o : ℕ) (ho : o % 512 = 0) : hd (o + (h.val * 128 + c.val)) = h := by
  apply Fin.ext; simp only [hd]; omega
theorem ln_lane (h : Fin 4) (c : Fin 128) (o : ℕ) (ho : o % 512 = 0) : ln (o + (h.val * 128 + c.val)) = c := by
  apply Fin.ext; simp only [ln]; omega

namespace Inp
variable (I : Inp)
theorem cat_ka (n : Fin 8192) (h : Fin 4) (c : Fin 128) : I.cat n (ka h c) = I.gated n h c := by
  have e := hd_lane h c 0 rfl; have e' := ln_lane h c 0 rfl
  rw [Nat.zero_add] at e e'
  unfold cat
  rw [if_pos (by simp only [ka]; omega)]
  simp only [ka, e, e']
theorem cat_kb (n : Fin 8192) (h : Fin 4) (c : Fin 128) : I.cat n (kb h c) = I.scaled n h c := by
  unfold cat
  rw [if_neg (by simp only [kb]; omega)]
  simp only [kb, hd_lane h c 512 rfl, ln_lane h c 512 rfl]
theorem dproj_cu (n : Fin 8192) (h : Fin 4) (c : Fin 128) : I.dproj n (cu h c) = I.du n h c := by
  have e := hd_lane h c 0 rfl; have e' := ln_lane h c 0 rfl
  rw [Nat.zero_add] at e e'
  unfold dproj
  rw [if_pos (by simp only [cu]; omega)]
  simp only [cu, e, e']
theorem dproj_cv (n : Fin 8192) (h : Fin 4) (c : Fin 128) : I.dproj n (cv h c) = I.dv n h c := by
  unfold dproj
  rw [if_neg (by simp only [cv]; omega), if_pos (by simp only [cv]; omega)]
  simp only [cv, hd_lane h c 512 rfl, ln_lane h c 512 rfl]
theorem dproj_cp (n : Fin 8192) (h : Fin 4) (c : Fin 128) : I.dproj n (cp h c) = I.dp n h c := by
  unfold dproj
  rw [if_neg (by simp only [cp]; omega), if_neg (by simp only [cp]; omega)]
  simp only [cp, hd_lane h c 1024 rfl, ln_lane h c 1024 rfl]
end Inp

/-! ### The constants -/

theorem c_128 : Ideal.ofBits .f32 0x43000000#32 = ((128 : ℝ) : EReal) := by
  simp [Ideal.ofBits, Ideal.ieee, -EReal.coe_mul]; norm_num
theorem gC_val : Ideal.ofBits .f32 0x3D372713#32 = ((12003091 / 2 ^ 28 : ℝ) : EReal) := by
  simp [Ideal.ofBits, Ideal.ieee, -EReal.coe_mul]; norm_num
theorem gK_val : Ideal.ofBits .f32 0x3F4C422A#32 = ((13386282 / 2 ^ 24 : ℝ) : EReal) := by
  simp [Ideal.ofBits, Ideal.ieee, -EReal.coe_mul]; norm_num
theorem c_gC : Ideal.ofBits .f32 0x3D372713#32 = (gC : EReal) := by rw [gC, gC_val, EReal.toReal_coe]
theorem c_gK : Ideal.ofBits .f32 0x3F4C422A#32 = (gK : EReal) := by rw [gK, gK_val, EReal.toReal_coe]
theorem gC_eq : gC = 12003091 / 2 ^ 28 := by rw [gC, gC_val, EReal.toReal_coe]
theorem gK_eq : gK = 13386282 / 2 ^ 24 := by rw [gK, gK_val, EReal.toReal_coe]
theorem c_gK_half : Ideal.ofBits .f32 0x3ECC422A#32 = ((1 / 2 * gK : ℝ) : EReal) := by
  rw [gK_eq]
  simp [Ideal.ofBits, Ideal.ieee, -EReal.coe_mul]; norm_num
theorem slope_eq : (241015141496493 / 4503599627370496 : ℝ) = 3 / 2 * gC * gK := by
  rw [gC_eq, gK_eq]; norm_num

end Cert.MixSpec

end
-- ==== Proof.MixVocAt.lean ====
/-
  The arithmetic of MixVoc.lean read at an index, over the extended reals, where what it is given are real numbers.
-/
module

public import proofs.«01_k».proof.Proof.MixVoc
public import proofs.«01_k».proof.Proof.MixSpec
public import proofs.«01_k».proof.Defs
public import Idealize.ShloMosaic.Lib.Pointwise
public import Idealize.ShloMosaic.Lib.KernelVsHost

@[expose] public section

set_option maxRecDepth 16384

noncomputable section

namespace Cert.MixIdeal.Own

open Cert.MixIdeal Cert.MixIdeal.Gen Cert.MixSpec
open Cert.Spec hiding Inp
open Idealize.ShloMosaic Idealize.ShloMosaic.TcCoe

section norms
variable {v u : Rows Ideal} {a b : Fin 512 → Fin 1024 → ℝ}

theorem rowMean_at (hv : ∀ i d, v (ix2 i d) = ((a i d : ℝ) : EReal)) (i : Fin 512) (z : Fin 1) :
    rowMean v (ix2 i z) = (((∑ d, a i d) / 1024 : ℝ) : EReal) := by
  unfold rowMean
  pointwise [hv, c_zero, c_1024, coe_sum, div_coe_coe _ (1024:ℝ) (by norm_num)]

theorem rowScale_at (hv : ∀ i d, v (ix2 i d) = ((a i d : ℝ) : EReal)) (i : Fin 512) (z : Fin 1) :
    rowScale v (ix2 i z) = (((Real.sqrt ((∑ d, a i d * a i d) / 1024 + eps))⁻¹ : ℝ) : EReal) := by
  have h2 : ∀ i d, mulf v v (ix2 i d) = ((a i d * a i d : ℝ) : EReal) := fun i d => by
    pointwise [hv, ← EReal.coe_mul]
  unfold rowScale
  pointwise [rowMean_at h2, c_eps, ← EReal.coe_add]
  exact rsqrt_of_pos _ (ms_pos _)

theorem normed_at (hv : ∀ i d, v (ix2 i d) = ((a i d : ℝ) : EReal)) (i : Fin 512) (d : Fin 1024) :
    normed v (ix2 i d) = ((a i d * (Real.sqrt ((∑ d, a i d * a i d) / 1024 + eps))⁻¹ : ℝ) : EReal) := by
  unfold normed
  pointwise [hv, rowScale_at hv, ← EReal.coe_mul]

theorem normBack_at (hv : ∀ i d, v (ix2 i d) = ((a i d : ℝ) : EReal)) (hu : ∀ i d, u (ix2 i d) = ((b i d : ℝ) : EReal))
    (r : Fin 512 → ℝ) (hr : ∀ i, r i = (Real.sqrt ((∑ d, a i d * a i d) / 1024 + eps))⁻¹) (i : Fin 512) (d : Fin 1024) :
    normBack v u (ix2 i d) = ((r i * (b i d - a i d * r i * ((∑ e, b i e * (a i e * r i)) / 1024)) : ℝ) : EReal) := by
  have h2 : ∀ i d, mulf u (normed v) (ix2 i d) = ((b i d * (a i d * r i) : ℝ) : EReal) := fun i d => by
    pointwise [hu, normed_at hv, ← EReal.coe_mul]
    rw [hr]
  unfold normBack
  pointwise [hu, normed_at hv, rowScale_at hv, rowMean_at h2, ← EReal.coe_mul, ← EReal.coe_sub]
  rw [hr]

theorem overRows_at (hv : ∀ i d, v (ix2 i d) = ((a i d : ℝ) : EReal)) (z : Fin 1) (d : Fin 1024) :
    overRows v (ix2 z d) = ((∑ i, a i d : ℝ) : EReal) := by
  unfold overRows
  pointwise [hv, c_zero, coe_sum]
end norms

section heads
variable {v u : Head Ideal} {a b : Fin 512 → Fin 128 → ℝ}

theorem headMean_at (hv : ∀ i d, v (ix2 i d) = ((a i d : ℝ) : EReal)) (i : Fin 512) (z : Fin 1) :
    headMean v (ix2 i z) = (((∑ d, a i d) / 128 : ℝ) : EReal) := by
  unfold headMean
  pointwise [hv, c_zero, c_128, coe_sum, div_coe_coe _ (128:ℝ) (by norm_num)]

theorem ms_pos_head (s : Fin 128 → ℝ) : 0 < (∑ d, s d * s d) / 128 + eps := by
  have h : 0 ≤ ∑ d, s d * s d := Finset.sum_nonneg fun d _ => mul_self_nonneg _
  have := eps_pos
  positivity

theorem headScale_at (hv : ∀ i d, v (ix2 i d) = ((a i d : ℝ) : EReal)) (i : Fin 512) (z : Fin 1) :
    headScale v (ix2 i z) = (((Real.sqrt ((∑ d, a i d * a i d) / 128 + eps))⁻¹ : ℝ) : EReal) := by
  have h2 : ∀ i d, mulf v v (ix2 i d) = ((a i d * a i d : ℝ) : EReal) := fun i d => by
    pointwise [hv, ← EReal.coe_mul]
  unfold headScale
  pointwise [headMean_at h2, c_eps, ← EReal.coe_add]
  exact rsqrt_of_pos _ (ms_pos_head _)

theorem normedH_at (hv : ∀ i d, v (ix2 i d) = ((a i d : ℝ) : EReal)) (i : Fin 512) (d : Fin 128) :
    normedH v (ix2 i d) = ((a i d * (Real.sqrt ((∑ d, a i d * a i d) / 128 + eps))⁻¹ : ℝ) : EReal) := by
  unfold normedH
  pointwise [hv, headScale_at hv, ← EReal.coe_mul]

theorem normBackH_at (hv : ∀ i d, v (ix2 i d) = ((a i d : ℝ) : EReal)) (hu : ∀ i d, u (ix2 i d) = ((b i d : ℝ) : EReal))
    (r : Fin 512 → ℝ) (hr : ∀ i, r i = (Real.sqrt ((∑ d, a i d * a i d) / 128 + eps))⁻¹) (i : Fin 512) (d : Fin 128) :
    normBackH v u (ix2 i d) = ((r i * (b i d - a i d * r i * ((∑ e, b i e * (a i e * r i)) / 128)) : ℝ) : EReal) := by
  have h2 : ∀ i d, mulf u (normedH v) (ix2 i d) = ((b i d * (a i d * r i) : ℝ) : EReal) := fun i d => by
    pointwise [hu, normedH_at hv, ← EReal.coe_mul]
    rw [hr]
  unfold normBackH
  pointwise [hu, normedH_at hv, headScale_at hv, headMean_at h2, ← EReal.coe_mul, ← EReal.coe_sub]
  rw [hr]

theorem overRowsH_at (hv : ∀ i d, v (ix2 i d) = ((a i d : ℝ) : EReal)) (z : Fin 1) (d : Fin 128) :
    overRowsH v (ix2 z d) = ((∑ i, a i d : ℝ) : EReal) := by
  unfold overRowsH
  pointwise [hv, c_zero, coe_sum]

theorem geluTanh_at {i : Fin 512} {c : Fin 128} {p : ℝ} (hv : v (ix2 i c) = (p : EReal)) : geluTanh v (ix2 i c) = ((gth p : ℝ) : EReal) := by
  unfold geluTanh
  pointwise [hv, c_gC, c_gK, ← EReal.coe_mul, ← EReal.coe_add, Ideal.tanh_coe]
  rfl
theorem geluCdf_at {i : Fin 512} {c : Fin 128} {p : ℝ} (hv : v (ix2 i c) = (p : EReal)) : geluCdf v (ix2 i c) = ((gcdf p : ℝ) : EReal) := by
  unfold geluCdf
  pointwise [geluTanh_at hv, c_half, ← EReal.coe_mul, ← EReal.coe_add]
  rfl
theorem gelu_at {i : Fin 512} {c : Fin 128} {p : ℝ} (hv : v (ix2 i c) = (p : EReal)) : gelu v (ix2 i c) = ((gel p : ℝ) : EReal) := by
  unfold gelu
  pointwise [hv, geluCdf_at hv, ← EReal.coe_mul]
  rfl
theorem named_slope : (Named.named Cert.MixIdeal.κ "gelu_slope" 0x3D5B33B6#32 : Ideal .f32) = ((3 / 2 * gC * gK : ℝ) : EReal) := by
  rw [← slope_eq]
  exact IdealRules.named_const.ideal_named_scalar _ _ _ _ rfl
theorem geluSlope_at {i : Fin 512} {c : Fin 128} {p : ℝ} (hv : v (ix2 i c) = (p : EReal)) :
    geluSlope v (ix2 i c) = ((gslope p : ℝ) : EReal) := by
  unfold geluSlope
  pointwise [hv, geluTanh_at hv, geluCdf_at hv, c_one, c_gK_half, named_slope, ← EReal.coe_mul, ← EReal.coe_add, ← EReal.coe_sub]
  rfl
end heads

theorem overCols_at {v : Block Ideal} {a : Fin 128 → Fin 128 → ℝ} (hv : ∀ i d, v (ix2 i d) = ((a i d : ℝ) : EReal)) (i : Fin 128) (z : Fin 1) :
    overCols v (ix2 i z) = ((∑ d, a i d : ℝ) : EReal) := by
  unfold overCols
  pointwise [hv, c_zero, coe_sum]

/-! ### The mask -/

theorem chunkOf_at (v : IVec S128x128 32) (k : S128x128.Idx) (i : Fin 128) (h : v k = BitVec.ofNat 32 i.val) :
    chunkOf v k = BitVec.ofNat 32 (i.val / 64) := by
  unfold chunkOf
  pointwise [h]
  clear h
  revert i
  decide
theorem sle_small : ∀ a b : Fin 2, IntOp.cmpi .sle (BitVec.ofNat 32 a.val) (BitVec.ofNat 32 b.val) = if a.val ≤ b.val then 1#1 else 0#1 := by decide
theorem mask_at (i j : Fin 128) : mask (ix2 i j) = if seen i j then 1#1 else 0#1 := by
  have h : mask (ix2 i j) = IntOp.cmpi .sle (chunkOf (iota .tc S128x128 32 [1] iota_S128x128_d1_w32) (ix2 i j))
      (chunkOf (iota .tc S128x128 32 [0] iota_S128x128_d0_w32) (ix2 i j)) := rfl
  have h1 : iota .tc S128x128 32 [1] iota_S128x128_d1_w32 (ix2 i j) = BitVec.ofNat 32 j.val := by pointwise []
  have h0 : iota .tc S128x128 32 [0] iota_S128x128_d0_w32 (ix2 i j) = BitVec.ofNat 32 i.val := by pointwise []
  rw [h, chunkOf_at _ _ j h1, chunkOf_at _ _ i h0]
  exact sle_small ⟨j.val / 64, by omega⟩ ⟨i.val / 64, by omega⟩
theorem masked_at (v : Block Ideal) (i j : Fin 128) {p : ℝ} (hv : v (ix2 i j) = (p : EReal)) :
    masked v (ix2 i j) = (((if seen i j then p else 0) : ℝ) : EReal) := by
  pointwise [mask_at, hv, c_zero]
  by_cases h : seen i j <;> simp [h, Scalar.select]

/-! ### Windows of rows -/

/-- `v` sums `w` rows of `a`, each `μ` places after the one before it, around the end. -/
def Rolled (μ w : ℕ) (a : Fin 528 → Fin 128 → ℝ) (v : Tall Ideal) : Prop :=
  ∀ n c, v (ix2 n c) = ((∑ j ∈ Finset.range w, a ⟨(n.val + μ * j) % 528, Nat.mod_lt _ (by norm_num)⟩ c : ℝ) : EReal)

theorem Rolled.step {μ w : ℕ} {a : Fin 528 → Fin 128 → ℝ} {v : Tall Ideal} (h : Rolled μ w a v) (k : BitVec 32)
    (hk : (μ * w) % 528 = 528 - k.toNat) (hk0 : k.toNat < 528) :
    Rolled μ (w + w) a (addf v (dynamicRotate 0 k none v rotates_S528x128_d0)) := by
  intro n c
  have hn := n.isLt
  have e : dynamicRotate 0 k none v rotates_S528x128_d0 (ix2 n c) = v (ix2 ⟨(n.val + 528 - k.toNat) % 528, Nat.mod_lt _ (by norm_num)⟩ c) :=
    dynamicRotate_apply _ _ _ _ _ _ fun b => by
      match b with
      | ⟨0, _⟩ => show (n.val + 528 - k.toNat) % 528 = (n.val + 528 - k.toNat % 528) % 528; rw [Nat.mod_eq_of_lt hk0]
      | ⟨1, _⟩ => rfl
  show v (ix2 n c) + dynamicRotate 0 k none v rotates_S528x128_d0 (ix2 n c) = _
  rw [e, h, h, ← EReal.coe_add, Finset.sum_range_add]
  congr 2
  refine Finset.sum_congr rfl fun j _ => ?_
  congr 1
  apply Fin.ext
  show ((n.val + 528 - k.toNat) % 528 + μ * j) % 528 = (n.val + μ * (w + j)) % 528
  rw [Nat.mul_add]
  generalize μ * w = q at hk
  generalize μ * j = r
  omega

theorem Rolled.one (μ : ℕ) {a : Fin 528 → Fin 128 → ℝ} {v : Tall Ideal} (hv : ∀ n c, v (ix2 n c) = ((a n c : ℝ) : EReal)) : Rolled μ 1 a v := by
  intro n c
  rw [Finset.sum_range_one, hv]
  congr 2
  exact Fin.ext (Nat.mod_eq_of_lt n.isLt).symm

theorem sums_back (g : Fin 4) {a : Fin 528 → Fin 128 → ℝ} {v : Tall Ideal} (hv : ∀ n c, v (ix2 n c) = ((a n c : ℝ) : EReal)) :
    Rolled 527 (width g) a (sums (backSteps g) v) := by
  have h1 := (Rolled.one 527 hv).step 1#32 (by decide) (by decide)
  match g with
  | 0 => exact h1
  | 1 => exact h1.step 2#32 (by decide) (by decide)
  | 2 => exact (h1.step 2#32 (by decide) (by decide)).step 4#32 (by decide) (by decide)
  | 3 => exact ((h1.step 2#32 (by decide) (by decide)).step 4#32 (by decide) (by decide)).step 8#32 (by decide) (by decide)
theorem sums_fore (g : Fin 4) {a : Fin 528 → Fin 128 → ℝ} {v : Tall Ideal} (hv : ∀ n c, v (ix2 n c) = ((a n c : ℝ) : EReal)) :
    Rolled 1 (width g) a (sums (foreSteps g) v) := by
  have h1 := (Rolled.one 1 hv).step 527#32 (by decide) (by decide)
  match g with
  | 0 => exact h1
  | 1 => exact h1.step 526#32 (by decide) (by decide)
  | 2 => exact (h1.step 526#32 (by decide) (by decide)).step 524#32 (by decide) (by decide)
  | 3 => exact ((h1.step 526#32 (by decide) (by decide)).step 524#32 (by decide) (by decide)).step 520#32 (by decide) (by decide)

/-! ### The count of a window -/

theorem count_of : ∀ (g : Fin 4) (n : Fin 8192),
    (IntOp.minsi (BitVec.ofNat 32 (n.val + 1)) (widthW g)).toInt = (min (n.val + 1) (width g) : ℕ) := by
  decide +kernel

end Cert.MixIdeal.Own

end
-- ==== Proof.MixTile.lean ====
/-
  One grid point's arithmetic of the mixing half where it loads the tile of 512 rows numbered `T`: what it computes at an
  index, in the words of MixSpec.lean.
-/
module

public import proofs.«01_k».proof.Proof.MixVocAt

@[expose] public section

set_option maxRecDepth 16384

noncomputable section

namespace Cert.MixIdeal.Own

open Cert.MixIdeal Cert.MixIdeal.Gen Cert.MixSpec
open Cert.Spec hiding Inp
open Idealize.ShloMosaic Idealize.ShloMosaic.TcCoe

/-- Row `i` of the tile `T`; row `i` of its block `b`; row `s` of the sixteen before it, the first tile taking its own. -/
def row (T : Fin 16) (i : Fin 512) : Fin 8192 := ⟨T.val * 512 + i.val, by omega⟩
def inTile (b : Fin 4) (i : Fin 128) : Fin 512 := ⟨b.val * 128 + i.val, by omega⟩
def rowIn (T : Fin 16) (b : Fin 4) (i : Fin 128) : Fin 8192 := row T (inTile b i)
def rowB (T : Fin 16) (s : Fin 16) : Fin 8192 := ⟨T.val * 512 - 16 + s.val, by omega⟩
/-- Block `b` of the tile among all. -/
def blockOf (T : Fin 16) (b : Fin 4) : Fin 64 := ⟨T.val * 4 + b.val, by omega⟩

theorem inBlock_blockOf (T : Fin 16) (b : Fin 4) (i : Fin 128) : Inp.inBlock (blockOf T b) i = rowIn T b i := by
  apply Fin.ext; simp only [Inp.inBlock, blockOf, rowIn, row, inTile]; omega
theorem pos_rowIn (T : Fin 16) (b : Fin 4) (i : Fin 128) : pos (rowIn T b i) = i := by
  apply Fin.ext; simp only [pos, rowIn, row, inTile]; omega
theorem mate_rowIn (T : Fin 16) (b : Fin 4) (i j : Fin 128) : mate (rowIn T b i) j = rowIn T b j := by
  apply Fin.ext; simp only [mate, rowIn, row, inTile]; omega
theorem inTile_split (i : Fin 512) : i = inTile ⟨i.val / 128, by omega⟩ ⟨i.val % 128, by omega⟩ := by
  apply Fin.ext; simp only [inTile]; omega

/-- The tile's pooled columns after the sixteen rows before it, nothing before the first row of all. -/
def extR (I : Inp) (T : Fin 16) (g : Fin 4) (n : Fin 528) (c : Fin 128) : ℝ :=
  if h : 16 ≤ T.val * 512 + n.val then I.P ⟨T.val * 512 + n.val - 16, by omega⟩ (cp g c) else 0

/-- What the point at tile `T` loads that the projected columns come from. -/
structure RowsAt (I : Inp) (T : Fin 16) (L : Loads Ideal) : Prop where
  x : ∀ i d, L.x (ix2 i d) = ((I.x (row T i) d : ℝ) : EReal)
  sh : ∀ (z : Fin 1) d, L.sh (ix2 z d) = ((I.sh d : ℝ) : EReal)
  sc : ∀ (z : Fin 1) d, L.sc (ix2 z d) = ((I.sc d : ℝ) : EReal)
  gm : ∀ (z : Fin 1) d, L.gm (ix2 z d) = ((I.gm d : ℝ) : EReal)
  g1 : ∀ (z : Fin 1) d, L.g1 (ix2 z d) = ((I.g1 d : ℝ) : EReal)
  win : ∀ k d, L.win (ix2 k d) = ((I.W d k : ℝ) : EReal)
  r : L.r = BitVec.ofNat 32 T.val

/-- What the point at tile `T` loads of the two programs' inputs. -/
structure At (I : Inp) (T : Fin 16) (L : Loads Ideal) : Prop extends RowsAt I T L where
  e : ∀ i d, L.e (ix2 i d) = ((I.e (row T i) d : ℝ) : EReal)
  mx : ∀ i d, L.mx (ix2 i d) = ((I.M (row T i) d : ℝ) : EReal)
  g2 : ∀ (z : Fin 1) d, L.g2 (ix2 z d) = ((I.g2 d : ℝ) : EReal)
  wout : ∀ k d, L.wout (ix2 k d) = ((I.Wo k d : ℝ) : EReal)
  u : ∀ h i c, L.u h (ix2 i c) = ((I.P (row T i) (cu h c) : ℝ) : EReal)
  v : ∀ h i c, L.v h (ix2 i c) = ((I.P (row T i) (cv h c) : ℝ) : EReal)
  p : ∀ i g c, L.p (ix2 i (lane g c)) = ((I.P (row T i) (cp g c) : ℝ) : EReal)
  halo : ∀ s g c, L.halo (ix2 s (lane g c)) = ((I.P (rowB T s) (cp g c) : ℝ) : EReal)
  sgn : ∀ h (z : Fin 1) c, L.sgn h (ix2 z c) = ((I.sgn h c : ℝ) : EReal)
  ws : ∀ h (z : Fin 1) i j, L.ws h (ix3 z i j) = ((I.ws h i j : ℝ) : EReal)
  bs : ∀ h i (z : Fin 1), L.bs h (ix2 i z) = ((I.bs h i : ℝ) : EReal)
  wp : ∀ g (z : Fin 1) c d, L.wp g (ix3 z c d) = ((I.wp g c d : ℝ) : EReal)
  ps : ∀ g (z : Fin 1) d, L.ps g (ix2 z d) = ((I.ps (lane g d) : ℝ) : EReal)

/-- What it loads of the buffers it has filled. -/
structure MidAt (I : Inp) (T : Fin 16) (M : Mid Ideal) : Prop where
  da : ∀ h b i c, M.da h b (ix2 i c) = ((I.dcat (rowIn T b i) (ka h c) : ℝ) : EReal)
  dob : ∀ g i c, M.dob g (ix2 i c) = ((I.dcat (row T i) (kb g c) : ℝ) : EReal)
  ext : ∀ g n c, M.ext g (ix2 n c) = ((extR I T g n c : ℝ) : EReal)

/-- The spread cotangent with the sixteen rows after the tile. -/
def After (I : Inp) (T : Fin 16) (w : Fin 4 → Tall Ideal) : Prop :=
  ∀ g n c, w g (ix2 n c) = ((I.spreadPast (T.val * 512 + n.val) g c : ℝ) : EReal)

theorem blk_at {φ : FTy} (v : FVec Ideal S512x128 φ) (b : Fin 4) (i c : Fin 128) : blk v b (ix2 i c) = v (ix2 (inTile b i) c) :=
  extractStridedSlice_apply _ _ _ _ _ fun a => by
    match a with
    | ⟨0, _⟩ => rfl
    | ⟨1, _⟩ => exact (Nat.zero_add _).symm

/-- Four blocks, one under another. -/
theorem stack_at (f : Fin 4 → Block Ideal) (hc) (b : Fin 4) (k c : Fin 128) :
    concatenate S512x128 0 [⟨S128x128, f 0⟩, ⟨S128x128, f 1⟩, ⟨S128x128, f 2⟩, ⟨S128x128, f 3⟩] hc (ix2 (inTile b k) c) = f b (ix2 k c) := by
  have hi : ∀ a : Fin S128x128.rank, a.cast rfl ≠ (0 : Fin S512x128.rank)
      → ((ix2 k c : S128x128.Idx) a).val = ((ix2 (inTile b k) c : S512x128.Idx) (a.cast rfl)).val := fun a ha => by
    match a with
    | ⟨0, _⟩ => exact absurd rfl ha
    | ⟨1, _⟩ => rfl
  match b with
  | 0 => exact concatenate_apply_piece (t := S512x128) 0 _ hc _ 0 (Nat.succ_pos _) S128x128 (f 0) rfl rfl 0 rfl (ix2 k c) hi rfl
  | 1 => exact concatenate_apply_piece (t := S512x128) 0 _ hc _ 1 (show 1 < 4 by decide) S128x128 (f 1) rfl rfl 128 rfl (ix2 k c) hi rfl
  | 2 => exact concatenate_apply_piece (t := S512x128) 0 _ hc _ 2 (show 2 < 4 by decide) S128x128 (f 2) rfl rfl 256 rfl (ix2 k c) hi rfl
  | 3 => exact concatenate_apply_piece (t := S512x128) 0 _ hc _ 3 (show 3 < 4 by decide) S128x128 (f 3) rfl rfl 384 rfl (ix2 k c) hi rfl

theorem sgt_zero : ∀ T : Fin 16, Scalar.cmpi .sgt (BitVec.ofNat 32 T.val) 0#32 = if T.val = 0 then 0#1 else 1#1 := by decide

namespace RowsAt

variable {I : Inp} {T : Fin 16} {L : Loads Ideal} (H : RowsAt I T L)
include H

theorem xh_at (i : Fin 512) (d : Fin 1024) : normed L.x (ix2 i d) = ((I.xh (row T i) d : ℝ) : EReal) := by
  rw [normed_at H.x]; rfl
theorem n1_at (i : Fin 512) (d : Fin 1024) : L.n1 (ix2 i d) = ((I.n1 (row T i) d : ℝ) : EReal) := by
  unfold Loads.n1
  pointwise [H.xh_at, H.g1, ← EReal.coe_mul]; rfl
theorem one_at (z : Fin 1) (d : Fin 1024) : onePlus L.sc (ix2 z d) = ((1 + I.sc d : ℝ) : EReal) := by
  unfold onePlus
  pointwise [H.sc, c_one, ← EReal.coe_add]
theorem h_at (i : Fin 512) (d : Fin 1024) : L.h (ix2 i d) = ((I.h (row T i) d : ℝ) : EReal) := by
  unfold Loads.h Loads.scr Loads.shr
  rw [shapeCast_self, shapeCast_self]
  pointwise [H.n1_at, H.one_at, H.sh, ← EReal.coe_mul, ← EReal.coe_add]; rfl
theorem inv_at (g : Fin 4) (i : Fin 512) (z : Fin 1) : L.inv g (ix2 i z) = ((1 / Inp.cnt (row T i) g : ℝ) : EReal) := by
  have e : IntOp.addi (IntOp.addi (Scalar.muli (BitVec.ofNat 32 T.val) 512#32) (BitVec.ofNat 32 i.val)) 1#32
      = BitVec.ofNat 32 ((row T i).val + 1) := by
    show BitVec.ofNat 32 T.val * BitVec.ofNat 32 512 + BitVec.ofNat 32 i.val + BitVec.ofNat 32 1 = _
    rw [← BitVec.ofNat_mul, ← BitVec.ofNat_add, ← BitVec.ofNat_add]; rfl
  have e2 : (FloatOps.sitofp .f32 (IntOp.minsi (BitVec.ofNat 32 ((row T i).val + 1)) (widthW g)) : Ideal .f32)
      = ((Inp.cnt (row T i) g : ℝ) : EReal) := by
    show (((IntOp.minsi (BitVec.ofNat 32 ((row T i).val + 1)) (widthW g)).toInt : ℝ) : EReal) = _
    rw [count_of]; rfl
  unfold Loads.inv
  rw [H.r]
  pointwise [c_one, e, e2]
  exact div_coe_coe _ _ (Inp.cnt_pos _ _).ne'
/-- The window's mean less the row, where the tile is loaded with the rows before it. -/
theorem pooled_of {M : Mid Ideal} (K : ∀ g n c, M.ext g (ix2 n c) = ((extR I T g n c : ℝ) : EReal)) (g : Fin 4) (i : Fin 512) (c : Fin 128) : L.pooled M g (ix2 i c) = ((I.pooled (row T i) g c : ℝ) : EReal) := by
  have hi := i.isLt
  have hT := T.isLt
  have e : extractStridedSlice S512x128 ![16, 0] (sums (backSteps g) (M.ext g)) slices_S528x128_o16_0_S512x128 (ix2 i c)
      = ((I.win (row T i) g c : ℝ) : EReal) := by
    have hg : ∀ g : Fin 4, width g ≤ 16 := by decide
    refine Eq.trans (b := sums (backSteps g) (M.ext g) (ix2 ⟨16 + i.val, by omega⟩ c)) (by pointwise []) ?_
    rw [sums_back g (K g)]
    unfold Inp.win
    congr 1
    refine Finset.sum_congr rfl fun j hj => ?_
    have hj' := Finset.mem_range.mp hj
    have := hg g
    unfold extR
    by_cases hc : j ≤ (row T i).val
    · have hc' : j ≤ T.val * 512 + i.val := hc
      rw [if_pos hc, dif_pos (by simp only; omega)]
      congr 1; apply Fin.ext; simp only [row]; omega
    · have hc' : ¬ j ≤ T.val * 512 + i.val := hc
      rw [if_neg hc, dif_neg (by simp only; omega)]
  have e2 : extractStridedSlice S512x128 ![16, 0] (M.ext g) slices_S528x128_o16_0_S512x128 (ix2 i c)
      = ((I.P (row T i) (cp g c) : ℝ) : EReal) := by
    refine Eq.trans (b := M.ext g (ix2 ⟨16 + i.val, by omega⟩ c)) (by pointwise []) ?_
    rw [K, extR, dif_pos (by simp only; omega)]
    congr 2; apply Fin.ext; simp only [row]; omega
  unfold Loads.pooled
  refine Eq.trans (b := extractStridedSlice S512x128 ![16, 0] (sums (backSteps g) (M.ext g)) slices_S528x128_o16_0_S512x128 (ix2 i c)
      * L.inv g (ix2 i 0) - extractStridedSlice S512x128 ![16, 0] (M.ext g) slices_S528x128_o16_0_S512x128 (ix2 i c)) ?_ ?_
  · generalize extractStridedSlice S512x128 ![16, 0] (sums (backSteps g) (M.ext g)) slices_S528x128_o16_0_S512x128 = A
    generalize extractStridedSlice S512x128 ![16, 0] (M.ext g) slices_S528x128_o16_0_S512x128 = B
    pointwise []
  · rw [e, e2, H.inv_at, ← EReal.coe_mul, ← EReal.coe_sub, mul_one_div]; rfl

end RowsAt

namespace At

variable {I : Inp} {T : Fin 16} {L : Loads Ideal} (H : At I T L)
include H

/-! ### The rows -/

theorem dr_at (i : Fin 512) (d : Fin 1024) : L.dr (ix2 i d) = ((I.dr (row T i) d : ℝ) : EReal) := by
  unfold Loads.dr
  pointwise [H.e, H.gm, ← EReal.coe_mul]; rfl
theorem dmh_at (i : Fin 512) (d : Fin 1024) : L.dmh (ix2 i d) = ((I.dmh (row T i) d : ℝ) : EReal) := by
  unfold Loads.dmh
  pointwise [H.dr_at, H.g2, ← EReal.coe_mul]; rfl
theorem dm_at (i : Fin 512) (d : Fin 1024) : L.dm (ix2 i d) = ((I.dm (row T i) d : ℝ) : EReal) := by
  unfold Loads.dm Loads.mm
  rw [shapeCast_self]
  pointwise [normBack_at H.mx H.dmh_at (fun i => I.r2 (row T i)) (fun _ => rfl)]
  rfl
theorem dcat_at (i : Fin 512) (k : Fin 1024) : L.dcat (ix2 i k) = ((I.dcat (row T i) k : ℝ) : EReal) := by
  unfold Loads.dcat
  pointwise [dot_S512x1024_S1024x1024_S512x1024_1_1_0_0_n_n, H.dm_at, H.wout, c_zero, ← EReal.coe_mul, coe_sum, ← EReal.coe_add, zero_add]
  rfl
theorem mh_at (i : Fin 512) (d : Fin 1024) : normed L.mx (ix2 i d) = ((I.mh (row T i) d : ℝ) : EReal) := by
  rw [normed_at H.mx]; rfl
/-! ### A head -/

theorem ug_at (h : Fin 4) (i : Fin 512) (c : Fin 128) : L.ug h (ix2 i c) = ((I.ug (row T i) h c : ℝ) : EReal) := by
  unfold Loads.ug Loads.uu
  rw [shapeCast_self]
  exact gelu_at (H.u h i c)
theorem vg_at (h : Fin 4) (i : Fin 512) (c : Fin 128) : L.vg h (ix2 i c) = ((I.vg (row T i) h c : ℝ) : EReal) := by
  unfold Loads.vg Loads.vv
  rw [shapeCast_self]
  exact gelu_at (H.v h i c)
theorem vh_at (h : Fin 4) (i : Fin 512) (c : Fin 128) : normedH (L.vg h) (ix2 i c) = ((I.vh (row T i) h c : ℝ) : EReal) := by
  rw [normedH_at (H.vg_at h)]; rfl
theorem vn_at (h : Fin 4) (i : Fin 512) (c : Fin 128) : L.vn h (ix2 i c) = ((I.vn (row T i) h c : ℝ) : EReal) := by
  unfold Loads.vn
  pointwise [H.vh_at, H.sgn, ← EReal.coe_mul]; rfl
theorem wm_at (h : Fin 4) (i j : Fin 128) : L.wm h (ix2 i j) = ((I.wm h i j : ℝ) : EReal) := by
  have e : shapeCast S128x128 (L.ws h) shapeCasts_S1x128x128_S128x128 (ix2 i j) = ((I.ws h i j : ℝ) : EReal) := by
    pointwise [H.ws]
  exact masked_at _ i j e
theorem z_at (h b : Fin 4) (i c : Fin 128) : L.z h b (ix2 i c) = ((I.z (rowIn T b i) h c : ℝ) : EReal) := by
  unfold Loads.z
  pointwise [dot_S128x128_S128x128_S128x128_1_0_0_1_n_n, blk_at, H.wm_at, H.vn_at, H.bs, c_zero, ← EReal.coe_mul, coe_sum, ← EReal.coe_add, zero_add]
  unfold Inp.z
  simp only [pos_rowIn, mate_rowIn]; rfl
theorem gated_at (h b : Fin 4) (i c : Fin 128) : L.gated h b (ix2 i c) = ((I.gated (rowIn T b i) h c : ℝ) : EReal) := by
  unfold Loads.gated
  pointwise [blk_at, H.ug_at, H.z_at, ← EReal.coe_mul]; rfl

section mid
variable {M : Mid Ideal} (K : MidAt I T M)
include K

theorem dz_at (h b : Fin 4) (i c : Fin 128) : L.dz M h b (ix2 i c) = ((I.dz (rowIn T b i) h c : ℝ) : EReal) := by
  unfold Loads.dz
  pointwise [blk_at, H.ug_at, K.da, ← EReal.coe_mul]; rfl
theorem dzb_at (h b : Fin 4) (i c : Fin 128) : L.dzb M h b (ix2 i c) = ((I.dz (rowIn T b i) h c : ℝ) : EReal) := H.dz_at K h b i c
theorem dvnB_at (h b : Fin 4) (j c : Fin 128) : L.dvnB M h b (ix2 j c) = ((I.dvn (rowIn T b j) h c : ℝ) : EReal) := by
  unfold Loads.dvnB
  pointwise [dot_S128x128_S128x128_S128x128_0_0_1_1_n_n, H.wm_at, H.dzb_at K, c_zero, ← EReal.coe_mul, coe_sum, ← EReal.coe_add, zero_add]
  unfold Inp.dvn
  simp only [pos_rowIn, mate_rowIn]
theorem dvn_at (h : Fin 4) (i : Fin 512) (c : Fin 128) : L.dvn M h (ix2 i c) = ((I.dvn (row T i) h c : ℝ) : EReal) := by
  obtain ⟨b, k, rfl⟩ : ∃ b k, i = inTile b k := ⟨_, _, inTile_split i⟩
  refine Eq.trans (b := L.dvnB M h b (ix2 k c)) ?_ (H.dvnB_at K h b k c)
  unfold Loads.dvn
  exact stack_at (L.dvnB M h) _ b k c
theorem du_at (h b : Fin 4) (i c : Fin 128) : L.du M h b (ix2 i c) = ((I.du (rowIn T b i) h c : ℝ) : EReal) := by
  unfold Loads.du Loads.uu
  rw [shapeCast_self]
  pointwise [blk_at, K.da, H.z_at, geluSlope_at (H.u h _ c), ← EReal.coe_mul]; rfl
theorem dv_at (h : Fin 4) (i : Fin 512) (c : Fin 128) : L.dv M h (ix2 i c) = ((I.dv (row T i) h c : ℝ) : EReal) := by
  have hu : ∀ i c, mulf (L.dvn M h) (tallH (L.sgn h)) (ix2 i c) = ((I.dvh (row T i) h c : ℝ) : EReal) := fun i c => by
    pointwise [H.dvn_at K, H.sgn, ← EReal.coe_mul]; rfl
  unfold Loads.dv Loads.vv
  rw [shapeCast_self]
  pointwise [normBackH_at (H.vg_at h) hu (fun i => I.rv (row T i) h) (fun _ => rfl), geluSlope_at (H.v h i c), ← EReal.coe_mul]; rfl

theorem tsgn_at (h : Fin 4) (z : Fin 1) (c : Fin 128) : L.tsgn M h (ix2 z c) = ((∑ i, I.tsgn (row T i) h c : ℝ) : EReal) :=
  overRowsH_at (a := fun i c => I.tsgn (row T i) h c) (fun i c => by pointwise [H.dvn_at K, H.vh_at, ← EReal.coe_mul]; rfl) z c
theorem tws_at (h : Fin 4) (i j : Fin 128) : L.tws M h (ix2 i j) = ((∑ b, I.tws (blockOf T b) h i j : ℝ) : EReal) := by
  have e : L.dwm M h (ix2 i j) = ((∑ b, ∑ c, I.dz (rowIn T b i) h c * I.vn (rowIn T b j) h c : ℝ) : EReal) := by
    unfold Loads.dwm
    pointwise [dot_S128x128_S128x128_S128x128_1_1_0_0_n_n, blk_at, H.dzb_at K, H.vn_at, c_zero, ← EReal.coe_mul, coe_sum, ← EReal.coe_add, zero_add]
    rw [Fin.sum_univ_four]; rfl
  unfold Loads.tws
  rw [masked_at _ i j e]
  unfold Inp.tws
  simp only [inBlock_blockOf]
  by_cases hs : seen i j <;> simp [hs]
theorem tbs_at (h : Fin 4) (i : Fin 128) (z : Fin 1) : L.tbs M h (ix2 i z) = ((∑ b, I.tbs (blockOf T b) h i : ℝ) : EReal) := by
  have e : ∀ i c, L.dzSum M h (ix2 i c) = ((∑ b, I.dz (rowIn T b i) h c : ℝ) : EReal) := fun i c => by
    unfold Loads.dzSum
    pointwise [H.dz_at K, c_zero, ← EReal.coe_add, zero_add]
    rw [Fin.sum_univ_four]
  unfold Loads.tbs
  rw [overCols_at e]
  unfold Inp.tbs
  simp only [inBlock_blockOf]
  rw [Finset.sum_comm]
end mid

/-! ### A group -/

theorem keep_at : L.keep = (((if T.val = 0 then 0 else 1) : ℝ) : EReal) := by
  unfold Loads.keep
  rw [H.r, sgt_zero]
  by_cases h : T.val = 0
  · rw [if_pos h, if_pos h]; exact c_zero
  · rw [if_neg h, if_neg h]; exact c_one
theorem before_at (s : Fin 16) (g : Fin 4) (c : Fin 128) : L.before (ix2 s (lane g c))
    = (((if T.val = 0 then 0 else I.P (rowB T s) (cp g c)) : ℝ) : EReal) := by
  unfold Loads.before
  pointwise [H.halo, H.keep_at, ← EReal.coe_mul]
  by_cases h : T.val = 0 <;> simp [h]
section mid
variable {M : Mid Ideal} (K : MidAt I T M)
include K

theorem pooled_at (g : Fin 4) (i : Fin 512) (c : Fin 128) : L.pooled M g (ix2 i c) = ((I.pooled (row T i) g c : ℝ) : EReal) :=
  H.pooled_of K.ext g i c
theorem wpg_at (g : Fin 4) (c d : Fin 128) : L.wpg g (ix2 c d) = ((I.wp g c d : ℝ) : EReal) := by
  unfold Loads.wpg
  pointwise [H.wp]
theorem y_at (g : Fin 4) (i : Fin 512) (d : Fin 128) : L.y M g (ix2 i d) = ((I.y (row T i) g d : ℝ) : EReal) := by
  unfold Loads.y
  pointwise [dot_S512x128_S128x128_S512x128_1_0_0_1_n_n, H.pooled_at K, H.wpg_at K, c_zero, ← EReal.coe_mul, coe_sum, ← EReal.coe_add, zero_add]
  rfl
theorem scaled_at (g : Fin 4) (i : Fin 512) (d : Fin 128) : L.scaled M g (ix2 i d) = ((I.scaled (row T i) g d : ℝ) : EReal) := by
  unfold Loads.scaled
  pointwise [H.y_at K, H.ps, ← EReal.coe_mul]; rfl
theorem dy_at (g : Fin 4) (i : Fin 512) (d : Fin 128) : L.dy M g (ix2 i d) = ((I.dy (row T i) g d : ℝ) : EReal) := by
  unfold Loads.dy
  pointwise [K.dob, H.ps, ← EReal.coe_mul]; rfl
theorem dpooled_at (g : Fin 4) (i : Fin 512) (c : Fin 128) : L.dpooled M g (ix2 i c) = ((I.dpooled (row T i) g c : ℝ) : EReal) := by
  unfold Loads.dpooled
  pointwise [dot_S512x128_S128x128_S512x128_1_1_0_0_n_n, H.dy_at K, H.wpg_at K, c_zero, ← EReal.coe_mul, coe_sum, ← EReal.coe_add, zero_add]
  rfl
theorem spread_at (g : Fin 4) (i : Fin 512) (c : Fin 128) : L.spread M g (ix2 i c) = ((I.spread (row T i) g c : ℝ) : EReal) := by
  unfold Loads.spread
  pointwise [H.dpooled_at K, H.inv_at, ← EReal.coe_mul]; rfl
theorem dp_at {w : Fin 4 → Tall Ideal} (A : After I T w) (g : Fin 4) (i : Fin 512) (c : Fin 128) :
    L.dp M w g (ix2 i c) = ((I.dp (row T i) g c : ℝ) : EReal) := by
  have hi := i.isLt
  have hg : ∀ g : Fin 4, width g ≤ 16 := by decide
  have e : extractStridedSlice S512x128 ![0, 0] (sums (foreSteps g) (w g)) slices_S528x128_o0_0_S512x128 (ix2 i c)
      = ((∑ k ∈ Finset.range (width g), I.spreadPast ((row T i).val + k) g c : ℝ) : EReal) := by
    refine Eq.trans (b := sums (foreSteps g) (w g) (ix2 ⟨0 + i.val, by omega⟩ c)) (by pointwise []) ?_
    rw [sums_fore g (A g)]
    congr 1
    refine Finset.sum_congr rfl fun j hj => ?_
    have hj' := Finset.mem_range.mp hj
    have := hg g
    exact congrArg (fun n => I.spreadPast n g c) (show T.val * 512 + (0 + i.val + 1 * j) % 528 = T.val * 512 + i.val + j by omega)
  unfold Loads.dp
  refine Eq.trans (b := extractStridedSlice S512x128 ![0, 0] (sums (foreSteps g) (w g)) slices_S528x128_o0_0_S512x128 (ix2 i c)
      - L.dpooled M g (ix2 i c)) rfl ?_
  rw [e, H.dpooled_at K, ← EReal.coe_sub]; rfl
theorem tps_at (g : Fin 4) (z : Fin 1) (d : Fin 128) : L.tps M g (ix2 z d) = ((∑ i, I.tps (row T i) g d : ℝ) : EReal) :=
  overRowsH_at (a := fun i d => I.tps (row T i) g d) (fun i d => by pointwise [K.dob, H.y_at K, ← EReal.coe_mul]; rfl) z d
theorem twp_at (g : Fin 4) (c d : Fin 128) : L.twp M g (ix2 c d) = ((∑ i, I.twp (row T i) g c d : ℝ) : EReal) := by
  unfold Loads.twp
  pointwise [dot_S512x128_S512x128_S128x128_0_0_1_1_n_n, H.pooled_at K, H.dy_at K, c_zero, ← EReal.coe_mul, coe_sum, ← EReal.coe_add, zero_add]
  rfl
end mid

/-! ### The rows, from the cotangent of the projected columns and the mixed columns -/

section back
variable {q : FVec Ideal S512x1536 .bf16} (Q : ∀ i k, q (ix2 i k) = ((I.dproj (row T i) k : ℝ) : EReal))
include Q

theorem twin_at (k : Fin 1536) (d : Fin 1024) : L.twin q (ix2 k d) = ((∑ i, I.twin k (row T i) d : ℝ) : EReal) := by
  unfold Loads.twin
  pointwise [dot_S512x1536_S512x1024_S1536x1024_0_0_1_1_n_n, Q, H.h_at, c_zero, ← EReal.coe_mul, coe_sum, ← EReal.coe_add, zero_add]
  rfl
theorem dh_at (i : Fin 512) (d : Fin 1024) : L.dh q (ix2 i d) = ((I.dh (row T i) d : ℝ) : EReal) := by
  unfold Loads.dh
  pointwise [dot_S512x1536_S1536x1024_S512x1024_1_0_0_1_n_n, Q, H.win, c_zero, ← EReal.coe_mul, coe_sum, ← EReal.coe_add, zero_add]
  rfl
theorem dn1_at (i : Fin 512) (d : Fin 1024) : L.dn1 q (ix2 i d) = ((I.dn1 (row T i) d : ℝ) : EReal) := by
  unfold Loads.dn1 Loads.scr
  rw [shapeCast_self]
  pointwise [H.dh_at Q, H.one_at, ← EReal.coe_mul]; rfl
theorem gx_at (i : Fin 512) (d : Fin 1024) : L.gx q (ix2 i d) = ((I.gx (row T i) d : ℝ) : EReal) := by
  have hu : ∀ i d, mulf (L.dn1 q) (tall L.g1) (ix2 i d) = ((I.dxh (row T i) d : ℝ) : EReal) := fun i d => by
    pointwise [H.dn1_at Q, H.g1, ← EReal.coe_mul]; rfl
  unfold Loads.gx
  pointwise [H.e, normBack_at H.x hu (fun i => I.r1 (row T i)) (fun _ => rfl), ← EReal.coe_add]
  rfl
theorem tmod_at (k : Fin 3) (z : Fin 1) (d : Fin 1024) : L.tmod q k (ix2 z d) = ((∑ i, I.tmod k (row T i) d : ℝ) : EReal) := by
  have h1 : ∀ i d, mulf (L.dh q) L.n1 (ix2 i d) = ((I.dh (row T i) d * I.n1 (row T i) d : ℝ) : EReal) := fun i d => by
    pointwise [H.dh_at Q, H.n1_at, ← EReal.coe_mul]
  have h2 : ∀ i d, mulf L.e (mulf (normed L.mm) (tall L.g2)) (ix2 i d)
      = ((I.e (row T i) d * (I.mh (row T i) d * I.g2 d) : ℝ) : EReal) := fun i d => by
    unfold Loads.mm
    rw [shapeCast_self]
    pointwise [H.e, H.mh_at, H.g2, ← EReal.coe_mul]
  fin_cases k
  · exact overRows_at (H.dh_at Q) z d
  · exact overRows_at h1 z d
  · exact overRows_at h2 z d
theorem tg1_at (z : Fin 1) (d : Fin 1024) : L.tg1 q (ix2 z d) = ((∑ i, I.tg1 (row T i) d : ℝ) : EReal) :=
  overRows_at (a := fun i d => I.tg1 (row T i) d) (fun i d => by pointwise [H.dn1_at Q, H.xh_at, ← EReal.coe_mul]; rfl) z d
end back

theorem tg2_at (z : Fin 1) (d : Fin 1024) : L.tg2 (ix2 z d) = ((∑ i, I.tg2 (row T i) d : ℝ) : EReal) := by
  unfold Loads.tg2 Loads.mm
  rw [shapeCast_self]
  exact overRows_at (a := fun i d => I.tg2 (row T i) d) (fun i d => by pointwise [H.dr_at, H.mh_at, ← EReal.coe_mul]; rfl) z d
theorem twout_at {k : FVec Ideal S512x1024 .bf16} (C : ∀ i a, k (ix2 i a) = ((I.cat (row T i) a : ℝ) : EReal)) (a d : Fin 1024) :
    L.twout k (ix2 a d) = ((∑ i, I.twout a (row T i) d : ℝ) : EReal) := by
  unfold Loads.twout
  pointwise [dot_S512x1024_S512x1024_S1024x1024_0_0_1_1_n_n, C, H.dm_at, c_zero, ← EReal.coe_mul, coe_sum, ← EReal.coe_add, zero_add]
  rfl

end At

end Cert.MixIdeal.Own

end
-- ==== Proof.Left.lean ====
/-
  What one grid point of the kernel leaves in its output buffers and in the scratch it carries, point by point.

  The first point (`A`) starts the running sums and the carried rows from zero; every later point (`B`) continues from what
  the point before left.
-/
module

public import proofs.«01_k».proof.Proof.Gen.Kernel.Frame.RunB

@[expose] public section

-- the covers are checked coordinate by coordinate over axes of the problem's own extents
set_option maxRecDepth 16384

noncomputable section

namespace Cert.Kernel.Own

open Cert.Kernel Cert.Kernel.Gen
open Idealize.ShloMosaic Idealize.ShloMosaic.TcCoe Idealize.ShloMosaic.Tactic

variable {F : FTy → Type} [FloatOps F]
variable (m : (ℓ : Loc nD τ sig) → Buf (Elt F) ℓ)

/-- The contents one point leaves: nine results' buffers, then the carried scratch. -/
structure Left (F : FTy → Type) [FloatOps F] where
  /-- gradient of the input rows -/
  dx : Vec F S256x1024 .f32
  /-- gradient of the hidden columns, by chunk -/
  dup : Vec F S8x256x704 .bf16
  /-- gradient of the projection -/
  df : Vec F S256x1024 .bf16
  /-- normalised rows -/
  h : Vec F S256x1024 .bf16
  /-- running sums for the three modulation rows -/
  dmod : Vec F S3x1024 .f32
  /-- running sum for the first gain -/
  dg3 : Vec F S1x1024 .f32
  /-- running sum for the second gain -/
  dg4 : Vec F S1x1024 .f32
  /-- running sums for the bias, by chunk -/
  dcb : Vec F S8x704 .f32
  /-- running sums for the taps, by chunk -/
  dcw : Vec F S8x3x704 .f32
  /-- the first rows of this tile's convolution cotangent, by chunk -/
  dyc : Vec F S8x8x704 .f32

/-- The first point's run, at that point's buffers and input blocks. -/
abbrev runA (c : Dev nD) (t : Fin cfg0.N) (h0 : t.val % 32 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
    scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- A later point's run, over what the point before left. -/
abbrev runB (c : Dev nD) (t : Fin cfg0.N) (h0 : ¬t.val % 32 = 0) (p : Left F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
    scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    p.dmod p.dg3 p.dg4 p.dcb p.dcw p.dyc

/-- The pieces of a list reach every index. -/
def Cov {s : Shape} {e : EltTy} (L : List (View.Piece (Elt F) s e)) : Prop := ∀ y, ∃ pc ∈ L, y ∈ pc.1.set

section
variable (c : Dev nD) (t : Fin cfg0.N) (h0 : t.val % 32 = 0)
theorem covA_dx : Cov (runA m c t h0).1 := View.cover_of_tiledL _ S256x1024.size (by sl_kernel_rfl)
theorem covA_dup : Cov (runA m c t h0).2.1 := View.cover_of_tiledL _ S1x256x704.size (by sl_kernel_rfl)
theorem covA_df : Cov (runA m c t h0).2.2.1 := View.cover_of_tiledL _ S256x1024.size (by sl_kernel_rfl)
theorem covA_h : Cov (runA m c t h0).2.2.2.1 := View.cover_of_tiledL _ S256x1024.size (by sl_kernel_rfl)
theorem covA_dmod : Cov (runA m c t h0).2.2.2.2.1 := View.cover_of_tiledBy _ ![1, 1024] (by sl_kernel_rfl)
theorem covA_dg3 : Cov (runA m c t h0).2.2.2.2.2.1 := View.cover_of_tiledL _ S1x1024.size (by sl_kernel_rfl)
theorem covA_dg4 : Cov (runA m c t h0).2.2.2.2.2.2.1 := View.cover_of_tiledL _ S1x1024.size (by sl_kernel_rfl)
theorem covA_dcb : Cov (runA m c t h0).2.2.2.2.2.2.2.1 := View.cover_of_tiledBy _ ![1, 704] (by sl_kernel_rfl)
theorem covA_dcw : Cov (runA m c t h0).2.2.2.2.2.2.2.2.1 := View.cover_of_tiledBy _ ![1, 1, 704] (by sl_kernel_rfl)
theorem covA_dyc : Cov (runA m c t h0).2.2.2.2.2.2.2.2.2.1 := View.cover_of_wholeMem _ (by sl_whole_mem)
end

/-- What the first point leaves. -/
def leftA (c : Dev nD) (t : Fin cfg0.N) (h0 : t.val % 32 = 0) : Left F where
  dx := View.canon (runA m c t h0).1
  dup := View.canon (runA m c t h0).2.1
  df := View.canon (runA m c t h0).2.2.1
  h := View.canon (runA m c t h0).2.2.2.1
  dmod := View.canon (runA m c t h0).2.2.2.2.1
  dg3 := View.canon (runA m c t h0).2.2.2.2.2.1
  dg4 := View.canon (runA m c t h0).2.2.2.2.2.2.1
  dcb := View.canon (runA m c t h0).2.2.2.2.2.2.2.1
  dcw := View.canon (runA m c t h0).2.2.2.2.2.2.2.2.1
  dyc := View.canon (runA m c t h0).2.2.2.2.2.2.2.2.2.1

section
variable (c : Dev nD) (t : Fin cfg0.N) (h0 : ¬t.val % 32 = 0) (p : Left F)
theorem covB_dx : Cov (runB m c t h0 p).1 := View.cover_of_tiledL _ S256x1024.size (by sl_kernel_rfl)
theorem covB_dup : Cov (runB m c t h0 p).2.1 := View.cover_of_tiledL _ S1x256x704.size (by sl_kernel_rfl)
theorem covB_df : Cov (runB m c t h0 p).2.2.1 := View.cover_of_tiledL _ S256x1024.size (by sl_kernel_rfl)
theorem covB_h : Cov (runB m c t h0 p).2.2.2.1 := View.cover_of_tiledL _ S256x1024.size (by sl_kernel_rfl)
theorem covB_dmod : Cov (runB m c t h0 p).2.2.2.2.1 := View.cover_of_tiledL _ S1x1024.size (by sl_kernel_rfl)
theorem covB_dg3 : Cov (runB m c t h0 p).2.2.2.2.2.1 := View.cover_of_tiledL _ S1x1024.size (by sl_kernel_rfl)
theorem covB_dg4 : Cov (runB m c t h0 p).2.2.2.2.2.2.1 := View.cover_of_tiledL _ S1x1024.size (by sl_kernel_rfl)
theorem covB_dcb : Cov (runB m c t h0 p).2.2.2.2.2.2.2.1 := View.cover_of_tiledL _ S1x704.size (by sl_kernel_rfl)
theorem covB_dcw : Cov (runB m c t h0 p).2.2.2.2.2.2.2.2.1 := View.cover_of_tiledL _ S1x1x704.size (by sl_kernel_rfl)
theorem covB_dyc : Cov (runB m c t h0 p).2.2.2.2.2.2.2.2.2.1 := View.cover_of_tiledL _ S1x8x704.size (by sl_kernel_rfl)
end

/-- What a later point leaves. -/
def leftB (c : Dev nD) (t : Fin cfg0.N) (h0 : ¬t.val % 32 = 0) (p : Left F) : Left F where
  dx := View.canon (runB m c t h0 p).1
  dup := View.canon (runB m c t h0 p).2.1
  df := View.canon (runB m c t h0 p).2.2.1
  h := View.canon (runB m c t h0 p).2.2.2.1
  dmod := View.canon (runB m c t h0 p).2.2.2.2.1
  dg3 := View.canon (runB m c t h0 p).2.2.2.2.2.1
  dg4 := View.canon (runB m c t h0 p).2.2.2.2.2.2.1
  dcb := View.canon (runB m c t h0 p).2.2.2.2.2.2.2.1
  dcw := View.canon (runB m c t h0 p).2.2.2.2.2.2.2.2.1
  dyc := View.canon (runB m c t h0 p).2.2.2.2.2.2.2.2.2.1

/-- What the point numbered `n` leaves. -/
def left (c : Dev nD) : (n : ℕ) → n < cfg0.N → Left F
  | 0, hn => leftA m c ⟨0, hn⟩ (Nat.zero_mod _)
  | n + 1, hn =>
    if h0 : (n + 1) % 32 = 0 then leftA m c ⟨n + 1, hn⟩ h0
    else leftB m c ⟨n + 1, hn⟩ h0 (left c n (Nat.lt_of_succ_lt hn))

/-- What the point before `t` leaves. -/
abbrev prev (c : Dev nD) (t : Fin cfg0.N) : Left F := left m c (t.val - 1) (Nat.lt_of_le_of_lt (Nat.sub_le _ _) t.isLt)

theorem left_A (c : Dev nD) (t : Fin cfg0.N) (h0 : t.val % 32 = 0) : left m c t.val t.isLt = leftA m c t h0 := by
  obtain ⟨n, hn⟩ := t
  cases n with
  | zero => rfl
  | succ n => exact dif_pos h0

theorem left_B (c : Dev nD) (t : Fin cfg0.N) (h0 : ¬t.val % 32 = 0) : left m c t.val t.isLt = leftB m c t h0 (prev m c t) := by
  obtain ⟨n, hn⟩ := t
  cases n with
  | zero => exact absurd (Nat.zero_mod _) h0
  | succ n => exact dif_neg h0

end Cert.Kernel.Own

end
-- ==== Proof.Voc.lean ====
/-
  The arithmetic of one grid point of the kernel, named: rows normalised and their gradient, one column chunk's
  convolution, gate and gradients, and the sums over a tile's rows.

  A chunk is 704 of the 5632 columns. Chunks 0 to 3 are the gate's, 4 to 7 the value's.
-/
module

public import proofs.«01_k».proof.Proof.Left

@[expose] public section

set_option maxRecDepth 16384

noncomputable section

namespace Cert.Kernel.Own

open Cert.Kernel Cert.Kernel.Gen
open Idealize.ShloMosaic Idealize.ShloMosaic.TcCoe Idealize.ShloMosaic.Tactic

variable {F : FTy → Type} [FloatOps F]

/-- The three kinds of tiles: rows by features, one row of features, rows by a chunk's columns. -/
abbrev Rows (F : FTy → Type) [FloatOps F] := FVec F S256x1024 .f32
abbrev Row (F : FTy → Type) [FloatOps F] := FVec F S1x1024 .f32
abbrev Cols (F : FTy → Type) [FloatOps F] := FVec F S256x704 .f32

/-- Each row's mean. -/
def rowMean (v : Rows F) : FVec F S256x1 .f32 :=
  divf (shapeCast S256x1 (multiReduction .add [1] S256 v 0x00000000#32 reduces_S256x1024_S256 (.inl rfl) rfl) shapeCasts_S256_S256x1)
    (broadcast S256x1 (Scalar.ofBits .f32 0x44800000#32))

/-- One over each row's root mean square. -/
def rowScale (v : Rows F) : FVec F S256x1 .f32 :=
  rsqrt (addf (rowMean (mulf v v)) (broadcast S256x1 (Scalar.ofBits .f32 0x358637BD#32)))

/-- A column over all features, a row over all tokens. -/
abbrev wide (v : FVec F S256x1 .f32) : Rows F := broadcastTo S256x1024 v broadcasts_S256x1_S256x1024
abbrev tall (v : Row F) : Rows F := broadcastTo S256x1024 v broadcasts_S1x1024_S256x1024
abbrev tallC (v : FVec F S1x704 .f32) : Cols F := broadcastTo S256x704 v broadcasts_S1x704_S256x704

/-- Each row over its root mean square. -/
def normed (v : Rows F) : Rows F := mulf v (wide (rowScale v))

/-- The gradient through that, of a cotangent `u`. -/
def normBack (v u : Rows F) : Rows F :=
  mulf (wide (rowScale v)) (subf u (mulf (normed v) (wide (rowMean (mulf u (normed v))))))

/-- The sum over a tile's rows, per feature and per column. -/
def overRows (v : Rows F) : Row F :=
  shapeCast S1x1024 (multiReduction .add [0] S1024 v 0x00000000#32 reduces_S256x1024_S1024 (.inl rfl) rfl) shapeCasts_S1024_S1x1024
def overRowsC (v : Cols F) : FVec F S1x704 .f32 :=
  shapeCast S1x704 (multiReduction .add [0] S704 v 0x00000000#32 reduces_S256x704_S704 (.inl rfl) rfl) shapeCasts_S704_S1x704

/-- One plus a row. -/
def onePlus (v : Row F) : Row F := addf (broadcast S1x1024 (Scalar.ofBits .f32 0x3F800000#32)) v

/-- One where a tile is not the first of the sequence, else zero. -/
def keepOf (r : BitVec 32) : F .f32 :=
  Scalar.select (Scalar.cmpi .sgt r 0#32) (Scalar.ofBits .f32 0x3F800000#32) (Scalar.ofBits .f32 0x00000000#32)

/-- A tile moved down one or two rows, the eight rows before it filling the top. -/
def down1 (u : Cols F) (b : FVec F S8x704 .f32) : Cols F :=
  concatenate S256x704 0 [⟨S8x704, select (cmpi .slt (iota .tc S8x704 32 [0] iota_S8x704_d0_w32) (broadcast S8x704 1#32))
      (dynamicRotate 0 1#32 none b rotates_S8x704_d0)
      (extractStridedSlice S8x704 ![0, 0] (dynamicRotate 0 1#32 none u rotates_S256x704_d0) slices_S256x704_o0_0_S8x704)⟩,
    ⟨S248x704, extractStridedSlice S248x704 ![8, 0] (dynamicRotate 0 1#32 none u rotates_S256x704_d0) slices_S256x704_o8_0_S248x704⟩]
    concatenates_S8x704_S248x704_S256x704_d0
def down2 (u : Cols F) (b : FVec F S8x704 .f32) : Cols F :=
  concatenate S256x704 0 [⟨S8x704, select (cmpi .slt (iota .tc S8x704 32 [0] iota_S8x704_d0_w32) (broadcast S8x704 2#32))
      (dynamicRotate 0 2#32 none b rotates_S8x704_d0)
      (extractStridedSlice S8x704 ![0, 0] (dynamicRotate 0 2#32 none u rotates_S256x704_d0) slices_S256x704_o0_0_S8x704)⟩,
    ⟨S248x704, extractStridedSlice S248x704 ![8, 0] (dynamicRotate 0 2#32 none u rotates_S256x704_d0) slices_S256x704_o8_0_S248x704⟩]
    concatenates_S8x704_S248x704_S256x704_d0

/-- A tile moved up one or two rows, the eight rows after it filling the bottom. -/
def up1 (u : Cols F) (a : FVec F S8x704 .f32) : Cols F :=
  concatenate S256x704 0 [⟨S248x704, extractStridedSlice S248x704 ![0, 0] (dynamicRotate 0 255#32 none u rotates_S256x704_d0) slices_S256x704_o0_0_S248x704⟩,
    ⟨S8x704, select (cmpi .sge (iota .tc S8x704 32 [0] iota_S8x704_d0_w32) (broadcast S8x704 7#32))
      (dynamicRotate 0 7#32 none a rotates_S8x704_d0)
      (extractStridedSlice S8x704 ![248, 0] (dynamicRotate 0 255#32 none u rotates_S256x704_d0) slices_S256x704_o248_0_S8x704)⟩]
    concatenates_S248x704_S8x704_S256x704_d0
def up2 (u : Cols F) (a : FVec F S8x704 .f32) : Cols F :=
  concatenate S256x704 0 [⟨S248x704, extractStridedSlice S248x704 ![0, 0] (dynamicRotate 0 254#32 none u rotates_S256x704_d0) slices_S256x704_o0_0_S248x704⟩,
    ⟨S8x704, select (cmpi .sge (iota .tc S8x704 32 [0] iota_S8x704_d0_w32) (broadcast S8x704 6#32))
      (dynamicRotate 0 6#32 none a rotates_S8x704_d0)
      (extractStridedSlice S8x704 ![248, 0] (dynamicRotate 0 254#32 none u rotates_S256x704_d0) slices_S256x704_o248_0_S8x704)⟩]
    concatenates_S248x704_S8x704_S256x704_d0

/-- A row of the three taps. -/
abbrev tap0 (w : FVec F S3x704 .f32) : Cols F := tallC (extractStridedSlice S1x704 ![0, 0] w slices_S3x704_o0_0_S1x704)
abbrev tap1 (w : FVec F S3x704 .f32) : Cols F := tallC (extractStridedSlice S1x704 ![1, 0] w slices_S3x704_o1_0_S1x704)
abbrev tap2 (w : FVec F S3x704 .f32) : Cols F := tallC (extractStridedSlice S1x704 ![2, 0] w slices_S3x704_o2_0_S1x704)

/-- The causal convolution of three taps, and its bias. -/
def conv (b : FVec F S8x704 .f32) (u : Cols F) (w : FVec F S3x704 .f32) (c : FVec F S1x704 .f32) : Cols F :=
  addf (addf (addf (tallC c) (mulf (down2 u b) (tap0 w))) (mulf (down1 u b) (tap1 w))) (mulf u (tap2 w))

/-- Its gradient to the rows. -/
def convBack (d : Cols F) (a : FVec F S8x704 .f32) (w : FVec F S3x704 .f32) : FVec F S256x704 .bf16 :=
  truncf .bf16 (addf (addf (mulf d (tap2 w)) (mulf (up1 d a) (tap1 w))) (mulf (up2 d a) (tap0 w))) bitsLt_bf16_f32

/-- The logistic of the gate. -/
def gateOf (y : Cols F) : Cols F :=
  addf (mulf (broadcast S256x704 (Scalar.ofBits .f32 0x3F000000#32)) (tanh (mulf (broadcast S256x704 (Scalar.ofBits .f32 0x3F000000#32)) y)))
    (broadcast S256x704 (Scalar.ofBits .f32 0x3F000000#32))

/-- The gradient of `silu(gate) * value` to the gate and to the value. -/
def gateBack (a y v : Cols F) : Cols F :=
  mulf (mulf a v) (addf (gateOf y) (mulf (mulf y (gateOf y)) (subf (broadcast S256x704 (Scalar.ofBits .f32 0x3F800000#32)) (gateOf y))))
def valueBack (a y : Cols F) : Cols F := mulf a (mulf y (gateOf y))

/-- What a point loads: blocks of its inputs, chunk by chunk where a block is loaded by chunks. -/
structure Loads (F : FTy → Type) [FloatOps F] where
  dx : Rows F
  f : Rows F
  x : Rows F
  sh : Row F
  sc : Row F
  gf : Row F
  g3 : Row F
  g4 : Row F
  keep : F .f32
  up : Fin 8 → FVec F S1x256x704 .f32
  halo : Fin 8 → FVec F S1x8x704 .f32
  cw : Fin 8 → FVec F S1x3x704 .f32
  cb : Fin 8 → FVec F S1x704 .f32
  wup : Fin 8 → FVec F S1x1024x704 .bf16
  wd : Fin 4 → FVec F S704x1024 .bf16

namespace Loads

variable (I : Loads F)

abbrev ff : Rows F := shapeCast S256x1024 I.f shapeCasts_S256x1024_S256x1024
abbrev shr : Row F := shapeCast S1x1024 I.sh shapeCasts_S1x1024_S1x1024
abbrev scr : Row F := shapeCast S1x1024 I.sc shapeCasts_S1x1024_S1x1024
abbrev gfr : Row F := shapeCast S1x1024 I.gf shapeCasts_S1x1024_S1x1024
abbrev upc (k : Fin 8) : Cols F := shapeCast S256x704 (I.up k) shapeCasts_S1x256x704_S256x704
abbrev taps (k : Fin 8) : FVec F S3x704 .f32 := shapeCast S3x704 (I.cw k) shapeCasts_S1x3x704_S3x704

/-- The cotangent of the normed projection, before and after its gain. -/
def dr : Rows F := mulf I.dx (tall I.gfr)
def dfh : Rows F := mulf I.dr (tall I.g4)

/-- The cotangent of the projection. -/
def df : FVec F S256x1024 .bf16 := truncf .bf16 (normBack I.ff I.dfh) bitsLt_bf16_f32

/-- The rows normed, with their gain, and modulated. -/
def n3 : Rows F := mulf (normed I.x) (tall I.g3)
def h : FVec F S256x1024 .bf16 := truncf .bf16 (addf (mulf I.n3 (tall (onePlus I.scr))) (tall I.shr)) bitsLt_bf16_f32

/-- A chunk's convolution. -/
def y (k : Fin 8) : Cols F :=
  conv (mulf (shapeCast S8x704 (I.halo k) shapeCasts_S1x8x704_S8x704) (broadcast S8x704 I.keep)) (I.upc k) (I.taps k)
    (shapeCast S1x704 (I.cb k) shapeCasts_S1x704_S1x704)

/-- The cotangent of the gated product, by chunk. -/
def dact (j : Fin 4) : Cols F :=
  matmul dot_S256x1024_S704x1024_S256x704_1_1_0_0_n_n none I.df (shapeCast S704x1024 (I.wd j) shapeCasts_S704x1024_S704x1024)
    (constant S256x704 .f32 0x00000000#32)

/-- The cotangent of a chunk's convolution: a gate's, then a value's. -/
def dyg (j : Fin 4) : Cols F := gateBack (I.dact j) (I.y (j.castAdd 4)) (I.y (j.natAdd 4))
def dyv (j : Fin 4) : Cols F := valueBack (I.dact j) (I.y (j.castAdd 4))
def dy (k : Fin 8) : Cols F := if h : k.val < 4 then I.dyg ⟨k.val, h⟩ else I.dyv ⟨k.val - 4, by omega⟩

/-- Its first eight rows. -/
def top (k : Fin 8) : FVec F S8x704 .f32 := extractStridedSlice S8x704 ![0, 0] (I.dy k) slices_S256x704_o0_0_S8x704

/-- The cotangent of a chunk's hidden columns, given the first rows `a` of the next tile's. -/
def dup (k : Fin 8) (a : FVec F S8x704 .f32) : FVec F S256x704 .bf16 := convBack (I.dy k) a (I.taps k)

/-- A chunk's part of the cotangent of the rows. -/
def dhPart (k : Fin 8) (a : FVec F S8x704 .f32) : Rows F :=
  matmul dot_S256x704_S1024x704_S256x1024_1_1_0_0_n_n none (I.dup k a) (shapeCast S1024x704 (I.wup k) shapeCasts_S1x1024x704_S1024x704)
    (constant S256x1024 .f32 0x00000000#32)

/-- The parts added over a list of chunks, the last first. -/
def dhSum (a : Fin 8 → FVec F S8x704 .f32) : List (Fin 8) → Rows F
  | [] => shapeCast S256x1024 (broadcast S256x1024 (Scalar.ofBits .f32 0x00000000#32)) shapeCasts_S256x1024_S256x1024
  | k :: l => shapeCast S256x1024 (addf (dhSum a l) (I.dhPart k (a k))) shapeCasts_S256x1024_S256x1024

/-- The order in which the chunks are taken, the last first. -/
def order : List (Fin 8) := [7, 3, 6, 2, 5, 1, 4, 0]

/-- The cotangent of the modulated rows, of the normed rows, and of the tile. -/
def dh (a : Fin 8 → FVec F S8x704 .f32) : Rows F := I.dhSum a order
def dn3 (d : Rows F) : Rows F := mulf d (tall (onePlus I.scr))
def dxOut (d : Rows F) : Rows F := addf I.dx (normBack I.x (mulf (I.dn3 d) (tall I.g3)))

/-- The cotangent rows met by tap `a`. -/
def met (k : Fin 8) (a : FVec F S8x704 .f32) : Fin 3 → Cols F
  | 0 => up2 (I.dy k) a
  | 1 => up1 (I.dy k) a
  | 2 => I.dy k

/-- A tile's terms of the running sums. -/
def tmod (d : Rows F) : Fin 3 → Row F
  | 0 => overRows d
  | 1 => overRows (mulf d I.n3)
  | 2 => overRows (mulf I.dx (mulf (normed I.ff) (tall I.g4)))
def tg3 (d : Rows F) : Row F := overRows (mulf (I.dn3 d) (normed I.x))
def tg4 : Row F := overRows (mulf I.dr (normed I.ff))
def tcb (k : Fin 8) : FVec F S1x704 .f32 := overRowsC (I.dy k)
def tcw (k : Fin 8) (a : FVec F S8x704 .f32) (i : Fin 3) : FVec F S1x704 .f32 := overRowsC (mulf (I.met k a i) (I.upc k))

end Loads

/-- What a running sum's row becomes. -/
abbrev addRow (v t : Row F) : Row F := addf (shapeCast S1x1024 v shapeCasts_S1x1024_S1x1024) t
abbrev addCol (v t : FVec F S1x704 .f32) : FVec F S1x704 .f32 := addf (shapeCast S1x704 v shapeCasts_S1x704_S1x704) t
abbrev addTap (v : FVec F S1x1x704 .f32) (t : FVec F S1x704 .f32) : FVec F S1x1x704 .f32 :=
  shapeCast S1x1x704 (addf (shapeCast S1x704 v shapeCasts_S1x1x704_S1x704) t) shapeCasts_S1x704_S1x1x704

end Cert.Kernel.Own

end
-- ==== Proof.Bridge.lean ====
/-
  The stores of one grid point, as the arithmetic of Voc.lean over what the point loads.
-/
module

public import proofs.«01_k».proof.Proof.Voc

@[expose] public section

set_option maxRecDepth 16384

noncomputable section

namespace Cert.Kernel.Own

open Cert.Kernel Cert.Kernel.Gen
open Idealize.ShloMosaic Idealize.ShloMosaic.TcCoe Idealize.ShloMosaic.Tactic

variable {F : FTy → Type} [FloatOps F]
variable (m : (ℓ : Loc nD τ sig) → Buf (Elt F) ℓ)

/-- Chunk `k` of an array of eight lies inside it. -/
theorem inb3 {a b : ℕ} (k : Fin 8) : ∀ i, (![k.val, 0, 0] : Fin 3 → ℕ) i + (![1, a, b] : Fin 3 → ℕ) i ≤ (![8, a, b] : Fin 3 → ℕ) i := by
  intro i; have := k.isLt; fin_cases i <;> simp; omega
theorem inb2 {n b : ℕ} (k : Fin n) : ∀ i, (![k.val, 0] : Fin 2 → ℕ) i + (![1, b] : Fin 2 → ℕ) i ≤ (![n, b] : Fin 2 → ℕ) i := by
  intro i; have := k.isLt; fin_cases i <;> simp; omega
theorem inbT (k : Fin 8) (a : Fin 3) : ∀ i, (![k.val, a.val, 0] : Fin 3 → ℕ) i + (![1, 1, 704] : Fin 3 → ℕ) i ≤ (![8, 3, 704] : Fin 3 → ℕ) i := by
  intro i; have := k.isLt; have := a.isLt; fin_cases i <;> simp <;> omega
theorem inbW (j : Fin 4) : ∀ i, (![j.val * 704, 0] : Fin 2 → ℕ) i + (![704, 1024] : Fin 2 → ℕ) i ≤ (![2816, 1024] : Fin 2 → ℕ) i := by
  intro i; have := j.isLt; fin_cases i <;> simp; omega

/-- The rectangles: chunk `k` of a block of chunks, row `k` of a block of rows, tap `a` of chunk `k`, a whole block. -/
abbrev rUp (k : Fin 8) : Rect S8x256x704 := Rect.unit ![k.val, 0, 0] S1x256x704.size (inb3 k)
abbrev rHalo (k : Fin 8) : Rect S8x8x704 := Rect.unit ![k.val, 0, 0] S1x8x704.size (inb3 k)
abbrev rCw (k : Fin 8) : Rect S8x3x704 := Rect.unit ![k.val, 0, 0] S1x3x704.size (inb3 k)
abbrev rCb (k : Fin 8) : Rect S8x704 := Rect.unit ![k.val, 0] S1x704.size (inb2 k)
abbrev rWup (k : Fin 8) : Rect S8x1024x704 := Rect.unit ![k.val, 0, 0] S1x1024x704.size (inb3 k)
abbrev rWd (j : Fin 4) : Rect S2816x1024 := Rect.unit ![j.val * 704, 0] S704x1024.size (inbW j)
abbrev rMod (k : Fin 6) : Rect S6x1024 := Rect.unit ![k.val, 0] S1x1024.size (inb2 k)
abbrev rDmod (k : Fin 3) : Rect S3x1024 := Rect.unit ![k.val, 0] S1x1024.size (inb2 k)
abbrev rTap (k : Fin 8) (a : Fin 3) : Rect S8x3x704 := Rect.unit ![k.val, a.val, 0] S1x1x704.size (inbT k a)
abbrev rRows : Rect S256x1024 := Rect.unit ![0, 0] S256x1024.size inb_S256x1024_S256x1024_0_0
abbrev rRow : Rect S1x1024 := Rect.unit ![0, 0] S1x1024.size inb_S1x1024_S1x1024_0_0

/-- What point `t` loads. -/
def loads (c : Dev nD) (t : Fin cfg0.N) : Loads F where
  dx := View.readAt (Elt F) (ms0_0 t).view rRows.toLoadRect ((hs0_0 t).unread (iblk m c 0 t))
  f := View.readAt (Elt F) (ms0_1 t).view rRows.toLoadRect ((hs0_1 t).unread (iblk m c 1 t))
  x := View.readAt (Elt F) (ms0_2 t).view rRows.toLoadRect ((hs0_2 t).unread (iblk m c 2 t))
  sh := View.readAt (Elt F) (ms0_5 t).view (rMod 3).toLoadRect ((hs0_5 t).unread (iblk m c 5 t))
  sc := View.readAt (Elt F) (ms0_5 t).view (rMod 4).toLoadRect ((hs0_5 t).unread (iblk m c 5 t))
  gf := View.readAt (Elt F) (ms0_5 t).view (rMod 5).toLoadRect ((hs0_5 t).unread (iblk m c 5 t))
  g3 := View.readAt (Elt F) (ms0_6 t).view rRow.toLoadRect ((hs0_6 t).unread (iblk m c 6 t))
  g4 := View.readAt (Elt F) (ms0_7 t).view rRow.toLoadRect ((hs0_7 t).unread (iblk m c 7 t))
  keep := keepOf (Scalar.subi 31#32 (BitVec.ofNat 32 (grid0.coords t 0).val))
  up k := View.readAt (Elt F) (ms0_3 t).view (rUp k).toLoadRect ((hs0_3 t).unread (iblk m c 3 t))
  halo k := View.readAt (Elt F) (ms0_4 t).view (rHalo k).toLoadRect ((hs0_4 t).unread (iblk m c 4 t))
  cw k := View.readAt (Elt F) (ms0_9 t).view (rCw k).toLoadRect ((hs0_9 t).unread (iblk m c 9 t))
  cb k := View.readAt (Elt F) (ms0_10 t).view (rCb k).toLoadRect ((hs0_10 t).unread (iblk m c 10 t))
  wup k := View.readAt (Elt F) (ms0_8 t).view (rWup k).toLoadRect ((hs0_8 t).unread (iblk m c 8 t))
  wd j := View.readAt (Elt F) (ms0_11 t).view (rWd j).toLoadRect ((hs0_11 t).unread (iblk m c 11 t))

/-- The rows carried from the tile after, chunk by chunk, as a later point loads them. -/
def afterB (p : Left F) (k : Fin 8) : FVec F S8x704 .f32 :=
  shapeCast S8x704 (View.readAt (Elt F) scM0_0.view (rHalo k).toLoadRect ((Memref.isWhole_whole _).unread p.dyc)) shapeCasts_S1x8x704_S8x704

/-- The taps of the chunks, in the order in which they are stored, the last first. -/
def order3 : List (Fin 8 × Fin 3) := Loads.order.flatMap fun k => [(k, 2), (k, 1), (k, 0)]

/-- Zero over a whole buffer. -/
abbrev zero (s : Shape) : FVec F s .f32 := broadcast s (Scalar.ofBits .f32 0x00000000#32)

/-- The parts of the cotangent of the modulated rows, as they are added up in one buffer. -/
def dhL (c : Dev nD) (t : Fin cfg0.N) (a : Fin 8 → FVec F S8x704 .f32) : List (Fin 8) → List (View.Piece (Elt F) S256x1024 .f32)
  | [] => [⟨rRows, shapeCast S256x1024 (zero S256x1024) shapeCasts_S256x1024_S256x1024⟩]
  | k :: l => ⟨rRows, shapeCast S256x1024 (addf (View.readCov (Val := Elt F) scM0_1.view (dhL c t a l) rRows.toLoadRect)
      ((loads m c t).dhPart k (a k))) shapeCasts_S256x1024_S256x1024⟩ :: dhL c t a l

/-- That buffer once every part is in. -/
def dhV (c : Dev nD) (t : Fin cfg0.N) (a : Fin 8 → FVec F S8x704 .f32) : Rows F :=
  View.readCov (Val := Elt F) scM0_1.view (dhL m c t a Loads.order) rRows.toLoadRect

/-- It holds their sum. -/
theorem dhL_read (c : Dev nD) (t : Fin cfg0.N) (a : Fin 8 → FVec F S8x704 .f32) (l : List (Fin 8)) :
    View.readCov (Val := Elt F) scM0_1.view (dhL m c t a l) rRows.toLoadRect = (loads m c t).dhSum a l := by
  induction l with
  | nil => exact View.readCov_cons_toLoadRect _ _ _ _
  | cons k l ih => rw [dhL, View.readCov_cons_toLoadRect, ih]; rfl
theorem dhV_eq (c : Dev nD) (t : Fin cfg0.N) (a : Fin 8 → FVec F S8x704 .f32) : dhV m c t a = (loads m c t).dh a :=
  dhL_read m c t a _

section later
variable (c : Dev nD) (t : Fin cfg0.N) (h0 : ¬t.val % 32 = 0) (p : Left F)

/-- The cotangent of the modulated rows at a later point. -/
def dhB : Rows F := dhV m c t (afterB p)

theorem leftB_dx : (leftB m c t h0 p).dx = View.canon (Val := Elt F) ([⟨rRows, (loads m c t).dxOut (dhB m c t p)⟩]) := by
  sl_kernel_rfl
theorem leftB_dup : (leftB m c t h0 p).dup = View.canon (Val := Elt F) (Loads.order.map fun k => ⟨rUp k, shapeCast S1x256x704 ((loads m c t).dup k (afterB p k)) shapeCasts_S256x704_S1x256x704⟩) := by
  sl_kernel_rfl
theorem leftB_df : (leftB m c t h0 p).df = View.canon (Val := Elt F) ([⟨rRows, (loads m c t).df⟩]) := by
  sl_kernel_rfl
theorem leftB_h : (leftB m c t h0 p).h = View.canon (Val := Elt F) ([⟨rRows, (loads m c t).h⟩]) := by
  sl_kernel_rfl
theorem leftB_dmod : (leftB m c t h0 p).dmod = View.canon (Val := Elt F) ([1, 0, 2].map fun k => ⟨rDmod k, addRow
    (View.readAt (Elt F) (ms0_16 t).view (rDmod k).toLoadRect ((hs0_16 t).unread p.dmod)) ((loads m c t).tmod (dhB m c t p) k)⟩) := by
  sl_kernel_rfl
theorem leftB_dg3 : (leftB m c t h0 p).dg3 = View.canon (Val := Elt F) ([⟨rRow, addRow
    (View.readAt (Elt F) (ms0_17 t).view rRow.toLoadRect ((hs0_17 t).unread p.dg3)) ((loads m c t).tg3 (dhB m c t p))⟩]) := by
  sl_kernel_rfl
theorem leftB_dg4 : (leftB m c t h0 p).dg4 = View.canon (Val := Elt F) ([⟨rRow, addRow
    (View.readAt (Elt F) (ms0_18 t).view rRow.toLoadRect ((hs0_18 t).unread p.dg4)) (loads m c t).tg4⟩]) := by
  sl_kernel_rfl
theorem leftB_dcb : (leftB m c t h0 p).dcb = View.canon (Val := Elt F) (Loads.order.map fun k => ⟨rCb k, addCol
    (View.readAt (Elt F) (ms0_19 t).view (rCb k).toLoadRect ((hs0_19 t).unread p.dcb)) ((loads m c t).tcb k)⟩) := by
  sl_kernel_rfl
theorem leftB_dcw : (leftB m c t h0 p).dcw = View.canon (Val := Elt F) (order3.map fun q => ⟨rTap q.1 q.2, addTap
    (View.readAt (Elt F) (ms0_20 t).view (rTap q.1 q.2).toLoadRect ((hs0_20 t).unread p.dcw))
    ((loads m c t).tcw q.1 (afterB p q.1) q.2)⟩) := by
  sl_kernel_rfl
theorem leftB_dyc : (leftB m c t h0 p).dyc = View.canon (Val := Elt F) (Loads.order.map fun k => ⟨rHalo k, shapeCast S1x8x704 ((loads m c t).top k) shapeCasts_S8x704_S1x8x704⟩) := by
  sl_kernel_rfl
end later

section first
variable (c : Dev nD) (t : Fin cfg0.N) (h0 : t.val % 32 = 0)

/-- The carried rows at the first point: zero, then chunk by chunk this tile's first rows. -/
def dycA : List (Fin 8) → List (View.Piece (Elt F) S8x8x704 .f32)
  | [] => [⟨Rect.unit ![0, 0, 0] S8x8x704.size inb_S8x8x704_S8x8x704_0_0_0, zero S8x8x704⟩]
  | k :: l => ⟨rHalo k, shapeCast S1x8x704 ((loads m c t).top k) shapeCasts_S8x704_S1x8x704⟩ :: dycA l

/-- What the first point loads of it, before chunk `k`. -/
def afterA (k : Fin 8) : FVec F S8x704 .f32 :=
  shapeCast S8x704 (View.readCov (Val := Elt F) scM0_0.view (dycA m c t (Loads.order.dropWhile (· ≠ k)).tail) (rHalo k).toLoadRect)
    shapeCasts_S1x8x704_S8x704

/-- The cotangent of the modulated rows at the first point. -/
def dhA : Rows F := dhV m c t (afterA m c t)

/-- The running sums at the first point: zero, then row by row what was there and this tile's term. -/
def dmodA : List (Fin 3) → List (View.Piece (Elt F) S3x1024 .f32)
  | [] => [⟨Rect.unit ![0, 0] S3x1024.size inb_S3x1024_S3x1024_0_0, zero S3x1024⟩]
  | k :: l => ⟨rDmod k, addRow (View.readCov (Val := Elt F) (ms0_16 t).view (dmodA l) (rDmod k).toLoadRect) ((loads m c t).tmod (dhA m c t) k)⟩ :: dmodA l
def dcbA : List (Fin 8) → List (View.Piece (Elt F) S8x704 .f32)
  | [] => [⟨Rect.unit ![0, 0] S8x704.size inb_S8x704_S8x704_0_0, zero S8x704⟩]
  | k :: l => ⟨rCb k, addCol (View.readCov (Val := Elt F) (ms0_19 t).view (dcbA l) (rCb k).toLoadRect) ((loads m c t).tcb k)⟩ :: dcbA l
def dcwA : List (Fin 8 × Fin 3) → List (View.Piece (Elt F) S8x3x704 .f32)
  | [] => [⟨Rect.unit ![0, 0, 0] S8x3x704.size inb_S8x3x704_S8x3x704_0_0_0, zero S8x3x704⟩]
  | q :: l => ⟨rTap q.1 q.2, addTap (View.readCov (Val := Elt F) (ms0_20 t).view (dcwA l) (rTap q.1 q.2).toLoadRect)
      ((loads m c t).tcw q.1 (afterA m c t q.1) q.2)⟩ :: dcwA l

theorem leftA_dx : (leftA m c t h0).dx = View.canon (Val := Elt F) ([⟨rRows, (loads m c t).dxOut (dhA m c t)⟩]) := by
  sl_kernel_rfl
theorem leftA_dup : (leftA m c t h0).dup = View.canon (Val := Elt F) (Loads.order.map fun k => ⟨rUp k, shapeCast S1x256x704 ((loads m c t).dup k (afterA m c t k)) shapeCasts_S256x704_S1x256x704⟩) := by
  sl_kernel_rfl
theorem leftA_df : (leftA m c t h0).df = View.canon (Val := Elt F) ([⟨rRows, (loads m c t).df⟩]) := by
  sl_kernel_rfl
theorem leftA_h : (leftA m c t h0).h = View.canon (Val := Elt F) ([⟨rRows, (loads m c t).h⟩]) := by
  sl_kernel_rfl
theorem leftA_dmod : (leftA m c t h0).dmod = View.canon (Val := Elt F) (dmodA m c t [1, 0, 2]) := by
  sl_kernel_rfl
theorem leftA_dg3 : (leftA m c t h0).dg3 = View.canon (Val := Elt F) ([⟨rRow, addRow (View.readCov (Val := Elt F) (ms0_17 t).view [⟨rRow, zero S1x1024⟩] rRow.toLoadRect)
    ((loads m c t).tg3 (dhA m c t))⟩, ⟨rRow, zero S1x1024⟩]) := by
  sl_kernel_rfl
theorem leftA_dg4 : (leftA m c t h0).dg4 = View.canon (Val := Elt F) ([⟨rRow, addRow (View.readCov (Val := Elt F) (ms0_18 t).view [⟨rRow, zero S1x1024⟩] rRow.toLoadRect)
    (loads m c t).tg4⟩, ⟨rRow, zero S1x1024⟩]) := by
  sl_kernel_rfl
theorem leftA_dcb : (leftA m c t h0).dcb = View.canon (Val := Elt F) (dcbA m c t Loads.order) := by
  sl_kernel_rfl
theorem leftA_dcw : (leftA m c t h0).dcw = View.canon (Val := Elt F) (dcwA m c t order3) := by
  sl_kernel_rfl
theorem leftA_dyc : (leftA m c t h0).dyc = View.canon (Val := Elt F) (dycA m c t Loads.order) := by
  sl_kernel_rfl
end first

end Cert.Kernel.Own

end
-- ==== Proof.Canon.lean ====
/-
  What lists of stores leave, row by row and chunk by chunk.
-/
module

public import proofs.«01_k».proof.Proof.Bridge
public import Idealize.ShloMosaic.Lib.Pointwise

@[expose] public section

set_option maxRecDepth 16384

noncomputable section

namespace Cert.Kernel.Own

open Cert.Kernel Cert.Kernel.Gen
open Idealize.ShloMosaic Idealize.ShloMosaic.TcCoe

section lists
variable {Val : EltTy → Type} [∀ e, Nonempty (Val e)] {s : Shape} {e : EltTy} {κ : Type} [DecidableEq κ] (r : κ → Rect s)

/-- One store through each of some rectangles that do not meet. -/
theorem canon_map (w : ∀ k, (r k).shape.Idx → Val e) (hd : ∀ k k' x, k ≠ k' → (r k).emb x ∉ (r k').set) (k : κ) (x : (r k).shape.Idx)
    (l : List κ) (hk : k ∈ l) : View.canon (l.map fun k => (⟨r k, w k⟩ : View.Piece Val s e)) ((r k).emb x) = w k x := by
  induction l with
  | nil => exact absurd hk List.not_mem_nil
  | cons k' l ih =>
    rw [List.map_cons]
    by_cases h : k = k'
    · subst h; exact View.canon_cons_emb _ _ _ _
    · rw [View.canon_cons_of_not_mem _ _ (hd k k' x h)]
      exact ih ((List.mem_cons.mp hk).resolve_left h)

/-- Stores through such rectangles, each made from what its rectangle held. -/
theorem canon_acc {sig : RefSig} {ki : Kind} {sp : Space} (v : View sig ki sp s e) (Z : View.Piece Val s e)
    (P : List κ → List (View.Piece Val s e)) (f : ∀ k, ((r k).shape.Idx → Val e) → (r k).shape.Idx → Val e)
    (h0 : P [] = [Z]) (h1 : ∀ k l, P (k :: l) = ⟨r k, f k (v.readCov (P l) (r k).toLoadRect)⟩ :: P l)
    (hd : ∀ k k' x, k ≠ k' → (r k).emb x ∉ (r k').set) (k : κ) (x : (r k).shape.Idx) (l : List κ) (hl : l.Nodup) :
    View.canon (P l) ((r k).emb x) = if k ∈ l then f k (fun j => View.canon [Z] ((r k).emb j)) x else View.canon [Z] ((r k).emb x) := by
  induction l generalizing x with
  | nil => rw [h0, if_neg List.not_mem_nil]
  | cons k' l ih =>
    rw [h1]
    have hl' := List.nodup_cons.mp hl
    by_cases h : k = k'
    · subst h
      rw [View.canon_cons_emb, if_pos List.mem_cons_self, View.readCov_eq_canon']
      congr 1
      funext j
      exact (ih j hl'.2).trans (if_neg hl'.1)
    · rw [View.canon_cons_of_not_mem _ _ (hd k k' x h), ih x hl'.2]
      simp only [List.mem_cons, h, false_or]
end lists

/-! ### The rectangles' indices -/

/-- Two indices with equal coordinates. -/
theorem idx2_eq {a b : ℕ} (x y : (⟨2, ![a, b]⟩ : Shape).Idx) (h0 : (x 0).val = (y 0).val) (h1 : (x 1).val = (y 1).val) : x = y := by
  funext i; apply Fin.ext; match i with | ⟨0, _⟩ => exact h0 | ⟨1, _⟩ => exact h1
theorem idx3_eq {a b d : ℕ} (x y : (⟨3, ![a, b, d]⟩ : Shape).Idx) (h0 : (x 0).val = (y 0).val) (h1 : (x 1).val = (y 1).val)
    (h2 : (x 2).val = (y 2).val) : x = y := by
  funext i; apply Fin.ext; match i with | ⟨0, _⟩ => exact h0 | ⟨1, _⟩ => exact h1 | ⟨2, _⟩ => exact h2

theorem rUp_emb (k : Fin 8) (z : Fin 1) (i : Fin 256) (c : Fin 704) : (rUp k).emb (ix3 z i c) = ix3 k i c :=
  idx3_eq _ _ (by simp) (by simp) (by simp)
theorem rHalo_emb (k : Fin 8) (z : Fin 1) (i : Fin 8) (c : Fin 704) : (rHalo k).emb (ix3 z i c) = ix3 k i c :=
  idx3_eq _ _ (by simp) (by simp) (by simp)
theorem rCw_emb (k : Fin 8) (z : Fin 1) (i : Fin 3) (c : Fin 704) : (rCw k).emb (ix3 z i c) = ix3 k i c :=
  idx3_eq _ _ (by simp) (by simp) (by simp)
theorem rWup_emb (k : Fin 8) (z : Fin 1) (i : Fin 1024) (c : Fin 704) : (rWup k).emb (ix3 z i c) = ix3 k i c :=
  idx3_eq _ _ (by simp) (by simp) (by simp)
theorem rTap_emb (k : Fin 8) (q : Fin 3) (z y : Fin 1) (c : Fin 704) : (rTap k q).emb (ix3 z y c) = ix3 k q c :=
  idx3_eq _ _ (by simp) (by simp) (by simp)
theorem rCb_emb (k : Fin 8) (z : Fin 1) (c : Fin 704) : (rCb k).emb (ix2 z c) = ix2 k c := idx2_eq _ _ (by simp) (by simp)
theorem rMod_emb (k : Fin 6) (z : Fin 1) (c : Fin 1024) : (rMod k).emb (ix2 z c) = ix2 k c := idx2_eq _ _ (by simp) (by simp)
theorem rDmod_emb (k : Fin 3) (z : Fin 1) (c : Fin 1024) : (rDmod k).emb (ix2 z c) = ix2 k c :=
  idx2_eq _ _ (by simp) (by simp)
theorem rWd_emb (j : Fin 4) (c : Fin 704) (d : Fin 1024) : (rWd j).emb (ix2 c d) = ix2 ⟨j.val * 704 + c.val, by omega⟩ d :=
  idx2_eq _ _ (by simp) (by simp)

theorem rRow_emb (z : Fin 1) (d : Fin 1024) : rRow.emb (ix2 z d) = ix2 z d := idx2_eq _ _ (by simp) (by simp)
theorem rRows_emb (i : Fin 256) (d : Fin 1024) : rRows.emb (ix2 i d) = ix2 i d := idx2_eq _ _ (by simp) (by simp)

/-- Two chunks, or two rows, do not meet. -/
theorem off3 {a b : ℕ} (k k' : Fin 8) (i : (⟨3, ![8, a, b]⟩ : Shape).Idx) (hi : (i 0).val = k.val) (h : k ≠ k') :
    i ∉ (Rect.unit (s := ⟨3, ![8, a, b]⟩) ![k'.val, 0, 0] (⟨3, ![1, a, b]⟩ : Shape).size (inb3 k')).set := by
  intro hm
  obtain ⟨j, hj, e⟩ := (LoadRect.mem_set _).mp hm 0
  have e' : (i 0).val = k'.val + 1 * j := e
  have : j < 1 := hj
  exact h (Fin.ext (by omega))
theorem off2 {n b : ℕ} (k k' : Fin n) (i : (⟨2, ![n, b]⟩ : Shape).Idx) (hi : (i 0).val = k.val) (h : k ≠ k') :
    i ∉ (Rect.unit (s := ⟨2, ![n, b]⟩) ![k'.val, 0] (⟨2, ![1, b]⟩ : Shape).size (inb2 k')).set := by
  intro hm
  obtain ⟨j, hj, e⟩ := (LoadRect.mem_set _).mp hm 0
  have e' : (i 0).val = k'.val + 1 * j := e
  have : j < 1 := hj
  exact h (Fin.ext (by omega))

theorem rUp_off (k k' : Fin 8) (x : (rUp k).shape.Idx) (h : k ≠ k') : (rUp k).emb x ∉ (rUp k').set :=
  off3 k k' _ (by have := (x 0).isLt; simp [Rect.emb_apply] at this ⊢; omega) h
theorem rHalo_off (k k' : Fin 8) (x : (rHalo k).shape.Idx) (h : k ≠ k') : (rHalo k).emb x ∉ (rHalo k').set :=
  off3 k k' _ (by have := (x 0).isLt; simp [Rect.emb_apply] at this ⊢; omega) h
theorem rCb_off (k k' : Fin 8) (x : (rCb k).shape.Idx) (h : k ≠ k') : (rCb k).emb x ∉ (rCb k').set :=
  off2 k k' _ (by have := (x 0).isLt; simp [Rect.emb_apply] at this ⊢; omega) h
theorem rDmod_off (k k' : Fin 3) (x : (rDmod k).shape.Idx) (h : k ≠ k') : (rDmod k).emb x ∉ (rDmod k').set :=
  off2 k k' _ (by have := (x 0).isLt; simp [Rect.emb_apply] at this ⊢; omega) h
theorem rTap_off (q q' : Fin 8 × Fin 3) (x : (rTap q.1 q.2).shape.Idx) (h : q ≠ q') :
    (rTap q.1 q.2).emb x ∉ (rTap q'.1 q'.2).set := by
  intro hm
  obtain ⟨j, hj, e⟩ := (LoadRect.mem_set _).mp hm 0
  obtain ⟨j', hj', e'⟩ := (LoadRect.mem_set _).mp hm 1
  have h0 := (x 0).isLt
  have h1 := (x 1).isLt
  simp [Rect.emb_apply] at e e' hj hj' h0 h1
  exact h (Prod.ext (Fin.ext (by omega)) (Fin.ext (by omega)))

end Cert.Kernel.Own

end
-- ==== Proof.VocAt.lean ====
/-
  The arithmetic of Voc.lean read at an index, over the extended reals, where what it is given are real numbers.
-/
module

public import proofs.«01_k».proof.Proof.Voc
public import proofs.«01_k».proof.Proof.Fold
public import proofs.«01_k».proof.Defs
public import Idealize.ShloMosaic.Lib.Pointwise

@[expose] public section

set_option maxRecDepth 16384

noncomputable section

namespace Cert.Kernel.Own

open Cert.Kernel Cert.Kernel.Gen Cert.Spec
open Idealize.ShloMosaic Idealize.ShloMosaic.TcCoe

section norms
variable {v u : Rows Ideal} {a b : Fin 256 → Fin 1024 → ℝ}

theorem rowMean_at (hv : ∀ i d, v (ix2 i d) = ((a i d : ℝ) : EReal)) (i : Fin 256) (z : Fin 1) :
    rowMean v (ix2 i z) = (((∑ d, a i d) / 1024 : ℝ) : EReal) := by
  unfold rowMean
  pointwise [hv, c_zero, c_1024, coe_sum, div_coe_coe _ (1024:ℝ) (by norm_num)]

theorem rowScale_at (hv : ∀ i d, v (ix2 i d) = ((a i d : ℝ) : EReal)) (i : Fin 256) (z : Fin 1) :
    rowScale v (ix2 i z) = (((Real.sqrt ((∑ d, a i d * a i d) / 1024 + eps))⁻¹ : ℝ) : EReal) := by
  have h2 : ∀ i d, mulf v v (ix2 i d) = ((a i d * a i d : ℝ) : EReal) := fun i d => by
    pointwise [hv, ← EReal.coe_mul]
  unfold rowScale
  pointwise [rowMean_at h2, c_eps, ← EReal.coe_add]
  exact rsqrt_of_pos _ (ms_pos _)

theorem normed_at (hv : ∀ i d, v (ix2 i d) = ((a i d : ℝ) : EReal)) (i : Fin 256) (d : Fin 1024) :
    normed v (ix2 i d) = ((a i d * (Real.sqrt ((∑ d, a i d * a i d) / 1024 + eps))⁻¹ : ℝ) : EReal) := by
  unfold normed
  pointwise [hv, rowScale_at hv, ← EReal.coe_mul]

theorem normBack_at (hv : ∀ i d, v (ix2 i d) = ((a i d : ℝ) : EReal)) (hu : ∀ i d, u (ix2 i d) = ((b i d : ℝ) : EReal))
    (r : Fin 256 → ℝ) (hr : ∀ i, r i = (Real.sqrt ((∑ d, a i d * a i d) / 1024 + eps))⁻¹) (i : Fin 256) (d : Fin 1024) :
    normBack v u (ix2 i d) = ((r i * (b i d - a i d * r i * ((∑ e, b i e * (a i e * r i)) / 1024)) : ℝ) : EReal) := by
  have h2 : ∀ i d, mulf u (normed v) (ix2 i d) = ((b i d * (a i d * r i) : ℝ) : EReal) := fun i d => by
    pointwise [hu, normed_at hv, ← EReal.coe_mul]
    rw [hr]
  unfold normBack
  pointwise [hu, normed_at hv, rowScale_at hv, rowMean_at h2, ← EReal.coe_mul, ← EReal.coe_sub]
  rw [hr]

theorem overRows_at (hv : ∀ i d, v (ix2 i d) = ((a i d : ℝ) : EReal)) (z : Fin 1) (d : Fin 1024) :
    overRows v (ix2 z d) = ((∑ i, a i d : ℝ) : EReal) := by
  unfold overRows
  pointwise [hv, c_zero, coe_sum]
end norms

theorem overRowsC_at {v : Cols Ideal} {a : Fin 256 → Fin 704 → ℝ} (hv : ∀ i d, v (ix2 i d) = ((a i d : ℝ) : EReal)) (z : Fin 1) (d : Fin 704) :
    overRowsC v (ix2 z d) = ((∑ i, a i d : ℝ) : EReal) := by
  unfold overRowsC
  pointwise [hv, c_zero, coe_sum]

/-- A row number below eight against a bound. -/
theorem sge_at {α : Type} (k : ℕ) (hk : k < 8) (n : ℕ) (hn : n < 8) (x y : α) :
    Scalar.select (IntOp.cmpi .sge (BitVec.ofNat 32 n) (BitVec.ofNat 32 k)) x y = if k ≤ n then x else y := by
  have h : ∀ k n : Fin 8, IntOp.cmpi .sge (BitVec.ofNat 32 n.val) (BitVec.ofNat 32 k.val) = if k.val ≤ n.val then 1#1 else 0#1 := by decide
  have e := h ⟨k, hk⟩ ⟨n, hn⟩
  simp only at e
  rw [e]
  by_cases hc : k ≤ n <;> simp [hc, Scalar.select]
theorem slt_at {α : Type} (k : ℕ) (hk : k < 8) (n : ℕ) (hn : n < 8) (x y : α) :
    Scalar.select (IntOp.cmpi .slt (BitVec.ofNat 32 n) (BitVec.ofNat 32 k)) x y = if n < k then x else y := by
  have h : ∀ k n : Fin 8, IntOp.cmpi .slt (BitVec.ofNat 32 n.val) (BitVec.ofNat 32 k.val) = if n.val < k.val then 1#1 else 0#1 := by decide
  have e := h ⟨k, hk⟩ ⟨n, hn⟩
  simp only at e
  rw [e]
  by_cases hc : n < k <;> simp [hc, Scalar.select]

section shifts
variable (u : Cols Ideal) (a : FVec Ideal S8x704 .f32) (i : Fin 256) (c : Fin 704)

theorem up1_at : up1 u a (ix2 i c)
    = if h : i.val + 1 < 256 then u (ix2 ⟨i.val + 1, h⟩ c) else a (ix2 ⟨i.val + 1 - 256, by omega⟩ c) := by
  have hi := i.isLt
  unfold up1
  pointwise []
  by_cases h8 : i.val < 248
  · rw [dif_pos h8, dif_pos (by omega)]
    exact congrArg (fun j : Fin 256 => u (ix2 j c)) (Fin.ext <| by show (i.val + 256 - 255) % 256 = i.val + 1; omega)
  · rw [dif_neg h8, sge_at 7 (by omega) _ (by omega)]
    by_cases h : i.val + 1 < 256
    · rw [dif_pos h, if_neg (by show ¬ 7 ≤ i.val - 248; omega)]
      exact congrArg (fun j : Fin 256 => u (ix2 j c)) (Fin.ext <| by show (248 + (i.val - 248) + 256 - 255) % 256 = i.val + 1; omega)
    · rw [dif_neg h, if_pos (by show 7 ≤ i.val - 248; omega)]
      exact congrArg (fun j : Fin 8 => a (ix2 j c)) (Fin.ext <| by show (i.val - 248 + 8 - 7) % 8 = i.val + 1 - 256; omega)
theorem up2_at : up2 u a (ix2 i c)
    = if h : i.val + 2 < 256 then u (ix2 ⟨i.val + 2, h⟩ c) else a (ix2 ⟨i.val + 2 - 256, by omega⟩ c) := by
  have hi := i.isLt
  unfold up2
  pointwise []
  by_cases h8 : i.val < 248
  · rw [dif_pos h8, dif_pos (by omega)]
    exact congrArg (fun j : Fin 256 => u (ix2 j c)) (Fin.ext <| by show (i.val + 256 - 254) % 256 = i.val + 2; omega)
  · rw [dif_neg h8, sge_at 6 (by omega) _ (by omega)]
    by_cases h : i.val + 2 < 256
    · rw [dif_pos h, if_neg (by show ¬ 6 ≤ i.val - 248; omega)]
      exact congrArg (fun j : Fin 256 => u (ix2 j c)) (Fin.ext <| by show (248 + (i.val - 248) + 256 - 254) % 256 = i.val + 2; omega)
    · rw [dif_neg h, if_pos (by show 6 ≤ i.val - 248; omega)]
      exact congrArg (fun j : Fin 8 => a (ix2 j c)) (Fin.ext <| by show (i.val - 248 + 8 - 6) % 8 = i.val + 2 - 256; omega)
theorem down1_at : down1 u a (ix2 i c)
    = if h : 1 ≤ i.val then u (ix2 ⟨i.val - 1, by omega⟩ c) else a (ix2 ⟨i.val + 7, by omega⟩ c) := by
  have hi := i.isLt
  unfold down1
  pointwise []
  by_cases h8 : i.val < 8
  · rw [dif_pos h8, slt_at 1 (by omega) _ (by omega)]
    by_cases h : 1 ≤ i.val
    · rw [dif_pos h, if_neg (by show ¬ i.val < 1; omega)]
      exact congrArg (fun j : Fin 256 => u (ix2 j c)) (Fin.ext <| by show (i.val + 256 - 1) % 256 = i.val - 1; omega)
    · rw [dif_neg h, if_pos (by show i.val < 1; omega)]
      exact congrArg (fun j : Fin 8 => a (ix2 j c)) (Fin.ext <| by show (i.val + 8 - 1) % 8 = i.val + 7; omega)
  · rw [dif_neg h8, dif_pos (by omega)]
    exact congrArg (fun j : Fin 256 => u (ix2 j c)) (Fin.ext <| by show (8 + (i.val - 8) + 256 - 1) % 256 = i.val - 1; omega)
theorem down2_at : down2 u a (ix2 i c)
    = if h : 2 ≤ i.val then u (ix2 ⟨i.val - 2, by omega⟩ c) else a (ix2 ⟨i.val + 6, by omega⟩ c) := by
  have hi := i.isLt
  unfold down2
  pointwise []
  by_cases h8 : i.val < 8
  · rw [dif_pos h8, slt_at 2 (by omega) _ (by omega)]
    by_cases h : 2 ≤ i.val
    · rw [dif_pos h, if_neg (by show ¬ i.val < 2; omega)]
      exact congrArg (fun j : Fin 256 => u (ix2 j c)) (Fin.ext <| by show (i.val + 256 - 2) % 256 = i.val - 2; omega)
    · rw [dif_neg h, if_pos (by show i.val < 2; omega)]
      exact congrArg (fun j : Fin 8 => a (ix2 j c)) (Fin.ext <| by show (i.val + 8 - 2) % 8 = i.val + 6; omega)
  · rw [dif_neg h8, dif_pos (by omega)]
    exact congrArg (fun j : Fin 256 => u (ix2 j c)) (Fin.ext <| by show (8 + (i.val - 8) + 256 - 2) % 256 = i.val - 2; omega)
end shifts

/-- The logistic of a chunk. -/
theorem gateOf_at {y : Cols Ideal} {i : Fin 256} {c : Fin 704} {r : ℝ} (hy : y (ix2 i c) = (r : EReal)) :
    gateOf y (ix2 i c) = (((1 + Real.exp (-r))⁻¹ : ℝ) : EReal) := by
  unfold gateOf
  pointwise [hy, c_half, ← EReal.coe_mul, Ideal.tanh_coe, ← EReal.coe_add]
  rw [half_tanh]

theorem gateBack_at {a y v : Cols Ideal} {i : Fin 256} {c : Fin 704} {p q r : ℝ} (ha : a (ix2 i c) = (p : EReal))
    (hy : y (ix2 i c) = (q : EReal)) (hv : v (ix2 i c) = (r : EReal)) :
    gateBack a y v (ix2 i c) = ((p * r * ((1 + Real.exp (-q))⁻¹ + q * (1 + Real.exp (-q))⁻¹ * (1 - (1 + Real.exp (-q))⁻¹)) : ℝ) : EReal) := by
  unfold gateBack
  pointwise [ha, hy, hv, gateOf_at hy, c_one, ← EReal.coe_mul, ← EReal.coe_add, ← EReal.coe_sub]
theorem valueBack_at {a y : Cols Ideal} {i : Fin 256} {c : Fin 704} {p q : ℝ} (ha : a (ix2 i c) = (p : EReal))
    (hy : y (ix2 i c) = (q : EReal)) : valueBack a y (ix2 i c) = ((p * (q * (1 + Real.exp (-q))⁻¹) : ℝ) : EReal) := by
  unfold valueBack
  pointwise [ha, hy, gateOf_at hy, ← EReal.coe_mul]

end Cert.Kernel.Own

end
-- ==== Proof.Tile.lean ====
/-
  One grid point's arithmetic where it loads the tile of 256 rows starting at row `b`: what it computes at an index, in
  the words of Spec.lean.
-/
module

public import proofs.«01_k».proof.Proof.VocAt

@[expose] public section

set_option maxRecDepth 16384

noncomputable section

namespace Cert.Kernel.Own

open Cert.Kernel Cert.Kernel.Gen Cert.Spec
open Idealize.ShloMosaic Idealize.ShloMosaic.TcCoe

/-- Row `i` of the tile at `b`, column `c` of chunk `k`, column `c` of the value's chunk `j`. -/
def row (b : Fin 32) (i : Fin 256) : Fin 8192 := ⟨b.val * 256 + i.val, by omega⟩
def col (k : Fin 8) (c : Fin 704) : Fin 5632 := ⟨k.val * 704 + c.val, by omega⟩
def colD (j : Fin 4) (c : Fin 704) : Fin 2816 := ⟨j.val * 704 + c.val, by omega⟩
/-- Row `s` of the eight before the tile, the first tile taking its own. -/
def rowB (b : Fin 32) (s : Fin 8) : Fin 8192 := ⟨b.val * 256 - 8 + s.val, by omega⟩

/-- Row `n` of the cotangent of the convolution, zero past the end. -/
def dyPast (I : Inp) (n : ℕ) (c : Fin 5632) : ℝ := if h : n < 8192 then I.dy ⟨n, h⟩ c else 0

/-- What the point at tile `b` loads of the two programs' inputs. -/
structure At (I : Inp) (b : Fin 32) (L : Loads Ideal) : Prop where
  dx : ∀ i d, L.dx (ix2 i d) = ((I.dx (row b i) d : ℝ) : EReal)
  f : ∀ i d, L.f (ix2 i d) = ((I.f (row b i) d : ℝ) : EReal)
  x : ∀ i d, L.x (ix2 i d) = ((I.x (row b i) d : ℝ) : EReal)
  sh : ∀ (z : Fin 1) d, L.sh (ix2 z d) = ((I.sh d : ℝ) : EReal)
  sc : ∀ (z : Fin 1) d, L.sc (ix2 z d) = ((I.sc d : ℝ) : EReal)
  gf : ∀ (z : Fin 1) d, L.gf (ix2 z d) = ((I.gf d : ℝ) : EReal)
  g3 : ∀ (z : Fin 1) d, L.g3 (ix2 z d) = ((I.g3 d : ℝ) : EReal)
  g4 : ∀ (z : Fin 1) d, L.g4 (ix2 z d) = ((I.g4 d : ℝ) : EReal)
  keep : L.keep = (((if b.val = 0 then 0 else 1) : ℝ) : EReal)
  up : ∀ k (z : Fin 1) i c, L.up k (ix3 z i c) = ((I.up (row b i) (col k c) : ℝ) : EReal)
  halo : ∀ k (z : Fin 1) s c, L.halo k (ix3 z s c) = ((I.up (rowB b s) (col k c) : ℝ) : EReal)
  cw : ∀ k (z : Fin 1) a c, L.cw k (ix3 z a c) = ((I.cw a (col k c) : ℝ) : EReal)
  cb : ∀ k (z : Fin 1) c, L.cb k (ix2 z c) = ((I.cb (col k c) : ℝ) : EReal)
  wup : ∀ k (z : Fin 1) d c, L.wup k (ix3 z d c) = ((I.W d (col k c) : ℝ) : EReal)
  wd : ∀ j c d, L.wd j (ix2 c d) = ((I.Wd (colD j c) d : ℝ) : EReal)

/-- The rows that follow the tile, of the convolution's cotangent. -/
def After (I : Inp) (b : Fin 32) (a : Fin 8 → FVec Ideal S8x704 .f32) : Prop :=
  ∀ k s c, a k (ix2 s c) = ((dyPast I (b.val * 256 + 256 + s.val) (col k c) : ℝ) : EReal)

namespace At

variable {I : Inp} {b : Fin 32} {L : Loads Ideal} (H : At I b L)
include H

theorem dr_at (i : Fin 256) (d : Fin 1024) : L.dr (ix2 i d) = ((I.dr (row b i) d : ℝ) : EReal) := by
  unfold Loads.dr
  pointwise [H.dx, H.gf, ← EReal.coe_mul]; rfl
theorem dfh_at (i : Fin 256) (d : Fin 1024) : L.dfh (ix2 i d) = ((I.dfh (row b i) d : ℝ) : EReal) := by
  unfold Loads.dfh
  pointwise [H.dr_at, H.g4, ← EReal.coe_mul]; rfl
theorem df_at (i : Fin 256) (d : Fin 1024) : L.df (ix2 i d) = ((I.df (row b i) d : ℝ) : EReal) := by
  unfold Loads.df Loads.ff
  rw [shapeCast_self]
  pointwise [normBack_at H.f H.dfh_at (fun i => I.r4 (row b i)) (fun _ => rfl)]
  rfl
theorem fh_at (i : Fin 256) (d : Fin 1024) : normed L.f (ix2 i d) = ((I.fh (row b i) d : ℝ) : EReal) := by
  rw [normed_at H.f]; rfl
theorem xh_at (i : Fin 256) (d : Fin 1024) : normed L.x (ix2 i d) = ((I.xh (row b i) d : ℝ) : EReal) := by
  rw [normed_at H.x]; rfl
theorem n3_at (i : Fin 256) (d : Fin 1024) : L.n3 (ix2 i d) = ((I.n3 (row b i) d : ℝ) : EReal) := by
  unfold Loads.n3
  pointwise [H.xh_at, H.g3, ← EReal.coe_mul]; rfl
theorem one_at (z : Fin 1) (d : Fin 1024) : onePlus L.sc (ix2 z d) = ((1 + I.sc d : ℝ) : EReal) := by
  unfold onePlus
  pointwise [H.sc, c_one, ← EReal.coe_add]
theorem h_at (i : Fin 256) (d : Fin 1024) : L.h (ix2 i d) = ((I.h (row b i) d : ℝ) : EReal) := by
  unfold Loads.h
  pointwise [H.n3_at, H.one_at, H.sh, ← EReal.coe_mul, ← EReal.coe_add]; rfl

/-- The rows before, nothing before the first tile. -/
theorem before_at (k : Fin 8) (s : Fin 8) (c : Fin 704) :
    mulf (shapeCast S8x704 (L.halo k) shapeCasts_S1x8x704_S8x704) (broadcast S8x704 L.keep) (ix2 s c)
      = (((if b.val = 0 then 0 else I.up (rowB b s) (col k c)) : ℝ) : EReal) := by
  pointwise [H.halo, H.keep, ← EReal.coe_mul]
  by_cases h : b.val = 0 <;> simp [h]

theorem upc_at (k : Fin 8) (i : Fin 256) (c : Fin 704) : L.upc k (ix2 i c) = ((I.up (row b i) (col k c) : ℝ) : EReal) := by
  unfold Loads.upc
  pointwise [H.up]

theorem down1_row (k : Fin 8) (i : Fin 256) (c : Fin 704) :
    down1 (L.upc k) (mulf (shapeCast S8x704 (L.halo k) shapeCasts_S1x8x704_S8x704) (broadcast S8x704 L.keep)) (ix2 i c)
      = ((down 1 (fun n => I.up n (col k c)) (row b i) : ℝ) : EReal) := by
  have hi := i.isLt
  rw [down1_at]
  by_cases h : 1 ≤ i.val
  · rw [dif_pos h, H.upc_at, down, dif_pos (by simp only [row]; omega)]
    congr 3; apply Fin.ext; simp only [row]; omega
  · rw [dif_neg h, H.before_at, down]
    by_cases hb : b.val = 0
    · rw [if_pos hb, dif_neg (by simp only [row]; omega)]
    · rw [if_neg hb, dif_pos (by simp only [row]; omega)]
      congr 3; apply Fin.ext; simp only [row, rowB]; omega
theorem down2_row (k : Fin 8) (i : Fin 256) (c : Fin 704) :
    down2 (L.upc k) (mulf (shapeCast S8x704 (L.halo k) shapeCasts_S1x8x704_S8x704) (broadcast S8x704 L.keep)) (ix2 i c)
      = ((down 2 (fun n => I.up n (col k c)) (row b i) : ℝ) : EReal) := by
  have hi := i.isLt
  rw [down2_at]
  by_cases h : 2 ≤ i.val
  · rw [dif_pos h, H.upc_at, down, dif_pos (by simp only [row]; omega)]
    congr 3; apply Fin.ext; simp only [row]; omega
  · rw [dif_neg h, H.before_at, down]
    by_cases hb : b.val = 0
    · rw [if_pos hb, dif_neg (by simp only [row]; omega)]
    · rw [if_neg hb, dif_pos (by simp only [row]; omega)]
      congr 3; apply Fin.ext; simp only [row, rowB]; omega

theorem y_at (k : Fin 8) (i : Fin 256) (c : Fin 704) : L.y k (ix2 i c) = ((I.y (row b i) (col k c) : ℝ) : EReal) := by
  unfold Loads.y conv Loads.taps
  pointwise [H.down1_row, H.down2_row, H.upc_at, H.cw, H.cb, ← EReal.coe_mul, ← EReal.coe_add]
  rfl

theorem dact_at (j : Fin 4) (i : Fin 256) (c : Fin 704) : L.dact j (ix2 i c) = ((I.dact (row b i) (colD j c) : ℝ) : EReal) := by
  unfold Loads.dact
  pointwise [dot_S256x1024_S704x1024_S256x704_1_1_0_0_n_n, H.df_at, H.wd, c_zero, ← EReal.coe_mul, coe_sum, ← EReal.coe_add, zero_add]
  rfl

theorem lo_col (j : Fin 4) (c : Fin 704) : lo (colD j c) = col (j.castAdd 4) c := rfl
theorem hi_col (j : Fin 4) (c : Fin 704) : hi (colD j c) = col (j.natAdd 4) c := by
  apply Fin.ext; simp only [hi, colD, col, Fin.val_natAdd]; omega

theorem dyg_at (j : Fin 4) (i : Fin 256) (c : Fin 704) : L.dyg j (ix2 i c) = ((I.dyg (row b i) (colD j c) : ℝ) : EReal) := by
  unfold Loads.dyg
  rw [gateBack_at (H.dact_at j i c) (H.y_at _ i c) (H.y_at _ i c), Inp.dyg, Inp.silu, Inp.sg, lo_col H, hi_col H]
theorem dyv_at (j : Fin 4) (i : Fin 256) (c : Fin 704) : L.dyv j (ix2 i c) = ((I.dyv (row b i) (colD j c) : ℝ) : EReal) := by
  unfold Loads.dyv
  rw [valueBack_at (H.dact_at j i c) (H.y_at _ i c), Inp.dyv, Inp.silu, Inp.sg, lo_col H]
theorem dy_at (k : Fin 8) (i : Fin 256) (c : Fin 704) : L.dy k (ix2 i c) = ((I.dy (row b i) (col k c) : ℝ) : EReal) := by
  have hk := k.isLt
  have hc := c.isLt
  unfold Loads.dy Inp.dy
  by_cases h : k.val < 4
  · rw [dif_pos h, H.dyg_at, dif_pos (by simp only [col]; omega)]; rfl
  · rw [dif_neg h, H.dyv_at, dif_neg (by simp only [col]; omega)]
    congr 3; apply Fin.ext; simp only [col, colD]; omega

theorem top_at (k : Fin 8) (s : Fin 8) (c : Fin 704) :
    L.top k (ix2 s c) = ((dyPast I (b.val * 256 + s.val) (col k c) : ℝ) : EReal) := by
  unfold Loads.top
  pointwise [H.dy_at]
  rw [dyPast, dif_pos (by omega)]
  rfl

section after
variable {a : Fin 8 → FVec Ideal S8x704 .f32} (A : After I b a)
include A

theorem up1_row (k : Fin 8) (i : Fin 256) (c : Fin 704) : up1 (L.dy k) (a k) (ix2 i c) = ((I.dy1 (row b i) (col k c) : ℝ) : EReal) := by
  have hi := i.isLt
  rw [up1_at, Inp.dy1, up']
  by_cases h : i.val + 1 < 256
  · rw [dif_pos h, H.dy_at, dif_pos (by simp only [row]; omega)]; rfl
  · rw [dif_neg h, A, dyPast]
    have e : b.val * 256 + 256 + (i.val + 1 - 256) = (row b i).val + 1 := by simp only [row]; omega
    simp only [e]
theorem up2_row (k : Fin 8) (i : Fin 256) (c : Fin 704) : up2 (L.dy k) (a k) (ix2 i c) = ((I.dy2 (row b i) (col k c) : ℝ) : EReal) := by
  have hi := i.isLt
  rw [up2_at, Inp.dy2, up']
  by_cases h : i.val + 2 < 256
  · rw [dif_pos h, H.dy_at, dif_pos (by simp only [row]; omega)]; rfl
  · rw [dif_neg h, A, dyPast]
    have e : b.val * 256 + 256 + (i.val + 2 - 256) = (row b i).val + 2 := by simp only [row]; omega
    simp only [e]

theorem dup_at (k : Fin 8) (i : Fin 256) (c : Fin 704) : L.dup k (a k) (ix2 i c) = ((I.dup (row b i) (col k c) : ℝ) : EReal) := by
  unfold Loads.dup convBack Loads.taps
  pointwise [H.dy_at, H.up1_row A, H.up2_row A, H.cw, ← EReal.coe_mul, ← EReal.coe_add]
  rfl

theorem dhPart_at (k : Fin 8) (i : Fin 256) (d : Fin 1024) : L.dhPart k (a k) (ix2 i d)
    = ((∑ c, I.dup (row b i) (col k c) * I.W d (col k c) : ℝ) : EReal) := by
  unfold Loads.dhPart
  pointwise [dot_S256x704_S1024x704_S256x1024_1_1_0_0_n_n, H.dup_at A, H.wup, c_zero, ← EReal.coe_mul, coe_sum, ← EReal.coe_add, zero_add]

theorem dhSum_at (l : List (Fin 8)) (i : Fin 256) (d : Fin 1024) : L.dhSum a l (ix2 i d)
    = (((l.map fun k => ∑ c, I.dup (row b i) (col k c) * I.W d (col k c)).sum : ℝ) : EReal) := by
  induction l with
  | nil => unfold Loads.dhSum; pointwise [c_zero]; rfl
  | cons k l ih =>
    unfold Loads.dhSum
    pointwise [ih, H.dhPart_at A, ← EReal.coe_add]
    rw [List.map_cons, List.sum_cons, add_comm]

theorem dh_at (i : Fin 256) (d : Fin 1024) : L.dh a (ix2 i d) = ((I.dh (row b i) d : ℝ) : EReal) := by
  unfold Loads.dh
  rw [H.dhSum_at A]
  congr 1
  have e : I.dh (row b i) d = ∑ k : Fin 8, ∑ c : Fin 704, I.dup (row b i) (col k c) * I.W d (col k c) := by
    rw [Inp.dh, ← Fintype.sum_prod_type']
    exact (Fintype.sum_equiv (finProdFinEquiv (m := 8) (n := 704)) _ _ fun p => by
      have : (finProdFinEquiv p : Fin (8 * 704)) = col p.1 p.2 := by
        apply Fin.ext; simp only [finProdFinEquiv_apply_val, col]; omega
      rw [this]).symm
  rw [e, Fin.sum_univ_eight]
  simp only [Loads.order, List.map_cons, List.map_nil, List.sum_cons, List.sum_nil]
  ring

theorem dn3_at (i : Fin 256) (d : Fin 1024) : L.dn3 (L.dh a) (ix2 i d) = ((I.dn3 (row b i) d : ℝ) : EReal) := by
  unfold Loads.dn3
  pointwise [H.dh_at A, H.one_at, ← EReal.coe_mul]; rfl
theorem dx_at (i : Fin 256) (d : Fin 1024) : L.dxOut (L.dh a) (ix2 i d) = ((I.dx1 (row b i) d : ℝ) : EReal) := by
  have hu : ∀ i d, mulf (L.dn3 (L.dh a)) (tall L.g3) (ix2 i d) = ((I.dxh (row b i) d : ℝ) : EReal) := fun i d => by
    pointwise [H.dn3_at A, H.g3, ← EReal.coe_mul]; rfl
  unfold Loads.dxOut
  pointwise [H.dx, normBack_at H.x hu (fun i => I.r3 (row b i)) (fun _ => rfl), ← EReal.coe_add]
  rfl

/-- The tile's terms of the running sums. -/
theorem tmod_at (k : Fin 3) (z : Fin 1) (d : Fin 1024) : L.tmod (L.dh a) k (ix2 z d) = ((∑ i, I.tmod k (row b i) d : ℝ) : EReal) := by
  have h1 : ∀ i d, mulf (L.dh a) L.n3 (ix2 i d) = ((I.tsc (row b i) d : ℝ) : EReal) := fun i d => by
    pointwise [H.dh_at A, H.n3_at, ← EReal.coe_mul]; rfl
  have h2 : ∀ i d, mulf L.dx (mulf (normed L.ff) (tall L.g4)) (ix2 i d) = ((I.tg (row b i) d : ℝ) : EReal) := fun i d => by
    pointwise [H.dx, H.fh_at, H.g4, ← EReal.coe_mul]; rfl
  fin_cases k
  · exact overRows_at (H.dh_at A) z d
  · exact overRows_at h1 z d
  · exact overRows_at h2 z d
theorem tg3_at (z : Fin 1) (d : Fin 1024) : L.tg3 (L.dh a) (ix2 z d) = ((∑ i, I.tg3 (row b i) d : ℝ) : EReal) :=
  overRows_at (a := fun i d => I.tg3 (row b i) d) (fun i d => by pointwise [H.dn3_at A, H.xh_at, ← EReal.coe_mul]; rfl) z d
theorem tcw_at (k : Fin 8) (q : Fin 3) (z : Fin 1) (c : Fin 704) :
    L.tcw k (a k) q (ix2 z c) = ((∑ i, I.tcw q (row b i) (col k c) : ℝ) : EReal) := by
  fin_cases q
  · exact overRowsC_at (a := fun i c => I.tcw 0 (row b i) (col k c))
      (fun i c => by simp only [Loads.met]; pointwise [H.up2_row A, H.upc_at, ← EReal.coe_mul]; rfl) z c
  · exact overRowsC_at (a := fun i c => I.tcw 1 (row b i) (col k c))
      (fun i c => by simp only [Loads.met]; pointwise [H.up1_row A, H.upc_at, ← EReal.coe_mul]; rfl) z c
  · exact overRowsC_at (a := fun i c => I.tcw 2 (row b i) (col k c))
      (fun i c => by simp only [Loads.met]; pointwise [H.dy_at, H.upc_at, ← EReal.coe_mul]; rfl) z c
end after

theorem tg4_at (z : Fin 1) (d : Fin 1024) : L.tg4 (ix2 z d) = ((∑ i, I.tg4 (row b i) d : ℝ) : EReal) :=
  overRows_at (a := fun i d => I.tg4 (row b i) d) (fun i d => by pointwise [H.dr_at, H.fh_at, ← EReal.coe_mul]; rfl) z d
theorem tcb_at (k : Fin 8) (z : Fin 1) (c : Fin 704) : L.tcb k (ix2 z c) = ((∑ i, I.dy (row b i) (col k c) : ℝ) : EReal) :=
  overRowsC_at (a := fun i c => I.dy (row b i) (col k c)) (fun i c => H.dy_at k i c) z c

end At

end Cert.Kernel.Own

end
-- ==== Proof.State.lean ====
/-
  What one grid point leaves, in the words of Spec.lean: the tile's rows, the running sums so far, and the rows it hands
  to the next point. Point `t` takes tile `31 - t`.
-/
module

public import proofs.«01_k».proof.Proof.Canon
public import proofs.«01_k».proof.Proof.Tile

@[expose] public section

set_option maxRecDepth 16384

noncomputable section

namespace Cert.Kernel.Own

open Cert.Kernel Cert.Kernel.Gen Cert.Spec
open Idealize.ShloMosaic Idealize.ShloMosaic.TcCoe

/-- The tile of point `t`. -/
def tile (t : ℕ) : Fin 32 := ⟨31 - t, by omega⟩

/-- The sum over the tiles of the points up to `t`. -/
def upto (g : Fin 8192 → ℝ) (t : ℕ) : ℝ := ∑ s ∈ Finset.range (t + 1), ∑ i : Fin 256, g (row (tile s) i)

theorem upto_zero (g : Fin 8192 → ℝ) : upto g 0 = ∑ i : Fin 256, g (row (tile 0) i) := by simp [upto]
theorem upto_succ (g : Fin 8192 → ℝ) (t : ℕ) : upto g (t + 1) = upto g t + ∑ i : Fin 256, g (row (tile (t + 1)) i) := by
  rw [upto, Finset.sum_range_succ]; rfl

/-- What point `t` leaves. -/
structure Holds (I : Inp) (t : ℕ) (p : Left Ideal) : Prop where
  dx : ∀ i d, p.dx (ix2 i d) = ((I.dx1 (row (tile t) i) d : ℝ) : EReal)
  dup : ∀ k i c, p.dup (ix3 k i c) = ((I.dup (row (tile t) i) (col k c) : ℝ) : EReal)
  df : ∀ i d, p.df (ix2 i d) = ((I.df (row (tile t) i) d : ℝ) : EReal)
  h : ∀ i d, p.h (ix2 i d) = ((I.h (row (tile t) i) d : ℝ) : EReal)
  dmod : ∀ k d, p.dmod (ix2 k d) = ((upto (fun n => I.tmod k n d) t : ℝ) : EReal)
  dg3 : ∀ (z : Fin 1) d, p.dg3 (ix2 z d) = ((upto (fun n => I.tg3 n d) t : ℝ) : EReal)
  dg4 : ∀ (z : Fin 1) d, p.dg4 (ix2 z d) = ((upto (fun n => I.tg4 n d) t : ℝ) : EReal)
  dcb : ∀ k c, p.dcb (ix2 k c) = ((upto (fun n => I.dy n (col k c)) t : ℝ) : EReal)
  dcw : ∀ k q c, p.dcw (ix3 k q c) = ((upto (fun n => I.tcw q n (col k c)) t : ℝ) : EReal)
  dyc : ∀ k s c, p.dyc (ix3 k s c) = ((dyPast I ((tile t).val * 256 + s.val) (col k c) : ℝ) : EReal)

/-- A load from whole contents. -/
theorem load_at {s : Shape} {e : EltTy} {κ : Kind} {sp : Space} {sg : RefSig} {mr : Memref sg κ sp s e} (hm : mr.IsWhole)
    (X : s.Idx → Elt Ideal e) (r : Rect s) (x : r.shape.Idx) :
    View.readAt (Elt Ideal) mr.view r.toLoadRect (hm.unread X) x = X (r.emb x) := by
  rw [View.readAt_eq_ld, Memref.IsWhole.read_unread]; rfl

theorem load_halo {e : EltTy} {κ : Kind} {sp : Space} {sg : RefSig} {mr : Memref sg κ sp S8x8x704 e} (hm : mr.IsWhole)
    (X : S8x8x704.Idx → Elt Ideal e) (k : Fin 8) (z : Fin 1) (s : Fin 8) (c : Fin 704) :
    View.readAt (Elt Ideal) mr.view (rHalo k).toLoadRect (hm.unread X) (ix3 z s c) = X (ix3 k s c) := by
  refine Eq.trans (b := X ((rHalo k).emb (ix3 z s c))) ?_ (congrArg X (rHalo_emb k z s c))
  exact load_at hm X (rHalo k) (ix3 z s c)

/-- One chunk's rows without and with its leading axis. -/
theorem cast_halo (X : FVec Ideal S1x8x704 .f32) (s : Fin 8) (c : Fin 704) :
    shapeCast S8x704 X shapeCasts_S1x8x704_S8x704 (ix2 s c) = X (ix3 0 s c) := by pointwise []
theorem cast_halo' (X : FVec Ideal S8x704 .f32) (s : Fin 8) (c : Fin 704) :
    shapeCast S1x8x704 X shapeCasts_S8x704_S1x8x704 (ix3 0 s c) = X (ix2 s c) := by pointwise []
theorem cast_up' (X : FVec Ideal S256x704 .bf16) (s : Fin 256) (c : Fin 704) :
    shapeCast S1x256x704 X shapeCasts_S256x704_S1x256x704 (ix3 0 s c) = X (ix2 s c) := by pointwise []

theorem addRow_at (v t : Row Ideal) (z : Fin 1) (d : Fin 1024) (a b : ℝ) (hv : v (ix2 z d) = (a : EReal)) (ht : t (ix2 z d) = (b : EReal)) :
    addRow v t (ix2 z d) = ((a + b : ℝ) : EReal) := by
  unfold addRow
  rw [shapeCast_self]
  show v (ix2 z d) + t (ix2 z d) = _
  rw [hv, ht, EReal.coe_add]
theorem addCol_at (v t : FVec Ideal S1x704 .f32) (z : Fin 1) (d : Fin 704) (a b : ℝ) (hv : v (ix2 z d) = (a : EReal))
    (ht : t (ix2 z d) = (b : EReal)) : addCol v t (ix2 z d) = ((a + b : ℝ) : EReal) := by
  unfold addCol
  rw [shapeCast_self]
  show v (ix2 z d) + t (ix2 z d) = _
  rw [hv, ht, EReal.coe_add]
theorem addTap_at (v : FVec Ideal S1x1x704 .f32) (t : FVec Ideal S1x704 .f32) (d : Fin 704) (a b : ℝ)
    (hv : v (ix3 0 0 d) = (a : EReal)) (ht : t (ix2 0 d) = (b : EReal)) : addTap v t (ix3 0 0 d) = ((a + b : ℝ) : EReal) := by
  unfold addTap
  pointwise [hv, ht, ← EReal.coe_add]

theorem zero_at (s : Shape) (i : s.Idx) : zero (F := Ideal) s i = ((0 : ℝ) : EReal) := c_zero

variable (m : (ℓ : Loc nD τ sig) → Buf (Elt Ideal) ℓ) (I : Inp)

theorem off_zero2 : (![0, 0] : Fin 2 → ℕ) = fun _ => 0 := by funext a; fin_cases a <;> rfl
theorem off_zero3 : (![0, 0, 0] : Fin 3 → ℕ) = fun _ => 0 := by funext a; fin_cases a <;> rfl

theorem all_order : ∀ k : Fin 8, k ∈ Loads.order := by decide
theorem all_order3 : ∀ q : Fin 8 × Fin 3, q ∈ order3 := by decide
theorem all_rows : ∀ k : Fin 3, k ∈ ([1, 0, 2] : List (Fin 3)) := by decide

section later
variable (c : Dev nD) (t : Fin cfg0.N) (h0 : ¬t.val % 32 = 0) (p : Left Ideal)

theorem afterB_at (hp : (tile (t.val - 1)).val = (tile t.val).val + 1) (P : Holds I (t.val - 1) p) : After I (tile t.val) (afterB p) := by
  intro k s c'
  unfold afterB
  rw [cast_halo]
  refine (load_halo (Memref.isWhole_whole _) p.dyc k 0 s c').trans ?_
  rw [P.dyc, hp]
  congr 3; ring

theorem holds_later (hp : (tile (t.val - 1)).val = (tile t.val).val + 1) (H : At I (tile t.val) (loads m c t))
    (P : Holds I (t.val - 1) p) : Holds I t.val (leftB m c t h0 p) := by
  have A : After I (tile t.val) (afterB p) := afterB_at I t p hp P
  have hs : t.val = t.val - 1 + 1 := by have : t.val ≠ 0 := fun h => h0 (by rw [h]); omega
  have hu : ∀ g : Fin 8192 → ℝ, upto g t.val = upto g (t.val - 1) + ∑ i : Fin 256, g (row (tile t.val) i) := fun g => by
    conv_lhs => rw [hs]
    rw [upto_succ, ← hs]
  have hd : dhB m c t p = (loads m c t).dh (afterB p) := dhV_eq m c t _
  refine ⟨fun i d => ?_, fun k i c' => ?_, fun i d => ?_, fun i d => ?_, fun k d => ?_, fun z d => ?_, fun z d => ?_, fun k c' => ?_,
    fun k q c' => ?_, fun k s c' => ?_⟩
  · rw [leftB_dx, View.canon_unit_zero off_zero2, hd]
    exact H.dx_at A i d
  · rw [leftB_dup, ← rUp_emb k 0 i c']
    rw [canon_map rUp _ (fun k k' x h => rUp_off k k' x h) k (ix3 0 i c') _ (all_order k)]
    rw [cast_up']
    exact H.dup_at A k i c'
  · rw [leftB_df, View.canon_unit_zero off_zero2]
    exact H.df_at i d
  · rw [leftB_h, View.canon_unit_zero off_zero2]
    exact H.h_at i d
  · rw [leftB_dmod, ← rDmod_emb k 0 d, hu, hd]
    rw [canon_map rDmod _ (fun k k' x h => rDmod_off k k' x h) k (ix2 0 d) _ (all_rows k)]
    exact addRow_at _ _ 0 d _ _ ((load_at (hs0_16 t) p.dmod (rDmod k) (ix2 0 d)).trans (by rw [rDmod_emb, P.dmod])) (H.tmod_at A k 0 d)
  · rw [leftB_dg3, View.canon_unit_zero off_zero2, hd, hu]
    exact addRow_at _ _ z d _ _ ((load_at (hs0_17 t) p.dg3 rRow (ix2 z d)).trans (by rw [rRow_emb, P.dg3])) (H.tg3_at A z d)
  · rw [leftB_dg4, View.canon_unit_zero off_zero2, hu]
    exact addRow_at _ _ z d _ _ ((load_at (hs0_18 t) p.dg4 rRow (ix2 z d)).trans (by rw [rRow_emb, P.dg4])) (H.tg4_at z d)
  · rw [leftB_dcb, ← rCb_emb k 0 c', hu]
    rw [canon_map rCb _ (fun k k' x h => rCb_off k k' x h) k (ix2 0 c') _ (all_order k)]
    exact addCol_at _ _ 0 c' _ _ ((load_at (hs0_19 t) p.dcb (rCb k) (ix2 0 c')).trans (by rw [rCb_emb, P.dcb])) (H.tcb_at k 0 c')
  · rw [leftB_dcw, ← rTap_emb k q 0 0 c', hu]
    rw [canon_map (fun q : Fin 8 × Fin 3 => rTap q.1 q.2) _ (fun k k' x h => rTap_off k k' x h) (k, q) (ix3 0 0 c') _ (all_order3 _)]
    exact addTap_at _ _ c' _ _ ((load_at (hs0_20 t) p.dcw (rTap k q) (ix3 0 0 c')).trans (by rw [rTap_emb, P.dcw])) (H.tcw_at A k q 0 c')
  · rw [leftB_dyc, ← rHalo_emb k 0 s c']
    rw [canon_map rHalo _ (fun k k' x h => rHalo_off k k' x h) k (ix3 0 s c') _ (all_order k)]
    rw [cast_halo']
    exact H.top_at k s c'
end later

section first
variable (c : Dev nD) (t : Fin cfg0.N) (h0 : t.val % 32 = 0)

/-- The zeros stored at the first point. -/
theorem zeros2 {n b : ℕ} (inb) (i : (⟨2, ![n, b]⟩ : Shape).Idx) : View.canon (Val := Elt Ideal) (e := .f32)
    [⟨Rect.unit (s := ⟨2, ![n, b]⟩) ![0, 0] (⟨2, ![n, b]⟩ : Shape).size inb, zero (F := Ideal) ⟨2, ![n, b]⟩⟩] i = ((0 : ℝ) : EReal) := by
  rw [View.canon_unit_zero off_zero2]; exact zero_at _ i
theorem zeros3 {n a b : ℕ} (inb) (i : (⟨3, ![n, a, b]⟩ : Shape).Idx) : View.canon (Val := Elt Ideal) (e := .f32)
    [⟨Rect.unit (s := ⟨3, ![n, a, b]⟩) ![0, 0, 0] (⟨3, ![n, a, b]⟩ : Shape).size inb, zero (F := Ideal) ⟨3, ![n, a, b]⟩⟩] i = ((0 : ℝ) : EReal) := by
  rw [View.canon_unit_zero off_zero3]; exact zero_at _ i

theorem dycA_at (l : List (Fin 8)) (hl : l.Nodup) (k : Fin 8) (s : Fin 8) (c' : Fin 704) :
    View.canon (dycA m c t l) (ix3 k s c')
      = if k ∈ l then shapeCast S1x8x704 ((loads m c t).top k) shapeCasts_S8x704_S1x8x704 (ix3 0 s c') else ((0 : ℝ) : EReal) := by
  have h := canon_acc (Val := Elt Ideal) (e := .f32) rHalo scM0_0.view ⟨Rect.unit ![0, 0, 0] S8x8x704.size inb_S8x8x704_S8x8x704_0_0_0, zero (F := Ideal) S8x8x704⟩ (dycA m c t)
    (fun k _ => shapeCast S1x8x704 ((loads m c t).top k) shapeCasts_S8x704_S1x8x704) rfl (fun _ _ => rfl)
    (fun k k' x h => rHalo_off k k' x h) k (ix3 0 s c') l hl
  rw [rHalo_emb] at h
  rw [h]
  congr 1
  exact zeros3 _ _

theorem not_mem_before : ∀ k : Fin 8, k ∉ (Loads.order.dropWhile (· ≠ k)).tail := by decide
theorem before_nodup : ∀ k : Fin 8, (Loads.order.dropWhile (· ≠ k)).tail.Nodup := by decide

theorem afterA_at (ht : t.val = 0) : After I (tile t.val) (afterA m c t) := by
  intro k s c'
  unfold afterA
  rw [cast_halo, View.readCov_eq_canon']
  refine (congrArg (View.canon _) (rHalo_emb k 0 s c')).trans ?_
  rw [dycA_at m c t _ (before_nodup k), if_neg (not_mem_before k), ht, dyPast, dif_neg (by simp [tile])]

theorem holds_first (ht : t.val = 0) (H : At I (tile t.val) (loads m c t)) : Holds I t.val (leftA m c t h0) := by
  have A : After I (tile t.val) (afterA m c t) := afterA_at m I c t ht
  have hu : ∀ g : Fin 8192 → ℝ, upto g t.val = 0 + ∑ i : Fin 256, g (row (tile t.val) i) := fun g => by
    rw [ht, upto_zero, zero_add]
  have hd : dhA m c t = (loads m c t).dh (afterA m c t) := dhV_eq m c t _
  refine ⟨fun i d => ?_, fun k i c' => ?_, fun i d => ?_, fun i d => ?_, fun k d => ?_, fun z d => ?_, fun z d => ?_, fun k c' => ?_,
    fun k q c' => ?_, fun k s c' => ?_⟩
  · rw [leftA_dx, View.canon_unit_zero off_zero2, hd]
    exact H.dx_at A i d
  · rw [leftA_dup, ← rUp_emb k 0 i c']
    rw [canon_map rUp _ (fun k k' x h => rUp_off k k' x h) k (ix3 0 i c') _ (all_order k)]
    rw [cast_up']
    exact H.dup_at A k i c'
  · rw [leftA_df, View.canon_unit_zero off_zero2]
    exact H.df_at i d
  · rw [leftA_h, View.canon_unit_zero off_zero2]
    exact H.h_at i d
  · rw [leftA_dmod, ← rDmod_emb k 0 d, hu]
    rw [canon_acc rDmod (ms0_16 t).view _ (dmodA m c t) (fun k v => addRow v ((loads m c t).tmod (dhA m c t) k)) rfl (fun _ _ => rfl)
      (fun k k' x h => rDmod_off k k' x h) k (ix2 0 d) _ (by decide), if_pos (all_rows k), hd]
    exact addRow_at _ _ 0 d _ _ (zeros2 _ _) (H.tmod_at A k 0 d)
  · rw [leftA_dg3, View.canon_cons_unit_zero off_zero2, hd, hu, View.readCov_cons_toLoadRect]
    exact addRow_at _ _ z d _ _ (zero_at _ _) (H.tg3_at A z d)
  · rw [leftA_dg4, View.canon_cons_unit_zero off_zero2, hu, View.readCov_cons_toLoadRect]
    exact addRow_at _ _ z d _ _ (zero_at _ _) (H.tg4_at z d)
  · rw [leftA_dcb, ← rCb_emb k 0 c', hu]
    rw [canon_acc rCb (ms0_19 t).view _ (dcbA m c t) (fun k v => addCol v ((loads m c t).tcb k)) rfl (fun _ _ => rfl)
      (fun k k' x h => rCb_off k k' x h) k (ix2 0 c') _ (by decide), if_pos (all_order k)]
    exact addCol_at _ _ 0 c' _ _ (zeros2 _ _) (H.tcb_at k 0 c')
  · rw [leftA_dcw, ← rTap_emb k q 0 0 c', hu]
    rw [canon_acc (fun q : Fin 8 × Fin 3 => rTap q.1 q.2) (ms0_20 t).view _ (dcwA m c t)
      (fun q v => addTap v ((loads m c t).tcw q.1 (afterA m c t q.1) q.2)) rfl (fun _ _ => rfl)
      (fun k k' x h => rTap_off k k' x h) (k, q) (ix3 0 0 c') _ (by decide), if_pos (all_order3 _)]
    exact addTap_at _ _ c' _ _ (zeros3 _ _) (H.tcw_at A k q 0 c')
  · rw [leftA_dyc, dycA_at m c t _ (by decide), if_pos (all_order k)]
    rw [cast_halo']
    exact H.top_at k s c'
end first

/-- Every point leaves what it should, given what every point loads. -/
theorem holds (c : Dev nD) (H : ∀ t : Fin cfg0.N, At I (tile t.val) (loads m c t)) (n : ℕ) (hn : n < cfg0.N) :
    Holds I n (left m c n hn) := by
  induction n with
  | zero => exact (left_A m c ⟨0, hn⟩ rfl) ▸ holds_first m I c ⟨0, hn⟩ rfl rfl (H _)
  | succ n ih =>
    have hN : cfg0.N = 32 := rfl
    have h0 : ¬ (n + 1) % 32 = 0 := by omega
    exact (left_B m c ⟨n + 1, hn⟩ h0) ▸ holds_later m I c ⟨n + 1, hn⟩ h0 _
      (by show (tile (n + 1 - 1)).val = (tile (n + 1)).val + 1; simp only [tile]; omega) (H _) (ih _)

end Cert.Kernel.Own

end
-- ==== Proof.MixCanon.lean ====
/-
  What the lists of stores of the mixing half leave: its buffers of columns, read back group by group and block by block.
-/
module

public import proofs.«01_k».proof.Proof.MixBridge
public import proofs.«01_k».proof.Proof.MixTile
public import proofs.«01_k».proof.Proof.State

@[expose] public section

set_option maxRecDepth 16384

noncomputable section

namespace Cert.MixIdeal.Own

open Cert.MixIdeal Cert.MixIdeal.Gen Cert.MixSpec
open Cert.Spec hiding Inp
open Cert.Kernel.Own (canon_map canon_acc load_at idx2_eq idx3_eq off_zero2 off_zero3)
open Idealize.ShloMosaic Idealize.ShloMosaic.TcCoe

section lists
variable {Val : EltTy → Type} {s : Shape} {e : EltTy} {κ : Type} [DecidableEq κ] (r : κ → Rect s)

/-- One store through each of some rectangles that do not meet, over what was there. -/
theorem read_map {sig : RefSig} {ki : Kind} {sp : Space} (v : View sig ki sp s e) (d : v.ty.Contents Val)
    (w : ∀ k, (r k).shape.Idx → Val e) (hd : ∀ k k' x, k ≠ k' → (r k).emb x ∉ (r k').set) (k : κ) (x : (r k).shape.Idx)
    (l : List κ) (hk : k ∈ l) :
    v.read Val (v.writes Val d (l.map fun k => (⟨r k, w k⟩ : View.Piece Val s e))) ((r k).emb x) = w k x := by
  induction l with
  | nil => exact absurd hk List.not_mem_nil
  | cons k' l ih =>
    rw [List.map_cons]
    by_cases h : k = k'
    · subst h; exact View.read_writes_cons_emb _ _ _ _ _ _
    · rw [View.read_writes_cons_miss _ _ _ _ _ (hd k k' x h)]
      exact ih ((List.mem_cons.mp hk).resolve_left h)
end lists

/-- A running sum's stores at the first point. -/
theorem canon_sumL {s : Shape} {κ : Type} [DecidableEq κ] {ki : Kind} {sp : Space} (v : View sig ki sp s .f32) (Z : View.Piece (Elt Ideal) s .f32)
    (r : κ → Rect s) (f : ∀ k, ((r k).shape.Idx → Elt Ideal .f32) → (r k).shape.Idx → Elt Ideal .f32)
    (hd : ∀ k k' x, k ≠ k' → (r k).emb x ∉ (r k').set) (k : κ) (x : (r k).shape.Idx) (l : List κ) (hl : l.Nodup) (hk : k ∈ l) :
    View.canon (sumL v Z r f l) ((r k).emb x) = f k (fun j => View.canon [Z] ((r k).emb j)) x :=
  (canon_acc r v Z (sumL v Z r f) f rfl (fun _ _ => rfl) hd k x l hl).trans (if_pos hk)

/-- Two rectangles that are apart along an axis. -/
theorem apart {s : Shape} (o z o' z' : Fin s.rank → ℕ) (inb inb') (x : (Rect.unit (s := s) o z inb).shape.Idx) (a : Fin s.rank)
    (h : o a + z a ≤ o' a ∨ o' a + z' a ≤ o a) : (Rect.unit o z inb).emb x ∉ (Rect.unit (s := s) o' z' inb').set := by
  intro hm
  obtain ⟨j, hj, e⟩ := (LoadRect.mem_set _).mp hm a
  have hx : (x a).val < z a := (x a).isLt
  have hj' : j < z' a := hj
  have e' : o a + 1 * (x a).val = o' a + 1 * j := e
  omega

/-! ### The rectangles' indices -/

theorem rProj_emb (k : Fin 12) (i : Fin 512) (c : Fin 128) : (rProj k).emb (ix2 i c) = ix2 i ⟨k.val * 128 + c.val, by omega⟩ :=
  idx2_eq _ _ (by simp) (by simp)
theorem rProjB_emb (b : Fin 4) (k : Fin 12) (i : Fin 128) (c : Fin 128) :
    (rProjB b k).emb (ix2 i c) = ix2 (inTile b i) ⟨k.val * 128 + c.val, by omega⟩ := idx2_eq _ _ (by simp [inTile]) (by simp)
theorem rCat_emb (k : Fin 8) (i : Fin 512) (c : Fin 128) : (rCat k).emb (ix2 i c) = ix2 i ⟨k.val * 128 + c.val, by omega⟩ :=
  idx2_eq _ _ (by simp) (by simp)
theorem rCatB_emb (b : Fin 4) (k : Fin 8) (i : Fin 128) (c : Fin 128) :
    (rCatB b k).emb (ix2 i c) = ix2 (inTile b i) ⟨k.val * 128 + c.val, by omega⟩ := idx2_eq _ _ (by simp [inTile]) (by simp)
theorem rTall_emb (g : Fin 4) (n : Fin 528) (c : Fin 128) : (rTall g).emb (ix2 n c) = ix2 n (lane g c) :=
  idx2_eq _ _ (by simp) (by simp [lane])
theorem rUpper_emb (g : Fin 4) (i : Fin 512) (c : Fin 128) : (rUpper g).emb (ix2 i c) = ix2 ⟨i.val, by omega⟩ (lane g c) :=
  idx2_eq _ _ (by simp) (by simp [lane])
theorem rFirst_emb (s : Fin 16) (l : Fin 512) : rFirst.emb (ix2 s l) = ix2 ⟨s.val, by omega⟩ l :=
  idx2_eq _ _ (by simp) (by simp)
theorem rLast_emb (s : Fin 16) (l : Fin 512) : rLast.emb (ix2 s l) = ix2 ⟨512 + s.val, by omega⟩ l :=
  idx2_eq _ _ (by simp) (by simp)
theorem rBody_emb (i : Fin 512) (l : Fin 512) : rBody.emb (ix2 i l) = ix2 ⟨16 + i.val, by omega⟩ l :=
  idx2_eq _ _ (by simp) (by simp)
theorem rPool_emb (i : Fin 512) (g : Fin 4) (c : Fin 128) : rPool.emb (ix2 i (lane g c)) = ix2 i (cp g c) :=
  idx2_eq _ _ (by simp) (by simp [lane, cp])
theorem rMod_emb (k : Fin 6) (z : Fin 1) (d : Fin 1024) : (rMod k).emb (ix2 z d) = ix2 k d := idx2_eq _ _ (by simp) (by simp)
theorem rDmod_emb (k : Fin 3) (z : Fin 1) (d : Fin 1024) : (rDmod k).emb (ix2 z d) = ix2 k d :=
  idx2_eq _ _ (by simp) (by simp)
theorem rSgn_emb (h : Fin 4) (z : Fin 1) (c : Fin 128) : (rSgn h).emb (ix2 z c) = ix2 h c := idx2_eq _ _ (by simp) (by simp)
theorem rBs_emb (h : Fin 4) (i : Fin 128) (z : Fin 1) : (rBs h).emb (ix2 i z) = ix2 i h := idx2_eq _ _ (by simp) (by simp)
theorem rStack_emb (h : Fin 4) (z : Fin 1) (i j : Fin 128) : (rStack h).emb (ix3 z i j) = ix3 h i j :=
  idx3_eq _ _ (by simp) (by simp) (by simp)
theorem rPs_emb (g : Fin 4) (z : Fin 1) (d : Fin 128) : (rPs g).emb (ix2 z d) = ix2 z (lane g d) :=
  idx2_eq _ _ (by simp) (by simp [lane])
theorem rRow_emb (z : Fin 1) (d : Fin 1024) : rRow.emb (ix2 z d) = ix2 z d := idx2_eq _ _ (by simp) (by simp)
theorem rRows_emb (i : Fin 512) (d : Fin 1024) : rRows.emb (ix2 i d) = ix2 i d := idx2_eq _ _ (by simp) (by simp)
theorem rIn_emb (k : Fin 1536) (d : Fin 1024) : rIn.emb (ix2 k d) = ix2 k d := idx2_eq _ _ (by simp) (by simp)
theorem rOut_emb (k : Fin 1024) (d : Fin 1024) : rOut.emb (ix2 k d) = ix2 k d := idx2_eq _ _ (by simp) (by simp)
theorem rSixteen_emb (s : Fin 16) (l : Fin 512) : rSixteen.emb (ix2 s l) = ix2 s l := idx2_eq _ _ (by simp) (by simp)
theorem rAll_emb (i : Fin 512) (k : Fin 1536) : rAll.emb (ix2 i k) = ix2 i k := idx2_eq _ _ (by simp) (by simp)

/-- Rows, columns, and matrices of a stack do not meet. -/
theorem ne_val {n : ℕ} {k k' : Fin n} (h : k ≠ k') : k.val ≠ k'.val := fun e => h (Fin.ext e)
theorem rDmod_off (k k' : Fin 3) (x : (rDmod k).shape.Idx) (h : k ≠ k') : (rDmod k).emb x ∉ (rDmod k').set :=
  apart _ _ _ _ _ _ x 0 (by have := ne_val h; show k.val + 1 ≤ k'.val ∨ k'.val + 1 ≤ k.val; omega)
theorem rSgn_off (k k' : Fin 4) (x : (rSgn k).shape.Idx) (h : k ≠ k') : (rSgn k).emb x ∉ (rSgn k').set :=
  apart _ _ _ _ _ _ x 0 (by have := ne_val h; show k.val + 1 ≤ k'.val ∨ k'.val + 1 ≤ k.val; omega)
theorem rStack_off (k k' : Fin 4) (x : (rStack k).shape.Idx) (h : k ≠ k') : (rStack k).emb x ∉ (rStack k').set :=
  apart _ _ _ _ _ _ x 0 (by have := ne_val h; show k.val + 1 ≤ k'.val ∨ k'.val + 1 ≤ k.val; omega)
theorem rBs_off (k k' : Fin 4) (x : (rBs k).shape.Idx) (h : k ≠ k') : (rBs k).emb x ∉ (rBs k').set :=
  apart _ _ _ _ _ _ x 1 (by have := ne_val h; show k.val + 1 ≤ k'.val ∨ k'.val + 1 ≤ k.val; omega)
theorem rPs_off (k k' : Fin 4) (x : (rPs k).shape.Idx) (h : k ≠ k') : (rPs k).emb x ∉ (rPs k').set :=
  apart _ _ _ _ _ _ x 1 (by have := ne_val h; show k.val * 128 + 128 ≤ k'.val * 128 ∨ k'.val * 128 + 128 ≤ k.val * 128; omega)

theorem rFirst_off (x : rFirst.shape.Idx) : rFirst.emb x ∉ rBody.set :=
  apart _ _ _ _ _ _ x 0 (.inl (by show 0 + 16 ≤ 16; omega))
theorem under_body {Val : EltTy → Type} [∀ e, Nonempty (Val e)] {e : EltTy} (w : rBody.shape.Idx → Val e) (w' : rFirst.shape.Idx → Val e)
    (x : rFirst.shape.Idx) : View.canon [⟨rBody, w⟩, ⟨rFirst, w'⟩] (rFirst.emb x) = w' x :=
  (View.canon_cons_of_not_mem ⟨rBody, w⟩ [⟨rFirst, w'⟩] (rFirst_off x)).trans (View.canon_cons_emb rFirst w' [] x)

theorem all_back : ∀ h : Fin 4, h ∈ back := by decide

/-! ### The cotangent of the mixed columns, and the pooled columns with the rows before them -/

section mid
variable {I : Inp} {T : Fin 16} {L : Loads Ideal} (H : At I T L)
include H

theorem dcatL_at (i : Fin 512) (k : Fin 1024) : View.canon (dcatL L) (ix2 i k) = ((I.dcat (row T i) k : ℝ) : EReal) := by
  unfold dcatL
  rw [View.canon_unit_zero off_zero2, shapeCast_self]
  exact H.dcat_at i k
theorem poolL_at (n : Fin 528) (g : Fin 4) (c : Fin 128) : View.canon (poolL L) (ix2 n (lane g c)) = ((extR I T g n c : ℝ) : EReal) := by
  have hT := T.isLt
  unfold poolL extR
  rw [shapeCast_self, shapeCast_self, shapeCast_self]
  by_cases h : 16 ≤ n.val
  · have e : (ix2 n (lane g c) : S528x512.Idx) = rBody.emb (ix2 ⟨n.val - 16, by omega⟩ (lane g c)) := by
      rw [rBody_emb]; congr 1; apply Fin.ext; show n.val = 16 + (n.val - 16); omega
    rw [e, View.canon_cons_emb, H.p, dif_pos (by omega)]
    congr 2; apply Fin.ext; simp only [row]; omega
  · have e : (ix2 n (lane g c) : S528x512.Idx) = rFirst.emb (ix2 ⟨n.val, by omega⟩ (lane g c)) := by rw [rFirst_emb]
    rw [e, under_body, H.before_at]
    by_cases h0 : T.val = 0
    · rw [if_pos h0, dif_neg (by omega)]
    · rw [if_neg h0, dif_pos (by omega)]
      congr 2; apply Fin.ext; simp only [rowB]; omega

theorem mid_at : MidAt I T (mid L) := by
  refine ⟨fun h b i c => ?_, fun g i c => ?_, fun g n c => ?_⟩
  · unfold mid
    simp only
    rw [View.readCov_eq_canon']
    refine (congrArg (View.canon _) (rCatB_emb b (colA h) i c)).trans ?_
    exact dcatL_at H (inTile b i) (ka h c)
  · unfold mid
    simp only
    rw [View.readCov_eq_canon']
    refine (congrArg (View.canon _) (rCat_emb (colB g) i c)).trans ?_
    refine Eq.trans (b := View.canon (dcatL L) (ix2 i (kb g c))) (congrArg (fun k => View.canon (dcatL L) (ix2 i k)) ?_) (dcatL_at H i (kb g c))
    apply Fin.ext; simp only [kb]; omega
  · unfold mid
    simp only
    rw [View.readCov_eq_canon']
    exact (congrArg (View.canon _) (rTall_emb g n c)).trans (poolL_at H n g c)

/-! ### The mixed columns, and the cotangent of the projected ones -/

end mid

/-- The stores of the mixed columns: a group each, then a block of a head each. -/
abbrev rc : Fin 4 ⊕ Fin 4 × Fin 4 → Rect S512x1024
  | .inl g => rCat (colB g)
  | .inr q => rCatB q.2 (colA q.1)
abbrev wc (L : Loads Ideal) : ∀ k, (rc k).shape.Idx → Elt Ideal .bf16
  | .inl g => shapeCast S512x128 (L.scaled (mid L) g) shapeCasts_S512x128_S512x128
  | .inr q => shapeCast S128x128 (L.gated q.1 q.2) shapeCasts_S128x128_S128x128
def lc : List (Fin 4 ⊕ Fin 4 × Fin 4) := back.map .inl ++ back.flatMap fun h => back.map fun b => .inr (h, b)
theorem rc_off (k k' : Fin 4 ⊕ Fin 4 × Fin 4) (x : (rc k).shape.Idx) (h : k ≠ k') : (rc k).emb x ∉ (rc k').set := by
  match k, k', x, h with
  | .inl g, .inl g', x, h =>
    have : g.val ≠ g'.val := ne_val fun e => h (congrArg _ e)
    exact apart _ _ _ _ _ _ x 1 (by show (4 + g.val) * 128 + 128 ≤ (4 + g'.val) * 128 ∨ (4 + g'.val) * 128 + 128 ≤ (4 + g.val) * 128; omega)
  | .inl g, .inr q, x, _ => exact apart _ _ _ _ _ _ x 1 (.inr (by have := q.1.isLt; show q.1.val * 128 + 128 ≤ (4 + g.val) * 128; omega))
  | .inr q, .inl g, x, _ => exact apart _ _ _ _ _ _ x 1 (.inl (by have := q.1.isLt; show q.1.val * 128 + 128 ≤ (4 + g.val) * 128; omega))
  | .inr q, .inr q', x, h =>
    by_cases e : q.1 = q'.1
    · have : q.2.val ≠ q'.2.val := ne_val fun e' => h (congrArg _ (Prod.ext e e'))
      exact apart _ _ _ _ _ _ x 0 (by show q.2.val * 128 + 128 ≤ q'.2.val * 128 ∨ q'.2.val * 128 + 128 ≤ q.2.val * 128; omega)
    · have := ne_val e
      exact apart _ _ _ _ _ _ x 1 (by show q.1.val * 128 + 128 ≤ q'.1.val * 128 ∨ q'.1.val * 128 + 128 ≤ q.1.val * 128; omega)

/-- The stores of the projected columns' cotangent: a group each, a head's gated columns each, a block of a head's gating ones. -/
abbrev rp : Fin 4 ⊕ Fin 4 ⊕ Fin 4 × Fin 4 → Rect S512x1536
  | .inl g => rProj (colP g)
  | .inr (.inl h) => rProj (colV h)
  | .inr (.inr q) => rProjB q.2 (colU q.1)
abbrev wp (L : Loads Ideal) (w : Fin 4 → Tall Ideal) : ∀ k, (rp k).shape.Idx → Elt Ideal .bf16
  | .inl g => shapeCast S512x128 (L.dp (mid L) w g) shapeCasts_S512x128_S512x128
  | .inr (.inl h) => shapeCast S512x128 (L.dv (mid L) h) shapeCasts_S512x128_S512x128
  | .inr (.inr q) => shapeCast S128x128 (L.du (mid L) q.1 q.2) shapeCasts_S128x128_S128x128
def lp : List (Fin 4 ⊕ Fin 4 ⊕ Fin 4 × Fin 4) :=
  back.map .inl ++ back.flatMap fun h => .inr (.inl h) :: back.map fun b => .inr (.inr (h, b))
theorem rp_off (k k' : Fin 4 ⊕ Fin 4 ⊕ Fin 4 × Fin 4) (x : (rp k).shape.Idx) (h : k ≠ k') : (rp k).emb x ∉ (rp k').set := by
  match k, k', x, h with
  | .inl g, .inl g', x, h =>
    have : g.val ≠ g'.val := ne_val fun e => h (congrArg _ e)
    exact apart _ _ _ _ _ _ x 1 (by show (8 + g.val) * 128 + 128 ≤ (8 + g'.val) * 128 ∨ (8 + g'.val) * 128 + 128 ≤ (8 + g.val) * 128; omega)
  | .inl g, .inr (.inl j), x, _ => exact apart _ _ _ _ _ _ x 1 (.inr (by have := j.isLt; show (4 + j.val) * 128 + 128 ≤ (8 + g.val) * 128; omega))
  | .inl g, .inr (.inr q), x, _ => exact apart _ _ _ _ _ _ x 1 (.inr (by have := q.1.isLt; show q.1.val * 128 + 128 ≤ (8 + g.val) * 128; omega))
  | .inr (.inl j), .inl g, x, _ => exact apart _ _ _ _ _ _ x 1 (.inl (by have := j.isLt; show (4 + j.val) * 128 + 128 ≤ (8 + g.val) * 128; omega))
  | .inr (.inl g), .inr (.inl g'), x, h =>
    have : g.val ≠ g'.val := ne_val fun e => h (congrArg _ (congrArg _ e))
    exact apart _ _ _ _ _ _ x 1 (by show (4 + g.val) * 128 + 128 ≤ (4 + g'.val) * 128 ∨ (4 + g'.val) * 128 + 128 ≤ (4 + g.val) * 128; omega)
  | .inr (.inl g), .inr (.inr q), x, _ => exact apart _ _ _ _ _ _ x 1 (.inr (by have := q.1.isLt; show q.1.val * 128 + 128 ≤ (4 + g.val) * 128; omega))
  | .inr (.inr q), .inl g, x, _ => exact apart _ _ _ _ _ _ x 1 (.inl (by have := q.1.isLt; show q.1.val * 128 + 128 ≤ (8 + g.val) * 128; omega))
  | .inr (.inr q), .inr (.inl g), x, _ => exact apart _ _ _ _ _ _ x 1 (.inl (by have := q.1.isLt; show q.1.val * 128 + 128 ≤ (4 + g.val) * 128; omega))
  | .inr (.inr q), .inr (.inr q'), x, h =>
    by_cases e : q.1 = q'.1
    · have : q.2.val ≠ q'.2.val := ne_val fun e' => h (congrArg _ (congrArg _ (Prod.ext e e')))
      exact apart _ _ _ _ _ _ x 0 (by show q.2.val * 128 + 128 ≤ q'.2.val * 128 ∨ q'.2.val * 128 + 128 ≤ q.2.val * 128; omega)
    · have := ne_val e
      exact apart _ _ _ _ _ _ x 1 (by show q.1.val * 128 + 128 ≤ q'.1.val * 128 ∨ q'.1.val * 128 + 128 ≤ q.1.val * 128; omega)

theorem all_lc : ∀ k, k ∈ lc
  | .inl g => List.mem_append_left _ (List.mem_map_of_mem (all_back g))
  | .inr (h, b) => List.mem_append_right _ (List.mem_flatMap.mpr ⟨h, all_back h, List.mem_map_of_mem (all_back b)⟩)
theorem all_lp : ∀ k, k ∈ lp
  | .inl g => List.mem_append_left _ (List.mem_map_of_mem (all_back g))
  | .inr (.inl h) => List.mem_append_right _ (List.mem_flatMap.mpr ⟨h, all_back h, List.mem_cons_self⟩)
  | .inr (.inr (h, b)) =>
    List.mem_append_right _ (List.mem_flatMap.mpr ⟨h, all_back h, List.mem_cons_of_mem _ (List.mem_map_of_mem (all_back b))⟩)

section whole
variable {I : Inp} {T : Fin 16} {L : Loads Ideal} (H : At I T L)
include H

theorem catV_at (i : Fin 512) (k : Fin 1024) : catV L (ix2 i k) = ((I.cat (row T i) k : ℝ) : EReal) := by
  have hk := k.isLt
  have e : catL L = lc.map fun q => ⟨rc q, wc L q⟩ := rfl
  unfold catV
  rw [View.readCov_eq_canon', e]
  refine (congrArg (View.canon _) (rRows_emb i k)).trans ?_
  by_cases h : k.val < 512
  · obtain ⟨j, c, rfl⟩ : ∃ j c, k = ka j c := ⟨⟨k.val / 128, by omega⟩, ⟨k.val % 128, by omega⟩, Fin.ext (by simp only [ka]; omega)⟩
    obtain ⟨b, s, rfl⟩ : ∃ b s, i = inTile b s := ⟨_, _, inTile_split i⟩
    have e2 : (ix2 (inTile b s) (ka j c) : S512x1024.Idx) = (rc (.inr (j, b))).emb (ix2 s c) := (rCatB_emb b (colA j) s c).symm
    rw [e2, canon_map rc (wc L) rc_off (.inr (j, b)) (ix2 s c) lc (all_lc _), I.cat_ka]
    simp only [wc]
    rw [shapeCast_self]
    exact H.gated_at j b s c
  · obtain ⟨g, c, rfl⟩ : ∃ j c, k = kb j c := ⟨⟨(k.val - 512) / 128, by omega⟩, ⟨k.val % 128, by omega⟩, Fin.ext (by simp only [kb]; omega)⟩
    have e2 : (ix2 i (kb g c) : S512x1024.Idx) = (rc (.inl g)).emb (ix2 i c) := by
      refine Eq.trans ?_ (rCat_emb (colB g) i c).symm
      congr 1; apply Fin.ext; simp only [kb]; omega
    rw [e2, canon_map rc (wc L) rc_off (.inl g) (ix2 i c) lc (all_lc _), I.cat_kb]
    simp only [wc]
    rw [shapeCast_self]
    exact H.scaled_at (mid_at H) g i c

theorem projV_at {w : Fin 4 → Tall Ideal} (A : After I T w) (i : Fin 512) (k : Fin 1536) :
    projV L w (ix2 i k) = ((I.dproj (row T i) k : ℝ) : EReal) := by
  have hk := k.isLt
  have e : projL L w = lp.map fun q => ⟨rp q, wp L w q⟩ := rfl
  unfold projV
  rw [View.readCov_eq_canon', e]
  refine (congrArg (View.canon _) (rAll_emb i k)).trans ?_
  by_cases h : k.val < 512
  · obtain ⟨j, c, rfl⟩ : ∃ j c, k = cu j c := ⟨⟨k.val / 128, by omega⟩, ⟨k.val % 128, by omega⟩, Fin.ext (by simp only [cu]; omega)⟩
    obtain ⟨b, s, rfl⟩ : ∃ b s, i = inTile b s := ⟨_, _, inTile_split i⟩
    have e2 : (ix2 (inTile b s) (cu j c) : S512x1536.Idx) = (rp (.inr (.inr (j, b)))).emb (ix2 s c) := (rProjB_emb b (colU j) s c).symm
    rw [e2, canon_map rp (wp L w) rp_off (.inr (.inr (j, b))) (ix2 s c) lp (all_lp _), I.dproj_cu]
    simp only [wp]
    rw [shapeCast_self]
    exact H.du_at (mid_at H) j b s c
  by_cases h' : k.val < 1024
  · obtain ⟨j, c, rfl⟩ : ∃ j c, k = cv j c := ⟨⟨(k.val - 512) / 128, by omega⟩, ⟨k.val % 128, by omega⟩, Fin.ext (by simp only [cv]; omega)⟩
    have e2 : (ix2 i (cv j c) : S512x1536.Idx) = (rp (.inr (.inl j))).emb (ix2 i c) := by
      refine Eq.trans ?_ (rProj_emb (colV j) i c).symm
      congr 1; apply Fin.ext; simp only [cv]; omega
    rw [e2, canon_map rp (wp L w) rp_off (.inr (.inl j)) (ix2 i c) lp (all_lp _), I.dproj_cv]
    simp only [wp]
    rw [shapeCast_self]
    exact H.dv_at (mid_at H) j i c
  · obtain ⟨g, c, rfl⟩ : ∃ j c, k = cp j c := ⟨⟨(k.val - 1024) / 128, by omega⟩, ⟨k.val % 128, by omega⟩, Fin.ext (by simp only [cp]; omega)⟩
    have e2 : (ix2 i (cp g c) : S512x1536.Idx) = (rp (.inl g)).emb (ix2 i c) := by
      refine Eq.trans ?_ (rProj_emb (colP g) i c).symm
      congr 1; apply Fin.ext; simp only [cp]; omega
    rw [e2, canon_map rp (wp L w) rp_off (.inl g) (ix2 i c) lp (all_lp _), I.dproj_cp]
    simp only [wp]
    rw [shapeCast_self]
    exact H.dp_at (mid_at H) A g i c
end whole

/-! ### The spread cotangent with the rows after it -/

/-- The stores of it: the rows after the tile, a group's rows each. -/
abbrev rs : Option (Fin 4) → Rect S528x512
  | none => rLast
  | some g => rUpper g
abbrev wsp (L : Loads Ideal) (z : FVec Ideal S16x512 .f32) : ∀ k, (rs k).shape.Idx → Elt Ideal .f32
  | none => z
  | some g => shapeCast S512x128 (L.spread (mid L) g) shapeCasts_S512x128_S512x128
theorem rs_off (k k' : Option (Fin 4)) (x : (rs k).shape.Idx) (h : k ≠ k') : (rs k).emb x ∉ (rs k').set := by
  match k, k', x, h with
  | none, none, _, h => exact absurd rfl h
  | none, some g, x, _ => exact apart _ _ _ _ _ _ x 0 (.inr (by show 0 + 512 ≤ 512; omega))
  | some g, none, x, _ => exact apart _ _ _ _ _ _ x 0 (.inl (by show 0 + 512 ≤ 512; omega))
  | some g, some g', x, h =>
    have : g.val ≠ g'.val := ne_val fun e => h (congrArg _ e)
    exact apart _ _ _ _ _ _ x 1 (by show g.val * 128 + 128 ≤ g'.val * 128 ∨ g'.val * 128 + 128 ≤ g.val * 128; omega)

theorem mem_upTo : ∀ g : Fin 4, g ∈ upTo g := by decide

section spread
variable {I : Inp} {T : Fin 16} {L : Loads Ideal} (H : At I T L)
include H

/-- A row of the tile is stored, a row after it is as before. -/
theorem spread_store (g : Fin 4) (i : Fin 512) (c : Fin 128) (z : FVec Ideal S16x512 .f32) :
    wsp L z (some g) (ix2 i c) = ((I.spreadPast (T.val * 512 + i.val) g c : ℝ) : EReal) := by
  have hT := T.isLt
  simp only [wsp]
  rw [shapeCast_self, Inp.spreadPast, dif_pos (by omega)]
  exact H.spread_at (mid_at H) g i c

theorem canon_spread (z : FVec Ideal S16x512 .f32) (l : List (Option (Fin 4))) (n : Fin 528) (g : Fin 4) (c : Fin 128)
    (hg : some g ∈ l) (hn : none ∈ l) :
    View.canon (l.map fun k => (⟨rs k, wsp L z k⟩ : View.Piece (Elt Ideal) S528x512 .f32)) (ix2 n (lane g c))
      = if h : n.val < 512 then ((I.spreadPast (T.val * 512 + n.val) g c : ℝ) : EReal) else z (ix2 ⟨n.val - 512, by omega⟩ (lane g c)) := by
  by_cases h : n.val < 512
  · have e : (ix2 n (lane g c) : S528x512.Idx) = (rs (some g)).emb (ix2 ⟨n.val, h⟩ c) := (rUpper_emb g ⟨n.val, h⟩ c).symm
    rw [dif_pos h, e, canon_map rs (wsp L z) rs_off (some g) (ix2 ⟨n.val, h⟩ c) l hg]
    exact spread_store H g ⟨n.val, h⟩ c z
  · have e : (ix2 n (lane g c) : S528x512.Idx) = (rs none).emb (ix2 ⟨n.val - 512, by omega⟩ (lane g c)) := by
      refine Eq.trans ?_ (rLast_emb ⟨n.val - 512, by omega⟩ (lane g c)).symm
      congr 1; apply Fin.ext; show n.val = 512 + (n.val - 512); omega
    rw [dif_neg h, e, canon_map rs (wsp L z) rs_off none _ l hn]

/-- The first sixteen rows of the tile, whatever the rows after it are. -/
theorem top_spread (z : FVec Ideal S16x512 .f32) (l : List (Option (Fin 4))) (s : Fin 16) (g : Fin 4) (c : Fin 128) (hg : some g ∈ l) :
    View.readCov (Val := Elt Ideal) scM0_1.view (l.map fun k => (⟨rs k, wsp L z k⟩ : View.Piece (Elt Ideal) S528x512 .f32)) rFirst.toLoadRect (ix2 s (lane g c))
      = ((I.spreadPast (T.val * 512 + s.val) g c : ℝ) : EReal) := by
  rw [View.readCov_eq_canon']
  refine (congrArg (View.canon _) (rFirst_emb s (lane g c))).trans ?_
  have e : (ix2 ⟨s.val, by omega⟩ (lane g c) : S528x512.Idx) = (rs (some g)).emb (ix2 ⟨s.val, by omega⟩ c) := (rUpper_emb g ⟨s.val, by omega⟩ c).symm
  rw [e, canon_map rs (wsp L z) rs_off (some g) (ix2 ⟨s.val, by omega⟩ c) l hg]
  exact spread_store H g ⟨s.val, by omega⟩ c z
end spread

end Cert.MixIdeal.Own

end
-- ==== Proof.MixState.lean ====
/-
  What one grid point of the mixing half leaves, in the words of MixSpec.lean: the tile's rows, the running sums so far, and
  the rows it hands to the next point. Point `t` takes tile `15 - t`.
-/
module

public import proofs.«01_k».proof.Proof.MixCanon

@[expose] public section

set_option maxRecDepth 16384

noncomputable section

namespace Cert.MixIdeal.Own

open Cert.MixIdeal Cert.MixIdeal.Gen Cert.MixSpec
open Cert.Spec hiding Inp
open Cert.Kernel.Own (canon_map canon_acc load_at off_zero2 zeros2 zeros3)
open Idealize.ShloMosaic Idealize.ShloMosaic.TcCoe

/-- The tile of point `t`. -/
def tile (t : ℕ) : Fin 16 := ⟨15 - t, by omega⟩

/-- The sum over the tiles of the points up to `t`. -/
def upto (f : Fin 16 → ℝ) (t : ℕ) : ℝ := ∑ s ∈ Finset.range (t + 1), f (tile s)

theorem upto_zero (f : Fin 16 → ℝ) : upto f 0 = f (tile 0) := by simp [upto]
theorem upto_succ (f : Fin 16 → ℝ) (t : ℕ) : upto f (t + 1) = upto f t + f (tile (t + 1)) := by
  rw [upto, Finset.sum_range_succ]; rfl

/-- What the rows, or the blocks, of a tile add. -/
abbrev rowsOf (g : Fin 8192 → ℝ) (T : Fin 16) : ℝ := ∑ i : Fin 512, g (row T i)
abbrev blocksOf (g : Fin 64 → ℝ) (T : Fin 16) : ℝ := ∑ b : Fin 4, g (blockOf T b)

/-- What point `t` leaves. -/
structure Holds (I : Inp) (t : ℕ) (p : Left Ideal) : Prop where
  gx : ∀ i d, p.gx (ix2 i d) = ((I.gx (row (tile t) i) d : ℝ) : EReal)
  dwin : ∀ k d, p.dwin (ix2 k d) = ((upto (rowsOf fun n => I.twin k n d) t : ℝ) : EReal)
  dwout : ∀ k d, p.dwout (ix2 k d) = ((upto (rowsOf fun n => I.twout k n d) t : ℝ) : EReal)
  dmod : ∀ k d, p.dmod (ix2 k d) = ((upto (rowsOf fun n => I.tmod k n d) t : ℝ) : EReal)
  dg1 : ∀ (z : Fin 1) d, p.dg1 (ix2 z d) = ((upto (rowsOf fun n => I.tg1 n d) t : ℝ) : EReal)
  dg2 : ∀ (z : Fin 1) d, p.dg2 (ix2 z d) = ((upto (rowsOf fun n => I.tg2 n d) t : ℝ) : EReal)
  dsgn : ∀ h c, p.dsgn (ix2 h c) = ((upto (rowsOf fun n => I.tsgn n h c) t : ℝ) : EReal)
  dws : ∀ h i j, p.dws (ix3 h i j) = ((upto (blocksOf fun b => I.tws b h i j) t : ℝ) : EReal)
  dbst : ∀ h i, p.dbst (ix2 i h) = ((upto (blocksOf fun b => I.tbs b h i) t : ℝ) : EReal)
  dwp : ∀ g c d, p.dwp (ix3 g c d) = ((upto (rowsOf fun n => I.twp n g c d) t : ℝ) : EReal)
  dps : ∀ (z : Fin 1) g d, p.dps (ix2 z (lane g d)) = ((upto (rowsOf fun n => I.tps n g d) t : ℝ) : EReal)
  win : ∀ (s : Fin 16) g c, p.win (ix2 ⟨512 + s.val, by omega⟩ (lane g c)) = ((I.spreadPast ((tile t).val * 512 + s.val) g c : ℝ) : EReal)

section adds
variable {a b : ℝ}
theorem addRow_at (v t : Row Ideal) (z : Fin 1) (d : Fin 1024) (hv : v (ix2 z d) = (a : EReal)) (ht : t (ix2 z d) = (b : EReal)) :
    addRow v t (ix2 z d) = ((a + b : ℝ) : EReal) := by
  rw [addRow, shapeCast_self]
  show v (ix2 z d) + t (ix2 z d) = _
  rw [hv, ht, EReal.coe_add]
theorem addLine_at (v t : Line Ideal) (z : Fin 1) (d : Fin 128) (hv : v (ix2 z d) = (a : EReal)) (ht : t (ix2 z d) = (b : EReal)) :
    addLine v t (ix2 z d) = ((a + b : ℝ) : EReal) := by
  rw [addLine, shapeCast_self]
  show v (ix2 z d) + t (ix2 z d) = _
  rw [hv, ht, EReal.coe_add]
theorem addCol_at (v t : FVec Ideal S128x1 .f32) (i : Fin 128) (z : Fin 1) (hv : v (ix2 i z) = (a : EReal)) (ht : t (ix2 i z) = (b : EReal)) :
    addCol v t (ix2 i z) = ((a + b : ℝ) : EReal) := by
  rw [addCol, shapeCast_self]
  show v (ix2 i z) + t (ix2 i z) = _
  rw [hv, ht, EReal.coe_add]
theorem addBlock_at (v : FVec Ideal S1x128x128 .f32) (t : Block Ideal) (i j : Fin 128) (hv : v (ix3 0 i j) = (a : EReal))
    (ht : t (ix2 i j) = (b : EReal)) : addBlock v t (ix3 0 i j) = ((a + b : ℝ) : EReal) := by
  unfold addBlock
  pointwise [hv, ht, ← EReal.coe_add]
theorem addIn_at (v t : FVec Ideal S1536x1024 .f32) (k : Fin 1536) (d : Fin 1024) (hv : v (ix2 k d) = (a : EReal)) (ht : t (ix2 k d) = (b : EReal)) :
    addIn v t (ix2 k d) = ((a + b : ℝ) : EReal) := by
  rw [addIn, shapeCast_self]
  show v (ix2 k d) + t (ix2 k d) = _
  rw [hv, ht, EReal.coe_add]
theorem addOut_at (v t : FVec Ideal S1024x1024 .f32) (k : Fin 1024) (d : Fin 1024) (hv : v (ix2 k d) = (a : EReal)) (ht : t (ix2 k d) = (b : EReal)) :
    addOut v t (ix2 k d) = ((a + b : ℝ) : EReal) := by
  rw [addOut, shapeCast_self]
  show v (ix2 k d) + t (ix2 k d) = _
  rw [hv, ht, EReal.coe_add]
end adds

theorem zero_at (s : Shape) (i : s.Idx) : zero (F := Ideal) s i = ((0 : ℝ) : EReal) := c_zero

theorem all_rows : ∀ k : Fin 3, k ∈ ([1, 0, 2] : List (Fin 3)) := by decide

variable (m : (ℓ : Loc nD τ sig) → Buf (Elt Ideal) ℓ) (I : Inp)

/-- The stores of the spread cotangent, in the words of MixCanon.lean. -/
theorem spreadL_eq (L : Loads Ideal) (z : FVec Ideal S16x512 .f32) (l : List (Fin 4)) :
    spreadL L l = (l.map some).map fun k => ⟨rs k, wsp L z k⟩ := by
  rw [List.map_map]; rfl
theorem spreadL_last (L : Loads Ideal) (z : FVec Ideal S16x512 .f32) (l : List (Fin 4)) :
    spreadL L l ++ [⟨rLast, z⟩] = (l.map some ++ [none]).map fun k => ⟨rs k, wsp L z k⟩ := by
  rw [List.map_append, List.map_map]; rfl

section later
variable (c : Dev nD) (t : Fin cfg0.N) (h0 : ¬t.val % 16 = 0) (p : Left Ideal)

theorem spreadB_at (hp : (tile (t.val - 1)).val = (tile t.val).val + 1) (H : At I (tile t.val) (loads m c t)) (P : Holds I (t.val - 1) p) :
    After I (tile t.val) (spreadB m c t p) := by
  intro g n c'
  unfold spreadB
  rw [spreadL_eq _ (fun _ => 0)]
  refine (congrArg (View.read (Elt Ideal) scM0_1.view _) (rTall_emb g n c')).trans ?_
  by_cases h : n.val < 512
  · have e : (ix2 n (lane g c') : S528x512.Idx) = (rs (some g)).emb (ix2 ⟨n.val, h⟩ c') := (rUpper_emb g ⟨n.val, h⟩ c').symm
    rw [e, read_map rs _ _ (wsp (loads m c t) (fun _ => 0)) rs_off (some g) (ix2 ⟨n.val, h⟩ c') _ (List.mem_map_of_mem (mem_upTo g))]
    exact spread_store H g ⟨n.val, h⟩ c' _
  · have e : (ix2 n (lane g c') : S528x512.Idx) = rLast.emb (ix2 ⟨n.val - 512, by omega⟩ (lane g c')) := by
      refine Eq.trans ?_ (rLast_emb ⟨n.val - 512, by omega⟩ (lane g c')).symm
      congr 1; apply Fin.ext; show n.val = 512 + (n.val - 512); omega
    rw [View.read_writes_apply_of_forall_not_mem]
    · rw [Memref.IsWhole.read_unread, e, rLast_emb, P.win, hp]
      congr 2; simp only; omega
    · intro q hq
      obtain ⟨k, hk, rfl⟩ := List.mem_map.mp hq
      obtain ⟨g', _, rfl⟩ := List.mem_map.mp hk
      rw [e]
      exact rs_off none (some g') (ix2 ⟨n.val - 512, by omega⟩ (lane g c')) (by simp)

theorem holds_later (hp : (tile (t.val - 1)).val = (tile t.val).val + 1) (H : At I (tile t.val) (loads m c t))
    (P : Holds I (t.val - 1) p) : Holds I t.val (leftB m c t h0 p) := by
  have Q := projV_at H (spreadB_at m I c t p hp H P)
  have K := mid_at H
  have hs : t.val = t.val - 1 + 1 := by have : t.val ≠ 0 := fun h => h0 (by rw [h]); omega
  have hu : ∀ f : Fin 16 → ℝ, upto f t.val = upto f (t.val - 1) + f (tile t.val) := fun f => by
    conv_lhs => rw [hs]
    rw [upto_succ, ← hs]
  refine ⟨fun i d => ?_, fun k d => ?_, fun k d => ?_, fun k d => ?_, fun z d => ?_, fun z d => ?_, fun h c' => ?_, fun h i j => ?_,
    fun h i => ?_, fun g c' d => ?_, fun z g d => ?_, fun s g c' => ?_⟩
  · rw [leftB_gx, View.canon_unit_zero off_zero2]
    exact H.gx_at Q i d
  · rw [leftB_dwin, View.canon_unit_zero off_zero2, hu]
    exact addIn_at _ _ k d ((load_at (hs0_16 t) p.dwin rIn (ix2 k d)).trans (by rw [rIn_emb, P.dwin])) (H.twin_at Q k d)
  · rw [leftB_dwout, View.canon_unit_zero off_zero2, hu]
    exact addOut_at _ _ k d ((load_at (hs0_17 t) p.dwout rOut (ix2 k d)).trans (by rw [rOut_emb, P.dwout])) (H.twout_at (catV_at H) k d)
  · rw [leftB_dmod, ← rDmod_emb k 0 d, hu, canon_map rDmod _ (fun k k' x h => rDmod_off k k' x h) k (ix2 0 d) _ (all_rows k)]
    exact addRow_at _ _ 0 d ((load_at (hs0_18 t) p.dmod (rDmod k) (ix2 0 d)).trans (by rw [rDmod_emb, P.dmod])) (H.tmod_at Q k 0 d)
  · rw [leftB_dg1, View.canon_unit_zero off_zero2, hu]
    exact addRow_at _ _ z d ((load_at (hs0_19 t) p.dg1 rRow (ix2 z d)).trans (by rw [rRow_emb, P.dg1])) (H.tg1_at Q z d)
  · rw [leftB_dg2, View.canon_unit_zero off_zero2, hu]
    exact addRow_at _ _ z d ((load_at (hs0_20 t) p.dg2 rRow (ix2 z d)).trans (by rw [rRow_emb, P.dg2])) (H.tg2_at z d)
  · rw [leftB_dsgn, ← rSgn_emb h 0 c', hu, canon_map rSgn _ (fun k k' x h => rSgn_off k k' x h) h (ix2 0 c') _ (all_back h)]
    exact addLine_at _ _ 0 c' ((load_at (hs0_21 t) p.dsgn (rSgn h) (ix2 0 c')).trans (by rw [rSgn_emb, P.dsgn])) (H.tsgn_at K h 0 c')
  · rw [leftB_dws, ← rStack_emb h 0 i j, hu, canon_map rStack _ (fun k k' x h => rStack_off k k' x h) h (ix3 0 i j) _ (all_back h)]
    exact addBlock_at _ _ i j ((load_at (hs0_22 t) p.dws (rStack h) (ix3 0 i j)).trans (by rw [rStack_emb, P.dws])) (H.tws_at K h i j)
  · rw [leftB_dbst, ← rBs_emb h i 0, hu, canon_map rBs _ (fun k k' x h => rBs_off k k' x h) h (ix2 i 0) _ (all_back h)]
    exact addCol_at _ _ i 0 ((load_at (hs0_23 t) p.dbst (rBs h) (ix2 i 0)).trans (by rw [rBs_emb, P.dbst])) (H.tbs_at K h i 0)
  · rw [leftB_dwp, ← rStack_emb g 0 c' d, hu, canon_map rStack _ (fun k k' x h => rStack_off k k' x h) g (ix3 0 c' d) _ (all_back g)]
    exact addBlock_at _ _ c' d ((load_at (hs0_24 t) p.dwp (rStack g) (ix3 0 c' d)).trans (by rw [rStack_emb, P.dwp])) (H.twp_at K g c' d)
  · rw [leftB_dps, ← rPs_emb g z d, hu, canon_map rPs _ (fun k k' x h => rPs_off k k' x h) g (ix2 z d) _ (all_back g)]
    exact addLine_at _ _ z d ((load_at (hs0_25 t) p.dps (rPs g) (ix2 z d)).trans (by rw [rPs_emb, P.dps])) (H.tps_at K g z d)
  · rw [leftB_win, ← rLast_emb s (lane g c'), View.canon_cons_emb, spreadL_eq _ (fun _ => 0)]
    refine (congrFun (shapeCast_self _ _) _).trans ?_
    exact top_spread H _ _ s g c' (List.mem_map_of_mem (all_back g))
end later

section first
variable (c : Dev nD) (t : Fin cfg0.N) (h0 : t.val % 16 = 0)

theorem spreadA_at (ht : t.val = 0) (H : At I (tile t.val) (loads m c t)) : After I (tile t.val) (spreadA m c t) := by
  intro g n c'
  have hn := n.isLt
  unfold spreadA
  rw [View.readCov_eq_canon', spreadL_last]
  refine (congrArg (View.canon _) (rTall_emb g n c')).trans ?_
  rw [canon_spread H _ _ n g c' (List.mem_append_left _ (List.mem_map_of_mem (mem_upTo g))) (List.mem_append_right _ List.mem_cons_self)]
  by_cases h : n.val < 512
  · rw [dif_pos h]
  · rw [dif_neg h, shapeCast_self, zero_at, Inp.spreadPast, dif_neg]
    rw [ht]; simp only [tile]; omega

theorem holds_first (ht : t.val = 0) (H : At I (tile t.val) (loads m c t)) : Holds I t.val (leftA m c t h0) := by
  have Q := projV_at H (spreadA_at m I c t ht H)
  have K := mid_at H
  have hu : ∀ f : Fin 16 → ℝ, upto f t.val = 0 + f (tile t.val) := fun f => by rw [ht, upto_zero, zero_add]
  refine ⟨fun i d => ?_, fun k d => ?_, fun k d => ?_, fun k d => ?_, fun z d => ?_, fun z d => ?_, fun h c' => ?_, fun h i j => ?_,
    fun h i => ?_, fun g c' d => ?_, fun z g d => ?_, fun s g c' => ?_⟩
  · rw [leftA_gx, View.canon_unit_zero off_zero2]
    exact H.gx_at Q i d
  · rw [leftA_dwin, View.canon_cons_unit_zero off_zero2, hu, View.readCov_cons_toLoadRect]
    exact addIn_at _ _ k d (zero_at _ _) (H.twin_at Q k d)
  · rw [leftA_dwout, View.canon_cons_unit_zero off_zero2, hu, View.readCov_cons_toLoadRect]
    exact addOut_at _ _ k d (zero_at _ _) (H.twout_at (catV_at H) k d)
  · rw [leftA_dmod, ← rDmod_emb k 0 d, hu, canon_sumL _ _ rDmod _ (fun k k' x h => rDmod_off k k' x h) k (ix2 0 d) _ (by decide) (all_rows k)]
    exact addRow_at _ _ 0 d (zeros2 _ _) (H.tmod_at Q k 0 d)
  · rw [leftA_dg1, View.canon_cons_unit_zero off_zero2, hu, View.readCov_cons_toLoadRect]
    exact addRow_at _ _ z d (zero_at _ _) (H.tg1_at Q z d)
  · rw [leftA_dg2, View.canon_cons_unit_zero off_zero2, hu, View.readCov_cons_toLoadRect]
    exact addRow_at _ _ z d (zero_at _ _) (H.tg2_at z d)
  · rw [leftA_dsgn, ← rSgn_emb h 0 c', hu, canon_sumL _ _ rSgn _ (fun k k' x h => rSgn_off k k' x h) h (ix2 0 c') _ (by decide) (all_back h)]
    exact addLine_at _ _ 0 c' (zeros2 _ _) (H.tsgn_at K h 0 c')
  · rw [leftA_dws, ← rStack_emb h 0 i j, hu, canon_sumL _ _ rStack _ (fun k k' x h => rStack_off k k' x h) h (ix3 0 i j) _ (by decide) (all_back h)]
    exact addBlock_at _ _ i j (zeros3 _ _) (H.tws_at K h i j)
  · rw [leftA_dbst, ← rBs_emb h i 0, hu, canon_sumL _ _ rBs _ (fun k k' x h => rBs_off k k' x h) h (ix2 i 0) _ (by decide) (all_back h)]
    exact addCol_at _ _ i 0 (zeros2 _ _) (H.tbs_at K h i 0)
  · rw [leftA_dwp, ← rStack_emb g 0 c' d, hu, canon_sumL _ _ rStack _ (fun k k' x h => rStack_off k k' x h) g (ix3 0 c' d) _ (by decide) (all_back g)]
    exact addBlock_at _ _ c' d (zeros3 _ _) (H.twp_at K g c' d)
  · rw [leftA_dps, ← rPs_emb g z d, hu, canon_sumL _ _ rPs _ (fun k k' x h => rPs_off k k' x h) g (ix2 z d) _ (by decide) (all_back g)]
    exact addLine_at _ _ z d (zeros2 _ _) (H.tps_at K g z d)
  · rw [leftA_win, ← rLast_emb s (lane g c'), View.canon_cons_emb, spreadL_last]
    refine (congrFun (shapeCast_self _ _) _).trans ?_
    exact top_spread H _ _ s g c' (List.mem_append_left _ (List.mem_map_of_mem (all_back g)))
end first

/-- Every point leaves what it should, given what every point loads. -/
theorem holds (c : Dev nD) (H : ∀ t : Fin cfg0.N, At I (tile t.val) (loads m c t)) (n : ℕ) (hn : n < cfg0.N) :
    Holds I n (left m c n hn) := by
  induction n with
  | zero => exact (left_A m c ⟨0, hn⟩ rfl) ▸ holds_first m I c ⟨0, hn⟩ rfl rfl (H _)
  | succ n ih =>
    have hN : cfg0.N = 16 := N_0
    have h0 : ¬ (n + 1) % 16 = 0 := by omega
    exact (left_B m c ⟨n + 1, hn⟩ h0) ▸ holds_later m I c ⟨n + 1, hn⟩ h0 _
      (by show (tile (n + 1 - 1)).val = (tile (n + 1)).val + 1; simp only [tile]; omega) (H _) (ih _)

end Cert.MixIdeal.Own

end
-- ==== Proof.MixRefFwd.lean ====
/-
  What the reference's forward lines compute, read at an index: the real functions of `MixSpec`. Norm, projection, gelu and the
  spatial gate.
-/
module

public import proofs.«01_k».proof.Proof.MixSpec
public import proofs.«01_k».proof.Proof.Gen.MixReferenceIdeal.Read

@[expose] public section

noncomputable section

namespace Cert.MixRef

open Cert.MixSpec.Inp (inBlock)
open Cert.MixReferenceIdeal Cert.MixReferenceIdeal.Gen Cert.MixReferenceIdeal.Read Cert.MixSpec
open Cert.Spec hiding Inp
open Idealize.ShloMosaic Idealize.ShloMosaic.TcCoe

/-- Contents of an `f32` buffer of shape `s` in the idealized program. -/
abbrev T (s : Shape) : Type := (⟨s, .f32⟩ : BufTy).Contents (Elt Ideal)

/-- The twelve arguments hold the real arrays of `I`. -/
structure Reads (I : Inp) (x0 x1 : T S8192x1024) (x2 : T S1x6144) (x3 x4 : T S1x1024) (x5 : T S1024x1536)
    (x6 : T S4x128) (x7 : T S4x128x128) (x8 : T S4x128) (x9 : T S4x128x128) (x10 : T S1x512) (x11 : T S1024x1024) : Prop where
  x : ∀ i d, x0 (ix2 i d) = ((I.x i d : ℝ) : EReal)
  e : ∀ i d, x1 (ix2 i d) = ((I.e i d : ℝ) : EReal)
  md : ∀ d, x2 (ix2 0 d) = ((I.md d : ℝ) : EReal)
  g1 : ∀ d, x3 (ix2 0 d) = ((I.g1 d : ℝ) : EReal)
  g2 : ∀ d, x4 (ix2 0 d) = ((I.g2 d : ℝ) : EReal)
  W : ∀ d k, x5 (ix2 d k) = ((I.W d k : ℝ) : EReal)
  sgn : ∀ h c, x6 (ix2 h c) = ((I.sgn h c : ℝ) : EReal)
  ws : ∀ h i j, x7 (ix3 h i j) = ((I.ws h i j : ℝ) : EReal)
  bs : ∀ h i, x8 (ix2 h i) = ((I.bs h i : ℝ) : EReal)
  wp : ∀ g c d, x9 (ix3 g c d) = ((I.wp g c d : ℝ) : EReal)
  ps : ∀ k, x10 (ix2 0 k) = ((I.ps k : ℝ) : EReal)
  Wo : ∀ k d, x11 (ix2 k d) = ((I.Wo k d : ℝ) : EReal)

variable {I : Inp} {x0 x1 : T S8192x1024} {x2 : T S1x6144} {x3 x4 : T S1x1024} {x5 : T S1024x1536}
  {x6 : T S4x128} {x7 : T S4x128x128} {x8 : T S4x128} {x9 : T S4x128x128} {x10 : T S1x512} {x11 : T S1024x1024}

/-- A row is at its place in its block. -/
theorem pos_inBlock (b : Fin 64) (i : Fin 128) : pos (inBlock b i) = i := Fin.ext (by simp only [pos, inBlock]; omega)
theorem mate_inBlock (b : Fin 64) (i j : Fin 128) : mate (inBlock b i) j = inBlock b j := Fin.ext (by simp only [mate, inBlock]; omega)
theorem inBlock_eq (n : Fin 8192) (hb : n.val / 128 < 64) (hi : n.val % 128 < 128) : inBlock ⟨n.val / 128, hb⟩ ⟨n.val % 128, hi⟩ = n :=
  Fin.ext (by simp only [inBlock]; omega)
theorem head_eq (h : Fin 4) (c : Fin 128) (hb : (lane h c).val / 128 < 4) (hi : (lane h c).val % 128 < 128) :
    (⟨(lane h c).val / 128, hb⟩ : Fin 4) = h ∧ (⟨(lane h c).val % 128, hi⟩ : Fin 128) = c :=
  ⟨Fin.ext (by simp only [lane]; omega), Fin.ext (by simp only [lane]; omega)⟩

section
variable (H : Reads I x0 x1 x2 x3 x4 x5 x6 x7 x8 x9 x10 x11)
include H

theorem sh_eq (d : Fin 1024) : val_main_v0 (F := Ideal) x2 (ix2 0 d) = ((I.sh d : ℝ) : EReal) := by
  pointwise [val_main_v0]
  exact H.md _

theorem sc_eq (d : Fin 1024) : val_main_v1 (F := Ideal) x2 (ix2 0 d) = ((I.sc d : ℝ) : EReal) := by
  pointwise [val_main_v1]
  exact H.md _

theorem gm_eq (d : Fin 1024) : val_main_v2 (F := Ideal) x2 (ix2 0 d) = ((I.gm d : ℝ) : EReal) := by
  pointwise [val_main_v2]
  exact H.md _

theorem ms1_eq (i : Fin 8192) (b : Fin 1) : val_main_v12 (F := Ideal) x0 (ix2 i b) = ((I.ms1 i : ℝ) : EReal) := by
  pointwise [val_main_v12, val_main_v11, val_main_cst_1, val_main_v10, val_main_v9, val_main_cst_0, val_main_v8, val_main_v7,
    val_main_cst, val_main_v6, H.x, c_1024, c_eps, ← EReal.coe_mul, coe_sum, div_coe_coe _ (1024 : ℝ) (by norm_num), ← EReal.coe_add]
  rfl

theorem r1_eq (i : Fin 8192) (b : Fin 1) : val_main_v13 (F := Ideal) x0 (ix2 i b) = ((I.r1 i : ℝ) : EReal) := by
  pointwise [val_main_v13, ms1_eq H, rsqrt_of_pos _ (I.ms1_pos i)]
  rfl

theorem xh_eq (i : Fin 8192) (d : Fin 1024) : val_main_v18 (F := Ideal) x0 (ix2 i d) = ((I.xh i d : ℝ) : EReal) := by
  pointwise [val_main_v18, val_main_v17, H.x, r1_eq H, ← EReal.coe_mul]
  rfl

theorem n1_eq (i : Fin 8192) (d : Fin 1024) : val_main_v20 (F := Ideal) x0 x3 (ix2 i d) = ((I.n1 i d : ℝ) : EReal) := by
  pointwise [val_main_v20, val_main_v19, H.g1, xh_eq H, ← EReal.coe_mul]
  rfl

theorem gain_eq (d : Fin 1024) : val_main_v22 (F := Ideal) x2 (ix2 0 d) = ((1 + I.sc d : ℝ) : EReal) := by
  pointwise [val_main_v22, val_main_v21, val_main_cst_3, sc_eq H, c_one, ← EReal.coe_add]

theorem h_eq (i : Fin 8192) (d : Fin 1024) : val_main_v26 (F := Ideal) x0 x2 x3 (ix2 i d) = ((I.h i d : ℝ) : EReal) := by
  pointwise [val_main_v26, val_main_v25, val_main_v24, val_main_v23, sh_eq H, gain_eq H, n1_eq H, ← EReal.coe_mul, ← EReal.coe_add]
  rfl

theorem P_eq (i : Fin 8192) (k : Fin 1536) : val_main_v27 (F := Ideal) x0 x2 x3 x5 (ix2 i k) = ((I.P i k : ℝ) : EReal) := by
  pointwise [val_main_v27, dot_S8192x1024_S1024x1536_S8192x1536_1_0_0_1_n_n, h_eq H, H.W, ← EReal.coe_mul, coe_sum]
  rfl

/-- The first 1024 projected columns. -/
theorem front_eq (i : Fin 8192) (k : Fin 1024) : val_main_v28 (F := Ideal) x0 x2 x3 x5 (ix2 i k) = ((I.P i (⟨k.val, by omega⟩ : Fin 1536) : ℝ) : EReal) := by
  pointwise [val_main_v28]
  refine (P_eq H _ _).trans ?_
  exact congrArg (fun z => ((I.P i z : ℝ) : EReal)) (Fin.ext (by simp))

theorem th_eq (i : Fin 8192) (k : Fin 1024) : val_main_v39 (F := Ideal) x0 x2 x3 x5 (ix2 i k) = ((gth (I.P i (⟨k.val, by omega⟩ : Fin 1536)) : ℝ) : EReal) := by
  pointwise [val_main_v39, val_main_v38, val_main_v37, val_main_cst_6, val_main_v36, val_main_v35, val_main_v34, val_main_cst_5, val_main_v30,
    val_main_v29, front_eq H, c_gC, c_gK, ← EReal.coe_mul, ← EReal.coe_add, Ideal.tanh_coe]
  refine congrArg _ ?_
  unfold gth
  congr 1
  ring

theorem cdf_eq (i : Fin 8192) (k : Fin 1024) : val_main_v48 (F := Ideal) x0 x2 x3 x5 (ix2 i k) = ((gcdf (I.P i (⟨k.val, by omega⟩ : Fin 1536)) : ℝ) : EReal) := by
  pointwise [val_main_v48, val_main_v47, val_main_cst_10, val_main_v46, val_main_v45, val_main_cst_9, th_eq H, c_half, c_one, ← EReal.coe_mul, ← EReal.coe_add]
  refine congrArg _ ?_
  unfold gcdf
  ring

theorem gel_eq (i : Fin 8192) (k : Fin 1024) : val_main_v49 (F := Ideal) x0 x2 x3 x5 (ix2 i k) = ((gel (I.P i (⟨k.val, by omega⟩ : Fin 1536)) : ℝ) : EReal) := by
  pointwise [val_main_v49, front_eq H, cdf_eq H, ← EReal.coe_mul]
  rfl

theorem ug_eq (i : Fin 8192) (h : Fin 4) (c : Fin 128) : val_main_v50 (F := Ideal) x0 x2 x3 x5 (ix2 i (lane h c)) = ((I.ug i h c : ℝ) : EReal) := by
  pointwise [val_main_v50]
  refine (gel_eq H _ _).trans ?_
  exact congrArg (fun z => ((gel (I.P i z) : ℝ) : EReal)) (Fin.ext (by simp [lane, cu]))

theorem vg_eq (b : Fin 64) (i : Fin 128) (h : Fin 4) (c : Fin 128) :
    val_main_v52 (F := Ideal) x0 x2 x3 x5 (ix4 b i h c) = ((I.vg (inBlock b i) h c : ℝ) : EReal) := by
  pointwise [val_main_v52, val_main_v51]
  refine (gel_eq H _ _).trans ?_
  rfl

theorem msv_eq (b : Fin 64) (i : Fin 128) (h : Fin 4) (z : Fin 1) :
    val_main_v60 (F := Ideal) x0 x2 x3 x5 (ix4 b i h z) = ((I.msv (inBlock b i) h : ℝ) : EReal) := by
  pointwise [val_main_v60, val_main_v59, val_main_cst_13, val_main_v58, val_main_v57, val_main_cst_12, val_main_v56, val_main_v55, val_main_cst_11,
    val_main_v54, vg_eq H, c_128, c_eps, ← EReal.coe_mul, coe_sum, div_coe_coe _ (128 : ℝ) (by norm_num), ← EReal.coe_add]
  rfl

theorem rv_eq (b : Fin 64) (i : Fin 128) (h : Fin 4) (z : Fin 1) :
    val_main_v61 (F := Ideal) x0 x2 x3 x5 (ix4 b i h z) = ((I.rv (inBlock b i) h : ℝ) : EReal) := by
  pointwise [val_main_v61, msv_eq H, rsqrt_of_pos _ (I.msv_pos _ _)]
  rfl

theorem vh_eq (b : Fin 64) (i : Fin 128) (h : Fin 4) (c : Fin 128) :
    val_main_v66 (F := Ideal) x0 x2 x3 x5 (ix4 b i h c) = ((I.vh (inBlock b i) h c : ℝ) : EReal) := by
  pointwise [val_main_v66, val_main_v65, vg_eq H, rv_eq H, ← EReal.coe_mul]
  rfl

theorem sgn_eq (b : Fin 64) (i : Fin 128) (h : Fin 4) (c : Fin 128) :
    val_main_v67 (F := Ideal) x6 (ix4 b i h c) = ((I.sgn h c : ℝ) : EReal) := by
  pointwise [val_main_v67, val_main_v53, H.sgn]

theorem vn_eq (b : Fin 64) (i : Fin 128) (h : Fin 4) (c : Fin 128) :
    val_main_v68 (F := Ideal) x0 x2 x3 x5 x6 (ix4 b i h c) = ((I.vn (inBlock b i) h c : ℝ) : EReal) := by
  pointwise [val_main_v68, vh_eq H, sgn_eq H, ← EReal.coe_mul]
  rfl

end

/-- The chunk of 64 places that a place is in. -/
theorem chunk_row (z : Fin 1) (j : Fin 128) : val_main_v71 (F := Ideal) (ix2 z j) = BitVec.ofNat 32 (j.val / 64) := by
  pointwise [val_main_v71, val_main_call0_v11, val_main_call0_v13, val_main_call0_v12, val_main_call0_c_0, val_main_call0_v10, val_main_call0_v9,
    val_main_call0_c, val_main_call0_v8, val_main_call0_v7, val_main_call0_v6, val_main_call0_v5, val_main_call0_v4, val_main_call0_v3,
    val_main_call0_v2, val_main_call0_v1, val_main_call0_v0, val_main_c, val_main_v70, val_main_v69]
  revert j
  decide +kernel

theorem chunk_col (i : Fin 128) (z : Fin 1) : val_main_v73 (F := Ideal) (ix2 i z) = BitVec.ofNat 32 (i.val / 64) := by
  pointwise [val_main_v73, val_main_call1_v11, val_main_call1_v13, val_main_call1_v12, val_main_call1_c_0, val_main_call1_v10, val_main_call1_v9,
    val_main_call1_c, val_main_call1_v8, val_main_call1_v7, val_main_call1_v6, val_main_call1_v5, val_main_call1_v4, val_main_call1_v3,
    val_main_call1_v2, val_main_call1_v1, val_main_call1_v0, val_main_c_15, val_main_v72, val_main_v69]
  revert i
  decide +kernel

theorem mask_eq (h : Fin 4) (i j : Fin 128) : val_main_v79_1 (F := Ideal) (ix3 h i j) = if seen i j then 1#1 else 0#1 := by
  pointwise [val_main_v79_1, val_main_v77, val_main_v76, val_main_v75, val_main_v74, chunk_row, chunk_col]
  revert i j
  decide +kernel

section
variable (H : Reads I x0 x1 x2 x3 x4 x5 x6 x7 x8 x9 x10 x11)
include H

theorem wm_eq (h : Fin 4) (i j : Fin 128) : val_main_v79_0 (F := Ideal) x7 (ix3 h i j) = ((I.wm h i j : ℝ) : EReal) := by
  pointwise [val_main_v79_0, mask_eq, val_main_v78, val_main_cst_16, H.ws, c_zero]
  unfold Inp.wm
  by_cases hs : seen i j
  · rw [if_pos hs, if_pos hs]; rfl
  · rw [if_neg hs, if_neg hs]; rfl

theorem z_eq (b : Fin 64) (i : Fin 128) (h : Fin 4) (c : Fin 128) :
    val_main_v85 (F := Ideal) x0 x2 x3 x5 x6 x7 x8 (ix4 b i h c) = ((I.z (inBlock b i) h c : ℝ) : EReal) := by
  pointwise [val_main_v85, val_main_v84, val_main_v83, val_main_v82, val_main_v81, val_main_v80,
    dot_S64x128x4x128_S4x128x128_S4x64x128x128_1_2_03_1_2_0, vn_eq H, wm_eq H, H.bs, ← EReal.coe_mul, coe_sum, ← EReal.coe_add]
  unfold Inp.z
  simp only [pos_inBlock, mate_inBlock, mul_comm]

theorem zrow_eq (n : Fin 8192) (h : Fin 4) (c : Fin 128) :
    val_main_v86 (F := Ideal) x0 x2 x3 x5 x6 x7 x8 (ix2 n (lane h c)) = ((I.z n h c : ℝ) : EReal) := by
  pointwise [val_main_v86]
  rw [z_eq H, inBlock_eq, (head_eq h c (by have := (lane h c).isLt; omega) (by omega)).1,
    (head_eq h c (by have := (lane h c).isLt; omega) (by omega)).2]

theorem gated_eq (n : Fin 8192) (h : Fin 4) (c : Fin 128) :
    val_main_v87 (F := Ideal) x0 x2 x3 x5 x6 x7 x8 (ix2 n (lane h c)) = ((I.gated n h c : ℝ) : EReal) := by
  pointwise [val_main_v87, ug_eq H, zrow_eq H, ← EReal.coe_mul]
  rfl

end

end Cert.MixRef

end
-- ==== Proof.MixWindow.lean ====
/-
  Running sums down the rows of a matrix, as the host computes them, over the reals; and the window sums that differences of them are.
-/
module

public import proofs.«01_k».proof.Proof.MixSpec
public import Idealize.ShloMosaic.Lib.Routing.OpsOne
public import Idealize.ShloMosaic.Lib.Tactic

@[expose] public section

noncomputable section

namespace Cert.MixSpec

open Idealize.ShloMosaic Idealize.ShloMosaic.TcCoe

/-- Adding real numbers to a real number in the extended reals. -/
theorem foldl_coe {α : Type} (l : List α) (e : α → EReal) (g : α → ℝ) (he : ∀ n ∈ l, e n = ((g n : ℝ) : EReal)) (a : EReal) (b : ℝ)
    (hab : a = (b : EReal)) : l.foldl (fun r n => r + e n) a = ((b + (l.map g).sum : ℝ) : EReal) := by
  induction l generalizing a b with
  | nil => simpa using hab
  | cons n l ih =>
    rw [List.foldl_cons, List.map_cons, List.sum_cons, ← add_assoc]
    refine ih (fun n hn => he n (List.mem_cons_of_mem _ hn)) _ _ ?_
    rw [hab, he n List.mem_cons_self, EReal.coe_add]

/-- The host's sum over a window as tall as the matrix and one column wide, padded with `lo` rows of zeros before. -/
theorem windowAdd_at {R C lo hi : ℕ} (x : FVec Ideal (Routing.shape2 R C) .f32) (init : FVec Ideal Routing.shape0 .f32) (f : ℕ → ℕ → ℝ)
    (hx : ∀ (i : Fin R) (c : Fin C), x (ix2 i c) = ((f i.val c.val : ℝ) : EReal)) (hinit : init ix0 = ((0 : ℝ) : EReal))
    (h : (Routing.shape2 R C).ReduceWindows (![R, 1] : Fin 2 → Nat) ![1, 1] ![lo, 0] ![hi, 0] (Routing.shape2 R C)) (hu : 0 < Routing.shape0.numel)
    (j : Fin R) (c : Fin C) :
    Host.reduceWindowAdd (F := Ideal) (φ := .f32) ![R, 1] ![1, 1] ![lo, 0] ![hi, 0] x init h hu (ix2 j c)
      = ((∑ n ∈ Finset.range R, if lo ≤ j.val + n ∧ j.val + n - lo < R then f (j.val + n - lo) c.val else 0 : ℝ) : EReal) := by
  have hv : init (Shape.Idx.first hu) = ((0 : ℝ) : EReal) := (congrArg init (funext fun a => a.elim0 : Shape.Idx.first hu = ix0)).trans hinit
  have hc := c.isLt
  show Host.reduceWindow (α := EReal) (· + ·) ![R, 1] ![1, 1] ![lo, 0] ![hi, 0] x (fun _ : (⟨0, ![]⟩ : Shape).Idx => init (Shape.Idx.first hu)) h
    (by decide) (ix2 j c) = _
  unfold Host.reduceWindow
  refine (foldl_coe _ _ (fun n => if lo ≤ j.val + n.val ∧ j.val + n.val - lo < R then f (j.val + n.val - lo) c.val else 0) (fun n _ => ?_) _ 0 hv).trans ?_
  · have hw0 : ((Routing.shape2 R 1).rowMajor.symm n 0).val = n.val := by rw [Routing.symm_col]; rfl
    have hw1 : ((Routing.shape2 R 1).rowMajor.symm n 1).val = 0 := by rw [Routing.symm_col]; rfl
    split
    · next hin =>
      have h0 := hin 0
      change lo ≤ j.val * 1 + ((Routing.shape2 R 1).rowMajor.symm n 0).val
        ∧ j.val * 1 + ((Routing.shape2 R 1).rowMajor.symm n 0).val - lo < R at h0
      rw [hw0, Nat.mul_one] at h0
      rw [if_pos h0]
      refine (congrArg x (funext fun a => Fin.ext ?_)).trans (hx ⟨j.val + n.val - lo, h0.2⟩ c)
      match a with
      | ⟨0, _⟩ =>
        show j.val * 1 + ((Routing.shape2 R 1).rowMajor.symm n 0).val - lo = j.val + n.val - lo
        rw [hw0, Nat.mul_one]
      | ⟨1, _⟩ =>
        show c.val * 1 + ((Routing.shape2 R 1).rowMajor.symm n 1).val - 0 = c.val
        rw [hw1]
        omega
    · next hin =>
      rw [if_neg fun hle => hin fun a => by
        match a with
        | ⟨0, _⟩ =>
          show lo ≤ j.val * 1 + ((Routing.shape2 R 1).rowMajor.symm n 0).val
            ∧ j.val * 1 + ((Routing.shape2 R 1).rowMajor.symm n 0).val - lo < R
          rw [hw0]
          omega
        | ⟨1, _⟩ =>
          show 0 ≤ c.val * 1 + ((Routing.shape2 R 1).rowMajor.symm n 1).val ∧ c.val * 1 + ((Routing.shape2 R 1).rowMajor.symm n 1).val - 0 < C
          rw [hw1]
          omega]
      exact hv
  · rw [zero_add]
    refine congrArg _ ?_
    rw [← List.ofFn_eq_map, List.sum_ofFn]
    rw [Fin.sum_univ_eq_sum_range (fun n => if lo ≤ j.val + n ∧ j.val + n - lo < R then f (j.val + n - lo) c.val else 0)]
    rw [show (⟨2, ![R, 1]⟩ : Shape).numel = R from Routing.numel_col R]

/-- The running sum from the first row. -/
theorem runFore_at {R C lo : ℕ} (hlo : lo + 1 = R) (x : FVec Ideal (Routing.shape2 R C) .f32) (init : FVec Ideal Routing.shape0 .f32) (f : ℕ → ℕ → ℝ)
    (hx : ∀ (i : Fin R) (c : Fin C), x (ix2 i c) = ((f i.val c.val : ℝ) : EReal)) (hinit : init ix0 = ((0 : ℝ) : EReal))
    (h : (Routing.shape2 R C).ReduceWindows (![R, 1] : Fin 2 → Nat) ![1, 1] ![lo, 0] ![0, 0] (Routing.shape2 R C)) (hu : 0 < Routing.shape0.numel)
    (j : Fin R) (c : Fin C) :
    Host.reduceWindowAdd (F := Ideal) (φ := .f32) ![R, 1] ![1, 1] ![lo, 0] ![0, 0] x init h hu (ix2 j c)
      = ((∑ n ∈ Finset.range (j.val + 1), f n c.val : ℝ) : EReal) := by
  have hj := j.isLt
  rw [windowAdd_at x init f hx hinit h hu j c]
  refine congrArg _ ?_
  rw [← Finset.sum_filter]
  refine (Finset.sum_bij' (fun n _ => n + lo - j.val) (fun n _ => j.val + n - lo) ?_ ?_ ?_ ?_ ?_).symm <;> intro n hn <;>
    simp only [Finset.mem_range, Finset.mem_filter] at hn ⊢
  · omega
  · omega
  · omega
  · omega
  · rw [show j.val + (n + lo - j.val) - lo = n by omega]

/-- The running sum from the last row. -/
theorem runBack_at {R C hi : ℕ} (x : FVec Ideal (Routing.shape2 R C) .f32) (init : FVec Ideal Routing.shape0 .f32) (f : ℕ → ℕ → ℝ)
    (hx : ∀ (i : Fin R) (c : Fin C), x (ix2 i c) = ((f i.val c.val : ℝ) : EReal)) (hinit : init ix0 = ((0 : ℝ) : EReal))
    (h : (Routing.shape2 R C).ReduceWindows (![R, 1] : Fin 2 → Nat) ![1, 1] ![0, 0] ![hi, 0] (Routing.shape2 R C)) (hu : 0 < Routing.shape0.numel)
    (j : Fin R) (c : Fin C) :
    Host.reduceWindowAdd (F := Ideal) (φ := .f32) ![R, 1] ![1, 1] ![0, 0] ![hi, 0] x init h hu (ix2 j c)
      = ((∑ n ∈ Finset.range (R - j.val), f (j.val + n) c.val : ℝ) : EReal) := by
  rw [windowAdd_at x init f hx hinit h hu j c]
  refine congrArg _ ?_
  rw [← Finset.sum_filter]
  refine Finset.sum_congr (Finset.ext fun n => ?_) fun _ _ => by rw [Nat.sub_zero]
  simp only [Finset.mem_range, Finset.mem_filter]
  omega

/-- The difference of two running sums `w` rows apart is the sum over a window of `w` rows. -/
theorem window_fore (f : ℕ → ℝ) (n w : ℕ) :
    (∑ i ∈ Finset.range (n + 1), f i) - (if n < w then 0 else ∑ i ∈ Finset.range (n - w + 1), f i)
      = ∑ k ∈ Finset.range w, if k ≤ n then f (n - k) else 0 := by
  rw [← Finset.sum_filter]
  have e : ∑ k ∈ (Finset.range w).filter (· ≤ n), f (n - k) = ∑ i ∈ (Finset.range (n + 1)).filter (fun i => n < i + w), f i := by
    refine Finset.sum_bij' (fun k _ => n - k) (fun i _ => n - i) ?_ ?_ ?_ ?_ ?_ <;> intro k hk <;>
      simp only [Finset.mem_range, Finset.mem_filter] at hk ⊢ <;> omega
  rw [e, ← Finset.sum_filter_add_sum_filter_not (Finset.range (n + 1)) (fun i => n < i + w) f, add_sub_assoc, add_eq_left, sub_eq_zero]
  by_cases h : n < w
  · rw [if_pos h]
    refine Finset.sum_eq_zero fun i hi => ?_
    simp only [Finset.mem_range, Finset.mem_filter] at hi
    omega
  · rw [if_neg h]
    refine Finset.sum_congr (Finset.ext fun i => ?_) fun _ _ => rfl
    simp only [Finset.mem_range, Finset.mem_filter]
    omega

/-- The running sum from the end of the differences of two rows `w` apart. -/
theorem window_back (q : ℕ → ℝ) (n m w : ℕ) (hq : ∀ j, n + m ≤ j → q j = 0) :
    ∑ i ∈ Finset.range m, (q (n + i) - q (n + i + w)) = ∑ k ∈ Finset.range w, q (n + k) := by
  induction w with
  | zero => simp
  | succ w ih =>
    rw [Finset.sum_range_succ, ← ih]
    have e : ∑ i ∈ Finset.range m, (q (n + w + i) - q (n + w + (i + 1))) = q (n + w) := by
      rw [Finset.sum_range_sub' fun i => q (n + w + i), hq (n + w + m) (by omega), Nat.add_zero, sub_zero]
    rw [← e, ← Finset.sum_add_distrib]
    refine Finset.sum_congr rfl fun i _ => ?_
    rw [show n + w + i = n + i + w by omega, show n + w + (i + 1) = n + i + (w + 1) by omega]
    ring

end Cert.MixSpec

end
-- ==== Proof.MixRefPool.lean ====
/-
  The pooled groups of the reference: a running sum, the same sum `w` rows late, their difference over the count of the rows
  in it; then the projection of the groups, the mixture, and its norm.
-/
module

public import proofs.«01_k».proof.Proof.MixRefFwd
public import proofs.«01_k».proof.Proof.MixWindow
public import proofs.«01_k».proof.Proof.MixVocAt

@[expose] public section

noncomputable section

namespace Cert.MixRef

open Cert.MixSpec.Inp (inBlock)
open Cert.MixReferenceIdeal Cert.MixReferenceIdeal.Gen Cert.MixReferenceIdeal.Read Cert.MixSpec
open Cert.Spec hiding Inp
open Idealize.ShloMosaic Idealize.ShloMosaic.TcCoe

variable {I : Inp} {x0 x1 : T S8192x1024} {x2 : T S1x6144} {x3 x4 : T S1x1024} {x5 : T S1024x1536}
  {x6 : T S4x128} {x7 : T S4x128x128} {x8 : T S4x128} {x9 : T S4x128x128} {x10 : T S1x512} {x11 : T S1024x1024}

/-! ### The window of a group, whatever its width -/

/-- Column `j` of group `g` at row `i`, zero outside. -/
def pnat (I : Inp) (g : Fin 4) (i j : ℕ) : ℝ := if h : i < 8192 ∧ j < 128 then I.P ⟨i, h.1⟩ (cp g ⟨j, h.2⟩) else 0

theorem run_at {x : T S8192x128} {init : T S_} (g : Fin 4) (hx : ∀ n c, x (ix2 n c) = ((I.P n (cp g c) : ℝ) : EReal))
    (hinit : init ix0 = ((0 : ℝ) : EReal)) (h : S8192x128.ReduceWindows (![8192, 1] : Fin 2 → Nat) ![1, 1] ![8191, 0] ![0, 0] S8192x128)
    (hu : 0 < S_.numel) (n : Fin 8192) (c : Fin 128) :
    Host.reduceWindowAdd (F := Ideal) (φ := .f32) ![8192, 1] ![1, 1] ![8191, 0] ![0, 0] x init h hu (ix2 n c)
      = ((∑ k ∈ Finset.range (n.val + 1), pnat I g k c.val : ℝ) : EReal) :=
  runFore_at (R := 8192) (C := 128) (lo := 8191) (by norm_num) x init (pnat I g)
    (fun i j => by rw [hx, pnat, dif_pos ⟨i.isLt, j.isLt⟩]) hinit h hu n c

theorem count_at (n : Fin 8192) (g : Fin 4) (w : BitVec 32) (hw : Cert.MixIdeal.Own.widthW g = w) :
    (FloatOps.sitofp .f32 (IntOp.minsi (IntOp.addi (BitVec.ofNat 32 n.val) 1#32) w) : Ideal .f32) = ((Inp.cnt n g : ℝ) : EReal) := by
  have e : IntOp.addi (BitVec.ofNat 32 n.val) 1#32 = BitVec.ofNat 32 (n.val + 1) := by
    show BitVec.ofNat 32 n.val + BitVec.ofNat 32 1 = _
    rw [← BitVec.ofNat_add]
  rw [e, ← hw]
  show (((IntOp.minsi (BitVec.ofNat 32 (n.val + 1)) (Cert.MixIdeal.Own.widthW g)).toInt : ℝ) : EReal) = _
  rw [Cert.MixIdeal.Own.count_of]; rfl

theorem mean_at (I : Inp) (n : Fin 8192) (g : Fin 4) (c : Fin 128) (w : ℕ) (hw : width g = w) :
    Ideal.div (((∑ k ∈ Finset.range (n.val + 1), pnat I g k c.val : ℝ) : EReal)
        - (if h : n.val < w then (0 : EReal) else ((∑ k ∈ Finset.range (n.val - w + 1), pnat I g k c.val : ℝ) : EReal))) ((Inp.cnt n g : ℝ) : EReal)
      - ((I.P n (cp g c) : ℝ) : EReal) = ((I.pooled n g c : ℝ) : EReal) := by
  have e : (if h : n.val < w then (0 : EReal) else ((∑ k ∈ Finset.range (n.val - w + 1), pnat I g k c.val : ℝ) : EReal))
      = (((if n.val < w then 0 else ∑ k ∈ Finset.range (n.val - w + 1), pnat I g k c.val) : ℝ) : EReal) := by
    by_cases h : n.val < w <;> simp [h]
  rw [e, ← EReal.coe_sub, window_fore, div_coe_coe _ _ (Inp.cnt_pos n g).ne', ← EReal.coe_sub]
  refine congrArg (fun r : ℝ => ((r / Inp.cnt n g - I.P n (cp g c) : ℝ) : EReal)) ?_
  unfold Inp.win
  rw [hw]
  refine Finset.sum_congr rfl fun k _ => ?_
  by_cases h : k ≤ n.val
  · rw [if_pos h, if_pos h, pnat, dif_pos ⟨by omega, c.isLt⟩]
  · rw [if_neg h, if_neg h]

/-- Column `k` of 512 or more is a lane of its head. -/
theorem col_eq (k o : ℕ) (h : k - o < 512) (ho : o ≤ k) (h5 : o % 512 = 0) : (⟨k - o, h⟩ : Fin 512) = lane (hd k) (ln k) :=
  Fin.ext (by simp only [lane, hd, ln]; omega)

/-- Four groups one after another. -/
abbrev four (f : Fin 4 → S8192x1x128.Idx → EReal) : List ((s : Shape) × (s.Idx → EReal)) :=
  [⟨S8192x1x128, f 0⟩, ⟨S8192x1x128, f 1⟩, ⟨S8192x1x128, f 2⟩, ⟨S8192x1x128, f 3⟩]

theorem stack_at (f : Fin 4 → S8192x1x128.Idx → EReal)
    (h : Shape.Concatenates [S8192x1x128, S8192x1x128, S8192x1x128, S8192x1x128] S8192x4x128 1) (n : Fin 8192) (g : Fin 4) (c : Fin 128) :
    concatenate S8192x4x128 1 (four f) h (ix3 n g c) = f g (ix3 n 0 c) := by
  have hi : ∀ a : Fin S8192x1x128.rank, a.cast rfl ≠ (1 : Fin S8192x4x128.rank)
      → ((ix3 n 0 c : S8192x1x128.Idx) a).val = ((ix3 n g c : S8192x4x128.Idx) (a.cast rfl)).val := fun a ha => by
    match a with
    | ⟨0, _⟩ => rfl
    | ⟨1, _⟩ => exact absurd rfl ha
    | ⟨2, _⟩ => rfl
  match g with
  | 0 => exact concatenate_apply_piece (t := S8192x4x128) 1 (four f) h _ 0 (Nat.succ_pos _) S8192x1x128 (f 0) rfl rfl 0 rfl (ix3 n 0 c) hi rfl
  | 1 => exact concatenate_apply_piece (t := S8192x4x128) 1 (four f) h _ 1 (show 1 < 4 by decide) S8192x1x128 (f 1) rfl rfl 1 rfl (ix3 n 0 c) hi rfl
  | 2 => exact concatenate_apply_piece (t := S8192x4x128) 1 (four f) h _ 2 (show 2 < 4 by decide) S8192x1x128 (f 2) rfl rfl 2 rfl (ix3 n 0 c) hi rfl
  | 3 => exact concatenate_apply_piece (t := S8192x4x128) 1 (four f) h _ 3 (show 3 < 4 by decide) S8192x1x128 (f 3) rfl rfl 3 rfl (ix3 n 0 c) hi rfl

/-! ### The counts of the four groups -/

theorem count0_eq (n : Fin 8192) (z : Fin 1) : val_main_v105 (F := Ideal) (ix2 n z) = ((Inp.cnt n 0 : ℝ) : EReal) := by
  pointwise [val_main_v105, val_main_v104, val_main_v103, val_main_v102, val_main_v101, val_main_v100, val_main_v90, val_main_c_19, val_main_c_20, count_at n 0 2#32 rfl]
theorem count1_eq (n : Fin 8192) (z : Fin 1) : val_main_v123 (F := Ideal) (ix2 n z) = ((Inp.cnt n 1 : ℝ) : EReal) := by
  pointwise [val_main_v123, val_main_v122, val_main_v121, val_main_v120, val_main_v119, val_main_v118, val_main_v90, val_main_c_23, val_main_c_24, count_at n 1 4#32 rfl]
theorem count2_eq (n : Fin 8192) (z : Fin 1) : val_main_v141 (F := Ideal) (ix2 n z) = ((Inp.cnt n 2 : ℝ) : EReal) := by
  pointwise [val_main_v141, val_main_v140, val_main_v139, val_main_v138, val_main_v137, val_main_v136, val_main_v90, val_main_c_27, val_main_c_28, count_at n 2 8#32 rfl]
theorem count3_eq (n : Fin 8192) (z : Fin 1) : val_main_v159 (F := Ideal) (ix2 n z) = ((Inp.cnt n 3 : ℝ) : EReal) := by
  pointwise [val_main_v159, val_main_v158, val_main_v157, val_main_v156, val_main_v155, val_main_v154, val_main_v90, val_main_c_31, val_main_c_32, count_at n 3 16#32 rfl]

section
variable (H : Reads I x0 x1 x2 x3 x4 x5 x6 x7 x8 x9 x10 x11)
include H

theorem p_eq (n : Fin 8192) (g : Fin 4) (c : Fin 128) : val_main_v89 (F := Ideal) x0 x2 x3 x5 (ix3 n g c) = ((I.P n (cp g c) : ℝ) : EReal) := by
  pointwise [val_main_v89, val_main_v88, P_eq H]
  rfl

/-! ### The four groups -/

theorem p0_eq (n : Fin 8192) (c : Fin 128) : val_main_v92 (F := Ideal) x0 x2 x3 x5 (ix2 n c) = ((I.P n (cp 0 c) : ℝ) : EReal) := by
  pointwise [val_main_v92, val_main_v91, p_eq H]
theorem run0_eq (n : Fin 8192) (c : Fin 128) : val_main_v93 (F := Ideal) x0 x2 x3 x5 (ix2 n c)
    = ((∑ k ∈ Finset.range (n.val + 1), pnat I 0 k c.val : ℝ) : EReal) :=
  run_at 0 (p0_eq H) (by pointwise [val_main_call3_call0_v0, val_main_call3_call0_cst, c_zero]) _ _ n c
theorem pooled0_eq (n : Fin 8192) (c : Fin 128) : val_main_v108 (F := Ideal) x0 x2 x3 x5 (ix2 n c) = ((I.pooled n 0 c : ℝ) : EReal) := by
  pointwise [val_main_v108, val_main_v107, val_main_v99, val_main_v97, val_main_v98, val_main_v95, val_main_v94, val_main_cst_17,
    val_main_v106, count0_eq, run0_eq H, p0_eq H]
  exact mean_at I n 0 c 2 rfl

theorem p1_eq (n : Fin 8192) (c : Fin 128) : val_main_v110 (F := Ideal) x0 x2 x3 x5 (ix2 n c) = ((I.P n (cp 1 c) : ℝ) : EReal) := by
  pointwise [val_main_v110, val_main_v109, p_eq H]
theorem run1_eq (n : Fin 8192) (c : Fin 128) : val_main_v111 (F := Ideal) x0 x2 x3 x5 (ix2 n c)
    = ((∑ k ∈ Finset.range (n.val + 1), pnat I 1 k c.val : ℝ) : EReal) :=
  run_at 1 (p1_eq H) (by pointwise [val_main_call4_call0_v0, val_main_call4_call0_cst, c_zero]) _ _ n c
theorem pooled1_eq (n : Fin 8192) (c : Fin 128) : val_main_v126 (F := Ideal) x0 x2 x3 x5 (ix2 n c) = ((I.pooled n 1 c : ℝ) : EReal) := by
  pointwise [val_main_v126, val_main_v125, val_main_v117, val_main_v115, val_main_v116, val_main_v113, val_main_v112, val_main_cst_21,
    val_main_v124, count1_eq, run1_eq H, p1_eq H]
  exact mean_at I n 1 c 4 rfl

theorem p2_eq (n : Fin 8192) (c : Fin 128) : val_main_v128 (F := Ideal) x0 x2 x3 x5 (ix2 n c) = ((I.P n (cp 2 c) : ℝ) : EReal) := by
  pointwise [val_main_v128, val_main_v127, p_eq H]
theorem run2_eq (n : Fin 8192) (c : Fin 128) : val_main_v129 (F := Ideal) x0 x2 x3 x5 (ix2 n c)
    = ((∑ k ∈ Finset.range (n.val + 1), pnat I 2 k c.val : ℝ) : EReal) :=
  run_at 2 (p2_eq H) (by pointwise [val_main_call5_call0_v0, val_main_call5_call0_cst, c_zero]) _ _ n c
theorem pooled2_eq (n : Fin 8192) (c : Fin 128) : val_main_v144 (F := Ideal) x0 x2 x3 x5 (ix2 n c) = ((I.pooled n 2 c : ℝ) : EReal) := by
  pointwise [val_main_v144, val_main_v143, val_main_v135, val_main_v133, val_main_v134, val_main_v131, val_main_v130, val_main_cst_25,
    val_main_v142, count2_eq, run2_eq H, p2_eq H]
  exact mean_at I n 2 c 8 rfl

theorem p3_eq (n : Fin 8192) (c : Fin 128) : val_main_v146 (F := Ideal) x0 x2 x3 x5 (ix2 n c) = ((I.P n (cp 3 c) : ℝ) : EReal) := by
  pointwise [val_main_v146, val_main_v145, p_eq H]
theorem run3_eq (n : Fin 8192) (c : Fin 128) : val_main_v147 (F := Ideal) x0 x2 x3 x5 (ix2 n c)
    = ((∑ k ∈ Finset.range (n.val + 1), pnat I 3 k c.val : ℝ) : EReal) :=
  run_at 3 (p3_eq H) (by pointwise [val_main_call6_call0_v0, val_main_call6_call0_cst, c_zero]) _ _ n c
theorem pooled3_eq (n : Fin 8192) (c : Fin 128) : val_main_v162 (F := Ideal) x0 x2 x3 x5 (ix2 n c) = ((I.pooled n 3 c : ℝ) : EReal) := by
  pointwise [val_main_v162, val_main_v161, val_main_v153, val_main_v151, val_main_v152, val_main_v149, val_main_v148, val_main_cst_29,
    val_main_v160, count3_eq, run3_eq H, p3_eq H]
  exact mean_at I n 3 c 16 rfl

/-! ### The mixture and its norm -/

theorem pooled_eq (n : Fin 8192) (g : Fin 4) (c : Fin 128) : val_main_v167 (F := Ideal) x0 x2 x3 x5 (ix3 n g c) = ((I.pooled n g c : ℝ) : EReal) := by
  unfold val_main_v167
  refine (stack_at ![val_main_v163 (F := Ideal) x0 x2 x3 x5, val_main_v164 (F := Ideal) x0 x2 x3 x5, val_main_v165 (F := Ideal) x0 x2 x3 x5,
    val_main_v166 (F := Ideal) x0 x2 x3 x5] _ n g c).trans ?_
  match g with
  | 0 => show val_main_v163 (F := Ideal) x0 x2 x3 x5 _ = _; pointwise [val_main_v163, pooled0_eq H]
  | 1 => show val_main_v164 (F := Ideal) x0 x2 x3 x5 _ = _; pointwise [val_main_v164, pooled1_eq H]
  | 2 => show val_main_v165 (F := Ideal) x0 x2 x3 x5 _ = _; pointwise [val_main_v165, pooled2_eq H]
  | 3 => show val_main_v166 (F := Ideal) x0 x2 x3 x5 _ = _; pointwise [val_main_v166, pooled3_eq H]

theorem y_eq (n : Fin 8192) (g : Fin 4) (d : Fin 128) : val_main_v170 (F := Ideal) x0 x2 x3 x5 x9 (ix2 n (lane g d)) = ((I.y n g d : ℝ) : EReal) := by
  have e : ∀ n g d, val_main_v169 (F := Ideal) x0 x2 x3 x5 x9 (ix3 n g d) = ((I.y n g d : ℝ) : EReal) := fun n g d => by
    pointwise [val_main_v169, val_main_v168, dot_S4x128x128_S8192x4x128_S4x128x8192_1_2_2_0_0_1, pooled_eq H, H.wp, ← EReal.coe_mul, coe_sum]
    exact congrArg _ (Finset.sum_congr rfl fun c _ => mul_comm _ _)
  pointwise [val_main_v170]
  rw [e, (head_eq g d (by have := (lane g d).isLt; omega) (by omega)).1, (head_eq g d (by have := (lane g d).isLt; omega) (by omega)).2]

theorem scaled_eq (n : Fin 8192) (g : Fin 4) (d : Fin 128) :
    val_main_v172 (F := Ideal) x0 x2 x3 x5 x9 x10 (ix2 n (lane g d)) = ((I.scaled n g d : ℝ) : EReal) := by
  pointwise [val_main_v172, val_main_v171, y_eq H, H.ps, ← EReal.coe_mul]
  rfl

theorem cat_eq (n : Fin 8192) (k : Fin 1024) :
    val_main_v173 (F := Ideal) x0 x2 x3 x5 x6 x7 x8 x9 x10 (ix2 n k) = ((I.cat n k : ℝ) : EReal) := by
  have hk := k.isLt
  pointwise [val_main_v173]
  unfold Inp.cat
  by_cases h : k.val < 512
  · rw [dif_pos h, if_pos h]
    exact (congrArg (fun j => val_main_v87 (F := Ideal) x0 x2 x3 x5 x6 x7 x8 (ix2 n j)) (col_eq k.val 0 h (Nat.zero_le _) rfl)).trans (gated_eq H n _ _)
  · rw [dif_neg h, if_neg h]
    exact (congrArg (fun j => val_main_v172 (F := Ideal) x0 x2 x3 x5 x9 x10 (ix2 n j)) (col_eq k.val 512 (by omega) (by omega) rfl)).trans (scaled_eq H n _ _)

theorem M_eq (n : Fin 8192) (d : Fin 1024) :
    val_main_v174 (F := Ideal) x0 x2 x3 x5 x6 x7 x8 x9 x10 x11 (ix2 n d) = ((I.M n d : ℝ) : EReal) := by
  pointwise [val_main_v174, dot_S8192x1024_S1024x1024_S8192x1024_1_0_0_1_n_n, cat_eq H, H.Wo, ← EReal.coe_mul, coe_sum]
  rfl

theorem ms2_eq (i : Fin 8192) (b : Fin 1) :
    val_main_v181 (F := Ideal) x0 x2 x3 x5 x6 x7 x8 x9 x10 x11 (ix2 i b) = ((I.ms2 i : ℝ) : EReal) := by
  pointwise [val_main_v181, val_main_v180, val_main_cst_35, val_main_v179, val_main_v178, val_main_cst_34, val_main_v177, val_main_v176,
    val_main_cst_33, val_main_v175, M_eq H, c_1024, c_eps, ← EReal.coe_mul, coe_sum, div_coe_coe _ (1024 : ℝ) (by norm_num), ← EReal.coe_add]
  rfl

theorem r2_eq (i : Fin 8192) (b : Fin 1) :
    val_main_v182 (F := Ideal) x0 x2 x3 x5 x6 x7 x8 x9 x10 x11 (ix2 i b) = ((I.r2 i : ℝ) : EReal) := by
  pointwise [val_main_v182, ms2_eq H, rsqrt_of_pos _ (I.ms2_pos i)]
  rfl

theorem mh_eq (i : Fin 8192) (d : Fin 1024) :
    val_main_v187 (F := Ideal) x0 x2 x3 x5 x6 x7 x8 x9 x10 x11 (ix2 i d) = ((I.mh i d : ℝ) : EReal) := by
  pointwise [val_main_v187, val_main_v186, M_eq H, r2_eq H, ← EReal.coe_mul]
  rfl

end

end Cert.MixRef

end
-- ==== Proof.MixHost.lean ====
/-
  What the mixing program's arrays hold when its kernel starts: the reference's forward values of the same arguments.
-/
module

public import proofs.«01_k».proof.Proof.MixState
public import proofs.«01_k».proof.Proof.MixRefPool
public import Idealize.ShloMosaic.Lib.Tactic

@[expose] public section

noncomputable section

namespace Cert.MixIdeal.Own

open Cert.MixIdeal Cert.MixIdeal.Gen
open Cert.MixReferenceIdeal.Read
open Idealize.ShloMosaic Idealize.ShloMosaic.TcCoe

variable (m : (ℓ : Loc nD τ sig) → Buf (Elt Ideal) ℓ) (c : Dev nD)

theorem V_proj : V m c main_v24 = val_main_v27 (F := Ideal) (V m c main_arg0) (V m c main_arg2) (V m c main_arg3) (V m c main_arg5) := by
  sl_kernel_rfl

theorem V_mixed : V m c main_v156 = val_main_v174 (F := Ideal) (V m c main_arg0) (V m c main_arg2) (V m c main_arg3) (V m c main_arg5)
    (V m c main_arg6) (V m c main_arg7) (V m c main_arg8) (V m c main_arg9) (V m c main_arg10) (V m c main_arg11) := by
  sl_kernel_rfl

theorem V_mod : V m c main_v157 = shapeCast S6x1024 (V m c main_arg2) shapeCasts_S1x6144_S6x1024 := by
  sl_kernel_rfl

theorem V_win : V m c main_v159 = truncf (F := Ideal) (φ := .f32) .bf16 (transpose S1536x1024 [1, 0] (V m c main_arg5) transposes_S1024x1536_S1536x1024_1_0) bitsLt_bf16_f32 := by
  sl_kernel_rfl

theorem V_bs : V m c main_v160 = transpose S128x4 [1, 0] (V m c main_arg8) transposes_S4x128_S128x4_1_0 := by
  sl_kernel_rfl

theorem V_wout : V m c main_v161 = truncf (F := Ideal) (φ := .f32) .bf16 (V m c main_arg11) bitsLt_bf16_f32 := by
  sl_kernel_rfl

end Cert.MixIdeal.Own

end
-- ==== Proof.MixReads.lean ====
/-
  What each point's loads hold, element by element, of the mixing program's arrays: the premises of MixTile.lean.
-/
module

public import proofs.«01_k».proof.Proof.MixHost

@[expose] public section

noncomputable section

namespace Cert.MixIdeal.Own

open Cert.MixIdeal Cert.MixIdeal.Gen Cert.MixSpec
open Cert.Spec hiding Inp
open Cert.Kernel.Own (load_at)
open Idealize.ShloMosaic Idealize.ShloMosaic.TcCoe

/-- The blocks the windows stage at point `t`: the row blocks go from the last to the first. -/
theorem index_rows : ∀ t : Fin grid0.N, (win0_0.index t 0 = 15 - t.val ∧ win0_0.index t 1 = 0)
    ∧ (win0_1.index t 0 = 15 - t.val ∧ win0_1.index t 1 = 0) ∧ (win0_2.index t 0 = 15 - t.val ∧ win0_2.index t 1 = 0)
    ∧ (win0_3.index t 0 = (15 - t.val) * 32 - 1 ∧ win0_3.index t 1 = 2) ∧ (win0_4.index t 0 = 15 - t.val ∧ win0_4.index t 1 = 0) := by
  decide +kernel
theorem index_whole : ∀ t : Fin grid0.N, (∀ a, win0_5.index t a = 0) ∧ (∀ a, win0_6.index t a = 0) ∧ (∀ a, win0_7.index t a = 0)
    ∧ (∀ a, win0_8.index t a = 0) ∧ (∀ a, win0_9.index t a = 0) ∧ (∀ a, win0_10.index t a = 0) ∧ (∀ a, win0_11.index t a = 0)
    ∧ (∀ a, win0_12.index t a = 0) ∧ (∀ a, win0_13.index t a = 0) ∧ (∀ a, win0_14.index t a = 0) := by decide +kernel
theorem tile_word : ∀ t : Fin grid0.N, Scalar.subi 15#32 (BitVec.ofNat 32 (grid0.coords t 0).val) = BitVec.ofNat 32 (15 - t.val) := by
  decide +kernel

/-- An index is given by where a block of `s` rows (columns, matrices) puts it: `w` the block's number, `r` the place in it. -/
theorem at2 {n k : ℕ} {p : (⟨2, ![n, k]⟩ : Shape).Idx} {i : Fin n} {j : Fin k} {w0 w1 s0 s1 r0 r1 : ℕ}
    (e0 : (p 0).val = w0 * s0 + 1 * r0) (e1 : (p 1).val = w1 * s1 + 1 * r1) (h0 : w0 * s0 + r0 = i.val) (h1 : w1 * s1 + r1 = j.val) :
    p = ix2 i j := by
  funext a
  apply Fin.ext
  match a with
  | ⟨0, _⟩ => exact e0.trans ((congrArg _ (Nat.one_mul r0)).trans h0)
  | ⟨1, _⟩ => exact e1.trans ((congrArg _ (Nat.one_mul r1)).trans h1)
theorem at3 {n k l : ℕ} {p : (⟨3, ![n, k, l]⟩ : Shape).Idx} {h : Fin n} {i : Fin k} {j : Fin l} {w0 w1 w2 s0 s1 s2 : ℕ}
    (e0 : (p 0).val = w0 * s0 + 1 * h.val) (e1 : (p 1).val = w1 * s1 + 1 * i.val) (e2 : (p 2).val = w2 * s2 + 1 * j.val)
    (h0 : w0 = 0) (h1 : w1 = 0) (h2 : w2 = 0) : p = ix3 h i j := by
  subst h0 h1 h2
  funext a
  apply Fin.ext
  match a with
  | ⟨0, _⟩ => exact e0.trans (by show 0 * s0 + 1 * h.val = h.val; omega)
  | ⟨1, _⟩ => exact e1.trans (by show 0 * s1 + 1 * i.val = i.val; omega)
  | ⟨2, _⟩ => exact e2.trans (by show 0 * s2 + 1 * j.val = j.val; omega)
/-- The six rows of the modulation, the transposed weights, and the transposed biases, at an index. -/
theorem mod_row (x : FVec Ideal S1x6144 .f32) (k : Fin 6) (d : Fin 1024) :
    shapeCast S6x1024 x shapeCasts_S1x6144_S6x1024 (ix2 k d) = x (ix2 0 ⟨k.val * 1024 + d.val, by omega⟩) := by
  pointwise []
theorem win_turn (x : FVec Ideal S1024x1536 .f32) (k : Fin 1536) (d : Fin 1024) :
    transpose S1536x1024 [1, 0] x transposes_S1024x1536_S1536x1024_1_0 (ix2 k d) = x (ix2 d k) := by
  pointwise []
theorem bs_turn (x : FVec Ideal S4x128 .f32) (i : Fin 128) (h : Fin 4) :
    transpose S128x4 [1, 0] x transposes_S4x128_S128x4_1_0 (ix2 i h) = x (ix2 h i) := by
  pointwise []
/-- A row of a one-row array. -/
theorem one_row {n : ℕ} {f : (⟨2, ![1, n]⟩ : Shape).Idx → EReal} {z : Fin 1} {d : Fin n} {r : ℝ} (h : f (ix2 0 d) = (r : EReal)) :
    f (ix2 z d) = (r : EReal) := (congrArg (fun z => f (ix2 z d)) (Subsingleton.elim z 0)).trans h
theorem none_of {w s r : ℕ} (h : w = 0) : w * s + r = r := by rw [h, Nat.zero_mul, Nat.zero_add]

variable (m : (ℓ : Loc nD τ sig) → Buf (Elt Ideal) ℓ) (c : Dev nD) (t : Fin cfg0.N)

theorem blk0 (i : Fin 512) (d : Fin 1024) : iblk m c 0 t (ix2 i d) = V m c main_arg1 (ix2 (row (tile t.val) i) d) := by
  have h := (index_rows t).1
  unfold iblk
  rw [View.read_apply]
  exact congrArg (V m c main_arg1) (at2 rfl rfl (congrArg (· * 512 + i.val) h.1) (none_of h.2))
theorem blk1 (i : Fin 512) (d : Fin 1024) : iblk m c 1 t (ix2 i d) = V m c main_arg0 (ix2 (row (tile t.val) i) d) := by
  have h := (index_rows t).2.1
  unfold iblk
  rw [View.read_apply]
  exact congrArg (V m c main_arg0) (at2 rfl rfl (congrArg (· * 512 + i.val) h.1) (none_of h.2))
theorem blk2 (i : Fin 512) (d : Fin 1536) : iblk m c 2 t (ix2 i d) = V m c main_v24 (ix2 (row (tile t.val) i) d) := by
  have h := (index_rows t).2.2.1
  unfold iblk
  rw [View.read_apply]
  exact congrArg (V m c main_v24) (at2 rfl rfl (congrArg (· * 512 + i.val) h.1) (none_of h.2))
theorem blk4 (i : Fin 512) (d : Fin 1024) : iblk m c 4 t (ix2 i d) = V m c main_v156 (ix2 (row (tile t.val) i) d) := by
  have h := (index_rows t).2.2.2.2
  unfold iblk
  rw [View.read_apply]
  exact congrArg (V m c main_v156) (at2 rfl rfl (congrArg (· * 512 + i.val) h.1) (none_of h.2))
theorem blk3 (s : Fin 16) (g : Fin 4) (k : Fin 128) : iblk m c 3 t (ix2 s (lane g k)) = V m c main_v24 (ix2 (rowB (tile t.val) s) (cp g k)) := by
  have h := (index_rows t).2.2.2.1
  unfold iblk
  rw [View.read_apply]
  exact congrArg (V m c main_v24) (at2 (s1 := 512) (r1 := g.val * 128 + k.val) rfl rfl
    ((congrArg (· * 16 + s.val) h.1).trans (by show ((15 - t.val) * 32 - 1) * 16 + s.val = (15 - t.val) * 512 - 16 + s.val; omega))
    (by show win0_3.index t 1 * 512 + (g.val * 128 + k.val) = 1024 + (g.val * 128 + k.val); rw [h.2]))
theorem blk5 (i : Fin 6) (d : Fin 1024) : iblk m c 5 t (ix2 i d) = V m c main_v157 (ix2 i d) := by
  have h := (index_whole t).1
  unfold iblk
  rw [View.read_apply]
  exact congrArg (V m c main_v157) (at2 rfl rfl (none_of (h 0)) (none_of (h 1)))
theorem blk6 (i : Fin 1) (d : Fin 1024) : iblk m c 6 t (ix2 i d) = V m c main_arg3 (ix2 i d) := by
  have h := (index_whole t).2.1
  unfold iblk
  rw [View.read_apply]
  exact congrArg (V m c main_arg3) (at2 rfl rfl (none_of (h 0)) (none_of (h 1)))
theorem blk7 (i : Fin 1) (d : Fin 1024) : iblk m c 7 t (ix2 i d) = V m c main_arg4 (ix2 i d) := by
  have h := (index_whole t).2.2.1
  unfold iblk
  rw [View.read_apply]
  exact congrArg (V m c main_arg4) (at2 rfl rfl (none_of (h 0)) (none_of (h 1)))
theorem blk8 (i : Fin 1536) (d : Fin 1024) : iblk m c 8 t (ix2 i d) = V m c main_v159 (ix2 i d) := by
  have h := (index_whole t).2.2.2.1
  unfold iblk
  rw [View.read_apply]
  exact congrArg (V m c main_v159) (at2 rfl rfl (none_of (h 0)) (none_of (h 1)))
theorem blk9 (i : Fin 4) (d : Fin 128) : iblk m c 9 t (ix2 i d) = V m c main_arg6 (ix2 i d) := by
  have h := (index_whole t).2.2.2.2.1
  unfold iblk
  rw [View.read_apply]
  exact congrArg (V m c main_arg6) (at2 rfl rfl (none_of (h 0)) (none_of (h 1)))
theorem blk10 (i : Fin 4) (j : Fin 128) (d : Fin 128) : iblk m c 10 t (ix3 i j d) = V m c main_arg7 (ix3 i j d) := by
  have h := (index_whole t).2.2.2.2.2.1
  unfold iblk
  rw [View.read_apply]
  exact congrArg (V m c main_arg7) (at3 rfl rfl rfl (h 0) (h 1) (h 2))
theorem blk11 (i : Fin 128) (d : Fin 4) : iblk m c 11 t (ix2 i d) = V m c main_v160 (ix2 i d) := by
  have h := (index_whole t).2.2.2.2.2.2.1
  unfold iblk
  rw [View.read_apply]
  exact congrArg (V m c main_v160) (at2 rfl rfl (none_of (h 0)) (none_of (h 1)))
theorem blk12 (i : Fin 4) (j : Fin 128) (d : Fin 128) : iblk m c 12 t (ix3 i j d) = V m c main_arg9 (ix3 i j d) := by
  have h := (index_whole t).2.2.2.2.2.2.2.1
  unfold iblk
  rw [View.read_apply]
  exact congrArg (V m c main_arg9) (at3 rfl rfl rfl (h 0) (h 1) (h 2))
theorem blk13 (i : Fin 1) (d : Fin 512) : iblk m c 13 t (ix2 i d) = V m c main_arg10 (ix2 i d) := by
  have h := (index_whole t).2.2.2.2.2.2.2.2.1
  unfold iblk
  rw [View.read_apply]
  exact congrArg (V m c main_arg10) (at2 rfl rfl (none_of (h 0)) (none_of (h 1)))
theorem blk14 (i : Fin 1024) (d : Fin 1024) : iblk m c 14 t (ix2 i d) = V m c main_v161 (ix2 i d) := by
  have h := (index_whole t).2.2.2.2.2.2.2.2.2
  unfold iblk
  rw [View.read_apply]
  exact congrArg (V m c main_v161) (at2 rfl rfl (none_of (h 0)) (none_of (h 1)))

variable {m c} {I : Inp}
variable (A : Cert.MixRef.Reads I (V m c main_arg0) (V m c main_arg1) (V m c main_arg2) (V m c main_arg3) (V m c main_arg4) (V m c main_arg5)
  (V m c main_arg6) (V m c main_arg7) (V m c main_arg8) (V m c main_arg9) (V m c main_arg10) (V m c main_arg11))
include A

theorem V_proj_at (n : Fin 8192) (k : Fin 1536) : V m c main_v24 (ix2 n k) = ((I.P n k : ℝ) : EReal) :=
  (congrFun (V_proj m c) _).trans (Cert.MixRef.P_eq A n k)
theorem V_mixed_at (n : Fin 8192) (d : Fin 1024) : V m c main_v156 (ix2 n d) = ((I.M n d : ℝ) : EReal) :=
  (congrFun (V_mixed m c) _).trans (Cert.MixRef.M_eq A n d)
theorem V_mod_at (k : Fin 6) (d : Fin 1024) : V m c main_v157 (ix2 k d) = ((I.md ⟨k.val * 1024 + d.val, by omega⟩ : ℝ) : EReal) :=
  (congrFun (V_mod m c) _).trans ((mod_row _ k d).trans (A.md _))
theorem V_win_at (k : Fin 1536) (d : Fin 1024) : V m c main_v159 (ix2 k d) = ((I.W d k : ℝ) : EReal) :=
  (congrFun (V_win m c) _).trans ((win_turn _ k d).trans (A.W d k))
theorem V_bs_at (i : Fin 128) (h : Fin 4) : V m c main_v160 (ix2 i h) = ((I.bs h i : ℝ) : EReal) :=
  (congrFun (V_bs m c) _).trans ((bs_turn _ i h).trans (A.bs h i))
theorem V_wout_at (k : Fin 1024) (d : Fin 1024) : V m c main_v161 (ix2 k d) = ((I.Wo k d : ℝ) : EReal) :=
  (congrFun (V_wout m c) _).trans (A.Wo k d)

set_option maxHeartbeats 2000000 in
theorem at_tile (t : Fin cfg0.N) : At I (tile t.val) (loads m c t) where
  e i d := (load_at (hs0_0 t) _ rRows _).trans (((congrArg _ (rRows_emb i d)).trans (blk0 m c t i d)).trans (A.e _ d))
  x i d := (load_at (hs0_1 t) _ rRows _).trans (((congrArg _ (rRows_emb i d)).trans (blk1 m c t i d)).trans (A.x _ d))
  mx i d := (load_at (hs0_4 t) _ rRows _).trans (((congrArg _ (rRows_emb i d)).trans (blk4 m c t i d)).trans (V_mixed_at A _ d))
  sh z d := (load_at (hs0_5 t) _ (rMod 0) _).trans (((congrArg _ (rMod_emb 0 z d)).trans (blk5 m c t 0 d)).trans ((V_mod_at A 0 d).trans (congrArg (fun k => ((I.md k : ℝ) : EReal)) (Fin.ext (by show 0 * 1024 + d.val = d.val; omega)))))
  sc z d := (load_at (hs0_5 t) _ (rMod 1) _).trans (((congrArg _ (rMod_emb 1 z d)).trans (blk5 m c t 1 d)).trans (V_mod_at A 1 d))
  gm z d := (load_at (hs0_5 t) _ (rMod 2) _).trans (((congrArg _ (rMod_emb 2 z d)).trans (blk5 m c t 2 d)).trans (V_mod_at A 2 d))
  g1 z d := (load_at (hs0_6 t) _ rRow _).trans (((congrArg _ (rRow_emb z d)).trans (blk6 m c t z d)).trans (one_row (A.g1 d)))
  g2 z d := (load_at (hs0_7 t) _ rRow _).trans (((congrArg _ (rRow_emb z d)).trans (blk7 m c t z d)).trans (one_row (A.g2 d)))
  win k d := (load_at (hs0_8 t) _ rIn _).trans (((congrArg _ (rIn_emb k d)).trans (blk8 m c t k d)).trans (V_win_at A k d))
  wout k d := (load_at (hs0_14 t) _ rOut _).trans (((congrArg _ (rOut_emb k d)).trans (blk14 m c t k d)).trans (V_wout_at A k d))
  u h i k := (load_at (hs0_2 t) _ (rProj (colU h)) _).trans
    (((congrArg _ (rProj_emb (colU h) i k)).trans (blk2 m c t i _)).trans (V_proj_at A _ (cu h k)))
  v h i k := (load_at (hs0_2 t) _ (rProj (colV h)) _).trans
    (((congrArg _ ((rProj_emb (colV h) i k).trans (congrArg (ix2 i) (Fin.ext (by show (4 + h.val) * 128 + k.val = 512 + (h.val * 128 + k.val); omega))))).trans
      (blk2 m c t i (cv h k))).trans (V_proj_at A _ (cv h k)))
  p i g k := (load_at (hs0_2 t) _ rPool _).trans (((congrArg _ (rPool_emb i g k)).trans (blk2 m c t i _)).trans (V_proj_at A _ _))
  halo s g k := (load_at (hs0_3 t) _ rSixteen _).trans (((congrArg _ (rSixteen_emb s _)).trans (blk3 m c t s g k)).trans (V_proj_at A _ _))
  sgn h z k := (load_at (hs0_9 t) _ (rSgn h) _).trans (((congrArg _ (rSgn_emb h z k)).trans (blk9 m c t h k)).trans (A.sgn h k))
  ws h z i j := (load_at (hs0_10 t) _ (rStack h) _).trans (((congrArg _ (rStack_emb h z i j)).trans (blk10 m c t h i j)).trans (A.ws h i j))
  bs h i z := (load_at (hs0_11 t) _ (rBs h) _).trans (((congrArg _ (rBs_emb h i z)).trans (blk11 m c t i h)).trans (V_bs_at A i h))
  wp g z i j := (load_at (hs0_12 t) _ (rStack g) _).trans (((congrArg _ (rStack_emb g z i j)).trans (blk12 m c t g i j)).trans (A.wp g i j))
  ps g z d := (load_at (hs0_13 t) _ (rPs g) _).trans (((congrArg _ (rPs_emb g z d)).trans (blk13 m c t z _)).trans (one_row (A.ps _)))
  r := tile_word t

/-- Every point leaves what MixSpec.lean says. -/
theorem holds_at (n : ℕ) (hn : n < cfg0.N) : Holds I n (left m c n hn) := holds m I c (at_tile A) n hn

end Cert.MixIdeal.Own

end
-- ==== Proof.MixArrays.lean ====
/-
  What the mixing half's result arrays hold after the last point, and the reference's results: the same arrays.
-/
module

public import proofs.«01_k».proof.Proof.MixReads
public import proofs.«01_k».proof.Proof.MixRun
public import Idealize.ShloMosaic.Lib.Pipeline.ValueKit

@[expose] public section

noncomputable section

namespace Cert.MixSpec

open Idealize.ShloMosaic Idealize.ShloMosaic.TcCoe

/-- Arrays of real numbers. -/
def real2 {a b : ℕ} (g : Fin a → Fin b → ℝ) : (⟨2, ![a, b]⟩ : Shape).Idx → EReal := fun j => ((g (j 0) (j 1) : ℝ) : EReal)
def real3 {a b d : ℕ} (g : Fin a → Fin b → Fin d → ℝ) : (⟨3, ![a, b, d]⟩ : Shape).Idx → EReal := fun j => ((g (j 0) (j 1) (j 2) : ℝ) : EReal)

theorem eq_real2 {a b : ℕ} {f : (⟨2, ![a, b]⟩ : Shape).Idx → EReal} {g : Fin a → Fin b → ℝ} (h : ∀ i k, f (ix2 i k) = ((g i k : ℝ) : EReal)) : f = real2 g :=
  funext fun j => (congrArg f (eq_ix2 j)).trans (h _ _)
theorem eq_real3 {a b d : ℕ} {f : (⟨3, ![a, b, d]⟩ : Shape).Idx → EReal} {g : Fin a → Fin b → Fin d → ℝ} (h : ∀ i k l, f (ix3 i k l) = ((g i k l : ℝ) : EReal)) :
    f = real3 g := funext fun j => (congrArg f (ix3_eta j).symm).trans (h _ _ _)

/-- Every column of the pooled ones is a lane of a group. -/
theorem lane_of (k : Fin 512) : lane (hd k.val) (ln k.val) = k := Fin.ext (by have := k.isLt; simp only [lane, hd, ln]; omega)
theorem by_lane {f : (⟨2, ![1, 512]⟩ : Shape).Idx → EReal} {g : Fin 4 → Fin 128 → ℝ} (h : ∀ (z : Fin 1) a d, f (ix2 z (lane a d)) = ((g a d : ℝ) : EReal))
    (z : Fin 1) (k : Fin 512) : f (ix2 z k) = ((g (hd k.val) (ln k.val) : ℝ) : EReal) :=
  (congrArg (fun k => f (ix2 z k)) (lane_of k).symm).trans (h z _ _)

namespace Inp
variable (I : Inp)

/-- The eleven results. -/
def o0 : (⟨2, ![8192, 1024]⟩ : Shape).Idx → EReal := real2 I.gx
def o1 : (⟨2, ![1536, 1024]⟩ : Shape).Idx → EReal := real2 fun k d => ∑ n, I.twin k n d
def o2 : (⟨2, ![1024, 1024]⟩ : Shape).Idx → EReal := real2 fun k d => ∑ n, I.twout k n d
def o3 : (⟨2, ![3, 1024]⟩ : Shape).Idx → EReal := real2 fun a d => ∑ n, I.tmod a n d
def o4 : (⟨2, ![1, 1024]⟩ : Shape).Idx → EReal := real2 fun _ d => ∑ n, I.tg1 n d
def o5 : (⟨2, ![1, 1024]⟩ : Shape).Idx → EReal := real2 fun _ d => ∑ n, I.tg2 n d
def o6 : (⟨2, ![4, 128]⟩ : Shape).Idx → EReal := real2 fun h c => ∑ n, I.tsgn n h c
def o7 : (⟨3, ![4, 128, 128]⟩ : Shape).Idx → EReal := real3 fun h i j => ∑ b, I.tws b h i j
def o8 : (⟨2, ![128, 4]⟩ : Shape).Idx → EReal := real2 fun i h => ∑ b, I.tbs b h i
def o9 : (⟨3, ![4, 128, 128]⟩ : Shape).Idx → EReal := real3 fun g c d => ∑ n, I.twp n g c d
def o10 : (⟨2, ![1, 512]⟩ : Shape).Idx → EReal := real2 fun _ k => ∑ n, I.tps n (hd k.val) (ln k.val)
end Inp

end Cert.MixSpec

namespace Cert.MixIdeal.Own

open Cert.MixIdeal Cert.MixIdeal.Gen Cert.MixSpec
open Idealize.ShloMosaic Idealize.ShloMosaic.TcCoe

theorem index_gx : ∀ t : Fin grid0.N, win0_15.index t 0 = 15 - t.val ∧ win0_15.index t 1 = 0 := by decide +kernel

/-- The tiles of all points together are all rows; their blocks are all blocks. -/
theorem upto_tiles {n N : ℕ} (hN : N = 16 * n) (at_ : Fin 16 → Fin n → Fin N) (h : ∀ T i, (at_ T i).val = T.val * n + i.val) (g : Fin N → ℝ) :
    upto (fun T => ∑ i, g (at_ T i)) 15 = ∑ k, g k := by
  subst hN
  let e : Fin 16 × Fin n ≃ Fin (16 * n) := finProdFinEquiv
  have h1 : (∑ k, g k) = ∑ p : Fin 16 × Fin n, g (e p) := (Equiv.sum_comp e g).symm
  rw [h1, Fintype.sum_prod_type, upto, Finset.sum_range, ← Equiv.sum_comp Fin.revPerm]
  refine Finset.sum_congr rfl fun s _ => Finset.sum_congr rfl fun i _ => congrArg g (Fin.ext ?_)
  have hs := s.isLt
  rw [h]
  show (15 - (15 + 1 - (s.val + 1))) * n + i.val = i.val + n * s.val
  rw [show 15 - (15 + 1 - (s.val + 1)) = s.val by omega, Nat.mul_comm, Nat.add_comm]
theorem rows_all {t : ℕ} (ht : t = 15) (g : Fin 8192 → ℝ) : ((upto (rowsOf g) t : ℝ) : EReal) = ((∑ n, g n : ℝ) : EReal) := by
  subst ht; exact congrArg _ (upto_tiles rfl row (fun _ _ => rfl) g)
theorem blocks_all {t : ℕ} (ht : t = 15) (g : Fin 64 → ℝ) : ((upto (blocksOf g) t : ℝ) : EReal) = ((∑ b, g b : ℝ) : EReal) := by
  subst ht; exact congrArg _ (upto_tiles rfl blockOf (fun _ _ => rfl) g)

variable {m : (ℓ : Loc nD τ sig) → Buf (Elt Ideal) ℓ} {c : Dev nD} {I : Inp}
variable (A : Cert.MixRef.Reads I (V m c main_arg0) (V m c main_arg1) (V m c main_arg2) (V m c main_arg3) (V m c main_arg4) (V m c main_arg5)
  (V m c main_arg6) (V m c main_arg7) (V m c main_arg8) (V m c main_arg9) (V m c main_arg10) (V m c main_arg11))
include A

theorem final15 : (dats m 0 c).arrAt 15 cfg0.N = I.o0 :=
  (dats m 0 c).arrAt_eq_of_covers 15 I.o0 (by decide +kernel : win0_15.Covers) fun t _ j => by
    refine (congrFun (eq_real2 (a := 512) (b := 1024) (holds_at A t.val t.isLt).gx) j).trans ?_
    show _ = real2 I.gx _
    have h := index_gx t
    refine congrArg (real2 I.gx) (at2 (i := row (tile t.val) (j 0)) (j := (j 1 : Fin 1024)) (w1 := win0_15.index t 1) rfl rfl
      (congrArg (· * 512 + (j 0).val) h.1) (none_of h.2)).symm

/-! ### At the last point -/
section last
variable (t : Fin cfg0.N) (ht : t.val = 15)
include ht
theorem final16 (h : win0_16.WholeAt t) : (dats m 0 c).arrAt 16 cfg0.N = I.o1 :=
  (dats m 0 c).arrAt_eq_of_after_last 16 t h I.o1 (congrFun (eq_real2 fun k d => ((holds_at A t.val t.isLt).dwin k d).trans (rows_all ht fun n => I.twin k n d)))
theorem final17 (h : win0_17.WholeAt t) : (dats m 0 c).arrAt 17 cfg0.N = I.o2 :=
  (dats m 0 c).arrAt_eq_of_after_last 17 t h I.o2 (congrFun (eq_real2 fun k d => ((holds_at A t.val t.isLt).dwout k d).trans (rows_all ht fun n => I.twout k n d)))
theorem final18 (h : win0_18.WholeAt t) : (dats m 0 c).arrAt 18 cfg0.N = I.o3 :=
  (dats m 0 c).arrAt_eq_of_after_last 18 t h I.o3 (congrFun (eq_real2 fun k d => ((holds_at A t.val t.isLt).dmod k d).trans (rows_all ht fun n => I.tmod k n d)))
theorem final19 (h : win0_19.WholeAt t) : (dats m 0 c).arrAt 19 cfg0.N = I.o4 :=
  (dats m 0 c).arrAt_eq_of_after_last 19 t h I.o4 (congrFun (eq_real2 fun k d => ((holds_at A t.val t.isLt).dg1 k d).trans (rows_all ht fun n => I.tg1 n d)))
theorem final20 (h : win0_20.WholeAt t) : (dats m 0 c).arrAt 20 cfg0.N = I.o5 :=
  (dats m 0 c).arrAt_eq_of_after_last 20 t h I.o5 (congrFun (eq_real2 fun k d => ((holds_at A t.val t.isLt).dg2 k d).trans (rows_all ht fun n => I.tg2 n d)))
theorem final21 (h : win0_21.WholeAt t) : (dats m 0 c).arrAt 21 cfg0.N = I.o6 :=
  (dats m 0 c).arrAt_eq_of_after_last 21 t h I.o6 (congrFun (eq_real2 fun k d => ((holds_at A t.val t.isLt).dsgn k d).trans (rows_all ht fun n => I.tsgn n k d)))
theorem final22 (h : win0_22.WholeAt t) : (dats m 0 c).arrAt 22 cfg0.N = I.o7 :=
  (dats m 0 c).arrAt_eq_of_after_last 22 t h I.o7 (congrFun (eq_real3 fun h i j => ((holds_at A t.val t.isLt).dws h i j).trans (blocks_all ht fun b => I.tws b h i j)))
theorem final23 (h : win0_23.WholeAt t) : (dats m 0 c).arrAt 23 cfg0.N = I.o8 :=
  (dats m 0 c).arrAt_eq_of_after_last 23 t h I.o8 (congrFun (eq_real2 fun k d => ((holds_at A t.val t.isLt).dbst d k).trans (blocks_all ht fun b => I.tbs b d k)))
theorem final24 (h : win0_24.WholeAt t) : (dats m 0 c).arrAt 24 cfg0.N = I.o9 :=
  (dats m 0 c).arrAt_eq_of_after_last 24 t h I.o9 (congrFun (eq_real3 fun h i j => ((holds_at A t.val t.isLt).dwp h i j).trans (rows_all ht fun n => I.twp n h i j)))
theorem final25 (h : win0_25.WholeAt t) : (dats m 0 c).arrAt 25 cfg0.N = I.o10 :=
  (dats m 0 c).arrAt_eq_of_after_last 25 t h I.o10 (congrFun (eq_real2 fun k d => (by_lane (holds_at A t.val t.isLt).dps k d).trans (rows_all ht fun n => I.tps n (hd d.val) (ln d.val))))
end last

end Cert.MixIdeal.Own

end
-- ==== Proof.MixRefBwd.lean ====
/-
  The reference's cotangents, read at an index: from its output back to the mixed columns, through the spatial gate and its
  norm, through the pooled groups, and to the projected columns.
-/
module

public import proofs.«01_k».proof.Proof.MixRefPool

@[expose] public section

noncomputable section

namespace Cert.MixRef

open Cert.MixSpec.Inp (inBlock)
open Cert.MixReferenceIdeal Cert.MixReferenceIdeal.Gen Cert.MixReferenceIdeal.Read Cert.MixSpec
open Cert.Spec hiding Inp
open Idealize.ShloMosaic Idealize.ShloMosaic.TcCoe

variable {I : Inp} {x0 x1 : T S8192x1024} {x2 : T S1x6144} {x3 x4 : T S1x1024} {x5 : T S1024x1536}
  {x6 : T S4x128} {x7 : T S4x128x128} {x8 : T S4x128} {x9 : T S4x128x128} {x10 : T S1x512} {x11 : T S1024x1024}

/-- The gradient of `x·r` where `s` is the slope of `r = 1/√(mean x² + ε)` over `n` entries. -/
theorem norm_back (x d r s n S : ℝ) (hr : s = -(1 / 2) * r ^ 3) :
    d * r + x * (S * s / n) + S * s / n * x = r * (d - x * r * (S * r / n)) := by
  subst hr; ring

theorem c_three : Ideal.ofBits .f32 0x40400000#32 = ((3 : ℝ) : EReal) := by
  simp [Ideal.ofBits, Ideal.ieee, -EReal.coe_mul]; norm_num

theorem gelback (p g : ℝ) : g * gcdf p + gK * (1 / 2 * (p * g) * ((1 + gth p) * (1 - gth p)))
    + gC * (gK * (1 / 2 * (p * g) * ((1 + gth p) * (1 - gth p)))) * (3 * (p * p)) = g * gslope p := by
  unfold gslope; ring

/-! ### The window of a group, backwards -/

theorem past_eq (I : Inp) (g : Fin 4) (n : Fin 8192) (c : Fin 128) : I.spreadPast n.val g c = I.spread n g c := by
  unfold Inp.spreadPast
  rw [dif_pos n.isLt]

theorem step_at (I : Inp) (g : Fin 4) (w : ℕ) (n : Fin 8192) (c : Fin 128) :
    (if h : w + n.val < 8192 then -((I.spread ⟨w + n.val, h⟩ g c : ℝ) : EReal) else 0) + ((I.spread n g c : ℝ) : EReal)
      = ((I.spreadPast n.val g c - I.spreadPast (n.val + w) g c : ℝ) : EReal) := by
  rw [past_eq, Nat.add_comm n.val w]
  by_cases h : w + n.val < 8192
  · rw [dif_pos h, ← past_eq, ← EReal.coe_neg, ← EReal.coe_add]
    exact congrArg _ (by ring)
  · rw [dif_neg h, zero_add, Inp.spreadPast, dif_neg h, sub_zero]

theorem back_at (I : Inp) (g : Fin 4) (w : ℕ) (hw : width g = w) {x : T S8192x128} {init : T S_}
    (hx : ∀ (n : Fin 8192) c, x (ix2 n c) = ((I.spreadPast n.val g c - I.spreadPast (n.val + w) g c : ℝ) : EReal))
    (hinit : init ix0 = ((0 : ℝ) : EReal)) (h : S8192x128.ReduceWindows (![8192, 1] : Fin 2 → Nat) ![1, 1] ![0, 0] ![8191, 0] S8192x128)
    (hu : 0 < S_.numel) (n : Fin 8192) (c : Fin 128) :
    Host.reduceWindowAdd (F := Ideal) (φ := .f32) ![8192, 1] ![1, 1] ![0, 0] ![8191, 0] x init h hu (ix2 n c)
      = ((∑ k ∈ Finset.range (width g), I.spreadPast (n.val + k) g c : ℝ) : EReal) := by
  refine (runBack_at (R := 8192) (C := 128) (hi := 8191) x init
    (fun i j => if hj : j < 128 then I.spreadPast i g ⟨j, hj⟩ - I.spreadPast (i + w) g ⟨j, hj⟩ else 0)
    (fun i j => by rw [hx, dif_pos j.isLt]) hinit h hu n c).trans (congrArg _ ?_)
  rw [hw, ← window_back (fun i => I.spreadPast i g c) n.val (8192 - n.val) w (fun j hj => by
    have := n.isLt
    unfold Inp.spreadPast
    rw [dif_neg (by omega)])]
  exact Finset.sum_congr rfl fun k _ => by rw [dif_pos c.isLt]

section
variable (H : Reads I x0 x1 x2 x3 x4 x5 x6 x7 x8 x9 x10 x11)
include H

/-! ### From the output to the mixed columns -/

theorem dr_eq (n : Fin 8192) (d : Fin 1024) : val_main_v195 (F := Ideal) x1 x2 (ix2 n d) = ((I.dr n d : ℝ) : EReal) := by
  unfold val_main_v195 val_main_v193
  rw [shapeCast_self]
  pointwise [val_main_v194, gm_eq H, H.e, ← EReal.coe_mul]
  exact congrArg _ (mul_comm _ _)

theorem dmh_eq (n : Fin 8192) (d : Fin 1024) : val_main_v203 (F := Ideal) x1 x2 x4 (ix2 n d) = ((I.dmh n d : ℝ) : EReal) := by
  pointwise [val_main_v203, val_main_v202, dr_eq H, H.g2, ← EReal.coe_mul]
  rfl

theorem slope2_eq (n : Fin 8192) (z : Fin 1) : val_main_v185 (F := Ideal) x0 x2 x3 x5 x6 x7 x8 x9 x10 x11 (ix2 n z) = ((-(1 / 2) * I.r2 n ^ 3 : ℝ) : EReal) := by
  pointwise [val_main_v185, val_main_v184, val_main_cst_36, val_main_v183, r2_eq H, ms2_eq H, c_neg_half]
  rw [div_coe_coe _ _ (I.ms2_pos n).ne', ← EReal.coe_mul]
  exact congrArg (fun z : ℝ => ((-(1 / 2) * z : ℝ) : EReal)) (inv_sqrt_div _ (I.ms2_pos n))

theorem dot2_eq (n : Fin 8192) (z : Fin 1) : val_main_v206 (F := Ideal) x0 x1 x2 x3 x4 x5 x6 x7 x8 x9 x10 x11 (ix2 n z) = ((∑ d, I.M n d * I.dmh n d : ℝ) : EReal) := by
  pointwise [val_main_v206, val_main_v205, val_main_cst_39, val_main_v204, M_eq H, dmh_eq H, ← EReal.coe_mul, coe_sum]

theorem mean2_eq (n : Fin 8192) (d : Fin 1024) : val_main_v213 (F := Ideal) x0 x1 x2 x3 x4 x5 x6 x7 x8 x9 x10 x11 (ix2 n d)
    = (((∑ a, I.M n a * I.dmh n a) * (-(1 / 2) * I.r2 n ^ 3) / 1024 : ℝ) : EReal) := by
  pointwise [val_main_v213, val_main_v212, val_main_cst_41, val_main_v211, val_main_v210, val_main_cst_40, val_main_v209,
    slope2_eq H, dot2_eq H, c_1024, ← EReal.coe_mul, div_coe_coe _ (1024 : ℝ) (by norm_num), Finset.univ_unique, Finset.sum_singleton]

theorem dm_eq (n : Fin 8192) (d : Fin 1024) : val_main_v217 (F := Ideal) x0 x1 x2 x3 x4 x5 x6 x7 x8 x9 x10 x11 (ix2 n d) = ((I.dm n d : ℝ) : EReal) := by
  pointwise [val_main_v217, val_main_v216, val_main_v215, val_main_v214, val_main_v208, val_main_v207, M_eq H, mean2_eq H, dmh_eq H,
    r2_eq H, ← EReal.coe_mul, ← EReal.coe_add]
  refine congrArg _ ((norm_back _ _ _ _ _ _ rfl).trans ?_)
  unfold Inp.dm Inp.mh
  rw [Finset.sum_mul]
  simp only [mul_comm, mul_left_comm, mul_assoc]

theorem dcat_eq (n : Fin 8192) (k : Fin 1024) : val_main_v220 (F := Ideal) x0 x1 x2 x3 x4 x5 x6 x7 x8 x9 x10 x11 (ix2 n k) = ((I.dcat n k : ℝ) : EReal) := by
  pointwise [val_main_v220, dot_S8192x1024_S1024x1024_S8192x1024_1_1_0_0_n_n, dm_eq H, H.Wo, ← EReal.coe_mul, coe_sum]
  rfl

theorem da_eq (n : Fin 8192) (h : Fin 4) (c : Fin 128) : val_main_v221 (F := Ideal) x0 x1 x2 x3 x4 x5 x6 x7 x8 x9 x10 x11 (ix2 n (lane h c)) = ((I.dcat n (ka h c) : ℝ) : EReal) := by
  pointwise [val_main_v221]
  refine (dcat_eq H _ _).trans ?_
  exact congrArg (fun z => ((I.dcat n z : ℝ) : EReal)) (Fin.ext (by simp [lane, ka]))

theorem db_eq (n : Fin 8192) (g : Fin 4) (c : Fin 128) : val_main_v222 (F := Ideal) x0 x1 x2 x3 x4 x5 x6 x7 x8 x9 x10 x11 (ix2 n (lane g c)) = ((I.dcat n (kb g c) : ℝ) : EReal) := by
  pointwise [val_main_v222]
  exact dcat_eq H _ _

/-! ### Through the spatial gate -/

theorem dz_eq (n : Fin 8192) (h : Fin 4) (c : Fin 128) : val_main_v299 (F := Ideal) x0 x1 x2 x3 x4 x5 x6 x7 x8 x9 x10 x11 (ix2 n (lane h c)) = ((I.dz n h c : ℝ) : EReal) := by
  pointwise [val_main_v299, ug_eq H, da_eq H, ← EReal.coe_mul]
  exact congrArg _ (mul_comm _ _)

theorem dgz_eq (n : Fin 8192) (h : Fin 4) (c : Fin 128) : val_main_v300 (F := Ideal) x0 x1 x2 x3 x4 x5 x6 x7 x8 x9 x10 x11 (ix2 n (lane h c)) = ((I.dcat n (ka h c) * I.z n h c : ℝ) : EReal) := by
  pointwise [val_main_v300, zrow_eq H, da_eq H, ← EReal.coe_mul]

theorem dzb_eq (b : Fin 64) (i : Fin 128) (h : Fin 4) (c : Fin 128) : val_main_v301 (F := Ideal) x0 x1 x2 x3 x4 x5 x6 x7 x8 x9 x10 x11 (ix4 b i h c) = ((I.dz (inBlock b i) h c : ℝ) : EReal) := by
  pointwise [val_main_v301]
  exact dz_eq H (inBlock b i) h c

theorem dvn_eq (b : Fin 64) (i : Fin 128) (h : Fin 4) (c : Fin 128) : val_main_v309 (F := Ideal) x0 x1 x2 x3 x4 x5 x6 x7 x8 x9 x10 x11 (ix4 b i h c) = ((I.dvn (inBlock b i) h c : ℝ) : EReal) := by
  pointwise [val_main_v309, val_main_v308, val_main_v306, dot_S4x64x128x128_S4x128x128_S4x64x128x128_3_1_12_2_0_0, dzb_eq H, wm_eq H,
    ← EReal.coe_mul, coe_sum]
  unfold Inp.dvn
  simp only [pos_inBlock, mate_inBlock, mul_comm]

theorem dvh_eq (b : Fin 64) (i : Fin 128) (h : Fin 4) (c : Fin 128) : val_main_v315 (F := Ideal) x0 x1 x2 x3 x4 x5 x6 x7 x8 x9 x10 x11 (ix4 b i h c) = ((I.dvh (inBlock b i) h c : ℝ) : EReal) := by
  pointwise [val_main_v315, val_main_v314, val_main_v53, dvn_eq H, H.sgn, ← EReal.coe_mul]
  rfl

theorem slopev_eq (b : Fin 64) (i : Fin 128) (h : Fin 4) (z : Fin 1) : val_main_v64 (F := Ideal) x0 x2 x3 x5 (ix4 b i h z) = ((-(1 / 2) * I.rv (inBlock b i) h ^ 3 : ℝ) : EReal) := by
  pointwise [val_main_v64, val_main_v63, val_main_cst_14, val_main_v62, rv_eq H, msv_eq H, c_neg_half]
  rw [div_coe_coe _ _ (I.msv_pos _ _).ne', ← EReal.coe_mul]
  exact congrArg (fun z : ℝ => ((-(1 / 2) * z : ℝ) : EReal)) (inv_sqrt_div _ (I.msv_pos _ _))

theorem dotv_eq (b : Fin 64) (i : Fin 128) (h : Fin 4) (z : Fin 1) : val_main_v318 (F := Ideal) x0 x1 x2 x3 x4 x5 x6 x7 x8 x9 x10 x11 (ix4 b i h z)
    = ((∑ c, I.vg (inBlock b i) h c * I.dvh (inBlock b i) h c : ℝ) : EReal) := by
  pointwise [val_main_v318, val_main_v317, val_main_cst_59, val_main_v316, vg_eq H, dvh_eq H, ← EReal.coe_mul, coe_sum]

theorem meanv_eq (b : Fin 64) (i : Fin 128) (h : Fin 4) (c : Fin 128) : val_main_v325 (F := Ideal) x0 x1 x2 x3 x4 x5 x6 x7 x8 x9 x10 x11 (ix4 b i h c)
    = (((∑ a, I.vg (inBlock b i) h a * I.dvh (inBlock b i) h a) * (-(1 / 2) * I.rv (inBlock b i) h ^ 3) / 128 : ℝ) : EReal) := by
  pointwise [val_main_v325, val_main_v324, val_main_cst_61, val_main_v323, val_main_v322, val_main_cst_60, val_main_v321,
    slopev_eq H, dotv_eq H, c_128, ← EReal.coe_mul, div_coe_coe _ (128 : ℝ) (by norm_num), Finset.univ_unique, Finset.sum_singleton]

theorem dvgb_eq (b : Fin 64) (i : Fin 128) (h : Fin 4) (c : Fin 128) : val_main_v329 (F := Ideal) x0 x1 x2 x3 x4 x5 x6 x7 x8 x9 x10 x11 (ix4 b i h c) = ((I.dvg (inBlock b i) h c : ℝ) : EReal) := by
  pointwise [val_main_v329, val_main_v328, val_main_v327, val_main_v326, val_main_v320, val_main_v319, vg_eq H, meanv_eq H, dvh_eq H,
    rv_eq H, ← EReal.coe_mul, ← EReal.coe_add]
  refine congrArg _ ((norm_back _ _ _ _ _ _ rfl).trans ?_)
  unfold Inp.dvg Inp.vh
  rw [Finset.sum_mul]
  simp only [mul_comm, mul_left_comm, mul_assoc]

theorem dvg_eq (n : Fin 8192) (h : Fin 4) (c : Fin 128) : val_main_v331 (F := Ideal) x0 x1 x2 x3 x4 x5 x6 x7 x8 x9 x10 x11 (ix2 n (lane h c)) = ((I.dvg n h c : ℝ) : EReal) := by
  pointwise [val_main_v331]
  rw [dvgb_eq H, inBlock_eq, (head_eq h c (by have := (lane h c).isLt; omega) (by omega)).1,
    (head_eq h c (by have := (lane h c).isLt; omega) (by omega)).2]

/-! ### Through the gelu -/

/-- The cotangent of the gelu's value at a column. -/
def dgel (I : Inp) (n : Fin 8192) (k : ℕ) : ℝ :=
  if k < 512 then I.dcat n (ka (hd k) (ln k)) * I.z n (hd k) (ln k) else I.dvg n (hd k) (ln k)

theorem dgel_eq (n : Fin 8192) (k : Fin 1024) : val_main_v334 (F := Ideal) x0 x1 x2 x3 x4 x5 x6 x7 x8 x9 x10 x11 (ix2 n k) = ((dgel I n k.val : ℝ) : EReal) := by
  have hk := k.isLt
  pointwise [val_main_v334, val_main_v333, val_main_v332, val_main_cst_63, val_main_cst_64]
  unfold dgel
  by_cases h : k.val < 512
  · rw [dif_neg (by omega), dif_pos h, if_pos h, zero_add]
    exact (congrArg (fun j => val_main_v300 (F := Ideal) x0 x1 x2 x3 x4 x5 x6 x7 x8 x9 x10 x11 (ix2 n j)) (col_eq k.val 0 h (Nat.zero_le _) rfl)).trans (dgz_eq H n _ _)
  · rw [dif_pos ⟨by omega, by omega⟩, dif_neg h, if_neg h, add_zero]
    exact (congrArg (fun j => val_main_v331 (F := Ideal) x0 x1 x2 x3 x4 x5 x6 x7 x8 x9 x10 x11 (ix2 n j)) (col_eq k.val 512 (by omega) (by omega) rfl)).trans (dvg_eq H n _ _)

theorem dfront_eq (n : Fin 8192) (k : Fin 1024) : val_main_v346 (F := Ideal) x0 x1 x2 x3 x4 x5 x6 x7 x8 x9 x10 x11 (ix2 n k)
    = ((dgel I n k.val * gslope (I.P n (⟨k.val, by omega⟩ : Fin 1536)) : ℝ) : EReal) := by
  pointwise [val_main_v346, val_main_v345, val_main_v344, val_main_v343, val_main_cst_67, val_main_v342, val_main_v341, val_main_v340, val_main_cst_66,
    val_main_v339, val_main_v338, val_main_v337, val_main_cst_65, val_main_v336, val_main_v335, val_main_v33, val_main_v32, val_main_cst_4, val_main_v31,
    val_main_v44, val_main_v43, val_main_v42, val_main_v41, val_main_v40, val_main_cst_7, val_main_cst_8,
    dgel_eq H, front_eq H, th_eq H, cdf_eq H, c_half, c_one, c_gC, c_gK, ← EReal.coe_mul, ← EReal.coe_add, ← EReal.coe_sub, c_three]
  exact congrArg _ (gelback _ _)

/-! ### Through the pooled groups -/

theorem y3_eq (n : Fin 8192) (g : Fin 4) (d : Fin 128) : val_main_v229 (F := Ideal) x0 x1 x2 x3 x4 x5 x6 x7 x8 x9 x10 x11 (ix3 g d n) = ((I.dy n g d : ℝ) : EReal) := by
  pointwise [val_main_v229, val_main_v228, val_main_v227, val_main_v226]
  refine (congr (congrArg HMul.hMul (db_eq H n g d)) (H.ps (lane g d))).trans ?_
  rw [← EReal.coe_mul]
  rfl

theorem dpooled_eq (n : Fin 8192) (g : Fin 4) (c : Fin 128) : val_main_v231 (F := Ideal) x0 x1 x2 x3 x4 x5 x6 x7 x8 x9 x10 x11 (ix3 n g c) = ((I.dpooled n g c : ℝ) : EReal) := by
  pointwise [val_main_v231, val_main_v230, dot_S4x128x8192_S4x128x128_S4x8192x128_1_2_2_1_0_0, y3_eq H, H.wp, ← EReal.coe_mul, coe_sum]
  rfl

theorem dq3_eq (n : Fin 8192) (c : Fin 128) : val_main_v241 (F := Ideal) x0 x1 x2 x3 x4 x5 x6 x7 x8 x9 x10 x11 (ix2 n c) = ((I.dpooled n 3 c : ℝ) : EReal) := by
  pointwise [val_main_v241, val_main_v240, dpooled_eq H]
theorem spread3_eq (n : Fin 8192) (c : Fin 128) : val_main_v244 (F := Ideal) x0 x1 x2 x3 x4 x5 x6 x7 x8 x9 x10 x11 (ix2 n c) = ((I.spread n 3 c : ℝ) : EReal) := by
  pointwise [val_main_v244, val_main_v243, dq3_eq H, count3_eq]
  rw [div_coe_coe _ _ (Inp.cnt_pos n 3).ne', ← mul_one_div]
  rfl
theorem step3_eq (n : Fin 8192) (c : Fin 128) : val_main_v250 (F := Ideal) x0 x1 x2 x3 x4 x5 x6 x7 x8 x9 x10 x11 (ix2 n c)
    = ((I.spreadPast n.val 3 c - I.spreadPast (n.val + 16) 3 c : ℝ) : EReal) := by
  have hn := n.isLt
  pointwise [val_main_v250, val_main_v248, val_main_v247, val_main_v246, val_main_v245, val_main_cst_43, val_main_cst_44, spread3_eq H]
  exact step_at I 3 16 n c
theorem dp3_eq (n : Fin 8192) (c : Fin 128) : val_main_v252 (F := Ideal) x0 x1 x2 x3 x4 x5 x6 x7 x8 x9 x10 x11 (ix2 n c) = ((I.dp n 3 c : ℝ) : EReal) := by
  have e : val_main_v251 (F := Ideal) x0 x1 x2 x3 x4 x5 x6 x7 x8 x9 x10 x11 (ix2 n c) = _ :=
    back_at I 3 16 rfl (step3_eq H) (by pointwise [val_main_call7_call0_v0, val_main_call7_call0_cst, c_zero]) _ _ n c
  pointwise [val_main_v252, val_main_v242, dq3_eq H, e, ← EReal.coe_neg, ← EReal.coe_add]
  exact congrArg _ (neg_add_eq_sub _ _)

theorem dq2_eq (n : Fin 8192) (c : Fin 128) : val_main_v239 (F := Ideal) x0 x1 x2 x3 x4 x5 x6 x7 x8 x9 x10 x11 (ix2 n c) = ((I.dpooled n 2 c : ℝ) : EReal) := by
  pointwise [val_main_v239, val_main_v238, dpooled_eq H]
theorem spread2_eq (n : Fin 8192) (c : Fin 128) : val_main_v257 (F := Ideal) x0 x1 x2 x3 x4 x5 x6 x7 x8 x9 x10 x11 (ix2 n c) = ((I.spread n 2 c : ℝ) : EReal) := by
  pointwise [val_main_v257, val_main_v256, dq2_eq H, count2_eq]
  rw [div_coe_coe _ _ (Inp.cnt_pos n 2).ne', ← mul_one_div]
  rfl
theorem step2_eq (n : Fin 8192) (c : Fin 128) : val_main_v263 (F := Ideal) x0 x1 x2 x3 x4 x5 x6 x7 x8 x9 x10 x11 (ix2 n c)
    = ((I.spreadPast n.val 2 c - I.spreadPast (n.val + 8) 2 c : ℝ) : EReal) := by
  have hn := n.isLt
  pointwise [val_main_v263, val_main_v261, val_main_v260, val_main_v259, val_main_v258, val_main_cst_46, val_main_cst_47, spread2_eq H]
  exact step_at I 2 8 n c
theorem dp2_eq (n : Fin 8192) (c : Fin 128) : val_main_v265 (F := Ideal) x0 x1 x2 x3 x4 x5 x6 x7 x8 x9 x10 x11 (ix2 n c) = ((I.dp n 2 c : ℝ) : EReal) := by
  have e : val_main_v264 (F := Ideal) x0 x1 x2 x3 x4 x5 x6 x7 x8 x9 x10 x11 (ix2 n c) = _ :=
    back_at I 2 8 rfl (step2_eq H) (by pointwise [val_main_call8_call0_v0, val_main_call8_call0_cst, c_zero]) _ _ n c
  pointwise [val_main_v265, val_main_v255, dq2_eq H, e, ← EReal.coe_neg, ← EReal.coe_add]
  exact congrArg _ (neg_add_eq_sub _ _)

theorem dq1_eq (n : Fin 8192) (c : Fin 128) : val_main_v237 (F := Ideal) x0 x1 x2 x3 x4 x5 x6 x7 x8 x9 x10 x11 (ix2 n c) = ((I.dpooled n 1 c : ℝ) : EReal) := by
  pointwise [val_main_v237, val_main_v236, dpooled_eq H]
theorem spread1_eq (n : Fin 8192) (c : Fin 128) : val_main_v271 (F := Ideal) x0 x1 x2 x3 x4 x5 x6 x7 x8 x9 x10 x11 (ix2 n c) = ((I.spread n 1 c : ℝ) : EReal) := by
  pointwise [val_main_v271, val_main_v270, dq1_eq H, count1_eq]
  rw [div_coe_coe _ _ (Inp.cnt_pos n 1).ne', ← mul_one_div]
  rfl
theorem step1_eq (n : Fin 8192) (c : Fin 128) : val_main_v277 (F := Ideal) x0 x1 x2 x3 x4 x5 x6 x7 x8 x9 x10 x11 (ix2 n c)
    = ((I.spreadPast n.val 1 c - I.spreadPast (n.val + 4) 1 c : ℝ) : EReal) := by
  have hn := n.isLt
  pointwise [val_main_v277, val_main_v275, val_main_v274, val_main_v273, val_main_v272, val_main_cst_49, val_main_cst_50, spread1_eq H]
  exact step_at I 1 4 n c
theorem dp1_eq (n : Fin 8192) (c : Fin 128) : val_main_v279 (F := Ideal) x0 x1 x2 x3 x4 x5 x6 x7 x8 x9 x10 x11 (ix2 n c) = ((I.dp n 1 c : ℝ) : EReal) := by
  have e : val_main_v278 (F := Ideal) x0 x1 x2 x3 x4 x5 x6 x7 x8 x9 x10 x11 (ix2 n c) = _ :=
    back_at I 1 4 rfl (step1_eq H) (by pointwise [val_main_call9_call0_v0, val_main_call9_call0_cst, c_zero]) _ _ n c
  pointwise [val_main_v279, val_main_v269, dq1_eq H, e, ← EReal.coe_neg, ← EReal.coe_add]
  exact congrArg _ (neg_add_eq_sub _ _)

theorem dq0_eq (n : Fin 8192) (c : Fin 128) : val_main_v235 (F := Ideal) x0 x1 x2 x3 x4 x5 x6 x7 x8 x9 x10 x11 (ix2 n c) = ((I.dpooled n 0 c : ℝ) : EReal) := by
  pointwise [val_main_v235, val_main_v234, dpooled_eq H]
theorem spread0_eq (n : Fin 8192) (c : Fin 128) : val_main_v285 (F := Ideal) x0 x1 x2 x3 x4 x5 x6 x7 x8 x9 x10 x11 (ix2 n c) = ((I.spread n 0 c : ℝ) : EReal) := by
  pointwise [val_main_v285, val_main_v284, dq0_eq H, count0_eq]
  rw [div_coe_coe _ _ (Inp.cnt_pos n 0).ne', ← mul_one_div]
  rfl
theorem step0_eq (n : Fin 8192) (c : Fin 128) : val_main_v291 (F := Ideal) x0 x1 x2 x3 x4 x5 x6 x7 x8 x9 x10 x11 (ix2 n c)
    = ((I.spreadPast n.val 0 c - I.spreadPast (n.val + 2) 0 c : ℝ) : EReal) := by
  have hn := n.isLt
  pointwise [val_main_v291, val_main_v289, val_main_v288, val_main_v287, val_main_v286, val_main_cst_52, val_main_cst_53, spread0_eq H]
  exact step_at I 0 2 n c
theorem dp0_eq (n : Fin 8192) (c : Fin 128) : val_main_v293 (F := Ideal) x0 x1 x2 x3 x4 x5 x6 x7 x8 x9 x10 x11 (ix2 n c) = ((I.dp n 0 c : ℝ) : EReal) := by
  have e : val_main_v292 (F := Ideal) x0 x1 x2 x3 x4 x5 x6 x7 x8 x9 x10 x11 (ix2 n c) = _ :=
    back_at I 0 2 rfl (step0_eq H) (by pointwise [val_main_call10_call0_v0, val_main_call10_call0_cst, c_zero]) _ _ n c
  pointwise [val_main_v293, val_main_v283, dq0_eq H, e, ← EReal.coe_neg, ← EReal.coe_add]
  exact congrArg _ (neg_add_eq_sub _ _)

theorem dp_eq (n : Fin 8192) (g : Fin 4) (c : Fin 128) : val_main_v296 (F := Ideal) x0 x1 x2 x3 x4 x5 x6 x7 x8 x9 x10 x11 (ix3 n g c) = ((I.dp n g c : ℝ) : EReal) := by
  match g with
  | 0 => pointwise [val_main_v296, val_main_v295, val_main_v294, val_main_cst_54, val_main_v282, val_main_v281, val_main_cst_51, val_main_v268,
      val_main_v267, val_main_cst_48, val_main_v254, val_main_cst_45, dp0_eq H]
  | 1 => pointwise [val_main_v296, val_main_v295, val_main_cst_54, val_main_v282, val_main_v281, val_main_v280, val_main_cst_51, val_main_v268,
      val_main_v267, val_main_cst_48, val_main_v254, val_main_cst_45, dp1_eq H]
  | 2 => pointwise [val_main_v296, val_main_v295, val_main_cst_54, val_main_v282, val_main_v281, val_main_cst_51, val_main_v268,
      val_main_v267, val_main_v266, val_main_cst_48, val_main_v254, val_main_cst_45, dp2_eq H]
  | 3 => pointwise [val_main_v296, val_main_v295, val_main_cst_54, val_main_v282, val_main_v281, val_main_cst_51, val_main_v268,
      val_main_v267, val_main_cst_48, val_main_v254, val_main_v253, val_main_cst_45, dp3_eq H]

/-! ### The projected columns, and the rows before them -/

theorem dproj_eq (n : Fin 8192) (k : Fin 1536) : val_main_v348 (F := Ideal) x0 x1 x2 x3 x4 x5 x6 x7 x8 x9 x10 x11 (ix2 n k) = ((I.dproj n k : ℝ) : EReal) := by
  have hk := k.isLt
  have e : ∀ g c, val_main_v297 (F := Ideal) x0 x1 x2 x3 x4 x5 x6 x7 x8 x9 x10 x11 (ix2 n (lane g c)) = ((I.dp n g c : ℝ) : EReal) := fun g c => by
    pointwise [val_main_v297]
    rw [(head_eq g c (by have := (lane g c).isLt; omega) (by omega)).1, (head_eq g c (by have := (lane g c).isLt; omega) (by omega)).2]
    exact dp_eq H n g c
  pointwise [val_main_v348, val_main_v347, val_main_v298, val_main_cst_55, val_main_cst_68]
  unfold Inp.dproj
  by_cases h : k.val < 1024
  · rw [dif_neg (by omega), dif_pos h, zero_add]
    refine (dfront_eq H n ⟨k.val, h⟩).trans (congrArg _ ?_)
    unfold dgel
    by_cases h5 : k.val < 512
    · rw [if_pos h5, if_pos h5, Inp.du]
      exact congrArg (fun j => I.dcat n (ka (hd k.val) (ln k.val)) * I.z n (hd k.val) (ln k.val) * gslope (I.P n j))
        (Fin.ext (by simp only [cu, hd, ln]; omega))
    · rw [if_neg h5, if_neg h5, if_pos h, Inp.dv]
      exact congrArg (fun j => I.dvg n (hd k.val) (ln k.val) * gslope (I.P n j)) (Fin.ext (by simp only [cv, hd, ln]; omega))
  · rw [dif_pos ⟨by omega, by omega⟩, dif_neg h, if_neg (by omega), if_neg h, add_zero]
    exact (congrArg (fun j => val_main_v297 (F := Ideal) x0 x1 x2 x3 x4 x5 x6 x7 x8 x9 x10 x11 (ix2 n j)) (col_eq k.val 1024 (by omega) (by omega) rfl)).trans (e _ _)

theorem dh_eq (n : Fin 8192) (d : Fin 1024) : val_main_v351 (F := Ideal) x0 x1 x2 x3 x4 x5 x6 x7 x8 x9 x10 x11 (ix2 n d) = ((I.dh n d : ℝ) : EReal) := by
  pointwise [val_main_v351, dot_S8192x1536_S1024x1536_S8192x1024_1_1_0_0_n_n, dproj_eq H, H.W, ← EReal.coe_mul, coe_sum]
  rfl

theorem dn1_eq (n : Fin 8192) (d : Fin 1024) : val_main_v358 (F := Ideal) x0 x1 x2 x3 x4 x5 x6 x7 x8 x9 x10 x11 (ix2 n d) = ((I.dn1 n d : ℝ) : EReal) := by
  pointwise [val_main_v358, val_main_v357, gain_eq H, dh_eq H, ← EReal.coe_mul]
  rfl

theorem dxh_eq (n : Fin 8192) (d : Fin 1024) : val_main_v363 (F := Ideal) x0 x1 x2 x3 x4 x5 x6 x7 x8 x9 x10 x11 (ix2 n d) = ((I.dxh n d : ℝ) : EReal) := by
  pointwise [val_main_v363, val_main_v362, H.g1, dn1_eq H, ← EReal.coe_mul]
  rfl

theorem slope1_eq (n : Fin 8192) (z : Fin 1) : val_main_v16 (F := Ideal) x0 (ix2 n z) = ((-(1 / 2) * I.r1 n ^ 3 : ℝ) : EReal) := by
  pointwise [val_main_v16, val_main_v15, val_main_cst_2, val_main_v14, r1_eq H, ms1_eq H, c_neg_half]
  rw [div_coe_coe _ _ (I.ms1_pos n).ne', ← EReal.coe_mul]
  exact congrArg (fun z : ℝ => ((-(1 / 2) * z : ℝ) : EReal)) (inv_sqrt_div _ (I.ms1_pos n))

theorem dot1_eq (n : Fin 8192) (z : Fin 1) : val_main_v366 (F := Ideal) x0 x1 x2 x3 x4 x5 x6 x7 x8 x9 x10 x11 (ix2 n z) = ((∑ d, I.x n d * I.dxh n d : ℝ) : EReal) := by
  pointwise [val_main_v366, val_main_v365, val_main_cst_72, val_main_v364, H.x, dxh_eq H, ← EReal.coe_mul, coe_sum]

theorem mean1_eq (n : Fin 8192) (d : Fin 1024) : val_main_v374 (F := Ideal) x0 x1 x2 x3 x4 x5 x6 x7 x8 x9 x10 x11 (ix2 n d)
    = (((∑ a, I.x n a * I.dxh n a) * (-(1 / 2) * I.r1 n ^ 3) / 1024 : ℝ) : EReal) := by
  pointwise [val_main_v374, val_main_v373, val_main_cst_74, val_main_v372, val_main_v371, val_main_cst_73, val_main_v370,
    slope1_eq H, dot1_eq H, c_1024, ← EReal.coe_mul, div_coe_coe _ (1024 : ℝ) (by norm_num), Finset.univ_unique, Finset.sum_singleton]

theorem gx_eq (n : Fin 8192) (d : Fin 1024) : val_main_v378 (F := Ideal) x0 x1 x2 x3 x4 x5 x6 x7 x8 x9 x10 x11 (ix2 n d) = ((I.gx n d : ℝ) : EReal) := by
  pointwise [val_main_v378, val_main_v377, val_main_v376, val_main_v375, val_main_v369, val_main_v368, val_main_v367, H.x, H.e, mean1_eq H, dxh_eq H,
    r1_eq H, ← EReal.coe_mul, ← EReal.coe_add]
  refine congrArg _ ?_
  rw [add_assoc, add_assoc, ← add_assoc (I.dxh n d * I.r1 n), norm_back _ _ _ _ _ _ rfl]
  unfold Inp.gx MixSpec.Inp.xh
  rw [Finset.sum_mul]
  simp only [mul_comm, mul_left_comm, mul_assoc]

end

end Cert.MixRef

end
-- ==== Proof.MixRefOut.lean ====
/-
  The reference's eleven results, read at an index: the input's cotangent, and sums over the tokens or the blocks.
-/
module

public import proofs.«01_k».proof.Proof.MixRefBwd

@[expose] public section

noncomputable section

namespace Cert.MixRef

open Cert.MixSpec.Inp (inBlock)
open Cert.MixReferenceIdeal Cert.MixReferenceIdeal.Gen Cert.MixReferenceIdeal.Read Cert.MixSpec
open Cert.Spec hiding Inp
open Idealize.ShloMosaic Idealize.ShloMosaic.TcCoe

/-- A sum over the blocks and their rows is a sum over the rows. -/
theorem sum_blocks (f : Fin 8192 → ℝ) : ∑ b : Fin 64, ∑ i : Fin 128, f (inBlock b i) = ∑ n, f n := by
  rw [← Fintype.sum_prod_type' (f := fun b i => f (inBlock b i))]
  refine Fintype.sum_equiv (finProdFinEquiv (m := 64) (n := 128)) _ _ fun p => congrArg f (Fin.ext ?_)
  show p.1.val * 128 + p.2.val = p.2.val + 128 * p.1.val
  omega

/-! ### Sums over two axes of four -/

section
variable {n0 n1 n2 n3 : ℕ} {v : (⟨4, ![n0, n1, n2, n3]⟩ : Shape).Idx → EReal} {init : EReal}

theorem over_outer (h : (⟨4, ![n0, n1, n2, n3]⟩ : Shape).ReducesTo [0, 3] ⟨2, ![n1, n2]⟩) (a : Fin n1) (b : Fin n2) :
    Ideal.hostReduceAdd h v init (ix2 a b) = init + ∑ k : Fin n0, ∑ l : Fin n3, v (ix4 k a b l) := by
  refine congrArg (init + ·) ((Finset.sum_filter_eq_sum_of_fiber _ (fun p : Fin n0 × Fin n3 => ix4 p.1 a b p.2)
    (fun p q e => Prod.ext (congrFun e 0) (congrFun e 3)) (fun i => ⟨fun e => ⟨(i 0, i 3), ?_⟩, ?_⟩) v).trans (Fintype.sum_prod_type _))
  · funext d; apply Fin.ext
    match d with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨p, rfl⟩
    funext d; apply Fin.ext
    match d with
    | ⟨0, _⟩ => rfl
    | ⟨1, _⟩ => rfl

theorem over_first (h : (⟨4, ![n0, n1, n2, n3]⟩ : Shape).ReducesTo [0, 1] ⟨2, ![n2, n3]⟩) (a : Fin n2) (b : Fin n3) :
    Ideal.hostReduceAdd h v init (ix2 a b) = init + ∑ k : Fin n0, ∑ l : Fin n1, v (ix4 k l a b) := by
  refine congrArg (init + ·) ((Finset.sum_filter_eq_sum_of_fiber _ (fun p : Fin n0 × Fin n1 => ix4 p.1 p.2 a b)
    (fun p q e => Prod.ext (congrFun e 0) (congrFun e 1)) (fun i => ⟨fun e => ⟨(i 0, i 1), ?_⟩, ?_⟩) v).trans (Fintype.sum_prod_type _))
  · funext d; apply Fin.ext
    match d with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨p, rfl⟩
    funext d; apply Fin.ext
    match d with
    | ⟨0, _⟩ => rfl
    | ⟨1, _⟩ => rfl

end

abbrev three (f : Fin 3 → S1x1024.Idx → EReal) : List ((s : Shape) × (s.Idx → EReal)) := [⟨S1x1024, f 0⟩, ⟨S1x1024, f 1⟩, ⟨S1x1024, f 2⟩]

theorem rows_at (f : Fin 3 → S1x1024.Idx → EReal) (h : Shape.Concatenates [S1x1024, S1x1024, S1x1024] S3x1024 0) (a : Fin 3) (d : Fin 1024) :
    concatenate S3x1024 0 (three f) h (ix2 a d) = f a (ix2 0 d) := by
  have hi : ∀ b : Fin S1x1024.rank, b.cast rfl ≠ (0 : Fin S3x1024.rank)
      → ((ix2 0 d : S1x1024.Idx) b).val = ((ix2 a d : S3x1024.Idx) (b.cast rfl)).val := fun b hb => by
    match b with
    | ⟨0, _⟩ => exact absurd rfl hb
    | ⟨1, _⟩ => rfl
  match a with
  | 0 => exact concatenate_apply_piece (t := S3x1024) 0 (three f) h _ 0 (Nat.succ_pos _) S1x1024 (f 0) rfl rfl 0 rfl (ix2 0 d) hi rfl
  | 1 => exact concatenate_apply_piece (t := S3x1024) 0 (three f) h _ 1 (show 1 < 3 by decide) S1x1024 (f 1) rfl rfl 1 rfl (ix2 0 d) hi rfl
  | 2 => exact concatenate_apply_piece (t := S3x1024) 0 (three f) h _ 2 (show 2 < 3 by decide) S1x1024 (f 2) rfl rfl 2 rfl (ix2 0 d) hi rfl

variable {I : Inp} {x0 x1 : T S8192x1024} {x2 : T S1x6144} {x3 x4 : T S1x1024} {x5 : T S1024x1536}
  {x6 : T S4x128} {x7 : T S4x128x128} {x8 : T S4x128} {x9 : T S4x128x128} {x10 : T S1x512} {x11 : T S1024x1024}
variable (H : Reads I x0 x1 x2 x3 x4 x5 x6 x7 x8 x9 x10 x11)
include H

theorem twin_eq (k : Fin 1536) (d : Fin 1024) : val_main_v379 (F := Ideal) x0 x1 x2 x3 x4 x5 x6 x7 x8 x9 x10 x11 (ix2 k d) = ((∑ n, I.twin k n d : ℝ) : EReal) := by
  pointwise [val_main_v379, val_main_v350, val_main_v349, dot_S8192x1536_S8192x1024_S1536x1024_0_0_1_1_n_n, dproj_eq H, h_eq H, ← EReal.coe_mul, coe_sum]
  rfl

theorem twout_eq (k d : Fin 1024) : val_main_v219 (F := Ideal) x0 x1 x2 x3 x4 x5 x6 x7 x8 x9 x10 x11 (ix2 k d) = ((∑ n, I.twout k n d : ℝ) : EReal) := by
  pointwise [val_main_v219, val_main_v218, dot_S8192x1024_S8192x1024_S1024x1024_0_0_1_1_n_n, dm_eq H, cat_eq H, ← EReal.coe_mul, coe_sum]
  exact congrArg _ (Finset.sum_congr rfl fun n _ => mul_comm _ _)

theorem tg1_eq (z : Fin 1) (d : Fin 1024) : val_main_v361 (F := Ideal) x0 x1 x2 x3 x4 x5 x6 x7 x8 x9 x10 x11 (ix2 z d) = ((∑ n, I.tg1 n d : ℝ) : EReal) := by
  pointwise [val_main_v361, val_main_v360, val_main_cst_71, val_main_v359, xh_eq H, dn1_eq H, ← EReal.coe_mul, coe_sum]
  exact congrArg _ (Finset.sum_congr rfl fun n _ => mul_comm _ _)

theorem tg2_eq (z : Fin 1) (d : Fin 1024) : val_main_v201 (F := Ideal) x0 x1 x2 x3 x5 x6 x7 x8 x9 x10 x11 (ix2 z d) = ((∑ n, I.tg2 n d : ℝ) : EReal) := by
  pointwise [val_main_v201, val_main_v200, val_main_cst_38, val_main_v199, mh_eq H, dr_eq H, ← EReal.coe_mul, coe_sum]
  exact congrArg _ (Finset.sum_congr rfl fun n _ => mul_comm _ _)

theorem tmod_eq (a : Fin 3) (d : Fin 1024) : val_main_v380 (F := Ideal) x0 x1 x2 x3 x4 x5 x6 x7 x8 x9 x10 x11 (ix2 a d) = ((∑ n, I.tmod a n d : ℝ) : EReal) := by
  unfold val_main_v380
  refine (rows_at ![val_main_v353 (F := Ideal) x0 x1 x2 x3 x4 x5 x6 x7 x8 x9 x10 x11, val_main_v356 (F := Ideal) x0 x1 x2 x3 x4 x5 x6 x7 x8 x9 x10 x11, val_main_v198 (F := Ideal) x0 x1 x2 x3 x4 x5 x6 x7 x8 x9 x10 x11] _ a d).trans ?_
  match a with
  | 0 =>
    show val_main_v353 (F := Ideal) x0 x1 x2 x3 x4 x5 x6 x7 x8 x9 x10 x11 (ix2 0 d) = _
    pointwise [val_main_v353, val_main_v352, val_main_cst_69, dh_eq H, coe_sum]
    exact congrArg _ (Finset.sum_congr rfl fun n _ => by simp [MixSpec.Inp.tmod])
  | 1 =>
    show val_main_v356 (F := Ideal) x0 x1 x2 x3 x4 x5 x6 x7 x8 x9 x10 x11 (ix2 0 d) = _
    pointwise [val_main_v356, val_main_v355, val_main_cst_70, val_main_v354, n1_eq H, dh_eq H, ← EReal.coe_mul, coe_sum]
    exact congrArg _ (Finset.sum_congr rfl fun n _ => by simp [MixSpec.Inp.tmod, mul_comm])
  | 2 =>
    show val_main_v198 (F := Ideal) x0 x1 x2 x3 x4 x5 x6 x7 x8 x9 x10 x11 (ix2 0 d) = _
    have e : ∀ n, val_main_v193 (F := Ideal) x1 (ix2 n d) = ((I.e n d : ℝ) : EReal) := fun n => by
      unfold val_main_v193
      rw [shapeCast_self]
      exact H.e n d
    pointwise [val_main_v198, val_main_v197, val_main_cst_37, val_main_v196, val_main_v189, val_main_v188, e, mh_eq H, H.g2, ← EReal.coe_mul, coe_sum]
    exact congrArg _ (Finset.sum_congr rfl fun n _ => by simp [MixSpec.Inp.tmod])

theorem tps_eq (z : Fin 1) (g : Fin 4) (d : Fin 128) : val_main_v225 (F := Ideal) x0 x1 x2 x3 x4 x5 x6 x7 x8 x9 x10 x11 (ix2 z (lane g d)) = ((∑ n, I.tps n g d : ℝ) : EReal) := by
  pointwise [val_main_v225, val_main_v224, val_main_cst_42, val_main_v223, y_eq H, db_eq H, ← EReal.coe_mul, coe_sum]
  exact congrArg _ (Finset.sum_congr rfl fun n _ => mul_comm _ _)

theorem twp_eq (g : Fin 4) (c d : Fin 128) : val_main_v233 (F := Ideal) x0 x1 x2 x3 x4 x5 x6 x7 x8 x9 x10 x11 (ix3 g c d) = ((∑ n, I.twp n g c d : ℝ) : EReal) := by
  pointwise [val_main_v233, val_main_v232, dot_S4x128x8192_S8192x4x128_S4x128x128_2_0_1_2_0_1, y3_eq H, pooled_eq H, ← EReal.coe_mul, coe_sum]
  exact congrArg _ (Finset.sum_congr rfl fun n _ => mul_comm _ _)

theorem tsgn_eq (h : Fin 4) (c : Fin 128) : val_main_v330 (F := Ideal) x0 x1 x2 x3 x4 x5 x6 x7 x8 x9 x10 x11 (ix2 h c) = ((∑ n, I.tsgn n h c : ℝ) : EReal) := by
  pointwise [val_main_v330, val_main_v313, val_main_v312, val_main_cst_58, val_main_cst_62, val_main_v311, over_first, vh_eq H, dvn_eq H, ← EReal.coe_mul, coe_sum,
    Finset.univ_unique, Finset.sum_singleton]
  refine congrArg _ (Eq.trans ?_ (sum_blocks fun n => I.tsgn n h c))
  exact Finset.sum_congr rfl fun b _ => Finset.sum_congr rfl fun i _ => mul_comm _ _

theorem tws_eq (h : Fin 4) (i j : Fin 128) : val_main_v310 (F := Ideal) x0 x1 x2 x3 x4 x5 x6 x7 x8 x9 x10 x11 (ix3 h i j) = ((∑ b, I.tws b h i j : ℝ) : EReal) := by
  pointwise [val_main_v310, mask_eq, val_main_call11_v0, val_main_call11_cst, val_main_v307, val_main_v306, dot_S4x64x128x128_S64x128x4x128_S4x128x128_12_03_3_1_0_2,
    dzb_eq H, vn_eq H, ← EReal.coe_mul, coe_sum]
  unfold MixSpec.Inp.tws
  by_cases hs : seen i j
  · simp only [if_pos hs]; rfl
  · simp only [if_neg hs, Finset.sum_const_zero]; rfl

theorem tbs_eq (i : Fin 128) (h : Fin 4) : val_main_v381 (F := Ideal) x0 x1 x2 x3 x4 x5 x6 x7 x8 x9 x10 x11 (ix2 i h) = ((∑ b, I.tbs b h i : ℝ) : EReal) := by
  pointwise [val_main_v381, val_main_v305, val_main_v304, val_main_cst_57, val_main_v303, val_main_v302, val_main_cst_56, over_outer, dzb_eq H, coe_sum, Finset.univ_unique,
    Finset.sum_singleton]
  rfl

end Cert.MixRef

end
-- ==== Proof.MixResults.lean ====
/-
  The mixing half's eleven results on both sides: what the kernel's run and the reference's run leave are the arrays `o0` … `o10`.
-/
module

public import proofs.«01_k».proof.Proof.MixArrays
public import proofs.«01_k».proof.Proof.MixRefOut
public import proofs.«01_k».proof.Proof.Gen.MixReferenceIdeal.Run

@[expose] public section

set_option maxRecDepth 16384

noncomputable section

namespace Cert.MixIdeal.Own

open Cert.MixIdeal Cert.MixIdeal.Gen Cert.MixSpec
open Idealize.ShloMosaic Idealize.ShloMosaic.TcCoe Idealize.SL.Sem

/-- The last point. -/
def tEnd : Fin cfg0.N := ⟨15, lt_of_lt_of_eq (b := 16) (by omega) (show grid0.N = 16 from N_0).symm⟩
theorem exists_last : ∃ t : Fin cfg0.N, t.val = 15 ∧ win0_16.WholeAt t ∧ win0_17.WholeAt t ∧ win0_18.WholeAt t ∧ win0_19.WholeAt t
    ∧ win0_20.WholeAt t ∧ win0_21.WholeAt t ∧ win0_22.WholeAt t ∧ win0_23.WholeAt t ∧ win0_24.WholeAt t ∧ win0_25.WholeAt t := by
  refine ⟨tEnd, rfl, ?_⟩
  decide +kernel

section
variable {m : (ℓ : Loc nD τ sig) → Buf (Elt Ideal) ℓ} {r : PUnit × MemSt nD τ sig (Elt Ideal)}
  (h : Pipeline.FramePost cfgs (dats m) 0 (V m) r) {c : Dev nD} {I : Inp}
variable (A : Cert.MixRef.Reads I (V m c main_arg0) (V m c main_arg1) (V m c main_arg2) (V m c main_arg3) (V m c main_arg4) (V m c main_arg5)
  (V m c main_arg6) (V m c main_arg7) (V m c main_arg8) (V m c main_arg9) (V m c main_arg10) (V m c main_arg11))
include h A

theorem end0 : r.2.mem ((c.tc : Thread nD τ).loc main_v162_0) = I.o0 :=
  Eq.trans (b := (dats m 0 c).arrAt 15 cfg0.N) ((h c).1 15) (final15 A)

variable (t : Fin cfg0.N) (ht : t.val = 15)
include ht
theorem end1 (hw : win0_16.WholeAt t) : r.2.mem ((c.tc : Thread nD τ).loc main_v162_1) = I.o1 :=
  Eq.trans (b := (dats m 0 c).arrAt 16 cfg0.N) ((h c).1 16) (final16 A t ht hw)
theorem end2 (hw : win0_17.WholeAt t) : r.2.mem ((c.tc : Thread nD τ).loc main_v162_2) = I.o2 :=
  Eq.trans (b := (dats m 0 c).arrAt 17 cfg0.N) ((h c).1 17) (final17 A t ht hw)
theorem end3 (hw : win0_18.WholeAt t) : r.2.mem ((c.tc : Thread nD τ).loc main_v162_3) = I.o3 :=
  Eq.trans (b := (dats m 0 c).arrAt 18 cfg0.N) ((h c).1 18) (final18 A t ht hw)
theorem end4 (hw : win0_19.WholeAt t) : r.2.mem ((c.tc : Thread nD τ).loc main_v162_4) = I.o4 :=
  Eq.trans (b := (dats m 0 c).arrAt 19 cfg0.N) ((h c).1 19) (final19 A t ht hw)
theorem end5 (hw : win0_20.WholeAt t) : r.2.mem ((c.tc : Thread nD τ).loc main_v162_5) = I.o5 :=
  Eq.trans (b := (dats m 0 c).arrAt 20 cfg0.N) ((h c).1 20) (final20 A t ht hw)
theorem end6 (hw : win0_21.WholeAt t) : r.2.mem ((c.tc : Thread nD τ).loc main_v162_6) = I.o6 :=
  Eq.trans (b := (dats m 0 c).arrAt 21 cfg0.N) ((h c).1 21) (final21 A t ht hw)
theorem end7 (hw : win0_22.WholeAt t) : r.2.mem ((c.tc : Thread nD τ).loc main_v162_7) = I.o7 :=
  Eq.trans (b := (dats m 0 c).arrAt 22 cfg0.N) ((h c).1 22) (final22 A t ht hw)
theorem end8 (hw : win0_23.WholeAt t) : r.2.mem ((c.tc : Thread nD τ).loc main_v162_8) = I.o8 :=
  Eq.trans (b := (dats m 0 c).arrAt 23 cfg0.N) ((h c).1 23) (final23 A t ht hw)
theorem end9 (hw : win0_24.WholeAt t) : r.2.mem ((c.tc : Thread nD τ).loc main_v162_9) = I.o9 :=
  Eq.trans (b := (dats m 0 c).arrAt 24 cfg0.N) ((h c).1 24) (final24 A t ht hw)
theorem end10 (hw : win0_25.WholeAt t) : r.2.mem ((c.tc : Thread nD τ).loc main_v162_10) = I.o10 :=
  Eq.trans (b := (dats m 0 c).arrAt 25 cfg0.N) ((h c).1 25) (final25 A t ht hw)
end

theorem ends_kept (m : (ℓ : Loc nD τ sig) → Buf (Elt Ideal) ℓ) (ρ : Dev nD → PrngReg) (I : Dev nD → Inp)
    (A : ∀ c, Cert.MixRef.Reads (I c) (V m c main_arg0) (V m c main_arg1) (V m c main_arg2) (V m c main_arg3) (V m c main_arg4) (V m c main_arg5)
      (V m c main_arg6) (V m c main_arg7) (V m c main_arg8) (V m c main_arg9) (V m c main_arg10) (V m c main_arg11)) :
    θ_run defs (onTc (τ := τ) (main (F := Ideal))) ⟨m, fun _ => 0, ρ⟩ (fun r => ∀ c : Dev nD,
      r.2.mem ((c.tc : Thread nD τ).loc main_v162_0) = (I c).o0
      ∧ r.2.mem ((c.tc : Thread nD τ).loc main_v162_1) = (I c).o1
      ∧ r.2.mem ((c.tc : Thread nD τ).loc main_v162_2) = (I c).o2
      ∧ r.2.mem ((c.tc : Thread nD τ).loc main_v162_3) = (I c).o3
      ∧ r.2.mem ((c.tc : Thread nD τ).loc main_v162_4) = (I c).o4
      ∧ r.2.mem ((c.tc : Thread nD τ).loc main_v162_5) = (I c).o5
      ∧ r.2.mem ((c.tc : Thread nD τ).loc main_v162_6) = (I c).o6
      ∧ r.2.mem ((c.tc : Thread nD τ).loc main_v162_7) = (I c).o7
      ∧ r.2.mem ((c.tc : Thread nD τ).loc main_v162_8) = (I c).o8
      ∧ r.2.mem ((c.tc : Thread nD τ).loc main_v162_9) = (I c).o9
      ∧ r.2.mem ((c.tc : Thread nD τ).loc main_v162_10) = (I c).o10
      ∧ Kept m c r) := by
  obtain ⟨t, ht, w1, w2, w3, w4, w5, w6, w7, w8, w9, w10⟩ := exists_last
  refine (θ_run defs _ _).mono (fun r h c => ?_) (θ_run_and (run m ρ) (frame m ρ))
  have f := h.1.1
  exact ⟨end0 f (A c), end1 f (A c) t ht w1, end2 f (A c) t ht w2, end3 f (A c) t ht w3, end4 f (A c) t ht w4, end5 f (A c) t ht w5, end6 f (A c) t ht w6, end7 f (A c) t ht w7, end8 f (A c) t ht w8, end9 f (A c) t ht w9, end10 f (A c) t ht w10, h.2.1 c⟩

end Cert.MixIdeal.Own

namespace Cert.MixRef

open Cert.MixReferenceIdeal Cert.MixReferenceIdeal.Gen Cert.MixReferenceIdeal.Read Cert.MixSpec
open Cert.Spec hiding Inp
open Idealize.ShloMosaic Idealize.ShloMosaic.TcCoe Idealize.ShloMosaic.StableHlo Idealize.SL.Sem

section
variable {I : Inp} {x0 x1 : T S8192x1024} {x2 : T S1x6144} {x3 x4 : T S1x1024} {x5 : T S1024x1536}
  {x6 : T S4x128} {x7 : T S4x128x128} {x8 : T S4x128} {x9 : T S4x128x128} {x10 : T S1x512} {x11 : T S1024x1024}
variable (H : Reads I x0 x1 x2 x3 x4 x5 x6 x7 x8 x9 x10 x11)
include H

theorem out0 : val_main_v378 (F := Ideal) x0 x1 x2 x3 x4 x5 x6 x7 x8 x9 x10 x11 = I.o0 := eq_real2 (gx_eq H)
theorem out1 : val_main_v379 (F := Ideal) x0 x1 x2 x3 x4 x5 x6 x7 x8 x9 x10 x11 = I.o1 := eq_real2 (twin_eq H)
theorem out2 : val_main_v219 (F := Ideal) x0 x1 x2 x3 x4 x5 x6 x7 x8 x9 x10 x11 = I.o2 := eq_real2 (twout_eq H)
theorem out3 : val_main_v380 (F := Ideal) x0 x1 x2 x3 x4 x5 x6 x7 x8 x9 x10 x11 = I.o3 := eq_real2 (tmod_eq H)
theorem out4 : val_main_v361 (F := Ideal) x0 x1 x2 x3 x4 x5 x6 x7 x8 x9 x10 x11 = I.o4 := eq_real2 (tg1_eq H)
theorem out5 : val_main_v201 (F := Ideal) x0 x1 x2 x3 x5 x6 x7 x8 x9 x10 x11 = I.o5 := eq_real2 (tg2_eq H)
theorem out6 : val_main_v330 (F := Ideal) x0 x1 x2 x3 x4 x5 x6 x7 x8 x9 x10 x11 = I.o6 := eq_real2 (tsgn_eq H)
theorem out7 : val_main_v310 (F := Ideal) x0 x1 x2 x3 x4 x5 x6 x7 x8 x9 x10 x11 = I.o7 := eq_real3 (tws_eq H)
theorem out8 : val_main_v381 (F := Ideal) x0 x1 x2 x3 x4 x5 x6 x7 x8 x9 x10 x11 = I.o8 := eq_real2 (tbs_eq H)
theorem out9 : val_main_v233 (F := Ideal) x0 x1 x2 x3 x4 x5 x6 x7 x8 x9 x10 x11 = I.o9 := eq_real3 (twp_eq H)
theorem out10 : val_main_v225 (F := Ideal) x0 x1 x2 x3 x4 x5 x6 x7 x8 x9 x10 x11 = I.o10 := eq_real2 (by_lane (g := fun g d => ∑ n, I.tps n g d) (tps_eq H))
end

/-- What the arguments of a device hold when the reference starts. -/
abbrev ReadsAt (m : (ℓ : Loc nD τ sig) → Buf (Elt Ideal) ℓ) (c : Dev nD) (I : Inp) : Prop :=
  Reads I ((launchContents m c) (Proc.devRef .tc main_arg0)) ((launchContents m c) (Proc.devRef .tc main_arg1)) ((launchContents m c) (Proc.devRef .tc main_arg2)) ((launchContents m c) (Proc.devRef .tc main_arg3)) ((launchContents m c) (Proc.devRef .tc main_arg4)) ((launchContents m c) (Proc.devRef .tc main_arg5)) ((launchContents m c) (Proc.devRef .tc main_arg6)) ((launchContents m c) (Proc.devRef .tc main_arg7)) ((launchContents m c) (Proc.devRef .tc main_arg8)) ((launchContents m c) (Proc.devRef .tc main_arg9)) ((launchContents m c) (Proc.devRef .tc main_arg10)) ((launchContents m c) (Proc.devRef .tc main_arg11))

theorem ends (m : (ℓ : Loc nD τ sig) → Buf (Elt Ideal) ℓ) (ρ : Dev nD → PrngReg) (I : Dev nD → Inp) (R : ∀ c, ReadsAt m c (I c)) :
    θ_run defs (onTc (τ := τ) (main (F := Ideal))) ⟨m, fun _ => 0, ρ⟩ (fun r => ∀ c : Dev nD,
      r.2.mem ((c.tc : Thread nD τ).loc main_v378) = (I c).o0
      ∧ r.2.mem ((c.tc : Thread nD τ).loc main_v379) = (I c).o1
      ∧ r.2.mem ((c.tc : Thread nD τ).loc main_v219) = (I c).o2
      ∧ r.2.mem ((c.tc : Thread nD τ).loc main_v380) = (I c).o3
      ∧ r.2.mem ((c.tc : Thread nD τ).loc main_v361) = (I c).o4
      ∧ r.2.mem ((c.tc : Thread nD τ).loc main_v201) = (I c).o5
      ∧ r.2.mem ((c.tc : Thread nD τ).loc main_v330) = (I c).o6
      ∧ r.2.mem ((c.tc : Thread nD τ).loc main_v310) = (I c).o7
      ∧ r.2.mem ((c.tc : Thread nD τ).loc main_v381) = (I c).o8
      ∧ r.2.mem ((c.tc : Thread nD τ).loc main_v233) = (I c).o9
      ∧ r.2.mem ((c.tc : Thread nD τ).loc main_v225) = (I c).o10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run defs _ _).mono (fun r h c => ?_) (Cert.MixReferenceIdeal.Value.run (F := Ideal) m ρ)
  obtain ⟨h0, h1, h2, h3, h4, h5, h6, h7, h8, h9, h10, hk⟩ := h c
  refine ⟨?_, ?_, ?_, ?_, ?_, ?_, ?_, ?_, ?_, ?_, ?_, hk⟩
  · exact h0.trans ((val_main_v378_eq (launchContents m c)).trans (out0 (R c)))
  · exact h1.trans ((val_main_v379_eq (launchContents m c)).trans (out1 (R c)))
  · exact h2.trans ((val_main_v219_eq (launchContents m c)).trans (out2 (R c)))
  · exact h3.trans ((val_main_v380_eq (launchContents m c)).trans (out3 (R c)))
  · exact h4.trans ((val_main_v361_eq (launchContents m c)).trans (out4 (R c)))
  · exact h5.trans ((val_main_v201_eq (launchContents m c)).trans (out5 (R c)))
  · exact h6.trans ((val_main_v330_eq (launchContents m c)).trans (out6 (R c)))
  · exact h7.trans ((val_main_v310_eq (launchContents m c)).trans (out7 (R c)))
  · exact h8.trans ((val_main_v381_eq (launchContents m c)).trans (out8 (R c)))
  · exact h9.trans ((val_main_v233_eq (launchContents m c)).trans (out9 (R c)))
  · exact h10.trans ((val_main_v225_eq (launchContents m c)).trans (out10 (R c)))

end Cert.MixRef

end
-- ==== Proof.RefFwd.lean ====
/-
  What the reference's forward lines compute, read at an index: the real functions of `Spec`.
-/
module

public import proofs.«01_k».proof.Proof.Fold
public import proofs.«01_k».proof.Proof.Gen.ReferenceIdeal.Read

@[expose] public section

noncomputable section

namespace Cert.Ref

open Cert.ReferenceIdeal Cert.ReferenceIdeal.Gen Cert.ReferenceIdeal.Read Cert.Spec
open Idealize.ShloMosaic Idealize.ShloMosaic.TcCoe

/-- Contents of an `f32` buffer of shape `s` in the idealized program. -/
abbrev T (s : Shape) : Type := (⟨s, .f32⟩ : BufTy).Contents (Elt Ideal)

/-- The nine arguments hold the real arrays of `I`. -/
structure Reads (I : Inp) (x0 x1 : T S8192x1024) (x2 : T S1x6144) (x3 x4 : T S1x1024) (x5 : T S1024x5632)
    (x6 : T S3x5632) (x7 : T S1x5632) (x8 : T S2816x1024) : Prop where
  x : ∀ i d, x0 (ix2 i d) = ((I.x i d : ℝ) : EReal)
  dx : ∀ i d, x1 (ix2 i d) = ((I.dx i d : ℝ) : EReal)
  md : ∀ d, x2 (ix2 0 d) = ((I.md d : ℝ) : EReal)
  g3 : ∀ d, x3 (ix2 0 d) = ((I.g3 d : ℝ) : EReal)
  g4 : ∀ d, x4 (ix2 0 d) = ((I.g4 d : ℝ) : EReal)
  W : ∀ d c, x5 (ix2 d c) = ((I.W d c : ℝ) : EReal)
  cw : ∀ a c, x6 (ix2 a c) = ((I.cw a c : ℝ) : EReal)
  cb : ∀ c, x7 (ix2 0 c) = ((I.cb c : ℝ) : EReal)
  Wd : ∀ k d, x8 (ix2 k d) = ((I.Wd k d : ℝ) : EReal)

variable {I : Inp} {x0 x1 : T S8192x1024} {x2 : T S1x6144} {x3 x4 : T S1x1024} {x5 : T S1024x5632}
  {x6 : T S3x5632} {x7 : T S1x5632} {x8 : T S2816x1024}
variable (H : Reads I x0 x1 x2 x3 x4 x5 x6 x7 x8)
include H

theorem sh_eq (d : Fin 1024) : val_main_v3 (F := Ideal) x2 (ix2 0 d) = ((I.sh d : ℝ) : EReal) := by
  pointwise [val_main_v3]
  exact H.md _

theorem sc_eq (d : Fin 1024) : val_main_v4 (F := Ideal) x2 (ix2 0 d) = ((I.sc d : ℝ) : EReal) := by
  pointwise [val_main_v4]
  exact H.md _

theorem gf_eq (d : Fin 1024) : val_main_v5 (F := Ideal) x2 (ix2 0 d) = ((I.gf d : ℝ) : EReal) := by
  pointwise [val_main_v5]
  exact H.md _

theorem ms3_eq (i : Fin 8192) (b : Fin 1) : val_main_v14 (F := Ideal) x0 (ix2 i b) = ((I.ms3 i : ℝ) : EReal) := by
  pointwise [val_main_v14, val_main_v13, val_main_cst_3, val_main_v12, val_main_v11, val_main_cst_2, val_main_v10, val_main_v9,
    val_main_cst_1, val_main_v8, H.x, c_1024, c_eps, ← EReal.coe_mul, coe_sum, div_coe_coe _ (1024 : ℝ) (by norm_num), ← EReal.coe_add]
  rfl

theorem r3_eq (i : Fin 8192) (b : Fin 1) : val_main_v15 (F := Ideal) x0 (ix2 i b) = ((I.r3 i : ℝ) : EReal) := by
  pointwise [val_main_v15, ms3_eq H, rsqrt_of_pos _ (I.ms3_pos i)]
  rfl

theorem xh_eq (i : Fin 8192) (d : Fin 1024) : val_main_v20 (F := Ideal) x0 (ix2 i d) = ((I.xh i d : ℝ) : EReal) := by
  pointwise [val_main_v20, val_main_v19, H.x, r3_eq H, ← EReal.coe_mul]
  rfl

theorem n3_eq (i : Fin 8192) (d : Fin 1024) : val_main_v22 (F := Ideal) x0 x3 (ix2 i d) = ((I.n3 i d : ℝ) : EReal) := by
  pointwise [val_main_v22, val_main_v21, H.g3, xh_eq H, ← EReal.coe_mul]
  rfl

theorem h_eq (i : Fin 8192) (d : Fin 1024) : val_main_v28 (F := Ideal) x0 x2 x3 (ix2 i d) = ((I.h i d : ℝ) : EReal) := by
  pointwise [val_main_v28, val_main_v27, val_main_v26, val_main_v25, val_main_v24, val_main_v23, val_main_cst_5, sh_eq H, sc_eq H,
    n3_eq H, c_one, ← EReal.coe_mul, ← EReal.coe_add, ← EReal.coe_one]
  rfl

theorem up_eq (i : Fin 8192) (c : Fin 5632) : val_main_v29 (F := Ideal) x0 x2 x3 x5 (ix2 i c) = ((I.up i c : ℝ) : EReal) := by
  pointwise [val_main_v29, dot_S8192x1024_S1024x5632_S8192x5632_1_0_0_1_n_n, h_eq H, H.W, ← EReal.coe_mul, coe_sum]
  rfl

theorem up0_eq (i : Fin 8192) (c : Fin 5632) : val_main_v30 (F := Ideal) x0 x2 x3 x5 (ix2 i c) = ((I.up i c : ℝ) : EReal) := by
  pointwise [val_main_v30, val_main_v6, val_main_cst, up_eq H, c_zero, ← EReal.coe_add]

/-- The projection with two rows of zeros before it. -/
theorem padded_eq (i : Fin 8194) (c : Fin 5632) : val_main_v32 (F := Ideal) x0 x2 x3 x5 (ix2 i c)
    = ((if h : 2 ≤ i.val then I.up ⟨i.val - 2, by omega⟩ c else 0 : ℝ) : EReal) := by
  unfold val_main_v32
  by_cases h : 2 ≤ i.val
  · rw [dif_pos h, ← up0_eq H]
    exact concatenate_pair_apply_right (t := S8194x5632) (s₁ := S2x5632) (s₂ := S8192x5632) 0 _ _ _ (ix2 i c) rfl rfl (ix2 (⟨i.val - 2, by omega⟩ : Fin 8192) c)
      (fun b hb => match b, hb with
        | ⟨1, _⟩, _ => rfl
        | ⟨0, _⟩, hb => absurd rfl hb) (by show i.val - 2 + 2 = i.val; omega)
  · rw [dif_neg h]
    refine (concatenate_pair_apply_left (t := S8194x5632) (s₁ := S2x5632) (s₂ := S8192x5632) 0 _ _ _ (ix2 i c) rfl (ix2 (⟨i.val, by omega⟩ : Fin 2) c)
      (fun b => match b with
        | ⟨0, _⟩ => rfl
        | ⟨1, _⟩ => rfl)).trans ?_
    pointwise [val_main_v31, val_main_cst_6, c_zero]

theorem down2_eq (i : Fin 8192) (c : Fin 5632) : val_main_v34 (F := Ideal) x0 x2 x3 x5 (ix2 i c)
    = ((down 2 (fun i => I.up i c) i : ℝ) : EReal) := by
  pointwise [val_main_v34]
  refine (padded_eq H _ c).trans ?_
  rfl

theorem down1_eq (i : Fin 8192) (c : Fin 5632) : val_main_v42 (F := Ideal) x0 x2 x3 x5 (ix2 i c)
    = ((down 1 (fun i => I.up i c) i : ℝ) : EReal) := by
  pointwise [val_main_v42]
  refine (padded_eq H _ c).trans ?_
  unfold down
  by_cases h : 1 ≤ i.val
  · rw [dif_pos h, dif_pos (by show 2 ≤ 1 + i.val; omega)]
    congr 3
    show 1 + i.val - 2 = i.val - 1
    omega
  · rw [dif_neg h, dif_neg (by show ¬ 2 ≤ 1 + i.val; omega)]

theorem down0_eq (i : Fin 8192) (c : Fin 5632) : val_main_v49 (F := Ideal) x0 x2 x3 x5 (ix2 i c) = ((I.up i c : ℝ) : EReal) := by
  pointwise [val_main_v49]
  refine (padded_eq H _ c).trans ?_
  rw [dif_pos (by show 2 ≤ 2 + i.val; omega)]
  congr 3
  show 2 + i.val - 2 = i.val
  omega

theorem cw0_eq (b : Fin 1) (c : Fin 5632) : val_main_v37 (F := Ideal) x6 (ix2 b c) = ((I.cw 0 c : ℝ) : EReal) := by
  pointwise [val_main_v37, val_main_v36, val_main_v35, H.cw]

theorem cw1_eq (b : Fin 1) (c : Fin 5632) : val_main_v45 (F := Ideal) x6 (ix2 b c) = ((I.cw 1 c : ℝ) : EReal) := by
  pointwise [val_main_v45, val_main_v44, val_main_v43, H.cw]

theorem cw2_eq (b : Fin 1) (c : Fin 5632) : val_main_v52 (F := Ideal) x6 (ix2 b c) = ((I.cw 2 c : ℝ) : EReal) := by
  pointwise [val_main_v52, val_main_v51, val_main_v50, H.cw]

theorem y_eq (i : Fin 8192) (c : Fin 5632) : val_main_v55 (F := Ideal) x0 x2 x3 x5 x6 x7 (ix2 i c) = ((I.y i c : ℝ) : EReal) := by
  pointwise [val_main_v55, val_main_v54, val_main_v53, val_main_v48, val_main_v47, val_main_v46, val_main_v41, val_main_v40,
    val_main_v39, val_main_v38, down2_eq H, down1_eq H, down0_eq H, cw0_eq H, cw1_eq H, cw2_eq H, H.cb, ← EReal.coe_mul, ← EReal.coe_add]
  rfl

theorem gate_eq (i : Fin 8192) (k : Fin 2816) : val_main_v56 (F := Ideal) x0 x2 x3 x5 x6 x7 (ix2 i k) = ((I.y i (lo k) : ℝ) : EReal) := by
  pointwise [val_main_v56]
  refine (y_eq H _ _).trans ?_
  rfl

theorem value_eq (i : Fin 8192) (k : Fin 2816) : val_main_v57 (F := Ideal) x0 x2 x3 x5 x6 x7 (ix2 i k) = ((I.y i (hi k) : ℝ) : EReal) := by
  pointwise [val_main_v57]
  refine (y_eq H _ _).trans ?_
  congr 3
  exact Nat.add_comm _ _

theorem sg_eq (i : Fin 8192) (k : Fin 2816) : val_main_v58_2 (F := Ideal) x0 x2 x3 x5 x6 x7 (ix2 i k) = ((I.sg i k : ℝ) : EReal) := by
  have hp : (1 + Real.exp (-I.y i (lo k))) ≠ 0 := by have := Real.exp_pos (-I.y i (lo k)); positivity
  pointwise [val_main_v58_2, val_main_call0_v4, val_main_call0_cst_0, val_main_call0_v3, val_main_call0_v2, val_main_call0_cst,
    val_main_call0_v1, val_main_call0_v0, gate_eq H, ← EReal.coe_neg, Ideal.exp_coe, ← EReal.coe_one, ← EReal.coe_add]
  rw [div_coe_coe _ _ hp, one_div]
  rfl

theorem silu_eq (i : Fin 8192) (k : Fin 2816) : val_main_v58_0 (F := Ideal) x0 x2 x3 x5 x6 x7 (ix2 i k) = ((I.silu i k : ℝ) : EReal) := by
  pointwise [val_main_v58_0, gate_eq H, sg_eq H, ← EReal.coe_mul]
  rfl

theorem dsg_eq (i : Fin 8192) (k : Fin 2816) : val_main_v58_1 (F := Ideal) x0 x2 x3 x5 x6 x7 (ix2 i k)
    = ((I.sg i k * (1 - I.sg i k) : ℝ) : EReal) := by
  pointwise [val_main_v58_1, val_main_call0_v7, val_main_call0_v6, val_main_call0_cst_1, sg_eq H, ← EReal.coe_one, ← EReal.coe_sub, ← EReal.coe_mul]

theorem act_eq (i : Fin 8192) (k : Fin 2816) : val_main_v59 (F := Ideal) x0 x2 x3 x5 x6 x7 (ix2 i k) = ((I.act i k : ℝ) : EReal) := by
  pointwise [val_main_v59, silu_eq H, value_eq H, ← EReal.coe_mul]
  rfl

theorem f_eq (i : Fin 8192) (d : Fin 1024) : val_main_v60 (F := Ideal) x0 x2 x3 x5 x6 x7 x8 (ix2 i d) = ((I.f i d : ℝ) : EReal) := by
  pointwise [val_main_v60, dot_S8192x2816_S2816x1024_S8192x1024_1_0_0_1_n_n, act_eq H, H.Wd, ← EReal.coe_mul, coe_sum]
  rfl

theorem f0_eq (i : Fin 8192) (d : Fin 1024) : val_main_v61 (F := Ideal) x0 x2 x3 x5 x6 x7 x8 (ix2 i d) = ((I.f i d : ℝ) : EReal) := by
  pointwise [val_main_v61, val_main_v7, val_main_cst_0, f_eq H, c_zero, ← EReal.coe_add]

theorem ms4_eq (i : Fin 8192) (b : Fin 1) : val_main_v68 (F := Ideal) x0 x2 x3 x5 x6 x7 x8 (ix2 i b) = ((I.ms4 i : ℝ) : EReal) := by
  pointwise [val_main_v68, val_main_v67, val_main_cst_10, val_main_v66, val_main_v65, val_main_cst_9, val_main_v64, val_main_v63,
    val_main_cst_8, val_main_v62, f0_eq H, c_1024, c_eps, ← EReal.coe_mul, coe_sum, div_coe_coe _ (1024 : ℝ) (by norm_num), ← EReal.coe_add]
  rfl

theorem r4_eq (i : Fin 8192) (b : Fin 1) : val_main_v69 (F := Ideal) x0 x2 x3 x5 x6 x7 x8 (ix2 i b) = ((I.r4 i : ℝ) : EReal) := by
  pointwise [val_main_v69, ms4_eq H, rsqrt_of_pos _ (I.ms4_pos i)]
  rfl

theorem fh_eq (i : Fin 8192) (d : Fin 1024) : val_main_v74 (F := Ideal) x0 x2 x3 x5 x6 x7 x8 (ix2 i d) = ((I.fh i d : ℝ) : EReal) := by
  pointwise [val_main_v74, val_main_v73, f0_eq H, r4_eq H, ← EReal.coe_mul]
  rfl

end Cert.Ref

end
-- ==== Proof.Finite.lean ====
/-
  The precondition, read at an entry: an argument whose every entry is finite is an array of real numbers.
-/
module

public import proofs.«01_k».proof.Defs
public import proofs.«01_k».proof.Proof.RefFwd
public import Idealize.ShloMosaic.Lib.Pipeline.Value

@[expose] public section

noncomputable section

namespace Cert.Pair

open Cert.Pre_all_finite Cert.Spec
open Idealize.ShloMosaic Idealize.ShloMosaic.TcCoe

instance facts : Cert.Pre_all_finite.Facts := by constructor <;> decide

/-- One entry's test: `|x| < ∞` says that `x` is a real number. -/
theorem real_of_lt {x : EReal} (h : max x (-x) < ⊤) : x = ((x.toReal : ℝ) : EReal) := by
  refine (EReal.coe_toReal (fun e => ?_) (fun e => ?_)).symm
  · subst e; exact absurd h (by simp)
  · subst e; exact absurd h (by simp)

theorem real_at {s : Shape} (hb : S_.BroadcastsInDim s (![] : Fin 0 → Fin s.rank)) (x : FVec Ideal s .f32)
    (h : cmpf .olt (Host.absf x) (broadcastInDim s ![] hb (constant S_ .f32 0x7F800000#32)) = fun _ => 1#1) (i : s.Idx) :
    x i = (((x i).toReal : ℝ) : EReal) := by
  have h1 := congrFun h i
  refine real_of_lt ?_
  have top : Ideal.ofBits .f32 0x7F800000#32 = ⊤ := by simp [Ideal.ofBits, Ideal.ieee]
  have h2 : Ideal.cmp .olt (max (x i : EReal) (-(x i : EReal))) (Ideal.ofBits .f32 0x7F800000#32) = 1#1 := h1
  rw [top] at h2
  by_contra hn
  exact absurd h2 (by simp [Ideal.cmp, hn])

/-- Real numbers, from the nine arguments. -/
def inp (x0 x1 : S8192x1024.Idx → EReal) (x2 : S1x6144.Idx → EReal) (x3 x4 : S1x1024.Idx → EReal) (x5 : S1024x5632.Idx → EReal)
    (x6 : S3x5632.Idx → EReal) (x7 : S1x5632.Idx → EReal) (x8 : S2816x1024.Idx → EReal) : Inp where
  x i d := (x0 (ix2 i d)).toReal
  dx i d := (x1 (ix2 i d)).toReal
  md d := (x2 (ix2 0 d)).toReal
  g3 d := (x3 (ix2 0 d)).toReal
  g4 d := (x4 (ix2 0 d)).toReal
  W d b := (x5 (ix2 d b)).toReal
  cw a b := (x6 (ix2 a b)).toReal
  cb b := (x7 (ix2 0 b)).toReal
  Wd k d := (x8 (ix2 k d)).toReal

theorem reads (x0 x1 : FVec Ideal S8192x1024 .f32) (x2 : FVec Ideal S1x6144 .f32) (x3 x4 : FVec Ideal S1x1024 .f32) (x5 : FVec Ideal S1024x5632 .f32)
    (x6 : FVec Ideal S3x5632 .f32) (x7 : FVec Ideal S1x5632 .f32) (x8 : FVec Ideal S2816x1024 .f32)
    (h : ((fn x0 x1 x2 x3 x4 x5 x6 x7 x8).1 = fun _ => 1#1) ∧ ((fn x0 x1 x2 x3 x4 x5 x6 x7 x8).2.1 = fun _ => 1#1)
      ∧ ((fn x0 x1 x2 x3 x4 x5 x6 x7 x8).2.2.1 = fun _ => 1#1) ∧ ((fn x0 x1 x2 x3 x4 x5 x6 x7 x8).2.2.2.1 = fun _ => 1#1)
      ∧ ((fn x0 x1 x2 x3 x4 x5 x6 x7 x8).2.2.2.2.1 = fun _ => 1#1) ∧ ((fn x0 x1 x2 x3 x4 x5 x6 x7 x8).2.2.2.2.2.1 = fun _ => 1#1)
      ∧ ((fn x0 x1 x2 x3 x4 x5 x6 x7 x8).2.2.2.2.2.2.1 = fun _ => 1#1) ∧ ((fn x0 x1 x2 x3 x4 x5 x6 x7 x8).2.2.2.2.2.2.2.1 = fun _ => 1#1)
      ∧ ((fn x0 x1 x2 x3 x4 x5 x6 x7 x8).2.2.2.2.2.2.2.2 = fun _ => 1#1)) :
    Cert.Ref.Reads (inp x0 x1 x2 x3 x4 x5 x6 x7 x8) x0 x1 x2 x3 x4 x5 x6 x7 x8 := by
  obtain ⟨h0, h1, h2, h3, h4, h5, h6, h7, h8⟩ := h
  exact ⟨fun i d => real_at _ _ h0 _, fun i d => real_at _ _ h1 _, fun d => real_at _ _ h2 _, fun d => real_at _ _ h3 _,
    fun d => real_at _ _ h4 _, fun d b => real_at _ _ h5 _, fun a b => real_at _ _ h6 _, fun b => real_at _ _ h7 _, fun k d => real_at _ _ h8 _⟩

/-- Equal arrays read alike. -/
theorem reads_of_eq {I : Inp} {x0 y0 : S8192x1024.Idx → EReal} {x1 y1 : S8192x1024.Idx → EReal} {x2 y2 : S1x6144.Idx → EReal} {x3 y3 : S1x1024.Idx → EReal} {x4 y4 : S1x1024.Idx → EReal} {x5 y5 : S1024x5632.Idx → EReal} {x6 y6 : S3x5632.Idx → EReal} {x7 y7 : S1x5632.Idx → EReal} {x8 y8 : S2816x1024.Idx → EReal}
    (R : Cert.Ref.Reads I x0 x1 x2 x3 x4 x5 x6 x7 x8) (h0 : y0 = x0) (h1 : y1 = x1) (h2 : y2 = x2) (h3 : y3 = x3) (h4 : y4 = x4) (h5 : y5 = x5) (h6 : y6 = x6) (h7 : y7 = x7) (h8 : y8 = x8) :
    Cert.Ref.Reads I y0 y1 y2 y3 y4 y5 y6 y7 y8 := by
  subst h0 h1 h2 h3 h4 h5 h6 h7 h8
  exact R

end Cert.Pair

end
-- ==== Proof.MixValue.lean ====
/-
  The mixing half's equation: under finite arguments, the kernel's eleven results are the reference's.
-/
module

public import proofs.«01_k».proof.Proof.MixResults
public import proofs.«01_k».proof.Proof.MixFrame
public import proofs.«01_k».proof.Proof.Finite

@[expose] public section

noncomputable section

namespace Cert.MixPair

open Cert.Pre_mix_finite
open Cert.Pair (real_at)
open Idealize.ShloMosaic Idealize.ShloMosaic.TcCoe Idealize.SL.Sem

/-- Real numbers, from the twelve arguments. -/
def inp (x0 x1 : S8192x1024.Idx → EReal) (x2 : S1x6144.Idx → EReal) (x3 x4 : S1x1024.Idx → EReal) (x5 : S1024x1536.Idx → EReal)
    (x6 : S4x128.Idx → EReal) (x7 : S4x128x128.Idx → EReal) (x8 : S4x128.Idx → EReal) (x9 : S4x128x128.Idx → EReal) (x10 : S1x512.Idx → EReal)
    (x11 : S1024x1024.Idx → EReal) : Cert.MixSpec.Inp where
  x i d := (x0 (ix2 i d)).toReal
  e i d := (x1 (ix2 i d)).toReal
  md d := (x2 (ix2 0 d)).toReal
  g1 d := (x3 (ix2 0 d)).toReal
  g2 d := (x4 (ix2 0 d)).toReal
  W d k := (x5 (ix2 d k)).toReal
  sgn h c := (x6 (ix2 h c)).toReal
  ws h i j := (x7 (ix3 h i j)).toReal
  bs h i := (x8 (ix2 h i)).toReal
  wp g c d := (x9 (ix3 g c d)).toReal
  ps k := (x10 (ix2 0 k)).toReal
  Wo k d := (x11 (ix2 k d)).toReal

variable {x0 x1 : FVec Ideal S8192x1024 .f32} {x2 : FVec Ideal S1x6144 .f32} {x3 x4 : FVec Ideal S1x1024 .f32} {x5 : FVec Ideal S1024x1536 .f32}
  {x6 : FVec Ideal S4x128 .f32} {x7 : FVec Ideal S4x128x128 .f32} {x8 : FVec Ideal S4x128 .f32} {x9 : FVec Ideal S4x128x128 .f32}
  {x10 : FVec Ideal S1x512 .f32} {x11 : FVec Ideal S1024x1024 .f32}

/-- The precondition's twelve tests. -/
def Holds (p : IVec S8192x1024 1 × IVec S8192x1024 1 × IVec S1x6144 1 × IVec S1x1024 1 × IVec S1x1024 1 × IVec S1024x1536 1 × IVec S4x128 1
    × IVec S4x128x128 1 × IVec S4x128 1 × IVec S4x128x128 1 × IVec S1x512 1 × IVec S1024x1024 1) : Prop :=
  (p.1 = fun _ => 1#1) ∧ (p.2.1 = fun _ => 1#1) ∧ (p.2.2.1 = fun _ => 1#1) ∧ (p.2.2.2.1 = fun _ => 1#1)
    ∧ (p.2.2.2.2.1 = fun _ => 1#1) ∧ (p.2.2.2.2.2.1 = fun _ => 1#1) ∧ (p.2.2.2.2.2.2.1 = fun _ => 1#1) ∧ (p.2.2.2.2.2.2.2.1 = fun _ => 1#1)
    ∧ (p.2.2.2.2.2.2.2.2.1 = fun _ => 1#1) ∧ (p.2.2.2.2.2.2.2.2.2.1 = fun _ => 1#1) ∧ (p.2.2.2.2.2.2.2.2.2.2.1 = fun _ => 1#1) ∧ (p.2.2.2.2.2.2.2.2.2.2.2 = fun _ => 1#1)

theorem reads (h : Holds (fn x0 x1 x2 x3 x4 x5 x6 x7 x8 x9 x10 x11)) :
    Cert.MixRef.Reads (inp x0 x1 x2 x3 x4 x5 x6 x7 x8 x9 x10 x11) x0 x1 x2 x3 x4 x5 x6 x7 x8 x9 x10 x11 := by
  obtain ⟨h0, h1, h2, h3, h4, h5, h6, h7, h8, h9, h10, h11⟩ := h
  exact ⟨fun i d => real_at _ _ h0 _, fun i d => real_at _ _ h1 _, fun d => real_at _ _ h2 _, fun d => real_at _ _ h3 _,
    fun d => real_at _ _ h4 _, fun d k => real_at _ _ h5 _, fun h c => real_at _ _ h6 _, fun h i j => real_at _ _ h7 _,
    fun h i => real_at _ _ h8 _, fun g c d => real_at _ _ h9 _, fun k => real_at _ _ h10 _, fun k d => real_at _ _ h11 _⟩

/-- Equal arrays read alike. -/
theorem reads_of_eq {I : Cert.MixSpec.Inp} {y0 y1 : S8192x1024.Idx → EReal} {y2 : S1x6144.Idx → EReal} {y3 y4 : S1x1024.Idx → EReal}
    {y5 : S1024x1536.Idx → EReal} {y6 : S4x128.Idx → EReal} {y7 : S4x128x128.Idx → EReal} {y8 : S4x128.Idx → EReal}
    {y9 : S4x128x128.Idx → EReal} {y10 : S1x512.Idx → EReal} {y11 : S1024x1024.Idx → EReal}
    (R : Cert.MixRef.Reads I x0 x1 x2 x3 x4 x5 x6 x7 x8 x9 x10 x11) (h0 : y0 = x0) (h1 : y1 = x1) (h2 : y2 = x2) (h3 : y3 = x3) (h4 : y4 = x4)
    (h5 : y5 = x5) (h6 : y6 = x6) (h7 : y7 = x7) (h8 : y8 = x8) (h9 : y9 = x9) (h10 : y10 = x10) (h11 : y11 = x11) :
    Cert.MixRef.Reads I y0 y1 y2 y3 y4 y5 y6 y7 y8 y9 y10 y11 := by
  subst h0 h1 h2 h3 h4 h5 h6 h7 h8 h9 h10 h11
  exact R

section
open Cert.MixIdeal Cert.MixIdeal.Gen
variable (m : (ℓ : Loc nD τ sig) → Buf (Elt Ideal) ℓ)

/-- The arguments of a device, as real numbers. -/
def inpAt (c : Dev nD) : Cert.MixSpec.Inp :=
  inp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

theorem args (h : Cert.Pre_MixIdeal_mix_finite m) (c : Dev nD) :
    Cert.MixRef.Reads (inpAt m c) (V m c main_arg0) (V m c main_arg1) (V m c main_arg2) (V m c main_arg3) (V m c main_arg4) (V m c main_arg5)
      (V m c main_arg6) (V m c main_arg7) (V m c main_arg8) (V m c main_arg9) (V m c main_arg10) (V m c main_arg11) :=
  reads_of_eq (reads (h c)) (V_main_arg0 m c) (V_main_arg1 m c) (V_main_arg2 m c) (V_main_arg3 m c) (V_main_arg4 m c) (V_main_arg5 m c) (V_main_arg6 m c) (V_main_arg7 m c) (V_main_arg8 m c) (V_main_arg9 m c) (V_main_arg10 m c) (V_main_arg11 m c)
end

theorem algebraic : Cert.algebraic_MixIdeal_MixReferenceIdeal_pre_mix_finite := by
  intro m g m' g' hp hag
  refine ⟨fun c => (inpAt m c).o0, fun c => (inpAt m c).o1, fun c => (inpAt m c).o2, fun c => (inpAt m c).o3, fun c => (inpAt m c).o4, fun c => (inpAt m c).o5, fun c => (inpAt m c).o6, fun c => (inpAt m c).o7, fun c => (inpAt m c).o8, fun c => (inpAt m c).o9, fun c => (inpAt m c).o10, Cert.MixIdeal.Own.ends_kept m g (inpAt m) (args m hp), ?_⟩
  refine Cert.MixRef.ends m' g' (inpAt m) fun c => ?_
  obtain ⟨a0, a1, a2, a3, a4, a5, a6, a7, a8, a9, a10, a11⟩ := hag c
  exact reads_of_eq (reads (hp c)) a0 a1 a2 a3 a4 a5 a6 a7 a8 a9 a10 a11

end Cert.MixPair

end
-- ==== Proof.FwdFrame.lean ====
/-
  The frames of the two forward calls. Each kernel's two programs are one text: its run, proved at any float values,
  is read at both.
-/
module

public import proofs.«01_k».proof.Defs
public import proofs.«01_k».proof.Proof.Gen.Ffn
public import proofs.«01_k».proof.Proof.Gen.FfnIdeal.Value
public import proofs.«01_k».proof.Proof.Gen.FfnReferenceIdeal.Run
public import proofs.«01_k».proof.Proof.Gen.MixFwd
public import proofs.«01_k».proof.Proof.Gen.MixFwdIdeal.Value
public import proofs.«01_k».proof.Proof.Gen.MixFwdReferenceIdeal.Run
public import Idealize.ShloMosaic.Lib.Tactic
public import Idealize.ShloMosaic.Lib.Claim

@[expose] public section

noncomputable section

open Idealize.ShloMosaic Idealize.ShloMosaic.TcCoe Idealize.SL.Sem

namespace Cert.FfnPair

theorem run_eq (m : (ℓ : Loc Cert.Ffn.nD Cert.Ffn.τ Cert.Ffn.sig) → Buf (Elt Bits) ℓ) (g : Dev Cert.Ffn.nD → PrngReg)
    (Q : PUnit × MemSt Cert.Ffn.nD Cert.Ffn.τ Cert.Ffn.sig (Elt Bits) → Prop) :
    (θ_run (Cert.Ffn.defs (F := Bits)) (onTc (τ := Cert.Ffn.τ) (Cert.Ffn.main (F := Bits))) ⟨m, fun _ => 0, g⟩ Q)
      = (θ_run (Cert.FfnIdeal.defs (F := Bits)) (onTc (τ := Cert.FfnIdeal.τ) (Cert.FfnIdeal.main (F := Bits))) ⟨m, fun _ => 0, g⟩ Q) := by
  sl_kernel_rfl

theorem frame_p : Cert.quiescent_Ffn := fun m ρ _ => (run_eq m ρ _).mpr (Cert.FfnIdeal.Gen.frame m ρ)

theorem frame_pi : Cert.quiescent_FfnIdeal := fun m ρ _ => Cert.FfnIdeal.Gen.frame m ρ

theorem frame_ri : Cert.quiescent_FfnReferenceIdeal := fun m ρ _ =>
  (θ_run Cert.FfnReferenceIdeal.defs _ _).mono (fun r h => ⟨fun c => (h c).2.2.2.2.2, sem_eq_zero_of_no_sems (by decide) r.2⟩)
    (Cert.FfnReferenceIdeal.Value.run (F := Ideal) m ρ)

end Cert.FfnPair

namespace Cert.MixFwdPair

theorem run_eq (m : (ℓ : Loc Cert.MixFwd.nD Cert.MixFwd.τ Cert.MixFwd.sig) → Buf (Elt Bits) ℓ) (g : Dev Cert.MixFwd.nD → PrngReg)
    (Q : PUnit × MemSt Cert.MixFwd.nD Cert.MixFwd.τ Cert.MixFwd.sig (Elt Bits) → Prop) :
    (θ_run (Cert.MixFwd.defs (F := Bits)) (onTc (τ := Cert.MixFwd.τ) (Cert.MixFwd.main (F := Bits))) ⟨m, fun _ => 0, g⟩ Q)
      = (θ_run (Cert.MixFwdIdeal.defs (F := Bits)) (onTc (τ := Cert.MixFwdIdeal.τ) (Cert.MixFwdIdeal.main (F := Bits))) ⟨m, fun _ => 0, g⟩ Q) := by
  sl_kernel_rfl

theorem frame_p : Cert.quiescent_MixFwd := fun m ρ _ => (run_eq m ρ _).mpr (Cert.MixFwdIdeal.Gen.frame m ρ)

theorem frame_pi : Cert.quiescent_MixFwdIdeal := fun m ρ _ => Cert.MixFwdIdeal.Gen.frame m ρ

theorem frame_ri : Cert.quiescent_MixFwdReferenceIdeal := fun m ρ _ =>
  (θ_run Cert.MixFwdReferenceIdeal.defs _ _).mono (fun r h => ⟨fun c => (h c).2.2.2, sem_eq_zero_of_no_sems (by decide) r.2⟩)
    (Cert.MixFwdReferenceIdeal.Value.run (F := Ideal) m ρ)

end Cert.MixFwdPair

end
-- ==== Proof.FfnVoc.lean ====
/-
  The forward call's arithmetic at one grid point, over what the point loads, and the contents it leaves in terms of it.
  The words are those of Voc.lean; the point walks the eight chunks in the same order.
-/
module

public import proofs.«01_k».proof.Proof.Canon
public import proofs.«01_k».proof.Proof.Gen.FfnIdeal.Value

@[expose] public section

set_option maxRecDepth 16384

noncomputable section

namespace Cert.FfnIdeal.Own

open Cert.FfnIdeal Cert.FfnIdeal.Gen
open Idealize.ShloMosaic Idealize.ShloMosaic.TcCoe Idealize.ShloMosaic.Tactic
open Cert.Kernel.Own (Rows Row Cols normed tall onePlus overRows conv gateOf addRow rUp rHalo rCw rCb rWup rWd rMod rRows rRow zero)

variable {F : FTy → Type} [FloatOps F]

/-- What a point loads, the weights by chunk. -/
structure Ins (F : FTy → Type) [FloatOps F] where
  x : Rows F
  tgt : Rows F
  sh : Row F
  sc : Row F
  gf : Row F
  g3 : Row F
  g4 : Row F
  wup : Fin 8 → FVec F S1x1024x704 .bf16
  cw : Fin 8 → FVec F S1x3x704 .f32
  cb : Fin 8 → FVec F S1x704 .f32
  wd : Fin 4 → FVec F S704x1024 .bf16

/-- The eight rows before the tile, by chunk. -/
abbrev Halo (F : FTy → Type) [FloatOps F] := Fin 8 → FVec F S8x704 .f32

namespace Ins

variable (I : Ins F) (b : Halo F)

/-- The rows normed, with their gain, and modulated. -/
def h : FVec F S256x1024 .bf16 :=
  truncf .bf16 (addf (mulf (mulf (normed I.x) (tall I.g3)) (tall (onePlus (shapeCast S1x1024 I.sc shapeCasts_S1x1024_S1x1024))))
    (tall (shapeCast S1x1024 I.sh shapeCasts_S1x1024_S1x1024))) bitsLt_bf16_f32

/-- A chunk of their projection, and its last eight rows. -/
def up (k : Fin 8) : Cols F :=
  matmul dot_S256x1024_S1024x704_S256x704_1_0_0_1_n_n none I.h (shapeCast S1024x704 (I.wup k) shapeCasts_S1x1024x704_S1024x704)
    (constant S256x704 .f32 0x00000000#32)
def tail (k : Fin 8) : FVec F S8x704 .f32 := extractStridedSlice S8x704 ![248, 0] (I.up k) slices_S256x704_o248_0_S8x704

/-- A chunk's convolution. -/
def y (k : Fin 8) : Cols F :=
  conv (b k) (I.up k) (shapeCast S3x704 (I.cw k) shapeCasts_S1x3x704_S3x704) (shapeCast S1x704 (I.cb k) shapeCasts_S1x704_S1x704)

/-- A chunk of the gated product. -/
def act (j : Fin 4) : FVec F S256x704 .bf16 :=
  truncf .bf16 (mulf (mulf (I.y b (j.castAdd 4)) (gateOf (I.y b (j.castAdd 4)))) (I.y b (j.natAdd 4))) bitsLt_bf16_f32

/-- Its part of the second projection, and their sum. -/
def part (j : Fin 4) : Rows F :=
  matmul dot_S256x704_S704x1024_S256x1024_1_0_0_1_n_n none (I.act b j) (shapeCast S704x1024 (I.wd j) shapeCasts_S704x1024_S704x1024)
    (constant S256x1024 .f32 0x00000000#32)
def f : Rows F := addf (addf (addf (addf (zero S256x1024) (I.part b 0)) (I.part b 1)) (I.part b 2)) (I.part b 3)

/-- The output's distance to the target. -/
def err : Rows F :=
  subf (addf I.x (mulf (tall (shapeCast S1x1024 I.gf shapeCasts_S1x1024_S1x1024)) (mulf (normed (I.f b)) (tall I.g4)))) I.tgt

/-- Its cotangent, and the tile's term of the loss. -/
def dx2 : Rows F := mulf (I.err b) (broadcast S256x1024 (Scalar.ofBits .f32 0x3A800000#32))
def loss : Row F := overRows (mulf (I.err b) (I.err b))

end Ins

/-- Chunk `j` of a block of four. -/
theorem inb4 {a b : ℕ} (k : Fin 4) : ∀ i, (![k.val, 0, 0] : Fin 3 → ℕ) i + (![1, a, b] : Fin 3 → ℕ) i ≤ (![4, a, b] : Fin 3 → ℕ) i := by
  intro i; have := k.isLt; fin_cases i <;> simp <;> omega
abbrev rAct (j : Fin 4) : Rect S4x256x704 := Rect.unit ![j.val, 0, 0] S1x256x704.size (inb4 j)

/-- The order in which the gated chunks are stored, the last first. -/
def order4 : List (Fin 4) := [3, 2, 1, 0]

variable (m : (ℓ : Loc nD τ sig) → Buf (Elt F) ℓ)

/-- What point `t` loads. -/
def ins (c : Dev nD) (t : Fin cfg0.N) : Ins F where
  x := View.readAt (Elt F) (ms0_0 t).view rRows.toLoadRect ((hs0_0 t).unread (iblk m c 0 t))
  tgt := View.readAt (Elt F) (ms0_1 t).view rRows.toLoadRect ((hs0_1 t).unread (iblk m c 1 t))
  sh := View.readAt (Elt F) (ms0_2 t).view (rMod 3).toLoadRect ((hs0_2 t).unread (iblk m c 2 t))
  sc := View.readAt (Elt F) (ms0_2 t).view (rMod 4).toLoadRect ((hs0_2 t).unread (iblk m c 2 t))
  gf := View.readAt (Elt F) (ms0_2 t).view (rMod 5).toLoadRect ((hs0_2 t).unread (iblk m c 2 t))
  g3 := View.readAt (Elt F) (ms0_3 t).view rRow.toLoadRect ((hs0_3 t).unread (iblk m c 3 t))
  g4 := View.readAt (Elt F) (ms0_4 t).view rRow.toLoadRect ((hs0_4 t).unread (iblk m c 4 t))
  wup k := View.readAt (Elt F) (ms0_5 t).view (rWup k).toLoadRect ((hs0_5 t).unread (iblk m c 5 t))
  cw k := View.readAt (Elt F) (ms0_6 t).view (rCw k).toLoadRect ((hs0_6 t).unread (iblk m c 6 t))
  cb k := View.readAt (Elt F) (ms0_7 t).view (rCb k).toLoadRect ((hs0_7 t).unread (iblk m c 7 t))
  wd j := View.readAt (Elt F) (ms0_8 t).view (rWd j).toLoadRect ((hs0_8 t).unread (iblk m c 8 t))

/-- The chunks' stores: of the projection, of the gated product. -/
def upL (I : Ins F) : List (View.Piece (Elt F) S8x256x704 .f32) :=
  Cert.Kernel.Own.Loads.order.map fun k => ⟨rUp k, shapeCast S1x256x704 (I.up k) shapeCasts_S256x704_S1x256x704⟩
def actL (I : Ins F) (b : Halo F) : List (View.Piece (Elt F) S4x256x704 .bf16) :=
  order4.map fun j => ⟨rAct j, shapeCast S1x256x704 (I.act b j) shapeCasts_S256x704_S1x256x704⟩

section later
variable (c : Dev nD) (t : Fin cfg0.N) (h0 : ¬t.val % 32 = 0)

/-- What the point before left in the carried rows and in the loss. -/
abbrev kept : Vec F S8x8x704 .f32 := (outsAt0 m c (t.val - 1) (Nat.lt_of_le_of_lt (Nat.sub_le _ _) t.isLt)).2.2.2.2.2
abbrev lossB : Vec F S1x1024 .f32 := (outsAt0 m c (t.val - 1) (Nat.lt_of_le_of_lt (Nat.sub_le _ _) t.isLt)).2.2.2.2.1

/-- The carried rows as a later point loads them. -/
def haloB : Halo F := fun k =>
  shapeCast S8x704 (View.readAt (Elt F) scM0_0.view (rHalo k).toLoadRect ((Memref.isWhole_whole _).unread (kept m c t))) shapeCasts_S1x8x704_S8x704

/-- A later point's run, at that point's buffers and input blocks. -/
abbrev runB :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (lossB m c t) (kept m c t)

theorem upB_run : (outsAt0 m c t.val t.isLt).1 = View.canon (runB m c t h0).1 := by
  have e : (outsAt0 m c t.val t.isLt).1 = VO0_9.read (Elt F) (VO0_9.writes (Elt F) VO0_9.junk (runB m c t h0).1) :=
    (congrArg (fun p => p.1) (outsAt0_B m c t h0)).trans (by sl_kernel_rfl)
  exact e.trans (View.read_writes_eq_canon VO0_9 VO0_9.junk _ (by intro y; apply cover0_B_9))
theorem actB_run : (outsAt0 m c t.val t.isLt).2.1 = View.canon (runB m c t h0).2.1 := by
  have e : (outsAt0 m c t.val t.isLt).2.1 = VO0_10.read (Elt F) (VO0_10.writes (Elt F) VO0_10.junk (runB m c t h0).2.1) :=
    (congrArg (fun p => p.2.1) (outsAt0_B m c t h0)).trans (by sl_kernel_rfl)
  exact e.trans (View.read_writes_eq_canon VO0_10 VO0_10.junk _ (by intro y; apply cover0_B_10))
theorem fB_run : (outsAt0 m c t.val t.isLt).2.2.1 = View.canon (runB m c t h0).2.2.1 := by
  have e : (outsAt0 m c t.val t.isLt).2.2.1 = VO0_11.read (Elt F) (VO0_11.writes (Elt F) VO0_11.junk (runB m c t h0).2.2.1) :=
    (congrArg (fun p => p.2.2.1) (outsAt0_B m c t h0)).trans (by sl_kernel_rfl)
  exact e.trans (View.read_writes_eq_canon VO0_11 VO0_11.junk _ (by intro y; apply cover0_B_11))
theorem dxB_run : (outsAt0 m c t.val t.isLt).2.2.2.1 = View.canon (runB m c t h0).2.2.2.1 := by
  have e : (outsAt0 m c t.val t.isLt).2.2.2.1 = VO0_12.read (Elt F) (VO0_12.writes (Elt F) VO0_12.junk (runB m c t h0).2.2.2.1) :=
    (congrArg (fun p => p.2.2.2.1) (outsAt0_B m c t h0)).trans (by sl_kernel_rfl)
  exact e.trans (View.read_writes_eq_canon VO0_12 VO0_12.junk _ (by intro y; apply cover0_B_12))
theorem lossB_run : (outsAt0 m c t.val t.isLt).2.2.2.2.1 = View.canon (runB m c t h0).2.2.2.2.1 := by
  have e : (outsAt0 m c t.val t.isLt).2.2.2.2.1 = VO0_13.read (Elt F) (VO0_13.writes (Elt F) VO0_13.junk (runB m c t h0).2.2.2.2.1) :=
    (congrArg (fun p => p.2.2.2.2.1) (outsAt0_B m c t h0)).trans (by sl_kernel_rfl)
  exact e.trans (View.read_writes_eq_canon VO0_13 VO0_13.junk _ (by intro y; apply cover0_B_13))
theorem keptB_run : (outsAt0 m c t.val t.isLt).2.2.2.2.2 = View.canon (runB m c t h0).2.2.2.2.2.1 := by
  have e : (outsAt0 m c t.val t.isLt).2.2.2.2.2 = VS0_0.read (Elt F) (VS0_0.writes (Elt F) VS0_0.junk (runB m c t h0).2.2.2.2.2.1) :=
    (congrArg (fun p => p.2.2.2.2.2) (outsAt0_B m c t h0)).trans (by sl_kernel_rfl)
  exact e.trans (View.read_writes_eq_canon VS0_0 VS0_0.junk _ (by intro y; apply scover0_B_0))
include h0
theorem upB : (outsAt0 m c t.val t.isLt).1 = View.canon (upL (ins m c t)) := by
  exact (upB_run m c t h0).trans (by sl_kernel_rfl)
theorem actB : (outsAt0 m c t.val t.isLt).2.1 = View.canon (actL (ins m c t) (haloB m c t)) := by
  exact (actB_run m c t h0).trans (by sl_kernel_rfl)
theorem fB : (outsAt0 m c t.val t.isLt).2.2.1 = View.canon (Val := Elt F) [⟨rRows, (ins m c t).f (haloB m c t)⟩] := by
  exact (fB_run m c t h0).trans (by sl_kernel_rfl)
theorem dxB : (outsAt0 m c t.val t.isLt).2.2.2.1 = View.canon (Val := Elt F) [⟨rRows, (ins m c t).dx2 (haloB m c t)⟩] := by
  exact (dxB_run m c t h0).trans (by sl_kernel_rfl)
theorem lossB_eq : (outsAt0 m c t.val t.isLt).2.2.2.2.1 = View.canon (Val := Elt F) [⟨rRow, addRow
    (View.readAt (Elt F) (ms0_13 t).view rRow.toLoadRect ((hs0_13 t).unread (lossB m c t))) ((ins m c t).loss (haloB m c t))⟩] := by
  exact (lossB_run m c t h0).trans (by sl_kernel_rfl)
theorem keptB : (outsAt0 m c t.val t.isLt).2.2.2.2.2 = View.canon (Val := Elt F) (Cert.Kernel.Own.Loads.order.map fun k =>
    ⟨rHalo k, shapeCast S1x8x704 ((ins m c t).tail k) shapeCasts_S8x704_S1x8x704⟩) := by
  exact (keptB_run m c t h0).trans (by sl_kernel_rfl)
end later

section first
variable (c : Dev nD) (t : Fin cfg0.N) (h0 : t.val % 32 = 0)

/-- The carried rows at the first point: zero, then chunk by chunk this tile's last rows. -/
def keptL : List (Fin 8) → List (View.Piece (Elt F) S8x8x704 .f32)
  | [] => [⟨Rect.unit ![0, 0, 0] S8x8x704.size inb_S8x8x704_S8x8x704_0_0_0, zero S8x8x704⟩]
  | k :: l => ⟨rHalo k, shapeCast S1x8x704 ((ins m c t).tail k) shapeCasts_S8x704_S1x8x704⟩ :: keptL l

/-- What the first point loads of them before chunk `k`. -/
def haloA : Halo F := fun k =>
  shapeCast S8x704 (View.readCov (Val := Elt F) scM0_0.view (keptL m c t (Cert.Kernel.Own.Loads.order.dropWhile (· ≠ k)).tail) (rHalo k).toLoadRect)
    shapeCasts_S1x8x704_S8x704

/-- The first point's run, at that point's buffers and input blocks. -/
abbrev runA :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)

theorem upA_run : (outsAt0 m c t.val t.isLt).1 = View.canon (runA m c t h0).1 := by
  have e : (outsAt0 m c t.val t.isLt).1 = VO0_9.read (Elt F) (VO0_9.writes (Elt F) VO0_9.junk (runA m c t h0).1) :=
    (congrArg (fun p => p.1) (outsAt0_A m c t h0)).trans (by sl_kernel_rfl)
  exact e.trans (View.read_writes_eq_canon VO0_9 VO0_9.junk _ (by intro y; apply cover0_A_9))
theorem actA_run : (outsAt0 m c t.val t.isLt).2.1 = View.canon (runA m c t h0).2.1 := by
  have e : (outsAt0 m c t.val t.isLt).2.1 = VO0_10.read (Elt F) (VO0_10.writes (Elt F) VO0_10.junk (runA m c t h0).2.1) :=
    (congrArg (fun p => p.2.1) (outsAt0_A m c t h0)).trans (by sl_kernel_rfl)
  exact e.trans (View.read_writes_eq_canon VO0_10 VO0_10.junk _ (by intro y; apply cover0_A_10))
theorem fA_run : (outsAt0 m c t.val t.isLt).2.2.1 = View.canon (runA m c t h0).2.2.1 := by
  have e : (outsAt0 m c t.val t.isLt).2.2.1 = VO0_11.read (Elt F) (VO0_11.writes (Elt F) VO0_11.junk (runA m c t h0).2.2.1) :=
    (congrArg (fun p => p.2.2.1) (outsAt0_A m c t h0)).trans (by sl_kernel_rfl)
  exact e.trans (View.read_writes_eq_canon VO0_11 VO0_11.junk _ (by intro y; apply cover0_A_11))
theorem dxA_run : (outsAt0 m c t.val t.isLt).2.2.2.1 = View.canon (runA m c t h0).2.2.2.1 := by
  have e : (outsAt0 m c t.val t.isLt).2.2.2.1 = VO0_12.read (Elt F) (VO0_12.writes (Elt F) VO0_12.junk (runA m c t h0).2.2.2.1) :=
    (congrArg (fun p => p.2.2.2.1) (outsAt0_A m c t h0)).trans (by sl_kernel_rfl)
  exact e.trans (View.read_writes_eq_canon VO0_12 VO0_12.junk _ (by intro y; apply cover0_A_12))
theorem lossA_run : (outsAt0 m c t.val t.isLt).2.2.2.2.1 = View.canon (runA m c t h0).2.2.2.2.1 := by
  have e : (outsAt0 m c t.val t.isLt).2.2.2.2.1 = VO0_13.read (Elt F) (VO0_13.writes (Elt F) VO0_13.junk (runA m c t h0).2.2.2.2.1) :=
    (congrArg (fun p => p.2.2.2.2.1) (outsAt0_A m c t h0)).trans (by sl_kernel_rfl)
  exact e.trans (View.read_writes_eq_canon VO0_13 VO0_13.junk _ (by intro y; apply cover0_A_13))
theorem keptA_run : (outsAt0 m c t.val t.isLt).2.2.2.2.2 = View.canon (runA m c t h0).2.2.2.2.2.1 := by
  have e : (outsAt0 m c t.val t.isLt).2.2.2.2.2 = VS0_0.read (Elt F) (VS0_0.writes (Elt F) VS0_0.junk (runA m c t h0).2.2.2.2.2.1) :=
    (congrArg (fun p => p.2.2.2.2.2) (outsAt0_A m c t h0)).trans (by sl_kernel_rfl)
  exact e.trans (View.read_writes_eq_canon VS0_0 VS0_0.junk _ (by intro y; apply scover0_A_0))
include h0
theorem upA : (outsAt0 m c t.val t.isLt).1 = View.canon (upL (ins m c t)) := by
  exact (upA_run m c t h0).trans (by sl_kernel_rfl)
theorem actA : (outsAt0 m c t.val t.isLt).2.1 = View.canon (actL (ins m c t) (haloA m c t)) := by
  exact (actA_run m c t h0).trans (by sl_kernel_rfl)
theorem fA : (outsAt0 m c t.val t.isLt).2.2.1 = View.canon (Val := Elt F) [⟨rRows, (ins m c t).f (haloA m c t)⟩] := by
  exact (fA_run m c t h0).trans (by sl_kernel_rfl)
theorem dxA : (outsAt0 m c t.val t.isLt).2.2.2.1 = View.canon (Val := Elt F) [⟨rRows, (ins m c t).dx2 (haloA m c t)⟩] := by
  exact (dxA_run m c t h0).trans (by sl_kernel_rfl)
theorem lossA_eq : (outsAt0 m c t.val t.isLt).2.2.2.2.1 = View.canon (Val := Elt F) [⟨rRow, addRow
    (View.readCov (Val := Elt F) (ms0_13 t).view [⟨rRow, zero S1x1024⟩] rRow.toLoadRect) ((ins m c t).loss (haloA m c t))⟩, ⟨rRow, zero S1x1024⟩] := by
  exact (lossA_run m c t h0).trans (by sl_kernel_rfl)
theorem keptA : (outsAt0 m c t.val t.isLt).2.2.2.2.2 = View.canon (keptL m c t Cert.Kernel.Own.Loads.order) := by
  exact (keptA_run m c t h0).trans (by sl_kernel_rfl)
end first

end Cert.FfnIdeal.Own

end
-- ==== Proof.FfnSpec.lean ====
/-
  The channel half's forward pass with its loss, written over the extended reals. Both programs compute these functions of
  their arguments, whatever the arguments hold.
-/
module

public import proofs.«01_k».proof.Proof.Fold

@[expose] public section

noncomputable section

namespace Cert.FwdSpec

open Idealize.ShloMosaic Cert.Spec

/-- The call's arguments. -/
structure Inp where
  x : Fin 8192 → Fin 1024 → EReal
  tgt : Fin 8192 → Fin 1024 → EReal
  md : Fin 6144 → EReal
  g3 : Fin 1024 → EReal
  g4 : Fin 1024 → EReal
  W : Fin 1024 → Fin 5632 → EReal
  cw : Fin 3 → Fin 5632 → EReal
  cb : Fin 5632 → EReal
  Wd : Fin 2816 → Fin 1024 → EReal

/-- One over the root mean square of a row. -/
def scale (v : Fin 1024 → EReal) : EReal :=
  Ideal.rsqrt (Ideal.div (∑ d, v d * v d) (Ideal.ofBits .f32 0x44800000#32) + Ideal.ofBits .f32 0x358637BD#32)

/-- `1 / (1 + exp (-g))`. -/
def sig (g : EReal) : EReal := Ideal.div 1 (1 + Ideal.exp (-g))

/-- A column moved down `n` rows, zero above. -/
def down (n : ℕ) (v : Fin 8192 → EReal) (i : Fin 8192) : EReal := if _ : n ≤ i.val then v ⟨i.val - n, by omega⟩ else 0

namespace Inp

variable (I : Inp)

def sh (d : Fin 1024) : EReal := I.md ⟨3072 + d.val, by omega⟩
def sc (d : Fin 1024) : EReal := I.md ⟨4096 + d.val, by omega⟩
def gf (d : Fin 1024) : EReal := I.md ⟨5120 + d.val, by omega⟩

/-- The rows normed, with their gain, and modulated. -/
def h (i : Fin 8192) (d : Fin 1024) : EReal := I.x i d * scale (I.x i) * I.g3 d * (1 + I.sc d) + I.sh d

/-- Their projection, and its convolution over three rows. -/
def up (i : Fin 8192) (c : Fin 5632) : EReal := ∑ d, I.h i d * I.W d c
def y (i : Fin 8192) (c : Fin 5632) : EReal :=
  I.cb c + down 2 (fun n => I.up n c) i * I.cw 0 c + down 1 (fun n => I.up n c) i * I.cw 1 c + I.up i c * I.cw 2 c

/-- The gated product, and the second projection. -/
def act (i : Fin 8192) (k : Fin 2816) : EReal := I.y i (lo k) * sig (I.y i (lo k)) * I.y i (hi k)
def f (i : Fin 8192) (d : Fin 1024) : EReal := ∑ k, I.act i k * I.Wd k d

/-- The output's distance to the target, its cotangent, and the loss by feature. -/
def err (i : Fin 8192) (d : Fin 1024) : EReal := I.x i d + I.gf d * (I.f i d * scale (I.f i) * I.g4 d) - I.tgt i d
def dx2 (i : Fin 8192) (d : Fin 1024) : EReal := I.err i d * ((1 / 1024 : ℝ) : EReal)
def loss (d : Fin 1024) : EReal := ∑ i, I.err i d * I.err i d

end Inp

theorem zero_word : Ideal.ofBits .f32 0x00000000#32 = 0 := c_zero.trans EReal.coe_zero
theorem one_word : Ideal.ofBits .f32 0x3F800000#32 = 1 := c_one.trans EReal.coe_one
theorem small_word : Ideal.ofBits .f32 0x3A800000#32 = ((1 / 1024 : ℝ) : EReal) := by
  simp [Ideal.ofBits, Ideal.ieee, -EReal.coe_mul]; norm_num

/-- The two spellings of the gate, the logistic function times its argument. -/
theorem gate_eq (g : EReal) : g * (((1 / 2 : ℝ) : EReal) * Ideal.tanh (((1 / 2 : ℝ) : EReal) * g) + ((1 / 2 : ℝ) : EReal)) = g * sig g := by
  unfold sig
  induction g with
  | bot =>
    rw [EReal.coe_mul_bot_of_pos (by norm_num), EReal.neg_bot]
    have h1 : Ideal.tanh ⊥ = ((-1 : ℝ) : EReal) := rfl
    have h2 : Ideal.exp ⊤ = ⊤ := rfl
    rw [h1, h2, ← EReal.coe_mul, ← EReal.coe_add, show (1 / 2 * -1 + 1 / 2 : ℝ) = 0 by norm_num, EReal.coe_zero, mul_zero,
      EReal.add_top_of_ne_bot (by rw [← EReal.coe_one]; exact EReal.coe_ne_bot 1),
      Ideal.div, if_neg EReal.top_ne_zero, EReal.inv_top, mul_zero, mul_zero]
  | top =>
    rw [EReal.coe_mul_top_of_pos (by norm_num), EReal.neg_top]
    have h1 : Ideal.tanh ⊤ = ((1 : ℝ) : EReal) := rfl
    have h2 : Ideal.exp ⊥ = 0 := rfl
    rw [h1, h2, ← EReal.coe_mul, ← EReal.coe_add, show (1 / 2 * 1 + 1 / 2 : ℝ) = 1 by norm_num, add_zero, ← EReal.coe_one,
      div_coe_coe 1 1 one_ne_zero, div_one]
  | coe r =>
    have hp : (1 + Real.exp (-r) : ℝ) ≠ 0 := by positivity
    rw [← EReal.coe_mul, Ideal.tanh_coe, ← EReal.coe_mul, ← EReal.coe_add, half_tanh, ← EReal.coe_neg]
    have h2 : Ideal.exp ((-r : ℝ) : EReal) = ((Real.exp (-r) : ℝ) : EReal) := rfl
    rw [h2, ← EReal.coe_one, ← EReal.coe_add, div_coe_coe _ _ hp, one_div]

/-- Half of twice a number, over 1024. -/
theorem half_twice (e : EReal) : ((1 / 2 * (1 / 1024) : ℝ) : EReal) * (((2 : ℝ) : EReal) * e) = e * ((1 / 1024 : ℝ) : EReal) := by
  rw [← mul_assoc, ← EReal.coe_mul, mul_comm, show (1 / 2 * (1 / 1024) * 2 : ℝ) = 1 / 1024 by norm_num]

end Cert.FwdSpec

end
-- ==== Proof.FfnTile.lean ====
/-
  One grid point's arithmetic of the forward call where it loads the tile of 256 rows starting at row `256 b`: what it
  computes at an index, in the words of FfnSpec.lean, whatever the arguments hold.
-/
module

public import proofs.«01_k».proof.Proof.FfnVoc
public import proofs.«01_k».proof.Proof.FfnSpec
public import proofs.«01_k».proof.Proof.Tile

@[expose] public section

set_option maxRecDepth 16384

noncomputable section

namespace Cert.FfnIdeal.Own

open Cert.FfnIdeal Cert.FfnIdeal.Gen Cert.FwdSpec
open Cert.Spec (lo hi c_half)
open Idealize.ShloMosaic Idealize.ShloMosaic.TcCoe
open Cert.Kernel.Own (Rows Row Cols rowMean rowScale normed tall onePlus overRows conv gateOf addRow zero row rowB col colD down1 down2 down1_at down2_at)

/-- One over each row's root mean square, and a row over it. -/
theorem rowScale_eq (v : Rows Ideal) (i : Fin 256) (z : Fin 1) : rowScale v (ix2 i z) = scale fun d => v (ix2 i d) := by
  unfold rowScale rowMean
  pointwise [zero_word, zero_add]
  rfl
theorem normed_eq (v : Rows Ideal) (i : Fin 256) (d : Fin 1024) : normed v (ix2 i d) = v (ix2 i d) * scale fun d => v (ix2 i d) := by
  unfold normed
  pointwise [rowScale_eq]

/-- The sum over a tile's rows. -/
theorem overRows_eq (v : Rows Ideal) (z : Fin 1) (d : Fin 1024) : overRows v (ix2 z d) = ∑ i, v (ix2 i d) := by
  unfold overRows
  pointwise [zero_word, zero_add]

/-- What the point at tile `b` loads. -/
structure At (I : Inp) (b : Fin 32) (L : Ins Ideal) : Prop where
  x : ∀ i d, L.x (ix2 i d) = I.x (row b i) d
  tgt : ∀ i d, L.tgt (ix2 i d) = I.tgt (row b i) d
  sh : ∀ (z : Fin 1) d, L.sh (ix2 z d) = I.sh d
  sc : ∀ (z : Fin 1) d, L.sc (ix2 z d) = I.sc d
  gf : ∀ (z : Fin 1) d, L.gf (ix2 z d) = I.gf d
  g3 : ∀ (z : Fin 1) d, L.g3 (ix2 z d) = I.g3 d
  g4 : ∀ (z : Fin 1) d, L.g4 (ix2 z d) = I.g4 d
  wup : ∀ k (z : Fin 1) d c, L.wup k (ix3 z d c) = I.W d (col k c)
  cw : ∀ k (z : Fin 1) a c, L.cw k (ix3 z a c) = I.cw a (col k c)
  cb : ∀ k (z : Fin 1) c, L.cb k (ix2 z c) = I.cb (col k c)
  wd : ∀ j c d, L.wd j (ix2 c d) = I.Wd (colD j c) d

/-- The rows before the tile, of the projection, zero before the first. -/
def Before (I : Inp) (b : Fin 32) (a : Halo Ideal) : Prop :=
  ∀ k s c, a k (ix2 s c) = if b.val = 0 then 0 else I.up (rowB b s) (col k c)

namespace At

variable {I : Inp} {b : Fin 32} {L : Ins Ideal} (H : At I b L)
include H

theorem h_at (i : Fin 256) (d : Fin 1024) : L.h (ix2 i d) = I.h (row b i) d := by
  unfold Ins.h onePlus
  pointwise [normed_eq, H.x, H.g3, H.sc, H.sh, one_word]
  rfl

theorem up_at (k : Fin 8) (i : Fin 256) (c : Fin 704) : L.up k (ix2 i c) = I.up (row b i) (col k c) := by
  unfold Ins.up
  pointwise [dot_S256x1024_S1024x704_S256x704_1_0_0_1_n_n, H.h_at, H.wup, zero_word, zero_add]
  rfl

theorem tail_at (k : Fin 8) (s : Fin 8) (c : Fin 704) : L.tail k (ix2 s c) = I.up (row b ⟨248 + s.val, by omega⟩) (col k c) := by
  unfold Ins.tail
  pointwise [H.up_at]

section before
variable {a : Halo Ideal} (B : Before I b a)
include B

/-- A chunk moved down. -/
theorem down1_row (k : Fin 8) (i : Fin 256) (c : Fin 704) :
    down1 (L.up k) (a k) (ix2 i c) = down 1 (fun n => I.up n (col k c)) (row b i) := by
  have hi := i.isLt
  rw [down1_at]
  by_cases h : 1 ≤ i.val
  · rw [dif_pos h, H.up_at, down, dif_pos (by simp only [row]; omega)]
    congr 1; apply Fin.ext; simp only [row]; omega
  · rw [dif_neg h, B, down]
    by_cases hb : b.val = 0
    · rw [if_pos hb, dif_neg (by simp only [row]; omega)]
    · rw [if_neg hb, dif_pos (by simp only [row]; omega)]
      congr 1; apply Fin.ext; simp only [row, rowB]; omega
theorem down2_row (k : Fin 8) (i : Fin 256) (c : Fin 704) :
    down2 (L.up k) (a k) (ix2 i c) = down 2 (fun n => I.up n (col k c)) (row b i) := by
  have hi := i.isLt
  rw [down2_at]
  by_cases h : 2 ≤ i.val
  · rw [dif_pos h, H.up_at, down, dif_pos (by simp only [row]; omega)]
    congr 1; apply Fin.ext; simp only [row]; omega
  · rw [dif_neg h, B, down]
    by_cases hb : b.val = 0
    · rw [if_pos hb, dif_neg (by simp only [row]; omega)]
    · rw [if_neg hb, dif_pos (by simp only [row]; omega)]
      congr 1; apply Fin.ext; simp only [row, rowB]; omega

theorem y_at (k : Fin 8) (i : Fin 256) (c : Fin 704) : L.y a k (ix2 i c) = I.y (row b i) (col k c) := by
  unfold Ins.y conv
  pointwise [H.down1_row B, H.down2_row B, H.up_at, H.cw, H.cb]
  rfl

theorem act_at (j : Fin 4) (i : Fin 256) (c : Fin 704) : L.act a j (ix2 i c) = I.act (row b i) (colD j c) := by
  have e : hi (colD j c) = col (j.natAdd 4) c := by apply Fin.ext; simp only [hi, colD, col, Fin.val_natAdd]; omega
  unfold Ins.act gateOf
  pointwise [H.y_at B, c_half, Cert.FwdSpec.gate_eq]
  rw [Inp.act, e]
  rfl

theorem part_at (j : Fin 4) (i : Fin 256) (d : Fin 1024) :
    L.part a j (ix2 i d) = ∑ c, I.act (row b i) (colD j c) * I.Wd (colD j c) d := by
  unfold Ins.part
  pointwise [dot_S256x704_S704x1024_S256x1024_1_0_0_1_n_n, H.act_at B, H.wd, zero_word, zero_add]

theorem f_at (i : Fin 256) (d : Fin 1024) : L.f a (ix2 i d) = I.f (row b i) d := by
  have e : I.f (row b i) d = ∑ j : Fin 4, ∑ c : Fin 704, I.act (row b i) (colD j c) * I.Wd (colD j c) d := by
    rw [Inp.f, ← Fintype.sum_prod_type']
    exact (Fintype.sum_equiv (finProdFinEquiv (m := 4) (n := 704)) _ _ fun p => by
      have : (finProdFinEquiv p : Fin (4 * 704)) = colD p.1 p.2 := by
        apply Fin.ext; simp only [finProdFinEquiv_apply_val, colD]; omega
      rw [this]).symm
  unfold Ins.f Cert.Kernel.Own.zero
  pointwise [H.part_at B, zero_word, zero_add]
  rw [e, Fin.sum_univ_four]

theorem err_at (i : Fin 256) (d : Fin 1024) : L.err a (ix2 i d) = I.err (row b i) d := by
  unfold Ins.err
  pointwise [normed_eq, H.f_at B, H.x, H.tgt, H.gf, H.g4]
  rfl

theorem dx2_at (i : Fin 256) (d : Fin 1024) : L.dx2 a (ix2 i d) = I.dx2 (row b i) d := by
  unfold Ins.dx2
  pointwise [H.err_at B, small_word]
  rfl

theorem loss_at (z : Fin 1) (d : Fin 1024) : L.loss a (ix2 z d) = ∑ i, I.err (row b i) d * I.err (row b i) d := by
  unfold Ins.loss
  rw [overRows_eq]
  pointwise [H.err_at B]
end before
end At

end Cert.FfnIdeal.Own

end
-- ==== Proof.Host.lean ====
/-
  The forward lines that run on the host before the kernel, as functions of the arrays they read, and what the program's arrays hold when
  the kernel starts in terms of them.
-/
module

public import proofs.«01_k».proof.Kernel
public import proofs.«01_k».proof.Proof.Gen.Kernel
public import proofs.«01_k».proof.Proof.Gen.Kernel.Frame.Runs
public import Idealize.ShloMosaic.Lib.Tactic

@[expose] public section

noncomputable section

namespace Cert.Kernel.Own

open Cert.Kernel Cert.Kernel.Gen
open Idealize.ShloMosaic Idealize.ShloMosaic.TcCoe

variable {F : FTy → Type} [FloatOps F]

/-- Contents of an `f32` buffer of shape `s`. -/
abbrev C (F : FTy → Type) (s : Shape) : Type := (⟨s, .f32⟩ : BufTy).Contents (Elt F)

/-- The factor of each row that makes its mean square one. -/
def hScale (x : C F S8192x1024) : C F S8192x1 :=
  Host.rsqrt (addf (Host.divf (broadcastInDim S8192x1 ![0] bcast_S8192_S8192x1_0
    (Host.reduceAdd (mulf x x) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32)))

/-- The normalised, gained and modulated rows. -/
def hH (x : C F S8192x1024) (md : C F S1x6144) (g : C F S1x1024) : C F S8192x1024 :=
  addf (mulf (mulf (mulf x (broadcastInDim S8192x1024 ![0, 1] bcast_S8192x1_S8192x1024_0_1 (hScale x)))
      (broadcastInDim S8192x1024 ![0, 1] bcast_S1x1024_S8192x1024_0_1 g))
    (broadcastInDim S8192x1024 ![0, 1] bcast_S1x1024_S8192x1024_0_1
      (addf (broadcastInDim S1x1024 ![] bcast_S_S1x1024 (constant S_ .f32 0x3F800000#32))
        (extractStridedSlice S1x1024 ![0, 4096] md slices_S1x6144_S1x1024_0_4096))))
    (broadcastInDim S8192x1024 ![0, 1] bcast_S1x1024_S8192x1024_0_1
      (extractStridedSlice S1x1024 ![0, 3072] md slices_S1x6144_S1x1024_0_3072))

/-- The up-projection. -/
def hUp (h : C F S8192x1024) (W : C F S1024x5632) : C F S8192x5632 :=
  Host.dotGeneral dot_S8192x1024_S1024x5632_S8192x5632_1_0_0_1_n_n none h W

/-- Two rows of zeros before the up-projection. -/
def hPad (u : C F S8192x5632) : C F S8194x5632 :=
  concatenate S8194x5632 0 [⟨S2x5632, broadcastInDim S2x5632 ![] bcast_S_S2x5632 (constant S_ .f32 0x00000000#32)⟩, ⟨S8192x5632, u⟩]
    concatenates_S2x5632_S8192x5632_S8194x5632_d0

/-- One tap's weights on every row. -/
def hRow (w : C F S1x5632) : C F S8192x5632 :=
  broadcastInDim S8192x5632 ![0, 1] bcast_S1x5632_S8192x5632_0_1
    (broadcastInDim S1x5632 ![1] bcast_S5632_S1x5632_1 (shapeCast S5632 w shapeCasts_S1x5632_S5632))

/-- The convolution over three rows. -/
def hConv (u : C F S8192x5632) (cw : C F S3x5632) (cb : C F S1x5632) : C F S8192x5632 :=
  addf (addf (addf (broadcastInDim S8192x5632 ![0, 1] bcast_S1x5632_S8192x5632_0_1 cb)
    (mulf (extractStridedSlice S8192x5632 ![0, 0] (hPad u) slices_S8194x5632_S8192x5632_0_0)
      (hRow (extractStridedSlice S1x5632 ![0, 0] cw slices_S3x5632_S1x5632_0_0))))
    (mulf (extractStridedSlice S8192x5632 ![1, 0] (hPad u) slices_S8194x5632_S8192x5632_1_0)
      (hRow (extractStridedSlice S1x5632 ![1, 0] cw slices_S3x5632_S1x5632_1_0))))
    (mulf (extractStridedSlice S8192x5632 ![2, 0] (hPad u) slices_S8194x5632_S8192x5632_2_0)
      (hRow (extractStridedSlice S1x5632 ![2, 0] cw slices_S3x5632_S1x5632_2_0)))

/-- The gate's half of the convolution. -/
def hGate (y : C F S8192x5632) : C F S8192x2816 :=
  extractStridedSlice S8192x2816 ![0, 0] y slices_S8192x5632_S8192x2816_0_0

/-- `1 / (1 + exp (-g))`. -/
def hSig (g : C F S8192x2816) : C F S8192x2816 :=
  Host.divf (broadcastInDim S8192x2816 ![] bcast_S_S8192x2816 (constant S_ .f32 0x3F800000#32))
    (addf (broadcastInDim S8192x2816 ![] bcast_S_S8192x2816 (constant S_ .f32 0x3F800000#32)) (Host.exp (Host.negf g)))

/-- The gated product. -/
def hAct (y : C F S8192x5632) : C F S8192x2816 :=
  mulf (mulf (hGate y) (hSig (hGate y))) (extractStridedSlice S8192x2816 ![0, 2816] y slices_S8192x5632_S8192x2816_0_2816)

/-- The down-projection. -/
def hF (a : C F S8192x2816) (W : C F S2816x1024) : C F S8192x1024 :=
  Host.dotGeneral dot_S8192x2816_S2816x1024_S8192x1024_1_0_0_1_n_n none a W

/-- The up-projection in eight chunks of columns. -/
def hUpC (u : C F S8192x5632) : C F S8x8192x704 :=
  transpose S8x8192x704 [1, 0, 2] (shapeCast S8192x8x704 u shapeCasts_S8192x5632_S8192x8x704) transposes_S8192x8x704_S8x8192x704_1_0_2

/-- The modulation's six rows. -/
def hMod (md : C F S1x6144) : C F S6x1024 := shapeCast S6x1024 md shapeCasts_S1x6144_S6x1024

/-- The up-projection's weights in eight chunks of columns. -/
def hWup (W : C F S1024x5632) : (⟨S8x1024x704, .bf16⟩ : BufTy).Contents (Elt F) :=
  truncf .bf16 (transpose S8x1024x704 [1, 0, 2] (shapeCast S1024x8x704 W shapeCasts_S1024x5632_S1024x8x704)
    transposes_S1024x8x704_S8x1024x704_1_0_2) bitsLt_bf16_f32

/-- The taps in eight chunks of columns. -/
def hCw (w : C F S3x5632) : C F S8x3x704 :=
  transpose S8x3x704 [1, 0, 2] (shapeCast S3x8x704 w shapeCasts_S3x5632_S3x8x704) transposes_S3x8x704_S8x3x704_1_0_2

/-- The bias in eight chunks of columns. -/
def hCb (b : C F S1x5632) : C F S8x704 := shapeCast S8x704 b shapeCasts_S1x5632_S8x704

/-- The down-projection's weights, narrowed. -/
def hWd (W : C F S2816x1024) : (⟨S2816x1024, .bf16⟩ : BufTy).Contents (Elt F) := truncf .bf16 W bitsLt_bf16_f32

variable (m : (ℓ : Loc nD τ sig) → Buf (Elt F) ℓ) (c : Dev nD)

theorem V_v24 : V m c main_v24 = hUp (hH (V m c main_arg0) (V m c main_arg2) (V m c main_arg3)) (V m c main_arg5) := by
  sl_kernel_rfl

theorem V_v48 : V m c main_v48 = hConv (V m c main_v24) (V m c main_arg6) (V m c main_arg7) := by
  sl_kernel_rfl

theorem V_v53 : V m c main_v53 = hF (hAct (V m c main_v48)) (V m c main_arg8) := by
  sl_kernel_rfl

theorem V_v55 : V m c main_v55 = hUpC (V m c main_v24) := by
  sl_kernel_rfl

theorem V_v56 : V m c main_v56 = hMod (V m c main_arg2) := by
  sl_kernel_rfl

theorem V_v59 : V m c main_v59 = hWup (V m c main_arg5) := by
  sl_kernel_rfl

theorem V_v61 : V m c main_v61 = hCw (V m c main_arg6) := by
  sl_kernel_rfl

theorem V_v62 : V m c main_v62 = hCb (V m c main_arg7) := by
  sl_kernel_rfl

theorem V_v63 : V m c main_v63 = hWd (V m c main_arg8) := by
  sl_kernel_rfl

end Cert.Kernel.Own
-- ==== Proof.HostAt.lean ====
/-
  The host's forward lines read at an index: the real functions of Spec.lean.
-/
module

public import proofs.«01_k».proof.Proof.Host
public import proofs.«01_k».proof.Proof.Tile

@[expose] public section

noncomputable section

namespace Cert.Kernel.Own

open Cert.Kernel Cert.Kernel.Gen Cert.Spec
open Idealize.ShloMosaic Idealize.ShloMosaic.TcCoe

variable (I : Inp)

section
variable (x : C Ideal S8192x1024) (md : C Ideal S1x6144) (g : C Ideal S1x1024) (W : C Ideal S1024x5632) (u y : C Ideal S8192x5632)
  (cw : C Ideal S3x5632) (cb : C Ideal S1x5632) (a : C Ideal S8192x2816) (Wd : C Ideal S2816x1024)

theorem hScale_at (hx : ∀ i d, x (ix2 i d) = ((I.x i d : ℝ) : EReal)) (i : Fin 8192) (b : Fin 1) :
    hScale x (ix2 i b) = ((I.r3 i : ℝ) : EReal) := by
  pointwise [hScale, hx, c_1024, c_eps, ← EReal.coe_mul, coe_sum, div_coe_coe _ (1024 : ℝ) (by norm_num), ← EReal.coe_add]
  refine (rsqrt_of_pos _ (I.ms3_pos i)).trans ?_
  rfl

theorem slice_sh (hm : ∀ d, md (ix2 0 d) = ((I.md d : ℝ) : EReal)) (d : Fin 1024) :
    extractStridedSlice S1x1024 ![0, 3072] md slices_S1x6144_S1x1024_0_3072 (ix2 0 d) = ((I.sh d : ℝ) : EReal) := by
  pointwise
  exact hm _

theorem slice_sc (hm : ∀ d, md (ix2 0 d) = ((I.md d : ℝ) : EReal)) (d : Fin 1024) :
    extractStridedSlice S1x1024 ![0, 4096] md slices_S1x6144_S1x1024_0_4096 (ix2 0 d) = ((I.sc d : ℝ) : EReal) := by
  pointwise
  exact hm _

theorem hH_at (hx : ∀ i d, x (ix2 i d) = ((I.x i d : ℝ) : EReal)) (hm : ∀ d, md (ix2 0 d) = ((I.md d : ℝ) : EReal))
    (hg : ∀ d, g (ix2 0 d) = ((I.g3 d : ℝ) : EReal)) (i : Fin 8192) (d : Fin 1024) :
    hH x md g (ix2 i d) = ((I.h i d : ℝ) : EReal) := by
  have e1 := slice_sh I md hm d
  have e2 := slice_sc I md hm d
  pointwise at e1 e2
  pointwise [hH, hx, hg, hScale_at I x hx, e1, e2, c_one, ← EReal.coe_one, ← EReal.coe_mul, ← EReal.coe_add]
  rfl

theorem hUp_at (h : C Ideal S8192x1024) (hh : ∀ i d, h (ix2 i d) = ((I.h i d : ℝ) : EReal))
    (hW : ∀ d c, W (ix2 d c) = ((I.W d c : ℝ) : EReal)) (i : Fin 8192) (c : Fin 5632) :
    hUp h W (ix2 i c) = ((I.up i c : ℝ) : EReal) := by
  pointwise [hUp, dot_S8192x1024_S1024x5632_S8192x5632_1_0_0_1_n_n, hh, hW, ← EReal.coe_mul, coe_sum]
  rfl

theorem hPad_at (hu : ∀ i c, u (ix2 i c) = ((I.up i c : ℝ) : EReal)) (i : Fin 8194) (c : Fin 5632) :
    hPad u (ix2 i c) = ((if h : 2 ≤ i.val then I.up ⟨i.val - 2, by omega⟩ c else 0 : ℝ) : EReal) := by
  unfold hPad
  by_cases h : 2 ≤ i.val
  · rw [dif_pos h, ← hu]
    exact concatenate_pair_apply_right (t := S8194x5632) (s₁ := S2x5632) (s₂ := S8192x5632) 0 _ _ _ (ix2 i c) rfl rfl (ix2 (⟨i.val - 2, by omega⟩ : Fin 8192) c)
      (fun b hb => match b, hb with
        | ⟨1, _⟩, _ => rfl
        | ⟨0, _⟩, hb => absurd rfl hb) (by show i.val - 2 + 2 = i.val; omega)
  · rw [dif_neg h]
    refine (concatenate_pair_apply_left (t := S8194x5632) (s₁ := S2x5632) (s₂ := S8192x5632) 0 _ _ _ (ix2 i c) rfl (ix2 (⟨i.val, by omega⟩ : Fin 2) c)
      (fun b => match b with
        | ⟨0, _⟩ => rfl
        | ⟨1, _⟩ => rfl)).trans ?_
    pointwise [c_zero]

theorem slice0_at (hu : ∀ i c, u (ix2 i c) = ((I.up i c : ℝ) : EReal)) (i : Fin 8192) (c : Fin 5632) :
    extractStridedSlice S8192x5632 ![0, 0] (hPad u) slices_S8194x5632_S8192x5632_0_0 (ix2 i c)
      = ((down 2 (fun i => I.up i c) i : ℝ) : EReal) := by
  pointwise
  refine (hPad_at I u hu _ c).trans ?_
  rfl

theorem slice1_at (hu : ∀ i c, u (ix2 i c) = ((I.up i c : ℝ) : EReal)) (i : Fin 8192) (c : Fin 5632) :
    extractStridedSlice S8192x5632 ![1, 0] (hPad u) slices_S8194x5632_S8192x5632_1_0 (ix2 i c)
      = ((down 1 (fun i => I.up i c) i : ℝ) : EReal) := by
  pointwise
  refine (hPad_at I u hu _ c).trans ?_
  unfold down
  by_cases h : 1 ≤ i.val
  · rw [dif_pos h, dif_pos (by show 2 ≤ 1 + i.val; omega)]
    congr 3
    show 1 + i.val - 2 = i.val - 1
    omega
  · rw [dif_neg h, dif_neg (by show ¬ 2 ≤ 1 + i.val; omega)]

theorem slice2_at (hu : ∀ i c, u (ix2 i c) = ((I.up i c : ℝ) : EReal)) (i : Fin 8192) (c : Fin 5632) :
    extractStridedSlice S8192x5632 ![2, 0] (hPad u) slices_S8194x5632_S8192x5632_2_0 (ix2 i c) = ((I.up i c : ℝ) : EReal) := by
  pointwise
  refine (hPad_at I u hu _ c).trans ?_
  rw [dif_pos (by show 2 ≤ 2 + i.val; omega)]
  congr 3
  show 2 + i.val - 2 = i.val
  omega

theorem hRow_at (w : C Ideal S1x5632) (i : Fin 8192) (c : Fin 5632) : hRow w (ix2 i c) = w (ix2 0 c) := by
  pointwise [hRow]

theorem tap_at (hw : ∀ a c, cw (ix2 a c) = ((I.cw a c : ℝ) : EReal)) (c : Fin 5632) :
    extractStridedSlice S1x5632 ![0, 0] cw slices_S3x5632_S1x5632_0_0 (ix2 0 c) = ((I.cw 0 c : ℝ) : EReal) ∧
    extractStridedSlice S1x5632 ![1, 0] cw slices_S3x5632_S1x5632_1_0 (ix2 0 c) = ((I.cw 1 c : ℝ) : EReal) ∧
    extractStridedSlice S1x5632 ![2, 0] cw slices_S3x5632_S1x5632_2_0 (ix2 0 c) = ((I.cw 2 c : ℝ) : EReal) := by
  refine ⟨?_, ?_, ?_⟩ <;> pointwise [hw]

theorem hConv_at (hu : ∀ i c, u (ix2 i c) = ((I.up i c : ℝ) : EReal)) (hw : ∀ a c, cw (ix2 a c) = ((I.cw a c : ℝ) : EReal))
    (hb : ∀ c, cb (ix2 0 c) = ((I.cb c : ℝ) : EReal)) (i : Fin 8192) (c : Fin 5632) :
    hConv u cw cb (ix2 i c) = ((I.y i c : ℝ) : EReal) := by
  obtain ⟨t0, t1, t2⟩ := tap_at I cw hw c
  unfold hConv
  simp only [addf_apply, mulf_apply]
  rw [slice0_at I u hu, slice1_at I u hu, slice2_at I u hu, hRow_at, hRow_at, hRow_at, t0, t1, t2]
  pointwise [hb, ← EReal.coe_mul, ← EReal.coe_add]
  rfl

theorem hGate_at (hy : ∀ i c, y (ix2 i c) = ((I.y i c : ℝ) : EReal)) (i : Fin 8192) (k : Fin 2816) :
    hGate y (ix2 i k) = ((I.y i (lo k) : ℝ) : EReal) := by
  pointwise [hGate]
  refine (hy _ _).trans ?_
  rfl

theorem hSig_at (hy : ∀ i k, a (ix2 i k) = ((I.y i (lo k) : ℝ) : EReal)) (i : Fin 8192) (k : Fin 2816) :
    hSig a (ix2 i k) = ((I.sg i k : ℝ) : EReal) := by
  have hp : (1 + Real.exp (-I.y i (lo k))) ≠ 0 := by have := Real.exp_pos (-I.y i (lo k)); positivity
  pointwise [hSig, hy, c_one, ← EReal.coe_neg, Ideal.exp_coe, ← EReal.coe_one, ← EReal.coe_add]
  rw [div_coe_coe _ _ hp, one_div]
  rfl

theorem hAct_at (hy : ∀ i c, y (ix2 i c) = ((I.y i c : ℝ) : EReal)) (i : Fin 8192) (k : Fin 2816) :
    hAct y (ix2 i k) = ((I.act i k : ℝ) : EReal) := by
  have e : extractStridedSlice S8192x2816 ![0, 2816] y slices_S8192x5632_S8192x2816_0_2816 (ix2 i k) = ((I.y i (hi k) : ℝ) : EReal) := by
    pointwise
    refine (hy _ _).trans ?_
    congr 3
    exact Nat.add_comm _ _
  unfold hAct
  simp only [mulf_apply]
  rw [e, hGate_at I y hy, hSig_at I (hGate y) (hGate_at I y hy)]
  pointwise [← EReal.coe_mul]
  rfl

theorem hF_at (ha : ∀ i k, a (ix2 i k) = ((I.act i k : ℝ) : EReal)) (hW : ∀ k d, Wd (ix2 k d) = ((I.Wd k d : ℝ) : EReal))
    (i : Fin 8192) (d : Fin 1024) : hF a Wd (ix2 i d) = ((I.f i d : ℝ) : EReal) := by
  pointwise [hF, dot_S8192x2816_S2816x1024_S8192x1024_1_0_0_1_n_n, ha, hW, ← EReal.coe_mul, coe_sum]
  rfl

theorem hUpC_at (k : Fin 8) (i : Fin 8192) (c : Fin 704) : hUpC u (ix3 k i c) = u (ix2 i (col k c)) := by
  pointwise [hUpC]
  rfl

theorem hMod_at (r : Fin 6) (d : Fin 1024) : hMod md (ix2 r d) = md (ix2 0 (⟨r.val * 1024 + d.val, by omega⟩ : Fin 6144)) := by
  pointwise [hMod]

theorem hWup_at (k : Fin 8) (d : Fin 1024) (c : Fin 704) : hWup W (ix3 k d c) = W (ix2 d (col k c)) := by
  pointwise [hWup]
  rfl

theorem hCw_at (k : Fin 8) (a : Fin 3) (c : Fin 704) : hCw cw (ix3 k a c) = cw (ix2 a (col k c)) := by
  pointwise [hCw]
  rfl

theorem hCb_at (k : Fin 8) (c : Fin 704) : hCb cb (ix2 k c) = cb (ix2 0 (col k c)) := by
  pointwise [hCb]
  rfl

theorem hWd_at (k : Fin 2816) (d : Fin 1024) : hWd Wd (ix2 k d) = Wd (ix2 k d) := by
  pointwise [hWd]

end

end Cert.Kernel.Own
-- ==== Proof.FfnState.lean ====
/-
  What each point of the forward call loads, and what it leaves: the tile's rows, the loss so far, and the projection's
  last eight rows, which the next point finds. Point `t` takes tile `t`.
-/
module

public import proofs.«01_k».proof.Proof.FfnTile
public import proofs.«01_k».proof.Proof.HostAt
public import proofs.«01_k».proof.Proof.State

@[expose] public section

set_option maxRecDepth 16384

noncomputable section

namespace Cert.FfnIdeal.Own

open Cert.FfnIdeal Cert.FfnIdeal.Gen Cert.FwdSpec
open Idealize.ShloMosaic Idealize.ShloMosaic.TcCoe Idealize.ShloMosaic.Tactic
open Cert.Kernel.Own (idx2_eq idx3_eq Rows Row Cols addRow rUp rHalo rCw rCb rWup rWd rMod rRows rRow zero row rowB col colD hMod hWup hCw hCb hWd hMod_at hWup_at
  hCw_at hCb_at hWd_at load_at load_halo cast_halo cast_halo' canon_map canon_acc rUp_emb rUp_off rHalo_emb rHalo_off rCw_emb rCb_emb
  rWup_emb rWd_emb rMod_emb rRows_emb rRow_emb off_zero2 zeros3 all_order not_mem_before before_nodup)

/-- The tile of point `t`. -/
def tile (t : ℕ) : Fin 32 := ⟨t % 32, Nat.mod_lt _ (by decide)⟩

theorem index_in : ∀ t : Fin grid0.N, win0_0.index t 0 = t.val % 32 ∧ win0_0.index t 1 = 0 ∧ win0_1.index t 0 = t.val % 32 ∧ win0_1.index t 1 = 0
    ∧ win0_2.index t 0 = 0 ∧ win0_2.index t 1 = 0 ∧ win0_3.index t 0 = 0 ∧ win0_3.index t 1 = 0 ∧ win0_4.index t 0 = 0 ∧ win0_4.index t 1 = 0
    ∧ win0_5.index t 0 = 0 ∧ win0_5.index t 1 = 0 ∧ win0_5.index t 2 = 0 ∧ win0_6.index t 0 = 0 ∧ win0_6.index t 1 = 0 ∧ win0_6.index t 2 = 0
    ∧ win0_7.index t 0 = 0 ∧ win0_7.index t 1 = 0 ∧ win0_8.index t 0 = 0 ∧ win0_8.index t 1 = 0 := by decide +kernel

section blocks
variable (m : (ℓ : Loc nD τ sig) → Buf (Elt Ideal) ℓ) (c : Dev nD) (t : Fin cfg0.N)

theorem blk0 (i : Fin 256) (d : Fin 1024) : iblk m c 0 t (ix2 i d) = V m c main_arg0 (ix2 (row (tile t.val) i) d) := by
  have h := index_in t
  unfold iblk
  rw [View.read_apply]
  exact congrArg (V m c main_arg0) (idx2_eq _ _
    (by show win0_0.index t 0 * 256 + 1 * i.val = t.val % 32 * 256 + i.val; omega) (by show win0_0.index t 1 * 1024 + 1 * d.val = d.val; omega))
theorem blk1 (i : Fin 256) (d : Fin 1024) : iblk m c 1 t (ix2 i d) = V m c main_arg1 (ix2 (row (tile t.val) i) d) := by
  have h := index_in t
  unfold iblk
  rw [View.read_apply]
  exact congrArg (V m c main_arg1) (idx2_eq _ _
    (by show win0_1.index t 0 * 256 + 1 * i.val = t.val % 32 * 256 + i.val; omega) (by show win0_1.index t 1 * 1024 + 1 * d.val = d.val; omega))
theorem blk2 (r : Fin 6) (d : Fin 1024) : iblk m c 2 t (ix2 r d) = V m c main_v0 (ix2 r d) := by
  have h := index_in t
  unfold iblk
  rw [View.read_apply]
  exact congrArg (V m c main_v0) (idx2_eq _ _
    (by show win0_2.index t 0 * 6 + 1 * r.val = r.val; omega) (by show win0_2.index t 1 * 1024 + 1 * d.val = d.val; omega))
theorem blk3 (z : Fin 1) (d : Fin 1024) : iblk m c 3 t (ix2 z d) = V m c main_arg3 (ix2 0 d) := by
  have h := index_in t
  unfold iblk
  rw [View.read_apply]
  exact congrArg (V m c main_arg3) (idx2_eq _ _
    (by show win0_3.index t 0 * 1 + 1 * z.val = 0; omega) (by show win0_3.index t 1 * 1024 + 1 * d.val = d.val; omega))
theorem blk4 (z : Fin 1) (d : Fin 1024) : iblk m c 4 t (ix2 z d) = V m c main_arg4 (ix2 0 d) := by
  have h := index_in t
  unfold iblk
  rw [View.read_apply]
  exact congrArg (V m c main_arg4) (idx2_eq _ _
    (by show win0_4.index t 0 * 1 + 1 * z.val = 0; omega) (by show win0_4.index t 1 * 1024 + 1 * d.val = d.val; omega))
theorem blk5 (k : Fin 8) (d : Fin 1024) (b : Fin 704) : iblk m c 5 t (ix3 k d b) = V m c main_v3 (ix3 k d b) := by
  have h := index_in t
  unfold iblk
  rw [View.read_apply]
  exact congrArg (V m c main_v3) (idx3_eq _ _ (by show win0_5.index t 0 * 8 + 1 * k.val = k.val; omega)
    (by show win0_5.index t 1 * 1024 + 1 * d.val = d.val; omega) (by show win0_5.index t 2 * 704 + 1 * b.val = b.val; omega))
theorem blk6 (k : Fin 8) (a : Fin 3) (b : Fin 704) : iblk m c 6 t (ix3 k a b) = V m c main_v5 (ix3 k a b) := by
  have h := index_in t
  unfold iblk
  rw [View.read_apply]
  exact congrArg (V m c main_v5) (idx3_eq _ _ (by show win0_6.index t 0 * 8 + 1 * k.val = k.val; omega)
    (by show win0_6.index t 1 * 3 + 1 * a.val = a.val; omega) (by show win0_6.index t 2 * 704 + 1 * b.val = b.val; omega))
theorem blk7 (k : Fin 8) (b : Fin 704) : iblk m c 7 t (ix2 k b) = V m c main_v6 (ix2 k b) := by
  have h := index_in t
  unfold iblk
  rw [View.read_apply]
  exact congrArg (V m c main_v6) (idx2_eq _ _
    (by show win0_7.index t 0 * 8 + 1 * k.val = k.val; omega) (by show win0_7.index t 1 * 704 + 1 * b.val = b.val; omega))
theorem blk8 (k : Fin 2816) (d : Fin 1024) : iblk m c 8 t (ix2 k d) = V m c main_v7 (ix2 k d) := by
  have h := index_in t
  unfold iblk
  rw [View.read_apply]
  exact congrArg (V m c main_v7) (idx2_eq _ _
    (by show win0_8.index t 0 * 2816 + 1 * k.val = k.val; omega) (by show win0_8.index t 1 * 1024 + 1 * d.val = d.val; omega))

theorem V_mod : V m c main_v0 = hMod (V m c main_arg2) := by sl_kernel_rfl
theorem V_wup : V m c main_v3 = hWup (V m c main_arg5) := by sl_kernel_rfl
theorem V_cw : V m c main_v5 = hCw (V m c main_arg6) := by sl_kernel_rfl
theorem V_cb : V m c main_v6 = hCb (V m c main_arg7) := by sl_kernel_rfl
theorem V_wd : V m c main_v7 = hWd (V m c main_arg8) := by sl_kernel_rfl

/-- The program's arguments, as the specification names them. -/
def inp : Inp where
  x i d := V m c main_arg0 (ix2 i d)
  tgt i d := V m c main_arg1 (ix2 i d)
  md d := V m c main_arg2 (ix2 0 d)
  g3 d := V m c main_arg3 (ix2 0 d)
  g4 d := V m c main_arg4 (ix2 0 d)
  W d b := V m c main_arg5 (ix2 d b)
  cw a b := V m c main_arg6 (ix2 a b)
  cb b := V m c main_arg7 (ix2 0 b)
  Wd k d := V m c main_arg8 (ix2 k d)

theorem mod_at (r : Fin 6) (d : Fin 1024) : V m c main_v0 (ix2 r d) = (inp m c).md ⟨r.val * 1024 + d.val, by omega⟩ := by
  rw [V_mod]; exact hMod_at _ r d
theorem wup_at (k : Fin 8) (d : Fin 1024) (b : Fin 704) : V m c main_v3 (ix3 k d b) = (inp m c).W d (col k b) := by
  rw [V_wup]; exact hWup_at _ k d b
theorem cw_at (k : Fin 8) (a : Fin 3) (b : Fin 704) : V m c main_v5 (ix3 k a b) = (inp m c).cw a (col k b) := by
  rw [V_cw]; exact hCw_at _ k a b
theorem cb_at (k : Fin 8) (b : Fin 704) : V m c main_v6 (ix2 k b) = (inp m c).cb (col k b) := by
  rw [V_cb]; exact hCb_at _ k b
theorem wd_at (k : Fin 2816) (d : Fin 1024) : V m c main_v7 (ix2 k d) = (inp m c).Wd k d := by
  rw [V_wd]; exact hWd_at _ k d

set_option maxHeartbeats 2000000 in
/-- Each point loads its tile. -/
theorem at_tile : At (inp m c) (tile t.val) (ins m c t) where
  x i d := (load_at (hs0_0 t) _ rRows _).trans ((congrArg _ (rRows_emb i d)).trans (blk0 m c t i d))
  tgt i d := (load_at (hs0_1 t) _ rRows _).trans ((congrArg _ (rRows_emb i d)).trans (blk1 m c t i d))
  sh z d := (load_at (hs0_2 t) _ (rMod 3) _).trans (((congrArg _ (rMod_emb 3 z d)).trans (blk2 m c t 3 d)).trans (mod_at m c 3 d))
  sc z d := (load_at (hs0_2 t) _ (rMod 4) _).trans (((congrArg _ (rMod_emb 4 z d)).trans (blk2 m c t 4 d)).trans (mod_at m c 4 d))
  gf z d := (load_at (hs0_2 t) _ (rMod 5) _).trans (((congrArg _ (rMod_emb 5 z d)).trans (blk2 m c t 5 d)).trans (mod_at m c 5 d))
  g3 z d := (load_at (hs0_3 t) _ rRow _).trans ((congrArg _ (rRow_emb z d)).trans (blk3 m c t z d))
  g4 z d := (load_at (hs0_4 t) _ rRow _).trans ((congrArg _ (rRow_emb z d)).trans (blk4 m c t z d))
  wup k z d b := (load_at (hs0_5 t) _ (rWup k) _).trans (((congrArg _ (rWup_emb k z d b)).trans (blk5 m c t k d b)).trans (wup_at m c k d b))
  cw k z a b := (load_at (hs0_6 t) _ (rCw k) _).trans (((congrArg _ (rCw_emb k z a b)).trans (blk6 m c t k a b)).trans (cw_at m c k a b))
  cb k z b := (load_at (hs0_7 t) _ (rCb k) _).trans (((congrArg _ (rCb_emb k z b)).trans (blk7 m c t k b)).trans (cb_at m c k b))
  wd j b d := (load_at (hs0_8 t) _ (rWd j) _).trans (((congrArg _ (rWd_emb j b d)).trans (blk8 m c t _ d)).trans (wd_at m c _ d))
end blocks

theorem rAct_emb (j : Fin 4) (z : Fin 1) (i : Fin 256) (c : Fin 704) : (rAct j).emb (ix3 z i c) = ix3 j i c := idx3_eq _ _ (by simp) (by simp) (by simp)
theorem rAct_off (k k' : Fin 4) (x : (rAct k).shape.Idx) (h : k ≠ k') : (rAct k).emb x ∉ (rAct k').set := by
  intro hm
  obtain ⟨j, hj, e⟩ := (LoadRect.mem_set _).mp hm 0
  have h0 := (x 0).isLt
  simp [Rect.emb_apply] at e hj h0
  exact h (Fin.ext (by omega))

theorem all_order4 : ∀ j : Fin 4, j ∈ order4 := by decide

theorem cast_chunk {φ : FTy} (X : FVec Ideal S256x704 φ) (i : Fin 256) (c : Fin 704) :
    shapeCast S1x256x704 X shapeCasts_S256x704_S1x256x704 (ix3 0 i c) = X (ix2 i c) := by pointwise []

theorem addRow_eq (v t : Row Ideal) (z : Fin 1) (d : Fin 1024) : addRow v t (ix2 z d) = v (ix2 z d) + t (ix2 z d) := by
  unfold addRow
  rw [shapeCast_self]
  rfl

/-- What the tile's and the earlier tiles' rows sum to. -/
def upto (g : Fin 8192 → EReal) (n : ℕ) : EReal := ∑ s ∈ Finset.range (n + 1), ∑ i : Fin 256, g (row (tile s) i)

variable (m : (ℓ : Loc nD τ sig) → Buf (Elt Ideal) ℓ)

/-- What point `n` leaves. -/
structure Holds (c : Dev nD) (n : ℕ) (hn : n < cfg0.N) : Prop where
  up : ∀ k i b, (outsAt0 m c n hn).1 (ix3 k i b) = (inp m c).up (row (tile n) i) (col k b)
  act : ∀ j i b, (outsAt0 m c n hn).2.1 (ix3 j i b) = (inp m c).act (row (tile n) i) (colD j b)
  f : ∀ i d, (outsAt0 m c n hn).2.2.1 (ix2 i d) = (inp m c).f (row (tile n) i) d
  dx2 : ∀ i d, (outsAt0 m c n hn).2.2.2.1 (ix2 i d) = (inp m c).dx2 (row (tile n) i) d
  loss : ∀ (z : Fin 1) d, (outsAt0 m c n hn).2.2.2.2.1 (ix2 z d) = upto (fun r => (inp m c).err r d * (inp m c).err r d) n
  kept : ∀ k (s : Fin 8) b, (outsAt0 m c n hn).2.2.2.2.2 (ix3 k s b) = (inp m c).up (row (tile n) ⟨248 + s.val, by omega⟩) (col k b)

section stored
variable {I : Inp} {b : Fin 32} {L : Ins Ideal} (H : At I b L) {a : Halo Ideal} (B : Before I b a)

/-- The chunks stored, read at an index. -/
theorem upL_at (k : Fin 8) (i : Fin 256) (c : Fin 704) (H : At I b L) : View.canon (upL L) (ix3 k i c) = I.up (row b i) (col k c) := by
  rw [← rUp_emb k 0 i c]
  exact (canon_map rUp _ (fun k k' x h => rUp_off k k' x h) k (ix3 0 i c) _ (all_order k)).trans ((cast_chunk _ i c).trans (H.up_at k i c))
theorem actL_at (j : Fin 4) (i : Fin 256) (c : Fin 704) (H : At I b L) (B : Before I b a) :
    View.canon (actL L a) (ix3 j i c) = I.act (row b i) (colD j c) := by
  rw [← rAct_emb j 0 i c]
  exact (canon_map rAct _ (fun k k' x h => rAct_off k k' x h) j (ix3 0 i c) _ (all_order4 j)).trans ((cast_chunk _ i c).trans (H.act_at B j i c))
end stored

theorem holds_later (c : Dev nD) (n : ℕ) (hn : n + 1 < cfg0.N) (P : Holds m c n (Nat.lt_of_succ_lt hn)) : Holds m c (n + 1) hn := by
  have hN : n + 1 < 32 := lt_of_lt_of_eq hn N_0
  let t : Fin cfg0.N := ⟨n + 1, hn⟩
  have h0 : ¬ t.val % 32 = 0 := by show ¬ (n + 1) % 32 = 0; omega
  have H := at_tile m c t
  have B : Before (inp m c) (tile (n + 1)) (haloB m c t) := fun k s b => by
    unfold haloB
    rw [cast_halo]
    refine (load_halo (Memref.isWhole_whole _) (kept m c t) k 0 s b).trans ((P.kept k s b).trans ?_)
    rw [if_neg (by show ¬ (n + 1) % 32 = 0; omega)]
    congr 1; apply Fin.ext; simp only [row, rowB, tile]; omega
  refine ⟨fun k i b => ?_, fun j i b => ?_, fun i d => ?_, fun i d => ?_, fun z d => ?_, fun k s b => ?_⟩
  · exact (congrFun (upB m c t h0) _).trans (upL_at k i b H)
  · exact (congrFun (actB m c t h0) _).trans (actL_at j i b H B)
  · refine (congrFun (fB m c t h0) _).trans ?_
    rw [View.canon_unit_zero off_zero2]
    exact H.f_at B i d
  · refine (congrFun (dxB m c t h0) _).trans ?_
    rw [View.canon_unit_zero off_zero2]
    exact H.dx2_at B i d
  · refine (congrFun (lossB_eq m c t h0) _).trans ?_
    rw [View.canon_unit_zero off_zero2, addRow_eq, H.loss_at B, upto, Finset.sum_range_succ]
    refine congrArg (· + _) ?_
    exact ((load_at (hs0_13 t) (lossB m c t) rRow (ix2 z d)).trans (congrArg (lossB m c t) (rRow_emb z d))).trans (P.loss z d)
  · refine (congrFun (keptB m c t h0) _).trans ?_
    rw [← rHalo_emb k 0 s b]
    exact (canon_map rHalo _ (fun k k' x h => rHalo_off k k' x h) k (ix3 0 s b) _ (all_order k)).trans ((cast_halo' _ s b).trans (H.tail_at k s b))

/-- The carried rows at the first point, after the stores of the chunks of `l`. -/
theorem keptL_at (c : Dev nD) (t : Fin cfg0.N) (l : List (Fin 8)) (hl : l.Nodup) (k : Fin 8) (s : Fin 8) (b : Fin 704) :
    View.canon (keptL m c t l) (ix3 k s b) = if k ∈ l then shapeCast S1x8x704 ((ins m c t).tail k) shapeCasts_S8x704_S1x8x704 (ix3 0 s b) else 0 := by
  have h := canon_acc (Val := Elt Ideal) (e := .f32) rHalo scM0_0.view
    ⟨Rect.unit ![0, 0, 0] S8x8x704.size inb_S8x8x704_S8x8x704_0_0_0, zero (F := Ideal) S8x8x704⟩ (keptL m c t)
    (fun k _ => shapeCast S1x8x704 ((ins m c t).tail k) shapeCasts_S8x704_S1x8x704) rfl (fun _ _ => rfl)
    (fun k k' x h => rHalo_off k k' x h) k (ix3 0 s b) l hl
  rw [rHalo_emb] at h
  rw [h]
  congr 1
  exact (zeros3 _ _).trans EReal.coe_zero

theorem holds_first (c : Dev nD) (hn : 0 < cfg0.N) : Holds m c 0 hn := by
  let t : Fin cfg0.N := ⟨0, hn⟩
  have h0 : t.val % 32 = 0 := rfl
  have H := at_tile m c t
  have B : Before (inp m c) (tile 0) (haloA m c t) := fun k s b => by
    unfold haloA
    rw [cast_halo, View.readCov_eq_canon']
    refine (congrArg (View.canon _) (rHalo_emb k 0 s b)).trans ?_
    rw [keptL_at m c t _ (before_nodup k), if_neg (not_mem_before k)]
    exact (if_pos rfl).symm
  refine ⟨fun k i b => ?_, fun j i b => ?_, fun i d => ?_, fun i d => ?_, fun z d => ?_, fun k s b => ?_⟩
  · exact (congrFun (upA m c t h0) _).trans (upL_at k i b H)
  · exact (congrFun (actA m c t h0) _).trans (actL_at j i b H B)
  · refine (congrFun (fA m c t h0) _).trans ?_
    rw [View.canon_unit_zero off_zero2]
    exact H.f_at B i d
  · refine (congrFun (dxA m c t h0) _).trans ?_
    rw [View.canon_unit_zero off_zero2]
    exact H.dx2_at B i d
  · refine (congrFun (lossA_eq m c t h0) _).trans ?_
    rw [View.canon_cons_unit_zero off_zero2, View.readCov_cons_toLoadRect, addRow_eq, H.loss_at B, upto, Finset.sum_range_one]
    exact (congrArg (· + _) zero_word).trans (zero_add _)
  · refine (congrFun (keptA m c t h0) _).trans ?_
    rw [keptL_at m c t _ (by decide), if_pos (all_order k)]
    exact (cast_halo' _ s b).trans (H.tail_at k s b)

/-- Every point leaves what it should. -/
theorem holds (c : Dev nD) (n : ℕ) (hn : n < cfg0.N) : Holds m c n hn := by
  induction n with
  | zero => exact holds_first m c hn
  | succ n ih => exact holds_later m c n hn (ih _)

end Cert.FfnIdeal.Own

end
-- ==== Proof.FfnRef.lean ====
/-
  What the forward call's reference computes, read at an index: the functions of FfnSpec.lean.
-/
module

public import proofs.«01_k».proof.Proof.FfnSpec
public import proofs.«01_k».proof.Proof.Gen.FfnReferenceIdeal.Read

@[expose] public section

set_option maxRecDepth 16384

noncomputable section

namespace Cert.FfnRef

open Cert.FfnReferenceIdeal Cert.FfnReferenceIdeal.Gen Cert.FfnReferenceIdeal.Read Cert.FwdSpec
open Cert.Spec (lo hi c_zero c_half c_1024 div_coe_coe)
open Idealize.ShloMosaic Idealize.ShloMosaic.TcCoe

/-- Contents of an `f32` buffer of shape `s` in the idealized program. -/
abbrev T (s : Shape) : Type := (⟨s, .f32⟩ : BufTy).Contents (Elt Ideal)

/-- The nine arguments. -/
structure Args where
  a0 : T S8192x1024
  a1 : T S8192x1024
  a2 : T S1x6144
  a3 : T S1x1024
  a4 : T S1x1024
  a5 : T S1024x5632
  a6 : T S3x5632
  a7 : T S1x5632
  a8 : T S2816x1024

/-- They, as the specification names them. -/
def Args.inp (A : Args) : Inp where
  x i d := A.a0 (ix2 i d)
  tgt i d := A.a1 (ix2 i d)
  md d := A.a2 (ix2 0 d)
  g3 d := A.a3 (ix2 0 d)
  g4 d := A.a4 (ix2 0 d)
  W d c := A.a5 (ix2 d c)
  cw a c := A.a6 (ix2 a c)
  cb c := A.a7 (ix2 0 c)
  Wd k d := A.a8 (ix2 k d)

variable (A : Args)

theorem sh_eq (d : Fin 1024) : val_main_v3 (F := Ideal) A.a2 (ix2 0 d) = A.inp.sh d := by
  pointwise [val_main_v3]
  rfl
theorem sc_eq (d : Fin 1024) : val_main_v4 (F := Ideal) A.a2 (ix2 0 d) = A.inp.sc d := by
  pointwise [val_main_v4]
  rfl
theorem gf_eq (d : Fin 1024) : val_main_v5 (F := Ideal) A.a2 (ix2 0 d) = A.inp.gf d := by
  pointwise [val_main_v5]
  rfl

theorem r3_eq (i : Fin 8192) (b : Fin 1) : val_main_v13 (F := Ideal) A.a0 (ix2 i b) = scale (A.inp.x i) := by
  pointwise [val_main_v13, val_main_v12, val_main_v11, val_main_cst_1, val_main_v10, val_main_v9, val_main_cst_0, val_main_v8,
    val_main_v7, val_main_cst, val_main_v6, zero_word, zero_add]
  rfl

theorem h_eq (i : Fin 8192) (d : Fin 1024) : val_main_v23 (F := Ideal) A.a0 A.a2 A.a3 (ix2 i d) = A.inp.h i d := by
  pointwise [val_main_v23, val_main_v22, val_main_v21, val_main_v20, val_main_v19, val_main_v18, val_main_cst_2, val_main_v17,
    val_main_v16, val_main_v15, val_main_v14, r3_eq A, sh_eq A,
    sc_eq A, one_word]
  rfl

theorem up_eq (i : Fin 8192) (c : Fin 5632) : val_main_v24 (F := Ideal) A.a0 A.a2 A.a3 A.a5 (ix2 i c) = A.inp.up i c := by
  pointwise [val_main_v24, dot_S8192x1024_S1024x5632_S8192x5632_1_0_0_1_n_n, h_eq A]
  rfl

/-- The projection with two rows of zeros before it. -/
theorem padded_eq (i : Fin 8194) (c : Fin 5632) : val_main_v26 (F := Ideal) A.a0 A.a2 A.a3 A.a5 (ix2 i c)
    = if _ : 2 ≤ i.val then A.inp.up ⟨i.val - 2, by omega⟩ c else 0 := by
  unfold val_main_v26
  by_cases h : 2 ≤ i.val
  · rw [dif_pos h, ← up_eq]
    exact concatenate_pair_apply_right (t := S8194x5632) (s₁ := S2x5632) (s₂ := S8192x5632) 0 _ _ _ (ix2 i c) rfl rfl
      (ix2 (⟨i.val - 2, by omega⟩ : Fin 8192) c)
      (fun b hb => match b, hb with
        | ⟨1, _⟩, _ => rfl
        | ⟨0, _⟩, hb => absurd rfl hb) (by show i.val - 2 + 2 = i.val; omega)
  · rw [dif_neg h]
    refine (concatenate_pair_apply_left (t := S8194x5632) (s₁ := S2x5632) (s₂ := S8192x5632) 0 _ _ _ (ix2 i c) rfl
      (ix2 (⟨i.val, by omega⟩ : Fin 2) c)
      (fun b => match b with
        | ⟨0, _⟩ => rfl
        | ⟨1, _⟩ => rfl)).trans ?_
    pointwise [val_main_v25, val_main_cst_3, zero_word]

/-- Rows `n` before, of the padded projection. -/
theorem shift (n : ℕ) (hn : n ≤ 2) (i : Fin 8192) (c : Fin 5632) (p : Fin 8194) (hp : p.val + n = i.val + 2) :
    val_main_v26 (F := Ideal) A.a0 A.a2 A.a3 A.a5 (ix2 p c) = down n (fun r => A.inp.up r c) i := by
  rw [padded_eq A, down]
  by_cases h : n ≤ i.val
  · rw [dif_pos h, dif_pos (by omega)]
    congr 2
    omega
  · rw [dif_neg h, dif_neg (by omega)]

theorem down2_eq (i : Fin 8192) (c : Fin 5632) : val_main_v27 (F := Ideal) A.a0 A.a2 A.a3 A.a5 (ix2 i c) = down 2 (fun r => A.inp.up r c) i := by
  pointwise [val_main_v27]
  exact shift A 2 (by omega) i c _ (by show i.val + 2 = i.val + 2; rfl)
theorem down1_eq (i : Fin 8192) (c : Fin 5632) : val_main_v35 (F := Ideal) A.a0 A.a2 A.a3 A.a5 (ix2 i c) = down 1 (fun r => A.inp.up r c) i := by
  pointwise [val_main_v35]
  exact shift A 1 (by omega) i c _ (by show 1 + i.val + 1 = i.val + 2; omega)
theorem down0_eq (i : Fin 8192) (c : Fin 5632) : val_main_v42 (F := Ideal) A.a0 A.a2 A.a3 A.a5 (ix2 i c) = A.inp.up i c := by
  pointwise [val_main_v42]
  exact (shift A 0 (by omega) i c _ (by show 2 + i.val + 0 = i.val + 2; omega)).trans (dif_pos (Nat.zero_le _))

theorem y_eq (i : Fin 8192) (c : Fin 5632) : val_main_v48 (F := Ideal) A.a0 A.a2 A.a3 A.a5 A.a6 A.a7 (ix2 i c) = A.inp.y i c := by
  pointwise [val_main_v48, val_main_v47, val_main_v46, val_main_v45, val_main_v44, val_main_v43, val_main_v41, val_main_v40,
    val_main_v39, val_main_v38, val_main_v37, val_main_v36, val_main_v34, val_main_v33, val_main_v32, val_main_v31, val_main_v30,
    val_main_v29, val_main_v28, down2_eq A, down1_eq A,
    down0_eq A]
  rfl

theorem gate_eq (i : Fin 8192) (k : Fin 2816) : val_main_v49 (F := Ideal) A.a0 A.a2 A.a3 A.a5 A.a6 A.a7 (ix2 i k) = A.inp.y i (lo k) := by
  pointwise [val_main_v49]
  exact (y_eq A _ _).trans rfl
theorem value_eq (i : Fin 8192) (k : Fin 2816) : val_main_v50 (F := Ideal) A.a0 A.a2 A.a3 A.a5 A.a6 A.a7 (ix2 i k) = A.inp.y i (hi k) := by
  pointwise [val_main_v50]
  refine (y_eq A _ _).trans ?_
  congr 2
  exact Nat.add_comm _ _

theorem act_eq (i : Fin 8192) (k : Fin 2816) : val_main_v52 (F := Ideal) A.a0 A.a2 A.a3 A.a5 A.a6 A.a7 (ix2 i k) = A.inp.act i k := by
  pointwise [val_main_v52, val_main_v51, val_main_call0_v5, val_main_call0_v4, val_main_call0_cst_0, val_main_call0_v3,
    val_main_call0_v2, val_main_call0_cst, val_main_call0_v1, val_main_call0_v0, gate_eq A,
    value_eq A, one_word]
  rfl

/-- The second projection. -/
theorem f_eq (i : Fin 8192) (d : Fin 1024) : val_main_v53 (F := Ideal) A.a0 A.a2 A.a3 A.a5 A.a6 A.a7 A.a8 (ix2 i d) = A.inp.f i d := by
  pointwise [val_main_v53, dot_S8192x2816_S2816x1024_S8192x1024_1_0_0_1_n_n, act_eq A]
  rfl

theorem r4_eq (i : Fin 8192) (b : Fin 1) : val_main_v61 (F := Ideal) A.a0 A.a2 A.a3 A.a5 A.a6 A.a7 A.a8 (ix2 i b) = scale (A.inp.f i) := by
  pointwise [val_main_v61, val_main_v60, val_main_v59, val_main_cst_6, val_main_v58, val_main_v57, val_main_cst_5, val_main_v56,
    val_main_v55, val_main_cst_4, val_main_v54, f_eq A, zero_word, zero_add]
  rfl

theorem x2_eq (i : Fin 8192) (d : Fin 1024) : val_main_v68 (F := Ideal) A.a0 A.a2 A.a3 A.a4 A.a5 A.a6 A.a7 A.a8 (ix2 i d)
    = A.inp.x i d + A.inp.gf d * (A.inp.f i d * scale (A.inp.f i) * A.inp.g4 d) := by
  pointwise [val_main_v68, val_main_v67, val_main_v66, val_main_v65, val_main_v64, val_main_v63, val_main_v62,
    f_eq A, r4_eq A, gf_eq A]
  rfl

/-- The output's cotangent. -/
theorem dx2_eq (i : Fin 8192) (d : Fin 1024) : val_main_v83 (F := Ideal) A.a0 A.a1 A.a2 A.a3 A.a4 A.a5 A.a6 A.a7 A.a8 (ix2 i d) = A.inp.dx2 i d := by
  have two : Ideal.ofBits .f32 0x40000000#32 = ((2 : ℝ) : EReal) := by
    simp [Ideal.ofBits, Ideal.ieee, -EReal.coe_mul]; norm_num
  pointwise [val_main_v83, val_main_v82, val_main_v81, val_main_v80, val_main_cst_14, val_main_v79, val_main_v78, val_main_cst_13,
    val_main_cst_12, val_main_v72, val_main_v71, val_main_cst_7, val_main_v69, x2_eq A, c_half, one_word, mul_one,
    c_1024, Ideal.div_coe (show (1024 : ℝ) ≠ 0 by norm_num), two, ← EReal.coe_mul, half_twice]
  rfl

/-- The projection by chunk. -/
theorem up_out (k : Fin 8) (i : Fin 8192) (c : Fin 704) : val_main_v85 (F := Ideal) A.a0 A.a2 A.a3 A.a5 (ix3 k i c)
    = A.inp.up i ⟨k.val * 704 + c.val, by omega⟩ := by
  pointwise [val_main_v85, val_main_v84]
  refine Eq.trans ?_ (up_eq A i _)
  congr 1

/-- The gated product by chunk. -/
theorem act_out (j : Fin 4) (i : Fin 8192) (c : Fin 704) : val_main_v88 (F := Ideal) A.a0 A.a2 A.a3 A.a5 A.a6 A.a7 (ix3 j i c)
    = A.inp.act i ⟨j.val * 704 + c.val, by omega⟩ := by
  pointwise [val_main_v88, val_main_v87, val_main_v86]
  refine Eq.trans ?_ (act_eq A i _)
  congr 1

/-- The loss by feature. -/
theorem loss_out (z : Fin 1) (d : Fin 1024) : val_main_v92 (F := Ideal) A.a0 A.a1 A.a2 A.a3 A.a4 A.a5 A.a6 A.a7 A.a8 (ix2 z d) = A.inp.loss d := by
  pointwise [val_main_v92, val_main_v91, val_main_cst_15, val_main_v90, val_main_v89, x2_eq A, zero_word, zero_add]
  rfl

end Cert.FfnRef

end
-- ==== Proof.Reads.lean ====
/-
  What each point's loads hold, element by element, of the program's arrays.
-/
module

public import proofs.«01_k».proof.Proof.HostAt
public import proofs.«01_k».proof.Proof.State

@[expose] public section

noncomputable section

namespace Cert.Kernel.Own

open Cert.Kernel Cert.Kernel.Gen Cert.Spec
open Idealize.ShloMosaic Idealize.ShloMosaic.TcCoe

/-- The blocks the windows stage at point `t`: the row blocks go from the last to the first. -/
theorem index_rows : ∀ t : Fin grid0.N, win0_0.index t 0 = 31 - t.val ∧ win0_0.index t 1 = 0
    ∧ win0_1.index t 0 = 31 - t.val ∧ win0_1.index t 1 = 0 ∧ win0_2.index t 0 = 31 - t.val ∧ win0_2.index t 1 = 0 := by decide +kernel

theorem index_up : ∀ t : Fin grid0.N, win0_3.index t 0 = 0 ∧ win0_3.index t 1 = 31 - t.val ∧ win0_3.index t 2 = 0
    ∧ win0_4.index t 0 = 0 ∧ win0_4.index t 1 = (31 - t.val) * 32 - 1 ∧ win0_4.index t 2 = 0 := by decide +kernel

theorem index_whole : ∀ t : Fin grid0.N, win0_5.index t 0 = 0 ∧ win0_5.index t 1 = 0 ∧ win0_6.index t 0 = 0 ∧ win0_6.index t 1 = 0
    ∧ win0_7.index t 0 = 0 ∧ win0_7.index t 1 = 0 ∧ win0_8.index t 0 = 0 ∧ win0_8.index t 1 = 0 ∧ win0_8.index t 2 = 0
    ∧ win0_9.index t 0 = 0 ∧ win0_9.index t 1 = 0 ∧ win0_9.index t 2 = 0 ∧ win0_10.index t 0 = 0 ∧ win0_10.index t 1 = 0
    ∧ win0_11.index t 0 = 0 ∧ win0_11.index t 1 = 0 := by decide +kernel

variable (m : (ℓ : Loc nD τ sig) → Buf (Elt Ideal) ℓ) (c : Dev nD) (t : Fin cfg0.N)

theorem blk0 (i : Fin 256) (d : Fin 1024) : iblk m c 0 t (ix2 i d) = V m c main_arg1 (ix2 (row (tile t.val) i) d) := by
  have h := index_rows t
  unfold iblk
  rw [View.read_apply]
  show V m c main_arg1 _ = _
  congr 1
  funext a
  apply Fin.ext
  match a with
  | ⟨0, _⟩ => show win0_0.index t 0 * 256 + 1 * i.val = (31 - t.val) * 256 + i.val; rw [h.1]; omega
  | ⟨1, _⟩ => show win0_0.index t 1 * 1024 + 1 * d.val = d.val; rw [h.2.1]; omega

theorem blk1 (i : Fin 256) (d : Fin 1024) : iblk m c 1 t (ix2 i d) = V m c main_v53 (ix2 (row (tile t.val) i) d) := by
  obtain ⟨-, -, h0, h1, -, -⟩ := index_rows t
  unfold iblk
  rw [View.read_apply]
  show V m c main_v53 _ = _
  congr 1
  funext a
  apply Fin.ext
  match a with
  | ⟨0, _⟩ => show win0_1.index t 0 * 256 + 1 * i.val = (31 - t.val) * 256 + i.val; rw [h0]; omega
  | ⟨1, _⟩ => show win0_1.index t 1 * 1024 + 1 * d.val = d.val; rw [h1]; omega

theorem blk2 (i : Fin 256) (d : Fin 1024) : iblk m c 2 t (ix2 i d) = V m c main_arg0 (ix2 (row (tile t.val) i) d) := by
  obtain ⟨-, -, -, -, h0, h1⟩ := index_rows t
  unfold iblk
  rw [View.read_apply]
  show V m c main_arg0 _ = _
  congr 1
  funext a
  apply Fin.ext
  match a with
  | ⟨0, _⟩ => show win0_2.index t 0 * 256 + 1 * i.val = (31 - t.val) * 256 + i.val; rw [h0]; omega
  | ⟨1, _⟩ => show win0_2.index t 1 * 1024 + 1 * d.val = d.val; rw [h1]; omega

theorem blk3 (k : Fin 8) (i : Fin 256) (b : Fin 704) : iblk m c 3 t (ix3 k i b) = V m c main_v55 (ix3 k (row (tile t.val) i) b) := by
  obtain ⟨h0, h1, h2, -, -, -⟩ := index_up t
  unfold iblk
  rw [View.read_apply]
  show V m c main_v55 _ = _
  congr 1
  funext a
  apply Fin.ext
  match a with
  | ⟨0, _⟩ => show win0_3.index t 0 * 8 + 1 * k.val = k.val; rw [h0]; omega
  | ⟨1, _⟩ => show win0_3.index t 1 * 256 + 1 * i.val = (31 - t.val) * 256 + i.val; rw [h1]; omega
  | ⟨2, _⟩ => show win0_3.index t 2 * 704 + 1 * b.val = b.val; rw [h2]; omega

theorem blk4 (k : Fin 8) (s : Fin 8) (b : Fin 704) : iblk m c 4 t (ix3 k s b) = V m c main_v55 (ix3 k (rowB (tile t.val) s) b) := by
  obtain ⟨-, -, -, h0, h1, h2⟩ := index_up t
  unfold iblk
  rw [View.read_apply]
  show V m c main_v55 _ = _
  congr 1
  funext a
  apply Fin.ext
  match a with
  | ⟨0, _⟩ => show win0_4.index t 0 * 8 + 1 * k.val = k.val; rw [h0]; omega
  | ⟨1, _⟩ => show win0_4.index t 1 * 8 + 1 * s.val = (31 - t.val) * 256 - 8 + s.val; rw [h1]; omega
  | ⟨2, _⟩ => show win0_4.index t 2 * 704 + 1 * b.val = b.val; rw [h2]; omega

theorem blk5 (r : Fin 6) (d : Fin 1024) : iblk m c 5 t (ix2 r d) = V m c main_v56 (ix2 r d) := by
  obtain ⟨h0, h1, -, -, -, -, -, -, -, -, -, -, -, -, -, -⟩ := index_whole t
  unfold iblk
  rw [View.read_apply]
  show V m c main_v56 _ = _
  congr 1
  funext a
  apply Fin.ext
  match a with
  | ⟨0, _⟩ => show win0_5.index t 0 * 6 + 1 * r.val = r.val; rw [h0]; omega
  | ⟨1, _⟩ => show win0_5.index t 1 * 1024 + 1 * d.val = d.val; rw [h1]; omega

theorem blk6 (z : Fin 1) (d : Fin 1024) : iblk m c 6 t (ix2 z d) = V m c main_arg3 (ix2 z d) := by
  obtain ⟨-, -, h0, h1, -, -, -, -, -, -, -, -, -, -, -, -⟩ := index_whole t
  unfold iblk
  rw [View.read_apply]
  show V m c main_arg3 _ = _
  congr 1
  funext a
  apply Fin.ext
  match a with
  | ⟨0, _⟩ => show win0_6.index t 0 * 1 + 1 * z.val = z.val; rw [h0]; omega
  | ⟨1, _⟩ => show win0_6.index t 1 * 1024 + 1 * d.val = d.val; rw [h1]; omega

theorem blk7 (z : Fin 1) (d : Fin 1024) : iblk m c 7 t (ix2 z d) = V m c main_arg4 (ix2 z d) := by
  obtain ⟨-, -, -, -, h0, h1, -, -, -, -, -, -, -, -, -, -⟩ := index_whole t
  unfold iblk
  rw [View.read_apply]
  show V m c main_arg4 _ = _
  congr 1
  funext a
  apply Fin.ext
  match a with
  | ⟨0, _⟩ => show win0_7.index t 0 * 1 + 1 * z.val = z.val; rw [h0]; omega
  | ⟨1, _⟩ => show win0_7.index t 1 * 1024 + 1 * d.val = d.val; rw [h1]; omega

theorem blk8 (k : Fin 8) (d : Fin 1024) (b : Fin 704) : iblk m c 8 t (ix3 k d b) = V m c main_v59 (ix3 k d b) := by
  obtain ⟨-, -, -, -, -, -, h0, h1, h2, -, -, -, -, -, -, -⟩ := index_whole t
  unfold iblk
  rw [View.read_apply]
  show V m c main_v59 _ = _
  congr 1
  funext a
  apply Fin.ext
  match a with
  | ⟨0, _⟩ => show win0_8.index t 0 * 8 + 1 * k.val = k.val; rw [h0]; omega
  | ⟨1, _⟩ => show win0_8.index t 1 * 1024 + 1 * d.val = d.val; rw [h1]; omega
  | ⟨2, _⟩ => show win0_8.index t 2 * 704 + 1 * b.val = b.val; rw [h2]; omega

theorem blk9 (k : Fin 8) (d : Fin 3) (b : Fin 704) : iblk m c 9 t (ix3 k d b) = V m c main_v61 (ix3 k d b) := by
  obtain ⟨-, -, -, -, -, -, -, -, -, h0, h1, h2, -, -, -, -⟩ := index_whole t
  unfold iblk
  rw [View.read_apply]
  show V m c main_v61 _ = _
  congr 1
  funext a
  apply Fin.ext
  match a with
  | ⟨0, _⟩ => show win0_9.index t 0 * 8 + 1 * k.val = k.val; rw [h0]; omega
  | ⟨1, _⟩ => show win0_9.index t 1 * 3 + 1 * d.val = d.val; rw [h1]; omega
  | ⟨2, _⟩ => show win0_9.index t 2 * 704 + 1 * b.val = b.val; rw [h2]; omega

theorem blk10 (k : Fin 8) (b : Fin 704) : iblk m c 10 t (ix2 k b) = V m c main_v62 (ix2 k b) := by
  obtain ⟨-, -, -, -, -, -, -, -, -, -, -, -, h0, h1, -, -⟩ := index_whole t
  unfold iblk
  rw [View.read_apply]
  show V m c main_v62 _ = _
  congr 1
  funext a
  apply Fin.ext
  match a with
  | ⟨0, _⟩ => show win0_10.index t 0 * 8 + 1 * k.val = k.val; rw [h0]; omega
  | ⟨1, _⟩ => show win0_10.index t 1 * 704 + 1 * b.val = b.val; rw [h1]; omega

theorem blk11 (k : Fin 2816) (d : Fin 1024) : iblk m c 11 t (ix2 k d) = V m c main_v63 (ix2 k d) := by
  obtain ⟨-, -, -, -, -, -, -, -, -, -, -, -, -, -, h0, h1⟩ := index_whole t
  unfold iblk
  rw [View.read_apply]
  show V m c main_v63 _ = _
  congr 1
  funext a
  apply Fin.ext
  match a with
  | ⟨0, _⟩ => show win0_11.index t 0 * 2816 + 1 * k.val = k.val; rw [h0]; omega
  | ⟨1, _⟩ => show win0_11.index t 1 * 1024 + 1 * d.val = d.val; rw [h1]; omega

/-- The arguments hold the real arrays of `I`. -/
structure Args (I : Inp) : Prop where
  x : ∀ i d, V m c main_arg0 (ix2 i d) = ((I.x i d : ℝ) : EReal)
  dx : ∀ i d, V m c main_arg1 (ix2 i d) = ((I.dx i d : ℝ) : EReal)
  md : ∀ d, V m c main_arg2 (ix2 0 d) = ((I.md d : ℝ) : EReal)
  g3 : ∀ d, V m c main_arg3 (ix2 0 d) = ((I.g3 d : ℝ) : EReal)
  g4 : ∀ d, V m c main_arg4 (ix2 0 d) = ((I.g4 d : ℝ) : EReal)
  W : ∀ d b, V m c main_arg5 (ix2 d b) = ((I.W d b : ℝ) : EReal)
  cw : ∀ a b, V m c main_arg6 (ix2 a b) = ((I.cw a b : ℝ) : EReal)
  cb : ∀ b, V m c main_arg7 (ix2 0 b) = ((I.cb b : ℝ) : EReal)
  Wd : ∀ k d, V m c main_arg8 (ix2 k d) = ((I.Wd k d : ℝ) : EReal)

variable {m c} {I : Inp} (A : Args m c I)
include A

theorem V_up (i : Fin 8192) (b : Fin 5632) : V m c main_v24 (ix2 i b) = ((I.up i b : ℝ) : EReal) := by
  rw [V_v24]
  exact hUp_at I _ _ (hH_at I _ _ _ A.x A.md A.g3) A.W i b

theorem V_y (i : Fin 8192) (b : Fin 5632) : V m c main_v48 (ix2 i b) = ((I.y i b : ℝ) : EReal) := by
  rw [V_v48]
  exact hConv_at I _ _ _ (V_up A) A.cw A.cb i b

theorem V_f (i : Fin 8192) (d : Fin 1024) : V m c main_v53 (ix2 i d) = ((I.f i d : ℝ) : EReal) := by
  rw [V_v53]
  exact hF_at I _ _ (hAct_at I _ (V_y A)) A.Wd i d

end Cert.Kernel.Own
-- ==== Proof.Loaded.lean ====
/-
  Each point loads its tile: the premises of Tile.lean hold of what it loads.
-/
module

public import proofs.«01_k».proof.Proof.Reads

@[expose] public section

noncomputable section

namespace Cert.Kernel.Own

open Cert.Kernel Cert.Kernel.Gen Cert.Spec
open Idealize.ShloMosaic Idealize.ShloMosaic.TcCoe

theorem sgt_coords : ∀ t : Fin grid0.N, Scalar.cmpi .sgt (Scalar.subi 31#32 (BitVec.ofNat 32 (grid0.coords t 0).val)) 0#32
    = if t.val = 31 then 0#1 else 1#1 := by decide +kernel

variable {m : (ℓ : Loc nD τ sig) → Buf (Elt Ideal) ℓ} {c : Dev nD}

/-- The factor that drops the rows before the first tile. -/
theorem keep_at (t : Fin cfg0.N) :
    keepOf (F := Ideal) (Scalar.subi 31#32 (BitVec.ofNat 32 (grid0.coords t 0).val)) = (((if (tile t.val).val = 0 then 0 else 1) : ℝ) : EReal) := by
  have ht : t.val < 32 := lt_of_lt_of_eq t.isLt N_0
  unfold keepOf
  rw [sgt_coords t]
  by_cases h : t.val = 31
  · rw [if_pos h, if_pos (show (tile t.val).val = 0 by show 31 - t.val = 0; omega), EReal.coe_zero]
    exact c_zero
  · rw [if_neg h, if_neg (show ¬(tile t.val).val = 0 by show ¬ 31 - t.val = 0; omega), EReal.coe_one]
    exact c_one

variable {I : Inp} (A : Args m c I)
include A

theorem V_mod (r : Fin 6) (d : Fin 1024) : V m c main_v56 (ix2 r d) = ((I.md ⟨r.val * 1024 + d.val, by omega⟩ : ℝ) : EReal) := by
  rw [V_v56, hMod_at]
  exact A.md _

theorem V_upC (k : Fin 8) (i : Fin 8192) (b : Fin 704) : V m c main_v55 (ix3 k i b) = ((I.up i (col k b) : ℝ) : EReal) := by
  rw [V_v55, hUpC_at]
  exact V_up A _ _

theorem V_wup (k : Fin 8) (d : Fin 1024) (b : Fin 704) : V m c main_v59 (ix3 k d b) = ((I.W d (col k b) : ℝ) : EReal) := by
  rw [V_v59, hWup_at]
  exact A.W _ _

theorem V_cw (k : Fin 8) (a : Fin 3) (b : Fin 704) : V m c main_v61 (ix3 k a b) = ((I.cw a (col k b) : ℝ) : EReal) := by
  rw [V_v61, hCw_at]
  exact A.cw _ _

theorem V_cb (k : Fin 8) (b : Fin 704) : V m c main_v62 (ix2 k b) = ((I.cb (col k b) : ℝ) : EReal) := by
  rw [V_v62, hCb_at]
  exact A.cb _

theorem V_wd (k : Fin 2816) (d : Fin 1024) : V m c main_v63 (ix2 k d) = ((I.Wd k d : ℝ) : EReal) := by
  rw [V_v63, hWd_at]
  exact A.Wd _ _

set_option maxHeartbeats 2000000 in
theorem at_tile (t : Fin cfg0.N) : At I (tile t.val) (loads m c t) where
  dx i d := (load_at (hs0_0 t) _ rRows _).trans (((congrArg _ (rRows_emb i d)).trans (blk0 m c t i d)).trans (A.dx _ d))
  f i d := (load_at (hs0_1 t) _ rRows _).trans (((congrArg _ (rRows_emb i d)).trans (blk1 m c t i d)).trans (V_f A _ d))
  x i d := (load_at (hs0_2 t) _ rRows _).trans (((congrArg _ (rRows_emb i d)).trans (blk2 m c t i d)).trans (A.x _ d))
  sh z d := (load_at (hs0_5 t) _ (rMod 3) _).trans (((congrArg _ (rMod_emb 3 z d)).trans (blk5 m c t 3 d)).trans (V_mod A 3 d))
  sc z d := (load_at (hs0_5 t) _ (rMod 4) _).trans (((congrArg _ (rMod_emb 4 z d)).trans (blk5 m c t 4 d)).trans (V_mod A 4 d))
  gf z d := (load_at (hs0_5 t) _ (rMod 5) _).trans (((congrArg _ (rMod_emb 5 z d)).trans (blk5 m c t 5 d)).trans (V_mod A 5 d))
  g3 z d := (load_at (hs0_6 t) _ rRow _).trans (((congrArg _ (rRow_emb z d)).trans (blk6 m c t z d)).trans
    ((congrArg (fun z => V m c main_arg3 (ix2 z d)) (Subsingleton.elim z 0)).trans (A.g3 d)))
  g4 z d := (load_at (hs0_7 t) _ rRow _).trans (((congrArg _ (rRow_emb z d)).trans (blk7 m c t z d)).trans
    ((congrArg (fun z => V m c main_arg4 (ix2 z d)) (Subsingleton.elim z 0)).trans (A.g4 d)))
  keep := keep_at t
  up k z i b := (load_at (hs0_3 t) _ (rUp k) _).trans (((congrArg _ (rUp_emb k z i b)).trans (blk3 m c t k i b)).trans (V_upC A k _ b))
  halo k z s b := (load_at (hs0_4 t) _ (rHalo k) _).trans (((congrArg _ (rHalo_emb k z s b)).trans (blk4 m c t k s b)).trans (V_upC A k _ b))
  cw k z a b := (load_at (hs0_9 t) _ (rCw k) _).trans (((congrArg _ (rCw_emb k z a b)).trans (blk9 m c t k a b)).trans (V_cw A k a b))
  cb k z b := (load_at (hs0_10 t) _ (rCb k) _).trans (((congrArg _ (rCb_emb k z b)).trans (blk10 m c t k b)).trans (V_cb A k b))
  wup k z d b := (load_at (hs0_8 t) _ (rWup k) _).trans (((congrArg _ (rWup_emb k z d b)).trans (blk8 m c t k d b)).trans (V_wup A k d b))
  wd j b d := (load_at (hs0_11 t) _ (rWd j) _).trans (((congrArg _ (rWd_emb j b d)).trans (blk11 m c t _ d)).trans (V_wd A _ d))

/-- Every point leaves what the Spec says. -/
theorem holds_at (n : ℕ) (hn : n < cfg0.N) : Holds I n (left m c n hn) := holds m I c (at_tile A) n hn

end Cert.Kernel.Own
-- ==== Proof.Step.lean ====
/-
  The run of the whole program and its frame: the library's pipeline argument over the contents of Left.lean.
-/
module

public import proofs.«01_k».proof.Proof.Left
public import Idealize.ShloMosaic.Lib.Claim

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer of the device's core, holding `v`. -/
abbrev has (c : Dev nD) {sh : Shape} {e : EltTy} (mr : Memref sig .tc .vmem sh e) (v : sh.Idx → Elt F e) : sProp 𝕄 :=
  owns (c : Thread nD τ) mr fullShare v

/-- A buffer written piece by piece, all of it, holds the pieces' contents. -/
theorem put {c : Dev nD} {sh : Shape} {e : EltTy} {mr : Memref sig .tc .vmem sh e} {L : List (View.Piece (Elt F) sh e)} (h : Cov L) :
    iprop(∃ f, mr.view.loc (c : Thread nD τ) ↦[mr.view.set]{fullShare} mr.view.writes (Elt F) f L)
      ⊢ (has c mr (View.canon L) : sProp 𝕄) := by
  iintro ⟨%f, H⟩
  unfold has owns
  iexists _
  isplitr
  swap; · iexact H
  ipureintro
  exact View.read_writes_eq_canon _ _ _ h

/-- A buffer written to in any way is a buffer holding something. -/
theorem put_any {c : Dev nD} {sh : Shape} {e : EltTy} {mr : Memref sig .tc .vmem sh e} {L : List (View.Piece (Elt F) sh e)} :
    iprop(∃ f, mr.view.loc (c : Thread nD τ) ↦[mr.view.set]{fullShare} mr.view.writes (Elt F) f L)
      ⊢ (iprop(∃ d, has c mr d) : sProp 𝕄) := by
  iintro ⟨%f, H⟩
  unfold has owns
  iexists _
  iexists _
  isplitr
  swap; · iexact H
  ipureintro
  rfl

/-- The input buffers at a point's blocks. -/
def ins (c : Dev nD) (t : Fin cfg0.N) : sProp 𝕄 :=
  iprop(has c (ms0_0 t) (iblk m c 0 t)
    ∗ has c (ms0_1 t) (iblk m c 1 t)
    ∗ has c (ms0_2 t) (iblk m c 2 t)
    ∗ has c (ms0_3 t) (iblk m c 3 t)
    ∗ has c (ms0_4 t) (iblk m c 4 t)
    ∗ has c (ms0_5 t) (iblk m c 5 t)
    ∗ has c (ms0_6 t) (iblk m c 6 t)
    ∗ has c (ms0_7 t) (iblk m c 7 t)
    ∗ has c (ms0_8 t) (iblk m c 8 t)
    ∗ has c (ms0_9 t) (iblk m c 9 t)
    ∗ has c (ms0_10 t) (iblk m c 10 t)
    ∗ has c (ms0_11 t) (iblk m c 11 t))

/-- The result buffers at what a point leaves. -/
def results (c : Dev nD) (t : Fin cfg0.N) (p : Left F) : sProp 𝕄 :=
  iprop(has c (ms0_12 t) p.dx
    ∗ has c (ms0_13 t) p.dup
    ∗ has c (ms0_14 t) p.df
    ∗ has c (ms0_15 t) p.h
    ∗ has c (ms0_16 t) p.dmod
    ∗ has c (ms0_17 t) p.dg3
    ∗ has c (ms0_18 t) p.dg4
    ∗ has c (ms0_19 t) p.dcb
    ∗ has c (ms0_20 t) p.dcw)

/-- The four result buffers a point overwrites whole, at anything. -/
def fresh (c : Dev nD) (t : Fin cfg0.N) : sProp 𝕄 :=
  iprop((∃ d, has c (ms0_12 t) d)
    ∗ (∃ d, has c (ms0_13 t) d)
    ∗ (∃ d, has c (ms0_14 t) d)
    ∗ (∃ d, has c (ms0_15 t) d))

/-- The five running sums' buffers at what a point left. -/
def sums (c : Dev nD) (t : Fin cfg0.N) (p : Left F) : sProp 𝕄 :=
  iprop(has c (ms0_16 t) p.dmod
    ∗ has c (ms0_17 t) p.dg3
    ∗ has c (ms0_18 t) p.dg4
    ∗ has c (ms0_19 t) p.dcb
    ∗ has c (ms0_20 t) p.dcw)

/-- The same buffers at anything. -/
def sums_any (c : Dev nD) (t : Fin cfg0.N) : sProp 𝕄 :=
  iprop((∃ d, has c (ms0_16 t) d)
    ∗ (∃ d, has c (ms0_17 t) d)
    ∗ (∃ d, has c (ms0_18 t) d)
    ∗ (∃ d, has c (ms0_19 t) d)
    ∗ (∃ d, has c (ms0_20 t) d))

/-- The scratch a point carries to the next. -/
def carried (c : Dev nD) (p : Left F) : sProp 𝕄 :=
  iprop(has c scM0_0 p.dyc ∗ (∃ d, has c scM0_1 d))

/-- The scratch at anything. -/
def carried_any (c : Dev nD) : sProp 𝕄 :=
  iprop((∃ d, has c scM0_0 d) ∗ (∃ d, has c scM0_1 d))

set_option maxHeartbeats 4000000 in
/-- The first point's body. -/
theorem stepA (c : Dev nD) (t : Fin cfg0.N) (h0 : t.val % 32 = 0) :
    iprop(ins m c t ∗ fresh c t ∗ sums_any c t ∗ carried_any c)
      ⊢ wp frame (wpE (defs₀ (F := F)) Variants.none c none) Set.univ (bodyAt0 t)
          (fun _ => iprop(ins m c t ∗ results c t (leftA m c t h0) ∗ carried c (leftA m c t h0))) := by
  unfold ins fresh sums_any carried_any carried results leftA bodyAt0
  dsimp only
  iintro ⟨⟨H0, H1, H2, H3, H4, H5, H6, H7, H8, H9, H10, H11⟩, ⟨H12, H13, H14, H15⟩, ⟨H16, H17, H18, H19, H20⟩, S0, S1⟩
  iapply ((runA m c t h0).2.2.2.2.2.2.2.2.2.2.2 Set.univ _)
  iframe
  iintro ⟨H0, H1, H2, H3, H4, H5, H6, H7, H8, H9, H10, H11, H12, H13, H14, H15, H16, H17, H18, H19, H20, S0, S1⟩
  iframe H0 H1 H2 H3 H4 H5 H6 H7 H8 H9 H10 H11
  isplitr [S0 S1]
  · isplitl [H12]; · iapply (put (covA_dx m c t h0)); iexact H12
    isplitl [H13]; · iapply (put (covA_dup m c t h0)); iexact H13
    isplitl [H14]; · iapply (put (covA_df m c t h0)); iexact H14
    isplitl [H15]; · iapply (put (covA_h m c t h0)); iexact H15
    isplitl [H16]; · iapply (put (covA_dmod m c t h0)); iexact H16
    isplitl [H17]; · iapply (put (covA_dg3 m c t h0)); iexact H17
    isplitl [H18]; · iapply (put (covA_dg4 m c t h0)); iexact H18
    isplitl [H19]; · iapply (put (covA_dcb m c t h0)); iexact H19
    iapply (put (covA_dcw m c t h0)); iexact H20
  isplitl [S0]; · iapply (put (covA_dyc m c t h0)); iexact S0
  iapply put_any; iexact S1

set_option maxHeartbeats 4000000 in
/-- A later point's body. -/
theorem stepB (c : Dev nD) (t : Fin cfg0.N) (h0 : ¬t.val % 32 = 0) (p : Left F) :
    iprop(ins m c t ∗ fresh c t ∗ sums c t p ∗ carried c p)
      ⊢ wp frame (wpE (defs₀ (F := F)) Variants.none c none) Set.univ (bodyAt0 t)
          (fun _ => iprop(ins m c t ∗ results c t (leftB m c t h0 p) ∗ carried c (leftB m c t h0 p))) := by
  unfold ins fresh sums carried results leftB bodyAt0
  dsimp only
  iintro ⟨⟨H0, H1, H2, H3, H4, H5, H6, H7, H8, H9, H10, H11⟩, ⟨H12, H13, H14, H15⟩, ⟨H16, H17, H18, H19, H20⟩, S0, S1⟩
  iapply ((runB m c t h0 p).2.2.2.2.2.2.2.2.2.2.2 Set.univ _)
  iframe
  iintro ⟨H0, H1, H2, H3, H4, H5, H6, H7, H8, H9, H10, H11, H12, H13, H14, H15, H16, H17, H18, H19, H20, S0, S1⟩
  iframe H0 H1 H2 H3 H4 H5 H6 H7 H8 H9 H10 H11
  isplitr [S0 S1]
  · isplitl [H12]; · iapply (put (covB_dx m c t h0 p)); iexact H12
    isplitl [H13]; · iapply (put (covB_dup m c t h0 p)); iexact H13
    isplitl [H14]; · iapply (put (covB_df m c t h0 p)); iexact H14
    isplitl [H15]; · iapply (put (covB_h m c t h0 p)); iexact H15
    isplitl [H16]; · iapply (put (covB_dmod m c t h0 p)); iexact H16
    isplitl [H17]; · iapply (put (covB_dg3 m c t h0 p)); iexact H17
    isplitl [H18]; · iapply (put (covB_dg4 m c t h0 p)); iexact H18
    isplitl [H19]; · iapply (put (covB_dcb m c t h0 p)); iexact H19
    iapply (put (covB_dcw m c t h0 p)); iexact H20
  isplitl [S0]; · iapply (put (covB_dyc m c t h0 p)); iexact S0
  iapply put_any; iexact S1

end Cert.Kernel.Own

end
-- ==== Proof.Run.lean ====
/-
  The run of the whole program and its frame: the library's pipeline argument over one point's step.
-/
module

public import proofs.«01_k».proof.Proof.Step
public import Idealize.ShloMosaic.Lib.Claim

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is held between points: the launch's scratch before the first, then what the last point carried; and the generator
    register. -/
def between (c : Dev nD) : (n : ℕ) → n ≤ cfg0.N → sProp 𝕄
  | 0, _ => Pipeline.ΦA spec0 c
  | n + 1, hn => iprop(carried c (left m c n hn) ∗ (∃ r, prngReg c r))

theorem between_pos (c : Dev nD) (n : ℕ) (h : n ≤ cfg0.N) (hz : n ≠ 0) :
    between m c n h = iprop(carried c (left m c (n - 1) (by omega)) ∗ (∃ r, prngReg c r)) := by
  cases n with
  | zero => exact absurd rfl hz
  | succ n => rfl

/-- The pipeline's contents: the arrays as the region finds them, each input's buffer at its block, each result's buffer at
    what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (left m c t.val t.isLt).dx
    | ⟨13, _⟩ => (left m c t.val t.isLt).dup
    | ⟨14, _⟩ => (left m c t.val t.isLt).df
    | ⟨15, _⟩ => (left m c t.val t.isLt).h
    | ⟨16, _⟩ => (left m c t.val t.isLt).dmod
    | ⟨17, _⟩ => (left m c t.val t.isLt).dg3
    | ⟨18, _⟩ => (left m c t.val t.isLt).dg4
    | ⟨19, _⟩ => (left m c t.val t.isLt).dcb
    | ⟨20, _⟩ => (left m c t.val t.isLt).dcw
    | ⟨_ + 21, h⟩ => absurd h (Nat.not_lt.2 (Nat.le_add_left _ _))
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

/-- A running sum's buffer is written back only at the last point, so a later point finds in it what the point before left. -/
theorem kept (c : Dev nD) (t : Fin cfg0.N) (h0 : ¬t.val % 32 = 0) (w : Fin cfg0.W) (hw : (cfg0.win w).isOut = true)
    (hf : ∀ s : Fin cfg0.N, (cfg0.win w).flush s = true → s.val % 32 = 31) (hlive : ∀ i, cfg0.idle w i = false)
    (hclip : ∀ (i : cfg0.grid.Coords) a, (cfg0.win w).clip i a = none) (d) :
    (dats m 0 c).before w t d = (dats m 0 c).after w ⟨t.val - 1, Nat.lt_of_le_of_lt (Nat.sub_le _ _) t.isLt⟩ := by
  have hN : t.val < 32 := lt_of_lt_of_eq t.isLt N_0
  exact Dat.before_out_kept _ w hw t (by omega)
    (Bool.eq_false_iff.mpr fun h => by have := hf _ h; dsimp only at this; omega) hlive hclip d

section
variable (c : Dev nD) (t : Fin cfg0.N) (h0 : ¬t.val % 32 = 0)
include h0
theorem kept_16 (d) : (dats m 0 c).before 16 t d = (prev m c t).dmod :=
  (kept m c t h0 16 rfl (fun s => (flush0_16 s).mp) (fun _ => rfl) (fun _ _ => rfl) d).trans (by dsimp only [dats])
theorem kept_17 (d) : (dats m 0 c).before 17 t d = (prev m c t).dg3 :=
  (kept m c t h0 17 rfl (fun s => (flush0_17 s).mp) (fun _ => rfl) (fun _ _ => rfl) d).trans (by dsimp only [dats])
theorem kept_18 (d) : (dats m 0 c).before 18 t d = (prev m c t).dg4 :=
  (kept m c t h0 18 rfl (fun s => (flush0_18 s).mp) (fun _ => rfl) (fun _ _ => rfl) d).trans (by dsimp only [dats])
theorem kept_19 (d) : (dats m 0 c).before 19 t d = (prev m c t).dcb :=
  (kept m c t h0 19 rfl (fun s => (flush0_19 s).mp) (fun _ => rfl) (fun _ _ => rfl) d).trans (by dsimp only [dats])
theorem kept_20 (d) : (dats m 0 c).before 20 t d = (prev m c t).dcw :=
  (kept m c t h0 20 rfl (fun s => (flush0_20 s).mp) (fun _ => rfl) (fun _ _ => rfl) d).trans (by dsimp only [dats])
end

/-- What a point's body is given, buffer by buffer. -/
def given (c : Dev nD) (t : Fin cfg0.N) : sProp 𝕄 :=
  iprop((dats m 0 c).Φ t.castSucc ∗ (dats m 0 c).owesAt () t.castSucc
    ∗ (∃ d, has c (ms0_0 t) ((dats m 0 c).before 0 t d))
    ∗ (∃ d, has c (ms0_1 t) ((dats m 0 c).before 1 t d))
    ∗ (∃ d, has c (ms0_2 t) ((dats m 0 c).before 2 t d))
    ∗ (∃ d, has c (ms0_3 t) ((dats m 0 c).before 3 t d))
    ∗ (∃ d, has c (ms0_4 t) ((dats m 0 c).before 4 t d))
    ∗ (∃ d, has c (ms0_5 t) ((dats m 0 c).before 5 t d))
    ∗ (∃ d, has c (ms0_6 t) ((dats m 0 c).before 6 t d))
    ∗ (∃ d, has c (ms0_7 t) ((dats m 0 c).before 7 t d))
    ∗ (∃ d, has c (ms0_8 t) ((dats m 0 c).before 8 t d))
    ∗ (∃ d, has c (ms0_9 t) ((dats m 0 c).before 9 t d))
    ∗ (∃ d, has c (ms0_10 t) ((dats m 0 c).before 10 t d))
    ∗ (∃ d, has c (ms0_11 t) ((dats m 0 c).before 11 t d))
    ∗ (∃ d, has c (ms0_12 t) ((dats m 0 c).before 12 t d))
    ∗ (∃ d, has c (ms0_13 t) ((dats m 0 c).before 13 t d))
    ∗ (∃ d, has c (ms0_14 t) ((dats m 0 c).before 14 t d))
    ∗ (∃ d, has c (ms0_15 t) ((dats m 0 c).before 15 t d))
    ∗ (∃ d, has c (ms0_16 t) ((dats m 0 c).before 16 t d))
    ∗ (∃ d, has c (ms0_17 t) ((dats m 0 c).before 17 t d))
    ∗ (∃ d, has c (ms0_18 t) ((dats m 0 c).before 18 t d))
    ∗ (∃ d, has c (ms0_19 t) ((dats m 0 c).before 19 t d))
    ∗ (∃ d, has c (ms0_20 t) ((dats m 0 c).before 20 t d)))

/-- What it gives back. -/
def back (c : Dev nD) (t : Fin cfg0.N) : sProp 𝕄 :=
  iprop((dats m 0 c).Φ t.succ ∗ (dats m 0 c).owesAt () t.succ
    ∗ has c (ms0_0 t) ((dats m 0 c).after 0 t)
    ∗ has c (ms0_1 t) ((dats m 0 c).after 1 t)
    ∗ has c (ms0_2 t) ((dats m 0 c).after 2 t)
    ∗ has c (ms0_3 t) ((dats m 0 c).after 3 t)
    ∗ has c (ms0_4 t) ((dats m 0 c).after 4 t)
    ∗ has c (ms0_5 t) ((dats m 0 c).after 5 t)
    ∗ has c (ms0_6 t) ((dats m 0 c).after 6 t)
    ∗ has c (ms0_7 t) ((dats m 0 c).after 7 t)
    ∗ has c (ms0_8 t) ((dats m 0 c).after 8 t)
    ∗ has c (ms0_9 t) ((dats m 0 c).after 9 t)
    ∗ has c (ms0_10 t) ((dats m 0 c).after 10 t)
    ∗ has c (ms0_11 t) ((dats m 0 c).after 11 t)
    ∗ has c (ms0_12 t) ((dats m 0 c).after 12 t)
    ∗ has c (ms0_13 t) ((dats m 0 c).after 13 t)
    ∗ has c (ms0_14 t) ((dats m 0 c).after 14 t)
    ∗ has c (ms0_15 t) ((dats m 0 c).after 15 t)
    ∗ has c (ms0_16 t) ((dats m 0 c).after 16 t)
    ∗ has c (ms0_17 t) ((dats m 0 c).after 17 t)
    ∗ has c (ms0_18 t) ((dats m 0 c).after 18 t)
    ∗ has c (ms0_19 t) ((dats m 0 c).after 19 t)
    ∗ has c (ms0_20 t) ((dats m 0 c).after 20 t))

/-- A step's results are what a point gives back. -/
theorem gives_back (c : Dev nD) (t : Fin cfg0.N) :
    iprop((ins m c t ∗ results c t (left m c t.val t.isLt) ∗ carried c (left m c t.val t.isLt))
      ∗ (dats m 0 c).owesAt () t.castSucc ∗ (∃ r, prngReg c r)) ⊢ (back m c t : sProp 𝕄) := by
  unfold back
  rw [show (dats m 0 c).owesAt () t.succ = (dats m 0 c).owesAt () t.castSucc from rfl,
    show (dats m 0 c).Φ t.succ = iprop(carried c (left m c t.val t.isLt) ∗ (∃ r, prngReg c r)) from rfl]
  dsimp only [dats]
  unfold ins results
  iintro ⟨⟨⟨H0, H1, H2, H3, H4, H5, H6, H7, H8, H9, H10, H11⟩, ⟨H12, H13, H14, H15, H16, H17, H18, H19, H20⟩, S⟩, Ho, Hg⟩
  iframe

set_option maxHeartbeats 4000000 in
theorem sound (c : Dev nD) (t : Fin cfg0.N) :
    given m c t ⊢ wp frame (wpE (defs₀ (F := F)) Variants.none c none) Set.univ (bodyAt0 t) (fun _ => back m c t) := by
  have hN : t.val < 32 := lt_of_lt_of_eq t.isLt N_0
  unfold given
  simp only [before0_0_of m (dats m 0 c) (A_eq m c 0) (fun _ => by dsimp only [dats]),
    before0_1_of m (dats m 0 c) (A_eq m c 1) (fun _ => by dsimp only [dats]),
    before0_2_of m (dats m 0 c) (A_eq m c 2) (fun _ => by dsimp only [dats]),
    before0_3_of m (dats m 0 c) (A_eq m c 3) (fun _ => by dsimp only [dats]),
    before0_4_of m (dats m 0 c) (A_eq m c 4) (fun _ => by dsimp only [dats]),
    before0_5_of m (dats m 0 c) (A_eq m c 5) (fun _ => by dsimp only [dats]),
    before0_6_of m (dats m 0 c) (A_eq m c 6) (fun _ => by dsimp only [dats]),
    before0_7_of m (dats m 0 c) (A_eq m c 7) (fun _ => by dsimp only [dats]),
    before0_8_of m (dats m 0 c) (A_eq m c 8) (fun _ => by dsimp only [dats]),
    before0_9_of m (dats m 0 c) (A_eq m c 9) (fun _ => by dsimp only [dats]),
    before0_10_of m (dats m 0 c) (A_eq m c 10) (fun _ => by dsimp only [dats]),
    before0_11_of m (dats m 0 c) (A_eq m c 11) (fun _ => by dsimp only [dats])]
  rw [show (dats m 0 c).Φ t.castSucc = between m c t.val (Nat.le_of_lt t.isLt) by
    dsimp only [dats]; exact Pipeline.Dat.Φ_castSucc (between m c) t]
  by_cases h0 : t.val % 32 = 0
  · have hz : t.val = 0 := by omega
    have hb : between m c t.val (Nat.le_of_lt t.isLt) = Pipeline.ΦA spec0 c := by
      generalize_proofs hp
      revert hp
      rw [hz]
      exact fun _ => rfl
    have hw := stepA m c t h0
    rw [← left_A m c t h0] at hw
    rw [hb, PhiA0_eq]
    iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (wp_mono _ _ _ fun _ => gives_back m c t)
    iapply (wp_frame_r _ _ _)
    isplitr [Ho Hg]
    swap; · iframe
    iapply hw
    unfold ins fresh sums_any carried_any
    iframe
    isplitl [H12 H13 H14 H15]
    · isplitl [H12]; · iexists _; iexact H12
      isplitl [H13]; · iexists _; iexact H13
      isplitl [H14]; · iexists _; iexact H14
      iexists _; iexact H15
    isplitl [H16]; · iexists _; iexact H16
    isplitl [H17]; · iexists _; iexact H17
    isplitl [H18]; · iexists _; iexact H18
    isplitl [H19]; · iexists _; iexact H19
    iexists _; iexact H20
  · have hz : t.val ≠ 0 := fun h => h0 (by rw [h])
    have hw := stepB m c t h0 (prev m c t)
    rw [← left_B m c t h0] at hw
    rw [between_pos m c _ _ hz]
    simp only [kept_16 m c t h0, kept_17 m c t h0, kept_18 m c t h0, kept_19 m c t h0, kept_20 m c t h0]
    iintro ⟨⟨S, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (wp_mono _ _ _ fun _ => gives_back m c t)
    iapply (wp_frame_r _ _ _)
    isplitr [Ho Hg]
    swap; · iframe
    iapply hw
    unfold ins fresh sums
    iframe
    isplitl [H12]; · iexists _; iexact H12
    isplitl [H13]; · iexists _; iexact H13
    isplitl [H14]; · iexists _; iexact H14
    iexists _; iexact H15

/-- The library's body obligation. -/
theorem body (c : Dev nD) : BodyObligation (dats (F := F) m 0 c) (defs₀ (F := F)) Variants.none () Set.univ := fun t => by
  rw [bigSep_W0, bigSep_W0,
    show defs₀ (F := F) .tc cfg0.body (cfg0.bodyArgs t (cfg0.slots t)) = bodyAt0 t by unfold defs₀; rw [Defs.onTc_tc]]
  exact triple_restated (sound m c t) rfl .rfl fun _ => .rfl

theorem enter (c : Dev nD) : Pipeline.ΦA spec0 c ⊢ (dats m 0 c).Φ 0 := .rfl

theorem leave (c : Dev nD) : (dats m 0 c).Φ (Fin.last cfg0.N) ⊢ Pipeline.ΦA spec0 c := by
  rw [show (dats m 0 c).Φ (Fin.last cfg0.N) = between m c cfg0.N le_rfl from rfl,
    between_pos m c _ _ (by rw [show cfg0.N = 32 from N_0]; decide), PhiA0_eq]
  unfold carried
  iintro ⟨⟨S0, S1⟩, Hg⟩
  iframe
  iexists _; iexact S0

set_option backward.isDefEq.respectTransparency.types false in
/-- The run: every array of the pipeline ends at what the contents above compute, every other buffer as the region found it,
    and every counter at zero. -/
theorem run : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body m c).loose) (hq := fun _ _ _ => rfl) (howed := fun _ _ => rfl) (V := V m)
    (hmain := hmain m Variants.none) (hA := A_eq m) (hin := enter m) (hout := leave m)

/-- The arguments' arrays end as they began. -/
def Kept (c : Dev nD) (r : PUnit × MemSt nD τ sig (Elt F)) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)

/-- The frame. -/
theorem frame : θ_run defs (onTc (τ := τ) (main (F := F))) ⟨m, fun _ => 0, ρ⟩
    (fun r => (∀ c : Dev nD, Kept m c r) ∧ r.2.sem = fun _ => 0) :=
  θ_run_and (frame_of m ρ (dats m) (A_eq m) ((θ_run defs _ _).mono (fun _ h => h.1) (run m ρ)))
    ((θ_run defs _ _).mono (fun _ h => h.2) (run m ρ))

end Cert.Kernel.Own

end
-- ==== Proof.Arrays.lean ====
/-
  What the result arrays hold after the last point.
-/
module

public import proofs.«01_k».proof.Proof.Loaded
public import proofs.«01_k».proof.Proof.Run
public import Idealize.ShloMosaic.Lib.Pipeline.Value

@[expose] public section

noncomputable section

namespace Cert.Kernel.Own

open Cert.Kernel Cert.Kernel.Gen Cert.Spec
open Idealize.ShloMosaic Idealize.ShloMosaic.TcCoe

theorem index_out : ∀ t : Fin grid0.N, win0_12.index t 0 = 31 - t.val ∧ win0_12.index t 1 = 0
    ∧ win0_13.index t 0 = 0 ∧ win0_13.index t 1 = 31 - t.val ∧ win0_13.index t 2 = 0
    ∧ win0_14.index t 0 = 31 - t.val ∧ win0_14.index t 1 = 0 ∧ win0_15.index t 0 = 31 - t.val ∧ win0_15.index t 1 = 0 := by decide +kernel

/-- A point of the grid that stages row `n`. -/
def pt (n : ℕ) : Fin cfg0.N := ⟨31 - n / 256, lt_of_lt_of_eq (b := 32) (by omega) (show grid0.N = 32 from N_0).symm⟩

theorem of_ix2 {n0 n1 : ℕ} {α : Type} (f : (⟨2, ![n0, n1]⟩ : Shape).Idx → α) (g : Fin n0 → Fin n1 → α) (h : ∀ a b, f (ix2 a b) = g a b)
    (j : (⟨2, ![n0, n1]⟩ : Shape).Idx) : f j = g (j 0) (j 1) := (congrArg f (eq_ix2 j)).trans (h _ _)

theorem of_ix3 {n0 n1 n2 : ℕ} {α : Type} (f : (⟨3, ![n0, n1, n2]⟩ : Shape).Idx → α) (g : Fin n0 → Fin n1 → Fin n2 → α)
    (h : ∀ a b d, f (ix3 a b d) = g a b d) (j : (⟨3, ![n0, n1, n2]⟩ : Shape).Idx) : f j = g (j 0) (j 1) (j 2) :=
  (congrArg f (ix3_eta j).symm).trans (h _ _ _)

/-- The result arrays. -/
def oRows (v : Fin 8192 → Fin 1024 → ℝ) : S8192x1024.Idx → EReal := fun j => ((v (j 0) (j 1) : ℝ) : EReal)
def oDup (I : Inp) : S8x8192x704.Idx → EReal := fun j => ((I.dup (j 1) (col (j 0) (j 2)) : ℝ) : EReal)

variable {m : (ℓ : Loc nD τ sig) → Buf (Elt Ideal) ℓ} {c : Dev nD} {I : Inp} (A : Args m c I)
include A

theorem flushed12 (t : Fin cfg0.N) : (dats m 0 c).flushed 12 t = ((cfg0.win 12).blk t).view.read (Elt Ideal) (oRows I.dx1) := by
  obtain ⟨h0, h1, -, -, -, -, -, -, -⟩ := index_out t
  funext j
  refine (of_ix2 (n0 := 256) (n1 := 1024) (left m c t.val t.isLt).dx _ (holds_at A t.val t.isLt).dx j).trans ?_
  rw [View.read_apply]
  show _ = oRows I.dx1 _
  unfold oRows
  refine congrArg (fun r : ℝ => (r : EReal)) (congrArg₂ I.dx1 ?_ ?_)
  · apply Fin.ext
    show (31 - t.val) * 256 + (j 0).val = win0_12.index t 0 * 256 + 1 * (j 0).val
    rw [h0]; omega
  · apply Fin.ext
    show (j 1).val = win0_12.index t 1 * 1024 + 1 * (j 1).val
    rw [h1]; omega

theorem final12 : (dats m 0 c).arrAt 12 cfg0.N = oRows I.dx1 :=
  (dats m 0 c).arrAt_eq_of_cover 12 (oRows I.dx1) (fun t _ => flushed12 A t) fun i => by
    have h0 : (i 0).val < 8192 := (i 0).isLt
    have h1 : (i 1).val < 1024 := (i 1).isLt
    obtain ⟨e0, e1, -, -, -, -, -, -, -⟩ := index_out (pt (i 0).val)
    have ht : (pt (i 0).val).val = 31 - (i 0).val / 256 := rfl
    refine ⟨pt (i 0).val, flush0_12 _, ?_⟩
    show i ∈ ((View.whole main_v64_0).slice (win0_12.rect (pt (i 0).val))).set
    rw [View.set_slice_whole, Rect.mem_set_unit]
    intro a
    match a with
    | ⟨0, _⟩ =>
      show win0_12.index (pt (i 0).val) 0 * 256 ≤ (i 0).val ∧ (i 0).val < win0_12.index (pt (i 0).val) 0 * 256 + 256
      rw [e0, ht]; omega
    | ⟨1, _⟩ =>
      show win0_12.index (pt (i 0).val) 1 * 1024 ≤ (i 1).val ∧ (i 1).val < win0_12.index (pt (i 0).val) 1 * 1024 + 1024
      rw [e1]; omega

theorem flushed14 (t : Fin cfg0.N) : (dats m 0 c).flushed 14 t = ((cfg0.win 14).blk t).view.read (Elt Ideal) (oRows I.df) := by
  obtain ⟨-, -, -, -, -, h0, h1, -, -⟩ := index_out t
  funext j
  refine (of_ix2 (n0 := 256) (n1 := 1024) (left m c t.val t.isLt).df _ (holds_at A t.val t.isLt).df j).trans ?_
  rw [View.read_apply]
  show _ = oRows I.df _
  unfold oRows
  refine congrArg (fun r : ℝ => (r : EReal)) (congrArg₂ I.df ?_ ?_)
  · apply Fin.ext
    show (31 - t.val) * 256 + (j 0).val = win0_14.index t 0 * 256 + 1 * (j 0).val
    rw [h0]; omega
  · apply Fin.ext
    show (j 1).val = win0_14.index t 1 * 1024 + 1 * (j 1).val
    rw [h1]; omega

theorem final14 : (dats m 0 c).arrAt 14 cfg0.N = oRows I.df :=
  (dats m 0 c).arrAt_eq_of_cover 14 (oRows I.df) (fun t _ => flushed14 A t) fun i => by
    have h0 : (i 0).val < 8192 := (i 0).isLt
    have h1 : (i 1).val < 1024 := (i 1).isLt
    obtain ⟨-, -, -, -, -, e0, e1, -, -⟩ := index_out (pt (i 0).val)
    have ht : (pt (i 0).val).val = 31 - (i 0).val / 256 := rfl
    refine ⟨pt (i 0).val, flush0_14 _, ?_⟩
    show i ∈ ((View.whole main_v64_2).slice (win0_14.rect (pt (i 0).val))).set
    rw [View.set_slice_whole, Rect.mem_set_unit]
    intro a
    match a with
    | ⟨0, _⟩ =>
      show win0_14.index (pt (i 0).val) 0 * 256 ≤ (i 0).val ∧ (i 0).val < win0_14.index (pt (i 0).val) 0 * 256 + 256
      rw [e0, ht]; omega
    | ⟨1, _⟩ =>
      show win0_14.index (pt (i 0).val) 1 * 1024 ≤ (i 1).val ∧ (i 1).val < win0_14.index (pt (i 0).val) 1 * 1024 + 1024
      rw [e1]; omega

theorem flushed15 (t : Fin cfg0.N) : (dats m 0 c).flushed 15 t = ((cfg0.win 15).blk t).view.read (Elt Ideal) (oRows I.h) := by
  obtain ⟨-, -, -, -, -, -, -, h0, h1⟩ := index_out t
  funext j
  refine (of_ix2 (n0 := 256) (n1 := 1024) (left m c t.val t.isLt).h _ (holds_at A t.val t.isLt).h j).trans ?_
  rw [View.read_apply]
  show _ = oRows I.h _
  unfold oRows
  refine congrArg (fun r : ℝ => (r : EReal)) (congrArg₂ I.h ?_ ?_)
  · apply Fin.ext
    show (31 - t.val) * 256 + (j 0).val = win0_15.index t 0 * 256 + 1 * (j 0).val
    rw [h0]; omega
  · apply Fin.ext
    show (j 1).val = win0_15.index t 1 * 1024 + 1 * (j 1).val
    rw [h1]; omega

theorem final15 : (dats m 0 c).arrAt 15 cfg0.N = oRows I.h :=
  (dats m 0 c).arrAt_eq_of_cover 15 (oRows I.h) (fun t _ => flushed15 A t) fun i => by
    have h0 : (i 0).val < 8192 := (i 0).isLt
    have h1 : (i 1).val < 1024 := (i 1).isLt
    obtain ⟨-, -, -, -, -, -, -, e0, e1⟩ := index_out (pt (i 0).val)
    have ht : (pt (i 0).val).val = 31 - (i 0).val / 256 := rfl
    refine ⟨pt (i 0).val, flush0_15 _, ?_⟩
    show i ∈ ((View.whole main_v64_3).slice (win0_15.rect (pt (i 0).val))).set
    rw [View.set_slice_whole, Rect.mem_set_unit]
    intro a
    match a with
    | ⟨0, _⟩ =>
      show win0_15.index (pt (i 0).val) 0 * 256 ≤ (i 0).val ∧ (i 0).val < win0_15.index (pt (i 0).val) 0 * 256 + 256
      rw [e0, ht]; omega
    | ⟨1, _⟩ =>
      show win0_15.index (pt (i 0).val) 1 * 1024 ≤ (i 1).val ∧ (i 1).val < win0_15.index (pt (i 0).val) 1 * 1024 + 1024
      rw [e1]; omega

theorem flushed13 (t : Fin cfg0.N) : (dats m 0 c).flushed 13 t = ((cfg0.win 13).blk t).view.read (Elt Ideal) (oDup I) := by
  obtain ⟨-, -, h0, h1, h2, -, -, -, -⟩ := index_out t
  funext j
  refine (of_ix3 (n0 := 8) (n1 := 256) (n2 := 704) (left m c t.val t.isLt).dup _ (holds_at A t.val t.isLt).dup j).trans ?_
  rw [View.read_apply]
  show _ = oDup I _
  unfold oDup
  refine congrArg (fun r : ℝ => (r : EReal)) (congrArg₂ I.dup ?_ (congrArg₂ col ?_ ?_))
  · apply Fin.ext
    show (31 - t.val) * 256 + (j 1).val = win0_13.index t 1 * 256 + 1 * (j 1).val
    rw [h1]; omega
  · apply Fin.ext
    show (j 0).val = win0_13.index t 0 * 8 + 1 * (j 0).val
    rw [h0]; omega
  · apply Fin.ext
    show (j 2).val = win0_13.index t 2 * 704 + 1 * (j 2).val
    rw [h2]; omega

theorem final13 : (dats m 0 c).arrAt 13 cfg0.N = oDup I :=
  (dats m 0 c).arrAt_eq_of_cover 13 (oDup I) (fun t _ => flushed13 A t) fun i => by
    have h0 : (i 0).val < 8 := (i 0).isLt
    have h1 : (i 1).val < 8192 := (i 1).isLt
    have h2 : (i 2).val < 704 := (i 2).isLt
    obtain ⟨-, -, e0, e1, e2, -, -, -, -⟩ := index_out (pt (i 1).val)
    have ht : (pt (i 1).val).val = 31 - (i 1).val / 256 := rfl
    refine ⟨pt (i 1).val, flush0_13 _, ?_⟩
    show i ∈ ((View.whole main_v64_1).slice (win0_13.rect (pt (i 1).val))).set
    rw [View.set_slice_whole, Rect.mem_set_unit]
    intro a
    match a with
    | ⟨0, _⟩ =>
      show win0_13.index (pt (i 1).val) 0 * 8 ≤ (i 0).val ∧ (i 0).val < win0_13.index (pt (i 1).val) 0 * 8 + 8
      rw [e0]; omega
    | ⟨1, _⟩ =>
      show win0_13.index (pt (i 1).val) 1 * 256 ≤ (i 1).val ∧ (i 1).val < win0_13.index (pt (i 1).val) 1 * 256 + 256
      rw [e1, ht]; omega
    | ⟨2, _⟩ =>
      show win0_13.index (pt (i 1).val) 2 * 704 ≤ (i 2).val ∧ (i 2).val < win0_13.index (pt (i 1).val) 2 * 704 + 704
      rw [e2]; omega

end Cert.Kernel.Own
-- ==== Proof.FfnValue.lean ====
/-
  The forward call's equation: whatever the arguments hold, the kernel's five results are the reference's.
-/
module

public import proofs.«01_k».proof.Proof.FfnState
public import proofs.«01_k».proof.Proof.FfnRef
public import proofs.«01_k».proof.Proof.Arrays
public import proofs.«01_k».proof.Proof.Gen.FfnReferenceIdeal.Run
public import proofs.«01_k».proof.Defs

@[expose] public section

set_option maxRecDepth 16384

noncomputable section

namespace Cert.FwdSpec.Inp

open Idealize.ShloMosaic Cert.FfnIdeal
open Cert.Kernel.Own (col colD)

/-- The five results. -/
def oUp (I : Inp) : S8x8192x704.Idx → EReal := fun j => I.up (j 1) (col (j 0) (j 2))
def oAct (I : Inp) : S4x8192x704.Idx → EReal := fun j => I.act (j 1) (colD (j 0) (j 2))
def oF (I : Inp) : S8192x1024.Idx → EReal := fun j => I.f (j 0) (j 1)
def oDx (I : Inp) : S8192x1024.Idx → EReal := fun j => I.dx2 (j 0) (j 1)
def oLoss (I : Inp) : S1x1024.Idx → EReal := fun j => I.loss (j 1)

end Cert.FwdSpec.Inp

namespace Cert.FfnIdeal.Own

open Cert.FfnIdeal Cert.FfnIdeal.Gen Cert.FfnIdeal.Value Cert.FwdSpec
open Idealize.ShloMosaic Idealize.ShloMosaic.TcCoe
open Cert.Kernel.Own (row col colD idx2_eq idx3_eq of_ix2 of_ix3)

variable (m : (ℓ : Loc nD τ sig) → Buf (Elt Ideal) ℓ) (c : Dev nD)

/-- Row `i` is row `i % 256` of tile `i / 256`. -/
theorem row_tile (i : Fin 8192) (h : i.val % 256 < 256) : row (tile (i.val / 256)) ⟨i.val % 256, h⟩ = i := by
  apply Fin.ext; simp only [row, tile]; omega

/-- The tiles of all points together are all rows. -/
theorem upto_all (g : Fin 8192 → EReal) : upto g 31 = ∑ n, g n := by
  let e : Fin 32 × Fin 256 ≃ Fin 8192 := finProdFinEquiv
  rw [← Equiv.sum_comp e g, Fintype.sum_prod_type, upto, Finset.sum_range]
  refine Finset.sum_congr rfl fun s _ => Finset.sum_congr rfl fun i _ => congrArg g (Fin.ext ?_)
  have hs := s.isLt
  show s.val % 32 * 256 + i.val = i.val + 256 * s.val
  omega

/-- What the fold of the points up to `p` leaves is what point `n = p` leaves. -/
theorem fold_eq (p n : ℕ) (hp : 0 + p < cfg0.N) (e : p = n) (hn : n < cfg0.N) :
    Pipeline.accAt (fun n h => stAt0 m c n h junk0) (stAt0 m c) 0 p hp = outsAt0 m c n hn := by
  subst e; exact (outsAt0_sweep m c p hn).symm

theorem point_lt (i : Fin 8192) : i.val / 256 < cfg0.N := lt_of_lt_of_eq (b := 32) (by omega) (show grid0.N = 32 from N_0).symm

theorem G9_eq : G9 m c = (inp m c).oUp := funext <| of_ix3 _ (fun k i b => (inp m c).up i (col k b)) fun k i b => by
  have hn := point_lt i
  have e : pt9Of (ix3 k i b) = i.val / 256 := by
    show 32 * (k.val / 8 - 0) + 1 * (i.val / 256 - 0) + 1 * (b.val / 704 - 0) = _; omega
  unfold G9
  rw [dif_pos (e.trans_lt hn), fold_eq m c _ _ _ e hn,
    show loc9Of (ix3 k i b) = ix3 k ⟨i.val % 256, by omega⟩ b from idx3_eq _ _ (Nat.mod_eq_of_lt k.isLt) rfl (Nat.mod_eq_of_lt b.isLt)]
  exact ((holds m c _ hn).up k _ b).trans (congrArg (fun r => (inp m c).up r (col k b)) (row_tile i _))

theorem G10_eq : G10 m c = (inp m c).oAct := funext <| of_ix3 _ (fun k i b => (inp m c).act i (colD k b)) fun k i b => by
  have hn := point_lt i
  have e : pt10Of (ix3 k i b) = i.val / 256 := by
    show 32 * (k.val / 4 - 0) + 1 * (i.val / 256 - 0) + 1 * (b.val / 704 - 0) = _; omega
  unfold G10
  rw [dif_pos (e.trans_lt hn), fold_eq m c _ _ _ e hn,
    show loc10Of (ix3 k i b) = ix3 k ⟨i.val % 256, by omega⟩ b from idx3_eq _ _ (Nat.mod_eq_of_lt k.isLt) rfl (Nat.mod_eq_of_lt b.isLt)]
  exact ((holds m c _ hn).act k _ b).trans (congrArg (fun r => (inp m c).act r (colD k b)) (row_tile i _))

theorem G11_eq : G11 m c = (inp m c).oF := funext <| of_ix2 _ (fun i d => (inp m c).f i d) fun i d => by
  have hn := point_lt i
  have e : pt11Of (ix2 i d) = i.val / 256 := by show 1 * (i.val / 256 - 0) + 1 * (d.val / 1024 - 0) = _; omega
  unfold G11
  rw [dif_pos (e.trans_lt hn), fold_eq m c _ _ _ e hn,
    show loc11Of (ix2 i d) = ix2 ⟨i.val % 256, by omega⟩ d from idx2_eq _ _ rfl (Nat.mod_eq_of_lt d.isLt)]
  exact ((holds m c _ hn).f _ d).trans (congrArg (fun r => (inp m c).f r d) (row_tile i _))

theorem G12_eq : G12 m c = (inp m c).oDx := funext <| of_ix2 _ (fun i d => (inp m c).dx2 i d) fun i d => by
  have hn := point_lt i
  have e : pt12Of (ix2 i d) = i.val / 256 := by show 1 * (i.val / 256 - 0) + 1 * (d.val / 1024 - 0) = _; omega
  unfold G12
  rw [dif_pos (e.trans_lt hn), fold_eq m c _ _ _ e hn,
    show loc12Of (ix2 i d) = ix2 ⟨i.val % 256, by omega⟩ d from idx2_eq _ _ rfl (Nat.mod_eq_of_lt d.isLt)]
  exact ((holds m c _ hn).dx2 _ d).trans (congrArg (fun r => (inp m c).dx2 r d) (row_tile i _))

theorem G13_eq : G13 m c = (inp m c).oLoss := by
  have hn : 31 < cfg0.N := lt_of_lt_of_eq (b := 32) (by omega) (show grid0.N = 32 from N_0).symm
  rw [G13_last, fold_eq m c 31 31 _ rfl hn]
  exact funext <| of_ix2 _ (fun _ d => (inp m c).loss d) fun z d => ((holds m c 31 hn).loss z d).trans (upto_all _)

end Cert.FfnIdeal.Own

namespace Cert.FfnRef

open Cert.FfnReferenceIdeal Cert.FfnReferenceIdeal.Gen Cert.FfnReferenceIdeal.Read Cert.FwdSpec
open Idealize.ShloMosaic Idealize.ShloMosaic.TcCoe Idealize.ShloMosaic.StableHlo Idealize.SL.Sem
open Cert.Kernel.Own (col colD idx2_eq idx3_eq of_ix2 of_ix3)

/-- The arguments a device holds. -/
def argsAt (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8)⟩

/-- The reference's run, its results named. -/
theorem ends (m : (ℓ : Loc nD τ sig) → Buf (Elt Ideal) ℓ) (ρ : Dev nD → PrngReg) (I : Dev nD → Inp) (E : ∀ c, (argsAt m c).inp = I c) :
    θ_run defs (onTc (τ := τ) (main (F := Ideal))) ⟨m, fun _ => 0, ρ⟩ (fun r => ∀ c : Dev nD,
      r.2.mem ((c.tc : Thread nD τ).loc main_v85) = (I c).oUp
      ∧ r.2.mem ((c.tc : Thread nD τ).loc main_v88) = (I c).oAct
      ∧ r.2.mem ((c.tc : Thread nD τ).loc main_v53) = (I c).oF
      ∧ r.2.mem ((c.tc : Thread nD τ).loc main_v83) = (I c).oDx
      ∧ r.2.mem ((c.tc : Thread nD τ).loc main_v92) = (I c).oLoss
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (Cert.FfnReferenceIdeal.Value.run (F := Ideal) m ρ)
  obtain ⟨h0, h1, h2, h3, h4, hk⟩ := h c
  rw [← E c]
  refine ⟨?_, ?_, ?_, ?_, ?_, hk⟩
  · exact h0.trans ((val_main_v85_eq (launchContents m c)).trans
      (funext <| of_ix3 _ (fun k i b => (argsAt m c).inp.up i (col k b)) (up_out (argsAt m c))))
  · exact h1.trans ((val_main_v88_eq (launchContents m c)).trans
      (funext <| of_ix3 _ (fun k i b => (argsAt m c).inp.act i (colD k b)) (act_out (argsAt m c))))
  · exact h2.trans ((val_main_v53_eq (launchContents m c)).trans
      (funext <| of_ix2 _ (fun i d => (argsAt m c).inp.f i d) (f_eq (argsAt m c))))
  · exact h3.trans ((val_main_v83_eq (launchContents m c)).trans
      (funext <| of_ix2 _ (fun i d => (argsAt m c).inp.dx2 i d) (dx2_eq (argsAt m c))))
  · exact h4.trans ((val_main_v92_eq (launchContents m c)).trans
      (funext <| of_ix2 _ (fun _ d => (argsAt m c).inp.loss d) (loss_out (argsAt m c))))

end Cert.FfnRef

namespace Cert.FfnPair

open Cert.FfnIdeal.Gen Cert.FfnIdeal.Own
open Idealize.ShloMosaic Idealize.ShloMosaic.TcCoe Idealize.SL.Sem

theorem algebraic : Cert.algebraic_FfnIdeal_FfnReferenceIdeal := by
  intro m g m' g' _ hag
  refine ⟨fun c => (inp m c).oUp, fun c => (inp m c).oAct, fun c => (inp m c).oF, fun c => (inp m c).oDx, fun c => (inp m c).oLoss, ?_, ?_⟩
  · refine (θ_run Cert.FfnIdeal.defs _ _).mono (fun r h c => ?_) (Cert.FfnIdeal.Value.run (F := Ideal) m g)
    obtain ⟨h0, h1, h2, h3, h4, hk⟩ := h c
    exact ⟨h0.trans (G9_eq m c), h1.trans (G10_eq m c), h2.trans (G11_eq m c), h3.trans (G12_eq m c), h4.trans (G13_eq m c), hk⟩
  · refine Cert.FfnRef.ends m' g' (inp m) fun c => ?_
    obtain ⟨a0, a1, a2, a3, a4, a5, a6, a7, a8⟩ := hag c
    unfold Cert.FfnRef.argsAt inp Cert.FfnRef.Args.inp
    rw [a0, a1, a2, a3, a4, a5, a6, a7, a8, V_main_arg0 m c, V_main_arg1 m c, V_main_arg2 m c, V_main_arg3 m c, V_main_arg4 m c, V_main_arg5 m c, V_main_arg6 m c,
      V_main_arg7 m c, V_main_arg8 m c]

end Cert.FfnPair

end
-- ==== Proof.MixFwdVoc.lean ====
/-
  The forward call's arithmetic at one grid point, over what the point loads, and the contents it leaves in terms of it.
  The words are those of MixVoc.lean and MixBridge.lean; what differs is that the projected columns are computed here, that
  the sixteen rows before a tile are kept from the point before, and how the gelu is written.
-/
module

public import proofs.«01_k».proof.Proof.MixBridge
public import proofs.«01_k».proof.Proof.Canon
public import proofs.«01_k».proof.Proof.Gen.MixFwdIdeal.Value

@[expose] public section

set_option maxRecDepth 16384

noncomputable section

namespace Cert.MixFwdIdeal.Own

open Cert.MixFwdIdeal Cert.MixFwdIdeal.Gen
open Idealize.ShloMosaic Idealize.ShloMosaic.TcCoe Idealize.ShloMosaic.Tactic
open Cert.MixIdeal.Own (Rows Row Head Block Line Tall Loads Mid wide tall tallH normed normedH blk mulNN
  rProj rCat rCatB rTall rFirst rLast rBody rPool rMod rSgn rBs rStack rPs rRows rRow rIn rOut rAll colU colV colA colB back zero)

variable {F : FTy → Type} [FloatOps F] [Named F]

/-- The gelu. -/
def gelu (x : Head F) : Head F :=
  mulf x (mulf (broadcast S512x128 (Scalar.ofBits .f32 0x3F000000#32)) (addf (broadcast S512x128 (Scalar.ofBits .f32 0x3F800000#32))
    (tanh (mulf (broadcast S512x128 (Scalar.ofBits .f32 0x3F4C422A#32))
      (addf x (mulf (broadcast S512x128 (Scalar.ofBits .f32 0x3D372713#32)) (mulf (mulf x x) x)))))))

section arithmetic
variable (I : Loads F)

/-- The projected columns. -/
def proj : FVec F S512x1536 .f32 :=
  matmul dot_S512x1024_S1536x1024_S512x1536_1_1_0_0_n_n none I.h (shapeCast S1536x1024 I.win shapeCasts_S1536x1024_S1536x1024)
    (constant S512x1536 .f32 0x00000000#32)

/-- The gelus of a head's columns; its normed columns with their gain; its gate and the gated columns of a block. -/
def ug (h : Fin 4) : Head F := gelu (I.uu h)
def vg (h : Fin 4) : Head F := gelu (I.vv h)
def vn (h : Fin 4) : FVec F S512x128 .bf16 := truncf .bf16 (mulf (normedH (vg I h)) (tallH (I.sgn h))) bitsLt_bf16_f32
def z (h b : Fin 4) : Block F :=
  addf (mulNN (I.wm h) (blk (vn I h) b)) (broadcastTo S128x128 (shapeCast S128x1 (I.bs h) shapeCasts_S128x1_S128x1) broadcasts_S128x1_S128x128)
def gated (h b : Fin 4) : FVec F S128x128 .bf16 := truncf .bf16 (mulf (blk (ug I h) b) (z I h b)) bitsLt_bf16_f32

/-- The stores of the mixed columns, the last first, over the pooled columns with the rows before them. -/
def catL (x : Fin 4 → Tall F) : List (View.Piece (Elt F) S512x1024 .bf16) :=
  (back.map fun g => ⟨rCat (colB g), shapeCast S512x128
      (I.scaled { da := fun _ _ => zero S128x128, dob := fun _ => zero S512x128, ext := x } g) shapeCasts_S512x128_S512x128⟩)
    ++ back.flatMap fun h => back.map fun b => ⟨rCatB b (colA h), shapeCast S128x128 (gated I h b) shapeCasts_S128x128_S128x128⟩
/-- The mixed columns as they are loaded. -/
def catV (x : Fin 4 → Tall F) : FVec F S512x1024 .bf16 := View.readCov (Val := Elt F) scM0_1.view (catL I x) rRows.toLoadRect
/-- The mixture, and the residual row. -/
def mixed (x : Fin 4 → Tall F) : Rows F :=
  matmul dot_S512x1024_S1024x1024_S512x1024_1_0_0_1_n_n none (catV I x) (shapeCast S1024x1024 I.wout shapeCasts_S1024x1024_S1024x1024)
    (constant S512x1024 .f32 0x00000000#32)
def x1 (x : Fin 4 → Tall F) : Rows F := addf I.x (mulf (tall I.gmr) (mulf (normed (mixed I x)) (tall I.g2)))

/-- The store of the pooled columns, and of zeros before them. -/
def bodyP : View.Piece (Elt F) S528x512 .f32 :=
  ⟨rBody, shapeCast S512x512 (shapeCast S512x512 I.p shapeCasts_S512x512_S512x512) shapeCasts_S512x512_S512x512⟩
def zeroP : View.Piece (Elt F) S528x512 .f32 := ⟨rFirst, shapeCast S16x512 (zero S16x512) shapeCasts_S16x512_S16x512⟩
/-- The pooled columns' last rows, moved to the front. -/
def lastP (l : List (View.Piece (Elt F) S528x512 .f32)) : View.Piece (Elt F) S528x512 .f32 :=
  ⟨rFirst, shapeCast S16x512 (View.readCov (Val := Elt F) scM0_0.view l rLast.toLoadRect) shapeCasts_S16x512_S16x512⟩
end arithmetic

variable (m : (ℓ : Loc nD τ sig) → Buf (Elt F) ℓ) (c : Dev nD) (t : Fin cfg0.N)

/-- What the point before left in front of the pooled columns. -/
abbrev kept : Vec F S528x512 .f32 := (outsAt0 m c (t.val - 1) (Nat.lt_of_le_of_lt (Nat.sub_le _ _) t.isLt)).2.2.2

/-- What point `t` loads of its inputs. -/
def given : Loads F where
  x := View.readAt (Elt F) (ms0_0 t).view rRows.toLoadRect ((hs0_0 t).unread (iblk m c 0 t))
  e := zero S512x1024
  mx := zero S512x1024
  sh := View.readAt (Elt F) (ms0_1 t).view (rMod 0).toLoadRect ((hs0_1 t).unread (iblk m c 1 t))
  sc := View.readAt (Elt F) (ms0_1 t).view (rMod 1).toLoadRect ((hs0_1 t).unread (iblk m c 1 t))
  gm := View.readAt (Elt F) (ms0_1 t).view (rMod 2).toLoadRect ((hs0_1 t).unread (iblk m c 1 t))
  g1 := View.readAt (Elt F) (ms0_2 t).view rRow.toLoadRect ((hs0_2 t).unread (iblk m c 2 t))
  g2 := View.readAt (Elt F) (ms0_3 t).view rRow.toLoadRect ((hs0_3 t).unread (iblk m c 3 t))
  win := View.readAt (Elt F) (ms0_4 t).view rIn.toLoadRect ((hs0_4 t).unread (iblk m c 4 t))
  wout := View.readAt (Elt F) (ms0_10 t).view rOut.toLoadRect ((hs0_10 t).unread (iblk m c 10 t))
  u _ := zero S512x128
  v _ := zero S512x128
  p := zero S512x512
  halo := zero S16x512
  sgn h := View.readAt (Elt F) (ms0_5 t).view (rSgn h).toLoadRect ((hs0_5 t).unread (iblk m c 5 t))
  ws h := View.readAt (Elt F) (ms0_6 t).view (rStack h).toLoadRect ((hs0_6 t).unread (iblk m c 6 t))
  bs h := View.readAt (Elt F) (ms0_7 t).view (rBs h).toLoadRect ((hs0_7 t).unread (iblk m c 7 t))
  wp g := View.readAt (Elt F) (ms0_8 t).view (rStack g).toLoadRect ((hs0_8 t).unread (iblk m c 8 t))
  ps g := View.readAt (Elt F) (ms0_9 t).view (rPs g).toLoadRect ((hs0_9 t).unread (iblk m c 9 t))
  r := BitVec.ofNat 32 (grid0.coords t 0).val

/-- The store of the projected columns. -/
def projL : List (View.Piece (Elt F) S512x1536 .f32) := [⟨rAll, proj (given m c t)⟩]

/-- What it loads, with the projected columns it has stored. -/
def ins : Loads F :=
  { given m c t with
    u := fun h => View.readCov (Val := Elt F) (ms0_12 t).view (projL m c t) (rProj (colU h)).toLoadRect
    v := fun h => View.readCov (Val := Elt F) (ms0_12 t).view (projL m c t) (rProj (colV h)).toLoadRect
    p := View.readCov (Val := Elt F) (ms0_12 t).view (projL m c t) rPool.toLoadRect }

section first
variable (h0 : t.val % 16 = 0)
include h0

/-- The run at a first point. -/
abbrev runA := kernelRun0_A (F := F)
    c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) scM0_0
    (Memref.isWhole_whole _) scM0_1 (Memref.isWhole_whole _) ((hcond0_0 t).mpr h0) (iblk m c 0 t) (iblk m c 1 t)
    (iblk m c 2 t) (iblk m c 3 t) (iblk m c 4 t) (iblk m c 5 t) (iblk m c 6 t) (iblk m c 7 t) (iblk m c 8 t)
    (iblk m c 9 t) (iblk m c 10 t)

/-- The pooled columns with the rows before them, at a first point. -/
def pieces : List (View.Piece (Elt F) S528x512 .f32) := [bodyP (ins m c t), zeroP]
def extA (g : Fin 4) : Tall F := View.readCov (Val := Elt F) scM0_0.view (pieces m c t) (rTall g).toLoadRect

theorem x1A_run : (outsAt0 m c t.val t.isLt).1 = View.canon (runA m c t h0).1 := by
  have e : (outsAt0 m c t.val t.isLt).1 = VO0_11.read (Elt F) (VO0_11.writes (Elt F) VO0_11.junk (runA m c t h0).1) :=
    (congrArg (fun p => p.1) (outsAt0_A m c t h0)).trans (by sl_kernel_rfl)
  exact e.trans (View.read_writes_eq_canon VO0_11 VO0_11.junk _ (by intro y; apply cover0_A_11))
theorem x1A : (outsAt0 m c t.val t.isLt).1 = View.canon (Val := Elt F) ([⟨rRows, x1 (ins m c t) (extA m c t)⟩]) := (x1A_run m c t h0).trans (by sl_kernel_rfl)
theorem prA_run : (outsAt0 m c t.val t.isLt).2.1 = View.canon (runA m c t h0).2.1 := by
  have e : (outsAt0 m c t.val t.isLt).2.1 = VO0_12.read (Elt F) (VO0_12.writes (Elt F) VO0_12.junk (runA m c t h0).2.1) :=
    (congrArg (fun p => p.2.1) (outsAt0_A m c t h0)).trans (by sl_kernel_rfl)
  exact e.trans (View.read_writes_eq_canon VO0_12 VO0_12.junk _ (by intro y; apply cover0_A_12))
theorem prA : (outsAt0 m c t.val t.isLt).2.1 = View.canon (Val := Elt F) (projL m c t) := (prA_run m c t h0).trans (by sl_kernel_rfl)
theorem mxA_run : (outsAt0 m c t.val t.isLt).2.2.1 = View.canon (runA m c t h0).2.2.1 := by
  have e : (outsAt0 m c t.val t.isLt).2.2.1 = VO0_13.read (Elt F) (VO0_13.writes (Elt F) VO0_13.junk (runA m c t h0).2.2.1) :=
    (congrArg (fun p => p.2.2.1) (outsAt0_A m c t h0)).trans (by sl_kernel_rfl)
  exact e.trans (View.read_writes_eq_canon VO0_13 VO0_13.junk _ (by intro y; apply cover0_A_13))
theorem mxA : (outsAt0 m c t.val t.isLt).2.2.1 = View.canon (Val := Elt F) ([⟨rRows, mixed (ins m c t) (extA m c t)⟩]) := (mxA_run m c t h0).trans (by sl_kernel_rfl)
theorem kpA_run : (outsAt0 m c t.val t.isLt).2.2.2 = View.canon (runA m c t h0).2.2.2.1 := by
  have e : (outsAt0 m c t.val t.isLt).2.2.2 = VS0_0.read (Elt F) (VS0_0.writes (Elt F) VS0_0.junk (runA m c t h0).2.2.2.1) :=
    (congrArg (fun p => p.2.2.2) (outsAt0_A m c t h0)).trans (by sl_kernel_rfl)
  exact e.trans (View.read_writes_eq_canon VS0_0 VS0_0.junk _ (by intro y; apply scover0_A_0))
theorem kpA : (outsAt0 m c t.val t.isLt).2.2.2 = View.canon (Val := Elt F) (lastP (pieces m c t) :: pieces m c t) := (kpA_run m c t h0).trans (by sl_kernel_rfl)
end first

section later
variable (h0 : ¬t.val % 16 = 0)
include h0

/-- The run at any other point. -/
abbrev runB := kernelRun0_B (F := F)
    c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) scM0_0
    (Memref.isWhole_whole _) scM0_1 (Memref.isWhole_whole _) (fun h => h0 ((hcond0_0 t).mp h)) (iblk m c 0 t)
    (iblk m c 1 t) (iblk m c 2 t) (iblk m c 3 t) (iblk m c 4 t) (iblk m c 5 t) (iblk m c 6 t) (iblk m c 7 t)
    (iblk m c 8 t) (iblk m c 9 t) (iblk m c 10 t) (kept m c t)

/-- The pooled columns with the rows before them, at a later point. -/
def extB (g : Fin 4) : Tall F :=
  View.readAt (Elt F) scM0_0.view (rTall g).toLoadRect
    (View.writes scM0_0.view (Elt F) ((Memref.isWhole_whole _).unread (kept m c t)) [bodyP (ins m c t)])

theorem x1B_run : (outsAt0 m c t.val t.isLt).1 = View.canon (runB m c t h0).1 := by
  have e : (outsAt0 m c t.val t.isLt).1 = VO0_11.read (Elt F) (VO0_11.writes (Elt F) VO0_11.junk (runB m c t h0).1) :=
    (congrArg (fun p => p.1) (outsAt0_B m c t h0)).trans (by sl_kernel_rfl)
  exact e.trans (View.read_writes_eq_canon VO0_11 VO0_11.junk _ (by intro y; apply cover0_B_11))
theorem x1B : (outsAt0 m c t.val t.isLt).1 = View.canon (Val := Elt F) ([⟨rRows, x1 (ins m c t) (extB m c t)⟩]) := (x1B_run m c t h0).trans (by sl_kernel_rfl)
theorem prB_run : (outsAt0 m c t.val t.isLt).2.1 = View.canon (runB m c t h0).2.1 := by
  have e : (outsAt0 m c t.val t.isLt).2.1 = VO0_12.read (Elt F) (VO0_12.writes (Elt F) VO0_12.junk (runB m c t h0).2.1) :=
    (congrArg (fun p => p.2.1) (outsAt0_B m c t h0)).trans (by sl_kernel_rfl)
  exact e.trans (View.read_writes_eq_canon VO0_12 VO0_12.junk _ (by intro y; apply cover0_B_12))
theorem prB : (outsAt0 m c t.val t.isLt).2.1 = View.canon (Val := Elt F) (projL m c t) := (prB_run m c t h0).trans (by sl_kernel_rfl)
theorem mxB_run : (outsAt0 m c t.val t.isLt).2.2.1 = View.canon (runB m c t h0).2.2.1 := by
  have e : (outsAt0 m c t.val t.isLt).2.2.1 = VO0_13.read (Elt F) (VO0_13.writes (Elt F) VO0_13.junk (runB m c t h0).2.2.1) :=
    (congrArg (fun p => p.2.2.1) (outsAt0_B m c t h0)).trans (by sl_kernel_rfl)
  exact e.trans (View.read_writes_eq_canon VO0_13 VO0_13.junk _ (by intro y; apply cover0_B_13))
theorem mxB : (outsAt0 m c t.val t.isLt).2.2.1 = View.canon (Val := Elt F) ([⟨rRows, mixed (ins m c t) (extB m c t)⟩]) := (mxB_run m c t h0).trans (by sl_kernel_rfl)
theorem kpB_run : (outsAt0 m c t.val t.isLt).2.2.2 = View.canon (runB m c t h0).2.2.2.1 := by
  have e : (outsAt0 m c t.val t.isLt).2.2.2 = VS0_0.read (Elt F) (VS0_0.writes (Elt F) VS0_0.junk (runB m c t h0).2.2.2.1) :=
    (congrArg (fun p => p.2.2.2) (outsAt0_B m c t h0)).trans (by sl_kernel_rfl)
  exact e.trans (View.read_writes_eq_canon VS0_0 VS0_0.junk _ (by intro y; apply scover0_B_0))
theorem kpB : (outsAt0 m c t.val t.isLt).2.2.2 = View.canon (Val := Elt F) ([lastP [bodyP (ins m c t)], bodyP (ins m c t)]) := (kpB_run m c t h0).trans (by sl_kernel_rfl)
end later

end Cert.MixFwdIdeal.Own

end
-- ==== Proof.MixFwdSpec.lean ====
/-
  The mixing half's forward pass: over the real numbers as far as the projected columns and what is pooled of them
  (MixSpec.lean), and over the extended reals from there, whatever the later arguments hold.
-/
module

public import proofs.«01_k».proof.Proof.MixSpec
public import proofs.«01_k».proof.Proof.FfnSpec

@[expose] public section

noncomputable section

namespace Cert.MixFwdSpec

open Idealize.ShloMosaic Cert.MixSpec
open Cert.FwdSpec (scale)

/-- The call's arguments: those the projected columns come from, and the others. -/
structure Args where
  J : MixSpec.Inp
  g2 : Fin 1024 → EReal
  sgn : Fin 4 → Fin 128 → EReal
  ws : Fin 4 → Fin 128 → Fin 128 → EReal
  bs : Fin 4 → Fin 128 → EReal
  wp : Fin 4 → Fin 128 → Fin 128 → EReal
  ps : Fin 512 → EReal
  Wo : Fin 1024 → Fin 1024 → EReal

namespace Args

variable (I : Args)

/-- The normed columns with their gain, the masked weight, the gate, and the gated columns. -/
def vn (n : Fin 8192) (h : Fin 4) (c : Fin 128) : EReal := ((I.J.vh n h c : ℝ) : EReal) * I.sgn h c
def wm (h : Fin 4) (i j : Fin 128) : EReal := if seen i j then I.ws h i j else 0
def z (n : Fin 8192) (h : Fin 4) (c : Fin 128) : EReal := ∑ j, I.wm h (pos n) j * I.vn (mate n j) h c + I.bs h (pos n)
def gated (n : Fin 8192) (h : Fin 4) (c : Fin 128) : EReal := ((I.J.ug n h c : ℝ) : EReal) * I.z n h c

/-- The pooled columns' product, and that over its gain. -/
def y (n : Fin 8192) (g : Fin 4) (d : Fin 128) : EReal := ∑ c, ((I.J.pooled n g c : ℝ) : EReal) * I.wp g c d
def scaled (n : Fin 8192) (g : Fin 4) (d : Fin 128) : EReal := I.y n g d * I.ps (lane g d)

/-- The mixed columns, the mixture, and the residual row. -/
def cat (n : Fin 8192) (k : Fin 1024) : EReal :=
  if k.val < 512 then I.gated n (hd k.val) (ln k.val) else I.scaled n (hd k.val) (ln k.val)
def M (n : Fin 8192) (d : Fin 1024) : EReal := ∑ k, I.cat n k * I.Wo k d
def x1 (n : Fin 8192) (d : Fin 1024) : EReal :=
  ((I.J.x n d : ℝ) : EReal) + ((I.J.gm d : ℝ) : EReal) * (I.M n d * scale (I.M n) * I.g2 d)

theorem cat_ka (n : Fin 8192) (h : Fin 4) (c : Fin 128) : I.cat n (ka h c) = I.gated n h c := by
  have e := hd_lane h c 0 rfl; have e' := ln_lane h c 0 rfl
  rw [Nat.zero_add] at e e'
  unfold cat
  rw [if_pos (by simp only [ka]; omega)]
  simp only [ka, e, e']
theorem cat_kb (n : Fin 8192) (g : Fin 4) (c : Fin 128) : I.cat n (kb g c) = I.scaled n g c := by
  unfold cat
  rw [if_neg (by simp only [kb]; omega)]
  simp only [kb, hd_lane g c 512 rfl, ln_lane g c 512 rfl]

end Args

end Cert.MixFwdSpec

end
-- ==== Proof.MixFwdTile.lean ====
/-
  One grid point's arithmetic of the mixing half's forward call where it loads the tile of 512 rows numbered `T`: what it
  computes at an index, in the words of MixFwdSpec.lean, and what its stores leave.
-/
module

public import proofs.«01_k».proof.Proof.MixFwdVoc
public import proofs.«01_k».proof.Proof.MixFwdSpec
public import proofs.«01_k».proof.Proof.MixCanon

@[expose] public section

set_option maxRecDepth 16384

noncomputable section

namespace Cert.MixFwdIdeal.Own

open Cert.MixFwdIdeal Cert.MixFwdIdeal.Gen Cert.MixFwdSpec
open Cert.FwdSpec (scale zero_word one_word)
open Cert.Spec (c_half c_one c_zero)
open Cert.MixSpec (gel gcdf gth seen pos mate lane cu cv cp ka kb c_gC c_gK)
open Idealize.ShloMosaic Idealize.ShloMosaic.TcCoe
open Cert.Kernel.Own (canon_map off_zero2)
open Cert.MixIdeal.Own (Rows Row Head Block Line Tall Loads Mid RowsAt wide tall tallH normed normedH rowMean rowScale blk mask masked
  row inTile rowIn extR inTile_split pos_rowIn mate_rowIn blk_at mask_at normedH_at
  rProj rCat rCatB rTall rFirst rLast rBody rPool rRows rAll colU colV colA colB back zero
  rc lc rc_off all_lc rCat_emb rCatB_emb rRows_emb)

/-- One over each row's root mean square, a row over it, and a block under its mask. -/
theorem rowScale_eq (v : Rows Ideal) (i : Fin 512) (z : Fin 1) : rowScale v (ix2 i z) = scale fun d => v (ix2 i d) := by
  unfold rowScale rowMean
  pointwise [zero_word, zero_add]
  rfl
theorem normed_eq (v : Rows Ideal) (i : Fin 512) (d : Fin 1024) : normed v (ix2 i d) = v (ix2 i d) * scale fun d => v (ix2 i d) := by
  unfold normed
  pointwise [rowScale_eq]
theorem masked_eq (v : Block Ideal) (i j : Fin 128) : masked v (ix2 i j) = if seen i j then v (ix2 i j) else 0 := by
  pointwise [mask_at, zero_word]
  by_cases h : seen i j <;> simp [h, Scalar.select]

/-- The gelu of a real number. -/
theorem gelu_at {v : Head Ideal} {i : Fin 512} {c : Fin 128} {p : ℝ} (hv : v (ix2 i c) = (p : EReal)) : gelu v (ix2 i c) = ((gel p : ℝ) : EReal) := by
  unfold gelu
  pointwise [hv, c_gC, c_gK, c_half, c_one, ← EReal.coe_mul, ← EReal.coe_add, Ideal.tanh_coe]
  unfold gel gcdf gth
  rw [show p * p * p = p * (p * p) by ring]
  congr 1
  ring

/-- What the point at tile `T` loads of the program's inputs. -/
structure Given (I : Args) (T : Fin 16) (L : Loads Ideal) : Prop extends RowsAt I.J T L where
  g2 : ∀ (z : Fin 1) d, L.g2 (ix2 z d) = I.g2 d
  sgn : ∀ h (z : Fin 1) c, L.sgn h (ix2 z c) = I.sgn h c
  ws : ∀ h (z : Fin 1) i j, L.ws h (ix3 z i j) = I.ws h i j
  bs : ∀ h i (z : Fin 1), L.bs h (ix2 i z) = I.bs h i
  wp : ∀ g (z : Fin 1) c d, L.wp g (ix3 z c d) = I.wp g c d
  ps : ∀ g (z : Fin 1) d, L.ps g (ix2 z d) = I.ps (lane g d)
  wout : ∀ k d, L.wout (ix2 k d) = I.Wo k d

/-- The same, with what it loads of the projected columns. -/
structure At (I : Args) (T : Fin 16) (L : Loads Ideal) : Prop extends Given I T L where
  u : ∀ h i c, L.u h (ix2 i c) = ((I.J.P (row T i) (cu h c) : ℝ) : EReal)
  v : ∀ h i c, L.v h (ix2 i c) = ((I.J.P (row T i) (cv h c) : ℝ) : EReal)
  p : ∀ i g c, L.p (ix2 i (lane g c)) = ((I.J.P (row T i) (cp g c) : ℝ) : EReal)

/-- The pooled columns after the sixteen rows before the tile. -/
def Before (I : Args) (T : Fin 16) (x : Fin 4 → Tall Ideal) : Prop :=
  ∀ g n c, x g (ix2 n c) = ((extR I.J T g n c : ℝ) : EReal)

theorem Given.proj_at {I : Args} {T : Fin 16} {L : Loads Ideal} (H : Given I T L) (i : Fin 512) (k : Fin 1536) :
    proj L (ix2 i k) = ((I.J.P (row T i) k : ℝ) : EReal) := by
  unfold proj
  pointwise [dot_S512x1024_S1536x1024_S512x1536_1_1_0_0_n_n, H.h_at, H.win, c_zero, ← EReal.coe_mul, Cert.Spec.coe_sum, ← EReal.coe_add, zero_add]
  rfl

namespace At

variable {I : Args} {T : Fin 16} {L : Loads Ideal} (H : At I T L)
include H

theorem ug_at (h : Fin 4) (i : Fin 512) (c : Fin 128) : ug L h (ix2 i c) = ((I.J.ug (row T i) h c : ℝ) : EReal) := by
  unfold ug Loads.uu
  rw [shapeCast_self]
  exact gelu_at (H.u h i c)
theorem vg_at (h : Fin 4) (i : Fin 512) (c : Fin 128) : vg L h (ix2 i c) = ((I.J.vg (row T i) h c : ℝ) : EReal) := by
  unfold vg Loads.vv
  rw [shapeCast_self]
  exact gelu_at (H.v h i c)
theorem vh_at (h : Fin 4) (i : Fin 512) (c : Fin 128) : normedH (vg L h) (ix2 i c) = ((I.J.vh (row T i) h c : ℝ) : EReal) := by
  rw [normedH_at (H.vg_at h)]; rfl
theorem vn_at (h : Fin 4) (i : Fin 512) (c : Fin 128) : vn L h (ix2 i c) = I.vn (row T i) h c := by
  unfold vn
  pointwise [H.vh_at, H.sgn]
  rfl
theorem wm_at (h : Fin 4) (i j : Fin 128) : L.wm h (ix2 i j) = I.wm h i j := by
  have e : shapeCast S128x128 (L.ws h) shapeCasts_S1x128x128_S128x128 (ix2 i j) = I.ws h i j := by
    pointwise [H.ws]
  exact (masked_eq _ i j).trans (by rw [e]; rfl)
theorem z_at (h b : Fin 4) (i c : Fin 128) : z L h b (ix2 i c) = I.z (rowIn T b i) h c := by
  unfold z
  pointwise [Cert.MixIdeal.dot_S128x128_S128x128_S128x128_1_0_0_1_n_n, blk_at, H.wm_at, H.vn_at, H.bs, zero_word, zero_add]
  unfold Args.z
  simp only [pos_rowIn, mate_rowIn]
  rfl
theorem gated_at (h b : Fin 4) (i c : Fin 128) : gated L h b (ix2 i c) = I.gated (rowIn T b i) h c := by
  unfold gated
  pointwise [blk_at, H.ug_at, H.z_at]
  rfl
theorem wpg_at (g : Fin 4) (c d : Fin 128) : L.wpg g (ix2 c d) = I.wp g c d := by
  unfold Loads.wpg
  pointwise [H.wp]

section before
variable {M : Mid Ideal} (B : Before I T M.ext)
include B

theorem y_at (g : Fin 4) (i : Fin 512) (d : Fin 128) : L.y M g (ix2 i d) = I.y (row T i) g d := by
  unfold Loads.y
  pointwise [Cert.MixIdeal.dot_S512x128_S128x128_S512x128_1_0_0_1_n_n, H.pooled_of B, H.wpg_at, zero_word, zero_add]
  rfl
theorem scaled_at (g : Fin 4) (i : Fin 512) (d : Fin 128) : L.scaled M g (ix2 i d) = I.scaled (row T i) g d := by
  unfold Loads.scaled
  pointwise [H.y_at B, H.ps]
  rfl
end before

section before
variable {x : Fin 4 → Tall Ideal} (B : Before I T x)
include B

theorem catV_at (i : Fin 512) (k : Fin 1024) : catV L x (ix2 i k) = I.cat (row T i) k := by
  have hk := k.isLt
  let w : ∀ k, (rc k).shape.Idx → Elt Ideal .bf16 := fun
    | .inl g => shapeCast S512x128 (L.scaled { da := fun _ _ => zero S128x128, dob := fun _ => zero S512x128, ext := x } g)
        shapeCasts_S512x128_S512x128
    | .inr q => shapeCast S128x128 (gated L q.1 q.2) shapeCasts_S128x128_S128x128
  have e : catL L x = lc.map fun q => ⟨rc q, w q⟩ := rfl
  unfold catV
  rw [View.readCov_eq_canon', e]
  refine (congrArg (View.canon _) (rRows_emb i k)).trans ?_
  by_cases h : k.val < 512
  · obtain ⟨j, c, rfl⟩ : ∃ j c, k = ka j c := ⟨⟨k.val / 128, by omega⟩, ⟨k.val % 128, by omega⟩, Fin.ext (by simp only [ka]; omega)⟩
    obtain ⟨b, s, rfl⟩ : ∃ b s, i = inTile b s := ⟨_, _, inTile_split i⟩
    have e2 : (ix2 (inTile b s) (ka j c) : S512x1024.Idx) = (rc (.inr (j, b))).emb (ix2 s c) := (rCatB_emb b (colA j) s c).symm
    rw [e2, canon_map rc w rc_off (.inr (j, b)) (ix2 s c) lc (all_lc _), I.cat_ka]
    simp only [w]
    rw [shapeCast_self]
    exact H.gated_at j b s c
  · obtain ⟨g, c, rfl⟩ : ∃ j c, k = kb j c := ⟨⟨(k.val - 512) / 128, by omega⟩, ⟨k.val % 128, by omega⟩, Fin.ext (by simp only [kb]; omega)⟩
    have e2 : (ix2 i (kb g c) : S512x1024.Idx) = (rc (.inl g)).emb (ix2 i c) := by
      refine Eq.trans ?_ (rCat_emb (colB g) i c).symm
      congr 1; apply Fin.ext; simp only [kb]; omega
    rw [e2, canon_map rc w rc_off (.inl g) (ix2 i c) lc (all_lc _), I.cat_kb]
    simp only [w]
    rw [shapeCast_self]
    exact H.scaled_at B g i c

theorem mixed_at (i : Fin 512) (d : Fin 1024) : mixed L x (ix2 i d) = I.M (row T i) d := by
  unfold mixed
  pointwise [dot_S512x1024_S1024x1024_S512x1024_1_0_0_1_n_n, H.catV_at B, H.wout, zero_word, zero_add]
  rfl
theorem x1_at (i : Fin 512) (d : Fin 1024) : x1 L x (ix2 i d) = I.x1 (row T i) d := by
  unfold x1 Loads.gmr
  rw [shapeCast_self]
  pointwise [normed_eq, H.mixed_at B, H.x, H.gm, H.g2]
  rfl
end before
end At

end Cert.MixFwdIdeal.Own

end
-- ==== Proof.MixFwdRef.lean ====
/-
  What the forward reference's lines compute, read at an index: the functions of MixFwdSpec.lean. The lines up to the gate's
  weight and the pooled columns are the ones the backward pair's reference also has, and are read in MixRefFwd.lean and
  MixRefPool.lean; they need the rows, the modulation, the first gain and the first weight to be real. The lines after them are
  read here, over whatever the other arguments hold.
-/
module

public import proofs.«01_k».proof.Proof.MixFwdSpec
public import proofs.«01_k».proof.Proof.MixRefPool
public import proofs.«01_k».proof.Proof.Gen.MixFwdReferenceIdeal.Read
public import Idealize.ShloMosaic.Lib.Tactic

@[expose] public section

noncomputable section

namespace Cert.MixFwdRef

open Cert.MixFwdReferenceIdeal Cert.MixFwdReferenceIdeal.Gen Cert.MixFwdReferenceIdeal.Read Cert.MixFwdSpec
open Cert.MixSpec (seen pos mate lane hd ln)
open Cert.MixSpec.Inp (inBlock)
open Cert.FwdSpec (scale zero_word)
open Cert.MixRef (T Reads pos_inBlock mate_inBlock inBlock_eq head_eq col_eq)
open Idealize.ShloMosaic Idealize.ShloMosaic.TcCoe Idealize.ShloMosaic.Tactic

/-- The eleven arguments hold what `I` says: real numbers in the four that the projected columns come from. -/
structure Takes (I : Args) (x0 : T S8192x1024) (x1 : T S1x6144) (x2 x3 : T S1x1024) (x4 : T S1024x1536) (x5 : T S4x128)
    (x6 : T S4x128x128) (x7 : T S4x128) (x8 : T S4x128x128) (x9 : T S1x512) (x10 : T S1024x1024) : Prop where
  x : ∀ i d, x0 (ix2 i d) = ((I.J.x i d : ℝ) : EReal)
  md : ∀ d, x1 (ix2 0 d) = ((I.J.md d : ℝ) : EReal)
  g1 : ∀ d, x2 (ix2 0 d) = ((I.J.g1 d : ℝ) : EReal)
  g2 : ∀ d, x3 (ix2 0 d) = I.g2 d
  W : ∀ d k, x4 (ix2 d k) = ((I.J.W d k : ℝ) : EReal)
  sgn : ∀ h c, x5 (ix2 h c) = I.sgn h c
  ws : ∀ h i j, x6 (ix3 h i j) = I.ws h i j
  bs : ∀ h i, x7 (ix2 h i) = I.bs h i
  wp : ∀ g c d, x8 (ix3 g c d) = I.wp g c d
  ps : ∀ k, x9 (ix2 0 k) = I.ps k
  Wo : ∀ k d, x10 (ix2 k d) = I.Wo k d

variable {I : Args} {x0 : T S8192x1024} {x1 : T S1x6144} {x2 x3 : T S1x1024} {x4 : T S1024x1536} {x5 : T S4x128}
  {x6 : T S4x128x128} {x7 : T S4x128} {x8 : T S4x128x128} {x9 : T S1x512} {x10 : T S1024x1024}

/-- The lines that the backward pair's reference has too. -/
theorem proj_same : val_main_v24 (F := Ideal) x0 x1 x2 x4 = Cert.MixReferenceIdeal.Read.val_main_v27 (F := Ideal) x0 x1 x2 x4 := by sl_kernel_rfl
theorem ug_same : val_main_v39 (F := Ideal) x0 x1 x2 x4 = Cert.MixReferenceIdeal.Read.val_main_v50 (F := Ideal) x0 x1 x2 x4 := by sl_kernel_rfl
theorem vh_same : val_main_v52 (F := Ideal) x0 x1 x2 x4 = Cert.MixReferenceIdeal.Read.val_main_v66 (F := Ideal) x0 x1 x2 x4 := by sl_kernel_rfl
theorem mask_same : val_main_call2_v0 (F := Ideal) = Cert.MixReferenceIdeal.Read.val_main_v79_1 (F := Ideal) := by sl_kernel_rfl
theorem pooled_same : val_main_v149 (F := Ideal) x0 x1 x2 x4 = Cert.MixReferenceIdeal.Read.val_main_v167 (F := Ideal) x0 x1 x2 x4 := by sl_kernel_rfl

section
variable (H : Takes I x0 x1 x2 x3 x4 x5 x6 x7 x8 x9 x10)
include H

/-- The backward pair's premises, with real numbers in the arguments that those lines do not read. -/
theorem reads : Reads I.J x0 (fun j => ((I.J.e (j 0) (j 1) : ℝ) : EReal)) x1 x2 (fun j => ((I.J.g2 (j 1) : ℝ) : EReal)) x4
    (fun j => ((I.J.sgn (j 0) (j 1) : ℝ) : EReal)) (fun j => ((I.J.ws (j 0) (j 1) (j 2) : ℝ) : EReal))
    (fun j => ((I.J.bs (j 0) (j 1) : ℝ) : EReal)) (fun j => ((I.J.wp (j 0) (j 1) (j 2) : ℝ) : EReal))
    (fun j => ((I.J.ps (j 1) : ℝ) : EReal)) (fun j => ((I.J.Wo (j 0) (j 1) : ℝ) : EReal)) where
  x := H.x
  e _ _ := rfl
  md := H.md
  g1 := H.g1
  g2 _ := rfl
  W := H.W
  sgn _ _ := rfl
  ws _ _ _ := rfl
  bs _ _ := rfl
  wp _ _ _ := rfl
  ps _ := rfl
  Wo _ _ := rfl

theorem P_eq (i : Fin 8192) (k : Fin 1536) : val_main_v24 (F := Ideal) x0 x1 x2 x4 (ix2 i k) = ((I.J.P i k : ℝ) : EReal) :=
  (congrFun proj_same _).trans (Cert.MixRef.P_eq (reads H) i k)
theorem ug_eq (i : Fin 8192) (h : Fin 4) (c : Fin 128) : val_main_v39 (F := Ideal) x0 x1 x2 x4 (ix2 i (lane h c)) = ((I.J.ug i h c : ℝ) : EReal) :=
  (congrFun ug_same _).trans (Cert.MixRef.ug_eq (reads H) i h c)
theorem vh_eq (b : Fin 64) (i : Fin 128) (h : Fin 4) (c : Fin 128) :
    val_main_v52 (F := Ideal) x0 x1 x2 x4 (ix4 b i h c) = ((I.J.vh (inBlock b i) h c : ℝ) : EReal) :=
  (congrFun vh_same _).trans (Cert.MixRef.vh_eq (reads H) b i h c)
theorem pooled_eq (n : Fin 8192) (g : Fin 4) (c : Fin 128) : val_main_v149 (F := Ideal) x0 x1 x2 x4 (ix3 n g c) = ((I.J.pooled n g c : ℝ) : EReal) :=
  (congrFun pooled_same _).trans (Cert.MixRef.pooled_eq (reads H) n g c)
theorem gm_eq (d : Fin 1024) : val_main_v2 (F := Ideal) x1 (ix2 0 d) = ((I.J.gm d : ℝ) : EReal) := by
  pointwise [val_main_v2]
  exact H.md _

theorem vn_eq (b : Fin 64) (i : Fin 128) (h : Fin 4) (c : Fin 128) :
    val_main_v54 (F := Ideal) x0 x1 x2 x4 x5 (ix4 b i h c) = I.vn (inBlock b i) h c := by
  pointwise [val_main_v54, vh_eq H, val_main_v53, val_main_v42, H.sgn]
  rfl

theorem wm_eq (h : Fin 4) (i j : Fin 128) : val_main_v65 (F := Ideal) x6 (ix3 h i j) = I.wm h i j := by
  have e : val_main_call2_v0 (F := Ideal) (ix3 h i j) = if seen i j then 1#1 else 0#1 :=
    (congrFun mask_same _).trans (Cert.MixRef.mask_eq h i j)
  pointwise [val_main_v65, e, val_main_v64, val_main_cst_11, H.ws, zero_word]
  unfold Args.wm
  by_cases hs : seen i j
  · rw [if_pos hs, if_pos hs]; rfl
  · rw [if_neg hs, if_neg hs]; rfl

theorem z_eq (b : Fin 64) (i : Fin 128) (h : Fin 4) (c : Fin 128) :
    val_main_v71 (F := Ideal) x0 x1 x2 x4 x5 x6 x7 (ix4 b i h c) = I.z (inBlock b i) h c := by
  pointwise [val_main_v71, val_main_v70, val_main_v69, val_main_v68, val_main_v67, val_main_v66,
    dot_S64x128x4x128_S4x128x128_S4x64x128x128_1_2_03_1_2_0, vn_eq H, wm_eq H, H.bs]
  unfold Args.z
  simp only [pos_inBlock, mate_inBlock, mul_comm]

theorem zrow_eq (n : Fin 8192) (h : Fin 4) (c : Fin 128) :
    val_main_v72 (F := Ideal) x0 x1 x2 x4 x5 x6 x7 (ix2 n (lane h c)) = I.z n h c := by
  pointwise [val_main_v72]
  rw [z_eq H, inBlock_eq, (head_eq h c (by have := (lane h c).isLt; omega) (by omega)).1,
    (head_eq h c (by have := (lane h c).isLt; omega) (by omega)).2]

theorem gated_eq (n : Fin 8192) (h : Fin 4) (c : Fin 128) :
    val_main_v73 (F := Ideal) x0 x1 x2 x4 x5 x6 x7 (ix2 n (lane h c)) = I.gated n h c := by
  pointwise [val_main_v73, ug_eq H, zrow_eq H]
  rfl

theorem y_eq (n : Fin 8192) (g : Fin 4) (d : Fin 128) : val_main_v152 (F := Ideal) x0 x1 x2 x4 x8 (ix2 n (lane g d)) = I.y n g d := by
  have e : ∀ n g d, val_main_v151 (F := Ideal) x0 x1 x2 x4 x8 (ix3 n g d) = I.y n g d := fun n g d => by
    pointwise [val_main_v151, val_main_v150, dot_S4x128x128_S8192x4x128_S4x128x8192_1_2_2_0_0_1, pooled_eq H, H.wp]
    exact Finset.sum_congr rfl fun c _ => mul_comm _ _
  pointwise [val_main_v152]
  rw [e, (head_eq g d (by have := (lane g d).isLt; omega) (by omega)).1, (head_eq g d (by have := (lane g d).isLt; omega) (by omega)).2]

theorem scaled_eq (n : Fin 8192) (g : Fin 4) (d : Fin 128) :
    val_main_v154 (F := Ideal) x0 x1 x2 x4 x8 x9 (ix2 n (lane g d)) = I.scaled n g d := by
  pointwise [val_main_v154, val_main_v153, y_eq H, H.ps]
  rfl

theorem cat_eq (n : Fin 8192) (k : Fin 1024) :
    val_main_v155 (F := Ideal) x0 x1 x2 x4 x5 x6 x7 x8 x9 (ix2 n k) = I.cat n k := by
  have hk := k.isLt
  pointwise [val_main_v155]
  unfold Args.cat
  by_cases h : k.val < 512
  · rw [dif_pos h, if_pos h]
    exact (congrArg (fun j => val_main_v73 (F := Ideal) x0 x1 x2 x4 x5 x6 x7 (ix2 n j)) (col_eq k.val 0 h (Nat.zero_le _) rfl)).trans (gated_eq H n _ _)
  · rw [dif_neg h, if_neg h]
    exact (congrArg (fun j => val_main_v154 (F := Ideal) x0 x1 x2 x4 x8 x9 (ix2 n j)) (col_eq k.val 512 (by omega) (by omega) rfl)).trans (scaled_eq H n _ _)

theorem M_eq (n : Fin 8192) (d : Fin 1024) :
    val_main_v156 (F := Ideal) x0 x1 x2 x4 x5 x6 x7 x8 x9 x10 (ix2 n d) = I.M n d := by
  pointwise [val_main_v156, dot_S8192x1024_S1024x1024_S8192x1024_1_0_0_1_n_n, cat_eq H, H.Wo]
  rfl

theorem scale_eq (n : Fin 8192) (z : Fin 1) :
    val_main_v164 (F := Ideal) x0 x1 x2 x4 x5 x6 x7 x8 x9 x10 (ix2 n z) = scale (I.M n) := by
  pointwise [val_main_v164, val_main_v163, val_main_v162, val_main_cst_26, val_main_v161, val_main_v160, val_main_cst_25, val_main_v159,
    val_main_v158, val_main_cst_24, val_main_v157, M_eq H, zero_word, zero_add]
  rfl

theorem x1_eq (n : Fin 8192) (d : Fin 1024) :
    val_main_v171 (F := Ideal) x0 x1 x2 x3 x4 x5 x6 x7 x8 x9 x10 (ix2 n d) = I.x1 n d := by
  pointwise [val_main_v171, val_main_v170, val_main_v169, val_main_v168, val_main_v167, val_main_v166, val_main_v165, H.x, gm_eq H, M_eq H,
    scale_eq H, H.g2]
  rfl
end

end Cert.MixFwdRef

end
-- ==== Proof.MixFwdState.lean ====
/-
  What each point of the mixing half's forward call loads, and what it leaves: the tile's rows of the three results, and the
  pooled columns' last sixteen rows, which the next point finds. Point `t` takes tile `t`.
-/
module

public import proofs.«01_k».proof.Proof.MixFwdTile
public import proofs.«01_k».proof.Proof.MixFwdRef
public import proofs.«01_k».proof.Proof.MixReads

@[expose] public section

set_option maxRecDepth 16384

noncomputable section

namespace Cert.MixFwdIdeal.Own

open Cert.MixFwdIdeal Cert.MixFwdIdeal.Gen Cert.MixFwdSpec
open Cert.FwdSpec (zero_word)
open Cert.MixSpec (lane cu cv cp)
open Cert.MixFwdRef (Takes)
open Idealize.ShloMosaic Idealize.ShloMosaic.TcCoe Idealize.ShloMosaic.Tactic
open Cert.Kernel.Own (load_at off_zero2)
open Cert.MixIdeal.Own (Rows Tall Loads row extR at2 at3 none_of mod_row win_turn bs_turn under_body rFirst_off
  rProj rTall rFirst rLast rBody rPool rMod rSgn rBs rStack rPs rRows rRow rIn rOut rAll colU colV
  rProj_emb rTall_emb rFirst_emb rLast_emb rBody_emb rPool_emb rMod_emb rSgn_emb rBs_emb rStack_emb rPs_emb rRows_emb rRow_emb rIn_emb rOut_emb
  rAll_emb)

/-- The tile of point `t`. -/
def tile (t : ℕ) : Fin 16 := ⟨t % 16, Nat.mod_lt _ (by decide)⟩

/-- The blocks the windows stage at point `t`. -/
theorem index_rows : ∀ t : Fin grid0.N, win0_0.index t 0 = t.val % 16 ∧ win0_0.index t 1 = 0 := by decide +kernel
theorem index_whole : ∀ t : Fin grid0.N, (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) ∧ (∀ a, win0_7.index t a = 0)
    ∧ (∀ a, win0_8.index t a = 0) ∧ (∀ a, win0_9.index t a = 0) ∧ (∀ a, win0_10.index t a = 0) := by decide +kernel
theorem tile_word : ∀ t : Fin grid0.N, BitVec.ofNat 32 (grid0.coords t 0).val = BitVec.ofNat 32 (t.val % 16) := by decide +kernel

section blocks
variable (m : (ℓ : Loc nD τ sig) → Buf (Elt Ideal) ℓ) (c : Dev nD) (t : Fin cfg0.N)

theorem blk0 (i : Fin 512) (d : Fin 1024) : iblk m c 0 t (ix2 i d) = V m c main_arg0 (ix2 (row (tile t.val) i) d) := by
  have h := index_rows t
  unfold iblk
  rw [View.read_apply]
  exact congrArg (V m c main_arg0) (at2 rfl rfl (congrArg (· * 512 + i.val) h.1) (none_of h.2))
theorem blk1 (i : Fin 6) (d : Fin 1024) : iblk m c 1 t (ix2 i d) = V m c main_v0 (ix2 i d) := by
  have h := (index_whole t).1
  unfold iblk
  rw [View.read_apply]
  exact congrArg (V m c main_v0) (at2 rfl rfl (none_of (h 0)) (none_of (h 1)))
theorem blk2 (i : Fin 1) (d : Fin 1024) : iblk m c 2 t (ix2 i d) = V m c main_arg2 (ix2 i d) := by
  have h := (index_whole t).2.1
  unfold iblk
  rw [View.read_apply]
  exact congrArg (V m c main_arg2) (at2 rfl rfl (none_of (h 0)) (none_of (h 1)))
theorem blk3 (i : Fin 1) (d : Fin 1024) : iblk m c 3 t (ix2 i d) = V m c main_arg3 (ix2 i d) := by
  have h := (index_whole t).2.2.1
  unfold iblk
  rw [View.read_apply]
  exact congrArg (V m c main_arg3) (at2 rfl rfl (none_of (h 0)) (none_of (h 1)))
theorem blk4 (i : Fin 1536) (d : Fin 1024) : iblk m c 4 t (ix2 i d) = V m c main_v2 (ix2 i d) := by
  have h := (index_whole t).2.2.2.1
  unfold iblk
  rw [View.read_apply]
  exact congrArg (V m c main_v2) (at2 rfl rfl (none_of (h 0)) (none_of (h 1)))
theorem blk5 (i : Fin 4) (d : Fin 128) : iblk m c 5 t (ix2 i d) = V m c main_arg5 (ix2 i d) := by
  have h := (index_whole t).2.2.2.2.1
  unfold iblk
  rw [View.read_apply]
  exact congrArg (V m c main_arg5) (at2 rfl rfl (none_of (h 0)) (none_of (h 1)))
theorem blk6 (i : Fin 4) (j : Fin 128) (d : Fin 128) : iblk m c 6 t (ix3 i j d) = V m c main_arg6 (ix3 i j d) := by
  have h := (index_whole t).2.2.2.2.2.1
  unfold iblk
  rw [View.read_apply]
  exact congrArg (V m c main_arg6) (at3 rfl rfl rfl (h 0) (h 1) (h 2))
theorem blk7 (i : Fin 128) (d : Fin 4) : iblk m c 7 t (ix2 i d) = V m c main_v3 (ix2 i d) := by
  have h := (index_whole t).2.2.2.2.2.2.1
  unfold iblk
  rw [View.read_apply]
  exact congrArg (V m c main_v3) (at2 rfl rfl (none_of (h 0)) (none_of (h 1)))
theorem blk8 (i : Fin 4) (j : Fin 128) (d : Fin 128) : iblk m c 8 t (ix3 i j d) = V m c main_arg8 (ix3 i j d) := by
  have h := (index_whole t).2.2.2.2.2.2.2.1
  unfold iblk
  rw [View.read_apply]
  exact congrArg (V m c main_arg8) (at3 rfl rfl rfl (h 0) (h 1) (h 2))
theorem blk9 (i : Fin 1) (d : Fin 512) : iblk m c 9 t (ix2 i d) = V m c main_arg9 (ix2 i d) := by
  have h := (index_whole t).2.2.2.2.2.2.2.2.1
  unfold iblk
  rw [View.read_apply]
  exact congrArg (V m c main_arg9) (at2 rfl rfl (none_of (h 0)) (none_of (h 1)))
theorem blk10 (i : Fin 1024) (d : Fin 1024) : iblk m c 10 t (ix2 i d) = V m c main_v4 (ix2 i d) := by
  have h := (index_whole t).2.2.2.2.2.2.2.2.2
  unfold iblk
  rw [View.read_apply]
  exact congrArg (V m c main_v4) (at2 rfl rfl (none_of (h 0)) (none_of (h 1)))

/-- The arrays that the host's lines make of the arguments. -/
theorem V_mod : V m c main_v0 = shapeCast S6x1024 (V m c main_arg1) shapeCasts_S1x6144_S6x1024 := by sl_kernel_rfl
theorem V_win : V m c main_v2 = truncf (F := Ideal) (φ := .f32) .bf16
    (transpose S1536x1024 [1, 0] (V m c main_arg4) transposes_S1024x1536_S1536x1024_1_0) bitsLt_bf16_f32 := by sl_kernel_rfl
theorem V_bs : V m c main_v3 = transpose S128x4 [1, 0] (V m c main_arg7) transposes_S4x128_S128x4_1_0 := by sl_kernel_rfl
theorem V_wout : V m c main_v4 = truncf (F := Ideal) (φ := .f32) .bf16 (V m c main_arg10) bitsLt_bf16_f32 := by sl_kernel_rfl
end blocks

/-- The row of a one-row array. -/
theorem row_zero {n : ℕ} (f : (⟨2, ![1, n]⟩ : Shape).Idx → EReal) (z : Fin 1) (d : Fin n) : f (ix2 z d) = f (ix2 0 d) :=
  congrArg (fun z => f (ix2 z d)) (Subsingleton.elim z 0)

section points
variable {m : (ℓ : Loc nD τ sig) → Buf (Elt Ideal) ℓ} {c : Dev nD} {I : Args}

section given
variable (A : Takes I (V m c main_arg0) (V m c main_arg1) (V m c main_arg2) (V m c main_arg3) (V m c main_arg4) (V m c main_arg5)
  (V m c main_arg6) (V m c main_arg7) (V m c main_arg8) (V m c main_arg9) (V m c main_arg10))
include A

theorem mod_at (k : Fin 6) (d : Fin 1024) : V m c main_v0 (ix2 k d) = ((I.J.md ⟨k.val * 1024 + d.val, by omega⟩ : ℝ) : EReal) :=
  (congrFun (V_mod m c) _).trans ((mod_row _ k d).trans (A.md _))
theorem win_at (k : Fin 1536) (d : Fin 1024) : V m c main_v2 (ix2 k d) = ((I.J.W d k : ℝ) : EReal) :=
  (congrFun (V_win m c) _).trans ((win_turn _ k d).trans (A.W d k))
theorem bs_at (i : Fin 128) (h : Fin 4) : V m c main_v3 (ix2 i h) = I.bs h i :=
  (congrFun (V_bs m c) _).trans ((bs_turn _ i h).trans (A.bs h i))
theorem wout_at (k : Fin 1024) (d : Fin 1024) : V m c main_v4 (ix2 k d) = I.Wo k d :=
  (congrFun (V_wout m c) _).trans (A.Wo k d)

set_option maxHeartbeats 2000000 in
/-- Each point loads its tile. -/
theorem given_at (t : Fin cfg0.N) : Given I (tile t.val) (given m c t) where
  x i d := (load_at (hs0_0 t) _ rRows _).trans (((congrArg _ (rRows_emb i d)).trans (blk0 m c t i d)).trans (A.x _ d))
  sh z d := (load_at (hs0_1 t) _ (rMod 0) _).trans (((congrArg _ (rMod_emb 0 z d)).trans (blk1 m c t 0 d)).trans ((mod_at A 0 d).trans
    (congrArg (fun k => ((I.J.md k : ℝ) : EReal)) (Fin.ext (by show 0 * 1024 + d.val = d.val; omega)))))
  sc z d := (load_at (hs0_1 t) _ (rMod 1) _).trans (((congrArg _ (rMod_emb 1 z d)).trans (blk1 m c t 1 d)).trans (mod_at A 1 d))
  gm z d := (load_at (hs0_1 t) _ (rMod 2) _).trans (((congrArg _ (rMod_emb 2 z d)).trans (blk1 m c t 2 d)).trans (mod_at A 2 d))
  g1 z d := (load_at (hs0_2 t) _ rRow _).trans (((congrArg _ (rRow_emb z d)).trans (blk2 m c t z d)).trans ((row_zero _ z d).trans (A.g1 d)))
  g2 z d := (load_at (hs0_3 t) _ rRow _).trans (((congrArg _ (rRow_emb z d)).trans (blk3 m c t z d)).trans ((row_zero _ z d).trans (A.g2 d)))
  win k d := (load_at (hs0_4 t) _ rIn _).trans (((congrArg _ (rIn_emb k d)).trans (blk4 m c t k d)).trans (win_at A k d))
  sgn h z k := (load_at (hs0_5 t) _ (rSgn h) _).trans (((congrArg _ (rSgn_emb h z k)).trans (blk5 m c t h k)).trans (A.sgn h k))
  ws h z i j := (load_at (hs0_6 t) _ (rStack h) _).trans (((congrArg _ (rStack_emb h z i j)).trans (blk6 m c t h i j)).trans (A.ws h i j))
  bs h i z := (load_at (hs0_7 t) _ (rBs h) _).trans (((congrArg _ (rBs_emb h i z)).trans (blk7 m c t i h)).trans (bs_at A i h))
  wp g z i j := (load_at (hs0_8 t) _ (rStack g) _).trans (((congrArg _ (rStack_emb g z i j)).trans (blk8 m c t g i j)).trans (A.wp g i j))
  ps g z d := (load_at (hs0_9 t) _ (rPs g) _).trans (((congrArg _ (rPs_emb g z d)).trans (blk9 m c t z _)).trans ((row_zero _ z _).trans (A.ps _)))
  wout k d := (load_at (hs0_10 t) _ rOut _).trans (((congrArg _ (rOut_emb k d)).trans (blk10 m c t k d)).trans (wout_at A k d))
  r := tile_word t
end given

/-- The projected columns as they are stored, and as they are loaded again. -/
theorem projL_at {t : Fin cfg0.N} (H : Given I (tile t.val) (given m c t)) (i : Fin 512) (k : Fin 1536) :
    View.canon (projL m c t) (ix2 i k) = ((I.J.P (row (tile t.val) i) k : ℝ) : EReal) := by
  unfold projL
  rw [View.canon_unit_zero off_zero2]
  exact H.proj_at i k
theorem ins_at {t : Fin cfg0.N} (H : Given I (tile t.val) (given m c t)) : At I (tile t.val) (ins m c t) where
  x := H.x
  sh := H.sh
  sc := H.sc
  gm := H.gm
  g1 := H.g1
  win := H.win
  r := H.r
  g2 := H.g2
  sgn := H.sgn
  ws := H.ws
  bs := H.bs
  wp := H.wp
  ps := H.ps
  wout := H.wout
  u h i k := by
    unfold ins
    simp only
    rw [View.readCov_eq_canon']
    exact (congrArg (View.canon _) (rProj_emb (colU h) i k)).trans (projL_at H i (cu h k))
  v h i k := by
    unfold ins
    simp only
    rw [View.readCov_eq_canon']
    exact (congrArg (View.canon _) ((rProj_emb (colV h) i k).trans
      (congrArg (ix2 i) (Fin.ext (by show (4 + h.val) * 128 + k.val = 512 + (h.val * 128 + k.val); omega))))).trans (projL_at H i (cv h k))
  p i g k := by
    unfold ins
    simp only
    rw [View.readCov_eq_canon']
    exact (congrArg (View.canon _) (rPool_emb i g k)).trans (projL_at H i (cp g k))

/-- A row of the pooled columns with the sixteen before them is one of the tile's or one of the sixteen. -/
theorem tall_row (n : Fin 528) (l : Fin 512) : (∃ i : Fin 512, n.val = 16 + i.val ∧ (ix2 n l : S528x512.Idx) = rBody.emb (ix2 i l))
    ∨ ∃ s : Fin 16, n.val = s.val ∧ (ix2 n l : S528x512.Idx) = rFirst.emb (ix2 s l) := by
  by_cases h : 16 ≤ n.val
  · refine .inl ⟨⟨n.val - 16, by omega⟩, by show n.val = 16 + (n.val - 16); omega, ?_⟩
    rw [rBody_emb]; congr 1; apply Fin.ext; show n.val = 16 + (n.val - 16); omega
  · exact .inr ⟨⟨n.val, by omega⟩, rfl, by rw [rFirst_emb]⟩
theorem extR_body {T : Fin 16} {n : Fin 528} {i : Fin 512} (g : Fin 4) (k : Fin 128) (h : n.val = 16 + i.val) :
    extR I.J T g n k = I.J.P (row T i) (cp g k) := by
  unfold extR
  rw [dif_pos (by omega)]
  congr 1; apply Fin.ext; simp only [row]; omega

/-- The pooled columns as they are stored. -/
theorem body_at {T : Fin 16} {L : Loads Ideal} (H : At I T L) (i : Fin 512) (g : Fin 4) (k : Fin 128) :
    (bodyP L).2 (ix2 i (lane g k)) = ((I.J.P (row T i) (cp g k) : ℝ) : EReal) := by
  unfold bodyP
  simp only
  rw [shapeCast_self, shapeCast_self]
  exact H.p i g k
/-- Their last rows, moved to the front. -/
theorem last_at {T : Fin 16} {L : Loads Ideal} (H : At I T L) (l : List (View.Piece (Elt Ideal) S528x512 .f32)) (s : Fin 16) (g : Fin 4)
    (k : Fin 128) : View.canon (lastP (bodyP L :: l) :: bodyP L :: l) (ix2 (⟨s.val, by omega⟩ : Fin 528) (lane g k))
      = ((I.J.P (row T ⟨496 + s.val, by omega⟩) (cp g k) : ℝ) : EReal) := by
  have e : (ix2 (⟨512 + s.val, by omega⟩ : Fin 528) (lane g k) : S528x512.Idx) = rBody.emb (ix2 (⟨496 + s.val, by omega⟩ : Fin 512) (lane g k)) := by
    rw [rBody_emb]; congr 1; apply Fin.ext; show 512 + s.val = 16 + (496 + s.val); omega
  rw [← rFirst_emb s (lane g k)]
  refine (View.canon_cons_emb _ _ _ _).trans ((congrFun (shapeCast_self _ _) _).trans ?_)
  rw [View.readCov_eq_canon']
  refine (congrArg (View.canon _) ((rLast_emb s (lane g k)).trans e)).trans ?_
  exact (View.canon_cons_emb _ _ _ _).trans (body_at H _ g k)

/-- What point `n` leaves. -/
structure Holds (m : (ℓ : Loc nD τ sig) → Buf (Elt Ideal) ℓ) (c : Dev nD) (I : Args) (n : ℕ) (hn : n < cfg0.N) : Prop where
  x1 : ∀ i d, (outsAt0 m c n hn).1 (ix2 i d) = I.x1 (row (tile n) i) d
  proj : ∀ i k, (outsAt0 m c n hn).2.1 (ix2 i k) = ((I.J.P (row (tile n) i) k : ℝ) : EReal)
  mixed : ∀ i d, (outsAt0 m c n hn).2.2.1 (ix2 i d) = I.M (row (tile n) i) d
  kept : ∀ (s : Fin 16) g k, (outsAt0 m c n hn).2.2.2 (ix2 (⟨s.val, by omega⟩ : Fin 528) (lane g k))
    = ((I.J.P (row (tile n) ⟨496 + s.val, by omega⟩) (cp g k) : ℝ) : EReal)

theorem beforeA {t : Fin cfg0.N} (ht : t.val = 0) (H : At I (tile t.val) (ins m c t)) : Before I (tile t.val) (extA m c t) := fun g n k => by
  unfold extA pieces
  rw [View.readCov_eq_canon']
  refine (congrArg (View.canon _) (rTall_emb g n k)).trans ?_
  obtain ⟨i, h, e⟩ | ⟨s, h, e⟩ := tall_row n (lane g k)
  · rw [e, extR_body g k h]
    exact (View.canon_cons_emb _ _ _ _).trans (body_at H i g k)
  · rw [e]
    refine (under_body _ _ _).trans ?_
    unfold extR
    rw [dif_neg (by rw [ht]; show ¬16 ≤ 0 * 512 + n.val; omega), shapeCast_self]
    exact zero_word.trans EReal.coe_zero.symm

/-- The stores at a later point, over contents whose first rows are the tile before's last. -/
theorem before_of {T T' : Fin 16} (hT : T.val = T'.val + 1) {L : Loads Ideal} (H : At I T L) (f : scM0_0.view.ty.Contents (Elt Ideal))
    (P : ∀ (s : Fin 16) g k, View.read (Elt Ideal) scM0_0.view f (ix2 (⟨s.val, by omega⟩ : Fin 528) (lane g k))
      = ((I.J.P (row T' ⟨496 + s.val, by omega⟩) (cp g k) : ℝ) : EReal)) :
    Before I T fun g => View.readAt (Elt Ideal) scM0_0.view (rTall g).toLoadRect (View.writes scM0_0.view (Elt Ideal) f [bodyP L]) := fun g n k => by
  refine (congrArg (View.read (Elt Ideal) scM0_0.view _) (rTall_emb g n k)).trans ?_
  obtain ⟨i, h, e⟩ | ⟨s, h, e⟩ := tall_row n (lane g k)
  · rw [e, extR_body g k h]
    exact (View.read_writes_cons_emb scM0_0.view f rBody (bodyP L).2 [] _).trans (body_at H i g k)
  · rw [e]
    refine (View.read_writes_cons_miss scM0_0.view f (bodyP L) [] _ (rFirst_off _)).trans ?_
    rw [rFirst_emb]
    refine (P s g k).trans ?_
    unfold extR
    rw [dif_pos (by omega)]
    congr 2; apply Fin.ext; simp only [row]; omega

theorem beforeB {t : Fin cfg0.N} (ht : t.val ≠ 0) (H : At I (tile t.val) (ins m c t))
    (P : ∀ (s : Fin 16) g k, kept m c t (ix2 (⟨s.val, by omega⟩ : Fin 528) (lane g k))
      = ((I.J.P (row (tile (t.val - 1)) ⟨496 + s.val, by omega⟩) (cp g k) : ℝ) : EReal)) : Before I (tile t.val) (extB m c t) :=
  before_of (T' := tile (t.val - 1)) (by have hN : t.val < 16 := lt_of_lt_of_eq t.isLt N_0; simp only [tile]; omega) H _
    fun s g k => (congrFun (Memref.IsWhole.read_unread _ _) _).trans (P s g k)

section all
variable (A : ∀ t : Fin cfg0.N, At I (tile t.val) (ins m c t)) (G : ∀ t : Fin cfg0.N, Given I (tile t.val) (given m c t))
include A G

theorem holds_first (hn : 0 < cfg0.N) : Holds m c I 0 hn := by
  let t : Fin cfg0.N := ⟨0, hn⟩
  have h0 : t.val % 16 = 0 := rfl
  have H := A t
  have B := beforeA (t := t) rfl H
  refine ⟨fun i d => ?_, fun i k => ?_, fun i d => ?_, fun s g k => ?_⟩
  · refine (congrFun (x1A m c t h0) _).trans ?_
    rw [View.canon_unit_zero off_zero2]
    exact H.x1_at B i d
  · exact (congrFun (prA m c t h0) _).trans (projL_at (G t) i k)
  · refine (congrFun (mxA m c t h0) _).trans ?_
    rw [View.canon_unit_zero off_zero2]
    exact H.mixed_at B i d
  · exact (congrFun (kpA m c t h0) _).trans (last_at H _ s g k)

theorem holds_later (n : ℕ) (hn : n + 1 < cfg0.N) (P : Holds m c I n (Nat.lt_of_succ_lt hn)) : Holds m c I (n + 1) hn := by
  have hN : n + 1 < 16 := lt_of_lt_of_eq hn N_0
  let t : Fin cfg0.N := ⟨n + 1, hn⟩
  have h0 : ¬ t.val % 16 = 0 := by show ¬ (n + 1) % 16 = 0; omega
  have H := A t
  have B := beforeB (t := t) (Nat.succ_ne_zero n) H P.kept
  refine ⟨fun i d => ?_, fun i k => ?_, fun i d => ?_, fun s g k => ?_⟩
  · refine (congrFun (x1B m c t h0) _).trans ?_
    rw [View.canon_unit_zero off_zero2]
    exact H.x1_at B i d
  · exact (congrFun (prB m c t h0) _).trans (projL_at (G t) i k)
  · refine (congrFun (mxB m c t h0) _).trans ?_
    rw [View.canon_unit_zero off_zero2]
    exact H.mixed_at B i d
  · exact (congrFun (kpB m c t h0) _).trans (last_at H _ s g k)

/-- Every point leaves what it should. -/
theorem holds_of (n : ℕ) (hn : n < cfg0.N) : Holds m c I n hn := by
  induction n with
  | zero => exact holds_first A G hn
  | succ n ih => exact holds_later A G n hn (ih _)
end all

theorem holds (A : Takes I (V m c main_arg0) (V m c main_arg1) (V m c main_arg2) (V m c main_arg3) (V m c main_arg4) (V m c main_arg5)
    (V m c main_arg6) (V m c main_arg7) (V m c main_arg8) (V m c main_arg9) (V m c main_arg10)) (n : ℕ) (hn : n < cfg0.N) : Holds m c I n hn :=
  holds_of (fun t => ins_at (given_at A t)) (given_at A) n hn
end points

end Cert.MixFwdIdeal.Own

end
-- ==== Proof.MixFwdValue.lean ====
/-
  The equation of the mixing half's forward call: where the rows, the modulation, the first gain and the first weight are
  finite, the kernel's three results are the reference's.
-/
module

public import proofs.«01_k».proof.Proof.MixFwdState
public import proofs.«01_k».proof.Proof.FwdFrame
public import proofs.«01_k».proof.Proof.Finite
public import proofs.«01_k».proof.Proof.Arrays
public import proofs.«01_k».proof.Proof.FfnState

@[expose] public section

set_option maxRecDepth 16384

noncomputable section

namespace Cert.MixFwdSpec.Args

open Idealize.ShloMosaic Cert.MixFwdIdeal

/-- The three results. -/
def oX1 (I : Args) : S8192x1024.Idx → EReal := fun j => I.x1 (j 0) (j 1)
def oProj (I : Args) : S8192x1536.Idx → EReal := fun j => ((I.J.P (j 0) (j 1) : ℝ) : EReal)
def oMixed (I : Args) : S8192x1024.Idx → EReal := fun j => I.M (j 0) (j 1)

end Cert.MixFwdSpec.Args

namespace Cert.MixFwdIdeal.Own

open Cert.MixFwdIdeal Cert.MixFwdIdeal.Gen Cert.MixFwdIdeal.Value Cert.MixFwdSpec
open Idealize.ShloMosaic Idealize.ShloMosaic.TcCoe
open Cert.Kernel.Own (idx2_eq of_ix2)
open Cert.MixIdeal.Own (row)
open Cert.MixFwdRef (Takes)

variable (m : (ℓ : Loc nD τ sig) → Buf (Elt Ideal) ℓ) (c : Dev nD) {I : Args}

/-- Row `i` is row `i % 512` of tile `i / 512`. -/
theorem row_tile (i : Fin 8192) (h : i.val % 512 < 512) : row (tile (i.val / 512)) ⟨i.val % 512, h⟩ = i := by
  apply Fin.ext; simp only [row, tile]; omega

/-- What the fold of the points up to `p` leaves is what point `n = p` leaves. -/
theorem fold_eq (p n : ℕ) (hp : 0 + p < cfg0.N) (e : p = n) (hn : n < cfg0.N) :
    Pipeline.accAt (fun n h => stAt0 m c n h junk0) (stAt0 m c) 0 p hp = outsAt0 m c n hn := by
  subst e; exact (outsAt0_sweep m c p hn).symm

theorem point_lt (i : Fin 8192) : i.val / 512 < cfg0.N := lt_of_lt_of_eq (b := 16) (by omega) (show grid0.N = 16 from N_0).symm

variable (A : Takes I (V m c main_arg0) (V m c main_arg1) (V m c main_arg2) (V m c main_arg3) (V m c main_arg4) (V m c main_arg5)
  (V m c main_arg6) (V m c main_arg7) (V m c main_arg8) (V m c main_arg9) (V m c main_arg10))
include A

theorem G11_eq : G11 m c = I.oX1 := funext <| of_ix2 _ (fun i d => I.x1 i d) fun i d => by
  have hn := point_lt i
  have e : pt11Of (ix2 i d) = i.val / 512 := by show 1 * (i.val / 512 - 0) + 1 * (d.val / 1024 - 0) = _; omega
  unfold G11
  rw [dif_pos (e.trans_lt hn), fold_eq m c _ _ _ e hn,
    show loc11Of (ix2 i d) = ix2 ⟨i.val % 512, by omega⟩ d from idx2_eq _ _ rfl (Nat.mod_eq_of_lt d.isLt)]
  exact ((holds A _ hn).x1 _ d).trans (congrArg (fun r => I.x1 r d) (row_tile i _))

theorem G12_eq : G12 m c = I.oProj := funext <| of_ix2 _ (fun i k => ((I.J.P i k : ℝ) : EReal)) fun i k => by
  have hn := point_lt i
  have e : pt12Of (ix2 i k) = i.val / 512 := by show 1 * (i.val / 512 - 0) + 1 * (k.val / 1536 - 0) = _; omega
  unfold G12
  rw [dif_pos (e.trans_lt hn), fold_eq m c _ _ _ e hn,
    show loc12Of (ix2 i k) = ix2 ⟨i.val % 512, by omega⟩ k from idx2_eq _ _ rfl (Nat.mod_eq_of_lt k.isLt)]
  exact ((holds A _ hn).proj _ k).trans (congrArg (fun r => ((I.J.P r k : ℝ) : EReal)) (row_tile i _))

theorem G13_eq : G13 m c = I.oMixed := funext <| of_ix2 _ (fun i d => I.M i d) fun i d => by
  have hn := point_lt i
  have e : pt13Of (ix2 i d) = i.val / 512 := by show 1 * (i.val / 512 - 0) + 1 * (d.val / 1024 - 0) = _; omega
  unfold G13
  rw [dif_pos (e.trans_lt hn), fold_eq m c _ _ _ e hn,
    show loc13Of (ix2 i d) = ix2 ⟨i.val % 512, by omega⟩ d from idx2_eq _ _ rfl (Nat.mod_eq_of_lt d.isLt)]
  exact ((holds A _ hn).mixed _ d).trans (congrArg (fun r => I.M r d) (row_tile i _))

end Cert.MixFwdIdeal.Own

namespace Cert.MixFwdRef

open Cert.MixFwdReferenceIdeal Cert.MixFwdReferenceIdeal.Gen Cert.MixFwdReferenceIdeal.Read Cert.MixFwdSpec
open Idealize.ShloMosaic Idealize.ShloMosaic.TcCoe Idealize.ShloMosaic.StableHlo Idealize.SL.Sem
open Cert.Kernel.Own (of_ix2)

/-- The reference's run, its results named. -/
theorem ends (m : (ℓ : Loc nD τ sig) → Buf (Elt Ideal) ℓ) (ρ : Dev nD → PrngReg) (I : Dev nD → Args)
    (A : ∀ c : Dev nD, Takes (I c) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))) :
    θ_run defs (onTc (τ := τ) (main (F := Ideal))) ⟨m, fun _ => 0, ρ⟩ (fun r => ∀ c : Dev nD,
      r.2.mem ((c.tc : Thread nD τ).loc main_v171) = (I c).oX1
      ∧ r.2.mem ((c.tc : Thread nD τ).loc main_v24) = (I c).oProj
      ∧ r.2.mem ((c.tc : Thread nD τ).loc main_v156) = (I c).oMixed
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ?_) (Cert.MixFwdReferenceIdeal.Value.run (F := Ideal) m ρ)
  obtain ⟨h0, h1, h2, hk⟩ := h c
  refine ⟨?_, ?_, ?_, hk⟩
  · exact h0.trans ((val_main_v171_eq (launchContents m c)).trans (funext <| of_ix2 _ (fun i d => (I c).x1 i d) (x1_eq (A c))))
  · exact h1.trans ((val_main_v24_eq (launchContents m c)).trans
      (funext <| of_ix2 _ (fun i k => (((I c).J.P i k : ℝ) : EReal)) (P_eq (A c))))
  · exact h2.trans ((val_main_v156_eq (launchContents m c)).trans (funext <| of_ix2 _ (fun i d => (I c).M i d) (M_eq (A c))))

end Cert.MixFwdRef

namespace Cert.MixFwdPair

open Cert.Pre_proj_finite
open Cert.MixFwdSpec Cert.MixFwdIdeal.Own
open Cert.MixFwdRef (Takes)
open Cert.Pair (real_at)
open Idealize.ShloMosaic Idealize.ShloMosaic.TcCoe Idealize.SL.Sem

instance facts : Cert.Pre_proj_finite.Facts := by constructor <;> decide

/-- The frames where the precondition holds. -/
theorem frame_pi_pre : Cert.quiescent_MixFwdIdeal_pre_proj_finite := fun m ρ _ => frame_pi m ρ trivial
theorem frame_ri_pre : Cert.quiescent_MixFwdReferenceIdeal_pre_proj_finite := fun m ρ _ => frame_ri m ρ trivial

/-- The eleven arguments as the specification names them: real numbers in the four that the projected columns come from. -/
def args (x0 : S8192x1024.Idx → EReal) (x1 : S1x6144.Idx → EReal) (x2 x3 : S1x1024.Idx → EReal) (x4 : S1024x1536.Idx → EReal)
    (x5 : S4x128.Idx → EReal) (x6 : S4x128x128.Idx → EReal) (x7 : S4x128.Idx → EReal) (x8 : S4x128x128.Idx → EReal) (x9 : S1x512.Idx → EReal)
    (x10 : S1024x1024.Idx → EReal) : Args where
  J :=
    { x := fun i d => (x0 (ix2 i d)).toReal, e := fun _ _ => 0, md := fun d => (x1 (ix2 0 d)).toReal, g1 := fun d => (x2 (ix2 0 d)).toReal,
      g2 := fun _ => 0, W := fun d k => (x4 (ix2 d k)).toReal, sgn := fun _ _ => 0, ws := fun _ _ _ => 0, bs := fun _ _ => 0,
      wp := fun _ _ _ => 0, ps := fun _ => 0, Wo := fun _ _ => 0 }
  g2 d := x3 (ix2 0 d)
  sgn h c := x5 (ix2 h c)
  ws h i j := x6 (ix3 h i j)
  bs h i := x7 (ix2 h i)
  wp g c d := x8 (ix3 g c d)
  ps k := x9 (ix2 0 k)
  Wo k d := x10 (ix2 k d)

variable {x0 : FVec Ideal S8192x1024 .f32} {x1 : FVec Ideal S1x6144 .f32} {x2 x3 : FVec Ideal S1x1024 .f32} {x4 : FVec Ideal S1024x1536 .f32}
  {x5 : FVec Ideal S4x128 .f32} {x6 : FVec Ideal S4x128x128 .f32} {x7 : FVec Ideal S4x128 .f32} {x8 : FVec Ideal S4x128x128 .f32}
  {x9 : FVec Ideal S1x512 .f32} {x10 : FVec Ideal S1024x1024 .f32}

/-- The precondition's four tests. -/
def Holds (p : IVec S8192x1024 1 × IVec S1x6144 1 × IVec S1x1024 1 × IVec S1024x1536 1) : Prop :=
  (p.1 = fun _ => 1#1) ∧ (p.2.1 = fun _ => 1#1) ∧ (p.2.2.1 = fun _ => 1#1) ∧ (p.2.2.2 = fun _ => 1#1)

theorem takes (h : Holds (fn x0 x1 x2 x3 x4 x5 x6 x7 x8 x9 x10)) :
    Takes (args x0 x1 x2 x3 x4 x5 x6 x7 x8 x9 x10) x0 x1 x2 x3 x4 x5 x6 x7 x8 x9 x10 := by
  obtain ⟨h0, h1, h2, h4⟩ := h
  exact ⟨fun i d => real_at _ _ h0 _, fun d => real_at _ _ h1 _, fun d => real_at _ _ h2 _, fun _ => rfl, fun d k => real_at _ _ h4 _,
    fun _ _ => rfl, fun _ _ _ => rfl, fun _ _ => rfl, fun _ _ _ => rfl, fun _ => rfl, fun _ _ => rfl⟩

/-- Equal arrays hold alike. -/
theorem takes_of_eq {I : Args} {y0 : S8192x1024.Idx → EReal} {y1 : S1x6144.Idx → EReal} {y2 y3 : S1x1024.Idx → EReal}
    {y4 : S1024x1536.Idx → EReal} {y5 : S4x128.Idx → EReal} {y6 : S4x128x128.Idx → EReal} {y7 : S4x128.Idx → EReal}
    {y8 : S4x128x128.Idx → EReal} {y9 : S1x512.Idx → EReal} {y10 : S1024x1024.Idx → EReal}
    (R : Takes I x0 x1 x2 x3 x4 x5 x6 x7 x8 x9 x10) (h0 : y0 = x0) (h1 : y1 = x1) (h2 : y2 = x2) (h3 : y3 = x3) (h4 : y4 = x4)
    (h5 : y5 = x5) (h6 : y6 = x6) (h7 : y7 = x7) (h8 : y8 = x8) (h9 : y9 = x9) (h10 : y10 = x10) :
    Takes I y0 y1 y2 y3 y4 y5 y6 y7 y8 y9 y10 := by
  subst h0 h1 h2 h3 h4 h5 h6 h7 h8 h9 h10
  exact R

section
open Cert.MixFwdIdeal Cert.MixFwdIdeal.Gen
variable (m : (ℓ : Loc nD τ sig) → Buf (Elt Ideal) ℓ)

/-- The arguments of a device. -/
def argsAt (c : Dev nD) : Args :=
  args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

theorem takes_at (h : Cert.Pre_MixFwdIdeal_proj_finite m) (c : Dev nD) :
    Takes (argsAt m c) (V m c main_arg0) (V m c main_arg1) (V m c main_arg2) (V m c main_arg3) (V m c main_arg4) (V m c main_arg5)
      (V m c main_arg6) (V m c main_arg7) (V m c main_arg8) (V m c main_arg9) (V m c main_arg10) :=
  takes_of_eq (takes (h c)) (V_main_arg0 m c) (V_main_arg1 m c) (V_main_arg2 m c) (V_main_arg3 m c) (V_main_arg4 m c) (V_main_arg5 m c)
    (V_main_arg6 m c) (V_main_arg7 m c) (V_main_arg8 m c) (V_main_arg9 m c) (V_main_arg10 m c)
end

theorem algebraic : Cert.algebraic_MixFwdIdeal_MixFwdReferenceIdeal_pre_proj_finite := by
  intro m g m' g' hp hag
  refine ⟨fun c => (argsAt m c).oX1, fun c => (argsAt m c).oProj, fun c => (argsAt m c).oMixed, ?_, ?_⟩
  · refine (θ_run Cert.MixFwdIdeal.defs _ _).mono (fun r h c => ?_) (Cert.MixFwdIdeal.Value.run (F := Ideal) m g)
    obtain ⟨h0, h1, h2, hk⟩ := h c
    have A := takes_at m hp c
    exact ⟨h0.trans (G11_eq m c A), h1.trans (G12_eq m c A), h2.trans (G13_eq m c A), hk⟩
  · refine Cert.MixFwdRef.ends m' g' (argsAt m) fun c => ?_
    obtain ⟨a0, a1, a2, a3, a4, a5, a6, a7, a8, a9, a10⟩ := hag c
    exact takes_of_eq (takes (hp c)) a0 a1 a2 a3 a4 a5 a6 a7 a8 a9 a10

end Cert.MixFwdPair

end
-- ==== Proof.WupValue.lean ====
/-
  The gradient of the up-projection's weight: the frames of its two programs and of its reference, and the equation. Each point
  adds the product of its 1024 rows to four chunks of the result; eight points make one half of the chunks.
-/
module

public import proofs.«01_k».proof.Proof.FfnState
public import proofs.«01_k».proof.Proof.Arrays
public import proofs.«01_k».proof.Proof.Gen.Wup
public import proofs.«01_k».proof.Proof.Gen.WupIdeal.Value
public import proofs.«01_k».proof.Proof.Gen.WupReferenceIdeal.Read
public import proofs.«01_k».proof.Proof.Gen.WupReferenceIdeal.Run

@[expose] public section

set_option maxRecDepth 16384

noncomputable section

namespace Cert.WupIdeal.Own

open Cert.WupIdeal Cert.WupIdeal.Gen Cert.WupIdeal.Value
open Idealize.ShloMosaic Idealize.ShloMosaic.TcCoe Idealize.ShloMosaic.Tactic
open Cert.Kernel.Own (col load_at canon_map canon_acc zero zeros3 idx2_eq idx3_eq of_ix3)
open Cert.FfnIdeal.Own (inb4)

/-- The places of a chunk of the result, of a chunk of the cotangent, and of the rows. -/
abbrev rOut (q : Fin 4) : Rect S4x704x1024 := Rect.unit ![q.val, 0, 0] S1x704x1024.size (inb4 q)
abbrev rDup (q : Fin 4) : Rect S4x1024x704 := Rect.unit ![q.val, 0, 0] S1x1024x704.size (inb4 q)
abbrev rH : Rect S1024x1024 := Rect.unit ![0, 0] S1024x1024.size inb_S1024x1024_S1024x1024_0_0

theorem rOut_emb (q : Fin 4) (z : Fin 1) (p : Fin 704) (d : Fin 1024) : (rOut q).emb (ix3 z p d) = ix3 q p d :=
  idx3_eq _ _ (by show q.val + 1 * z.val = q.val; omega) (by show 0 + 1 * p.val = p.val; omega) (by show 0 + 1 * d.val = d.val; omega)
theorem rDup_emb (q : Fin 4) (z : Fin 1) (i : Fin 1024) (p : Fin 704) : (rDup q).emb (ix3 z i p) = ix3 q i p :=
  idx3_eq _ _ (by show q.val + 1 * z.val = q.val; omega) (by show 0 + 1 * i.val = i.val; omega) (by show 0 + 1 * p.val = p.val; omega)
theorem rH_emb (i d : Fin 1024) : rH.emb (ix2 i d) = ix2 i d :=
  idx2_eq _ _ (by show 0 + 1 * i.val = i.val; omega) (by show 0 + 1 * d.val = d.val; omega)
theorem rOut_off (k k' : Fin 4) (x : (rOut k).shape.Idx) (h : k ≠ k') : (rOut k).emb x ∉ (rOut k').set := by
  intro hm
  obtain ⟨j, hj, e⟩ := (LoadRect.mem_set _).mp hm 0
  have h0 : (x 0).val < 1 := (x 0).isLt
  have h1 : j < 1 := hj
  have h2 : k.val + 1 * (x 0).val = k'.val + 1 * j := e
  exact h (Fin.ext (by omega))

section terms
variable {F : FTy → Type} [FloatOps F] (m : (ℓ : Loc nD τ sig) → Buf (Elt F) ℓ) (c : Dev nD) (t : Fin cfg0.N)

/-- A chunk with a product of rows added. -/
def plus (a : Vec F S1x704x1024 .f32) (y : Vec F S1x1024x704 .bf16) (x : Vec F S1024x1024 .bf16) : FVec F S1x704x1024 .f32 :=
  shapeCast S1x704x1024 (addf (shapeCast S704x1024 a shapeCasts_S1x704x1024_S704x1024)
    (matmul dot_S1024x704_S1024x1024_S704x1024_0_0_1_1_n_n none (shapeCast S1024x704 y shapeCasts_S1x1024x704_S1024x704) x
      (constant S704x1024 .f32 0x00000000#32))) shapeCasts_S704x1024_S1x704x1024

/-- The same, of the point's rows. -/
def added (q : Fin 4) (a : Vec F S1x704x1024 .f32) : FVec F S1x704x1024 .f32 :=
  plus a (View.readAt (Elt F) (ms0_1 t).view (rDup q).toLoadRect ((hs0_1 t).unread (iblk m c 1 t)))
    (View.readAt (Elt F) (ms0_0 t).view rH.toLoadRect ((hs0_0 t).unread (iblk m c 0 t)))

/-- The cotangent in eight chunks of columns. -/
def hDup (u : Vec F S8192x5632 .bf16) : Vec F S8x8192x704 .bf16 :=
  transpose S8x8192x704 [1, 0, 2] (shapeCast S8192x8x704 u shapeCasts_S8192x5632_S8192x8x704) transposes_S8192x8x704_S8x8192x704_1_0_2

/-- The stores of a half's first point, the chunks' after the zeros'. -/
def firstL : List (Fin 4) → List (View.Piece (Elt F) S4x704x1024 .f32)
  | [] => [⟨Rect.unit ![0, 0, 0] S4x704x1024.size inb_S4x704x1024_S4x704x1024_0_0_0, zero S4x704x1024⟩]
  | q :: l => ⟨rOut q, added m c t q ((ms0_2 t).view.readCov (firstL l) (rOut q).toLoadRect)⟩ :: firstL l

/-- The stores of a later point, over what the point before left. -/
def laterL (x : Vec F S4x704x1024 .f32) : List (View.Piece (Elt F) S4x704x1024 .f32) :=
  ([3, 2, 1, 0] : List (Fin 4)).map fun q => ⟨rOut q, added m c t q (View.readAt (Elt F) (ms0_2 t).view (rOut q).toLoadRect ((hs0_2 t).unread x))⟩

theorem first (h0 : t.val % 8 = 0) : outsAt0 m c t.val t.isLt = View.canon (firstL m c t [3, 2, 1, 0]) := by
  refine (outsAt0_A m c t h0).trans ?_
  unfold out0_A_2
  exact (View.read_writes_eq_canon VO0_2 VO0_2.junk _ (by intro y; apply cover0_A_2)).trans (by sl_kernel_rfl)

theorem later (h0 : ¬ t.val % 8 = 0) : outsAt0 m c t.val t.isLt
    = View.canon (laterL m c t (outsAt0 m c (t.val - 1) (Nat.lt_of_le_of_lt (Nat.sub_le _ _) t.isLt))) := by
  refine (outsAt0_B m c t h0).trans ?_
  unfold out0_B_2
  exact (View.read_writes_eq_canon VO0_2 VO0_2.junk _ (by intro y; apply cover0_B_2)).trans (by sl_kernel_rfl)
end terms

variable (m : (ℓ : Loc nD τ sig) → Buf (Elt Ideal) ℓ) (c : Dev nD)

/-- Row `i` of the point's 1024, and chunk `q` of its half. -/
def row (n : ℕ) (i : Fin 1024) : Fin 8192 := ⟨n % 8 * 1024 + i.val, by omega⟩
def chunk (n : ℕ) (q : Fin 4) : Fin 8 := ⟨n / 8 % 2 * 4 + q.val, by omega⟩

theorem index_all : ∀ t : Fin grid0.N, win0_0.index t 0 = t.val % 8 ∧ win0_0.index t 1 = 0 ∧ win0_1.index t 0 = t.val / 8 % 2
    ∧ win0_1.index t 1 = t.val % 8 ∧ win0_1.index t 2 = 0 ∧ win0_2.index t 0 = t.val / 8 % 2 ∧ win0_2.index t 1 = 0
    ∧ win0_2.index t 2 = 0 := by decide +kernel

theorem blk0 (t : Fin cfg0.N) (i d : Fin 1024) : iblk m c 0 t (ix2 i d) = V m c main_arg0 (ix2 (row t.val i) d) := by
  have h := index_all t
  unfold iblk
  rw [View.read_apply]
  exact congrArg (V m c main_arg0) (idx2_eq _ _
    (by show win0_0.index t 0 * 1024 + 1 * i.val = t.val % 8 * 1024 + i.val; omega) (by show win0_0.index t 1 * 1024 + 1 * d.val = d.val; omega))

theorem V_dup : V m c main_v1 = hDup (F := Ideal) (V m c main_arg1) := by sl_kernel_rfl

theorem hDup_at (u : Vec Ideal S8192x5632 .bf16) (k : Fin 8) (n : Fin 8192) (p : Fin 704) : hDup u (ix3 k n p) = u (ix2 n (col k p)) := by
  pointwise [hDup]
  rfl

theorem plus_at (a : Vec Ideal S1x704x1024 .f32) (y : Vec Ideal S1x1024x704 .bf16) (x : Vec Ideal S1024x1024 .bf16) (p : Fin 704) (d : Fin 1024) :
    plus a y x (ix3 0 p d) = a (ix3 0 p d) + ∑ i : Fin 1024, y (ix3 0 i p) * x (ix2 i d) := by
  pointwise [plus, dot_S1024x704_S1024x1024_S704x1024_0_0_1_1_n_n, Cert.FwdSpec.zero_word, zero_add]

theorem blk1 (t : Fin cfg0.N) (q : Fin 4) (i : Fin 1024) (p : Fin 704) :
    iblk m c 1 t (ix3 q i p) = V m c main_arg1 (ix2 (row t.val i) (col (chunk t.val q) p)) := by
  have h := index_all t
  refine Eq.trans ?_ ((congrFun (V_dup m c) (ix3 (chunk t.val q) (row t.val i) p)).trans (hDup_at _ _ _ _))
  unfold iblk
  rw [View.read_apply]
  exact congrArg (V m c main_v1) (idx3_eq _ _ (by show win0_1.index t 0 * 4 + 1 * q.val = t.val / 8 % 2 * 4 + q.val; omega)
    (by show win0_1.index t 1 * 1024 + 1 * i.val = t.val % 8 * 1024 + i.val; omega) (by show win0_1.index t 2 * 704 + 1 * p.val = p.val; omega))

/-- One row's part of an element of the result. -/
def term (h : S8192x1024.Idx → EReal) (u : S8192x5632.Idx → EReal) (k : Fin 8) (p : Fin 704) (d : Fin 1024) (n : Fin 8192) : EReal :=
  u (ix2 n (col k p)) * h (ix2 n d)

/-- The result. -/
def total (h : S8192x1024.Idx → EReal) (u : S8192x5632.Idx → EReal) : S8x704x1024.Idx → EReal :=
  fun j => ∑ n, term h u (j 0) (j 1) (j 2) n

theorem added_at (t : Fin cfg0.N) (q : Fin 4) (a : Vec Ideal S1x704x1024 .f32) (p : Fin 704) (d : Fin 1024) : added m c t q a (ix3 0 p d)
    = a (ix3 0 p d) + ∑ i, term (V m c main_arg0) (V m c main_arg1) (chunk t.val q) p d (row t.val i) := by
  refine (plus_at _ _ _ p d).trans (congrArg (_ + ·) (Finset.sum_congr rfl fun i _ => congrArg₂ (· * ·) ?_ ?_))
  · exact (load_at (hs0_1 t) _ (rDup q) _).trans ((congrArg _ (rDup_emb q 0 i p)).trans (blk1 m c t q i p))
  · exact (load_at (hs0_0 t) _ rH _).trans ((congrArg _ (rH_emb i d)).trans (blk0 m c t i d))

theorem order_all : ∀ q : Fin 4, q ∈ ([3, 2, 1, 0] : List (Fin 4)) := by decide

theorem first_at (t : Fin cfg0.N) (h0 : t.val % 8 = 0) (q : Fin 4) (p : Fin 704) (d : Fin 1024) : outsAt0 m c t.val t.isLt (ix3 q p d)
    = ∑ i, term (V m c main_arg0) (V m c main_arg1) (chunk t.val q) p d (row t.val i) := by
  have h := canon_acc (Val := Elt Ideal) (e := .f32) rOut (ms0_2 t).view
    ⟨Rect.unit ![0, 0, 0] S4x704x1024.size inb_S4x704x1024_S4x704x1024_0_0_0, zero (F := Ideal) S4x704x1024⟩ (firstL m c t)
    (fun q a => added m c t q a) rfl (fun _ _ => rfl) rOut_off q (ix3 0 p d) [3, 2, 1, 0] (by decide)
  rw [if_pos (order_all q), rOut_emb] at h
  refine (congrFun (first m c t h0) _).trans (h.trans ((added_at m c t q _ p d).trans ?_))
  exact (congrArg (· + _) ((zeros3 _ _).trans EReal.coe_zero)).trans (zero_add _)

theorem later_at (t : Fin cfg0.N) (h0 : ¬ t.val % 8 = 0) (q : Fin 4) (p : Fin 704) (d : Fin 1024) : outsAt0 m c t.val t.isLt (ix3 q p d)
    = outsAt0 m c (t.val - 1) (Nat.lt_of_le_of_lt (Nat.sub_le _ _) t.isLt) (ix3 q p d)
      + ∑ i, term (V m c main_arg0) (V m c main_arg1) (chunk t.val q) p d (row t.val i) := by
  refine (congrFun (later m c t h0) _).trans ?_
  rw [← rOut_emb q 0 p d]
  refine (canon_map rOut _ rOut_off q (ix3 0 p d) _ (order_all q)).trans ((added_at m c t q _ p d).trans (congrArg (· + _) ?_))
  exact load_at (hs0_2 t) _ (rOut q) _

/-- Each point leaves the sum of its half's rows so far. -/
theorem holds (n : ℕ) (hn : n < cfg0.N) (q : Fin 4) (p : Fin 704) (d : Fin 1024) : outsAt0 m c n hn (ix3 q p d)
    = ∑ s ∈ Finset.range (n % 8 + 1), ∑ i, term (V m c main_arg0) (V m c main_arg1) (chunk n q) p d (row s i) := by
  induction n with
  | zero =>
    refine (first_at m c ⟨0, hn⟩ rfl q p d).trans ?_
    exact (Finset.sum_range_one fun s => ∑ i, term (V m c main_arg0) (V m c main_arg1) (chunk 0 q) p d (row s i)).symm
  | succ n ih =>
    by_cases h0 : (n + 1) % 8 = 0
    · refine (first_at m c ⟨n + 1, hn⟩ h0 q p d).trans ?_
      rw [h0, Finset.sum_range_one]
      refine Finset.sum_congr rfl fun i _ => congrArg _ (Fin.ext ?_)
      simp only [row]; omega
    · refine (later_at m c ⟨n + 1, hn⟩ h0 q p d).trans ?_
      have e : (n + 1) % 8 = n % 8 + 1 := by omega
      have ec : chunk (n + 1) q = chunk n q := by apply Fin.ext; simp only [chunk]; omega
      rw [e, Finset.sum_range_succ, ec]
      refine congrArg₂ (· + ·) (ih (Nat.lt_of_succ_lt hn)) (Finset.sum_congr rfl fun i _ => congrArg₂ _ rfl (Fin.ext ?_))
      simp only [row]; omega

/-- The rows of all eight points are all rows. -/
theorem all_rows (f : Fin 8192 → EReal) : ∑ s ∈ Finset.range 8, ∑ i, f (row s i) = ∑ n, f n := by
  rw [Finset.sum_range, ← Fintype.sum_prod_type']
  exact Fintype.sum_equiv (finProdFinEquiv (m := 8) (n := 1024)) _ _ fun p => congrArg f (by
    apply Fin.ext; simp only [finProdFinEquiv_apply_val, row]; omega)

theorem flushed (t : Fin cfg0.N) (hf : (cfg0.win 2).flush t = true) : (dats m 0 c).flushed 2 t
    = ((cfg0.win 2).blk t).view.read (Elt Ideal) (total (V m c main_arg0) (V m c main_arg1)) := by
  have h7 := (flush0_2 t).mp hf
  obtain ⟨-, -, -, -, -, h0, h1, h2⟩ := index_all t
  rw [flushed2]
  funext j
  refine (of_ix3 (n0 := 4) (n1 := 704) (n2 := 1024) (outsAt0 m c t.val t.isLt) _ (holds m c t.val t.isLt) j).trans ?_
  rw [View.read_apply, h7, all_rows]
  have e : ((cfg0.win 2).blk t).view.emb j = ix3 (chunk t.val (j 0)) (j 1) (j 2) := idx3_eq _ _
    (by show win0_2.index t 0 * 4 + 1 * (j 0).val = t.val / 8 % 2 * 4 + (j 0).val; omega)
    (by show win0_2.index t 1 * 704 + 1 * (j 1).val = (j 1).val; omega) (by show win0_2.index t 2 * 1024 + 1 * (j 2).val = (j 2).val; omega)
  exact (congrArg (total (V m c main_arg0) (V m c main_arg1)) e).symm

theorem final : (dats m 0 c).arrAt 2 cfg0.N = total (V m c main_arg0) (V m c main_arg1) :=
  (dats m 0 c).arrAt_eq_of_cover 2 _ (flushed m c) fun i => by
    have h0 : (i 0).val < 8 := (i 0).isLt
    have h1 : (i 1).val < 704 := (i 1).isLt
    have h2 : (i 2).val < 1024 := (i 2).isLt
    let t : Fin cfg0.N := ⟨(i 0).val / 4 * 8 + 7, lt_of_lt_of_eq (b := 16) (by omega) (show grid0.N = 16 from N_0).symm⟩
    have ht : t.val = (i 0).val / 4 * 8 + 7 := rfl
    obtain ⟨-, -, -, -, -, e0, e1, e2⟩ := index_all t
    refine ⟨t, (flush0_2 t).mpr (by omega), ?_⟩
    show i ∈ ((View.whole main_v2).slice (win0_2.rect t)).set
    rw [View.set_slice_whole, Rect.mem_set_unit]
    intro a
    match a with
    | ⟨0, _⟩ => show win0_2.index t 0 * 4 ≤ (i 0).val ∧ (i 0).val < win0_2.index t 0 * 4 + 4; omega
    | ⟨1, _⟩ => show win0_2.index t 1 * 704 ≤ (i 1).val ∧ (i 1).val < win0_2.index t 1 * 704 + 704; omega
    | ⟨2, _⟩ => show win0_2.index t 2 * 1024 ≤ (i 2).val ∧ (i 2).val < win0_2.index t 2 * 1024 + 1024; omega

end Cert.WupIdeal.Own

namespace Cert.WupRef

open Cert.WupReferenceIdeal Cert.WupReferenceIdeal.Gen Cert.WupReferenceIdeal.Read
open Idealize.ShloMosaic Idealize.ShloMosaic.TcCoe
open Cert.WupIdeal.Own (total term)
open Cert.Kernel.Own (col idx2_eq of_ix3)

/-- The reference's result. -/
theorem val_eq (h : S8192x1024.Idx → EReal) (u : S8192x5632.Idx → EReal) : val_main_v7 (F := Ideal) h u = total h u :=
  funext <| of_ix3 _ (fun k p d => ∑ n, term h u k p d n) fun k p d => by
    rw [val_main_v7_apply, val_main_v6_apply, val_main_v5_apply, val_main_v4_apply]
    refine Finset.sum_congr rfl fun n _ => congrArg₂ (· * ·) (congrArg u (idx2_eq _ _ rfl ?_)) (congrArg h (idx2_eq _ _ rfl ?_))
    · show ((k.val * 704 + p.val) * 1024 + d.val) / 1024 = k.val * 704 + p.val; omega
    · show ((k.val * 704 + p.val) * 1024 + d.val) % 1024 = d.val; omega

end Cert.WupRef

namespace Cert.WupPair

open Idealize.ShloMosaic Idealize.ShloMosaic.TcCoe Idealize.SL.Sem

theorem run_eq (m : (ℓ : Loc Cert.Wup.nD Cert.Wup.τ Cert.Wup.sig) → Buf (Elt Bits) ℓ) (g : Dev Cert.Wup.nD → PrngReg)
    (Q : PUnit × MemSt Cert.Wup.nD Cert.Wup.τ Cert.Wup.sig (Elt Bits) → Prop) :
    (θ_run (Cert.Wup.defs (F := Bits)) (onTc (τ := Cert.Wup.τ) (Cert.Wup.main (F := Bits))) ⟨m, fun _ => 0, g⟩ Q)
      = (θ_run (Cert.WupIdeal.defs (F := Bits)) (onTc (τ := Cert.WupIdeal.τ) (Cert.WupIdeal.main (F := Bits))) ⟨m, fun _ => 0, g⟩ Q) := by
  sl_kernel_rfl

theorem frame_p : Cert.quiescent_Wup := fun m ρ _ => (run_eq m ρ _).mpr (Cert.WupIdeal.Gen.frame m ρ)

theorem frame_pi : Cert.quiescent_WupIdeal := fun m ρ _ => Cert.WupIdeal.Gen.frame m ρ

theorem frame_ri : Cert.quiescent_WupReferenceIdeal := fun m ρ _ =>
  (θ_run Cert.WupReferenceIdeal.defs _ _).mono (fun r h => ⟨fun c => (h c).2, sem_eq_zero_of_no_sems (by decide) r.2⟩)
    (Cert.WupReferenceIdeal.Value.run (F := Ideal) m ρ)

theorem algebraic : Cert.algebraic_WupIdeal_WupReferenceIdeal := by
  intro m g m' g' _ hag
  refine ⟨fun c => Cert.WupIdeal.Own.total (m ((c.tc : Thread Cert.WupIdeal.nD Cert.WupIdeal.τ).loc Cert.WupIdeal.main_arg0))
    (m ((c.tc : Thread Cert.WupIdeal.nD Cert.WupIdeal.τ).loc Cert.WupIdeal.main_arg1)), ?_, ?_⟩
  · refine (θ_run Cert.WupIdeal.defs _ _).mono (fun r h c => ?_) (Cert.WupIdeal.Value.run_blocks (F := Ideal) m g)
    exact ⟨(h c).1.trans ((Cert.WupIdeal.Own.final m c).trans
      (congrArg₂ Cert.WupIdeal.Own.total (Cert.WupIdeal.Gen.V_main_arg0 m c) (Cert.WupIdeal.Gen.V_main_arg1 m c))), (h c).2⟩
  · refine (θ_run Cert.WupReferenceIdeal.defs _ _).mono (fun r h c => ?_) (Cert.WupReferenceIdeal.Value.run (F := Ideal) m' g')
    obtain ⟨a0, a1⟩ := hag c
    exact ⟨(h c).1.trans (((Cert.WupReferenceIdeal.Read.val_main_v7_eq _ _).trans (Cert.WupRef.val_eq _ _)).trans
      (congrArg₂ Cert.WupIdeal.Own.total a0 a1)), (h c).2⟩

end Cert.WupPair

end
-- ==== Proof.AdaValue.lean ====
/-
  The modulation in one device's columns: the frames of its two programs and of its reference, and the equation. The one point
  writes the gate of each conditioning row, copies the eight rows into a block of sixteen whose others are zero, and adds the bias
  to each row of that block's product with the weight.
-/
module

public import proofs.«01_k».proof.Proof.FfnState
public import proofs.«01_k».proof.Proof.MixCanon
public import proofs.«01_k».proof.Proof.Arrays
public import proofs.«01_k».proof.Proof.Gen.Ada
public import proofs.«01_k».proof.Proof.Gen.AdaIdeal.Value
public import proofs.«01_k».proof.Proof.Gen.AdaReferenceIdeal.Read
public import proofs.«01_k».proof.Proof.Gen.AdaReferenceIdeal.Run

@[expose] public section

set_option maxRecDepth 16384

noncomputable section

namespace Cert.AdaIdeal.Own

open Cert.AdaIdeal Cert.AdaIdeal.Gen Cert.AdaIdeal.Value
open Idealize.ShloMosaic Idealize.ShloMosaic.TcCoe Idealize.ShloMosaic.Tactic
open Cert.Kernel.Own (load_at canon_map canon_acc zero zeros2 inb2 inb3 off_zero2 idx2_eq idx3_eq of_ix2 of_ix3)
open Cert.Spec (c_half)
open Cert.MixIdeal.Own (apart ne_val)

theorem inb16 (k : Fin 8) : ∀ i, (![k.val, 0] : Fin 2 → ℕ) i + (![1, 1024] : Fin 2 → ℕ) i ≤ (![16, 1024] : Fin 2 → ℕ) i := by
  intro i; have := k.isLt; fin_cases i <;> simp; omega

/-- Row `k` of the conditioning, of the gates, of the block of sixteen and of the result; and the whole arrays. -/
abbrev rC (k : Fin 8) : Rect S8x1024 := Rect.unit ![k.val, 0] S1x1024.size (inb2 k)
abbrev rG (k : Fin 8) : Rect S8x1x1024 := Rect.unit ![k.val, 0, 0] S1x1x1024.size (inb3 k)
abbrev rX (k : Fin 8) : Rect S16x1024 := Rect.unit ![k.val, 0] S1x1024.size (inb16 k)
abbrev rM (k : Fin 8) : Rect S8x1x768 := Rect.unit ![k.val, 0, 0] S1x1x768.size (inb3 k)
abbrev rAll : Rect S16x1024 := Rect.unit ![0, 0] S16x1024.size inb_S16x1024_S16x1024_0_0
abbrev rW : Rect S1024x768 := Rect.unit ![0, 0] S1024x768.size inb_S1024x768_S1024x768_0_0
abbrev rB : Rect S1x768 := Rect.unit ![0, 0] S1x768.size inb_S1x768_S1x768_0_0

theorem slices (k : Fin 8) : S16x768.Slices ![k.val, 0] S1x768 :=
  match k with
  | 0 => slices_S16x768_o0_0_S1x768
  | 1 => slices_S16x768_o1_0_S1x768
  | 2 => slices_S16x768_o2_0_S1x768
  | 3 => slices_S16x768_o3_0_S1x768
  | 4 => slices_S16x768_o4_0_S1x768
  | 5 => slices_S16x768_o5_0_S1x768
  | 6 => slices_S16x768_o6_0_S1x768
  | 7 => slices_S16x768_o7_0_S1x768

theorem rC_emb (k : Fin 8) (z : Fin 1) (d : Fin 1024) : (rC k).emb (ix2 z d) = ix2 k d :=
  idx2_eq _ _ (by show k.val + 1 * z.val = k.val; omega) (by show 0 + 1 * d.val = d.val; omega)
theorem rG_emb (k : Fin 8) (z y : Fin 1) (d : Fin 1024) : (rG k).emb (ix3 z y d) = ix3 k y d :=
  idx3_eq _ _ (by show k.val + 1 * z.val = k.val; omega) (by show 0 + 1 * y.val = y.val; omega) (by show 0 + 1 * d.val = d.val; omega)
theorem rX_emb (k : Fin 8) (z : Fin 1) (d : Fin 1024) : (rX k).emb (ix2 z d) = ix2 ⟨k.val, by omega⟩ d :=
  idx2_eq _ _ (by show k.val + 1 * z.val = k.val; omega) (by show 0 + 1 * d.val = d.val; omega)
theorem rM_emb (k : Fin 8) (z y : Fin 1) (e : Fin 768) : (rM k).emb (ix3 z y e) = ix3 k y e :=
  idx3_eq _ _ (by show k.val + 1 * z.val = k.val; omega) (by show 0 + 1 * y.val = y.val; omega) (by show 0 + 1 * e.val = e.val; omega)
theorem rAll_emb (i : Fin 16) (d : Fin 1024) : rAll.emb (ix2 i d) = ix2 i d :=
  idx2_eq _ _ (by show 0 + 1 * i.val = i.val; omega) (by show 0 + 1 * d.val = d.val; omega)
theorem rW_emb (d : Fin 1024) (e : Fin 768) : rW.emb (ix2 d e) = ix2 d e :=
  idx2_eq _ _ (by show 0 + 1 * d.val = d.val; omega) (by show 0 + 1 * e.val = e.val; omega)
theorem rB_emb (z : Fin 1) (e : Fin 768) : rB.emb (ix2 z e) = ix2 z e :=
  idx2_eq _ _ (by show 0 + 1 * z.val = z.val; omega) (by show 0 + 1 * e.val = e.val; omega)

theorem rG_off (k k' : Fin 8) (x : (rG k).shape.Idx) (h : k ≠ k') : (rG k).emb x ∉ (rG k').set :=
  apart _ _ _ _ _ _ x 0 (by have := ne_val h; show k.val + 1 ≤ k'.val ∨ k'.val + 1 ≤ k.val; omega)
theorem rM_off (k k' : Fin 8) (x : (rM k).shape.Idx) (h : k ≠ k') : (rM k).emb x ∉ (rM k').set :=
  apart _ _ _ _ _ _ x 0 (by have := ne_val h; show k.val + 1 ≤ k'.val ∨ k'.val + 1 ≤ k.val; omega)
theorem rX_off (k k' : Fin 8) (x : (rX k).shape.Idx) (h : k ≠ k') : (rX k).emb x ∉ (rX k').set :=
  apart _ _ _ _ _ _ x 0 (by have := ne_val h; show k.val + 1 ≤ k'.val ∨ k'.val + 1 ≤ k.val; omega)
theorem rX_not_mem (k : Fin 8) (i : S16x1024.Idx) (h : (i 0).val ≠ k.val) : i ∉ (rX k).set := by
  intro hm
  obtain ⟨j, hj, e⟩ := (LoadRect.mem_set _).mp hm 0
  have h1 : j < 1 := hj
  have h2 : (i 0).val = k.val + 1 * j := e
  omega

section terms
variable {F : FTy → Type} [FloatOps F] (m : (ℓ : Loc nD τ sig) → Buf (Elt F) ℓ) (c : Dev nD) (t : Fin cfg0.N)

/-- A row times its sigmoid. -/
def gated (v : Vec F S1x1024 .f32) : FVec F S1x1x1024 .f32 :=
  shapeCast S1x1x1024 (mulf v (addf (mulf (broadcast S1x1024 (Scalar.ofBits .f32 0x3F000000#32))
    (tanh (mulf (broadcast S1x1024 (Scalar.ofBits .f32 0x3F000000#32)) v))) (broadcast S1x1024 (Scalar.ofBits .f32 0x3F000000#32))))
    shapeCasts_S1x1024_S1x1x1024

/-- The product of the sixteen rows with the weight. -/
def prod (x : Vec F S16x1024 .f32) (w : Vec F S1024x768 .f32) : FVec F S16x768 .f32 :=
  matmul dot_S16x1024_S1024x768_S16x768_1_0_0_1_n_n none (truncf .bf16 (shapeCast S16x1024 x shapeCasts_S16x1024_S16x1024) bitsLt_bf16_f32)
    (truncf .bf16 w bitsLt_bf16_f32) (constant S16x768 .f32 0x00000000#32)

/-- One row of the product, with the bias. -/
def biased (k : Fin 8) (y : Vec F S16x768 .f32) (b : Vec F S1x768 .f32) : FVec F S1x1x768 .f32 :=
  shapeCast S1x1x768 (addf (extractStridedSlice S1x768 ![k.val, 0] y (slices k)) b) shapeCasts_S1x768_S1x1x768

/-- The rows, the last stored first. -/
def order : List (Fin 8) := [7, 6, 5, 4, 3, 2, 1, 0]

/-- The stores of the gates. -/
def gateL : List (View.Piece (Elt F) S8x1x1024 .f32) :=
  order.map fun k => ⟨rG k, gated (View.readAt (Elt F) (ms0_0 t).view (rC k).toLoadRect ((hs0_0 t).unread (iblk m c 0 t)))⟩

/-- The stores of the block of sixteen, the rows' after the zeros'. -/
def rowsL : List (Fin 8) → List (View.Piece (Elt F) S16x1024 .f32)
  | [] => [⟨rAll, zero S16x1024⟩]
  | k :: l => ⟨rX k, shapeCast S1x1024 (scM0_0.view.readCov (gateL m c t) (rG k).toLoadRect) shapeCasts_S1x1x1024_S1x1024⟩ :: rowsL l

/-- The stores of the result. -/
def modL : List (View.Piece (Elt F) S8x1x768 .f32) :=
  order.map fun k => ⟨rM k, biased k (prod ((ms0_4 t).view.readCov (rowsL m c t order) rAll.toLoadRect)
    (View.readAt (Elt F) (ms0_1 t).view rW.toLoadRect ((hs0_1 t).unread (iblk m c 1 t))))
    (View.readAt (Elt F) (ms0_2 t).view rB.toLoadRect ((hs0_2 t).unread (iblk m c 2 t)))⟩

theorem out_mod : (outsAt0 m c t).1 = View.canon (modL m c t) := by
  unfold outsAt0
  dsimp only
  unfold out0_A_3
  exact (View.read_writes_eq_canon VO0_3 VO0_3.junk _ (by intro y; apply cover0_A_3)).trans (by sl_kernel_rfl)

theorem out_rows : (outsAt0 m c t).2 = View.canon (rowsL m c t order) := by
  unfold outsAt0
  dsimp only
  unfold out0_A_4
  exact (View.read_writes_eq_canon VO0_4 VO0_4.junk _ (by intro y; apply cover0_A_4)).trans (by sl_kernel_rfl)
end terms

variable (m : (ℓ : Loc nD τ sig) → Buf (Elt Ideal) ℓ) (c : Dev nD) (t : Fin cfg0.N)

/-- A number times its sigmoid. -/
def silu (x : EReal) : EReal := x * Cert.FwdSpec.sig x

/-- The gates, in a block of sixteen rows. -/
def rows (u : S8x1024.Idx → EReal) : S16x1024.Idx → EReal :=
  fun j => if h : (j 0).val < 8 then silu (u (ix2 (⟨(j 0).val, h⟩ : Fin 8) (j 1))) else 0

/-- The modulation. -/
def modulation (u : S8x1024.Idx → EReal) (w : S1024x768.Idx → EReal) (b : S1x768.Idx → EReal) : S8x1x768.Idx → EReal :=
  fun j => (∑ d : Fin 1024, silu (u (ix2 (j 0) d)) * w (ix2 d (j 2))) + b (ix2 0 (j 2))

theorem blk0 (k : Fin 8) (d : Fin 1024) : iblk m c 0 t (ix2 k d) = V m c main_arg0 (ix2 k d) := by
  unfold iblk
  rw [View.read_apply]
  exact congrArg (V m c main_arg0) (idx2_eq _ _ (by show 0 * 8 + 1 * k.val = k.val; omega) (by show 0 * 1024 + 1 * d.val = d.val; omega))
theorem blk1 (d : Fin 1024) (e : Fin 768) : iblk m c 1 t (ix2 d e) = V m c main_arg1 (ix2 d e) := by
  unfold iblk
  rw [View.read_apply]
  exact congrArg (V m c main_arg1) (idx2_eq _ _ (by show 0 * 1024 + 1 * d.val = d.val; omega) (by show 0 * 768 + 1 * e.val = e.val; omega))
theorem blk2 (z : Fin 1) (e : Fin 768) : iblk m c 2 t (ix2 z e) = V m c main_arg2 (ix2 z e) := by
  unfold iblk
  rw [View.read_apply]
  exact congrArg (V m c main_arg2) (idx2_eq _ _ (by show 0 * 1 + 1 * z.val = z.val; omega) (by show 0 * 768 + 1 * e.val = e.val; omega))

theorem gated_at (v : Vec Ideal S1x1024 .f32) (d : Fin 1024) : gated v (ix3 0 0 d) = silu (v (ix2 0 d)) := by
  pointwise [gated, c_half]
  exact Cert.FwdSpec.gate_eq _

theorem prod_at (x : Vec Ideal S16x1024 .f32) (w : Vec Ideal S1024x768 .f32) (i : Fin 16) (e : Fin 768) :
    prod x w (ix2 i e) = ∑ d : Fin 1024, x (ix2 i d) * w (ix2 d e) := by
  pointwise [prod, dot_S16x1024_S1024x768_S16x768_1_0_0_1_n_n, Cert.FwdSpec.zero_word, zero_add]

theorem biased_at (k : Fin 8) (y : Vec Ideal S16x768 .f32) (b : Vec Ideal S1x768 .f32) (e : Fin 768) :
    biased k y b (ix3 0 0 e) = y (ix2 ⟨k.val, by omega⟩ e) + b (ix2 0 e) := by
  pointwise [biased]

theorem order_all : ∀ k : Fin 8, k ∈ order := by decide

theorem gateL_at (k : Fin 8) (d : Fin 1024) : View.canon (gateL m c t) (ix3 k 0 d) = silu (V m c main_arg0 (ix2 k d)) := by
  rw [← rG_emb k 0 0 d]
  refine (canon_map rG _ rG_off k (ix3 0 0 d) _ (order_all k)).trans ((gated_at _ d).trans (congrArg silu ?_))
  exact (load_at (hs0_0 t) _ (rC k) _).trans ((congrArg _ (rC_emb k 0 d)).trans (blk0 m c t k d))

theorem copied_at (v : Vec Ideal S1x1x1024 .f32) (d : Fin 1024) : shapeCast S1x1024 v shapeCasts_S1x1x1024_S1x1024 (ix2 0 d) = v (ix3 0 0 d) := by
  pointwise

theorem rowsL_off (i : S16x1024.Idx) (h : 8 ≤ (i 0).val) (l : List (Fin 8)) :
    View.canon (rowsL m c t l) i = View.canon (rowsL m c t []) i := by
  induction l with
  | nil => rfl
  | cons k l ih =>
    have hk : (i 0).val ≠ k.val := fun e => absurd (e ▸ h) (Nat.not_le_of_lt k.isLt)
    exact (View.canon_cons_of_not_mem ⟨rX k, _⟩ (rowsL m c t l) (rX_not_mem k i hk)).trans ih

theorem rowsL_at (i : Fin 16) (d : Fin 1024) : View.canon (rowsL m c t order) (ix2 i d) = rows (V m c main_arg0) (ix2 i d) := by
  unfold rows
  by_cases h : i.val < 8
  · have hk := canon_acc (Val := Elt Ideal) (e := .f32) rX (ms0_4 t).view ⟨rAll, zero (F := Ideal) S16x1024⟩ (rowsL m c t)
      (fun k _ => shapeCast S1x1024 (scM0_0.view.readCov (gateL m c t) (rG k).toLoadRect) shapeCasts_S1x1x1024_S1x1024)
      rfl (fun _ _ => rfl) rX_off ⟨i.val, h⟩ (ix2 0 d) order (by decide)
    rw [if_pos (order_all _), rX_emb] at hk
    refine hk.trans ((copied_at _ d).trans ?_)
    rw [View.readCov_eq_canon', dif_pos (show (ix2 (n0 := 16) i d 0).val < 8 from h)]
    exact (congrArg (View.canon (gateL m c t)) (rG_emb ⟨i.val, h⟩ 0 0 d)).trans (gateL_at m c t ⟨i.val, h⟩ d)
  · rw [dif_neg (show ¬ (ix2 (n0 := 16) i d 0).val < 8 from h)]
    exact (rowsL_off m c t (ix2 i d) (Nat.le_of_not_lt h) order).trans ((zeros2 _ _).trans EReal.coe_zero)

theorem modL_at (k : Fin 8) (y : Fin 1) (e : Fin 768) : View.canon (modL m c t) (ix3 k y e)
    = modulation (V m c main_arg0) (V m c main_arg1) (V m c main_arg2) (ix3 k y e) := by
  obtain rfl : y = 0 := Subsingleton.elim _ _
  rw [← rM_emb k 0 0 e]
  refine (canon_map rM _ rM_off k (ix3 0 0 e) _ (order_all k)).trans ((biased_at k _ _ e).trans ?_)
  rw [rM_emb]
  refine congrArg₂ (· + ·) ((prod_at _ _ _ e).trans (Finset.sum_congr rfl fun d _ => congrArg₂ (· * ·) ?_ ?_)) ?_
  · rw [View.readCov_eq_canon']
    refine (congrArg (View.canon (rowsL m c t order)) (rAll_emb ⟨k.val, by omega⟩ d)).trans ((rowsL_at m c t _ d).trans ?_)
    exact dif_pos k.isLt
  · exact (load_at (hs0_1 t) _ rW _).trans ((congrArg _ (rW_emb d e)).trans (blk1 m c t d e))
  · exact (load_at (hs0_2 t) _ rB _).trans ((congrArg _ (rB_emb 0 e)).trans (blk2 m c t 0 e))

theorem flushed_mod (hf : (cfg0.win 3).flush t = true) : (dats m 0 c).flushed 3 t
    = ((cfg0.win 3).blk t).view.read (Elt Ideal) (modulation (V m c main_arg0) (V m c main_arg1) (V m c main_arg2)) := by
  rw [flushed3]
  funext j
  refine (congrFun (out_mod m c t) j).trans ((of_ix3 _ _ (modL_at m c t) j).trans ?_)
  rw [View.read_apply]
  exact congrArg (modulation _ _ _) (idx3_eq _ _ (by show (j 0).val = 0 * 8 + 1 * (j 0).val; omega)
    (by show (j 1).val = 0 * 1 + 1 * (j 1).val; omega) (by show (j 2).val = 0 * 768 + 1 * (j 2).val; omega))

theorem flushed_rows (hf : (cfg0.win 4).flush t = true) : (dats m 0 c).flushed 4 t
    = ((cfg0.win 4).blk t).view.read (Elt Ideal) (rows (V m c main_arg0)) := by
  rw [flushed4]
  funext j
  refine (congrFun (out_rows m c t) j).trans ((of_ix2 _ _ (rowsL_at m c t) j).trans ?_)
  rw [View.read_apply]
  exact congrArg (rows _) (idx2_eq _ _ (by show (j 0).val = 0 * 16 + 1 * (j 0).val; omega)
    (by show (j 1).val = 0 * 1024 + 1 * (j 1).val; omega))

theorem final_mod : (dats m 0 c).arrAt 3 cfg0.N = modulation (V m c main_arg0) (V m c main_arg1) (V m c main_arg2) :=
  (dats m 0 c).arrAt_eq_of_cover 3 _ (flushed_mod m c) fun i => ⟨t0_0, flush0_3 t0_0, by
    show i ∈ ((View.whole main_v0_0).slice (win0_3.rect t0_0)).set
    rw [View.set_slice_whole, Rect.mem_set_unit]
    intro a
    have ha := (i a).isLt
    match a with
    | ⟨0, _⟩ => exact ⟨Nat.zero_le _, lt_of_lt_of_eq ha (by rfl)⟩
    | ⟨1, _⟩ => exact ⟨Nat.zero_le _, lt_of_lt_of_eq ha (by rfl)⟩
    | ⟨2, _⟩ => exact ⟨Nat.zero_le _, lt_of_lt_of_eq ha (by rfl)⟩⟩

theorem final_rows : (dats m 0 c).arrAt 4 cfg0.N = rows (V m c main_arg0) :=
  (dats m 0 c).arrAt_eq_of_cover 4 _ (flushed_rows m c) fun i => ⟨t0_0, flush0_4 t0_0, by
    show i ∈ ((View.whole main_v0_1).slice (win0_4.rect t0_0)).set
    rw [View.set_slice_whole, Rect.mem_set_unit]
    intro a
    have ha := (i a).isLt
    match a with
    | ⟨0, _⟩ => exact ⟨Nat.zero_le _, lt_of_lt_of_eq ha (by rfl)⟩
    | ⟨1, _⟩ => exact ⟨Nat.zero_le _, lt_of_lt_of_eq ha (by rfl)⟩⟩

end Cert.AdaIdeal.Own

namespace Cert.AdaRef

open Cert.AdaReferenceIdeal Cert.AdaReferenceIdeal.Gen Cert.AdaReferenceIdeal.Read
open Idealize.ShloMosaic Idealize.ShloMosaic.TcCoe
open Cert.AdaIdeal.Own (silu rows modulation)
open Cert.Kernel.Own (idx2_eq of_ix2 of_ix3)

theorem silu_eq (u : S8x1024.Idx → EReal) (i : S8x1024.Idx) : val_main_v0 (F := Ideal) u i = silu (u i) := by
  pointwise [val_main_v0, val_main_call0_v5, val_main_call0_v4, val_main_call0_cst_0, val_main_call0_v3, val_main_call0_v2, val_main_call0_cst,
    val_main_call0_v1, val_main_call0_v0, Cert.FwdSpec.one_word]
  rfl

/-- The reference's modulation. -/
theorem mod_eq (u : S8x1024.Idx → EReal) (w : S1024x768.Idx → EReal) (b : S1x768.Idx → EReal) :
    val_main_v4 (F := Ideal) u w b = modulation u w b :=
  funext <| of_ix3 _ (fun k _ e => (∑ d : Fin 1024, silu (u (ix2 k d)) * w (ix2 d e)) + b (ix2 0 e)) fun k y e => by
    rw [val_main_v4_apply, val_main_v3_apply, val_main_v1_apply, val_main_v2_apply]
    have hk : ((k.val * 1 + y.val) * 768 + e.val) / 768 = k.val := by omega
    have he : ((k.val * 1 + y.val) * 768 + e.val) % 768 = e.val := by omega
    exact congrArg₂ (· + ·) (Finset.sum_congr rfl fun d _ => congrArg₂ (· * ·) ((silu_eq u _).trans (congrArg (silu ∘ u) (idx2_eq _ _ hk rfl)))
      (congrArg w (idx2_eq _ _ rfl he))) (congrArg b (idx2_eq _ _ rfl he))

/-- The reference's rows. -/
theorem rows_eq (u : S8x1024.Idx → EReal) : val_main_v6 (F := Ideal) u = rows u :=
  funext <| of_ix2 _ (fun i d => rows u (ix2 i d)) fun i d => by
    unfold val_main_v6 rows
    by_cases h : i.val < 8
    · rw [dif_pos (show (ix2 (n0 := 16) i d 0).val < 8 from h)]
      exact (concatenate_pair_apply_left (t := S16x1024) (s₁ := S8x1024) (s₂ := S8x1024) 0 _ _ _ (ix2 i d) rfl (ix2 (⟨i.val, h⟩ : Fin 8) d)
        (fun b => match b with
          | ⟨0, _⟩ => rfl
          | ⟨1, _⟩ => rfl)).trans (silu_eq u _)
    · rw [dif_neg (show ¬ (ix2 (n0 := 16) i d 0).val < 8 from h)]
      refine (concatenate_pair_apply_right (t := S16x1024) (s₁ := S8x1024) (s₂ := S8x1024) 0 _ _ _ (ix2 i d) rfl rfl
        (ix2 (⟨i.val - 8, by omega⟩ : Fin 8) d)
        (fun b hb => match b, hb with
          | ⟨1, _⟩, _ => rfl
          | ⟨0, _⟩, hb => absurd rfl hb) (by show i.val - 8 + 8 = i.val; omega)).trans ?_
      pointwise [val_main_v5, val_main_cst, Cert.FwdSpec.zero_word]

end Cert.AdaRef

namespace Cert.AdaPair

open Idealize.ShloMosaic Idealize.ShloMosaic.TcCoe Idealize.SL.Sem
open Cert.AdaIdeal.Own (rows modulation)

theorem run_eq (m : (ℓ : Loc Cert.Ada.nD Cert.Ada.τ Cert.Ada.sig) → Buf (Elt Bits) ℓ) (g : Dev Cert.Ada.nD → PrngReg)
    (Q : PUnit × MemSt Cert.Ada.nD Cert.Ada.τ Cert.Ada.sig (Elt Bits) → Prop) :
    (θ_run (Cert.Ada.defs (F := Bits)) (onTc (τ := Cert.Ada.τ) (Cert.Ada.main (F := Bits))) ⟨m, fun _ => 0, g⟩ Q)
      = (θ_run (Cert.AdaIdeal.defs (F := Bits)) (onTc (τ := Cert.AdaIdeal.τ) (Cert.AdaIdeal.main (F := Bits))) ⟨m, fun _ => 0, g⟩ Q) := by
  sl_kernel_rfl

theorem frame_p : Cert.quiescent_Ada := fun m ρ _ => (run_eq m ρ _).mpr (Cert.AdaIdeal.Gen.frame m ρ)

theorem frame_pi : Cert.quiescent_AdaIdeal := fun m ρ _ => Cert.AdaIdeal.Gen.frame m ρ

theorem frame_ri : Cert.quiescent_AdaReferenceIdeal := fun m ρ _ =>
  (θ_run Cert.AdaReferenceIdeal.defs _ _).mono (fun r h => ⟨fun c => (h c).2.2, sem_eq_zero_of_no_sems (by decide) r.2⟩)
    (Cert.AdaReferenceIdeal.Value.run (F := Ideal) m ρ)

theorem algebraic : Cert.algebraic_AdaIdeal_AdaReferenceIdeal := by
  intro m g m' g' _ hag
  let a (c : Dev Cert.AdaIdeal.nD) := (c.tc : Thread Cert.AdaIdeal.nD Cert.AdaIdeal.τ)
  refine ⟨fun c => modulation (m ((a c).loc Cert.AdaIdeal.main_arg0)) (m ((a c).loc Cert.AdaIdeal.main_arg1)) (m ((a c).loc Cert.AdaIdeal.main_arg2)),
    fun c => rows (m ((a c).loc Cert.AdaIdeal.main_arg0)), ?_, ?_⟩
  · refine (θ_run Cert.AdaIdeal.defs _ _).mono (fun r h c => ?_) (Cert.AdaIdeal.Value.run_blocks (F := Ideal) m g)
    obtain ⟨h0, h1, hk⟩ := h c
    exact ⟨h0.trans (Cert.AdaIdeal.Own.final_mod m c), h1.trans (Cert.AdaIdeal.Own.final_rows m c), hk⟩
  · refine (θ_run Cert.AdaReferenceIdeal.defs _ _).mono (fun r h c => ?_) (Cert.AdaReferenceIdeal.Value.run (F := Ideal) m' g')
    obtain ⟨a0, a1, a2⟩ := hag c
    obtain ⟨h0, h1, hk⟩ := h c
    refine ⟨(h0.trans ((Cert.AdaReferenceIdeal.Read.val_main_v4_eq _ _ _).trans (Cert.AdaRef.mod_eq _ _ _))).trans ?_,
      (h1.trans ((Cert.AdaReferenceIdeal.Read.val_main_v6_eq _).trans (Cert.AdaRef.rows_eq _))).trans (congrArg rows a0), hk⟩
    exact congr (congrArg₂ modulation a0 a1) a2

end Cert.AdaPair

end
-- ==== Proof.Transport.lean ====
/-
  At the ideal instance the two programs of the kernel have the same runs: one proof serves both.
-/
module

public import proofs.«01_k».proof.Defs
public import proofs.«01_k».proof.Proof.Gen.Kernel
public import proofs.«01_k».proof.Proof.Gen.KernelIdeal
public import Idealize.ShloMosaic.Lib.Tactic

@[expose] public section

noncomputable section

namespace Cert.Pair

open Idealize.ShloMosaic Idealize.ShloMosaic.TcCoe Idealize.SL.Sem

theorem run_eq (m : (ℓ : Loc Cert.Kernel.nD Cert.Kernel.τ Cert.Kernel.sig) → Buf (Elt Ideal) ℓ) (g : Dev Cert.Kernel.nD → PrngReg)
    (Q : PUnit × MemSt Cert.Kernel.nD Cert.Kernel.τ Cert.Kernel.sig (Elt Ideal) → Prop) :
    (θ_run (Cert.KernelIdeal.defs (F := Ideal)) (onTc (τ := Cert.KernelIdeal.τ) (Cert.KernelIdeal.main (F := Ideal))) ⟨m, fun _ => 0, g⟩ Q)
      = (θ_run (Cert.Kernel.defs (F := Ideal)) (onTc (τ := Cert.Kernel.τ) (Cert.Kernel.main (F := Ideal))) ⟨m, fun _ => 0, g⟩ Q) := by
  sl_kernel_rfl

end Cert.Pair

end
-- ==== Proof.Sums.lean ====
/-
  What the arrays of sums hold after the last point: the sum over every row.
-/
module

public import proofs.«01_k».proof.Proof.Arrays

@[expose] public section

noncomputable section

namespace Cert.Kernel.Own

open Cert.Kernel Cert.Kernel.Gen Cert.Spec
open Idealize.ShloMosaic Idealize.ShloMosaic.TcCoe

/-- The tiles of all points together are all rows. -/
theorem upto_all (g : Fin 8192 → ℝ) : upto g 31 = ∑ n, g n := by
  let e : Fin 32 × Fin 256 ≃ Fin 8192 := finProdFinEquiv
  have h1 : (∑ n, g n) = ∑ p : Fin 32 × Fin 256, g (e p) := (Equiv.sum_comp e g).symm
  rw [h1, Fintype.sum_prod_type, upto, Finset.sum_range, ← Equiv.sum_comp Fin.revPerm]
  refine Finset.sum_congr rfl fun s _ => Finset.sum_congr rfl fun i _ => congrArg g (Fin.ext ?_)
  have hs := s.isLt
  show (31 - (31 + 1 - (s.val + 1))) * 256 + i.val = i.val + 256 * s.val
  omega

theorem index_sums : ∀ t : Fin grid0.N, win0_16.index t 0 = 0 ∧ win0_16.index t 1 = 0 ∧ win0_17.index t 0 = 0 ∧ win0_17.index t 1 = 0
    ∧ win0_18.index t 0 = 0 ∧ win0_18.index t 1 = 0 ∧ win0_19.index t 0 = 0 ∧ win0_19.index t 1 = 0
    ∧ win0_20.index t 0 = 0 ∧ win0_20.index t 1 = 0 ∧ win0_20.index t 2 = 0 := by decide +kernel

/-- The last point. -/
def tEnd : Fin cfg0.N := ⟨31, lt_of_lt_of_eq (b := 32) (by omega) (show grid0.N = 32 from N_0).symm⟩

theorem upto_last (g : Fin 8192 → ℝ) (t : Fin cfg0.N) (h : t.val % 32 = 31) : upto g t.val = ∑ n, g n := by
  have := lt_of_lt_of_eq t.isLt (show grid0.N = 32 from N_0)
  rw [← upto_all, show t.val = 31 by omega]

/-- The arrays of sums. -/
def oDmod (I : Inp) : S3x1024.Idx → EReal := fun j => ((∑ n, I.tmod (j 0) n (j 1) : ℝ) : EReal)
def oDg (v : Fin 8192 → Fin 1024 → ℝ) : S1x1024.Idx → EReal := fun j => ((∑ n, v n (j 1) : ℝ) : EReal)
def oDcb (I : Inp) : S8x704.Idx → EReal := fun j => ((∑ n, I.dy n (col (j 0) (j 1)) : ℝ) : EReal)
def oDcw (I : Inp) : S8x3x704.Idx → EReal := fun j => ((∑ n, I.tcw (j 1) n (col (j 0) (j 2)) : ℝ) : EReal)

variable {m : (ℓ : Loc nD τ sig) → Buf (Elt Ideal) ℓ} {c : Dev nD} {I : Inp} (A : Args m c I)
include A

theorem flushed16 (t : Fin cfg0.N) (hf : (cfg0.win 16).flush t = true) :
    (dats m 0 c).flushed 16 t = ((cfg0.win 16).blk t).view.read (Elt Ideal) (oDmod I) := by
  obtain ⟨h0, h1, -, -, -, -, -, -, -, -, -⟩ := index_sums t
  funext j
  refine (of_ix2 (n0 := 3) (n1 := 1024) (left m c t.val t.isLt).dmod _ (holds_at A t.val t.isLt).dmod j).trans ?_
  rw [View.read_apply]
  show _ = oDmod I _
  refine Eq.trans (b := oDmod I j) (congrArg (fun r : ℝ => (r : EReal)) (upto_last _ t ((flush0_16 t).mp hf))) (congrArg (oDmod I) (funext fun a => Fin.ext ?_))
  match a with
  | ⟨0, _⟩ => show (j 0).val = win0_16.index t 0 * 3 + 1 * (j 0).val; rw [h0]; omega
  | ⟨1, _⟩ => show (j 1).val = win0_16.index t 1 * 1024 + 1 * (j 1).val; rw [h1]; omega

theorem final16 : (dats m 0 c).arrAt 16 cfg0.N = oDmod I :=
  (dats m 0 c).arrAt_eq_of_cover 16 (oDmod I) (flushed16 A) fun i => by
    have b0 : (i 0).val < 3 := (i 0).isLt
    have b1 : (i 1).val < 1024 := (i 1).isLt
    obtain ⟨h0, h1, -, -, -, -, -, -, -, -, -⟩ := index_sums tEnd
    refine ⟨tEnd, (flush0_16 _).mpr rfl, ?_⟩
    show i ∈ ((View.whole main_v64_4).slice (win0_16.rect tEnd)).set
    rw [View.set_slice_whole, Rect.mem_set_unit]
    intro a
    match a with
    | ⟨0, _⟩ =>
      show win0_16.index tEnd 0 * 3 ≤ (i 0).val ∧ (i 0).val < win0_16.index tEnd 0 * 3 + 3
      rw [h0]; omega
    | ⟨1, _⟩ =>
      show win0_16.index tEnd 1 * 1024 ≤ (i 1).val ∧ (i 1).val < win0_16.index tEnd 1 * 1024 + 1024
      rw [h1]; omega

theorem flushed17 (t : Fin cfg0.N) (hf : (cfg0.win 17).flush t = true) :
    (dats m 0 c).flushed 17 t = ((cfg0.win 17).blk t).view.read (Elt Ideal) (oDg I.tg3) := by
  obtain ⟨-, -, h0, h1, -, -, -, -, -, -, -⟩ := index_sums t
  funext j
  refine (of_ix2 (n0 := 1) (n1 := 1024) (left m c t.val t.isLt).dg3 _ (holds_at A t.val t.isLt).dg3 j).trans ?_
  rw [View.read_apply]
  show _ = oDg I.tg3 _
  refine Eq.trans (b := oDg I.tg3 j) (congrArg (fun r : ℝ => (r : EReal)) (upto_last _ t ((flush0_17 t).mp hf))) (congrArg (oDg I.tg3) (funext fun a => Fin.ext ?_))
  match a with
  | ⟨0, _⟩ => show (j 0).val = win0_17.index t 0 * 1 + 1 * (j 0).val; rw [h0]; omega
  | ⟨1, _⟩ => show (j 1).val = win0_17.index t 1 * 1024 + 1 * (j 1).val; rw [h1]; omega

theorem final17 : (dats m 0 c).arrAt 17 cfg0.N = oDg I.tg3 :=
  (dats m 0 c).arrAt_eq_of_cover 17 (oDg I.tg3) (flushed17 A) fun i => by
    have b0 : (i 0).val < 1 := (i 0).isLt
    have b1 : (i 1).val < 1024 := (i 1).isLt
    obtain ⟨-, -, h0, h1, -, -, -, -, -, -, -⟩ := index_sums tEnd
    refine ⟨tEnd, (flush0_17 _).mpr rfl, ?_⟩
    show i ∈ ((View.whole main_v64_5).slice (win0_17.rect tEnd)).set
    rw [View.set_slice_whole, Rect.mem_set_unit]
    intro a
    match a with
    | ⟨0, _⟩ =>
      show win0_17.index tEnd 0 * 1 ≤ (i 0).val ∧ (i 0).val < win0_17.index tEnd 0 * 1 + 1
      rw [h0]; omega
    | ⟨1, _⟩ =>
      show win0_17.index tEnd 1 * 1024 ≤ (i 1).val ∧ (i 1).val < win0_17.index tEnd 1 * 1024 + 1024
      rw [h1]; omega

theorem flushed18 (t : Fin cfg0.N) (hf : (cfg0.win 18).flush t = true) :
    (dats m 0 c).flushed 18 t = ((cfg0.win 18).blk t).view.read (Elt Ideal) (oDg I.tg4) := by
  obtain ⟨-, -, -, -, h0, h1, -, -, -, -, -⟩ := index_sums t
  funext j
  refine (of_ix2 (n0 := 1) (n1 := 1024) (left m c t.val t.isLt).dg4 _ (holds_at A t.val t.isLt).dg4 j).trans ?_
  rw [View.read_apply]
  show _ = oDg I.tg4 _
  refine Eq.trans (b := oDg I.tg4 j) (congrArg (fun r : ℝ => (r : EReal)) (upto_last _ t ((flush0_18 t).mp hf))) (congrArg (oDg I.tg4) (funext fun a => Fin.ext ?_))
  match a with
  | ⟨0, _⟩ => show (j 0).val = win0_18.index t 0 * 1 + 1 * (j 0).val; rw [h0]; omega
  | ⟨1, _⟩ => show (j 1).val = win0_18.index t 1 * 1024 + 1 * (j 1).val; rw [h1]; omega

theorem final18 : (dats m 0 c).arrAt 18 cfg0.N = oDg I.tg4 :=
  (dats m 0 c).arrAt_eq_of_cover 18 (oDg I.tg4) (flushed18 A) fun i => by
    have b0 : (i 0).val < 1 := (i 0).isLt
    have b1 : (i 1).val < 1024 := (i 1).isLt
    obtain ⟨-, -, -, -, h0, h1, -, -, -, -, -⟩ := index_sums tEnd
    refine ⟨tEnd, (flush0_18 _).mpr rfl, ?_⟩
    show i ∈ ((View.whole main_v64_6).slice (win0_18.rect tEnd)).set
    rw [View.set_slice_whole, Rect.mem_set_unit]
    intro a
    match a with
    | ⟨0, _⟩ =>
      show win0_18.index tEnd 0 * 1 ≤ (i 0).val ∧ (i 0).val < win0_18.index tEnd 0 * 1 + 1
      rw [h0]; omega
    | ⟨1, _⟩ =>
      show win0_18.index tEnd 1 * 1024 ≤ (i 1).val ∧ (i 1).val < win0_18.index tEnd 1 * 1024 + 1024
      rw [h1]; omega

theorem flushed19 (t : Fin cfg0.N) (hf : (cfg0.win 19).flush t = true) :
    (dats m 0 c).flushed 19 t = ((cfg0.win 19).blk t).view.read (Elt Ideal) (oDcb I) := by
  obtain ⟨-, -, -, -, -, -, h0, h1, -, -, -⟩ := index_sums t
  funext j
  refine (of_ix2 (n0 := 8) (n1 := 704) (left m c t.val t.isLt).dcb _ (holds_at A t.val t.isLt).dcb j).trans ?_
  rw [View.read_apply]
  show _ = oDcb I _
  refine Eq.trans (b := oDcb I j) (congrArg (fun r : ℝ => (r : EReal)) (upto_last _ t ((flush0_19 t).mp hf))) (congrArg (oDcb I) (funext fun a => Fin.ext ?_))
  match a with
  | ⟨0, _⟩ => show (j 0).val = win0_19.index t 0 * 8 + 1 * (j 0).val; rw [h0]; omega
  | ⟨1, _⟩ => show (j 1).val = win0_19.index t 1 * 704 + 1 * (j 1).val; rw [h1]; omega

theorem final19 : (dats m 0 c).arrAt 19 cfg0.N = oDcb I :=
  (dats m 0 c).arrAt_eq_of_cover 19 (oDcb I) (flushed19 A) fun i => by
    have b0 : (i 0).val < 8 := (i 0).isLt
    have b1 : (i 1).val < 704 := (i 1).isLt
    obtain ⟨-, -, -, -, -, -, h0, h1, -, -, -⟩ := index_sums tEnd
    refine ⟨tEnd, (flush0_19 _).mpr rfl, ?_⟩
    show i ∈ ((View.whole main_v64_7).slice (win0_19.rect tEnd)).set
    rw [View.set_slice_whole, Rect.mem_set_unit]
    intro a
    match a with
    | ⟨0, _⟩ =>
      show win0_19.index tEnd 0 * 8 ≤ (i 0).val ∧ (i 0).val < win0_19.index tEnd 0 * 8 + 8
      rw [h0]; omega
    | ⟨1, _⟩ =>
      show win0_19.index tEnd 1 * 704 ≤ (i 1).val ∧ (i 1).val < win0_19.index tEnd 1 * 704 + 704
      rw [h1]; omega

theorem flushed20 (t : Fin cfg0.N) (hf : (cfg0.win 20).flush t = true) :
    (dats m 0 c).flushed 20 t = ((cfg0.win 20).blk t).view.read (Elt Ideal) (oDcw I) := by
  obtain ⟨-, -, -, -, -, -, -, -, h0, h1, h2⟩ := index_sums t
  funext j
  refine (of_ix3 (n0 := 8) (n1 := 3) (n2 := 704) (left m c t.val t.isLt).dcw _ (holds_at A t.val t.isLt).dcw j).trans ?_
  rw [View.read_apply]
  show _ = oDcw I _
  refine Eq.trans (b := oDcw I j) (congrArg (fun r : ℝ => (r : EReal)) (upto_last _ t ((flush0_20 t).mp hf))) (congrArg (oDcw I) (funext fun a => Fin.ext ?_))
  match a with
  | ⟨0, _⟩ => show (j 0).val = win0_20.index t 0 * 8 + 1 * (j 0).val; rw [h0]; omega
  | ⟨1, _⟩ => show (j 1).val = win0_20.index t 1 * 3 + 1 * (j 1).val; rw [h1]; omega
  | ⟨2, _⟩ => show (j 2).val = win0_20.index t 2 * 704 + 1 * (j 2).val; rw [h2]; omega

theorem final20 : (dats m 0 c).arrAt 20 cfg0.N = oDcw I :=
  (dats m 0 c).arrAt_eq_of_cover 20 (oDcw I) (flushed20 A) fun i => by
    have b0 : (i 0).val < 8 := (i 0).isLt
    have b1 : (i 1).val < 3 := (i 1).isLt
    have b2 : (i 2).val < 704 := (i 2).isLt
    obtain ⟨-, -, -, -, -, -, -, -, h0, h1, h2⟩ := index_sums tEnd
    refine ⟨tEnd, (flush0_20 _).mpr rfl, ?_⟩
    show i ∈ ((View.whole main_v64_8).slice (win0_20.rect tEnd)).set
    rw [View.set_slice_whole, Rect.mem_set_unit]
    intro a
    match a with
    | ⟨0, _⟩ =>
      show win0_20.index tEnd 0 * 8 ≤ (i 0).val ∧ (i 0).val < win0_20.index tEnd 0 * 8 + 8
      rw [h0]; omega
    | ⟨1, _⟩ =>
      show win0_20.index tEnd 1 * 3 ≤ (i 1).val ∧ (i 1).val < win0_20.index tEnd 1 * 3 + 3
      rw [h1]; omega
    | ⟨2, _⟩ =>
      show win0_20.index tEnd 2 * 704 ≤ (i 2).val ∧ (i 2).val < win0_20.index tEnd 2 * 704 + 704
      rw [h2]; omega

end Cert.Kernel.Own
-- ==== Proof.RefBwd.lean ====
/-
  The cotangents of the reference, read at an index, from its output back to the projection `f` and the hidden columns.
-/
module

public import proofs.«01_k».proof.Proof.RefFwd

@[expose] public section

noncomputable section

namespace Cert.Ref

open Cert.ReferenceIdeal Cert.ReferenceIdeal.Gen Cert.ReferenceIdeal.Read Cert.Spec
open Idealize.ShloMosaic Idealize.ShloMosaic.TcCoe

variable {I : Inp} {x0 x1 : T S8192x1024} {x2 : T S1x6144} {x3 x4 : T S1x1024} {x5 : T S1024x5632}
  {x6 : T S3x5632} {x7 : T S1x5632} {x8 : T S2816x1024}
variable (H : Reads I x0 x1 x2 x3 x4 x5 x6 x7 x8)
include H

theorem dr_eq (i : Fin 8192) (d : Fin 1024) : val_main_v82 (F := Ideal) x1 x2 (ix2 i d) = ((I.dr i d : ℝ) : EReal) := by
  unfold val_main_v82 val_main_v80
  rw [shapeCast_self]
  pointwise [val_main_v81, gf_eq H, H.dx, ← EReal.coe_mul]
  exact congrArg _ (mul_comm _ _)

theorem dfh_eq (i : Fin 8192) (d : Fin 1024) : val_main_v90 (F := Ideal) x1 x2 x4 (ix2 i d) = ((I.dfh i d : ℝ) : EReal) := by
  pointwise [val_main_v90, val_main_v89, dr_eq H, H.g4, ← EReal.coe_mul]
  rfl

/-- The derivative of `1/√v` at the mean square of `f`. -/
theorem slope4_eq (i : Fin 8192) (b : Fin 1) : val_main_v72 (F := Ideal) x0 x2 x3 x5 x6 x7 x8 (ix2 i b)
    = ((-(1 / 2) * I.r4 i ^ 3 : ℝ) : EReal) := by
  pointwise [val_main_v72, val_main_v71, val_main_cst_11, val_main_v70, r4_eq H, ms4_eq H, c_neg_half]
  rw [div_coe_coe _ _ (I.ms4_pos i).ne', ← EReal.coe_mul]
  exact congrArg (fun z : ℝ => ((-(1 / 2) * z : ℝ) : EReal)) (inv_sqrt_div _ (I.ms4_pos i))

theorem dot4_eq (i : Fin 8192) (b : Fin 1) : val_main_v93 (F := Ideal) x0 x1 x2 x3 x4 x5 x6 x7 x8 (ix2 i b)
    = ((∑ d, I.f i d * I.dfh i d : ℝ) : EReal) := by
  pointwise [val_main_v93, val_main_v92, val_main_cst_14, val_main_v91, f0_eq H, dfh_eq H, ← EReal.coe_mul, coe_sum]

theorem mean4_eq (i : Fin 8192) (d : Fin 1024) : val_main_v100 (F := Ideal) x0 x1 x2 x3 x4 x5 x6 x7 x8 (ix2 i d)
    = (((∑ e, I.f i e * I.dfh i e) * (-(1 / 2) * I.r4 i ^ 3) / 1024 : ℝ) : EReal) := by
  pointwise [val_main_v100, val_main_v99, val_main_cst_16, val_main_v98, val_main_v97, val_main_cst_15, val_main_v96,
    slope4_eq H, dot4_eq H, c_1024, ← EReal.coe_mul, div_coe_coe _ (1024 : ℝ) (by norm_num), Finset.univ_unique, Finset.sum_singleton]

theorem df_eq (i : Fin 8192) (d : Fin 1024) : val_main_v104 (F := Ideal) x0 x1 x2 x3 x4 x5 x6 x7 x8 (ix2 i d) = ((I.df i d : ℝ) : EReal) := by
  pointwise [val_main_v104, val_main_v103, val_main_v102, val_main_v101, val_main_v95, val_main_v94, f0_eq H, mean4_eq H, dfh_eq H,
    r4_eq H, ← EReal.coe_mul, ← EReal.coe_add]
  refine congrArg _ ((norm_grad _ _ _ _ 1024 rfl rfl _).trans ?_)
  unfold Inp.df Inp.fh
  rw [Finset.sum_mul]
  simp only [mul_comm, mul_left_comm, mul_assoc]

theorem dact_eq (i : Fin 8192) (k : Fin 2816) : val_main_v105 (F := Ideal) x0 x1 x2 x3 x4 x5 x6 x7 x8 (ix2 i k) = ((I.dact i k : ℝ) : EReal) := by
  pointwise [val_main_v105, dot_S8192x1024_S2816x1024_S8192x2816_1_1_0_0_n_n, df_eq H, H.Wd, ← EReal.coe_mul, coe_sum]
  rfl

theorem dyv_eq (i : Fin 8192) (k : Fin 2816) : val_main_v106 (F := Ideal) x0 x1 x2 x3 x4 x5 x6 x7 x8 (ix2 i k) = ((I.dyv i k : ℝ) : EReal) := by
  pointwise [val_main_v106, silu_eq H, dact_eq H, ← EReal.coe_mul]
  exact congrArg _ (mul_comm _ _)

theorem dyg_eq (i : Fin 8192) (k : Fin 2816) : val_main_v108 (F := Ideal) x0 x1 x2 x3 x4 x5 x6 x7 x8 (ix2 i k) = ((I.dyg i k : ℝ) : EReal) := by
  pointwise [val_main_v108, val_main_call1_v2, val_main_call1_v1, val_main_call1_v0, val_main_v107, gate_eq H, value_eq H, sg_eq H, dsg_eq H,
    dact_eq H, ← EReal.coe_mul, ← EReal.coe_add]
  refine congrArg _ ?_
  unfold Inp.dyg Inp.silu
  ring

theorem dy_eq (i : Fin 8192) (c : Fin 5632) : val_main_v111 (F := Ideal) x0 x1 x2 x3 x4 x5 x6 x7 x8 (ix2 i c) = ((I.dy i c : ℝ) : EReal) := by
  have hc := c.isLt
  pointwise [val_main_v111, val_main_v110, val_main_v109, val_main_cst_17, val_main_cst_18]
  unfold Inp.dy
  by_cases h : c.val < 2816
  · rw [dif_neg (by omega), dif_pos h, dif_pos h]
    pointwise [dyg_eq H]
  · rw [dif_pos (by omega), dif_neg h, dif_neg h]
    pointwise [dyv_eq H]

end Cert.Ref

end
-- ==== Proof.RefConv.lean ====
/-
  The reference's gradients of the convolution, the projection and the modulated rows, read at an index.
-/
module

public import proofs.«01_k».proof.Proof.RefBwd

@[expose] public section

noncomputable section

namespace Cert.Ref

open Cert.ReferenceIdeal Cert.ReferenceIdeal.Gen Cert.ReferenceIdeal.Read Cert.Spec
open Idealize.ShloMosaic Idealize.ShloMosaic.TcCoe

/-- Weighting by moved values is weighting the values by what moves the other way. -/
theorem sum_down (k : ℕ) (u v : Fin 8192 → ℝ) : ∑ i, down k u i * v i = ∑ i, up' k v i * u i := by
  have e1 : ∀ i, down k u i * v i = ∑ j : Fin 8192, if i.val = j.val + k then u j * v i else 0 := fun i => by
    unfold down
    by_cases h : k ≤ i.val
    · rw [dif_pos h, Finset.sum_eq_single (⟨i.val - k, by omega⟩ : Fin 8192)]
      · rw [if_pos (by show i.val = i.val - k + k; omega)]
      · intro j _ hj
        rw [if_neg]
        intro e
        exact hj (Fin.ext (by show j.val = i.val - k; omega))
      · intro hj; exact absurd (Finset.mem_univ _) hj
    · rw [dif_neg h, zero_mul, Finset.sum_eq_zero]
      intro j _
      rw [if_neg (by omega)]
  have e2 : ∀ j, up' k v j * u j = ∑ i : Fin 8192, if i.val = j.val + k then u j * v i else 0 := fun j => by
    unfold up'
    by_cases h : j.val + k < 8192
    · rw [dif_pos h, Finset.sum_eq_single (⟨j.val + k, h⟩ : Fin 8192)]
      · rw [if_pos rfl, mul_comm]
      · intro i _ hi
        rw [if_neg]
        intro e
        exact hi (Fin.ext e)
      · intro hj; exact absurd (Finset.mem_univ _) hj
    · rw [dif_neg h, zero_mul, Finset.sum_eq_zero]
      intro i _
      have := i.isLt
      rw [if_neg (by omega)]
  rw [Finset.sum_congr rfl fun i _ => e1 i, Finset.sum_congr rfl fun i _ => e2 i, Finset.sum_comm]

variable {I : Inp} {x0 x1 : T S8192x1024} {x2 : T S1x6144} {x3 x4 : T S1x1024} {x5 : T S1024x5632}
  {x6 : T S3x5632} {x7 : T S1x5632} {x8 : T S2816x1024}
variable (H : Reads I x0 x1 x2 x3 x4 x5 x6 x7 x8)
include H

theorem tap2_eq (i : Fin 8192) (c : Fin 5632) : val_main_v116 (F := Ideal) x0 x1 x2 x3 x4 x5 x6 x7 x8 (ix2 i c) = ((I.dy i c * I.cw 2 c : ℝ) : EReal) := by
  pointwise [val_main_v116, val_main_v115, dy_eq H, cw2_eq H, ← EReal.coe_mul]

theorem tap1_eq (i : Fin 8192) (c : Fin 5632) : val_main_v125 (F := Ideal) x0 x1 x2 x3 x4 x5 x6 x7 x8 (ix2 i c) = ((I.dy i c * I.cw 1 c : ℝ) : EReal) := by
  pointwise [val_main_v125, val_main_v124, dy_eq H, cw1_eq H, ← EReal.coe_mul]

theorem tap0_eq (i : Fin 8192) (c : Fin 5632) : val_main_v138 (F := Ideal) x0 x1 x2 x3 x4 x5 x6 x7 x8 (ix2 i c) = ((I.dy i c * I.cw 0 c : ℝ) : EReal) := by
  pointwise [val_main_v138, val_main_v137, dy_eq H, cw0_eq H, ← EReal.coe_mul]

/-- The gradient of the padded projection, two rows down. -/
theorem dpad_eq (i : Fin 8192) (c : Fin 5632) : val_main_v144 (F := Ideal) x0 x1 x2 x3 x4 x5 x6 x7 x8 (ix2 (⟨2 + i.val, by omega⟩ : Fin 8194) c)
    = ((I.dup i c : ℝ) : EReal) := by
  have hi := i.isLt
  pointwise [val_main_v144, val_main_v143, val_main_v131, val_main_v130, val_main_v120, val_main_cst_22, val_main_cst_26, val_main_cst_31]
  simp only [tap2_eq H, tap1_eq H, tap0_eq H]
  have a1 : (if h : 1 ≤ 2 + i.val ∧ 2 + i.val - 1 < 8192 then ((I.dy ⟨2 + i.val - 1, h.2⟩ c * I.cw 1 c : ℝ) : EReal) else 0)
      = ((I.dy1 i c * I.cw 1 c : ℝ) : EReal) := by
    unfold Inp.dy1 up'
    by_cases h : i.val + 1 < 8192
    · rw [dif_pos ⟨by omega, by omega⟩, dif_pos h]
      refine congrArg (fun n : Fin 8192 => ((I.dy n c * I.cw 1 c : ℝ) : EReal)) (Fin.ext ?_)
      show 2 + i.val - 1 = i.val + 1
      omega
    · rw [dif_neg (by omega), dif_neg h, zero_mul, EReal.coe_zero]
  have a2 : (if h : 2 + i.val < 8192 then ((I.dy ⟨2 + i.val, h⟩ c * I.cw 0 c : ℝ) : EReal) else 0)
      = ((I.dy2 i c * I.cw 0 c : ℝ) : EReal) := by
    unfold Inp.dy2 up'
    by_cases h : i.val + 2 < 8192
    · rw [dif_pos (by omega), dif_pos h]
      refine congrArg (fun n : Fin 8192 => ((I.dy n c * I.cw 0 c : ℝ) : EReal)) (Fin.ext ?_)
      show 2 + i.val = i.val + 2
      omega
    · rw [dif_neg (by omega), dif_neg h, zero_mul, EReal.coe_zero]
  rw [a1, a2, ← EReal.coe_add, ← EReal.coe_add]
  rfl

theorem dup_eq (i : Fin 8192) (c : Fin 5632) : val_main_v146 (F := Ideal) x0 x1 x2 x3 x4 x5 x6 x7 x8 (ix2 i c) = ((I.dup i c : ℝ) : EReal) := by
  pointwise [val_main_v146]
  exact dpad_eq H i c

theorem dh_eq (i : Fin 8192) (d : Fin 1024) : val_main_v147 (F := Ideal) x0 x1 x2 x3 x4 x5 x6 x7 x8 (ix2 i d) = ((I.dh i d : ℝ) : EReal) := by
  pointwise [val_main_v147, dot_S8192x5632_S1024x5632_S8192x1024_1_1_0_0_n_n, dup_eq H, H.W, ← EReal.coe_mul, coe_sum]
  rfl

theorem dn3_eq (i : Fin 8192) (d : Fin 1024) : val_main_v154 (F := Ideal) x0 x1 x2 x3 x4 x5 x6 x7 x8 (ix2 i d) = ((I.dn3 i d : ℝ) : EReal) := by
  pointwise [val_main_v154, val_main_v153, val_main_v24, val_main_v23, val_main_cst_5, sc_eq H, dh_eq H, c_one, ← EReal.coe_one, ← EReal.coe_add, ← EReal.coe_mul]
  rfl

theorem dxh_eq (i : Fin 8192) (d : Fin 1024) : val_main_v159 (F := Ideal) x0 x1 x2 x3 x4 x5 x6 x7 x8 (ix2 i d) = ((I.dxh i d : ℝ) : EReal) := by
  pointwise [val_main_v159, val_main_v158, dn3_eq H, H.g3, ← EReal.coe_mul]
  rfl

theorem slope3_eq (i : Fin 8192) (b : Fin 1) : val_main_v18 (F := Ideal) x0 (ix2 i b) = ((-(1 / 2) * I.r3 i ^ 3 : ℝ) : EReal) := by
  pointwise [val_main_v18, val_main_v17, val_main_cst_4, val_main_v16, r3_eq H, ms3_eq H, c_neg_half]
  rw [div_coe_coe _ _ (I.ms3_pos i).ne', ← EReal.coe_mul]
  exact congrArg (fun z : ℝ => ((-(1 / 2) * z : ℝ) : EReal)) (inv_sqrt_div _ (I.ms3_pos i))

theorem dot3_eq (i : Fin 8192) (b : Fin 1) : val_main_v162 (F := Ideal) x0 x1 x2 x3 x4 x5 x6 x7 x8 (ix2 i b)
    = ((∑ d, I.x i d * I.dxh i d : ℝ) : EReal) := by
  pointwise [val_main_v162, val_main_v161, val_main_cst_35, val_main_v160, H.x, dxh_eq H, ← EReal.coe_mul, coe_sum]

theorem mean3_eq (i : Fin 8192) (d : Fin 1024) : val_main_v170 (F := Ideal) x0 x1 x2 x3 x4 x5 x6 x7 x8 (ix2 i d)
    = (((∑ e, I.x i e * I.dxh i e) * (-(1 / 2) * I.r3 i ^ 3) / 1024 : ℝ) : EReal) := by
  pointwise [val_main_v170, val_main_v169, val_main_cst_37, val_main_v168, val_main_v167, val_main_cst_36, val_main_v166,
    slope3_eq H, dot3_eq H, c_1024, ← EReal.coe_mul, div_coe_coe _ (1024 : ℝ) (by norm_num), Finset.univ_unique, Finset.sum_singleton]

theorem dx1_eq (i : Fin 8192) (d : Fin 1024) : val_main_v174 (F := Ideal) x0 x1 x2 x3 x4 x5 x6 x7 x8 (ix2 i d) = ((I.dx1 i d : ℝ) : EReal) := by
  pointwise [val_main_v174, val_main_v173, val_main_v172, val_main_v171, val_main_v165, val_main_v164, val_main_v163, H.x, H.dx, mean3_eq H, dxh_eq H,
    r3_eq H, ← EReal.coe_mul, ← EReal.coe_add]
  refine congrArg _ (Eq.trans (b := I.dx i d + (I.dxh i d * I.r3 i + I.x i d * _ + _ * I.x i d)) (by rw [add_assoc, add_assoc, add_assoc]) ?_)
  unfold Inp.dx1
  refine congrArg _ ((norm_grad _ _ _ _ 1024 rfl rfl _).trans ?_)
  unfold Inp.xh
  rw [Finset.sum_mul]
  simp only [mul_comm, mul_left_comm, mul_assoc]

end Cert.Ref

end
-- ==== Proof.RefOut.lean ====
/-
  The reference's nine results, read at an index: the arrays of Arrays.lean and Sums.lean.
-/
module

public import proofs.«01_k».proof.Proof.RefConv

@[expose] public section

noncomputable section

namespace Cert.Ref

open Cert.ReferenceIdeal Cert.ReferenceIdeal.Gen Cert.ReferenceIdeal.Read Cert.Spec
open Idealize.ShloMosaic Idealize.ShloMosaic.TcCoe

theorem cat3_0 (f0 f1 f2 : S1x1024.Idx → EReal) (h : Shape.Concatenates [S1x1024, S1x1024, S1x1024] S3x1024 0) (d : Fin 1024) :
    concatenate S3x1024 0 [⟨S1x1024, f0⟩, ⟨S1x1024, f1⟩, ⟨S1x1024, f2⟩] h (ix2 (n0 := 3) 0 d) = f0 (ix2 0 d) :=
  concatenate_apply_piece 0 [⟨S1x1024, f0⟩, ⟨S1x1024, f1⟩, ⟨S1x1024, f2⟩] h (ix2 (n0 := 3) 0 d) 0 (by simp) S1x1024 f0 rfl rfl 0 rfl (ix2 0 d)
    (fun b hb => match b, hb with
      | ⟨0, _⟩, hb => absurd rfl hb
      | ⟨1, _⟩, _ => rfl) rfl

theorem cat3_1 (f0 f1 f2 : S1x1024.Idx → EReal) (h : Shape.Concatenates [S1x1024, S1x1024, S1x1024] S3x1024 0) (d : Fin 1024) :
    concatenate S3x1024 0 [⟨S1x1024, f0⟩, ⟨S1x1024, f1⟩, ⟨S1x1024, f2⟩] h (ix2 (n0 := 3) 1 d) = f1 (ix2 0 d) :=
  concatenate_apply_piece 0 [⟨S1x1024, f0⟩, ⟨S1x1024, f1⟩, ⟨S1x1024, f2⟩] h (ix2 (n0 := 3) 1 d) 1 (by simp) S1x1024 f1 rfl rfl 1 rfl (ix2 0 d)
    (fun b hb => match b, hb with
      | ⟨0, _⟩, hb => absurd rfl hb
      | ⟨1, _⟩, _ => rfl) rfl

theorem cat3_2 (f0 f1 f2 : S1x1024.Idx → EReal) (h : Shape.Concatenates [S1x1024, S1x1024, S1x1024] S3x1024 0) (d : Fin 1024) :
    concatenate S3x1024 0 [⟨S1x1024, f0⟩, ⟨S1x1024, f1⟩, ⟨S1x1024, f2⟩] h (ix2 (n0 := 3) 2 d) = f2 (ix2 0 d) :=
  concatenate_apply_piece 0 [⟨S1x1024, f0⟩, ⟨S1x1024, f1⟩, ⟨S1x1024, f2⟩] h (ix2 (n0 := 3) 2 d) 2 (by simp) S1x1024 f2 rfl rfl 2 rfl (ix2 0 d)
    (fun b hb => match b, hb with
      | ⟨0, _⟩, hb => absurd rfl hb
      | ⟨1, _⟩, _ => rfl) rfl

variable {I : Inp} {x0 x1 : T S8192x1024} {x2 : T S1x6144} {x3 x4 : T S1x1024} {x5 : T S1024x5632}
  {x6 : T S3x5632} {x7 : T S1x5632} {x8 : T S2816x1024}
variable (H : Reads I x0 x1 x2 x3 x4 x5 x6 x7 x8)
include H

theorem dg4_eq (z : Fin 1) (d : Fin 1024) : val_main_v88 (F := Ideal) x0 x1 x2 x3 x5 x6 x7 x8 (ix2 z d) = ((∑ n, I.tg4 n d : ℝ) : EReal) := by
  pointwise [val_main_v88, val_main_v87, val_main_cst_13, val_main_v86, fh_eq H, dr_eq H, ← EReal.coe_mul, coe_sum]
  exact congrArg _ (Finset.sum_congr rfl fun n _ => mul_comm _ _)

theorem dg3_eq (z : Fin 1) (d : Fin 1024) : val_main_v157 (F := Ideal) x0 x1 x2 x3 x4 x5 x6 x7 x8 (ix2 z d) = ((∑ n, I.tg3 n d : ℝ) : EReal) := by
  pointwise [val_main_v157, val_main_v156, val_main_cst_34, val_main_v155, xh_eq H, dn3_eq H, ← EReal.coe_mul, coe_sum]
  exact congrArg _ (Finset.sum_congr rfl fun n _ => mul_comm _ _)

theorem dsh_eq (z : Fin 1) (d : Fin 1024) : val_main_v149 (F := Ideal) x0 x1 x2 x3 x4 x5 x6 x7 x8 (ix2 z d) = ((∑ n, I.tsh n d : ℝ) : EReal) := by
  pointwise [val_main_v149, val_main_v148, val_main_cst_32, dh_eq H, coe_sum]
  rfl

theorem dsc_eq (z : Fin 1) (d : Fin 1024) : val_main_v152 (F := Ideal) x0 x1 x2 x3 x4 x5 x6 x7 x8 (ix2 z d) = ((∑ n, I.tsc n d : ℝ) : EReal) := by
  pointwise [val_main_v152, val_main_v151, val_main_cst_33, val_main_v150, n3_eq H, dh_eq H, ← EReal.coe_mul, coe_sum]
  exact congrArg _ (Finset.sum_congr rfl fun n _ => mul_comm _ _)

theorem dgf_eq (z : Fin 1) (d : Fin 1024) : val_main_v85 (F := Ideal) x0 x1 x2 x3 x4 x5 x6 x7 x8 (ix2 z d) = ((∑ n, I.tg n d : ℝ) : EReal) := by
  have e : ∀ n, val_main_v80 (F := Ideal) x1 (ix2 n d) = ((I.dx n d : ℝ) : EReal) := fun n => by
    unfold val_main_v80
    rw [shapeCast_self]
    exact H.dx n d
  pointwise [val_main_v85, val_main_v84, val_main_cst_12, val_main_v83, val_main_v76, val_main_v75, e, fh_eq H, H.g4, ← EReal.coe_mul, coe_sum]
  rfl

theorem dmod_eq (a : Fin 3) (d : Fin 1024) : val_main_v180 (F := Ideal) x0 x1 x2 x3 x4 x5 x6 x7 x8 (ix2 a d) = ((∑ n, I.tmod a n d : ℝ) : EReal) := by
  unfold val_main_v180
  match a with
  | 0 => exact (cat3_0 _ _ _ _ d).trans ((dsh_eq H 0 d).trans (congrArg (fun r : ℝ => (r : EReal)) (Finset.sum_congr rfl fun n _ => (show I.tsh n d = I.tmod 0 n d by simp [Inp.tmod]))))
  | 1 => exact (cat3_1 _ _ _ _ d).trans ((dsc_eq H 0 d).trans (congrArg (fun r : ℝ => (r : EReal)) (Finset.sum_congr rfl fun n _ => (show I.tsc n d = I.tmod 1 n d by simp [Inp.tmod]))))
  | 2 => exact (cat3_2 _ _ _ _ d).trans ((dgf_eq H 0 d).trans (congrArg (fun r : ℝ => (r : EReal)) (Finset.sum_congr rfl fun n _ => (show I.tg n d = I.tmod 2 n d by simp [Inp.tmod]))))

theorem dcb_eq (k : Fin 8) (c : Fin 704) : val_main_v181 (F := Ideal) x0 x1 x2 x3 x4 x5 x6 x7 x8 (ix2 k c)
    = ((∑ n, I.dy n ⟨k.val * 704 + c.val, by omega⟩ : ℝ) : EReal) := by
  pointwise [val_main_v181, val_main_v133, val_main_v132, val_main_cst_27, dy_eq H, coe_sum]

theorem row2_eq (z : Fin 1) (c : Fin 5632) : val_main_v118 (F := Ideal) x0 x1 x2 x3 x4 x5 x6 x7 x8 (ix2 z c) = ((∑ n, I.tcw 2 n c : ℝ) : EReal) := by
  pointwise [val_main_v118, val_main_v117, val_main_cst_20, val_main_v114, val_main_v113, val_main_cst_19, val_main_v112, down0_eq H, dy_eq H,
    ← EReal.coe_mul, coe_sum, Finset.univ_unique, Finset.sum_singleton]
  exact congrArg _ (Finset.sum_congr rfl fun n _ => mul_comm _ _)

theorem row1_eq (z : Fin 1) (c : Fin 5632) : val_main_v127 (F := Ideal) x0 x1 x2 x3 x4 x5 x6 x7 x8 (ix2 z c) = ((∑ n, I.tcw 1 n c : ℝ) : EReal) := by
  pointwise [val_main_v127, val_main_v126, val_main_cst_24, val_main_v123, val_main_v122, val_main_cst_23, val_main_v121, down1_eq H, dy_eq H,
    ← EReal.coe_mul, coe_sum, Finset.univ_unique, Finset.sum_singleton]
  exact congrArg _ (sum_down 1 (fun i => I.up i c) (fun i => I.dy i c))

theorem row0_eq (z : Fin 1) (c : Fin 5632) : val_main_v140 (F := Ideal) x0 x1 x2 x3 x4 x5 x6 x7 x8 (ix2 z c) = ((∑ n, I.tcw 0 n c : ℝ) : EReal) := by
  pointwise [val_main_v140, val_main_v139, val_main_cst_29, val_main_v136, val_main_v135, val_main_cst_28, val_main_v134, down2_eq H, dy_eq H,
    ← EReal.coe_mul, coe_sum, Finset.univ_unique, Finset.sum_singleton]
  exact congrArg _ (sum_down 2 (fun i => I.up i c) (fun i => I.dy i c))

theorem taps_eq (a : Fin 3) (c : Fin 5632) : val_main_v142 (F := Ideal) x0 x1 x2 x3 x4 x5 x6 x7 x8 (ix2 a c) = ((∑ n, I.tcw a n c : ℝ) : EReal) := by
  match a with
  | 0 => pointwise [val_main_v142, val_main_v141, val_main_v129, val_main_v128, val_main_v119, val_main_cst_21, val_main_cst_25, val_main_cst_30,
      row0_eq H, row1_eq H, row2_eq H]
  | 1 => pointwise [val_main_v142, val_main_v141, val_main_v129, val_main_v128, val_main_v119, val_main_cst_21, val_main_cst_25, val_main_cst_30,
      row0_eq H, row1_eq H, row2_eq H]
  | 2 => pointwise [val_main_v142, val_main_v141, val_main_v129, val_main_v128, val_main_v119, val_main_cst_21, val_main_cst_25, val_main_cst_30,
      row0_eq H, row1_eq H, row2_eq H]

theorem dcw_eq (k : Fin 8) (a : Fin 3) (c : Fin 704) : val_main_v183 (F := Ideal) x0 x1 x2 x3 x4 x5 x6 x7 x8 (ix3 k a c)
    = ((∑ n, I.tcw a n ⟨k.val * 704 + c.val, by omega⟩ : ℝ) : EReal) := by
  pointwise [val_main_v183, val_main_v182, taps_eq H]

theorem dupC_eq (k : Fin 8) (i : Fin 8192) (c : Fin 704) : val_main_v177 (F := Ideal) x0 x1 x2 x3 x4 x5 x6 x7 x8 (ix3 k i c)
    = ((I.dup i ⟨k.val * 704 + c.val, by omega⟩ : ℝ) : EReal) := by
  pointwise [val_main_v177, val_main_v176, val_main_v175, dup_eq H]

theorem dfC_eq (i : Fin 8192) (d : Fin 1024) : val_main_v178 (F := Ideal) x0 x1 x2 x3 x4 x5 x6 x7 x8 (ix2 i d) = ((I.df i d : ℝ) : EReal) := by
  pointwise [val_main_v178, df_eq H]

theorem hC_eq (i : Fin 8192) (d : Fin 1024) : val_main_v179 (F := Ideal) x0 x2 x3 (ix2 i d) = ((I.h i d : ℝ) : EReal) := by
  pointwise [val_main_v179, h_eq H]

end Cert.Ref

end
-- ==== Proof.Results.lean ====
/-
  What the nine result arrays of the kernel hold, in one statement, and the reference's nine results, each the same array.
-/
module

public import proofs.«01_k».proof.Proof.Sums
public import proofs.«01_k».proof.Proof.RefOut

@[expose] public section

noncomputable section

namespace Cert.Kernel.Own

open Cert.Kernel Cert.Kernel.Gen Cert.Spec
open Idealize.ShloMosaic Idealize.ShloMosaic.TcCoe Idealize.SL.Sem

/-- The results' arrays at a device. -/
def Results (I : Inp) (c : Dev nD) (r : PUnit × MemSt nD τ sig (Elt Ideal)) : Prop :=
  r.2.mem ((c.tc : Thread nD τ).loc main_v64_0) = oRows I.dx1
    ∧ r.2.mem ((c.tc : Thread nD τ).loc main_v64_1) = oDup I
    ∧ r.2.mem ((c.tc : Thread nD τ).loc main_v64_2) = oRows I.df
    ∧ r.2.mem ((c.tc : Thread nD τ).loc main_v64_3) = oRows I.h
    ∧ r.2.mem ((c.tc : Thread nD τ).loc main_v64_4) = oDmod I
    ∧ r.2.mem ((c.tc : Thread nD τ).loc main_v64_5) = oDg I.tg3
    ∧ r.2.mem ((c.tc : Thread nD τ).loc main_v64_6) = oDg I.tg4
    ∧ r.2.mem ((c.tc : Thread nD τ).loc main_v64_7) = oDcb I
    ∧ r.2.mem ((c.tc : Thread nD τ).loc main_v64_8) = oDcw I

section

variable {m : (ℓ : Loc nD τ sig) → Buf (Elt Ideal) ℓ} {r : PUnit × MemSt nD τ sig (Elt Ideal)}
  (h : Pipeline.FramePost cfgs (dats m) 0 (V m) r) {c : Dev nD} {I : Inp} (A : Args m c I)
include h A

theorem end0 : r.2.mem ((c.tc : Thread nD τ).loc main_v64_0) = oRows I.dx1 :=
  Eq.trans (b := (dats m 0 c).arrAt 12 cfg0.N) ((h c).1 12) (final12 A)

theorem end1 : r.2.mem ((c.tc : Thread nD τ).loc main_v64_1) = oDup I :=
  Eq.trans (b := (dats m 0 c).arrAt 13 cfg0.N) ((h c).1 13) (final13 A)

theorem end2 : r.2.mem ((c.tc : Thread nD τ).loc main_v64_2) = oRows I.df :=
  Eq.trans (b := (dats m 0 c).arrAt 14 cfg0.N) ((h c).1 14) (final14 A)

theorem end3 : r.2.mem ((c.tc : Thread nD τ).loc main_v64_3) = oRows I.h :=
  Eq.trans (b := (dats m 0 c).arrAt 15 cfg0.N) ((h c).1 15) (final15 A)

theorem end4 : r.2.mem ((c.tc : Thread nD τ).loc main_v64_4) = oDmod I :=
  Eq.trans (b := (dats m 0 c).arrAt 16 cfg0.N) ((h c).1 16) (final16 A)

theorem end5 : r.2.mem ((c.tc : Thread nD τ).loc main_v64_5) = oDg I.tg3 :=
  Eq.trans (b := (dats m 0 c).arrAt 17 cfg0.N) ((h c).1 17) (final17 A)

theorem end6 : r.2.mem ((c.tc : Thread nD τ).loc main_v64_6) = oDg I.tg4 :=
  Eq.trans (b := (dats m 0 c).arrAt 18 cfg0.N) ((h c).1 18) (final18 A)

theorem end7 : r.2.mem ((c.tc : Thread nD τ).loc main_v64_7) = oDcb I :=
  Eq.trans (b := (dats m 0 c).arrAt 19 cfg0.N) ((h c).1 19) (final19 A)

theorem end8 : r.2.mem ((c.tc : Thread nD τ).loc main_v64_8) = oDcw I :=
  Eq.trans (b := (dats m 0 c).arrAt 20 cfg0.N) ((h c).1 20) (final20 A)

theorem results_of : Results I c r :=
  ⟨end0 h A, end1 h A, end2 h A, end3 h A, end4 h A, end5 h A, end6 h A, end7 h A, end8 h A⟩

end

theorem ends (m : (ℓ : Loc nD τ sig) → Buf (Elt Ideal) ℓ) (ρ : Dev nD → PrngReg) (I : Dev nD → Inp) (A : ∀ c, Args m c (I c)) :
    θ_run defs (onTc (τ := τ) (main (F := Ideal))) ⟨m, fun _ => 0, ρ⟩ (fun r => ∀ c, Results (I c) c r) :=
  (θ_run defs _ _).mono (fun _ h c => results_of h.1 (A c)) (run m ρ)

/-- The results and the arguments together. -/
theorem ends_kept (m : (ℓ : Loc nD τ sig) → Buf (Elt Ideal) ℓ) (ρ : Dev nD → PrngReg) (I : Dev nD → Inp) (A : ∀ c, Args m c (I c)) :
    θ_run defs (onTc (τ := τ) (main (F := Ideal))) ⟨m, fun _ => 0, ρ⟩ (fun r => ∀ c : Dev nD,
      r.2.mem ((c.tc : Thread nD τ).loc main_v64_0) = oRows (I c).dx1
      ∧ r.2.mem ((c.tc : Thread nD τ).loc main_v64_1) = oDup (I c)
      ∧ r.2.mem ((c.tc : Thread nD τ).loc main_v64_2) = oRows (I c).df
      ∧ r.2.mem ((c.tc : Thread nD τ).loc main_v64_3) = oRows (I c).h
      ∧ r.2.mem ((c.tc : Thread nD τ).loc main_v64_4) = oDmod (I c)
      ∧ r.2.mem ((c.tc : Thread nD τ).loc main_v64_5) = oDg (I c).tg3
      ∧ r.2.mem ((c.tc : Thread nD τ).loc main_v64_6) = oDg (I c).tg4
      ∧ r.2.mem ((c.tc : Thread nD τ).loc main_v64_7) = oDcb (I c)
      ∧ r.2.mem ((c.tc : Thread nD τ).loc main_v64_8) = oDcw (I c)
      ∧ Kept m c r) := by
  refine (θ_run defs _ _).mono (fun r h c => ?_) (θ_run_and (ends m ρ I A) (frame m ρ))
  obtain ⟨h0, h1, h2, h3, h4, h5, h6, h7, h8⟩ := h.1 c
  exact ⟨h0, h1, h2, h3, h4, h5, h6, h7, h8, h.2.1 c⟩

end Cert.Kernel.Own

namespace Cert.Ref

open Cert.ReferenceIdeal Cert.ReferenceIdeal.Gen Cert.ReferenceIdeal.Read Cert.Spec Cert.Kernel.Own
open Idealize.ShloMosaic Idealize.ShloMosaic.TcCoe

variable {I : Inp} {x0 x1 : T S8192x1024} {x2 : T S1x6144} {x3 x4 : T S1x1024} {x5 : T S1024x5632}
  {x6 : T S3x5632} {x7 : T S1x5632} {x8 : T S2816x1024}
variable (H : Reads I x0 x1 x2 x3 x4 x5 x6 x7 x8)
include H

theorem out0 : val_main_v174 (F := Ideal) x0 x1 x2 x3 x4 x5 x6 x7 x8 = oRows I.dx1 :=
  funext fun j => of_ix2 _ (fun i d => ((I.dx1 i d : ℝ) : EReal)) (dx1_eq H) j

theorem out1 : val_main_v177 (F := Ideal) x0 x1 x2 x3 x4 x5 x6 x7 x8 = oDup I :=
  funext fun j => of_ix3 _ (fun k i b => ((I.dup i (col k b) : ℝ) : EReal)) (dupC_eq H) j

theorem out2 : val_main_v178 (F := Ideal) x0 x1 x2 x3 x4 x5 x6 x7 x8 = oRows I.df :=
  funext fun j => of_ix2 _ (fun i d => ((I.df i d : ℝ) : EReal)) (dfC_eq H) j

theorem out3 : val_main_v179 (F := Ideal) x0 x2 x3 = oRows I.h :=
  funext fun j => of_ix2 _ (fun i d => ((I.h i d : ℝ) : EReal)) (hC_eq H) j

theorem out4 : val_main_v180 (F := Ideal) x0 x1 x2 x3 x4 x5 x6 x7 x8 = oDmod I :=
  funext fun j => of_ix2 _ (fun a d => ((∑ n, I.tmod a n d : ℝ) : EReal)) (dmod_eq H) j

theorem out5 : val_main_v157 (F := Ideal) x0 x1 x2 x3 x4 x5 x6 x7 x8 = oDg I.tg3 :=
  funext fun j => of_ix2 _ (fun _ d => ((∑ n, I.tg3 n d : ℝ) : EReal)) (dg3_eq H) j

theorem out6 : val_main_v88 (F := Ideal) x0 x1 x2 x3 x5 x6 x7 x8 = oDg I.tg4 :=
  funext fun j => of_ix2 _ (fun _ d => ((∑ n, I.tg4 n d : ℝ) : EReal)) (dg4_eq H) j

theorem out7 : val_main_v181 (F := Ideal) x0 x1 x2 x3 x4 x5 x6 x7 x8 = oDcb I :=
  funext fun j => of_ix2 _ (fun k b => ((∑ n, I.dy n (col k b) : ℝ) : EReal)) (dcb_eq H) j

theorem out8 : val_main_v183 (F := Ideal) x0 x1 x2 x3 x4 x5 x6 x7 x8 = oDcw I :=
  funext fun j => of_ix3 _ (fun k a b => ((∑ n, I.tcw a n (col k b) : ℝ) : EReal)) (dcw_eq H) j

end Cert.Ref

end
-- ==== Proof.RefRun.lean ====
/-
  The reference's run, its results named: on every device each ends at the array of the kernel's result.
-/
module

public import proofs.«01_k».proof.Proof.Results
public import proofs.«01_k».proof.Proof.Gen.ReferenceIdeal.Run

@[expose] public section

noncomputable section

namespace Cert.Ref

open Cert.ReferenceIdeal Cert.ReferenceIdeal.Gen Cert.ReferenceIdeal.Read Cert.Spec Cert.Kernel.Own
open Idealize.ShloMosaic Idealize.ShloMosaic.TcCoe Idealize.ShloMosaic.StableHlo Idealize.SL.Sem

theorem ends (m : (ℓ : Loc nD τ sig) → Buf (Elt Ideal) ℓ) (ρ : Dev nD → PrngReg) (I : Dev nD → Inp)
    (R : ∀ c, Reads (I c) ((launchContents m c) (Proc.devRef .tc main_arg0)) ((launchContents m c) (Proc.devRef .tc main_arg1)) ((launchContents m c) (Proc.devRef .tc main_arg2)) ((launchContents m c) (Proc.devRef .tc main_arg3)) ((launchContents m c) (Proc.devRef .tc main_arg4)) ((launchContents m c) (Proc.devRef .tc main_arg5)) ((launchContents m c) (Proc.devRef .tc main_arg6)) ((launchContents m c) (Proc.devRef .tc main_arg7)) ((launchContents m c) (Proc.devRef .tc main_arg8))) :
    θ_run defs (onTc (τ := τ) (main (F := Ideal))) ⟨m, fun _ => 0, ρ⟩ (fun r => ∀ c : Dev nD,
      r.2.mem ((c.tc : Thread nD τ).loc main_v174) = oRows (I c).dx1
      ∧ r.2.mem ((c.tc : Thread nD τ).loc main_v177) = oDup (I c)
      ∧ r.2.mem ((c.tc : Thread nD τ).loc main_v178) = oRows (I c).df
      ∧ r.2.mem ((c.tc : Thread nD τ).loc main_v179) = oRows (I c).h
      ∧ r.2.mem ((c.tc : Thread nD τ).loc main_v180) = oDmod (I c)
      ∧ r.2.mem ((c.tc : Thread nD τ).loc main_v157) = oDg (I c).tg3
      ∧ r.2.mem ((c.tc : Thread nD τ).loc main_v88) = oDg (I c).tg4
      ∧ r.2.mem ((c.tc : Thread nD τ).loc main_v181) = oDcb (I c)
      ∧ r.2.mem ((c.tc : Thread nD τ).loc main_v183) = oDcw (I c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (Cert.ReferenceIdeal.Value.run (F := Ideal) m ρ)
  obtain ⟨h0, h1, h2, h3, h4, h5, h6, h7, h8, hk⟩ := h c
  refine ⟨?_, ?_, ?_, ?_, ?_, ?_, ?_, ?_, ?_, hk⟩
  · exact h0.trans ((val_main_v174_eq (launchContents m c)).trans (out0 (R c)))
  · exact h1.trans ((val_main_v177_eq (launchContents m c)).trans (out1 (R c)))
  · exact h2.trans ((val_main_v178_eq (launchContents m c)).trans (out2 (R c)))
  · exact h3.trans ((val_main_v179_eq (launchContents m c)).trans (out3 (R c)))
  · exact h4.trans ((val_main_v180_eq (launchContents m c)).trans (out4 (R c)))
  · exact h5.trans ((val_main_v157_eq (launchContents m c)).trans (out5 (R c)))
  · exact h6.trans ((val_main_v88_eq (launchContents m c)).trans (out6 (R c)))
  · exact h7.trans ((val_main_v181_eq (launchContents m c)).trans (out7 (R c)))
  · exact h8.trans ((val_main_v183_eq (launchContents m c)).trans (out8 (R c)))

end Cert.Ref

end
-- ==== Proof.lean ====
/-
  The proof of `Cert.Claim` (proofs.«01_k».proof.Defs): the kernel's frame, from one run at any float values
  (Proof/Run.lean), read at both instances; the reference's frame, from its generated run; and the equation of the
  nine results: what the kernel's arrays hold (Proof/Results.lean `ends`) is what the reference's operations compute
  (`out0` … `out8`). The mixing half's frames and its equation are in Proof/MixFrame.lean and Proof/MixValue.lean;
  the two forward calls' frames in Proof/FwdFrame.lean and their equations in Proof/FfnValue.lean and Proof/MixFwdValue.lean,
  the up-projection's weight gradient in Proof/WupValue.lean, the modulation in Proof/AdaValue.lean.
-/
module

public import proofs.«01_k».proof.Proof.MixFrame
public import proofs.«01_k».proof.Proof.MixValue
public import proofs.«01_k».proof.Defs
public import proofs.«01_k».proof.Proof.FwdFrame
public import proofs.«01_k».proof.Proof.FfnValue
public import proofs.«01_k».proof.Proof.MixFwdValue
public import proofs.«01_k».proof.Proof.WupValue
public import proofs.«01_k».proof.Proof.AdaValue
public import proofs.«01_k».proof.Proof.Gen.AdaIdeal.Value
public import proofs.«01_k».proof.Proof.Gen.Ada
public import proofs.«01_k».proof.Proof.Gen.AdaReferenceIdeal.Read
public import proofs.«01_k».proof.Proof.Gen.AdaReferenceIdeal.Run
public import proofs.«01_k».proof.Proof.Gen.WupIdeal.Value
public import proofs.«01_k».proof.Proof.Gen.Wup
public import proofs.«01_k».proof.Proof.Gen.WupReferenceIdeal.Read
public import proofs.«01_k».proof.Proof.Gen.WupReferenceIdeal.Run
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Finite
public import proofs.«01_k».proof.Proof.Transport
public import proofs.«01_k».proof.Proof.RefRun
public import Idealize.ShloMosaic.Lib.Tactic
public import Idealize.ShloMosaic.Adequacy
public import Idealize.ShloMosaic.Init

@[expose] public section

noncomputable section

namespace Cert.Proof

open Idealize.ShloMosaic Idealize.ShloMosaic.TcCoe Idealize.SL.Sem Cert.Pair Cert.Kernel.Gen

theorem frame_p : Cert.quiescent_Kernel := fun m ρ _ => Cert.Kernel.Own.frame m ρ

theorem frame_pi : Cert.quiescent_KernelIdeal := fun m ρ _ => (run_eq m ρ _).mpr (Cert.Kernel.Own.frame m ρ)

theorem frame_pi_pre : Cert.quiescent_KernelIdeal_pre_all_finite := fun m ρ _ => frame_pi m ρ trivial

theorem frame_ri : Cert.quiescent_ReferenceIdeal := fun m ρ _ =>
  (θ_run Cert.ReferenceIdeal.defs _ _).mono (fun r h => ⟨fun c => (h c).2.2.2.2.2.2.2.2.2, sem_eq_zero_of_no_sems (by decide) r.2⟩)
    (Cert.ReferenceIdeal.Value.run (F := Ideal) m ρ)

theorem frame_ri_pre : Cert.quiescent_ReferenceIdeal_pre_all_finite := fun m ρ _ => frame_ri m ρ trivial

section

variable (m : (ℓ : Loc Cert.Kernel.nD Cert.Kernel.τ Cert.Kernel.sig) → Buf (Elt Ideal) ℓ)

/-- The arguments of a device, as real numbers. -/
def inpAt (c : Dev Cert.Kernel.nD) : Cert.Spec.Inp :=
  inp (m ((c.tc : Thread Cert.Kernel.nD Cert.Kernel.τ).loc Cert.Kernel.main_arg0)) (m ((c.tc : Thread Cert.Kernel.nD Cert.Kernel.τ).loc Cert.Kernel.main_arg1))
    (m ((c.tc : Thread Cert.Kernel.nD Cert.Kernel.τ).loc Cert.Kernel.main_arg2)) (m ((c.tc : Thread Cert.Kernel.nD Cert.Kernel.τ).loc Cert.Kernel.main_arg3))
    (m ((c.tc : Thread Cert.Kernel.nD Cert.Kernel.τ).loc Cert.Kernel.main_arg4)) (m ((c.tc : Thread Cert.Kernel.nD Cert.Kernel.τ).loc Cert.Kernel.main_arg5))
    (m ((c.tc : Thread Cert.Kernel.nD Cert.Kernel.τ).loc Cert.Kernel.main_arg6)) (m ((c.tc : Thread Cert.Kernel.nD Cert.Kernel.τ).loc Cert.Kernel.main_arg7))
    (m ((c.tc : Thread Cert.Kernel.nD Cert.Kernel.τ).loc Cert.Kernel.main_arg8))

theorem args (h : Cert.Pre_KernelIdeal_all_finite m) (c : Dev Cert.Kernel.nD) : Cert.Kernel.Own.Args m c (inpAt m c) := by
  have R := reads _ _ _ _ _ _ _ _ _ (h c)
  exact ⟨fun i d => (congrFun (V_main_arg0 m c) _).trans (R.x i d), fun i d => (congrFun (V_main_arg1 m c) _).trans (R.dx i d),
    fun d => (congrFun (V_main_arg2 m c) _).trans (R.md d), fun d => (congrFun (V_main_arg3 m c) _).trans (R.g3 d),
    fun d => (congrFun (V_main_arg4 m c) _).trans (R.g4 d), fun i d => (congrFun (V_main_arg5 m c) _).trans (R.W i d),
    fun i d => (congrFun (V_main_arg6 m c) _).trans (R.cw i d), fun d => (congrFun (V_main_arg7 m c) _).trans (R.cb d),
    fun i d => (congrFun (V_main_arg8 m c) _).trans (R.Wd i d)⟩

end

theorem algebraic : Cert.algebraic_KernelIdeal_ReferenceIdeal_pre_all_finite := by
  intro m g m' g' hp hag
  have A := args m hp
  refine ⟨fun c => Cert.Kernel.Own.oRows (inpAt m c).dx1, fun c => Cert.Kernel.Own.oDup (inpAt m c), fun c => Cert.Kernel.Own.oRows (inpAt m c).df,
    fun c => Cert.Kernel.Own.oRows (inpAt m c).h, fun c => Cert.Kernel.Own.oDmod (inpAt m c), fun c => Cert.Kernel.Own.oDg (inpAt m c).tg3,
    fun c => Cert.Kernel.Own.oDg (inpAt m c).tg4, fun c => Cert.Kernel.Own.oDcb (inpAt m c), fun c => Cert.Kernel.Own.oDcw (inpAt m c), ?_, ?_⟩
  · refine Eq.mp ?_ (Cert.Kernel.Own.ends_kept m g (inpAt m) A)
    sl_kernel_rfl
  · refine Cert.Ref.ends m' g' (inpAt m) fun c => ?_
    obtain ⟨a0, a1, a2, a3, a4, a5, a6, a7, a8⟩ := hag c
    exact reads_of_eq (reads _ _ _ _ _ _ _ _ _ (hp c)) a0 a1 a2 a3 a4 a5 a6 a7 a8

theorem claim : Cert.Claim := ⟨Cert.Kernel.Gen.facts, Cert.KernelIdeal.Gen.facts, Cert.ReferenceIdeal.Gen.facts,
  Cert.Mix.Gen.facts, Cert.MixIdeal.Gen.facts, Cert.MixReferenceIdeal.Gen.facts,
  Cert.Ffn.Gen.facts, Cert.FfnIdeal.Gen.facts, Cert.FfnReferenceIdeal.Gen.facts,
  Cert.MixFwd.Gen.facts, Cert.MixFwdIdeal.Gen.facts, Cert.MixFwdReferenceIdeal.Gen.facts,
  Cert.Wup.Gen.facts, Cert.WupIdeal.Gen.facts, Cert.WupReferenceIdeal.Gen.facts,
  Cert.Ada.Gen.facts, Cert.AdaIdeal.Gen.facts, Cert.AdaReferenceIdeal.Gen.facts, Cert.Pair.facts, Cert.MixPair.facts, Cert.MixFwdPair.facts,
  frame_p, frame_pi, frame_pi_pre, frame_ri, frame_ri_pre,
  Cert.MixPair.frame_p, Cert.MixPair.frame_pi, Cert.MixPair.frame_pi_pre, Cert.MixPair.frame_ri, Cert.MixPair.frame_ri_pre,
  Cert.FfnPair.frame_p, Cert.FfnPair.frame_pi, Cert.FfnPair.frame_ri,
  Cert.MixFwdPair.frame_p, Cert.MixFwdPair.frame_pi, Cert.MixFwdPair.frame_pi_pre, Cert.MixFwdPair.frame_ri, Cert.MixFwdPair.frame_ri_pre,
  Cert.WupPair.frame_p, Cert.WupPair.frame_pi, Cert.WupPair.frame_ri,
  Cert.AdaPair.frame_p, Cert.AdaPair.frame_pi, Cert.AdaPair.frame_ri,
  trivial, algebraic, Cert.MixPair.preserves, Cert.MixPair.algebraic, trivial, Cert.FfnPair.algebraic, trivial,
  Cert.MixFwdPair.algebraic, trivial, Cert.WupPair.algebraic, trivial, Cert.AdaPair.algebraic⟩

end Cert.Proof

end
